-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_v34) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v9) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_v16) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v38) = v0 c
          ∧ r.2.mem ((c.tc : Thread Cert.Reference15Ideal.nD Cert.Reference15Ideal.τ).loc Cert.Reference15Ideal.main_v21) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v38) = v0 c
          ∧ r.2.mem ((c.tc : Thread Cert.Reference17Ideal.nD Cert.Reference17Ideal.τ).loc Cert.Reference17Ideal.main_v21) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v2) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_v16) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_v2) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_v14) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v6) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v39) = v0 c
          ∧ r.2.mem ((c.tc : Thread Cert.Reference24Ideal.nD Cert.Reference24Ideal.τ).loc Cert.Reference24Ideal.main_v22) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v12) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v19) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v48) = v0 c
          ∧ r.2.mem ((c.tc : Thread Cert.Reference29Ideal.nD Cert.Reference29Ideal.τ).loc Cert.Reference29Ideal.main_v49) = v1 c
          ∧ r.2.mem ((c.tc : Thread Cert.Reference29Ideal.nD Cert.Reference29Ideal.τ).loc Cert.Reference29Ideal.main_v33) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite.lean ====
abbrev S8x4096x128 : Shape := ⟨3, ![8, 4096, 128]⟩
abbrev S8x4096x64 : Shape := ⟨3, ![8, 4096, 64]⟩
abbrev S8x64x128 : Shape := ⟨3, ![8, 64, 128]⟩
abbrev S_ : Shape := ⟨0, ![]⟩

class Facts : Prop where
  bcast_S_S8x4096x128 : S_.BroadcastsInDim S8x4096x128 (![] : Fin 0 → Fin S8x4096x128.rank)
  bitsLt_bf16_f32 : FTy.bits .bf16 < FTy.bits .f32
  bcast_S_S8x4096x64 : S_.BroadcastsInDim S8x4096x64 (![] : Fin 0 → Fin S8x4096x64.rank)
  bcast_S_S8x64x128 : S_.BroadcastsInDim S8x64x128 (![] : Fin 0 → Fin S8x64x128.rank)

variable [Facts]

def fn_part1 {F : FTy → Type} [FloatOps F] (main_arg5 : FVec F S8x64x128 .f32) (main_arg6 : FVec F S8x4096x128 .f32) (main_v2 : IVec S8x4096x128 1) (main_v6 : IVec S8x4096x128 1) (main_v10 : IVec S8x4096x64 1) (main_v14 : IVec S8x4096x128 1) (main_v18 : IVec S8x4096x128 1) : IVec S8x4096x128 1 × IVec S8x4096x128 1 × IVec S8x4096x64 1 × IVec S8x4096x128 1 × IVec S8x4096x128 1 × IVec S8x64x128 1 × IVec S8x4096x128 1 :=
  let main_v19 : FVec F S8x64x128 .f32 := Host.absf main_arg5
  let main_cst_4 : FVec F S_ .f32 := constant S_ .f32 0x7F800000#32
  let main_v20 : FVec F S8x64x128 .f32 := broadcastInDim S8x64x128 ![] bcast_S_S8x64x128 main_cst_4
  let main_v21 : IVec S8x64x128 1 := cmpf .olt main_v19 main_v20
  let main_v22 : FVec F S8x4096x128 .f32 := Host.absf main_arg6
  let main_cst_5 : FVec F S_ .f32 := constant S_ .f32 0x7F800000#32
  let main_v23 : FVec F S8x4096x128 .f32 := broadcastInDim S8x4096x128 ![] bcast_S_S8x4096x128 main_cst_5
  let main_v24 : IVec S8x4096x128 1 := cmpf .olt main_v22 main_v23
  (main_v2, main_v6, main_v10, main_v14, main_v18, main_v21, main_v24)

def fn {F : FTy → Type} [FloatOps F] (main_arg0 : FVec F S8x4096x128 .f32) (main_arg1 : FVec F S8x4096x128 .bf16) (main_arg2 : FVec F S8x4096x64 .bf16) (main_arg3 : FVec F S8x4096x128 .bf16) (main_arg4 : FVec F S8x4096x128 .bf16) (main_arg5 : FVec F S8x64x128 .f32) (main_arg6 : FVec F S8x4096x128 .f32) : IVec S8x4096x128 1 × IVec S8x4096x128 1 × IVec S8x4096x64 1 × IVec S8x4096x128 1 × IVec S8x4096x128 1 × IVec S8x64x128 1 × IVec S8x4096x128 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_v3 : FVec F S8x4096x128 .f32 := (extf .f32 · bitsLt_bf16_f32) main_arg1
  let main_v4 : FVec F S8x4096x128 .f32 := Host.absf main_v3
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_v7 : FVec F S8x4096x64 .f32 := (extf .f32 · bitsLt_bf16_f32) main_arg2
  let main_v8 : FVec F S8x4096x64 .f32 := Host.absf main_v7
  let main_cst_1 : FVec F S_ .f32 := constant S_ .f32 0x7F800000#32
  let main_v9 : FVec F S8x4096x64 .f32 := broadcastInDim S8x4096x64 ![] bcast_S_S8x4096x64 main_cst_1
  let main_v10 : IVec S8x4096x64 1 := cmpf .olt main_v8 main_v9
  let main_v11 : FVec F S8x4096x128 .f32 := (extf .f32 · bitsLt_bf16_f32) main_arg3
  let main_v12 : FVec F S8x4096x128 .f32 := Host.absf main_v11
  let main_cst_2 : FVec F S_ .f32 := constant S_ .f32 0x7F800000#32
  let main_v13 : FVec F S8x4096x128 .f32 := broadcastInDim S8x4096x128 ![] bcast_S_S8x4096x128 main_cst_2
  let main_v14 : IVec S8x4096x128 1 := cmpf .olt main_v12 main_v13
  let main_v15 : FVec F S8x4096x128 .f32 := (extf .f32 · bitsLt_bf16_f32) main_arg4
  let main_v16 : FVec F S8x4096x128 .f32 := Host.absf main_v15
  let main_cst_3 : FVec F S_ .f32 := constant S_ .f32 0x7F800000#32
  let main_v17 : FVec F S8x4096x128 .f32 := broadcastInDim S8x4096x128 ![] bcast_S_S8x4096x128 main_cst_3
  let main_v18 : IVec S8x4096x128 1 := cmpf .olt main_v16 main_v17
  fn_part1 (F := F) main_arg5 main_arg6 main_v2 main_v6 main_v10 main_v14 main_v18
-- ==== Kernel.lean ====
abbrev S8x4096x128 : Shape := ⟨3, ![8, 4096, 128]⟩
abbrev S8x4096x64 : Shape := ⟨3, ![8, 4096, 64]⟩
abbrev S8x64x128 : Shape := ⟨3, ![8, 64, 128]⟩
abbrev S8x64x128x128 : Shape := ⟨4, ![8, 64, 128, 128]⟩
abbrev S8x512x128 : Shape := ⟨3, ![8, 512, 128]⟩
abbrev S8x512x64 : Shape := ⟨3, ![8, 512, 64]⟩
abbrev S8x8x128 : Shape := ⟨3, ![8, 8, 128]⟩
abbrev S8x8x128x128 : Shape := ⟨4, ![8, 8, 128, 128]⟩
abbrev S8x128x128 : Shape := ⟨3, ![8, 128, 128]⟩
abbrev S8x1x128x128 : Shape := ⟨4, ![8, 1, 128, 128]⟩
abbrev S8x64x64 : Shape := ⟨3, ![8, 64, 64]⟩
abbrev S8x1x128 : Shape := ⟨3, ![8, 1, 128]⟩
abbrev S8x128 : Shape := ⟨2, ![8, 128]⟩

abbrev nBuf : Space → Nat
  | .hbm => 16
  | .vmem => 48
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .bf16⟩
  | .hbm, ⟨2, _⟩ => ⟨S8x4096x64, .bf16⟩
  | .hbm, ⟨3, _⟩ => ⟨S8x4096x128, .bf16⟩
  | .hbm, ⟨4, _⟩ => ⟨S8x4096x128, .bf16⟩
  | .hbm, ⟨5, _⟩ => ⟨S8x64x128, .f32⟩
  | .hbm, ⟨6, _⟩ => ⟨S8x4096x128, .f32⟩
  | .hbm, ⟨7, _⟩ => ⟨S8x4096x128, .f32⟩
  | .hbm, ⟨8, _⟩ => ⟨S8x64x128x128, .f32⟩
  | .hbm, ⟨9, _⟩ => ⟨S8x4096x128, .bf16⟩
  | .hbm, ⟨10, _⟩ => ⟨S8x4096x128, .f32⟩
  | .hbm, ⟨11, _⟩ => ⟨S8x4096x128, .f32⟩
  | .hbm, ⟨12, _⟩ => ⟨S8x4096x64, .f32⟩
  | .hbm, ⟨13, _⟩ => ⟨S8x4096x128, .f32⟩
  | .hbm, ⟨14, _⟩ => ⟨S8x4096x128, .f32⟩
  | .hbm, ⟨15, _⟩ => ⟨S8x64x128, .f32⟩
  | .local _ .vmem, ⟨0, _⟩ => ⟨S8x512x128, .f32⟩
  | .local _ .vmem, ⟨1, _⟩ => ⟨S8x512x128, .f32⟩
  | .local _ .vmem, ⟨2, _⟩ => ⟨S8x512x128, .bf16⟩
  | .local _ .vmem, ⟨3, _⟩ => ⟨S8x512x128, .bf16⟩
  | .local _ .vmem, ⟨4, _⟩ => ⟨S8x512x64, .bf16⟩
  | .local _ .vmem, ⟨5, _⟩ => ⟨S8x512x64, .bf16⟩
  | .local _ .vmem, ⟨6, _⟩ => ⟨S8x512x128, .bf16⟩
  | .local _ .vmem, ⟨7, _⟩ => ⟨S8x512x128, .bf16⟩
  | .local _ .vmem, ⟨8, _⟩ => ⟨S8x512x128, .bf16⟩
  | .local _ .vmem, ⟨9, _⟩ => ⟨S8x512x128, .bf16⟩
  | .local _ .vmem, ⟨10, _⟩ => ⟨S8x8x128, .f32⟩
  | .local _ .vmem, ⟨11, _⟩ => ⟨S8x8x128, .f32⟩
  | .local _ .vmem, ⟨12, _⟩ => ⟨S8x512x128, .f32⟩
  | .local _ .vmem, ⟨13, _⟩ => ⟨S8x512x128, .f32⟩
  | .local _ .vmem, ⟨14, _⟩ => ⟨S8x8x128x128, .f32⟩
  | .local _ .vmem, ⟨15, _⟩ => ⟨S8x8x128x128, .f32⟩
  | .local _ .vmem, ⟨16, _⟩ => ⟨S8x512x128, .bf16⟩
  | .local _ .vmem, ⟨17, _⟩ => ⟨S8x512x128, .bf16⟩
  | .local _ .vmem, ⟨18, _⟩ => ⟨S8x128x128, .f32⟩
  | .local _ .vmem, ⟨19, _⟩ => ⟨S8x512x128, .f32⟩
  | .local _ .vmem, ⟨20, _⟩ => ⟨S8x512x128, .f32⟩
  | .local _ .vmem, ⟨21, _⟩ => ⟨S8x8x128x128, .f32⟩
  | .local _ .vmem, ⟨22, _⟩ => ⟨S8x8x128x128, .f32⟩
  | .local _ .vmem, ⟨23, _⟩ => ⟨S8x512x128, .bf16⟩
  | .local _ .vmem, ⟨24, _⟩ => ⟨S8x512x128, .bf16⟩
  | .local _ .vmem, ⟨25, _⟩ => ⟨S8x512x128, .bf16⟩
  | .local _ .vmem, ⟨26, _⟩ => ⟨S8x512x128, .bf16⟩
  | .local _ .vmem, ⟨27, _⟩ => ⟨S8x512x64, .bf16⟩
  | .local _ .vmem, ⟨28, _⟩ => ⟨S8x512x64, .bf16⟩
  | .local _ .vmem, ⟨29, _⟩ => ⟨S8x512x128, .bf16⟩
  | .local _ .vmem, ⟨30, _⟩ => ⟨S8x512x128, .bf16⟩
  | .local _ .vmem, ⟨31, _⟩ => ⟨S8x512x128, .bf16⟩
  | .local _ .vmem, ⟨32, _⟩ => ⟨S8x512x128, .bf16⟩
  | .local _ .vmem, ⟨33, _⟩ => ⟨S8x8x128, .f32⟩
  | .local _ .vmem, ⟨34, _⟩ => ⟨S8x8x128, .f32⟩
  | .local _ .vmem, ⟨35, _⟩ => ⟨S8x512x128, .f32⟩
  | .local _ .vmem, ⟨36, _⟩ => ⟨S8x512x128, .f32⟩
  | .local _ .vmem, ⟨37, _⟩ => ⟨S8x512x128, .f32⟩
  | .local _ .vmem, ⟨38, _⟩ => ⟨S8x512x128, .f32⟩
  | .local _ .vmem, ⟨39, _⟩ => ⟨S8x512x64, .f32⟩
  | .local _ .vmem, ⟨40, _⟩ => ⟨S8x512x64, .f32⟩
  | .local _ .vmem, ⟨41, _⟩ => ⟨S8x512x128, .f32⟩
  | .local _ .vmem, ⟨42, _⟩ => ⟨S8x512x128, .f32⟩
  | .local _ .vmem, ⟨43, _⟩ => ⟨S8x512x128, .f32⟩
  | .local _ .vmem, ⟨44, _⟩ => ⟨S8x512x128, .f32⟩
  | .local _ .vmem, ⟨45, _⟩ => ⟨S8x8x128, .f32⟩
  | .local _ .vmem, ⟨46, _⟩ => ⟨S8x8x128, .f32⟩
  | .local _ .vmem, ⟨47, _⟩ => ⟨S8x128x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45

abbrev nD : Nat := 1
abbrev τ : Topo := Topo.v7x

variable {F : FTy → Type} [FloatOps F]

abbrev grid0 : Pipeline.Grid := ⟨2, ![1, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![1, 8], ![false, false]⟩

def cc1_transform_0 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_1 (i : grid1.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_4 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_5 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_6 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_7 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_8 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_9 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_10 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_11 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_12 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

def cc1_transform_13 (i : grid1.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![arg0.toNat, v0.toNat, c0_i32.toNat]

abbrev stage1_0 : Fin 2 → Memref sig .tc .vmem S8x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x8x128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x512x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S8x512x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x512x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x512x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8x8x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S8x512x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S8x512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S8x512x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S8x512x128 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S8x512x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S8x8x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== ReferenceIdeal.lean ====
abbrev S8x4096x128 : Shape := ⟨3, ![8, 4096, 128]⟩
abbrev S8x4096x64 : Shape := ⟨3, ![8, 4096, 64]⟩
abbrev S8x64x128 : Shape := ⟨3, ![8, 64, 128]⟩
abbrev S8x64x64x64 : Shape := ⟨4, ![8, 64, 64, 64]⟩
abbrev S64x8x64x64 : Shape := ⟨4, ![64, 8, 64, 64]⟩
abbrev S8x64x64x128 : Shape := ⟨4, ![8, 64, 64, 128]⟩
abbrev S64x8x64x128 : Shape := ⟨4, ![64, 8, 64, 128]⟩
abbrev S64x8x128 : Shape := ⟨3, ![64, 8, 128]⟩
abbrev S_ : Shape := ⟨0, ![]⟩
abbrev S8x128x128 : Shape := ⟨3, ![8, 128, 128]⟩
abbrev S64x8x128x128 : Shape := ⟨4, ![64, 8, 128, 128]⟩
abbrev S64x8x1x128 : Shape := ⟨4, ![64, 8, 1, 128]⟩
abbrev S1x8x64x64 : Shape := ⟨4, ![1, 8, 64, 64]⟩
abbrev S8x64x64 : Shape := ⟨3, ![8, 64, 64]⟩
abbrev S1x8x64x128 : Shape := ⟨4, ![1, 8, 64, 128]⟩
abbrev S1x8x128 : Shape := ⟨3, ![1, 8, 128]⟩
abbrev S8x128 : Shape := ⟨2, ![8, 128]⟩
abbrev S8x1x128 : Shape := ⟨3, ![8, 1, 128]⟩
abbrev S1x8x128x128 : Shape := ⟨4, ![1, 8, 128, 128]⟩
abbrev S1x8x1x128 : Shape := ⟨4, ![1, 8, 1, 128]⟩
abbrev S8x128x64 : Shape := ⟨3, ![8, 128, 64]⟩

abbrev nBuf : Space → Nat
  | .hbm => 258
  | .vmem => 0
  | .smem => 0
  | _ => 0

abbrev hbmTy0_0 (i : Nat) : BufTy := match i % 128 with
  | 0 => ⟨S8x4096x128, .f32⟩
  | 1 => ⟨S8x4096x128, .bf16⟩
  | 2 => ⟨S8x4096x64, .bf16⟩
  | 3 => ⟨S8x4096x128, .bf16⟩
  | 4 => ⟨S8x4096x128, .bf16⟩
  | 5 => ⟨S8x64x128, .f32⟩
  | 6 => ⟨S8x4096x128, .f32⟩
  | 7 => ⟨S8x4096x128, .f32⟩
  | 8 => ⟨S8x4096x64, .f32⟩
  | 9 => ⟨S8x4096x128, .f32⟩
  | 10 => ⟨S8x4096x128, .f32⟩
  | 11 => ⟨S8x64x64x64, .f32⟩
  | 12 => ⟨S64x8x64x64, .f32⟩
  | 13 => ⟨S8x64x64x128, .f32⟩
  | 14 => ⟨S64x8x64x128, .f32⟩
  | 15 => ⟨S8x64x64x128, .f32⟩
  | 16 => ⟨S64x8x64x128, .f32⟩
  | 17 => ⟨S8x64x64x128, .f32⟩
  | 18 => ⟨S64x8x64x128, .f32⟩
  | 19 => ⟨S8x64x64x128, .f32⟩
  | 20 => ⟨S64x8x64x128, .f32⟩
  | 21 => ⟨S64x8x128, .f32⟩
  | 22 => ⟨S_, .f32⟩
  | 23 => ⟨S8x128x128, .f32⟩
  | 24 => ⟨S_, .f32⟩
  | 25 => ⟨S64x8x64x128, .f32⟩
  | 26 => ⟨S_, .f32⟩
  | 27 => ⟨S64x8x128x128, .f32⟩
  | 28 => ⟨S_, .f32⟩
  | 29 => ⟨S64x8x64x128, .f32⟩
  | 30 => ⟨S_, .f32⟩
  | 31 => ⟨S64x8x1x128, .f32⟩
  | 32 => ⟨S_, .i32⟩
  | 33 => ⟨S64x8x64x64, .f32⟩
  | 34 => ⟨S64x8x64x128, .f32⟩
  | 35 => ⟨S64x8x64x128, .f32⟩
  | 36 => ⟨S64x8x64x128, .f32⟩
  | 37 => ⟨S64x8x64x128, .f32⟩
  | 38 => ⟨S64x8x128, .f32⟩
  | 39 => ⟨S_, .i32⟩
  | 40 => ⟨S8x128x128, .f32⟩
  | 41 => ⟨S64x8x64x128, .f32⟩
  | 42 => ⟨S64x8x128x128, .f32⟩
  | 43 => ⟨S64x8x64x128, .f32⟩
  | 44 => ⟨S64x8x1x128, .f32⟩
  | 45 => ⟨S_, .i32⟩
  | 46 => ⟨S_, .i1⟩
  | 47 => ⟨S_, .i32⟩
  | 48 => ⟨S_, .i32⟩
  | 49 => ⟨S_, .i32⟩
  | 50 => ⟨S1x8x64x64, .f32⟩
  | 51 => ⟨S8x64x64, .f32⟩
  | 52 => ⟨S_, .i32⟩
  | 53 => ⟨S_, .i32⟩
  | 54 => ⟨S_, .i32⟩
  | 55 => ⟨S1x8x64x128, .f32⟩
  | 56 => ⟨S8x64x128, .f32⟩
  | 57 => ⟨S_, .i32⟩
  | 58 => ⟨S_, .i32⟩
  | 59 => ⟨S_, .i32⟩
  | 60 => ⟨S1x8x64x128, .f32⟩
  | 61 => ⟨S8x64x128, .f32⟩
  | 62 => ⟨S_, .i32⟩
  | 63 => ⟨S_, .i32⟩
  | 64 => ⟨S_, .i32⟩
  | 65 => ⟨S1x8x64x128, .f32⟩
  | 66 => ⟨S8x64x128, .f32⟩
  | 67 => ⟨S_, .i32⟩
  | 68 => ⟨S_, .i32⟩
  | 69 => ⟨S_, .i32⟩
  | 70 => ⟨S1x8x64x128, .f32⟩
  | 71 => ⟨S8x64x128, .f32⟩
  | 72 => ⟨S_, .i32⟩
  | 73 => ⟨S_, .i32⟩
  | 74 => ⟨S1x8x128, .f32⟩
  | 75 => ⟨S8x128, .f32⟩
  | 76 => ⟨S8x64x128, .f32⟩
  | 77 => ⟨S8x64x128, .f32⟩
  | 78 => ⟨S8x64x128, .f32⟩
  | 79 => ⟨S8x64x128, .f32⟩
  | 80 => ⟨S8x64x128, .f32⟩
  | 81 => ⟨S8x1x128, .f32⟩
  | 82 => ⟨S8x128x128, .f32⟩
  | 83 => ⟨S8x128x128, .f32⟩
  | 84 => ⟨S8x128x128, .f32⟩
  | 85 => ⟨S8x128x128, .f32⟩
  | 86 => ⟨S1x8x64x128, .f32⟩
  | 87 => ⟨S_, .i32⟩
  | 88 => ⟨S_, .i32⟩
  | 89 => ⟨S_, .i32⟩
  | 90 => ⟨S64x8x64x128, .f32⟩
  | 91 => ⟨S1x8x128x128, .f32⟩
  | 92 => ⟨S_, .i32⟩
  | 93 => ⟨S_, .i32⟩
  | 94 => ⟨S_, .i32⟩
  | 95 => ⟨S64x8x128x128, .f32⟩
  | 96 => ⟨S1x8x64x128, .f32⟩
  | 97 => ⟨S_, .i32⟩
  | 98 => ⟨S_, .i32⟩
  | 99 => ⟨S_, .i32⟩
  | 100 => ⟨S64x8x64x128, .f32⟩
  | 101 => ⟨S1x8x1x128, .f32⟩
  | 102 => ⟨S_, .i32⟩
  | 103 => ⟨S_, .i32⟩
  | 104 => ⟨S_, .i32⟩
  | 105 => ⟨S64x8x1x128, .f32⟩
  | 106 => ⟨S_, .i32⟩
  | 107 => ⟨S_, .i32⟩
  | 108 => ⟨S8x64x64x128, .f32⟩
  | 109 => ⟨S8x4096x128, .f32⟩
  | 110 => ⟨S_, .f32⟩
  | 111 => ⟨S8x128x128, .f32⟩
  | 112 => ⟨S8x64x64x128, .f32⟩
  | 113 => ⟨S64x8x64x128, .f32⟩
  | 114 => ⟨S_, .f32⟩
  | 115 => ⟨S8x128x128, .f32⟩
  | 116 => ⟨S_, .f32⟩
  | 117 => ⟨S64x8x64x64, .f32⟩
  | 118 => ⟨S_, .f32⟩
  | 119 => ⟨S64x8x64x128, .f32⟩
  | 120 => ⟨S_, .f32⟩
  | 121 => ⟨S64x8x64x128, .f32⟩
  | 122 => ⟨S_, .f32⟩
  | 123 => ⟨S64x8x64x128, .f32⟩
  | 124 => ⟨S_, .f32⟩
  | 125 => ⟨S64x8x64x128, .f32⟩
  | 126 => ⟨S_, .f32⟩
  | 127 => ⟨S64x8x128, .f32⟩
  | _ => ⟨S8x4096x128, .f32⟩

abbrev hbmTy0_1 (i : Nat) : BufTy := match i % 128 with
  | 0 => ⟨S_, .i32⟩
  | 1 => ⟨S64x8x64x128, .f32⟩
  | 2 => ⟨S64x8x128x128, .f32⟩
  | 3 => ⟨S64x8x64x128, .f32⟩
  | 4 => ⟨S64x8x64x128, .f32⟩
  | 5 => ⟨S64x8x64x128, .f32⟩
  | 6 => ⟨S64x8x64x64, .f32⟩
  | 7 => ⟨S64x8x1x128, .f32⟩
  | 8 => ⟨S64x8x64x128, .f32⟩
  | 9 => ⟨S_, .i32⟩
  | 10 => ⟨S8x128x128, .f32⟩
  | 11 => ⟨S64x8x64x64, .f32⟩
  | 12 => ⟨S64x8x64x128, .f32⟩
  | 13 => ⟨S64x8x64x128, .f32⟩
  | 14 => ⟨S64x8x64x128, .f32⟩
  | 15 => ⟨S64x8x64x128, .f32⟩
  | 16 => ⟨S64x8x128, .f32⟩
  | 17 => ⟨S_, .i32⟩
  | 18 => ⟨S_, .i1⟩
  | 19 => ⟨S_, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S1x8x64x128, .f32⟩
  | 27 => ⟨S8x64x128, .f32⟩
  | 28 => ⟨S_, .i32⟩
  | 29 => ⟨S_, .i32⟩
  | 30 => ⟨S_, .i32⟩
  | 31 => ⟨S1x8x128x128, .f32⟩
  | 32 => ⟨S8x128x128, .f32⟩
  | 33 => ⟨S_, .i32⟩
  | 34 => ⟨S_, .i32⟩
  | 35 => ⟨S_, .i32⟩
  | 36 => ⟨S1x8x64x128, .f32⟩
  | 37 => ⟨S8x64x128, .f32⟩
  | 38 => ⟨S_, .i32⟩
  | 39 => ⟨S_, .i32⟩
  | 40 => ⟨S_, .i32⟩
  | 41 => ⟨S1x8x64x128, .f32⟩
  | 42 => ⟨S8x64x128, .f32⟩
  | 43 => ⟨S_, .i32⟩
  | 44 => ⟨S_, .i32⟩
  | 45 => ⟨S_, .i32⟩
  | 46 => ⟨S1x8x64x128, .f32⟩
  | 47 => ⟨S8x64x128, .f32⟩
  | 48 => ⟨S_, .i32⟩
  | 49 => ⟨S_, .i32⟩
  | 50 => ⟨S_, .i32⟩
  | 51 => ⟨S1x8x64x64, .f32⟩
  | 52 => ⟨S8x64x64, .f32⟩
  | 53 => ⟨S_, .i32⟩
  | 54 => ⟨S_, .i32⟩
  | 55 => ⟨S_, .i32⟩
  | 56 => ⟨S1x8x1x128, .f32⟩
  | 57 => ⟨S8x1x128, .f32⟩
  | 58 => ⟨S_, .i32⟩
  | 59 => ⟨S_, .i32⟩
  | 60 => ⟨S_, .i32⟩
  | 61 => ⟨S1x8x64x128, .f32⟩
  | 62 => ⟨S8x64x128, .f32⟩
  | 63 => ⟨S8x128x64, .f32⟩
  | 64 => ⟨S8x64x128, .f32⟩
  | 65 => ⟨S8x128x64, .f32⟩
  | 66 => ⟨S8x64x128, .f32⟩
  | 67 => ⟨S8x128x128, .f32⟩
  | 68 => ⟨S_, .f32⟩
  | 69 => ⟨S8x128, .f32⟩
  | 70 => ⟨S8x1x128, .f32⟩
  | 71 => ⟨S8x128x128, .f32⟩
  | 72 => ⟨S8x128x128, .f32⟩
  | 73 => ⟨S_, .f32⟩
  | 74 => ⟨S8x128, .f32⟩
  | 75 => ⟨S8x128x64, .f32⟩
  | 76 => ⟨S8x64x128, .f32⟩
  | 77 => ⟨S8x64x128, .f32⟩
  | 78 => ⟨S8x64x64, .f32⟩
  | 79 => ⟨S8x128x128, .f32⟩
  | 80 => ⟨S8x128x128, .f32⟩
  | 81 => ⟨S8x128x128, .f32⟩
  | 82 => ⟨S8x64x128, .f32⟩
  | 83 => ⟨S8x64x128, .f32⟩
  | 84 => ⟨S8x128x128, .f32⟩
  | 85 => ⟨S8x128x128, .f32⟩
  | 86 => ⟨S8x128x128, .f32⟩
  | 87 => ⟨S8x64x128, .f32⟩
  | 88 => ⟨S1x8x64x64, .f32⟩
  | 89 => ⟨S_, .i32⟩
  | 90 => ⟨S_, .i32⟩
  | 91 => ⟨S_, .i32⟩
  | 92 => ⟨S64x8x64x64, .f32⟩
  | 93 => ⟨S1x8x64x128, .f32⟩
  | 94 => ⟨S_, .i32⟩
  | 95 => ⟨S_, .i32⟩
  | 96 => ⟨S_, .i32⟩
  | 97 => ⟨S64x8x64x128, .f32⟩
  | 98 => ⟨S1x8x64x128, .f32⟩
  | 99 => ⟨S_, .i32⟩
  | 100 => ⟨S_, .i32⟩
  | 101 => ⟨S_, .i32⟩
  | 102 => ⟨S64x8x64x128, .f32⟩
  | 103 => ⟨S1x8x64x128, .f32⟩
  | 104 => ⟨S_, .i32⟩
  | 105 => ⟨S_, .i32⟩
  | 106 => ⟨S_, .i32⟩
  | 107 => ⟨S64x8x64x128, .f32⟩
  | 108 => ⟨S1x8x64x128, .f32⟩
  | 109 => ⟨S_, .i32⟩
  | 110 => ⟨S_, .i32⟩
  | 111 => ⟨S_, .i32⟩
  | 112 => ⟨S64x8x64x128, .f32⟩
  | 113 => ⟨S1x8x128, .f32⟩
  | 114 => ⟨S_, .i32⟩
  | 115 => ⟨S_, .i32⟩
  | 116 => ⟨S64x8x128, .f32⟩
  | 117 => ⟨S_, .i32⟩
  | 118 => ⟨S_, .i32⟩
  | 119 => ⟨S8x64x128, .f32⟩
  | 120 => ⟨S8x64x64x128, .f32⟩
  | 121 => ⟨S8x4096x128, .f32⟩
  | 122 => ⟨S8x64x64x128, .f32⟩
  | 123 => ⟨S8x4096x128, .f32⟩
  | 124 => ⟨S8x64x64x128, .f32⟩
  | 125 => ⟨S8x4096x128, .f32⟩
  | 126 => ⟨S8x64x64x128, .f32⟩
  | 127 => ⟨S8x4096x128, .f32⟩
  | _ => ⟨S8x4096x128, .f32⟩

abbrev hbmTy0_2 (i : Nat) : BufTy := match i % 128 with
  | 0 => ⟨S8x64x64x64, .f32⟩
  | 1 => ⟨S8x4096x64, .f32⟩
  | _ => ⟨S8x4096x128, .f32⟩

abbrev hbmTy (i : Nat) : BufTy := match i / 128 with
  | 0 => hbmTy0_0 i
  | 1 => hbmTy0_1 i
  | 2 => hbmTy0_2 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_c : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev main_v20_5 : Ref sig .tc := ⟨.hbm, 38, rfl⟩
abbrev main_v20_6 : Ref sig .tc := ⟨.hbm, 39, rfl⟩
abbrev main_v20_7 : Ref sig .tc := ⟨.hbm, 40, rfl⟩
abbrev main_v20_8 : Ref sig .tc := ⟨.hbm, 41, rfl⟩
abbrev main_v20_9 : Ref sig .tc := ⟨.hbm, 42, rfl⟩
abbrev main_v20_10 : Ref sig .tc := ⟨.hbm, 43, rfl⟩
abbrev main_v20_11 : Ref sig .tc := ⟨.hbm, 44, rfl⟩
abbrev main_while0c_c_24 : Ref sig .tc := ⟨.hbm, 45, rfl⟩
abbrev main_while0c_v45 : Ref sig .tc := ⟨.hbm, 46, rfl⟩
abbrev main_while0b_call0_c : Ref sig .tc := ⟨.hbm, 47, rfl⟩
abbrev main_while0b_call0_c_0 : Ref sig .tc := ⟨.hbm, 48, rfl⟩
abbrev main_while0b_call0_c_1 : Ref sig .tc := ⟨.hbm, 49, rfl⟩
abbrev main_while0b_call0_v0 : Ref sig .tc := ⟨.hbm, 50, rfl⟩
abbrev main_while0b_v45 : Ref sig .tc := ⟨.hbm, 51, rfl⟩
abbrev main_while0b_call1_c : Ref sig .tc := ⟨.hbm, 52, rfl⟩
abbrev main_while0b_call1_c_0 : Ref sig .tc := ⟨.hbm, 53, rfl⟩
abbrev main_while0b_call1_c_1 : Ref sig .tc := ⟨.hbm, 54, rfl⟩
abbrev main_while0b_call1_v0 : Ref sig .tc := ⟨.hbm, 55, rfl⟩
abbrev main_while0b_v46 : Ref sig .tc := ⟨.hbm, 56, rfl⟩
abbrev main_while0b_call2_c : Ref sig .tc := ⟨.hbm, 57, rfl⟩
abbrev main_while0b_call2_c_0 : Ref sig .tc := ⟨.hbm, 58, rfl⟩
abbrev main_while0b_call2_c_1 : Ref sig .tc := ⟨.hbm, 59, rfl⟩
abbrev main_while0b_call2_v0 : Ref sig .tc := ⟨.hbm, 60, rfl⟩
abbrev main_while0b_v47 : Ref sig .tc := ⟨.hbm, 61, rfl⟩
abbrev main_while0b_call3_c : Ref sig .tc := ⟨.hbm, 62, rfl⟩
abbrev main_while0b_call3_c_0 : Ref sig .tc := ⟨.hbm, 63, rfl⟩
abbrev main_while0b_call3_c_1 : Ref sig .tc := ⟨.hbm, 64, rfl⟩
abbrev main_while0b_call3_v0 : Ref sig .tc := ⟨.hbm, 65, rfl⟩
abbrev main_while0b_v48 : Ref sig .tc := ⟨.hbm, 66, rfl⟩
abbrev main_while0b_call4_c : Ref sig .tc := ⟨.hbm, 67, rfl⟩
abbrev main_while0b_call4_c_0 : Ref sig .tc := ⟨.hbm, 68, rfl⟩
abbrev main_while0b_call4_c_1 : Ref sig .tc := ⟨.hbm, 69, rfl⟩
abbrev main_while0b_call4_v0 : Ref sig .tc := ⟨.hbm, 70, rfl⟩
abbrev main_while0b_v49 : Ref sig .tc := ⟨.hbm, 71, rfl⟩
abbrev main_while0b_call5_c : Ref sig .tc := ⟨.hbm, 72, rfl⟩
abbrev main_while0b_call5_c_0 : Ref sig .tc := ⟨.hbm, 73, rfl⟩
abbrev main_while0b_call5_v0 : Ref sig .tc := ⟨.hbm, 74, rfl⟩
abbrev main_while0b_v50 : Ref sig .tc := ⟨.hbm, 75, rfl⟩
abbrev main_while0b_v51 : Ref sig .tc := ⟨.hbm, 76, rfl⟩
abbrev main_while0b_v52 : Ref sig .tc := ⟨.hbm, 77, rfl⟩
abbrev main_while0b_v53 : Ref sig .tc := ⟨.hbm, 78, rfl⟩
abbrev main_while0b_v54 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_v60 : Ref sig .tc := ⟨.hbm, 85, rfl⟩
abbrev main_while0b_call6_v0 : Ref sig .tc := ⟨.hbm, 86, rfl⟩
abbrev main_while0b_call6_c : Ref sig .tc := ⟨.hbm, 87, rfl⟩
abbrev main_while0b_call6_c_0 : Ref sig .tc := ⟨.hbm, 88, rfl⟩
abbrev main_while0b_call6_c_1 : Ref sig .tc := ⟨.hbm, 89, rfl⟩
abbrev main_while0b_v61 : Ref sig .tc := ⟨.hbm, 90, rfl⟩
abbrev main_while0b_call7_v0 : Ref sig .tc := ⟨.hbm, 91, rfl⟩
abbrev main_while0b_call7_c : Ref sig .tc := ⟨.hbm, 92, rfl⟩
abbrev main_while0b_call7_c_0 : Ref sig .tc := ⟨.hbm, 93, rfl⟩
abbrev main_while0b_call7_c_1 : Ref sig .tc := ⟨.hbm, 94, rfl⟩
abbrev main_while0b_v62 : Ref sig .tc := ⟨.hbm, 95, rfl⟩
abbrev main_while0b_call8_v0 : Ref sig .tc := ⟨.hbm, 96, rfl⟩
abbrev main_while0b_call8_c : Ref sig .tc := ⟨.hbm, 97, rfl⟩
abbrev main_while0b_call8_c_0 : Ref sig .tc := ⟨.hbm, 98, rfl⟩
abbrev main_while0b_call8_c_1 : Ref sig .tc := ⟨.hbm, 99, rfl⟩
abbrev main_while0b_v63 : Ref sig .tc := ⟨.hbm, 100, rfl⟩
abbrev main_while0b_call9_v0 : Ref sig .tc := ⟨.hbm, 101, rfl⟩
abbrev main_while0b_call9_c : Ref sig .tc := ⟨.hbm, 102, rfl⟩
abbrev main_while0b_call9_c_0 : Ref sig .tc := ⟨.hbm, 103, rfl⟩
abbrev main_while0b_call9_c_1 : Ref sig .tc := ⟨.hbm, 104, rfl⟩
abbrev main_while0b_v64 : Ref sig .tc := ⟨.hbm, 105, rfl⟩
abbrev main_while0b_c_24 : Ref sig .tc := ⟨.hbm, 106, rfl⟩
abbrev main_while0b_v65 : Ref sig .tc := ⟨.hbm, 107, rfl⟩
abbrev main_v21 : Ref sig .tc := ⟨.hbm, 108, rfl⟩
abbrev main_v22 : Ref sig .tc := ⟨.hbm, 109, rfl⟩
abbrev main_cst_4 : Ref sig .tc := ⟨.hbm, 110, rfl⟩
abbrev main_v23 : Ref sig .tc := ⟨.hbm, 111, rfl⟩
abbrev main_v24 : Ref sig .tc := ⟨.hbm, 112, rfl⟩
abbrev main_v25 : Ref sig .tc := ⟨.hbm, 113, rfl⟩
abbrev main_cst_5 : Ref sig .tc := ⟨.hbm, 114, rfl⟩
abbrev main_v26 : Ref sig .tc := ⟨.hbm, 115, rfl⟩
abbrev main_cst_6 : Ref sig .tc := ⟨.hbm, 116, rfl⟩
abbrev main_v27 : Ref sig .tc := ⟨.hbm, 117, rfl⟩
abbrev main_cst_7 : Ref sig .tc := ⟨.hbm, 118, rfl⟩
abbrev main_v28 : Ref sig .tc := ⟨.hbm, 119, rfl⟩
abbrev main_cst_8 : Ref sig .tc := ⟨.hbm, 120, rfl⟩
abbrev main_v29 : Ref sig .tc := ⟨.hbm, 121, rfl⟩
abbrev main_cst_9 : Ref sig .tc := ⟨.hbm, 122, rfl⟩
abbrev main_v30 : Ref sig .tc := ⟨.hbm, 123, rfl⟩
abbrev main_cst_10 : Ref sig .tc := ⟨.hbm, 124, rfl⟩
abbrev main_v31 : Ref sig .tc := ⟨.hbm, 125, rfl⟩
abbrev main_cst_11 : Ref sig .tc := ⟨.hbm, 126, rfl⟩
abbrev main_v32 : Ref sig .tc := ⟨.hbm, 127, rfl⟩
abbrev main_c_12 : Ref sig .tc := ⟨.hbm, 128, rfl⟩
abbrev main_v33_0 : Ref sig .tc := ⟨.hbm, 129, rfl⟩
abbrev main_v33_1 : Ref sig .tc := ⟨.hbm, 130, rfl⟩
abbrev main_v33_2 : Ref sig .tc := ⟨.hbm, 131, rfl⟩
abbrev main_v33_3 : Ref sig .tc := ⟨.hbm, 132, rfl⟩
abbrev main_v33_4 : Ref sig .tc := ⟨.hbm, 133, rfl⟩
abbrev main_v33_5 : Ref sig .tc := ⟨.hbm, 134, rfl⟩
abbrev main_v33_6 : Ref sig .tc := ⟨.hbm, 135, rfl⟩
abbrev main_v33_7 : Ref sig .tc := ⟨.hbm, 136, rfl⟩
abbrev main_v33_8 : Ref sig .tc := ⟨.hbm, 137, rfl⟩
abbrev main_v33_9 : Ref sig .tc := ⟨.hbm, 138, rfl⟩
abbrev main_v33_10 : Ref sig .tc := ⟨.hbm, 139, rfl⟩
abbrev main_v33_11 : Ref sig .tc := ⟨.hbm, 140, rfl⟩
abbrev main_v33_12 : Ref sig .tc := ⟨.hbm, 141, rfl⟩
abbrev main_v33_13 : Ref sig .tc := ⟨.hbm, 142, rfl⟩
abbrev main_v33_14 : Ref sig .tc := ⟨.hbm, 143, rfl⟩
abbrev main_v33_15 : Ref sig .tc := ⟨.hbm, 144, rfl⟩
abbrev main_while1c_c_28 : Ref sig .tc := ⟨.hbm, 145, rfl⟩
abbrev main_while1c_v45 : Ref sig .tc := ⟨.hbm, 146, rfl⟩
abbrev main_while1b_c_28 : Ref sig .tc := ⟨.hbm, 147, rfl⟩
abbrev main_while1b_v45 : Ref sig .tc := ⟨.hbm, 148, rfl⟩
abbrev main_while1b_c_29 : Ref sig .tc := ⟨.hbm, 149, rfl⟩
abbrev main_while1b_v46 : Ref sig .tc := ⟨.hbm, 150, rfl⟩
abbrev main_while1b_call10_c : Ref sig .tc := ⟨.hbm, 151, rfl⟩
abbrev main_while1b_call10_c_0 : Ref sig .tc := ⟨.hbm, 152, rfl⟩
abbrev main_while1b_call10_c_1 : Ref sig .tc := ⟨.hbm, 153, rfl⟩
abbrev main_while1b_call10_v0 : Ref sig .tc := ⟨.hbm, 154, rfl⟩
abbrev main_while1b_v47 : Ref sig .tc := ⟨.hbm, 155, rfl⟩
abbrev main_while1b_call11_c : Ref sig .tc := ⟨.hbm, 156, rfl⟩
abbrev main_while1b_call11_c_0 : Ref sig .tc := ⟨.hbm, 157, rfl⟩
abbrev main_while1b_call11_c_1 : Ref sig .tc := ⟨.hbm, 158, rfl⟩
abbrev main_while1b_call11_v0 : Ref sig .tc := ⟨.hbm, 159, rfl⟩
abbrev main_while1b_v48 : Ref sig .tc := ⟨.hbm, 160, rfl⟩
abbrev main_while1b_call12_c : Ref sig .tc := ⟨.hbm, 161, rfl⟩
abbrev main_while1b_call12_c_0 : Ref sig .tc := ⟨.hbm, 162, rfl⟩
abbrev main_while1b_call12_c_1 : Ref sig .tc := ⟨.hbm, 163, rfl⟩
abbrev main_while1b_call12_v0 : Ref sig .tc := ⟨.hbm, 164, rfl⟩
abbrev main_while1b_v49 : Ref sig .tc := ⟨.hbm, 165, rfl⟩
abbrev main_while1b_call13_c : Ref sig .tc := ⟨.hbm, 166, rfl⟩
abbrev main_while1b_call13_c_0 : Ref sig .tc := ⟨.hbm, 167, rfl⟩
abbrev main_while1b_call13_c_1 : Ref sig .tc := ⟨.hbm, 168, rfl⟩
abbrev main_while1b_call13_v0 : Ref sig .tc := ⟨.hbm, 169, rfl⟩
abbrev main_while1b_v50 : Ref sig .tc := ⟨.hbm, 170, rfl⟩
abbrev main_while1b_call14_c : Ref sig .tc := ⟨.hbm, 171, rfl⟩
abbrev main_while1b_call14_c_0 : Ref sig .tc := ⟨.hbm, 172, rfl⟩
abbrev main_while1b_call14_c_1 : Ref sig .tc := ⟨.hbm, 173, rfl⟩
abbrev main_while1b_call14_v0 : Ref sig .tc := ⟨.hbm, 174, rfl⟩
abbrev main_while1b_v51 : Ref sig .tc := ⟨.hbm, 175, rfl⟩
abbrev main_while1b_call15_c : Ref sig .tc := ⟨.hbm, 176, rfl⟩
abbrev main_while1b_call15_c_0 : Ref sig .tc := ⟨.hbm, 177, rfl⟩
abbrev main_while1b_call15_c_1 : Ref sig .tc := ⟨.hbm, 178, rfl⟩
abbrev main_while1b_call15_v0 : Ref sig .tc := ⟨.hbm, 179, rfl⟩
abbrev main_while1b_v52 : Ref sig .tc := ⟨.hbm, 180, rfl⟩
abbrev main_while1b_call16_c : Ref sig .tc := ⟨.hbm, 181, rfl⟩
abbrev main_while1b_call16_c_0 : Ref sig .tc := ⟨.hbm, 182, rfl⟩
abbrev main_while1b_call16_c_1 : Ref sig .tc := ⟨.hbm, 183, rfl⟩
abbrev main_while1b_call16_v0 : Ref sig .tc := ⟨.hbm, 184, rfl⟩
abbrev main_while1b_v53 : Ref sig .tc := ⟨.hbm, 185, rfl⟩
abbrev main_while1b_call17_c : Ref sig .tc := ⟨.hbm, 186, rfl⟩
abbrev main_while1b_call17_c_0 : Ref sig .tc := ⟨.hbm, 187, rfl⟩
abbrev main_while1b_call17_c_1 : Ref sig .tc := ⟨.hbm, 188, rfl⟩
abbrev main_while1b_call17_v0 : Ref sig .tc := ⟨.hbm, 189, rfl⟩
abbrev main_while1b_v54 : Ref sig .tc := ⟨.hbm, 190, rfl⟩
abbrev main_while1b_v55 : Ref sig .tc := ⟨.hbm, 191, rfl⟩
abbrev main_while1b_v56 : Ref sig .tc := ⟨.hbm, 192, rfl⟩
abbrev main_while1b_v57 : Ref sig .tc := ⟨.hbm, 193, rfl⟩
abbrev main_while1b_v58 : Ref sig .tc := ⟨.hbm, 194, rfl⟩
abbrev main_while1b_v59 : Ref sig .tc := ⟨.hbm, 195, rfl⟩
abbrev main_while1b_cst_30 : Ref sig .tc := ⟨.hbm, 196, rfl⟩
abbrev main_while1b_v60 : Ref sig .tc := ⟨.hbm, 197, rfl⟩
abbrev main_while1b_v61 : Ref sig .tc := ⟨.hbm, 198, rfl⟩
abbrev main_while1b_v62 : Ref sig .tc := ⟨.hbm, 199, rfl⟩
abbrev main_while1b_v63 : Ref sig .tc := ⟨.hbm, 200, rfl⟩
abbrev main_while1b_cst_31 : Ref sig .tc := ⟨.hbm, 201, rfl⟩
abbrev main_while1b_v64 : Ref sig .tc := ⟨.hbm, 202, rfl⟩
abbrev main_while1b_v65 : Ref sig .tc := ⟨.hbm, 203, rfl⟩
abbrev main_while1b_v66 : Ref sig .tc := ⟨.hbm, 204, rfl⟩
abbrev main_while1b_v67 : Ref sig .tc := ⟨.hbm, 205, rfl⟩
abbrev main_while1b_v68 : Ref sig .tc := ⟨.hbm, 206, rfl⟩
abbrev main_while1b_v69 : Ref sig .tc := ⟨.hbm, 207, rfl⟩
abbrev main_while1b_v70 : Ref sig .tc := ⟨.hbm, 208, rfl⟩
abbrev main_while1b_v71 : Ref sig .tc := ⟨.hbm, 209, rfl⟩
abbrev main_while1b_v72 : Ref sig .tc := ⟨.hbm, 210, rfl⟩
abbrev main_while1b_v73 : Ref sig .tc := ⟨.hbm, 211, rfl⟩
abbrev main_while1b_v74 : Ref sig .tc := ⟨.hbm, 212, rfl⟩
abbrev main_while1b_v75 : Ref sig .tc := ⟨.hbm, 213, rfl⟩
abbrev main_while1b_v76 : Ref sig .tc := ⟨.hbm, 214, rfl⟩
abbrev main_while1b_v77 : Ref sig .tc := ⟨.hbm, 215, rfl⟩
abbrev main_while1b_call18_v0 : Ref sig .tc := ⟨.hbm, 216, rfl⟩
abbrev main_while1b_call18_c : Ref sig .tc := ⟨.hbm, 217, rfl⟩
abbrev main_while1b_call18_c_0 : Ref sig .tc := ⟨.hbm, 218, rfl⟩
abbrev main_while1b_call18_c_1 : Ref sig .tc := ⟨.hbm, 219, rfl⟩
abbrev main_while1b_v78 : Ref sig .tc := ⟨.hbm, 220, rfl⟩
abbrev main_while1b_call19_v0 : Ref sig .tc := ⟨.hbm, 221, rfl⟩
abbrev main_while1b_call19_c : Ref sig .tc := ⟨.hbm, 222, rfl⟩
abbrev main_while1b_call19_c_0 : Ref sig .tc := ⟨.hbm, 223, rfl⟩
abbrev main_while1b_call19_c_1 : Ref sig .tc := ⟨.hbm, 224, rfl⟩
abbrev main_while1b_v79 : Ref sig .tc := ⟨.hbm, 225, rfl⟩
abbrev main_while1b_call20_v0 : Ref sig .tc := ⟨.hbm, 226, rfl⟩
abbrev main_while1b_call20_c : Ref sig .tc := ⟨.hbm, 227, rfl⟩
abbrev main_while1b_call20_c_0 : Ref sig .tc := ⟨.hbm, 228, rfl⟩
abbrev main_while1b_call20_c_1 : Ref sig .tc := ⟨.hbm, 229, rfl⟩
abbrev main_while1b_v80 : Ref sig .tc := ⟨.hbm, 230, rfl⟩
abbrev main_while1b_call21_v0 : Ref sig .tc := ⟨.hbm, 231, rfl⟩
abbrev main_while1b_call21_c : Ref sig .tc := ⟨.hbm, 232, rfl⟩
abbrev main_while1b_call21_c_0 : Ref sig .tc := ⟨.hbm, 233, rfl⟩
abbrev main_while1b_call21_c_1 : Ref sig .tc := ⟨.hbm, 234, rfl⟩
abbrev main_while1b_v81 : Ref sig .tc := ⟨.hbm, 235, rfl⟩
abbrev main_while1b_call22_v0 : Ref sig .tc := ⟨.hbm, 236, rfl⟩
abbrev main_while1b_call22_c : Ref sig .tc := ⟨.hbm, 237, rfl⟩
abbrev main_while1b_call22_c_0 : Ref sig .tc := ⟨.hbm, 238, rfl⟩
abbrev main_while1b_call22_c_1 : Ref sig .tc := ⟨.hbm, 239, rfl⟩
abbrev main_while1b_v82 : Ref sig .tc := ⟨.hbm, 240, rfl⟩
abbrev main_while1b_call23_v0 : Ref sig .tc := ⟨.hbm, 241, rfl⟩
abbrev main_while1b_call23_c : Ref sig .tc := ⟨.hbm, 242, rfl⟩
abbrev main_while1b_call23_c_0 : Ref sig .tc := ⟨.hbm, 243, rfl⟩
abbrev main_while1b_v83 : Ref sig .tc := ⟨.hbm, 244, rfl⟩
abbrev main_while1b_c_32 : Ref sig .tc := ⟨.hbm, 245, rfl⟩
abbrev main_while1b_v84 : Ref sig .tc := ⟨.hbm, 246, rfl⟩
abbrev main_v34 : Ref sig .tc := ⟨.hbm, 247, rfl⟩
abbrev main_v35 : Ref sig .tc := ⟨.hbm, 248, rfl⟩
abbrev main_v36 : Ref sig .tc := ⟨.hbm, 249, rfl⟩
abbrev main_v37 : Ref sig .tc := ⟨.hbm, 250, rfl⟩
abbrev main_v38 : Ref sig .tc := ⟨.hbm, 251, rfl⟩
abbrev main_v39 : Ref sig .tc := ⟨.hbm, 252, rfl⟩
abbrev main_v40 : Ref sig .tc := ⟨.hbm, 253, rfl⟩
abbrev main_v41 : Ref sig .tc := ⟨.hbm, 254, rfl⟩
abbrev main_v42 : Ref sig .tc := ⟨.hbm, 255, rfl⟩
abbrev main_v43 : Ref sig .tc := ⟨.hbm, 256, rfl⟩
abbrev main_v44 : Ref sig .tc := ⟨.hbm, 257, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S4096x2816 : Shape := ⟨2, ![4096, 2816]⟩
abbrev S1024x5632 : Shape := ⟨2, ![1024, 5632]⟩
abbrev S4096x1024 : Shape := ⟨2, ![4096, 1024]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S1024x5632 : Shape := ⟨2, ![1024, 5632]⟩
abbrev S_ : Shape := ⟨0, ![]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S_, .f32⟩
  | .hbm, ⟨3, _⟩ => ⟨S4096x1024, .f32⟩
  | .hbm, ⟨4, _⟩ => ⟨S1024x5632, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S4096x2816 : Shape := ⟨2, ![4096, 2816]⟩
abbrev S8x1024x704 : Shape := ⟨3, ![8, 1024, 704]⟩
abbrev S1024x1024 : Shape := ⟨2, ![1024, 1024]⟩
abbrev S1024x1408 : Shape := ⟨2, ![1024, 1408]⟩
abbrev S2x1024x704 : Shape := ⟨3, ![2, 1024, 704]⟩
abbrev S1024x704 : Shape := ⟨2, ![1024, 704]⟩
abbrev S1x1024x704 : Shape := ⟨3, ![1, 1024, 704]⟩
abbrev S4x1024x704 : Shape := ⟨3, ![4, 1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S8x1024x704, .f32⟩
  | .hbm, ⟨3, _⟩ => ⟨S4x1024x704, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2x1024x704, .f32⟩
  | .local _ .vmem, ⟨5, _⟩ => ⟨S2x1024x704, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S_, .f32⟩
  | .hbm, ⟨3, _⟩ => ⟨S1024x2816, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S2816x1024, .f32⟩
  | .hbm, ⟨8, _⟩ => ⟨S1024x2816, .f32⟩
  | .hbm, ⟨9, _⟩ => ⟨S1024x4x704, .f32⟩
  | .hbm, ⟨10, _⟩ => ⟨S4x1024x704, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x1024 : Shape := ⟨2, ![4096, 1024]⟩
abbrev S4096x2816 : Shape := ⟨2, ![4096, 2816]⟩
abbrev S8x1024x704 : Shape := ⟨3, ![8, 1024, 704]⟩
abbrev S1024x1024 : Shape := ⟨2, ![1024, 1024]⟩
abbrev S1024x1408 : Shape := ⟨2, ![1024, 1408]⟩
abbrev S2x1024x704 : Shape := ⟨3, ![2, 1024, 704]⟩
abbrev S1024x704 : Shape := ⟨2, ![1024, 704]⟩
abbrev S1x1024x704 : Shape := ⟨3, ![1, 1024, 704]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S8x1024x704, .f32⟩
  | .hbm, ⟨3, _⟩ => ⟨S8x1024x704, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2x1024x704, .f32⟩
  | .local _ .vmem, ⟨5, _⟩ => ⟨S2x1024x704, .f32⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![v0.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S4096x2816 : Shape := ⟨2, ![4096, 2816]⟩
abbrev S8x1024x704 : Shape := ⟨3, ![8, 1024, 704]⟩
abbrev S_ : Shape := ⟨0, ![]⟩
abbrev S1024x2816 : Shape := ⟨2, ![1024, 2816]⟩
abbrev S2816x1024 : Shape := ⟨2, ![2816, 1024]⟩
abbrev S1024x4x704 : Shape := ⟨3, ![1024, 4, 704]⟩
abbrev S4x1024x704 : Shape := ⟨3, ![4, 1024, 704]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S8x1024x704, .f32⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S1024x4x704, .f32⟩
  | .hbm, ⟨11, _⟩ => ⟨S4x1024x704, .f32⟩
  | .hbm, ⟨12, _⟩ => ⟨S4x1024x704, .f32⟩
  | .hbm, ⟨13, _⟩ => ⟨S8x1024x704, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel7.lean ====
abbrev S4096x1024 : Shape := ⟨2, ![4096, 1024]⟩
abbrev S1024x5632 : Shape := ⟨2, ![1024, 5632]⟩
abbrev S4096x5632 : Shape := ⟨2, ![4096, 5632]⟩
abbrev S1024x1024 : Shape := ⟨2, ![1024, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .f32⟩
  | .local _ .vmem, ⟨5, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024x1408 : Shape := ⟨2, ![1024, 1408]⟩
abbrev S1408x1024 : Shape := ⟨2, ![1408, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel9.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S512x1408 : Shape := ⟨2, ![512, 1408]⟩
abbrev S1024x1408 : Shape := ⟨2, ![1024, 1408]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_25 : BitVec 32 := 0#32
  let v45 : BitVec 1 := Scalar.cmpi .eq arg0 c0_i32_25
  let v46 : BitVec 32 := Scalar.extui v45
  let c0_i32_26 : BitVec 32 := 0#32
  let v47 : BitVec 1 := Scalar.cmpi .ne v46 c0_i32_26
  v47

def k0_cond5 (i : grid0.Coords) : BitVec 1 :=
  let arg0 : BitVec 32 := BitVec.ofNat 32 (i 0).val
  let c0_i32_25 : BitVec 32 := 0#32
  let v45 : BitVec 1 := Scalar.cmpi .eq arg0 c0_i32_25
  let v_true : BitVec 1 := 1#1
  let v48 : BitVec 1 := Scalar.xori v45 v_true
  let v49 : BitVec 32 := Scalar.extui v48
  let c0_i32_27 : BitVec 32 := 0#32
  let v50 : BitVec 1 := Scalar.cmpi .ne v49 c0_i32_27
  v50

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference9Ideal.lean ====
abbrev S4096x2816 : Shape := ⟨2, ![4096, 2816]⟩
abbrev S1024x5632 : Shape := ⟨2, ![1024, 5632]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1024x5632, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x5632, .f32⟩
  | .hbm, ⟨26, _⟩ => ⟨S1024x2816, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel10.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4096x1024 : Shape := ⟨2, ![4096, 1024]⟩
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_17 : BitVec 32 := 0#32
  let v35 : BitVec 1 := Scalar.cmpi .ne v34 c0_i32_17
  v35

def k0_cond2 (i : grid0.Coords) : BitVec 1 :=
  let arg0 : BitVec 32 := BitVec.ofNat 32 (i 0).val
  let c0_i32 : BitVec 32 := 0#32
  let v33 : BitVec 1 := Scalar.cmpi .eq arg0 c0_i32
  let v_true : BitVec 1 := 1#1
  let v36 : BitVec 1 := Scalar.xori v33 v_true
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference15Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel16.lean ====
abbrev S4096x1024 : Shape := ⟨2, ![4096, 1024]⟩
abbrev S4096x2048 : Shape := ⟨2, ![4096, 2048]⟩
abbrev S8x1024x256 : Shape := ⟨3, ![8, 1024, 256]⟩
abbrev S1024x1024 : Shape := ⟨2, ![1024, 1024]⟩
abbrev S4x1024x256 : Shape := ⟨3, ![4, 1024, 256]⟩
abbrev S1024x256 : Shape := ⟨2, ![1024, 256]⟩
abbrev S1x1024x256 : Shape := ⟨3, ![1, 1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S4x1024x256, .f32⟩
  | .local _ .vmem, ⟨5, _⟩ => ⟨S4x1024x256, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def k0_cond4 (i : grid0.Coords) : BitVec 1 :=
  let arg0 : BitVec 32 := BitVec.ofNat 32 (i 0).val
  let c0_i32_23 : BitVec 32 := 0#32
  let v43 : BitVec 1 := Scalar.cmpi .eq arg0 c0_i32_23
  let v44 : BitVec 32 := Scalar.extui v43
  let c0_i32_24 : BitVec 32 := 0#32
  let v45 : BitVec 1 := Scalar.cmpi .ne v44 c0_i32_24
  v45

def k0_cond5 (i : grid0.Coords) : BitVec 1 :=
  let arg0 : BitVec 32 := BitVec.ofNat 32 (i 0).val
  let c0_i32_23 : BitVec 32 := 0#32
  let v43 : BitVec 1 := Scalar.cmpi .eq arg0 c0_i32_23
  let v_true : BitVec 1 := 1#1
  let v46 : BitVec 1 := Scalar.xori v43 v_true
  let v47 : BitVec 32 := Scalar.extui v46
  let c0_i32_25 : BitVec 32 := 0#32
  let v48 : BitVec 1 := Scalar.cmpi .ne v47 c0_i32_25
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference17Ideal.lean ====
abbrev S4096x2048 : Shape := ⟨2, ![4096, 2048]⟩
abbrev S1024x2048 : Shape := ⟨2, ![1024, 2048]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x2048, .f32⟩
  | .hbm, ⟨25, _⟩ => ⟨S4096x2048, .f32⟩
  | .hbm, ⟨26, _⟩ => ⟨S4096x2048, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel18.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel19.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference20Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel21.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩
abbrev S1024x512 : Shape := ⟨2, ![1024, 512]⟩
abbrev S1024x256 : Shape := ⟨2, ![1024, 256]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x256, .f32⟩
  | .hbm, ⟨3, _⟩ => ⟨S256x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .f32⟩
  | .local _ .vmem, ⟨5, _⟩ => ⟨S1024x256, .f32⟩
  | .local _ .vmem, ⟨6, _⟩ => ⟨S256x512, .bf16⟩
  | .local _ .vmem, ⟨7, _⟩ => ⟨S256x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference21Ideal.lean ====
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x256, .f32⟩
  | .hbm, ⟨3, _⟩ => ⟨S256x1024, .bf16⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S256x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]
-- ==== Kernel22.lean ====
abbrev S4096x1024 : Shape := ⟨2, ![4096, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference22Ideal.lean ====
abbrev S4096x1024 : Shape := ⟨2, ![4096, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel23.lean ====
abbrev S4096x256 : Shape := ⟨2, ![4096, 256]⟩
abbrev S4096x1024 : Shape := ⟨2, ![4096, 1024]⟩
abbrev S8x256x128 : Shape := ⟨3, ![8, 256, 128]⟩
abbrev S1024x256 : Shape := ⟨2, ![1024, 256]⟩
abbrev S1024x1024 : Shape := ⟨2, ![1024, 1024]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S8x256x128, .f32⟩
  | .local _ .vmem, ⟨0, _⟩ => ⟨S1024x256, .f32⟩
  | .local _ .vmem, ⟨1, _⟩ => ⟨S1024x256, .f32⟩
  | .local _ .vmem, ⟨2, _⟩ => ⟨S1024x1024, .bf16⟩
  | .local _ .vmem, ⟨3, _⟩ => ⟨S1024x1024, .bf16⟩
  | .local _ .vmem, ⟨4, _⟩ => ⟨S8x256x128, .f32⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x8x128, .f32⟩
  | .hbm, ⟨9, _⟩ => ⟨S8x256x128, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel24.lean ====
abbrev S4096x128 : Shape := ⟨2, ![4096, 128]⟩
abbrev S1024x128 : Shape := ⟨2, ![1024, 128]⟩
abbrev S4096x1024 : Shape := ⟨2, ![4096, 1024]⟩
abbrev S1x1024 : Shape := ⟨2, ![1, 1024]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .local _ .vmem, ⟨0, _⟩ => ⟨S512x128, .bf16⟩
  | .local _ .vmem, ⟨1, _⟩ => ⟨S512x128, .bf16⟩
  | .local _ .vmem, ⟨2, _⟩ => ⟨S1024x128, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![8, 1, 1], ![false, false, false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_19 : BitVec 32 := 0#32
  let v37 : BitVec 1 := Scalar.cmpi .ne v36 c0_i32_19
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_20 : BitVec 32 := 0#32
  let v40 : BitVec 1 := Scalar.cmpi .ne v39 c0_i32_20
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== Reference24Ideal.lean ====
abbrev S4096x128 : Shape := ⟨2, ![4096, 128]⟩
abbrev S1024x128 : Shape := ⟨2, ![1024, 128]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S1024x128, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x128, .f32⟩
  | .hbm, ⟨26, _⟩ => ⟨S4096x128, .f32⟩
  | .hbm, ⟨27, _⟩ => ⟨S4096x128, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel25.lean ====
abbrev S4096x1024 : Shape := ⟨2, ![4096, 1024]⟩
abbrev S4096x128 : Shape := ⟨2, ![4096, 128]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S1024x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .f32⟩
  | .local _ .vmem, ⟨5, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S4096x1024 : Shape := ⟨2, ![4096, 1024]⟩
abbrev S4096x128 : Shape := ⟨2, ![4096, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x128, .bf16⟩
  | .hbm, ⟨2, _⟩ => ⟨S_, .f32⟩
  | .hbm, ⟨3, _⟩ => ⟨S1024x128, .f32⟩
  | .hbm, ⟨4, _⟩ => ⟨S4096x1024, .f32⟩
  | .hbm, ⟨5, _⟩ => ⟨S4096x128, .f32⟩
  | .hbm, ⟨6, _⟩ => ⟨S4096x128, .f32⟩
  | .hbm, ⟨7, _⟩ => ⟨S128x1024, .f32⟩
  | .hbm, ⟨8, _⟩ => ⟨S1024x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel26.lean ====
abbrev S4096x1024 : Shape := ⟨2, ![4096, 1024]⟩
abbrev S1024x128 : Shape := ⟨2, ![1024, 128]⟩
abbrev S4096x128 : Shape := ⟨2, ![4096, 128]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S4096x1024 : Shape := ⟨2, ![4096, 1024]⟩
abbrev S1024x128 : Shape := ⟨2, ![1024, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x128, .bf16⟩
  | .hbm, ⟨2, _⟩ => ⟨S4096x1024, .f32⟩
  | .hbm, ⟨3, _⟩ => ⟨S1024x128, .f32⟩
  | .hbm, ⟨4, _⟩ => ⟨S4096x128, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel27.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference27Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel28.lean ====
abbrev S8x4096x128 : Shape := ⟨3, ![8, 4096, 128]⟩
abbrev S4096x4096 : Shape := ⟨2, ![4096, 4096]⟩
abbrev S1x128 : Shape := ⟨2, ![1, 128]⟩
abbrev S4096x1024 : Shape := ⟨2, ![4096, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x4096x128, .f32⟩
  | .hbm, ⟨1, _⟩ => ⟨S4096x4096, .f32⟩
  | .hbm, ⟨2, _⟩ => ⟨S1x128, .f32⟩
  | .hbm, ⟨3, _⟩ => ⟨S4096x1024, .bf16⟩
  | .local _ .vmem, ⟨0, _⟩ => ⟨S1x512x128, .f32⟩
  | .local _ .vmem, ⟨1, _⟩ => ⟨S1x512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .bf16⟩
  | .local _ .vmem, ⟨6, _⟩ => ⟨S512x128, .bf16⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference28Ideal.lean ====
abbrev S8x4096x128 : Shape := ⟨3, ![8, 4096, 128]⟩
abbrev S4096x4096 : Shape := ⟨2, ![4096, 4096]⟩
abbrev S1x128 : Shape := ⟨2, ![1, 128]⟩
abbrev S4096x1024 : Shape := ⟨2, ![4096, 1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S4096x4096, .f32⟩
  | .hbm, ⟨2, _⟩ => ⟨S1x128, .f32⟩
  | .hbm, ⟨3, _⟩ => ⟨S4096x1024, .f32⟩
  | .hbm, ⟨4, _⟩ => ⟨S4096x8x128, .f32⟩
  | .hbm, ⟨5, _⟩ => ⟨S4096x8x128, .f32⟩
  | .hbm, ⟨6, _⟩ => ⟨S_, .f32⟩
  | .hbm, ⟨7, _⟩ => ⟨S4096x8, .f32⟩
  | .hbm, ⟨8, _⟩ => ⟨S4096x8x1, .f32⟩
  | .hbm, ⟨9, _⟩ => ⟨S_, .f32⟩
  | .hbm, ⟨10, _⟩ => ⟨S4096x8x1, .f32⟩
  | .hbm, ⟨11, _⟩ => ⟨S4096x8x1, .f32⟩
  | .hbm, ⟨12, _⟩ => ⟨S_, .f32⟩
  | .hbm, ⟨13, _⟩ => ⟨S4096x8x1, .f32⟩
  | .hbm, ⟨14, _⟩ => ⟨S4096x8x1, .f32⟩
  | .hbm, ⟨15, _⟩ => ⟨S4096x8x1, .f32⟩
  | .hbm, ⟨16, _⟩ => ⟨S4096x8x128, .f32⟩
  | .hbm, ⟨17, _⟩ => ⟨S4096x8x128, .f32⟩
  | .hbm, ⟨18, _⟩ => ⟨S1x1x128, .f32⟩
  | .hbm, ⟨19, _⟩ => ⟨S4096x8x128, .f32⟩
  | .hbm, ⟨20, _⟩ => ⟨S4096x8x128, .f32⟩
  | .hbm, ⟨21, _⟩ => ⟨S4096x8x128, .f32⟩
  | .hbm, ⟨22, _⟩ => ⟨S4096x8x128, .f32⟩
  | .hbm, ⟨23, _⟩ => ⟨S4096x8x128, .f32⟩
  | .hbm, ⟨24, _⟩ => ⟨S_, .f32⟩
  | .hbm, ⟨25, _⟩ => ⟨S4096x8x128, .f32⟩
  | .hbm, ⟨26, _⟩ => ⟨S4096x8x128, .f32⟩
  | .hbm, ⟨27, _⟩ => ⟨S_, .f32⟩
  | .hbm, ⟨28, _⟩ => ⟨S4096x8x128, .f32⟩
  | .hbm, ⟨29, _⟩ => ⟨S4096x8x128, .f32⟩
  | .hbm, ⟨30, _⟩ => ⟨S4096x8x128, .f32⟩
  | .hbm, ⟨31, _⟩ => ⟨S4096x8x128, .f32⟩
  | .hbm, ⟨32, _⟩ => ⟨S4096x1024, .f32⟩
  | .hbm, ⟨33, _⟩ => ⟨S4096x1024, .bf16⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel29.lean ====
abbrev S8x4096x128 : Shape := ⟨3, ![8, 4096, 128]⟩
abbrev S4096x4096 : Shape := ⟨2, ![4096, 4096]⟩
abbrev S1x128 : Shape := ⟨2, ![1, 128]⟩
abbrev S4096x1024 : Shape := ⟨2, ![4096, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S8x4096x128, .f32⟩
  | .hbm, ⟨1, _⟩ => ⟨S4096x4096, .f32⟩
  | .hbm, ⟨2, _⟩ => ⟨S1x128, .f32⟩
  | .hbm, ⟨3, _⟩ => ⟨S4096x1024, .f32⟩
  | .hbm, ⟨4, _⟩ => ⟨S8x4096x128, .f32⟩
  | .hbm, ⟨5, _⟩ => ⟨S4096x1024, .bf16⟩
  | .hbm, ⟨6, _⟩ => ⟨S1x128, .f32⟩
  | .local _ .vmem, ⟨0, _⟩ => ⟨S1x512x128, .f32⟩
  | .local _ .vmem, ⟨1, _⟩ => ⟨S1x512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | .local _ .vmem, ⟨7, _⟩ => ⟨S1x512x128, .f32⟩
  | .local _ .vmem, ⟨8, _⟩ => ⟨S1x512x128, .f32⟩
  | .local _ .vmem, ⟨9, _⟩ => ⟨S512x128, .bf16⟩
  | .local _ .vmem, ⟨10, _⟩ => ⟨S512x128, .bf16⟩
  | .local _ .vmem, ⟨11, _⟩ => ⟨S1x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v72 : BitVec 32 := Scalar.extui v2
  let c0_i32_28 : BitVec 32 := 0#32
  let v73 : BitVec 1 := Scalar.cmpi .ne v72 c0_i32_28
  v73

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v_true : BitVec 1 := 1#1
  let v74 : BitVec 1 := Scalar.xori v2 v_true
  let v75 : BitVec 32 := Scalar.extui v74
  let c0_i32_29 : BitVec 32 := 0#32
  let v76 : BitVec 1 := Scalar.cmpi .ne v75 c0_i32_29
  v76

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference29Ideal.lean ====
abbrev S8x4096x128 : Shape := ⟨3, ![8, 4096, 128]⟩
abbrev S4096x4096 : Shape := ⟨2, ![4096, 4096]⟩
abbrev S1x128 : Shape := ⟨2, ![1, 128]⟩
abbrev S4096x1024 : Shape := ⟨2, ![4096, 1024]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩
abbrev S128 : Shape := ⟨1, ![128]⟩

abbrev nBuf : Space → Nat
  | .hbm => 78
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S4096x4096, .f32⟩
  | .hbm, ⟨2, _⟩ => ⟨S1x128, .f32⟩
  | .hbm, ⟨3, _⟩ => ⟨S4096x1024, .f32⟩
  | .hbm, ⟨4, _⟩ => ⟨S4096x1024, .f32⟩
  | .hbm, ⟨5, _⟩ => ⟨S4096x8x128, .f32⟩
  | .hbm, ⟨6, _⟩ => ⟨S4096x8x128, .f32⟩
  | .hbm, ⟨7, _⟩ => ⟨S_, .f32⟩
  | .hbm, ⟨8, _⟩ => ⟨S4096x8, .f32⟩
  | .hbm, ⟨9, _⟩ => ⟨S4096x8x1, .f32⟩
  | .hbm, ⟨10, _⟩ => ⟨S_, .f32⟩
  | .hbm, ⟨11, _⟩ => ⟨S4096x8x1, .f32⟩
  | .hbm, ⟨12, _⟩ => ⟨S4096x8x1, .f32⟩
  | .hbm, ⟨13, _⟩ => ⟨S_, .f32⟩
  | .hbm, ⟨14, _⟩ => ⟨S4096x8x1, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S_, .f32⟩
  | .hbm, ⟨19, _⟩ => ⟨S4096x8x1, .f32⟩
  | .hbm, ⟨20, _⟩ => ⟨S4096x8x1, .f32⟩
  | .hbm, ⟨21, _⟩ => ⟨S4096x8x128, .f32⟩
  | .hbm, ⟨22, _⟩ => ⟨S4096x8x128, .f32⟩
  | .hbm, ⟨23, _⟩ => ⟨S1x1x128, .f32⟩
  | .hbm, ⟨24, _⟩ => ⟨S4096x8x128, .f32⟩
  | .hbm, ⟨25, _⟩ => ⟨S4096x8x128, .f32⟩
  | .hbm, ⟨26, _⟩ => ⟨S4096x8x128, .f32⟩
  | .hbm, ⟨27, _⟩ => ⟨S4096x8x128, .f32⟩
  | .hbm, ⟨28, _⟩ => ⟨S4096x8x128, .f32⟩
  | .hbm, ⟨29, _⟩ => ⟨S_, .f32⟩
  | .hbm, ⟨30, _⟩ => ⟨S4096x8x128, .f32⟩
  | .hbm, ⟨31, _⟩ => ⟨S4096x8x128, .f32⟩
  | .hbm, ⟨32, _⟩ => ⟨S_, .f32⟩
  | .hbm, ⟨33, _⟩ => ⟨S4096x8x128, .f32⟩
  | .hbm, ⟨34, _⟩ => ⟨S4096x8x128, .f32⟩
  | .hbm, ⟨35, _⟩ => ⟨S_, .f32⟩
  | .hbm, ⟨36, _⟩ => ⟨S4096x8x128, .f32⟩
  | .hbm, ⟨37, _⟩ => ⟨S4096x8x128, .f32⟩
  | .hbm, ⟨38, _⟩ => ⟨S4096x8x128, .f32⟩
  | .hbm, ⟨39, _⟩ => ⟨S4096x8x128, .f32⟩
  | .hbm, ⟨40, _⟩ => ⟨S4096x8x128, .f32⟩
  | .hbm, ⟨41, _⟩ => ⟨S4096x1024, .f32⟩
  | .hbm, ⟨42, _⟩ => ⟨S4096x8x128, .f32⟩
  | .hbm, ⟨43, _⟩ => ⟨S4096x8x128, .f32⟩
  | .hbm, ⟨44, _⟩ => ⟨S4096x8x128, .f32⟩
  | .hbm, ⟨45, _⟩ => ⟨S4096x8x128, .f32⟩
  | .hbm, ⟨46, _⟩ => ⟨S4096x8x128, .f32⟩
  | .hbm, ⟨47, _⟩ => ⟨S4096x8x128, .f32⟩
  | .hbm, ⟨48, _⟩ => ⟨S4096x8x128, .f32⟩
  | .hbm, ⟨49, _⟩ => ⟨S4096x1024, .f32⟩
  | .hbm, ⟨50, _⟩ => ⟨S4096x8x128, .f32⟩
  | .hbm, ⟨51, _⟩ => ⟨S_, .f32⟩
  | .hbm, ⟨52, _⟩ => ⟨S128, .f32⟩
  | .hbm, ⟨53, _⟩ => ⟨S1x1x128, .f32⟩
  | .hbm, ⟨54, _⟩ => ⟨S4096x8x128, .f32⟩
  | .hbm, ⟨55, _⟩ => ⟨S4096x8x128, .f32⟩
  | .hbm, ⟨56, _⟩ => ⟨S_, .f32⟩
  | .hbm, ⟨57, _⟩ => ⟨S128, .f32⟩
  | .hbm, ⟨58, _⟩ => ⟨S1x128, .f32⟩
  | .hbm, ⟨59, _⟩ => ⟨S4096x8x128, .f32⟩
  | .hbm, ⟨60, _⟩ => ⟨S_, .f32⟩
  | .hbm, ⟨61, _⟩ => ⟨S4096x8, .f32⟩
  | .hbm, ⟨62, _⟩ => ⟨S4096x8x1, .f32⟩
  | .hbm, ⟨63, _⟩ => ⟨S4096x8x128, .f32⟩
  | .hbm, ⟨64, _⟩ => ⟨S4096x8x128, .f32⟩
  | .hbm, ⟨65, _⟩ => ⟨S4096x8x1, .f32⟩
  | .hbm, ⟨66, _⟩ => ⟨S_, .f32⟩
  | .hbm, ⟨67, _⟩ => ⟨S4096x8x1, .f32⟩
  | .hbm, ⟨68, _⟩ => ⟨S4096x8x1, .f32⟩
  | .hbm, ⟨69, _⟩ => ⟨S_, .f32⟩
  | .hbm, ⟨70, _⟩ => ⟨S4096x8, .f32⟩
  | .hbm, ⟨71, _⟩ => ⟨S4096x8x128, .f32⟩
  | .hbm, ⟨72, _⟩ => ⟨S4096x8x128, .f32⟩
  | .hbm, ⟨73, _⟩ => ⟨S4096x8x128, .f32⟩
  | .hbm, ⟨74, _⟩ => ⟨S4096x8x128, .f32⟩
  | .hbm, ⟨75, _⟩ => ⟨S4096x8x128, .f32⟩
  | .hbm, ⟨76, _⟩ => ⟨S8x4096x128, .f32⟩
  | .hbm, ⟨77, _⟩ => ⟨S4096x1024, .bf16⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_4 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_5 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Proof.Run0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Scan

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition: whether the point is the first along the scan's axis. -/
abbrev first0 (i : grid0.Coords) : Prop := (Scalar.cmpi .ne (Scalar.extui (Scalar.cmpi .eq (BitVec.ofNat 32 (i 1).val) 0#32)) 0#32) = 1#1

variable (c : Dev nD) (i : grid0.Coords) (arg2 : Memref sig .tc .vmem S8x512x128 .f32) (harg2 : arg2.IsWhole) (arg3 : Memref sig .tc .vmem S8x512x128 .bf16) (harg3 : arg3.IsWhole) (arg4 : Memref sig .tc .vmem S8x512x64 .bf16) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S8x8x128 .f32) (harg7 : arg7.IsWhole) (arg8 : Memref sig .tc .vmem S8x512x128 .f32) (harg8 : arg8.IsWhole) (arg9 : Memref sig .tc .vmem S8x8x128x128 .f32) (harg9 : arg9.IsWhole) (arg10 : Memref sig .tc .vmem S8x512x128 .bf16) (harg10 : arg10.IsWhole) (arg11 : Memref sig .tc .vmem S8x128x128 .f32) (harg11 : arg11.IsWhole)
variable (x0 : Vec F S8x512x128 .f32) (x1 : Vec F S8x512x128 .bf16) (x2 : Vec F S8x512x64 .bf16) (x3 : Vec F S8x512x128 .bf16) (x4 : Vec F S8x512x128 .bf16) (x5 : Vec F S8x8x128 .f32)

set_option maxHeartbeats 1000000 in
/-- The pieces the body's stores leave at the first point of the scan, where the carried state is reset. -/
def run0_A (hc0 : first0 i) :
    Σ' (L6 : List (View.Piece (Elt F) S8x512x128 .f32)), Σ' (L7 : List (View.Piece (Elt F) S8x8x128x128 .f32)), Σ' (L8 : List (View.Piece (Elt F) S8x512x128 .bf16)), { LS0 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_gdn_scan i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_gdn_scan_eq_skeleton]; unfold cc0_gdn_scan_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact HS0

set_option maxHeartbeats 1000000 in
/-- The pieces the body's stores leave at a later point, where the carried state is what the point before left. -/
def run0_B (hc0 : ¬first0 i) (xs0 : Vec F S8x128x128 .f32) :
    Σ' (L6 : List (View.Piece (Elt F) S8x512x128 .f32)), Σ' (L7 : List (View.Piece (Elt F) S8x8x128x128 .f32)), Σ' (L8 : List (View.Piece (Elt F) S8x512x128 .bf16)), { LS0 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc0_gdn_scan i arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_gdn_scan_eq_skeleton]; unfold cc0_gdn_scan_skel
    simp only [k0_part8_eq_skeleton, k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg11.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    iexists _; iexact HS0

end Cert.KernelIdeal.Scan

end
-- ==== Proof.Spec.lean ====
module

public import proofs.«01_k».proof.Proof.Run0
public import Idealize.ShloMosaic.Lib.VecWindow
public import Idealize.ShloMosaic.Lib.Pointwise.Index
public import Idealize.ShloMosaic.Lib.WholeRead
public import Idealize.ShloMosaic.Lib.Pipeline.ValueKit.Tiles

@[expose] public section

set_option maxRecDepth 16384

noncomputable section

namespace Cert.KernelIdeal.Scan

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The rectangles of chunk `k` in a point's blocks. -/
theorem inbR (k : Fin 8) : ∀ a, (![0, 64 * k.val, 0] : Fin 3 → ℕ) a + (![8, 64, 128] : Fin 3 → ℕ) a ≤ S8x512x128.size a := by
  have := k.isLt
  intro a; match a with
  | ⟨0, _⟩ => exact (by decide : 0 + 8 ≤ 8)
  | ⟨1, _⟩ => exact (by show 64 * k.val + 64 ≤ 512; omega)
  | ⟨2, _⟩ => exact (by decide : 0 + 128 ≤ 128)
theorem inbQ (k : Fin 8) : ∀ a, (![0, 64 * k.val, 0] : Fin 3 → ℕ) a + (![8, 64, 64] : Fin 3 → ℕ) a ≤ S8x512x64.size a := by
  have := k.isLt
  intro a; match a with
  | ⟨0, _⟩ => exact (by decide : 0 + 8 ≤ 8)
  | ⟨1, _⟩ => exact (by show 64 * k.val + 64 ≤ 512; omega)
  | ⟨2, _⟩ => exact (by decide : 0 + 64 ≤ 64)
theorem inbG (k : Fin 8) : ∀ a, (![0, k.val, 0] : Fin 3 → ℕ) a + (![8, 1, 128] : Fin 3 → ℕ) a ≤ S8x8x128.size a := by
  have := k.isLt
  intro a; match a with
  | ⟨0, _⟩ => exact (by decide : 0 + 8 ≤ 8)
  | ⟨1, _⟩ => exact (by show k.val + 1 ≤ 8; omega)
  | ⟨2, _⟩ => exact (by decide : 0 + 128 ≤ 128)
theorem inbS (k : Fin 8) : ∀ a, (![0, k.val, 0, 0] : Fin 4 → ℕ) a + (![8, 1, 128, 128] : Fin 4 → ℕ) a ≤ S8x8x128x128.size a := by
  have := k.isLt
  intro a; match a with
  | ⟨0, _⟩ => exact (by decide : 0 + 8 ≤ 8)
  | ⟨1, _⟩ => exact (by show k.val + 1 ≤ 8; omega)
  | ⟨2, _⟩ => exact (by decide : 0 + 128 ≤ 128)
  | ⟨3, _⟩ => exact (by decide : 0 + 128 ≤ 128)
/-- Chunk `k`'s 64 rows of a block of 512 rows. -/
abbrev rectR (k : Fin 8) : Rect S8x512x128 := Rect.unit ![0, 64 * k.val, 0] ![8, 64, 128] (inbR k)
/-- The same in the block of the intra-chunk matrix. -/
abbrev rectQ (k : Fin 8) : Rect S8x512x64 := Rect.unit ![0, 64 * k.val, 0] ![8, 64, 64] (inbQ k)
/-- Chunk `k`'s row of the decays. -/
abbrev rectG (k : Fin 8) : Rect S8x8x128 := Rect.unit ![0, k.val, 0] ![8, 1, 128] (inbG k)
/-- Chunk `k`'s saved state. -/
abbrev rectS (k : Fin 8) : Rect S8x8x128x128 := Rect.unit ![0, k.val, 0, 0] ![8, 1, 128, 128] (inbS k)
/-- The whole state. -/
abbrev rectC : Rect S8x128x128 := Rect.unit ![0, 0, 0] ![8, 128, 128] inb_S8x128x128_S8x128x128_0_0_0

/-- Chunk `7 - k`, as the pieces are listed: the last store first. -/
abbrev rk (k : Fin 8) : Fin 8 := ⟨7 - k.val, by omega⟩

theorem rk_rk (k : Fin 8) : rk (rk k) = k := Fin.ext (by show 7 - (7 - k.val) = k.val; omega)

section Tiles
variable {Val : EltTy → Type} {e : EltTy} [∀ e, Nonempty (Val e)]

/-- Eight chunks of rows put under one another. -/
def rowsR (P : Fin 8 → S8x64x128.Idx → Val e) : S8x512x128.Idx → Val e := fun y =>
  P ⟨(y 1).val / 64, Nat.div_lt_of_lt_mul (y 1).isLt⟩ (ix3 (y 0) ⟨(y 1).val % 64, Nat.mod_lt _ (by decide)⟩ (y 2))
/-- The same for rows of 64 lanes. -/
def rowsQ (P : Fin 8 → S8x64x64.Idx → Val e) : S8x512x64.Idx → Val e := fun y =>
  P ⟨(y 1).val / 64, Nat.div_lt_of_lt_mul (y 1).isLt⟩ (ix3 (y 0) ⟨(y 1).val % 64, Nat.mod_lt _ (by decide)⟩ (y 2))
/-- Eight single rows put under one another. -/
def rowsG (P : Fin 8 → S8x1x128.Idx → Val e) : S8x8x128.Idx → Val e := fun y =>
  P (y 1) (ix3 (y 0) 0 (y 2))
/-- Eight states put beside one another. -/
def rowsS (P : Fin 8 → S8x1x128x128.Idx → Val e) : S8x8x128x128.Idx → Val e := fun y =>
  P (y 1) (ix4 (y 0) 0 (y 2) (y 3))

end Tiles

variable {Val : EltTy → Type} {e : EltTy} [∀ e, Nonempty (Val e)] {S : Shape}

/-- A view written at pieces that each agree with `G` and together cover it reads `G`. -/
theorem read_pieces {κ : Kind} {sp : Space} (v : View sig κ sp S e) (f : v.ty.Contents Val) (R : Fin 8 → Rect S)
    (P : (k : Fin 8) → (R k).shape.Idx → Val e) (σ : Fin 8 → Fin 8) (hσ : Function.Surjective σ) (G : S.Idx → Val e)
    (hc : ∀ y, ∃ k, ∃ x, (R k).emb x = y ∧ G y = P k x) (hu : ∀ k x, G ((R k).emb x) = P k x) :
    v.read Val (v.writes Val f (List.ofFn fun k => (⟨R (σ k), P (σ k)⟩ : View.Piece Val S e))) = G := by
  have hcov : ∀ y, ∃ p ∈ (List.ofFn fun k => (⟨R (σ k), P (σ k)⟩ : View.Piece Val S e)), y ∈ p.1.set := fun y => by
    obtain ⟨k, x, hx, _⟩ := hc y
    obtain ⟨k', rfl⟩ := hσ k
    exact ⟨_, List.mem_ofFn.mpr ⟨k', rfl⟩, hx ▸ (R (σ k')).idx_mem x⟩
  rw [View.read_writes_eq_canon v f _ hcov]
  funext y
  refine View.canon_eq_of_allAt _ _ _ (hcov y) fun p hp x hx => ?_
  obtain ⟨k, rfl⟩ := List.mem_ofFn.mp hp
  rw [← hx]; exact (hu (σ k) x).symm

theorem rk_surj : Function.Surjective rk := fun k => ⟨rk k, rk_rk k⟩

section
variable {κ : Kind} {sp : Space} (σ : Fin 8 → Fin 8) (hσ : Function.Surjective σ)
include hσ

theorem read_R (v : View sig κ sp S8x512x128 e) (f : v.ty.Contents Val) (P : Fin 8 → S8x64x128.Idx → Val e) :
    v.read Val (v.writes Val f (List.ofFn fun k => (⟨rectR (σ k), P (σ k)⟩ : View.Piece Val S8x512x128 e))) = rowsR P := by
  refine read_pieces v f rectR P σ hσ (rowsR P) (fun y => ⟨⟨(y 1).val / 64, Nat.div_lt_of_lt_mul (y 1).isLt⟩, ix3 (y 0) ⟨(y 1).val % 64, Nat.mod_lt _ (by decide)⟩ (y 2), ?_, rfl⟩) fun k x => ?_
  · funext a; refine Fin.ext ?_
    match a with
    | ⟨0, _⟩ => exact (Nat.zero_add _).trans (Nat.one_mul _)
    | ⟨1, _⟩ => show 64 * ((y 1).val / 64) + 1 * ((y 1).val % 64) = (y 1).val; omega
    | ⟨2, _⟩ => exact (Nat.zero_add _).trans (Nat.one_mul _)
  · have h1 : (x 1).val < 64 := (x 1).isLt
    have e1 : ((rectR k).emb x 1).val = 64 * k.val + 1 * (x 1).val := rfl
    unfold rowsR
    congr 1
    · refine Fin.ext ?_; show ((rectR k).emb x 1).val / 64 = k.val; omega
    · funext a; refine Fin.ext ?_
      match a with
      | ⟨0, _⟩ => exact (Nat.zero_add _).trans (Nat.one_mul _)
      | ⟨1, _⟩ => show ((rectR k).emb x 1).val % 64 = (x 1).val; omega
      | ⟨2, _⟩ => exact (Nat.zero_add _).trans (Nat.one_mul _)

theorem read_Q (v : View sig κ sp S8x512x64 e) (f : v.ty.Contents Val) (P : Fin 8 → S8x64x64.Idx → Val e) :
    v.read Val (v.writes Val f (List.ofFn fun k => (⟨rectQ (σ k), P (σ k)⟩ : View.Piece Val S8x512x64 e))) = rowsQ P := by
  refine read_pieces v f rectQ P σ hσ (rowsQ P) (fun y => ⟨⟨(y 1).val / 64, Nat.div_lt_of_lt_mul (y 1).isLt⟩, ix3 (y 0) ⟨(y 1).val % 64, Nat.mod_lt _ (by decide)⟩ (y 2), ?_, rfl⟩) fun k x => ?_
  · funext a; refine Fin.ext ?_
    match a with
    | ⟨0, _⟩ => exact (Nat.zero_add _).trans (Nat.one_mul _)
    | ⟨1, _⟩ => show 64 * ((y 1).val / 64) + 1 * ((y 1).val % 64) = (y 1).val; omega
    | ⟨2, _⟩ => exact (Nat.zero_add _).trans (Nat.one_mul _)
  · have h1 : (x 1).val < 64 := (x 1).isLt
    have e1 : ((rectQ k).emb x 1).val = 64 * k.val + 1 * (x 1).val := rfl
    unfold rowsQ
    congr 1
    · refine Fin.ext ?_; show ((rectQ k).emb x 1).val / 64 = k.val; omega
    · funext a; refine Fin.ext ?_
      match a with
      | ⟨0, _⟩ => exact (Nat.zero_add _).trans (Nat.one_mul _)
      | ⟨1, _⟩ => show ((rectQ k).emb x 1).val % 64 = (x 1).val; omega
      | ⟨2, _⟩ => exact (Nat.zero_add _).trans (Nat.one_mul _)

theorem read_G (v : View sig κ sp S8x8x128 e) (f : v.ty.Contents Val) (P : Fin 8 → S8x1x128.Idx → Val e) :
    v.read Val (v.writes Val f (List.ofFn fun k => (⟨rectG (σ k), P (σ k)⟩ : View.Piece Val S8x8x128 e))) = rowsG P := by
  refine read_pieces v f rectG P σ hσ (rowsG P) (fun y => ⟨y 1, ix3 (y 0) 0 (y 2), ?_, rfl⟩) fun k x => ?_
  · funext a; refine Fin.ext ?_
    match a with
    | ⟨0, _⟩ => exact (Nat.zero_add _).trans (Nat.one_mul _)
    | ⟨1, _⟩ => show (y 1).val + 1 * 0 = (y 1).val; omega
    | ⟨2, _⟩ => exact (Nat.zero_add _).trans (Nat.one_mul _)
  · have h1 : (x 1).val < 1 := (x 1).isLt
    have e1 : ((rectG k).emb x 1).val = k.val + 1 * (x 1).val := rfl
    unfold rowsG
    congr 1
    · refine Fin.ext ?_; omega
    · funext a; refine Fin.ext ?_
      match a with
      | ⟨0, _⟩ => exact (Nat.zero_add _).trans (Nat.one_mul _)
      | ⟨1, _⟩ => show 0 = (x 1).val; omega
      | ⟨2, _⟩ => exact (Nat.zero_add _).trans (Nat.one_mul _)

theorem read_S (v : View sig κ sp S8x8x128x128 e) (f : v.ty.Contents Val) (P : Fin 8 → S8x1x128x128.Idx → Val e) :
    v.read Val (v.writes Val f (List.ofFn fun k => (⟨rectS (σ k), P (σ k)⟩ : View.Piece Val S8x8x128x128 e))) = rowsS P := by
  refine read_pieces v f rectS P σ hσ (rowsS P) (fun y => ⟨y 1, ix4 (y 0) 0 (y 2) (y 3), ?_, rfl⟩) fun k x => ?_
  · funext a; refine Fin.ext ?_
    match a with
    | ⟨0, _⟩ => exact (Nat.zero_add _).trans (Nat.one_mul _)
    | ⟨1, _⟩ => show (y 1).val + 1 * 0 = (y 1).val; omega
    | ⟨2, _⟩ => exact (Nat.zero_add _).trans (Nat.one_mul _)
    | ⟨3, _⟩ => exact (Nat.zero_add _).trans (Nat.one_mul _)
  · have h1 : (x 1).val < 1 := (x 1).isLt
    have e1 : ((rectS k).emb x 1).val = k.val + 1 * (x 1).val := rfl
    unfold rowsS
    congr 1
    · refine Fin.ext ?_; omega
    · funext a; refine Fin.ext ?_
      match a with
      | ⟨0, _⟩ => exact (Nat.zero_add _).trans (Nat.one_mul _)
      | ⟨1, _⟩ => show 0 = (x 1).val; omega
      | ⟨2, _⟩ => exact (Nat.zero_add _).trans (Nat.one_mul _)
      | ⟨3, _⟩ => exact (Nat.zero_add _).trans (Nat.one_mul _)

omit hσ
/-- A whole store of the carried state reads back as its payload. -/
theorem read_C (v : View sig κ sp S8x128x128 e) (f : v.ty.Contents Val) (w : S8x128x128.Idx → Val e) (L : List (View.Piece Val S8x128x128 e)) :
    v.read Val (v.writes Val f ((⟨rectC, w⟩ : View.Piece Val S8x128x128 e) :: L)) = w :=
  View.read_writes_full v f _ w L

/-- A load of a whole memref at known contents reads those contents there. -/
theorem readAt_whole {m : Memref sig .tc .vmem S e} (h : m.IsWhole) (X : S.Idx → Val e) (R : Rect S) :
    View.readAt Val m.view R.toLoadRect (h.unread X) = View.ld X R := by
  rw [View.readAt_eq_ld, Memref.IsWhole.read_unread]

end

end Cert.KernelIdeal.Scan
-- ==== Proof.Spec0.lean ====
module

public import proofs.«01_k».proof.Proof.Spec

@[expose] public section

set_option maxRecDepth 16384

noncomputable section

namespace Cert.KernelIdeal.Scan

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Chunks
variable (u : Fin 8 → Vec F S8x64x128 .f32) (w : Fin 8 → Vec F S8x64x128 .bf16) (qk : Fin 8 → Vec F S8x64x64 .bf16)
  (qd kd : Fin 8 → Vec F S8x64x128 .bf16) (gl : Fin 8 → Vec F S8x1x128 .f32)

/-- The state before chunk `n` of a point that begins at state `s`. -/
def st (s : Vec F S8x128x128 .f32) : ℕ → Vec F S8x128x128 .f32
  | 0 => s
  | n + 1 => if h : n < 8 then
      k0_pay7 (st s n) (k0_pay5 (st s n) (u ⟨n, h⟩) (w ⟨n, h⟩)) (gl ⟨n, h⟩) (kd ⟨n, h⟩)
    else st s n

/-- Chunk `k`'s new values, narrowed. -/
def vnC (s : Vec F S8x128x128 .f32) (k : Fin 8) : Vec F S8x64x128 .bf16 := k0_pay5 (st u w kd gl s k.val) (u k) (w k)
/-- Chunk `k`'s output rows. -/
def oC (s : Vec F S8x128x128 .f32) (k : Fin 8) : Vec F S8x64x128 .f32 := k0_pay6 (st u w kd gl s k.val) (u k) (w k) (qd k) (qk k)
/-- Chunk `k`'s entering state, as the body stores it. -/
def sC (s : Vec F S8x128x128 .f32) (k : Fin 8) : Vec F S8x1x128x128 .f32 := k0_pay3 (st u w kd gl s k.val)

end Chunks

section Block
variable (x0 : Vec F S8x512x128 .f32) (x1 : Vec F S8x512x128 .bf16) (x2 : Vec F S8x512x64 .bf16) (x3 : Vec F S8x512x128 .bf16) (x4 : Vec F S8x512x128 .bf16) (x5 : Vec F S8x8x128 .f32)

/-! The chunks of a point's blocks. -/
abbrev bu (x0 : Vec F S8x512x128 .f32) : Fin 8 → Vec F S8x64x128 .f32 := fun k => View.ld x0 (rectR k)
abbrev bw (x1 : Vec F S8x512x128 .bf16) : Fin 8 → Vec F S8x64x128 .bf16 := fun k => View.ld x1 (rectR k)
abbrev bq (x2 : Vec F S8x512x64 .bf16) : Fin 8 → Vec F S8x64x64 .bf16 := fun k => View.ld x2 (rectQ k)
abbrev bg (x5 : Vec F S8x8x128 .f32) : Fin 8 → Vec F S8x1x128 .f32 := fun k => View.ld x5 (rectG k)

/-- What a point leaves in the output block, from the state `s` it begins with. -/
def oB (s : Vec F S8x128x128 .f32) : Vec F S8x512x128 .f32 := rowsR (e := .f32) (oC (bu x0) (bw x1) (bq x2) (bw x3) (bw x4) (bg x5) s)
/-- What it leaves in the block of saved states. -/
def sB (s : Vec F S8x128x128 .f32) : Vec F S8x8x128x128 .f32 := rowsS (e := .f32) (sC (bu x0) (bw x1) (bw x4) (bg x5) s)
/-- What it leaves in the block of new values. -/
def vB (s : Vec F S8x128x128 .f32) : Vec F S8x512x128 .bf16 := rowsR (e := .bf16) (vnC (bu x0) (bw x1) (bw x4) (bg x5) s)
/-- The state it hands to the next point. -/
def cB (s : Vec F S8x128x128 .f32) : Vec F S8x128x128 .f32 := k0_pay1 (st (bu x0) (bw x1) (bw x4) (bg x5) s 8)
end Block
variable (c : Dev nD) (i : grid0.Coords) (arg2 : Memref sig .tc .vmem S8x512x128 .f32) (harg2 : arg2.IsWhole) (arg3 : Memref sig .tc .vmem S8x512x128 .bf16) (harg3 : arg3.IsWhole) (arg4 : Memref sig .tc .vmem S8x512x64 .bf16) (harg4 : arg4.IsWhole) (arg5 : Memref sig .tc .vmem S8x512x128 .bf16) (harg5 : arg5.IsWhole) (arg6 : Memref sig .tc .vmem S8x512x128 .bf16) (harg6 : arg6.IsWhole) (arg7 : Memref sig .tc .vmem S8x8x128 .f32) (harg7 : arg7.IsWhole) (arg8 : Memref sig .tc .vmem S8x512x128 .f32) (harg8 : arg8.IsWhole) (arg9 : Memref sig .tc .vmem S8x8x128x128 .f32) (harg9 : arg9.IsWhole) (arg10 : Memref sig .tc .vmem S8x512x128 .bf16) (harg10 : arg10.IsWhole) (arg11 : Memref sig .tc .vmem S8x128x128 .f32) (harg11 : arg11.IsWhole)
variable (x0 : Vec F S8x512x128 .f32) (x1 : Vec F S8x512x128 .bf16) (x2 : Vec F S8x512x64 .bf16) (x3 : Vec F S8x512x128 .bf16) (x4 : Vec F S8x512x128 .bf16) (x5 : Vec F S8x8x128 .f32)

theorem zeroA : run0_A.sl.v3 (F := F) c arg11 = k0_pay2 :=
  View.readCov_full arg11.view _ _ _ _

theorem run0_A_o (hc0 : first0 i) :
    (run0_A c i arg2 harg2 arg3 harg3 arg4 harg4 arg5 harg5 arg6 harg6 arg7 harg7 arg8 harg8 arg9 harg9 arg10 harg10 arg11 harg11 x0 x1 x2 x3 x4 x5 hc0).1 = List.ofFn fun k : Fin 8 => ⟨rectR (rk k), oC (fun k : Fin 8 => View.readAt (Elt F) arg2.view (rectR k).toLoadRect (harg2.unread x0)) (fun k : Fin 8 => View.readAt (Elt F) arg3.view (rectR k).toLoadRect (harg3.unread x1)) (fun k : Fin 8 => View.readAt (Elt F) arg4.view (rectQ k).toLoadRect (harg4.unread x2)) (fun k : Fin 8 => View.readAt (Elt F) arg5.view (rectR k).toLoadRect (harg5.unread x3)) (fun k : Fin 8 => View.readAt (Elt F) arg6.view (rectR k).toLoadRect (harg6.unread x4)) (fun k : Fin 8 => View.readAt (Elt F) arg7.view (rectG k).toLoadRect (harg7.unread x5)) (run0_A.sl.v3 c arg11) (rk k)⟩ := by
  sl_kernel_rfl
theorem read0_A_o (hc0 : first0 i) {κ : Kind} {sp : Space} (v : View sig κ sp S8x512x128 .f32) (f : v.ty.Contents (Elt F)) :
    v.read (Elt F) (v.writes (Elt F) f (run0_A c i arg2 harg2 arg3 harg3 arg4 harg4 arg5 harg5 arg6 harg6 arg7 harg7 arg8 harg8 arg9 harg9 arg10 harg10 arg11 harg11 x0 x1 x2 x3 x4 x5 hc0).1) = oB x0 x1 x2 x3 x4 x5 k0_pay2 := by
  rw [run0_A_o]; rw [zeroA]; simp only [readAt_whole]
  exact read_R rk rk_surj v f _

theorem run0_A_s (hc0 : first0 i) :
    (run0_A c i arg2 harg2 arg3 harg3 arg4 harg4 arg5 harg5 arg6 harg6 arg7 harg7 arg8 harg8 arg9 harg9 arg10 harg10 arg11 harg11 x0 x1 x2 x3 x4 x5 hc0).2.1 = List.ofFn fun k : Fin 8 => ⟨rectS (rk k), sC (fun k : Fin 8 => View.readAt (Elt F) arg2.view (rectR k).toLoadRect (harg2.unread x0)) (fun k : Fin 8 => View.readAt (Elt F) arg3.view (rectR k).toLoadRect (harg3.unread x1)) (fun k : Fin 8 => View.readAt (Elt F) arg6.view (rectR k).toLoadRect (harg6.unread x4)) (fun k : Fin 8 => View.readAt (Elt F) arg7.view (rectG k).toLoadRect (harg7.unread x5)) (run0_A.sl.v3 c arg11) (rk k)⟩ := by
  sl_kernel_rfl
theorem read0_A_s (hc0 : first0 i) {κ : Kind} {sp : Space} (v : View sig κ sp S8x8x128x128 .f32) (f : v.ty.Contents (Elt F)) :
    v.read (Elt F) (v.writes (Elt F) f (run0_A c i arg2 harg2 arg3 harg3 arg4 harg4 arg5 harg5 arg6 harg6 arg7 harg7 arg8 harg8 arg9 harg9 arg10 harg10 arg11 harg11 x0 x1 x2 x3 x4 x5 hc0).2.1) = sB x0 x1 x4 x5 k0_pay2 := by
  rw [run0_A_s]; rw [zeroA]; simp only [readAt_whole]
  exact read_S rk rk_surj v f _

theorem run0_A_v (hc0 : first0 i) :
    (run0_A c i arg2 harg2 arg3 harg3 arg4 harg4 arg5 harg5 arg6 harg6 arg7 harg7 arg8 harg8 arg9 harg9 arg10 harg10 arg11 harg11 x0 x1 x2 x3 x4 x5 hc0).2.2.1 = List.ofFn fun k : Fin 8 => ⟨rectR (rk k), vnC (fun k : Fin 8 => View.readAt (Elt F) arg2.view (rectR k).toLoadRect (harg2.unread x0)) (fun k : Fin 8 => View.readAt (Elt F) arg3.view (rectR k).toLoadRect (harg3.unread x1)) (fun k : Fin 8 => View.readAt (Elt F) arg6.view (rectR k).toLoadRect (harg6.unread x4)) (fun k : Fin 8 => View.readAt (Elt F) arg7.view (rectG k).toLoadRect (harg7.unread x5)) (run0_A.sl.v3 c arg11) (rk k)⟩ := by
  sl_kernel_rfl
theorem read0_A_v (hc0 : first0 i) {κ : Kind} {sp : Space} (v : View sig κ sp S8x512x128 .bf16) (f : v.ty.Contents (Elt F)) :
    v.read (Elt F) (v.writes (Elt F) f (run0_A c i arg2 harg2 arg3 harg3 arg4 harg4 arg5 harg5 arg6 harg6 arg7 harg7 arg8 harg8 arg9 harg9 arg10 harg10 arg11 harg11 x0 x1 x2 x3 x4 x5 hc0).2.2.1) = vB x0 x1 x4 x5 k0_pay2 := by
  rw [run0_A_v]; rw [zeroA]; simp only [readAt_whole]
  exact read_R rk rk_surj v f _

theorem read0_A_c (hc0 : first0 i) {κ : Kind} {sp : Space} (v : View sig κ sp S8x128x128 .f32) (f : v.ty.Contents (Elt F)) :
    v.read (Elt F) (v.writes (Elt F) f (run0_A c i arg2 harg2 arg3 harg3 arg4 harg4 arg5 harg5 arg6 harg6 arg7 harg7 arg8 harg8 arg9 harg9 arg10 harg10 arg11 harg11 x0 x1 x2 x3 x4 x5 hc0).2.2.2.1) = cB x0 x1 x4 x5 k0_pay2 := by
  refine (read_C v f (k0_pay1 (st (fun k : Fin 8 => View.readAt (Elt F) arg2.view (rectR k).toLoadRect (harg2.unread x0)) (fun k : Fin 8 => View.readAt (Elt F) arg3.view (rectR k).toLoadRect (harg3.unread x1)) (fun k : Fin 8 => View.readAt (Elt F) arg6.view (rectR k).toLoadRect (harg6.unread x4)) (fun k : Fin 8 => View.readAt (Elt F) arg7.view (rectG k).toLoadRect (harg7.unread x5)) (run0_A.sl.v3 c arg11) 8)) [⟨rectC, k0_pay2⟩]).trans ?_
  rw [zeroA]; simp only [readAt_whole]; rfl

theorem ld_rectC (xs0 : Vec F S8x128x128 .f32) : View.ld xs0 rectC = xs0 := View.ld_unit_lit _ _ (by decide)

theorem run0_B_o (hc0 : ¬first0 i) (xs0 : Vec F S8x128x128 .f32) :
    (run0_B c i arg2 harg2 arg3 harg3 arg4 harg4 arg5 harg5 arg6 harg6 arg7 harg7 arg8 harg8 arg9 harg9 arg10 harg10 arg11 harg11 x0 x1 x2 x3 x4 x5 hc0 xs0).1 = List.ofFn fun k : Fin 8 => ⟨rectR (rk k), oC (fun k : Fin 8 => View.readAt (Elt F) arg2.view (rectR k).toLoadRect (harg2.unread x0)) (fun k : Fin 8 => View.readAt (Elt F) arg3.view (rectR k).toLoadRect (harg3.unread x1)) (fun k : Fin 8 => View.readAt (Elt F) arg4.view (rectQ k).toLoadRect (harg4.unread x2)) (fun k : Fin 8 => View.readAt (Elt F) arg5.view (rectR k).toLoadRect (harg5.unread x3)) (fun k : Fin 8 => View.readAt (Elt F) arg6.view (rectR k).toLoadRect (harg6.unread x4)) (fun k : Fin 8 => View.readAt (Elt F) arg7.view (rectG k).toLoadRect (harg7.unread x5)) (View.readAt (Elt F) arg11.view rectC.toLoadRect (harg11.unread xs0)) (rk k)⟩ := by
  sl_kernel_rfl
theorem read0_B_o (hc0 : ¬first0 i) (xs0 : Vec F S8x128x128 .f32) {κ : Kind} {sp : Space} (v : View sig κ sp S8x512x128 .f32) (f : v.ty.Contents (Elt F)) :
    v.read (Elt F) (v.writes (Elt F) f (run0_B c i arg2 harg2 arg3 harg3 arg4 harg4 arg5 harg5 arg6 harg6 arg7 harg7 arg8 harg8 arg9 harg9 arg10 harg10 arg11 harg11 x0 x1 x2 x3 x4 x5 hc0 xs0).1) = oB x0 x1 x2 x3 x4 x5 xs0 := by
  rw [run0_B_o]; rw [readAt_whole harg11, ld_rectC]; simp only [readAt_whole]
  exact read_R rk rk_surj v f _

theorem run0_B_s (hc0 : ¬first0 i) (xs0 : Vec F S8x128x128 .f32) :
    (run0_B c i arg2 harg2 arg3 harg3 arg4 harg4 arg5 harg5 arg6 harg6 arg7 harg7 arg8 harg8 arg9 harg9 arg10 harg10 arg11 harg11 x0 x1 x2 x3 x4 x5 hc0 xs0).2.1 = List.ofFn fun k : Fin 8 => ⟨rectS (rk k), sC (fun k : Fin 8 => View.readAt (Elt F) arg2.view (rectR k).toLoadRect (harg2.unread x0)) (fun k : Fin 8 => View.readAt (Elt F) arg3.view (rectR k).toLoadRect (harg3.unread x1)) (fun k : Fin 8 => View.readAt (Elt F) arg6.view (rectR k).toLoadRect (harg6.unread x4)) (fun k : Fin 8 => View.readAt (Elt F) arg7.view (rectG k).toLoadRect (harg7.unread x5)) (View.readAt (Elt F) arg11.view rectC.toLoadRect (harg11.unread xs0)) (rk k)⟩ := by
  sl_kernel_rfl
theorem read0_B_s (hc0 : ¬first0 i) (xs0 : Vec F S8x128x128 .f32) {κ : Kind} {sp : Space} (v : View sig κ sp S8x8x128x128 .f32) (f : v.ty.Contents (Elt F)) :
    v.read (Elt F) (v.writes (Elt F) f (run0_B c i arg2 harg2 arg3 harg3 arg4 harg4 arg5 harg5 arg6 harg6 arg7 harg7 arg8 harg8 arg9 harg9 arg10 harg10 arg11 harg11 x0 x1 x2 x3 x4 x5 hc0 xs0).2.1) = sB x0 x1 x4 x5 xs0 := by
  rw [run0_B_s]; rw [readAt_whole harg11, ld_rectC]; simp only [readAt_whole]
  exact read_S rk rk_surj v f _

theorem run0_B_v (hc0 : ¬first0 i) (xs0 : Vec F S8x128x128 .f32) :
    (run0_B c i arg2 harg2 arg3 harg3 arg4 harg4 arg5 harg5 arg6 harg6 arg7 harg7 arg8 harg8 arg9 harg9 arg10 harg10 arg11 harg11 x0 x1 x2 x3 x4 x5 hc0 xs0).2.2.1 = List.ofFn fun k : Fin 8 => ⟨rectR (rk k), vnC (fun k : Fin 8 => View.readAt (Elt F) arg2.view (rectR k).toLoadRect (harg2.unread x0)) (fun k : Fin 8 => View.readAt (Elt F) arg3.view (rectR k).toLoadRect (harg3.unread x1)) (fun k : Fin 8 => View.readAt (Elt F) arg6.view (rectR k).toLoadRect (harg6.unread x4)) (fun k : Fin 8 => View.readAt (Elt F) arg7.view (rectG k).toLoadRect (harg7.unread x5)) (View.readAt (Elt F) arg11.view rectC.toLoadRect (harg11.unread xs0)) (rk k)⟩ := by
  sl_kernel_rfl
theorem read0_B_v (hc0 : ¬first0 i) (xs0 : Vec F S8x128x128 .f32) {κ : Kind} {sp : Space} (v : View sig κ sp S8x512x128 .bf16) (f : v.ty.Contents (Elt F)) :
    v.read (Elt F) (v.writes (Elt F) f (run0_B c i arg2 harg2 arg3 harg3 arg4 harg4 arg5 harg5 arg6 harg6 arg7 harg7 arg8 harg8 arg9 harg9 arg10 harg10 arg11 harg11 x0 x1 x2 x3 x4 x5 hc0 xs0).2.2.1) = vB x0 x1 x4 x5 xs0 := by
  rw [run0_B_v]; rw [readAt_whole harg11, ld_rectC]; simp only [readAt_whole]
  exact read_R rk rk_surj v f _

theorem read0_B_c (hc0 : ¬first0 i) (xs0 : Vec F S8x128x128 .f32) {κ : Kind} {sp : Space} (v : View sig κ sp S8x128x128 .f32) (f : v.ty.Contents (Elt F)) :
    v.read (Elt F) (v.writes (Elt F) f (run0_B c i arg2 harg2 arg3 harg3 arg4 harg4 arg5 harg5 arg6 harg6 arg7 harg7 arg8 harg8 arg9 harg9 arg10 harg10 arg11 harg11 x0 x1 x2 x3 x4 x5 hc0 xs0).2.2.2.1) = cB x0 x1 x4 x5 xs0 := by
  refine (read_C v f (k0_pay1 (st (fun k : Fin 8 => View.readAt (Elt F) arg2.view (rectR k).toLoadRect (harg2.unread x0)) (fun k : Fin 8 => View.readAt (Elt F) arg3.view (rectR k).toLoadRect (harg3.unread x1)) (fun k : Fin 8 => View.readAt (Elt F) arg6.view (rectR k).toLoadRect (harg6.unread x4)) (fun k : Fin 8 => View.readAt (Elt F) arg7.view (rectG k).toLoadRect (harg7.unread x5)) (View.readAt (Elt F) arg11.view rectC.toLoadRect (harg11.unread xs0)) 8)) []).trans ?_
  rw [readAt_whole harg11, ld_rectC]; simp only [readAt_whole]; rfl

end Cert.KernelIdeal.Scan
-- ==== Proof.Region0.lean ====
module

public import proofs.«01_k».proof.Proof.Spec0

@[expose] public section

set_option maxRecDepth 16384

noncomputable section

namespace Cert.KernelIdeal.Scan

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the buffers' contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window 0's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Window 1's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Window 2's staging buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Window 3's staging buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Window 4's staging buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Window 5's staging buffer holds its block at every point. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- It holds at the first point only — by arithmetic of the point. -/
theorem hfirst0 : ∀ t : Fin cfg0.N, first0 (grid0.coords t) ↔ t.val % 8 = 0 :=
  (fun t => by
    have ht : t.val < 8 := Nat.lt_of_lt_of_eq t.isLt N_0
    have e0 : (grid0.coords t 0).val = t.val / 8 % 1 := Pipeline.Grid.coords_val t 0 (by decide) rfl
    have e1 : (grid0.coords t 1).val = t.val / 1 % 8 := Pipeline.Grid.coords_val t 1 (by decide) rfl
    simp only [first0, e0, e1]
    word_cmp
   : ∀ t : Fin grid0.N, first0 (grid0.coords t) ↔ t.val % 8 = 0)

abbrev ms0_0 (t : Fin cfg0.N) : Memref sig .tc .vmem S8x512x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x512x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x512x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x8x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8x512x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x8x128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x512x128 .bf16 := win0_8.stage (cfg0.slots t 8)
abbrev hs0_8 (t : Fin cfg0.N) : (ms0_8 t).IsWhole := hstage0_8 ((cfg0.slots t 8).cast nbuf0_8)

/-- The carried state's buffer. -/
abbrev scM0_0 : Memref sig .tc .vmem S8x128x128 .f32 := Memref.whole cc0_scratch0

/-- The region's other buffers and the generator register, with the carried state's buffer set apart. -/
theorem PhiA0_eq (c : Dev nD) :
    (Pipeline.ΦA spec0 c : sProp 𝕄)
      = iprop(iprop((∃ d, owns (c : Thread nD τ) scM0_0 fullShare d) ∗ Pipeline.scopedRestBut spec0 c [cc0_scratch0]) ∗ (∃ r, prngReg c r)) := by
  unfold Pipeline.ΦA; rw [Pipeline.scopedRest_split_of_list spec0 c [cc0_scratch0] (by decide) (by decide)]
  simp only [scM0_0, owns_whole]; try rfl

/-- The state carried into point `n`: zero before the first, then what each point leaves. -/
def car0 (c : Dev nD) : ℕ → Vec F S8x128x128 .f32
  | 0 => k0_pay2
  | n + 1 => if h : n < cfg0.N then cB (iblk0 V c 0 ⟨n, h⟩) (iblk0 V c 1 ⟨n, h⟩) (iblk0 V c 4 ⟨n, h⟩) (iblk0 V c 5 ⟨n, h⟩) (car0 c n) else k0_pay2

theorem car0_succ (c : Dev nD) (t : Fin cfg0.N) :
    car0 V c (t.val + 1) = cB (iblk0 V c 0 t) (iblk0 V c 1 t) (iblk0 V c 4 t) (iblk0 V c 5 t) (car0 V c t.val) := by
  rw [car0, dif_pos t.isLt]

/-- Between points: before the first, what the launch hands over; then the carried state's buffer at the state, the
    others at anything. -/
def PhiS0 (c : Dev nD) : ℕ → sProp 𝕄
  | 0 => Pipeline.ΦA spec0 c
  | n + 1 => iprop(iprop(owns (c : Thread nD τ) scM0_0 fullShare (car0 V c (n + 1)) ∗ Pipeline.scopedRestBut spec0 c [cc0_scratch0]) ∗ (∃ r, prngReg c r))

theorem PhiS0_pos (c : Dev nD) (n : ℕ) (hz : n ≠ 0) :
    PhiS0 V c n = iprop(iprop(owns (c : Thread nD τ) scM0_0 fullShare (car0 V c n) ∗ Pipeline.scopedRestBut spec0 c [cc0_scratch0]) ∗ (∃ r, prngReg c r)) := by
  cases n with
  | zero => exact absurd rfl hz
  | succ n => rfl

theorem PhiS0_out (c : Dev nD) (n : ℕ) (hz : n ≠ 0) : PhiS0 V c n ⊢ Pipeline.ΦA spec0 c := by
  rw [PhiS0_pos V c n hz, PhiA0_eq]
  iintro ⟨⟨HS0, HR1⟩, Hg⟩
  isplitl [HS0 HR1]
  · isplitl [HS0]
    · iexists _; iexact HS0
    iexact HR1
  iexact Hg

/-- The region's proof data: inputs at their blocks, outputs at what the chunk recursion gives from the carried state. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => oB (iblk0 V c 0 t) (iblk0 V c 1 t) (iblk0 V c 2 t) (iblk0 V c 3 t) (iblk0 V c 4 t) (iblk0 V c 5 t) (car0 V c t.val)
    | ⟨7, _⟩ => sB (iblk0 V c 0 t) (iblk0 V c 1 t) (iblk0 V c 4 t) (iblk0 V c 5 t) (car0 V c t.val)
    | ⟨8, _⟩ => vB (iblk0 V c 0 t) (iblk0 V c 1 t) (iblk0 V c 4 t) (iblk0 V c 5 t) (car0 V c t.val)
  Φ t := PhiS0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = oB (iblk0 V c 0 t) (iblk0 V c 1 t) (iblk0 V c 2 t) (iblk0 V c 3 t) (iblk0 V c 4 t) (iblk0 V c 5 t) (car0 V c t.val) := by dsimp only [dat0]
theorem after0_7 (c : Dev nD) (t : Fin cfg0.N) : (dat0 V c).after 7 t = sB (iblk0 V c 0 t) (iblk0 V c 1 t) (iblk0 V c 4 t) (iblk0 V c 5 t) (car0 V c t.val) := by dsimp only [dat0]
theorem after0_8 (c : Dev nD) (t : Fin cfg0.N) : (dat0 V c).after 8 t = vB (iblk0 V c 0 t) (iblk0 V c 1 t) (iblk0 V c 4 t) (iblk0 V c 5 t) (car0 V c t.val) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- What the body is called with at a point, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t))

set_option maxHeartbeats 1600000 in
/-- The body at any point: at the first point the state is reset, at a later one it is what the point before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6, after0_7, after0_8]
  rw [show (dat0 V c).Φ t.succ = PhiS0 V c (t.val + 1) from rfl, PhiS0_pos V c _ (Nat.succ_ne_zero _), car0_succ,
    show (dat0 V c).Φ t.castSucc = PhiS0 V c t.val from rfl]
  have hN : t.val < 8 := lt_of_lt_of_eq t.isLt (show cfg0.N = 8 from N_0)
  by_cases h0 : t.val % 8 = 0
  · have hz : t.val = 0 := by omega
    rw [hz, show PhiS0 V c 0 = Pipeline.ΦA spec0 c from rfl, show car0 V c 0 = k0_pay2 from rfl, PhiA0_eq]
    iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run0_A c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) ((hfirst0 t).mpr h0)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iintro ⟨H0, H1, H2, H3, H4, H5, ⟨%e6, H6⟩, ⟨%e7, H7⟩, ⟨%e8, H8⟩, ⟨%es0, HS0⟩⟩
    isplitl [HS0 HR1 Hg]
    · isplitl [HS0 HR1]
      · isplitl [HS0]
        · unfold owns; iexists _; isplitr
          swap; · iexact HS0
          ipureintro; exact read0_A_c c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) ((hfirst0 t).mpr h0)  _ _
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read0_A_o c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) ((hfirst0 t).mpr h0)  _ _
    isplitl [H7]
    · unfold owns; iexists _; isplitr
      swap; · iexact H7
      ipureintro; exact read0_A_s c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) ((hfirst0 t).mpr h0)  _ _
    unfold owns; iexists _; isplitr
    swap; · iexact H8
    ipureintro; exact read0_A_v c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) ((hfirst0 t).mpr h0)  _ _
  · have hz : t.val ≠ 0 := by omega
    rw [PhiS0_pos V c _ hz]
    iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run0_B c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (fun h => h0 ((hfirst0 t).mp h)) (car0 V c t.val)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [HS0]; · iexact HS0
    iintro ⟨H0, H1, H2, H3, H4, H5, ⟨%e6, H6⟩, ⟨%e7, H7⟩, ⟨%e8, H8⟩, ⟨%es0, HS0⟩⟩
    isplitl [HS0 HR1 Hg]
    · isplitl [HS0 HR1]
      · isplitl [HS0]
        · unfold owns; iexists _; isplitr
          swap; · iexact HS0
          ipureintro; exact read0_B_c c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (fun h => h0 ((hfirst0 t).mp h)) (car0 V c t.val) _ _
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact read0_B_o c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (fun h => h0 ((hfirst0 t).mp h)) (car0 V c t.val) _ _
    isplitl [H7]
    · unfold owns; iexists _; isplitr
      swap; · iexact H7
      ipureintro; exact read0_B_s c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (fun h => h0 ((hfirst0 t).mp h)) (car0 V c t.val) _ _
    unfold owns; iexists _; isplitr
    swap; · iexact H8
    ipureintro; exact read0_B_v c (grid0.coords t) _ _ _ _ _ _ _ _ _ _ _ _ _ _ _ _ _ _ _ _ (iblk0 V c 0 t) (iblk0 V c 1 t) (iblk0 V c 2 t) (iblk0 V c 3 t) (iblk0 V c 4 t) (iblk0 V c 5 t) (fun h => h0 ((hfirst0 t).mp h)) (car0 V c t.val) _ _

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Scan
-- ==== Proof.Run1.lean ====
module

public import proofs.«01_k».proof.Proof.Run0

@[expose] public section

set_option maxRecDepth 16384

noncomputable section

namespace Cert.KernelIdeal.Scan

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's condition: whether the point is the first along the scan's axis. -/
abbrev first1 (i : grid1.Coords) : Prop := (Scalar.cmpi .ne (Scalar.extui (Scalar.cmpi .eq (BitVec.ofNat 32 (i 1).val) 0#32)) 0#32) = 1#1

variable (c : Dev nD) (i : grid1.Coords) (arg2 : Memref sig .tc .vmem S8x512x128 .f32) (harg2 : arg2.IsWhole) (arg3 : Memref sig .tc .vmem S8x8x128x128 .f32) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S8x512x64 .bf16) (harg6 : arg6.IsWhole) (arg7 : Memref sig .tc .vmem S8x512x128 .bf16) (harg7 : arg7.IsWhole) (arg8 : Memref sig .tc .vmem S8x512x128 .bf16) (harg8 : arg8.IsWhole) (arg9 : Memref sig .tc .vmem S8x8x128 .f32) (harg9 : arg9.IsWhole) (arg10 : Memref sig .tc .vmem S8x512x128 .f32) (harg10 : arg10.IsWhole) (arg11 : Memref sig .tc .vmem S8x512x128 .f32) (harg11 : arg11.IsWhole) (arg12 : Memref sig .tc .vmem S8x512x64 .f32) (harg12 : arg12.IsWhole) (arg13 : Memref sig .tc .vmem S8x512x128 .f32) (harg13 : arg13.IsWhole) (arg14 : Memref sig .tc .vmem S8x512x128 .f32) (harg14 : arg14.IsWhole) (arg15 : Memref sig .tc .vmem S8x8x128 .f32) (harg15 : arg15.IsWhole) (arg16 : Memref sig .tc .vmem S8x128x128 .f32) (harg16 : arg16.IsWhole)
variable (x0 : Vec F S8x512x128 .f32) (x1 : Vec F S8x8x128x128 .f32) (x2 : Vec F S8x512x128 .bf16) (x3 : Vec F S8x512x128 .bf16) (x4 : Vec F S8x512x64 .bf16) (x5 : Vec F S8x512x128 .bf16) (x6 : Vec F S8x512x128 .bf16) (x7 : Vec F S8x8x128 .f32)

set_option maxHeartbeats 1000000 in
/-- The pieces the body's stores leave at the first point of the scan, where the carried state is reset. -/
def run1_A (hc0 : first1 i) :
    Σ' (L8 : List (View.Piece (Elt F) S8x512x128 .f32)), Σ' (L9 : List (View.Piece (Elt F) S8x512x128 .f32)), Σ' (L10 : List (View.Piece (Elt F) S8x512x64 .f32)), Σ' (L11 : List (View.Piece (Elt F) S8x512x128 .f32)), Σ' (L12 : List (View.Piece (Elt F) S8x512x128 .f32)), Σ' (L13 : List (View.Piece (Elt F) S8x8x128 .f32)), { LS0 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0)) -∗ K ⟨⟩))
          ⊢ wp frame (wpE (defs₀ (F := F)) Variants.none c none) E (cc1_gdn_scan_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc1_gdn_scan_bwd_eq_skeleton]; unfold cc1_gdn_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

set_option maxHeartbeats 1000000 in
/-- The pieces the body's stores leave at a later point, where the carried state is what the point before left. -/
def run1_B (hc0 : ¬first1 i) (xs0 : Vec F S8x128x128 .f32) :
    Σ' (L8 : List (View.Piece (Elt F) S8x512x128 .f32)), Σ' (L9 : List (View.Piece (Elt F) S8x512x128 .f32)), Σ' (L10 : List (View.Piece (Elt F) S8x512x64 .f32)), Σ' (L11 : List (View.Piece (Elt F) S8x512x128 .f32)), Σ' (L12 : List (View.Piece (Elt F) S8x512x128 .f32)), Σ' (L13 : List (View.Piece (Elt F) S8x8x128 .f32)), { LS0 : List (View.Piece (Elt F) S8x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f LS0)) -∗ K ⟨⟩))
          ⊢ wp frame (wpE (defs₀ (F := F)) Variants.none c none) E (cc1_gdn_scan_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc1_gdn_scan_bwd_eq_skeleton]; unfold cc1_gdn_scan_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg16.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Scan

end
-- ==== Proof.Spec1.lean ====
module

public import proofs.«01_k».proof.Proof.Run1
public import proofs.«01_k».proof.Proof.Spec0

@[expose] public section

set_option maxRecDepth 16384

noncomputable section

namespace Cert.KernelIdeal.Scan

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Chunks
variable (dO : Fin 8 → Vec F S8x64x128 .f32) (ss : Fin 8 → Vec F S8x1x128x128 .f32) (vn w : Fin 8 → Vec F S8x64x128 .bf16)
  (qk : Fin 8 → Vec F S8x64x64 .bf16) (qd kd : Fin 8 → Vec F S8x64x128 .bf16) (gl : Fin 8 → Vec F S8x1x128 .f32)

/-- The state's gradient once `n` of a point's chunks, the last ones, are done, from `s` at its end. -/
def dst (s : Vec F S8x128x128 .f32) : ℕ → Vec F S8x128x128 .f32
  | 0 => s
  | n + 1 => if h : n < 8 then
      k1_pay15 (dst s n) (k1_pay6 (dO (rk ⟨n, h⟩))) (k1_pay9 (dst s n) (dO (rk ⟨n, h⟩)) (qk (rk ⟨n, h⟩)) (kd (rk ⟨n, h⟩)))
        (qd (rk ⟨n, h⟩)) (gl (rk ⟨n, h⟩)) (w (rk ⟨n, h⟩))
    else dst s n

/-- The gradient of the state after chunk `k`. -/
abbrev dsC (s : Vec F S8x128x128 .f32) (k : Fin 8) : Vec F S8x128x128 .f32 := dst dO w qk qd kd gl s (7 - k.val)
/-- Chunk `k`'s gradient of the first argument. -/
def duC (s : Vec F S8x128x128 .f32) (k : Fin 8) : Vec F S8x64x128 .f32 := k1_pay8 (dsC dO w qk qd kd gl s k) (dO k) (qk k) (kd k)
/-- Chunk `k`'s gradient of the second argument. -/
def dwC (s : Vec F S8x128x128 .f32) (k : Fin 8) : Vec F S8x64x128 .f32 := k1_pay10 (dsC dO w qk qd kd gl s k) (ss k) (dO k) (qk k) (kd k)
/-- Chunk `k`'s gradient of the intra-chunk matrix. -/
def dqkC (k : Fin 8) : Vec F S8x64x64 .f32 := k1_pay11 (k1_pay6 (dO k)) (k1_pay7 (vn k)) (constant S8x64x64 .f32 0x00000000#32)
/-- Chunk `k`'s gradient of the decayed queries. -/
def dqdC (k : Fin 8) : Vec F S8x64x128 .f32 := k1_pay12 (k1_pay4 (ss k)) (k1_pay6 (dO k))
/-- Chunk `k`'s gradient of the decayed keys. -/
def dkdC (s : Vec F S8x128x128 .f32) (k : Fin 8) : Vec F S8x64x128 .f32 := k1_pay13 (k1_pay5 (dsC dO w qk qd kd gl s k)) (k1_pay7 (vn k))
/-- Chunk `k`'s gradient of the decay. -/
def dglC (s : Vec F S8x128x128 .f32) (k : Fin 8) : Vec F S8x1x128 .f32 := k1_pay14 (dsC dO w qk qd kd gl s k) (k1_pay3 (ss k))
end Chunks

section Block
variable (x0 : Vec F S8x512x128 .f32) (x1 : Vec F S8x8x128x128 .f32) (x2 : Vec F S8x512x128 .bf16) (x3 : Vec F S8x512x128 .bf16) (x4 : Vec F S8x512x64 .bf16) (x5 : Vec F S8x512x128 .bf16) (x6 : Vec F S8x512x128 .bf16) (x7 : Vec F S8x8x128 .f32)

/-- A point's chunks of the saved states. -/
abbrev bs (x1 : Vec F S8x8x128x128 .f32) : Fin 8 → Vec F S8x1x128x128 .f32 := fun k => View.ld x1 (rectS k)

/-! What a point leaves in its output blocks, from the state's gradient `s` after it. -/
def duB (s : Vec F S8x128x128 .f32) : Vec F S8x512x128 .f32 := rowsR (e := .f32) (duC (bu x0) (bw x3) (bq x4) (bw x5) (bw x6) (bg x7) s)
def dwB (s : Vec F S8x128x128 .f32) : Vec F S8x512x128 .f32 := rowsR (e := .f32) (dwC (bu x0) (bs x1) (bw x3) (bq x4) (bw x5) (bw x6) (bg x7) s)
def dqkB : Vec F S8x512x64 .f32 := rowsQ (e := .f32) (dqkC (bu x0) (bw x2))
def dqdB : Vec F S8x512x128 .f32 := rowsR (e := .f32) (dqdC (bu x0) (bs x1))
def dkdB (s : Vec F S8x128x128 .f32) : Vec F S8x512x128 .f32 := rowsR (e := .f32) (dkdC (bu x0) (bw x2) (bw x3) (bq x4) (bw x5) (bw x6) (bg x7) s)
def dglB (s : Vec F S8x128x128 .f32) : Vec F S8x8x128 .f32 := rowsG (e := .f32) (dglC (bu x0) (bs x1) (bw x3) (bq x4) (bw x5) (bw x6) (bg x7) s)
/-- The state's gradient it hands to the next point. -/
def dcB (s : Vec F S8x128x128 .f32) : Vec F S8x128x128 .f32 := k0_pay1 (dst (bu x0) (bw x3) (bq x4) (bw x5) (bw x6) (bg x7) s 8)
end Block
variable (c : Dev nD) (i : grid1.Coords) (arg2 : Memref sig .tc .vmem S8x512x128 .f32) (harg2 : arg2.IsWhole) (arg3 : Memref sig .tc .vmem S8x8x128x128 .f32) (harg3 : arg3.IsWhole) (arg4 : Memref sig .tc .vmem S8x512x128 .bf16) (harg4 : arg4.IsWhole) (arg5 : Memref sig .tc .vmem S8x512x128 .bf16) (harg5 : arg5.IsWhole) (arg6 : Memref sig .tc .vmem S8x512x64 .bf16) (harg6 : arg6.IsWhole) (arg7 : Memref sig .tc .vmem S8x512x128 .bf16) (harg7 : arg7.IsWhole) (arg8 : Memref sig .tc .vmem S8x512x128 .bf16) (harg8 : arg8.IsWhole) (arg9 : Memref sig .tc .vmem S8x8x128 .f32) (harg9 : arg9.IsWhole) (arg10 : Memref sig .tc .vmem S8x512x128 .f32) (harg10 : arg10.IsWhole) (arg11 : Memref sig .tc .vmem S8x512x128 .f32) (harg11 : arg11.IsWhole) (arg12 : Memref sig .tc .vmem S8x512x64 .f32) (harg12 : arg12.IsWhole) (arg13 : Memref sig .tc .vmem S8x512x128 .f32) (harg13 : arg13.IsWhole) (arg14 : Memref sig .tc .vmem S8x512x128 .f32) (harg14 : arg14.IsWhole) (arg15 : Memref sig .tc .vmem S8x8x128 .f32) (harg15 : arg15.IsWhole) (arg16 : Memref sig .tc .vmem S8x128x128 .f32) (harg16 : arg16.IsWhole)
variable (x0 : Vec F S8x512x128 .f32) (x1 : Vec F S8x8x128x128 .f32) (x2 : Vec F S8x512x128 .bf16) (x3 : Vec F S8x512x128 .bf16) (x4 : Vec F S8x512x64 .bf16) (x5 : Vec F S8x512x128 .bf16) (x6 : Vec F S8x512x128 .bf16) (x7 : Vec F S8x8x128 .f32)

theorem zero1A : run1_A.sl.v3 (F := F) c arg16 = k0_pay2 :=
  View.readCov_full arg16.view _ _ _ _

theorem run1_A_du (hc0 : first1 i) :
    (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).1 = List.ofFn fun k : Fin 8 => ⟨rectR (id k), duC (fun k : Fin 8 => View.readAt (Elt F) arg2.view (rectR k).toLoadRect (harg2.unread x0)) (fun k : Fin 8 => View.readAt (Elt F) arg5.view (rectR k).toLoadRect (harg5.unread x3)) (fun k : Fin 8 => View.readAt (Elt F) arg6.view (rectQ k).toLoadRect (harg6.unread x4)) (fun k : Fin 8 => View.readAt (Elt F) arg7.view (rectR k).toLoadRect (harg7.unread x5)) (fun k : Fin 8 => View.readAt (Elt F) arg8.view (rectR k).toLoadRect (harg8.unread x6)) (fun k : Fin 8 => View.readAt (Elt F) arg9.view (rectG k).toLoadRect (harg9.unread x7)) (run1_A.sl.v3 c arg16) (id k)⟩ := by
  sl_kernel_rfl
theorem read1_A_du (hc0 : first1 i) {κ : Kind} {sp : Space} (v : View sig κ sp S8x512x128 .f32) (f : v.ty.Contents (Elt F)) :
    v.read (Elt F) (v.writes (Elt F) f (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).1) = duB x0 x3 x4 x5 x6 x7 k0_pay2 := by
  rw [run1_A_du]; rw [zero1A]; simp only [readAt_whole]
  exact read_R id Function.surjective_id v f _

theorem run1_A_dw (hc0 : first1 i) :
    (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).2.1 = List.ofFn fun k : Fin 8 => ⟨rectR (id k), dwC (fun k : Fin 8 => View.readAt (Elt F) arg2.view (rectR k).toLoadRect (harg2.unread x0)) (fun k : Fin 8 => View.readAt (Elt F) arg3.view (rectS k).toLoadRect (harg3.unread x1)) (fun k : Fin 8 => View.readAt (Elt F) arg5.view (rectR k).toLoadRect (harg5.unread x3)) (fun k : Fin 8 => View.readAt (Elt F) arg6.view (rectQ k).toLoadRect (harg6.unread x4)) (fun k : Fin 8 => View.readAt (Elt F) arg7.view (rectR k).toLoadRect (harg7.unread x5)) (fun k : Fin 8 => View.readAt (Elt F) arg8.view (rectR k).toLoadRect (harg8.unread x6)) (fun k : Fin 8 => View.readAt (Elt F) arg9.view (rectG k).toLoadRect (harg9.unread x7)) (run1_A.sl.v3 c arg16) (id k)⟩ := by
  sl_kernel_rfl
theorem read1_A_dw (hc0 : first1 i) {κ : Kind} {sp : Space} (v : View sig κ sp S8x512x128 .f32) (f : v.ty.Contents (Elt F)) :
    v.read (Elt F) (v.writes (Elt F) f (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).2.1) = dwB x0 x1 x3 x4 x5 x6 x7 k0_pay2 := by
  rw [run1_A_dw]; rw [zero1A]; simp only [readAt_whole]
  exact read_R id Function.surjective_id v f _

theorem run1_A_dqk (hc0 : first1 i) :
    (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).2.2.1 = List.ofFn fun k : Fin 8 => ⟨rectQ (id k), dqkC (fun k : Fin 8 => View.readAt (Elt F) arg2.view (rectR k).toLoadRect (harg2.unread x0)) (fun k : Fin 8 => View.readAt (Elt F) arg4.view (rectR k).toLoadRect (harg4.unread x2)) (id k)⟩ := by
  sl_kernel_rfl
theorem read1_A_dqk (hc0 : first1 i) {κ : Kind} {sp : Space} (v : View sig κ sp S8x512x64 .f32) (f : v.ty.Contents (Elt F)) :
    v.read (Elt F) (v.writes (Elt F) f (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).2.2.1) = dqkB x0 x2 := by
  rw [run1_A_dqk]; simp only [readAt_whole]
  exact read_Q id Function.surjective_id v f _

theorem run1_A_dqd (hc0 : first1 i) :
    (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).2.2.2.1 = List.ofFn fun k : Fin 8 => ⟨rectR (id k), dqdC (fun k : Fin 8 => View.readAt (Elt F) arg2.view (rectR k).toLoadRect (harg2.unread x0)) (fun k : Fin 8 => View.readAt (Elt F) arg3.view (rectS k).toLoadRect (harg3.unread x1)) (id k)⟩ := by
  sl_kernel_rfl
theorem read1_A_dqd (hc0 : first1 i) {κ : Kind} {sp : Space} (v : View sig κ sp S8x512x128 .f32) (f : v.ty.Contents (Elt F)) :
    v.read (Elt F) (v.writes (Elt F) f (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).2.2.2.1) = dqdB x0 x1 := by
  rw [run1_A_dqd]; simp only [readAt_whole]
  exact read_R id Function.surjective_id v f _

theorem run1_A_dkd (hc0 : first1 i) :
    (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).2.2.2.2.1 = List.ofFn fun k : Fin 8 => ⟨rectR (id k), dkdC (fun k : Fin 8 => View.readAt (Elt F) arg2.view (rectR k).toLoadRect (harg2.unread x0)) (fun k : Fin 8 => View.readAt (Elt F) arg4.view (rectR k).toLoadRect (harg4.unread x2)) (fun k : Fin 8 => View.readAt (Elt F) arg5.view (rectR k).toLoadRect (harg5.unread x3)) (fun k : Fin 8 => View.readAt (Elt F) arg6.view (rectQ k).toLoadRect (harg6.unread x4)) (fun k : Fin 8 => View.readAt (Elt F) arg7.view (rectR k).toLoadRect (harg7.unread x5)) (fun k : Fin 8 => View.readAt (Elt F) arg8.view (rectR k).toLoadRect (harg8.unread x6)) (fun k : Fin 8 => View.readAt (Elt F) arg9.view (rectG k).toLoadRect (harg9.unread x7)) (run1_A.sl.v3 c arg16) (id k)⟩ := by
  sl_kernel_rfl
theorem read1_A_dkd (hc0 : first1 i) {κ : Kind} {sp : Space} (v : View sig κ sp S8x512x128 .f32) (f : v.ty.Contents (Elt F)) :
    v.read (Elt F) (v.writes (Elt F) f (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).2.2.2.2.1) = dkdB x0 x2 x3 x4 x5 x6 x7 k0_pay2 := by
  rw [run1_A_dkd]; rw [zero1A]; simp only [readAt_whole]
  exact read_R id Function.surjective_id v f _

theorem run1_A_dgl (hc0 : first1 i) :
    (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).2.2.2.2.2.1 = List.ofFn fun k : Fin 8 => ⟨rectG (id k), dglC (fun k : Fin 8 => View.readAt (Elt F) arg2.view (rectR k).toLoadRect (harg2.unread x0)) (fun k : Fin 8 => View.readAt (Elt F) arg3.view (rectS k).toLoadRect (harg3.unread x1)) (fun k : Fin 8 => View.readAt (Elt F) arg5.view (rectR k).toLoadRect (harg5.unread x3)) (fun k : Fin 8 => View.readAt (Elt F) arg6.view (rectQ k).toLoadRect (harg6.unread x4)) (fun k : Fin 8 => View.readAt (Elt F) arg7.view (rectR k).toLoadRect (harg7.unread x5)) (fun k : Fin 8 => View.readAt (Elt F) arg8.view (rectR k).toLoadRect (harg8.unread x6)) (fun k : Fin 8 => View.readAt (Elt F) arg9.view (rectG k).toLoadRect (harg9.unread x7)) (run1_A.sl.v3 c arg16) (id k)⟩ := by
  sl_kernel_rfl
theorem read1_A_dgl (hc0 : first1 i) {κ : Kind} {sp : Space} (v : View sig κ sp S8x8x128 .f32) (f : v.ty.Contents (Elt F)) :
    v.read (Elt F) (v.writes (Elt F) f (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).2.2.2.2.2.1) = dglB x0 x1 x3 x4 x5 x6 x7 k0_pay2 := by
  rw [run1_A_dgl]; rw [zero1A]; simp only [readAt_whole]
  exact read_G id Function.surjective_id v f _

theorem read1_A_c (hc0 : first1 i) {κ : Kind} {sp : Space} (v : View sig κ sp S8x128x128 .f32) (f : v.ty.Contents (Elt F)) :
    v.read (Elt F) (v.writes (Elt F) f (run1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0).2.2.2.2.2.2.1) = dcB x0 x3 x4 x5 x6 x7 k0_pay2 := by
  refine (read_C v f (k0_pay1 (dst (fun k : Fin 8 => View.readAt (Elt F) arg2.view (rectR k).toLoadRect (harg2.unread x0)) (fun k : Fin 8 => View.readAt (Elt F) arg5.view (rectR k).toLoadRect (harg5.unread x3)) (fun k : Fin 8 => View.readAt (Elt F) arg6.view (rectQ k).toLoadRect (harg6.unread x4)) (fun k : Fin 8 => View.readAt (Elt F) arg7.view (rectR k).toLoadRect (harg7.unread x5)) (fun k : Fin 8 => View.readAt (Elt F) arg8.view (rectR k).toLoadRect (harg8.unread x6)) (fun k : Fin 8 => View.readAt (Elt F) arg9.view (rectG k).toLoadRect (harg9.unread x7)) (run1_A.sl.v3 c arg16) 8)) [⟨rectC, k0_pay2⟩]).trans ?_
  rw [zero1A]; simp only [readAt_whole]; rfl

theorem run1_B_du (hc0 : ¬first1 i) (xs0 : Vec F S8x128x128 .f32) :
    (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).1 = List.ofFn fun k : Fin 8 => ⟨rectR (id k), duC (fun k : Fin 8 => View.readAt (Elt F) arg2.view (rectR k).toLoadRect (harg2.unread x0)) (fun k : Fin 8 => View.readAt (Elt F) arg5.view (rectR k).toLoadRect (harg5.unread x3)) (fun k : Fin 8 => View.readAt (Elt F) arg6.view (rectQ k).toLoadRect (harg6.unread x4)) (fun k : Fin 8 => View.readAt (Elt F) arg7.view (rectR k).toLoadRect (harg7.unread x5)) (fun k : Fin 8 => View.readAt (Elt F) arg8.view (rectR k).toLoadRect (harg8.unread x6)) (fun k : Fin 8 => View.readAt (Elt F) arg9.view (rectG k).toLoadRect (harg9.unread x7)) (View.readAt (Elt F) arg16.view rectC.toLoadRect (harg16.unread xs0)) (id k)⟩ := by
  sl_kernel_rfl
theorem read1_B_du (hc0 : ¬first1 i) (xs0 : Vec F S8x128x128 .f32) {κ : Kind} {sp : Space} (v : View sig κ sp S8x512x128 .f32) (f : v.ty.Contents (Elt F)) :
    v.read (Elt F) (v.writes (Elt F) f (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).1) = duB x0 x3 x4 x5 x6 x7 xs0 := by
  rw [run1_B_du]; rw [readAt_whole harg16, ld_rectC]; simp only [readAt_whole]
  exact read_R id Function.surjective_id v f _

theorem run1_B_dw (hc0 : ¬first1 i) (xs0 : Vec F S8x128x128 .f32) :
    (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).2.1 = List.ofFn fun k : Fin 8 => ⟨rectR (id k), dwC (fun k : Fin 8 => View.readAt (Elt F) arg2.view (rectR k).toLoadRect (harg2.unread x0)) (fun k : Fin 8 => View.readAt (Elt F) arg3.view (rectS k).toLoadRect (harg3.unread x1)) (fun k : Fin 8 => View.readAt (Elt F) arg5.view (rectR k).toLoadRect (harg5.unread x3)) (fun k : Fin 8 => View.readAt (Elt F) arg6.view (rectQ k).toLoadRect (harg6.unread x4)) (fun k : Fin 8 => View.readAt (Elt F) arg7.view (rectR k).toLoadRect (harg7.unread x5)) (fun k : Fin 8 => View.readAt (Elt F) arg8.view (rectR k).toLoadRect (harg8.unread x6)) (fun k : Fin 8 => View.readAt (Elt F) arg9.view (rectG k).toLoadRect (harg9.unread x7)) (View.readAt (Elt F) arg16.view rectC.toLoadRect (harg16.unread xs0)) (id k)⟩ := by
  sl_kernel_rfl
theorem read1_B_dw (hc0 : ¬first1 i) (xs0 : Vec F S8x128x128 .f32) {κ : Kind} {sp : Space} (v : View sig κ sp S8x512x128 .f32) (f : v.ty.Contents (Elt F)) :
    v.read (Elt F) (v.writes (Elt F) f (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).2.1) = dwB x0 x1 x3 x4 x5 x6 x7 xs0 := by
  rw [run1_B_dw]; rw [readAt_whole harg16, ld_rectC]; simp only [readAt_whole]
  exact read_R id Function.surjective_id v f _

theorem run1_B_dqk (hc0 : ¬first1 i) (xs0 : Vec F S8x128x128 .f32) :
    (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).2.2.1 = List.ofFn fun k : Fin 8 => ⟨rectQ (id k), dqkC (fun k : Fin 8 => View.readAt (Elt F) arg2.view (rectR k).toLoadRect (harg2.unread x0)) (fun k : Fin 8 => View.readAt (Elt F) arg4.view (rectR k).toLoadRect (harg4.unread x2)) (id k)⟩ := by
  sl_kernel_rfl
theorem read1_B_dqk (hc0 : ¬first1 i) (xs0 : Vec F S8x128x128 .f32) {κ : Kind} {sp : Space} (v : View sig κ sp S8x512x64 .f32) (f : v.ty.Contents (Elt F)) :
    v.read (Elt F) (v.writes (Elt F) f (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).2.2.1) = dqkB x0 x2 := by
  rw [run1_B_dqk]; simp only [readAt_whole]
  exact read_Q id Function.surjective_id v f _

theorem run1_B_dqd (hc0 : ¬first1 i) (xs0 : Vec F S8x128x128 .f32) :
    (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).2.2.2.1 = List.ofFn fun k : Fin 8 => ⟨rectR (id k), dqdC (fun k : Fin 8 => View.readAt (Elt F) arg2.view (rectR k).toLoadRect (harg2.unread x0)) (fun k : Fin 8 => View.readAt (Elt F) arg3.view (rectS k).toLoadRect (harg3.unread x1)) (id k)⟩ := by
  sl_kernel_rfl
theorem read1_B_dqd (hc0 : ¬first1 i) (xs0 : Vec F S8x128x128 .f32) {κ : Kind} {sp : Space} (v : View sig κ sp S8x512x128 .f32) (f : v.ty.Contents (Elt F)) :
    v.read (Elt F) (v.writes (Elt F) f (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).2.2.2.1) = dqdB x0 x1 := by
  rw [run1_B_dqd]; simp only [readAt_whole]
  exact read_R id Function.surjective_id v f _

theorem run1_B_dkd (hc0 : ¬first1 i) (xs0 : Vec F S8x128x128 .f32) :
    (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).2.2.2.2.1 = List.ofFn fun k : Fin 8 => ⟨rectR (id k), dkdC (fun k : Fin 8 => View.readAt (Elt F) arg2.view (rectR k).toLoadRect (harg2.unread x0)) (fun k : Fin 8 => View.readAt (Elt F) arg4.view (rectR k).toLoadRect (harg4.unread x2)) (fun k : Fin 8 => View.readAt (Elt F) arg5.view (rectR k).toLoadRect (harg5.unread x3)) (fun k : Fin 8 => View.readAt (Elt F) arg6.view (rectQ k).toLoadRect (harg6.unread x4)) (fun k : Fin 8 => View.readAt (Elt F) arg7.view (rectR k).toLoadRect (harg7.unread x5)) (fun k : Fin 8 => View.readAt (Elt F) arg8.view (rectR k).toLoadRect (harg8.unread x6)) (fun k : Fin 8 => View.readAt (Elt F) arg9.view (rectG k).toLoadRect (harg9.unread x7)) (View.readAt (Elt F) arg16.view rectC.toLoadRect (harg16.unread xs0)) (id k)⟩ := by
  sl_kernel_rfl
theorem read1_B_dkd (hc0 : ¬first1 i) (xs0 : Vec F S8x128x128 .f32) {κ : Kind} {sp : Space} (v : View sig κ sp S8x512x128 .f32) (f : v.ty.Contents (Elt F)) :
    v.read (Elt F) (v.writes (Elt F) f (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).2.2.2.2.1) = dkdB x0 x2 x3 x4 x5 x6 x7 xs0 := by
  rw [run1_B_dkd]; rw [readAt_whole harg16, ld_rectC]; simp only [readAt_whole]
  exact read_R id Function.surjective_id v f _

theorem run1_B_dgl (hc0 : ¬first1 i) (xs0 : Vec F S8x128x128 .f32) :
    (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).2.2.2.2.2.1 = List.ofFn fun k : Fin 8 => ⟨rectG (id k), dglC (fun k : Fin 8 => View.readAt (Elt F) arg2.view (rectR k).toLoadRect (harg2.unread x0)) (fun k : Fin 8 => View.readAt (Elt F) arg3.view (rectS k).toLoadRect (harg3.unread x1)) (fun k : Fin 8 => View.readAt (Elt F) arg5.view (rectR k).toLoadRect (harg5.unread x3)) (fun k : Fin 8 => View.readAt (Elt F) arg6.view (rectQ k).toLoadRect (harg6.unread x4)) (fun k : Fin 8 => View.readAt (Elt F) arg7.view (rectR k).toLoadRect (harg7.unread x5)) (fun k : Fin 8 => View.readAt (Elt F) arg8.view (rectR k).toLoadRect (harg8.unread x6)) (fun k : Fin 8 => View.readAt (Elt F) arg9.view (rectG k).toLoadRect (harg9.unread x7)) (View.readAt (Elt F) arg16.view rectC.toLoadRect (harg16.unread xs0)) (id k)⟩ := by
  sl_kernel_rfl
theorem read1_B_dgl (hc0 : ¬first1 i) (xs0 : Vec F S8x128x128 .f32) {κ : Kind} {sp : Space} (v : View sig κ sp S8x8x128 .f32) (f : v.ty.Contents (Elt F)) :
    v.read (Elt F) (v.writes (Elt F) f (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).2.2.2.2.2.1) = dglB x0 x1 x3 x4 x5 x6 x7 xs0 := by
  rw [run1_B_dgl]; rw [readAt_whole harg16, ld_rectC]; simp only [readAt_whole]
  exact read_G id Function.surjective_id v f _

theorem read1_B_c (hc0 : ¬first1 i) (xs0 : Vec F S8x128x128 .f32) {κ : Kind} {sp : Space} (v : View sig κ sp S8x128x128 .f32) (f : v.ty.Contents (Elt F)) :
    v.read (Elt F) (v.writes (Elt F) f (run1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 hc0 xs0).2.2.2.2.2.2.1) = dcB x0 x3 x4 x5 x6 x7 xs0 := by
  refine (read_C v f (k0_pay1 (dst (fun k : Fin 8 => View.readAt (Elt F) arg2.view (rectR k).toLoadRect (harg2.unread x0)) (fun k : Fin 8 => View.readAt (Elt F) arg5.view (rectR k).toLoadRect (harg5.unread x3)) (fun k : Fin 8 => View.readAt (Elt F) arg6.view (rectQ k).toLoadRect (harg6.unread x4)) (fun k : Fin 8 => View.readAt (Elt F) arg7.view (rectR k).toLoadRect (harg7.unread x5)) (fun k : Fin 8 => View.readAt (Elt F) arg8.view (rectR k).toLoadRect (harg8.unread x6)) (fun k : Fin 8 => View.readAt (Elt F) arg9.view (rectG k).toLoadRect (harg9.unread x7)) (View.readAt (Elt F) arg16.view rectC.toLoadRect (harg16.unread xs0)) 8)) []).trans ?_
  rw [readAt_whole harg16, ld_rectC]; simp only [readAt_whole]; rfl

end Cert.KernelIdeal.Scan
-- ==== Proof.Region1.lean ====
module

public import proofs.«01_k».proof.Proof.Spec1

@[expose] public section

set_option maxRecDepth 16384

noncomputable section

namespace Cert.KernelIdeal.Scan

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions

-- the buffers' contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Window 0's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Window 1's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Window 2's staging buffer holds its block at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Window 3's staging buffer holds its block at every point. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Window 4's staging buffer holds its block at every point. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Window 5's staging buffer holds its block at every point. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Window 6's staging buffer holds its block at every point. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Window 7's staging buffer holds its block at every point. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- It holds at the first point only — by arithmetic of the point. -/
theorem hfirst1 : ∀ t : Fin cfg1.N, first1 (grid1.coords t) ↔ t.val % 8 = 0 :=
  (fun t => by
    have ht : t.val < 8 := Nat.lt_of_lt_of_eq t.isLt N_1
    have e0 : (grid1.coords t 0).val = t.val / 8 % 1 := Pipeline.Grid.coords_val t 0 (by decide) rfl
    have e1 : (grid1.coords t 1).val = t.val / 1 % 8 := Pipeline.Grid.coords_val t 1 (by decide) rfl
    simp only [first1, e0, e1]
    word_cmp
   : ∀ t : Fin grid1.N, first1 (grid1.coords t) ↔ t.val % 8 = 0)

abbrev ms1_0 (t : Fin cfg1.N) : Memref sig .tc .vmem S8x512x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x8x128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x512x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x512x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x512x64 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S8x512x128 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S8x512x128 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S8x8x128 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S8x512x128 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S8x512x128 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S8x512x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S8x512x128 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S8x512x128 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S8x8x128 .f32 := win1_13.stage (cfg1.slots t 13)
abbrev hs1_13 (t : Fin cfg1.N) : (ms1_13 t).IsWhole := hstage1_13 ((cfg1.slots t 13).cast nbuf1_13)

/-- The carried state's buffer. -/
abbrev scM1_0 : Memref sig .tc .vmem S8x128x128 .f32 := Memref.whole cc1_scratch0

/-- The region's other buffers and the generator register, with the carried state's buffer set apart. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA; rw [Pipeline.scopedRest_split_of_list spec1 c [cc1_scratch0] (by decide) (by decide)]
  simp only [scM1_0, owns_whole]; try rfl

/-- The state carried into point `n`: zero before the first, then what each point leaves. -/
def car1 (c : Dev nD) : ℕ → Vec F S8x128x128 .f32
  | 0 => k0_pay2
  | n + 1 => if h : n < cfg1.N then dcB (iblk1 V c 0 ⟨n, h⟩) (iblk1 V c 3 ⟨n, h⟩) (iblk1 V c 4 ⟨n, h⟩) (iblk1 V c 5 ⟨n, h⟩) (iblk1 V c 6 ⟨n, h⟩) (iblk1 V c 7 ⟨n, h⟩) (car1 c n) else k0_pay2

theorem car1_succ (c : Dev nD) (t : Fin cfg1.N) :
    car1 V c (t.val + 1) = dcB (iblk1 V c 0 t) (iblk1 V c 3 t) (iblk1 V c 4 t) (iblk1 V c 5 t) (iblk1 V c 6 t) (iblk1 V c 7 t) (car1 V c t.val) := by
  rw [car1, dif_pos t.isLt]

/-- Between points: before the first, what the launch hands over; then the carried state's buffer at the state, the
    others at anything. -/
def PhiS1 (c : Dev nD) : ℕ → sProp 𝕄
  | 0 => Pipeline.ΦA spec1 c
  | n + 1 => iprop(iprop(owns (c : Thread nD τ) scM1_0 fullShare (car1 V c (n + 1)) ∗ Pipeline.scopedRestBut spec1 c [cc1_scratch0]) ∗ (∃ r, prngReg c r))

theorem PhiS1_pos (c : Dev nD) (n : ℕ) (hz : n ≠ 0) :
    PhiS1 V c n = iprop(iprop(owns (c : Thread nD τ) scM1_0 fullShare (car1 V c n) ∗ Pipeline.scopedRestBut spec1 c [cc1_scratch0]) ∗ (∃ r, prngReg c r)) := by
  cases n with
  | zero => exact absurd rfl hz
  | succ n => rfl

theorem PhiS1_out (c : Dev nD) (n : ℕ) (hz : n ≠ 0) : PhiS1 V c n ⊢ Pipeline.ΦA spec1 c := by
  rw [PhiS1_pos V c n hz, PhiA1_eq]
  iintro ⟨⟨HS0, HR1⟩, Hg⟩
  isplitl [HS0 HR1]
  · isplitl [HS0]
    · iexists _; iexact HS0
    iexact HR1
  iexact Hg

/-- The region's proof data: inputs at their blocks, outputs at what the chunk recursion gives from the carried state. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => duB (iblk1 V c 0 t) (iblk1 V c 3 t) (iblk1 V c 4 t) (iblk1 V c 5 t) (iblk1 V c 6 t) (iblk1 V c 7 t) (car1 V c t.val)
    | ⟨9, _⟩ => dwB (iblk1 V c 0 t) (iblk1 V c 1 t) (iblk1 V c 3 t) (iblk1 V c 4 t) (iblk1 V c 5 t) (iblk1 V c 6 t) (iblk1 V c 7 t) (car1 V c t.val)
    | ⟨10, _⟩ => dqkB (iblk1 V c 0 t) (iblk1 V c 2 t)
    | ⟨11, _⟩ => dqdB (iblk1 V c 0 t) (iblk1 V c 1 t)
    | ⟨12, _⟩ => dkdB (iblk1 V c 0 t) (iblk1 V c 2 t) (iblk1 V c 3 t) (iblk1 V c 4 t) (iblk1 V c 5 t) (iblk1 V c 6 t) (iblk1 V c 7 t) (car1 V c t.val)
    | ⟨13, _⟩ => dglB (iblk1 V c 0 t) (iblk1 V c 1 t) (iblk1 V c 3 t) (iblk1 V c 4 t) (iblk1 V c 5 t) (iblk1 V c 6 t) (iblk1 V c 7 t) (car1 V c t.val)
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = duB (iblk1 V c 0 t) (iblk1 V c 3 t) (iblk1 V c 4 t) (iblk1 V c 5 t) (iblk1 V c 6 t) (iblk1 V c 7 t) (car1 V c t.val) := by dsimp only [dat1]
theorem after1_9 (c : Dev nD) (t : Fin cfg1.N) : (dat1 V c).after 9 t = dwB (iblk1 V c 0 t) (iblk1 V c 1 t) (iblk1 V c 3 t) (iblk1 V c 4 t) (iblk1 V c 5 t) (iblk1 V c 6 t) (iblk1 V c 7 t) (car1 V c t.val) := by dsimp only [dat1]
theorem after1_10 (c : Dev nD) (t : Fin cfg1.N) : (dat1 V c).after 10 t = dqkB (iblk1 V c 0 t) (iblk1 V c 2 t) := by dsimp only [dat1]
theorem after1_11 (c : Dev nD) (t : Fin cfg1.N) : (dat1 V c).after 11 t = dqdB (iblk1 V c 0 t) (iblk1 V c 1 t) := by dsimp only [dat1]
theorem after1_12 (c : Dev nD) (t : Fin cfg1.N) : (dat1 V c).after 12 t = dkdB (iblk1 V c 0 t) (iblk1 V c 2 t) (iblk1 V c 3 t) (iblk1 V c 4 t) (iblk1 V c 5 t) (iblk1 V c 6 t) (iblk1 V c 7 t) (car1 V c t.val) := by dsimp only [dat1]
theorem after1_13 (c : Dev nD) (t : Fin cfg1.N) : (dat1 V c).after 13 t = dglB (iblk1 V c 0 t) (iblk1 V c 1 t) (iblk1 V c 3 t) (iblk1 V c 4 t) (iblk1 V c 5 t) (iblk1 V c 6 t) (iblk1 V c 7 t) (car1 V c t.val) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-- What the body is called with at a point, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t))

set_option maxHeartbeats 1600000 in
/-- The body at any point: at the first point the state is reset, at a later one it is what the point before left. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl,
    after1_0, after1_1, after1_2, after1_3, after1_4, after1_5, after1_6, after1_7, after1_8, after1_9, after1_10, after1_11, after1_12, after1_13]
  rw [show (dat1 V c).Φ t.succ = PhiS1 V c (t.val + 1) from rfl, PhiS1_pos V c _ (Nat.succ_ne_zero _), car1_succ,
    show (dat1 V c).Φ t.castSucc = PhiS1 V c t.val from rfl]
  have hN : t.val < 8 := lt_of_lt_of_eq t.isLt (show cfg1.N = 8 from N_1)
  by_cases h0 : t.val % 8 = 0
  · have hz : t.val = 0 := by omega
    rw [hz, show PhiS1 V c 0 = Pipeline.ΦA spec1 c from rfl, show car1 V c 0 = k0_pay2 from rfl, PhiA1_eq]
    iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((run1_A c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) ((hfirst1 t).mpr h0)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
    isplitl [HS0 HR1 Hg]
    · isplitl [HS0 HR1]
      · isplitl [HS0]
        · unfold owns; iexists _; isplitr
          swap; · iexact HS0
          ipureintro; exact read1_A_c c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) ((hfirst1 t).mpr h0)  _ _
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact read1_A_du c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) ((hfirst1 t).mpr h0)  _ _
    isplitl [H9]
    · unfold owns; iexists _; isplitr
      swap; · iexact H9
      ipureintro; exact read1_A_dw c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) ((hfirst1 t).mpr h0)  _ _
    isplitl [H10]
    · unfold owns; iexists _; isplitr
      swap; · iexact H10
      ipureintro; exact read1_A_dqk c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) ((hfirst1 t).mpr h0)  _ _
    isplitl [H11]
    · unfold owns; iexists _; isplitr
      swap; · iexact H11
      ipureintro; exact read1_A_dqd c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) ((hfirst1 t).mpr h0)  _ _
    isplitl [H12]
    · unfold owns; iexists _; isplitr
      swap; · iexact H12
      ipureintro; exact read1_A_dkd c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) ((hfirst1 t).mpr h0)  _ _
    unfold owns; iexists _; isplitr
    swap; · iexact H13
    ipureintro; exact read1_A_dgl c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) ((hfirst1 t).mpr h0)  _ _
  · have hz : t.val ≠ 0 := by omega
    rw [PhiS1_pos V c _ hz]
    iintro ⟨⟨⟨HS0, HR1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((run1_B c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (fun h => h0 ((hfirst1 t).mp h)) (car1 V c t.val)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
    isplitl [HS0 HR1 Hg]
    · isplitl [HS0 HR1]
      · isplitl [HS0]
        · unfold owns; iexists _; isplitr
          swap; · iexact HS0
          ipureintro; exact read1_B_c c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (fun h => h0 ((hfirst1 t).mp h)) (car1 V c t.val) _ _
        iexact HR1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact read1_B_du c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (fun h => h0 ((hfirst1 t).mp h)) (car1 V c t.val) _ _
    isplitl [H9]
    · unfold owns; iexists _; isplitr
      swap; · iexact H9
      ipureintro; exact read1_B_dw c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (fun h => h0 ((hfirst1 t).mp h)) (car1 V c t.val) _ _
    isplitl [H10]
    · unfold owns; iexists _; isplitr
      swap; · iexact H10
      ipureintro; exact read1_B_dqk c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (fun h => h0 ((hfirst1 t).mp h)) (car1 V c t.val) _ _
    isplitl [H11]
    · unfold owns; iexists _; isplitr
      swap; · iexact H11
      ipureintro; exact read1_B_dqd c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (fun h => h0 ((hfirst1 t).mp h)) (car1 V c t.val) _ _
    isplitl [H12]
    · unfold owns; iexists _; isplitr
      swap; · iexact H12
      ipureintro; exact read1_B_dkd c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (fun h => h0 ((hfirst1 t).mp h)) (car1 V c t.val) _ _
    unfold owns; iexists _; isplitr
    swap; · iexact H13
    ipureintro; exact read1_B_dgl c (grid1.coords t) _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (fun h => h0 ((hfirst1 t).mp h)) (car1 V c t.val) _ _

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Scan
-- ==== Proof.Whole.lean ====
module

public import proofs.«01_k».proof.Proof.Region0
public import proofs.«01_k».proof.Proof.Region1

@[expose] public section

set_option maxRecDepth 16384

noncomputable section

namespace Cert.KernelIdeal.Scan

open KernelIdeal KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5, main_arg6]

/-! ## The buffer contents at each segment boundary: a fold through @main, and what each item leaves unchanged -/

/-- Core `c`'s buffers at launch (region 0's entry). -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The same read at the TensorCore's references (what region 0's proof data take). -/
abbrev V0 : (c : Dev nD) → (b : Ref sig .tc) → Buf (Elt F) ((c : Thread nD τ).loc b) := fun c b => W0 m ρ c b
/-- At region 0's exit: its arrays at what the pipeline leaves (the inputs as entered, each output's write-backs
    folded: `Dat.arrAt … N`), every other buffer as entered  (region 1's entry). -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A reference that is none of region 0's OUTPUT arrays keeps its entry contents across it: an input window's
    array is never written back (`Dat.arrAt_in`, `A_eq0`); any other buffer is left as is. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m ((c : Thread nD τ).loc a) :=
  fun a ha => (W1_of m ρ c a (argsIn0 a ha)).trans (W0_args m ρ c a ha)
/-- The same read at the TensorCore's references (region 0's exit contents). -/
abbrev V1 : (c : Dev nD) → (b : Ref sig .tc) → Buf (Elt F) ((c : Thread nD τ).loc b) := fun c b => W1 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its arrays at what the pipeline leaves (the inputs as entered, each output's write-backs
    folded: `Dat.arrAt … N`), every other buffer as entered . -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A reference that is none of region 1's OUTPUT arrays keeps its entry contents across it: an input window's
    array is never written back (`Dat.arrAt_in`, `A_eq1`); any other buffer is left as is. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn1 a ha)).trans (W1_args m ρ c a ha)
/-- The same read at the TensorCore's references (region 1's exit contents). -/
abbrev V2 : (c : Dev nD) → (b : Ref sig .tc) → Buf (Elt F) ((c : Thread nD τ).loc b) := fun c b => W2 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### The arguments end as launched: no host stretch writes one and no region may change one (a region reads it
    through an input window or bypasses it) -/

theorem W2_main_arg0 (c : Dev nD) : W2 m ρ c (Proc.devRef .tc main_arg0) = m ((c : Thread nD τ).loc main_arg0) :=
  W2_args m ρ c main_arg0 (by decide)
theorem W2_main_arg1 (c : Dev nD) : W2 m ρ c (Proc.devRef .tc main_arg1) = m ((c : Thread nD τ).loc main_arg1) :=
  W2_args m ρ c main_arg1 (by decide)
theorem W2_main_arg2 (c : Dev nD) : W2 m ρ c (Proc.devRef .tc main_arg2) = m ((c : Thread nD τ).loc main_arg2) :=
  W2_args m ρ c main_arg2 (by decide)
theorem W2_main_arg3 (c : Dev nD) : W2 m ρ c (Proc.devRef .tc main_arg3) = m ((c : Thread nD τ).loc main_arg3) :=
  W2_args m ρ c main_arg3 (by decide)
theorem W2_main_arg4 (c : Dev nD) : W2 m ρ c (Proc.devRef .tc main_arg4) = m ((c : Thread nD τ).loc main_arg4) :=
  W2_args m ρ c main_arg4 (by decide)
theorem W2_main_arg5 (c : Dev nD) : W2 m ρ c (Proc.devRef .tc main_arg5) = m ((c : Thread nD τ).loc main_arg5) :=
  W2_args m ρ c main_arg5 (by decide)
theorem W2_main_arg6 (c : Dev nD) : W2 m ρ c (Proc.devRef .tc main_arg6) = m ((c : Thread nD τ).loc main_arg6) :=
  W2_args m ρ c main_arg6 (by decide)
/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W2`, the generator register at some state. -/
abbrev Tₙ (c : Dev nD) : sProp 𝕄 := iprop(StableHlo.held (c : Thread nD τ) (Pipeline.ucRefs τ sig) (W2 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W0`, left at `W1`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have hl := PhiS0_out (F := F) (V0 m ρ) c cfg0.N (by rw [show cfg0.N = 8 from N_0]; decide)
    unfold Pipeline.ΦA at hl
    rw [show (pdats m ρ 0 c).Φ (Fin.last _) = PhiS0 (V0 m ρ) c cfg0.N from rfl]
    refine hl.trans ?_
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W1`, left at `W2`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have hl := PhiS1_out (F := F) (V1 m ρ) c cfg1.N (by rw [show cfg1.N = 8 from N_1]; decide)
    unfold Pipeline.ΦA at hl
    rw [show (pdats m ρ 1 c).Φ (Fin.last _) = PhiS1 (V1 m ρ) c cfg1.N from rfl]
    refine hl.trans ?_
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 2 segments in order: a host segment per stretch from its boundary's contents, a region per pallas_call. -/
abbrev segs : List (Pipeline.Seg (pcfgs (F := F)) adm (pdats m ρ) () defs₀ 𝒱₀ L lv) :=
  [ .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run: from any memory with zero counters every execution of @main ends, nothing faulting, with every unscoped
    buffer at the last boundary's contents and every counter at zero. -/
theorem run_main : θ_run defs (onTc (τ := τ) (main (F := F))) ⟨m, fun _ => 0, ρ⟩ (fun r =>
      (∀ c : Dev nD, ∀ b ∈ Pipeline.ucRefs τ sig, r.2.mem (((c : Thread nD τ)).1, b) = W2 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

/-- The arguments end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h.1 c _ (mem_uc main_arg0 (by decide))).trans (W2_main_arg0 m ρ c),
     (h.1 c _ (mem_uc main_arg1 (by decide))).trans (W2_main_arg1 m ρ c),
     (h.1 c _ (mem_uc main_arg2 (by decide))).trans (W2_main_arg2 m ρ c),
     (h.1 c _ (mem_uc main_arg3 (by decide))).trans (W2_main_arg3 m ρ c),
     (h.1 c _ (mem_uc main_arg4 (by decide))).trans (W2_main_arg4 m ρ c),
     (h.1 c _ (mem_uc main_arg5 (by decide))).trans (W2_main_arg5 m ρ c),
     (h.1 c _ (mem_uc main_arg6 (by decide))).trans (W2_main_arg6 m ρ c)⟩, h.2⟩) (run_main m ρ)

end Cert.KernelIdeal.Scan
-- ==== Proof.RefOps.lean ====
/-
  UNTRUSTED — the operations of the reference. Its @main is a stretch of host operations, the forward scan's loop, a second
  stretch, the backward scan's loop, and a last stretch. Here are the operation lists and the equations that make @main and
  the loops' bodies chains of them. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

noncomputable section

namespace Cert.ReferenceIdeal.Loops

open ReferenceIdeal ReferenceIdeal.Gen
open Idealize.ShloMosaic Idealize.ShloMosaic.TcCoe
open Idealize.ShloMosaic.StableHlo (tcRefs TRef unary nullary binary reshape)
open Idealize.ShloMosaic.StableHlo renaming unary_bufs_sub → unSub, nullary_bufs_sub → nulSub, reshape_bufs_sub → resSub, binary_bufs_sub → binSub, unaryIndexed_bufs_sub → unISub, binaryIndexed_bufs_sub → binISub
open Idealize.SL Idealize.SL.RA Idealize.SL.BI
open scoped Idealize.SL.BI
open Idealize.SL.BI.BIBase Idealize.SL.Sem

/-- A buffer's contents. -/
abbrev Cn (F : FTy → Type) (S : Shape) (e : EltTy) := (⟨S, e⟩ : BufTy).Contents (Elt F)

variable {F : FTy → Type} [FloatOps F]

/-- The operations touch device buffers alone. -/
abbrev OnTc (l : List (HloOp τ sig (Elt F))) : Prop := l.Forall fun op => op.bufs ⊆ tcRefs τ sig

/-! ## The operations of @main and of the two loops' bodies, in stretches, and the chains they make -/

abbrev hostOps0 : List (HloOp τ sig (Elt F)) :=
  ( unary main_arg1 main_v0 ((extf .f32 · bitsLt_bf16_f32) : Cn F S8x4096x128 .bf16 → Cn F S8x4096x128 .f32)
  :: unary main_arg2 main_v1 ((extf .f32 · bitsLt_bf16_f32) : Cn F S8x4096x64 .bf16 → Cn F S8x4096x64 .f32)
  :: unary main_arg3 main_v2 ((extf .f32 · bitsLt_bf16_f32) : Cn F S8x4096x128 .bf16 → Cn F S8x4096x128 .f32)
  :: unary main_arg4 main_v3 ((extf .f32 · bitsLt_bf16_f32) : Cn F S8x4096x128 .bf16 → Cn F S8x4096x128 .f32)
  :: reshape main_v1 main_v4 rfl shapeCasts_S8x4096x64_S8x64x64x64
  :: unary main_v4 main_v5 ((transpose S64x8x64x64 [1, 0, 2, 3] · transposes_S8x64x64x64_S64x8x64x64_1_0_2_3) : Cn F S8x64x64x64 .f32 → Cn F S64x8x64x64 .f32)
  :: reshape main_arg0 main_v6 rfl shapeCasts_S8x4096x128_S8x64x64x128
  :: unary main_v6 main_v7 ((transpose S64x8x64x128 [1, 0, 2, 3] · transposes_S8x64x64x128_S64x8x64x128_1_0_2_3) : Cn F S8x64x64x128 .f32 → Cn F S64x8x64x128 .f32)
  :: reshape main_v0 main_v8 rfl shapeCasts_S8x4096x128_S8x64x64x128
  :: unary main_v8 main_v9 ((transpose S64x8x64x128 [1, 0, 2, 3] · transposes_S8x64x64x128_S64x8x64x128_1_0_2_3) : Cn F S8x64x64x128 .f32 → Cn F S64x8x64x128 .f32)
  :: reshape main_v2 main_v10 rfl shapeCasts_S8x4096x128_S8x64x64x128
  :: unary main_v10 main_v11 ((transpose S64x8x64x128 [1, 0, 2, 3] · transposes_S8x64x64x128_S64x8x64x128_1_0_2_3) : Cn F S8x64x64x128 .f32 → Cn F S64x8x64x128 .f32)
  :: reshape main_v3 main_v12 rfl shapeCasts_S8x4096x128_S8x64x64x128
  :: unary main_v12 main_v13 ((transpose S64x8x64x128 [1, 0, 2, 3] · transposes_S8x64x64x128_S64x8x64x128_1_0_2_3) : Cn F S8x64x64x128 .f32 → Cn F S64x8x64x128 .f32)
  :: unary main_arg5 main_v14 ((transpose S64x8x128 [1, 0, 2] · transposes_S8x64x128_S64x8x128_1_0_2) : Cn F S8x64x128 .f32 → Cn F S64x8x128 .f32)
  :: nullary main_cst (constant S_ .f32 0x00000000#32)
  :: unary main_cst main_v15 (broadcastInDim S8x128x128 ![] bcast_S_S8x128x128 : Cn F S_ .f32 → Cn F S8x128x128 .f32)
  :: nullary main_cst_0 (constant S_ .f32 0x00000000#32)
  :: unary main_cst_0 main_v16 (broadcastInDim S64x8x64x128 ![] bcast_S_S64x8x64x128 : Cn F S_ .f32 → Cn F S64x8x64x128 .f32)
  :: nullary main_cst_1 (constant S_ .f32 0x00000000#32)
  :: unary main_cst_1 main_v17 (broadcastInDim S64x8x128x128 ![] bcast_S_S64x8x128x128 : Cn F S_ .f32 → Cn F S64x8x128x128 .f32)
  :: nullary main_cst_2 (constant S_ .f32 0x00000000#32)
  :: unary main_cst_2 main_v18 (broadcastInDim S64x8x64x128 ![] bcast_S_S64x8x64x128 : Cn F S_ .f32 → Cn F S64x8x64x128 .f32)
  :: nullary main_cst_3 (constant S_ .f32 0x00000000#32)
  :: unary main_cst_3 main_v19 (broadcastInDim S64x8x1x128 ![] bcast_S_S64x8x1x128 : Cn F S_ .f32 → Cn F S64x8x1x128 .f32)
  :: nullary main_c (constantI S_ 32 0#32)
  :: unary main_v5 main_v20_0 id
  :: unary main_v7 main_v20_1 id
  :: unary main_v9 main_v20_2 id
  :: unary main_v11 main_v20_3 id
  :: unary main_v13 main_v20_4 id
  :: unary main_v14 main_v20_5 id
  :: unary main_c main_v20_6 id
  :: unary main_v15 main_v20_7 id
  :: unary main_v16 main_v20_8 id
  :: unary main_v17 main_v20_9 id
  :: unary main_v18 main_v20_10 id
  :: unary main_v19 main_v20_11 id
  :: [] )
theorem hostOps0_sub : OnTc (F := F) hostOps0 :=
  ⟨unSub .., unSub .., unSub .., unSub .., resSub .., unSub .., resSub .., unSub .., resSub .., unSub .., resSub .., unSub .., resSub .., unSub .., unSub .., nulSub .., unSub .., nulSub .., unSub .., nulSub .., unSub .., nulSub .., unSub .., nulSub .., unSub .., nulSub .., unSub .., unSub .., unSub .., unSub .., unSub .., unSub .., unSub .., unSub .., unSub .., unSub .., unSub .., unSub ..⟩
abbrev hostOps0_1 : List (HloOp τ sig (Elt F)) :=
  ( unary main_v20_8 main_v21 ((transpose S8x64x64x128 [1, 0, 2, 3] · transposes_S64x8x64x128_S8x64x64x128_1_0_2_3) : Cn F S64x8x64x128 .f32 → Cn F S8x64x64x128 .f32)
  :: reshape main_v21 main_v22 rfl shapeCasts_S8x64x64x128_S8x4096x128
  :: nullary main_cst_4 (constant S_ .f32 0x00000000#32)
  :: unary main_cst_4 main_v23 (broadcastInDim S8x128x128 ![] bcast_S_S8x128x128 : Cn F S_ .f32 → Cn F S8x128x128 .f32)
  :: reshape main_arg6 main_v24 rfl shapeCasts_S8x4096x128_S8x64x64x128
  :: unary main_v24 main_v25 ((transpose S64x8x64x128 [1, 0, 2, 3] · transposes_S8x64x64x128_S64x8x64x128_1_0_2_3) : Cn F S8x64x64x128 .f32 → Cn F S64x8x64x128 .f32)
  :: nullary main_cst_5 (constant S_ .f32 0x00000000#32)
  :: unary main_cst_5 main_v26 (broadcastInDim S8x128x128 ![] bcast_S_S8x128x128 : Cn F S_ .f32 → Cn F S8x128x128 .f32)
  :: nullary main_cst_6 (constant S_ .f32 0x00000000#32)
  :: unary main_cst_6 main_v27 (broadcastInDim S64x8x64x64 ![] bcast_S_S64x8x64x64 : Cn F S_ .f32 → Cn F S64x8x64x64 .f32)
  :: nullary main_cst_7 (constant S_ .f32 0x00000000#32)
  :: unary main_cst_7 main_v28 (broadcastInDim S64x8x64x128 ![] bcast_S_S64x8x64x128 : Cn F S_ .f32 → Cn F S64x8x64x128 .f32)
  :: nullary main_cst_8 (constant S_ .f32 0x00000000#32)
  :: unary main_cst_8 main_v29 (broadcastInDim S64x8x64x128 ![] bcast_S_S64x8x64x128 : Cn F S_ .f32 → Cn F S64x8x64x128 .f32)
  :: nullary main_cst_9 (constant S_ .f32 0x00000000#32)
  :: unary main_cst_9 main_v30 (broadcastInDim S64x8x64x128 ![] bcast_S_S64x8x64x128 : Cn F S_ .f32 → Cn F S64x8x64x128 .f32)
  :: nullary main_cst_10 (constant S_ .f32 0x00000000#32)
  :: unary main_cst_10 main_v31 (broadcastInDim S64x8x64x128 ![] bcast_S_S64x8x64x128 : Cn F S_ .f32 → Cn F S64x8x64x128 .f32)
  :: nullary main_cst_11 (constant S_ .f32 0x00000000#32)
  :: unary main_cst_11 main_v32 (broadcastInDim S64x8x128 ![] bcast_S_S64x8x128 : Cn F S_ .f32 → Cn F S64x8x128 .f32)
  :: nullary main_c_12 (constantI S_ 32 0#32)
  :: unary main_v25 main_v33_0 id
  :: unary main_v20_9 main_v33_1 id
  :: unary main_v9 main_v33_2 id
  :: unary main_v11 main_v33_3 id
  :: unary main_v20_10 main_v33_4 id
  :: unary main_v5 main_v33_5 id
  :: unary main_v20_11 main_v33_6 id
  :: unary main_v13 main_v33_7 id
  :: unary main_c_12 main_v33_8 id
  :: unary main_v26 main_v33_9 id
  :: unary main_v27 main_v33_10 id
  :: unary main_v28 main_v33_11 id
  :: unary main_v29 main_v33_12 id
  :: unary main_v30 main_v33_13 id
  :: unary main_v31 main_v33_14 id
  :: unary main_v32 main_v33_15 id
  :: [] )
theorem hostOps0_1_sub : OnTc (F := F) hostOps0_1 :=
  ⟨unSub .., resSub .., nulSub .., unSub .., resSub .., unSub .., nulSub .., unSub .., nulSub .., unSub .., nulSub .., unSub .., nulSub .., unSub .., nulSub .., unSub .., nulSub .., unSub .., nulSub .., unSub .., nulSub .., unSub .., unSub .., unSub .., unSub .., unSub .., unSub .., unSub .., unSub .., unSub .., unSub .., unSub .., unSub .., unSub .., unSub .., unSub .., unSub ..⟩
abbrev hostOps0_2 : List (HloOp τ sig (Elt F)) :=
  [ unary main_v33_15 main_v34 ((transpose S8x64x128 [1, 0, 2] · transposes_S64x8x128_S8x64x128_1_0_2) : Cn F S64x8x128 .f32 → Cn F S8x64x128 .f32),
    unary main_v33_14 main_v35 ((transpose S8x64x64x128 [1, 0, 2, 3] · transposes_S64x8x64x128_S8x64x64x128_1_0_2_3) : Cn F S64x8x64x128 .f32 → Cn F S8x64x64x128 .f32),
    reshape main_v35 main_v36 rfl shapeCasts_S8x64x64x128_S8x4096x128,
    unary main_v33_13 main_v37 ((transpose S8x64x64x128 [1, 0, 2, 3] · transposes_S64x8x64x128_S8x64x64x128_1_0_2_3) : Cn F S64x8x64x128 .f32 → Cn F S8x64x64x128 .f32),
    reshape main_v37 main_v38 rfl shapeCasts_S8x64x64x128_S8x4096x128,
    unary main_v33_12 main_v39 ((transpose S8x64x64x128 [1, 0, 2, 3] · transposes_S64x8x64x128_S8x64x64x128_1_0_2_3) : Cn F S64x8x64x128 .f32 → Cn F S8x64x64x128 .f32),
    reshape main_v39 main_v40 rfl shapeCasts_S8x64x64x128_S8x4096x128,
    unary main_v33_11 main_v41 ((transpose S8x64x64x128 [1, 0, 2, 3] · transposes_S64x8x64x128_S8x64x64x128_1_0_2_3) : Cn F S64x8x64x128 .f32 → Cn F S8x64x64x128 .f32),
    reshape main_v41 main_v42 rfl shapeCasts_S8x64x64x128_S8x4096x128,
    unary main_v33_10 main_v43 ((transpose S8x64x64x64 [1, 0, 2, 3] · transposes_S64x8x64x64_S8x64x64x64_1_0_2_3) : Cn F S64x8x64x64 .f32 → Cn F S8x64x64x64 .f32),
    reshape main_v43 main_v44 rfl shapeCasts_S8x64x64x64_S8x4096x64 ]
theorem hostOps0_2_sub : OnTc (F := F) hostOps0_2 :=
  ⟨unSub .., unSub .., resSub .., unSub .., resSub .., unSub .., resSub .., unSub .., resSub .., unSub .., resSub ..⟩
abbrev main_part0_ops1 : List (HloOp τ sig (Elt F)) :=
  [ unary main_v20_8 main_v21 ((transpose S8x64x64x128 [1, 0, 2, 3] · transposes_S64x8x64x128_S8x64x64x128_1_0_2_3) : Cn F S64x8x64x128 .f32 → Cn F S8x64x64x128 .f32),
    reshape main_v21 main_v22 rfl shapeCasts_S8x64x64x128_S8x4096x128,
    nullary main_cst_4 (constant S_ .f32 0x00000000#32),
    unary main_cst_4 main_v23 (broadcastInDim S8x128x128 ![] bcast_S_S8x128x128 : Cn F S_ .f32 → Cn F S8x128x128 .f32),
    reshape main_arg6 main_v24 rfl shapeCasts_S8x4096x128_S8x64x64x128,
    unary main_v24 main_v25 ((transpose S64x8x64x128 [1, 0, 2, 3] · transposes_S8x64x64x128_S64x8x64x128_1_0_2_3) : Cn F S8x64x64x128 .f32 → Cn F S64x8x64x128 .f32),
    nullary main_cst_5 (constant S_ .f32 0x00000000#32),
    unary main_cst_5 main_v26 (broadcastInDim S8x128x128 ![] bcast_S_S8x128x128 : Cn F S_ .f32 → Cn F S8x128x128 .f32),
    nullary main_cst_6 (constant S_ .f32 0x00000000#32),
    unary main_cst_6 main_v27 (broadcastInDim S64x8x64x64 ![] bcast_S_S64x8x64x64 : Cn F S_ .f32 → Cn F S64x8x64x64 .f32),
    nullary main_cst_7 (constant S_ .f32 0x00000000#32),
    unary main_cst_7 main_v28 (broadcastInDim S64x8x64x128 ![] bcast_S_S64x8x64x128 : Cn F S_ .f32 → Cn F S64x8x64x128 .f32),
    nullary main_cst_8 (constant S_ .f32 0x00000000#32),
    unary main_cst_8 main_v29 (broadcastInDim S64x8x64x128 ![] bcast_S_S64x8x64x128 : Cn F S_ .f32 → Cn F S64x8x64x128 .f32),
    nullary main_cst_9 (constant S_ .f32 0x00000000#32),
    unary main_cst_9 main_v30 (broadcastInDim S64x8x64x128 ![] bcast_S_S64x8x64x128 : Cn F S_ .f32 → Cn F S64x8x64x128 .f32),
    nullary main_cst_10 (constant S_ .f32 0x00000000#32),
    unary main_cst_10 main_v31 (broadcastInDim S64x8x64x128 ![] bcast_S_S64x8x64x128 : Cn F S_ .f32 → Cn F S64x8x64x128 .f32),
    nullary main_cst_11 (constant S_ .f32 0x00000000#32),
    unary main_cst_11 main_v32 (broadcastInDim S64x8x128 ![] bcast_S_S64x8x128 : Cn F S_ .f32 → Cn F S64x8x128 .f32),
    nullary main_c_12 (constantI S_ 32 0#32) ]
/-- The first window of `main` is the chain of its items. -/
theorem main_part0_chain (c : Dev nD) : main_part0 (F := F) c = (Pipeline.chainK
  [ StableHlo.seq hostOps0,
    HostLoop.enter 0 ]
  (StableHlo.seq main_part0_ops1) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons]
  chain_rfl

abbrev main_part1_ops0 : List (HloOp τ sig (Elt F)) :=
  [ unary main_v25 main_v33_0 id,
    unary main_v20_9 main_v33_1 id,
    unary main_v9 main_v33_2 id,
    unary main_v11 main_v33_3 id,
    unary main_v20_10 main_v33_4 id,
    unary main_v5 main_v33_5 id,
    unary main_v20_11 main_v33_6 id,
    unary main_v13 main_v33_7 id,
    unary main_c_12 main_v33_8 id,
    unary main_v26 main_v33_9 id,
    unary main_v27 main_v33_10 id,
    unary main_v28 main_v33_11 id,
    unary main_v29 main_v33_12 id,
    unary main_v30 main_v33_13 id,
    unary main_v31 main_v33_14 id,
    unary main_v32 main_v33_15 id ]
/-- The last window of `main` is the chain of its items. -/
theorem main_part1_chain (c : Dev nD) : main_part1 (F := F) c = (Pipeline.chain
  [ StableHlo.seq main_part1_ops0,
    HostLoop.enter 1,
    StableHlo.seq hostOps0_2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons]
  chain_rfl

/-- `main` is the chain of its windows' items. -/
theorem main_chain_windows (c : Dev nD) : main (F := F) c = (Pipeline.chain
  [ StableHlo.seq hostOps0,
    HostLoop.enter 0,
    StableHlo.seq main_part0_ops1,
    StableHlo.seq main_part1_ops0,
    HostLoop.enter 1,
    StableHlo.seq hostOps0_2 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

/-- `main`'s items, each stretch as the lists that its windows cut it into. -/
abbrev main_groups (c : Dev nD) : List (StableHlo.Group nD τ sig (Elt F) (HostLoop.Sig (Pipeline.Sig Λ₀ (Fin 0) fun p => (pcfgs (F := F) p).Adm) 2)) :=
  [ .ops [hostOps0],
    .prog (HostLoop.enter 0),
    .ops [main_part0_ops1, main_part1_ops0],
    .prog (HostLoop.enter 1),
    .ops [hostOps0_2] ]

/-- The windows' items are those of `main_groups`, cut. -/
theorem main_chain_cut (c : Dev nD) : (Pipeline.chain
  [ StableHlo.seq hostOps0,
    HostLoop.enter 0,
    StableHlo.seq main_part0_ops1,
    StableHlo.seq main_part1_ops0,
    HostLoop.enter 1,
    StableHlo.seq hostOps0_2 ] : Prog (TpuEff nD τ sig (Elt F) (HostLoop.Sig (Pipeline.Sig Λ₀ (Fin 0) fun p => (pcfgs (F := F) p).Adm) 2) .tc) PUnit) = Pipeline.chain ((main_groups (F := F) c).flatMap StableHlo.Group.cut) := by
  chain_rfl

/-- The pieces joined are the items of `main`. -/
theorem main_chain_whole (c : Dev nD) : Pipeline.chain ((main_groups (F := F) c).map StableHlo.Group.whole) = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) := by
  chain_rfl

/-- `main` is the chain of its items: the chain cut at the window boundary, its pieces joined. -/
theorem main_chain (c : Dev nD) : main (F := F) c = (Pipeline.chain
  [ StableHlo.seq hostOps0,
    HostLoop.enter 0,
    StableHlo.seq hostOps0_1,
    HostLoop.enter 1,
    StableHlo.seq hostOps0_2 ] : Prog (TpuEff nD τ sig (Elt F) (HostLoop.Sig (Pipeline.Sig Λ₀ (Fin 0) fun p => (pcfgs (F := F) p).Adm) 2) .tc) PUnit) :=
  (main_chain_windows (F := F) c).trans <| (main_chain_cut (F := F) c).trans <|
    (StableHlo.chain_cut_eq_whole (main_groups (F := F) c)).trans (main_chain_whole (F := F) c)

abbrev while0Ops0 : List (HloOp τ sig (Elt F)) :=
  [ TRef.nullary (.of main_while0b_call0_c : TRef sig ⟨S_, .i32⟩) (constantI S_ 32 0#32),
    TRef.nullary (.of main_while0b_call0_c_0 : TRef sig ⟨S_, .i32⟩) (constantI S_ 32 0#32),
    TRef.nullary (.of main_while0b_call0_c_1 : TRef sig ⟨S_, .i32⟩) (constantI S_ 32 0#32),
    TRef.unaryIndexed (.of main_v20_0 : TRef sig ⟨S64x8x64x64, .f32⟩) ![(.of main_v20_6 : TRef sig ⟨S_, .i32⟩), (.of main_while0b_call0_c : TRef sig ⟨S_, .i32⟩), (.of main_while0b_call0_c_0 : TRef sig ⟨S_, .i32⟩), (.of main_while0b_call0_c_1 : TRef sig ⟨S_, .i32⟩)] (.of main_while0b_call0_v0 : TRef sig ⟨S1x8x64x64, .f32⟩) (fun x i => Host.dynamicSlice S1x8x64x64 x (fun k => (i k (Shape.Idx.first h_S_)).toInt) sliceFits_S64x8x64x64_S1x8x64x64),
    TRef.reshape (.of main_while0b_call0_v0 : TRef sig ⟨S1x8x64x64, .f32⟩) (.of main_while0b_v45 : TRef sig ⟨S8x64x64, .f32⟩) rfl shapeCasts_S1x8x64x64_S8x64x64 ]
theorem while0Ops0_sub : OnTc (F := F) while0Ops0 :=
  ⟨nulSub .., nulSub .., nulSub .., unISub .., resSub ..⟩
abbrev while0Ops0_1 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.unaryIndexed (.of main_v20_1 : TRef sig ⟨S64x8x64x128, .f32⟩) ![(.of main_v20_6 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩)] (.of main_while0b_call1_v0 : TRef sig ⟨S1x8x64x128, .f32⟩) (fun x i => Host.dynamicSlice S1x8x64x128 x (fun k => (i k (Shape.Idx.first h_S_)).toInt) sliceFits_S64x8x64x128_S1x8x64x128),
    TRef.reshape (.of main_while0b_call1_v0 : TRef sig ⟨S1x8x64x128, .f32⟩) (.of main_while0b_v46 : TRef sig ⟨S8x64x128, .f32⟩) rfl shapeCasts_S1x8x64x128_S8x64x128 ]
theorem while0Ops0_1_sub : OnTc (F := F) while0Ops0_1 :=
  ⟨nulSub .., nulSub .., nulSub .., unISub .., resSub ..⟩
abbrev while0Ops0_2 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.unaryIndexed (.of main_v20_2 : TRef sig ⟨S64x8x64x128, .f32⟩) ![(.of main_v20_6 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩)] (.of main_while0b_call2_v0 : TRef sig ⟨S1x8x64x128, .f32⟩) (fun x i => Host.dynamicSlice S1x8x64x128 x (fun k => (i k (Shape.Idx.first h_S_)).toInt) sliceFits_S64x8x64x128_S1x8x64x128),
    TRef.reshape (.of main_while0b_call2_v0 : TRef sig ⟨S1x8x64x128, .f32⟩) (.of main_while0b_v47 : TRef sig ⟨S8x64x128, .f32⟩) rfl shapeCasts_S1x8x64x128_S8x64x128 ]
theorem while0Ops0_2_sub : OnTc (F := F) while0Ops0_2 :=
  ⟨nulSub .., nulSub .., nulSub .., unISub .., resSub ..⟩
abbrev while0Ops0_3 : List (HloOp τ sig (Elt F)) :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.unaryIndexed (.of main_v20_3 : TRef sig ⟨S64x8x64x128, .f32⟩) ![(.of main_v20_6 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩)] (.of main_while0b_call3_v0 : TRef sig ⟨S1x8x64x128, .f32⟩) (fun x i => Host.dynamicSlice S1x8x64x128 x (fun k => (i k (Shape.Idx.first h_S_)).toInt) sliceFits_S64x8x64x128_S1x8x64x128),
    TRef.reshape (.of main_while0b_call3_v0 : TRef sig ⟨S1x8x64x128, .f32⟩) (.of main_while0b_v48 : TRef sig ⟨S8x64x128, .f32⟩) rfl shapeCasts_S1x8x64x128_S8x64x128 ]
theorem while0Ops0_3_sub : OnTc (F := F) while0Ops0_3 :=
  ⟨nulSub .., nulSub .., nulSub .., unISub .., resSub ..⟩
abbrev while0Ops0_4 : List (HloOp τ sig (Elt F)) :=
  [ TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.unaryIndexed (.of main_v20_4 : TRef sig ⟨S64x8x64x128, .f32⟩) ![(.of main_v20_6 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩)] (.of main_while0b_call4_v0 : TRef sig ⟨S1x8x64x128, .f32⟩) (fun x i => Host.dynamicSlice S1x8x64x128 x (fun k => (i k (Shape.Idx.first h_S_)).toInt) sliceFits_S64x8x64x128_S1x8x64x128),
    TRef.reshape (.of main_while0b_call4_v0 : TRef sig ⟨S1x8x64x128, .f32⟩) (.of main_while0b_v49 : TRef sig ⟨S8x64x128, .f32⟩) rfl shapeCasts_S1x8x64x128_S8x64x128 ]
theorem while0Ops0_4_sub : OnTc (F := F) while0Ops0_4 :=
  ⟨nulSub .., nulSub .., nulSub .., unISub .., resSub ..⟩
abbrev while0Ops0_5 : List (HloOp τ sig (Elt F)) :=
  [ TRef.nullary (.of main_while0b_call5_c : TRef sig ⟨S_, .i32⟩) (constantI S_ 32 0#32),
    TRef.nullary (.of main_while0b_call5_c_0 : TRef sig ⟨S_, .i32⟩) (constantI S_ 32 0#32),
    TRef.unaryIndexed (.of main_v20_5 : TRef sig ⟨S64x8x128, .f32⟩) ![(.of main_v20_6 : TRef sig ⟨S_, .i32⟩), (.of main_while0b_call5_c : TRef sig ⟨S_, .i32⟩), (.of main_while0b_call5_c_0 : TRef sig ⟨S_, .i32⟩)] (.of main_while0b_call5_v0 : TRef sig ⟨S1x8x128, .f32⟩) (fun x i => Host.dynamicSlice S1x8x128 x (fun k => (i k (Shape.Idx.first h_S_)).toInt) sliceFits_S64x8x128_S1x8x128),
    TRef.reshape (.of main_while0b_call5_v0 : TRef sig ⟨S1x8x128, .f32⟩) (.of main_while0b_v50 : TRef sig ⟨S8x128, .f32⟩) rfl shapeCasts_S1x8x128_S8x128 ]
theorem while0Ops0_5_sub : OnTc (F := F) while0Ops0_5 :=
  ⟨nulSub .., nulSub .., unISub .., resSub ..⟩
abbrev while0Ops0_6 : List (HloOp τ sig (Elt F)) :=
  [ binary main_while0b_v47 main_v20_7 main_while0b_v51 ((fun l r => Host.dotGeneral dot_S8x64x128_S8x128x128_S8x64x128_2_1_1_2_0_0 none l r) : Cn F S8x64x128 .f32 → Cn F S8x128x128 .f32 → Cn F S8x64x128 .f32),
    binary main_while0b_v46 main_while0b_v51 main_while0b_v52 (subf : Cn F S8x64x128 .f32 → Cn F S8x64x128 .f32 → Cn F S8x64x128 .f32),
    binary main_while0b_v48 main_v20_7 main_while0b_v53 ((fun l r => Host.dotGeneral dot_S8x64x128_S8x128x128_S8x64x128_2_1_1_2_0_0 none l r) : Cn F S8x64x128 .f32 → Cn F S8x128x128 .f32 → Cn F S8x64x128 .f32),
    binary main_while0b_v45 main_while0b_v52 main_while0b_v54 ((fun l r => Host.dotGeneral dot_S8x64x64_S8x64x128_S8x64x128_2_1_1_2_0_0 none l r) : Cn F S8x64x64 .f32 → Cn F S8x64x128 .f32 → Cn F S8x64x128 .f32),
    binary main_while0b_v53 main_while0b_v54 main_while0b_v55 (addf : Cn F S8x64x128 .f32 → Cn F S8x64x128 .f32 → Cn F S8x64x128 .f32),
    unary main_while0b_v50 main_while0b_v56 (broadcastInDim S8x1x128 ![0, 2] bcast_S8x128_S8x1x128_0_2 : Cn F S8x128 .f32 → Cn F S8x1x128 .f32),
    unary main_while0b_v56 main_while0b_v57 (broadcastInDim S8x128x128 ![0, 1, 2] bcast_S8x1x128_S8x128x128_0_1_2 : Cn F S8x1x128 .f32 → Cn F S8x128x128 .f32),
    binary main_v20_7 main_while0b_v57 main_while0b_v58 (mulf : Cn F S8x128x128 .f32 → Cn F S8x128x128 .f32 → Cn F S8x128x128 .f32),
    binary main_while0b_v49 main_while0b_v52 main_while0b_v59 ((fun l r => Host.dotGeneral dot_S8x64x128_S8x64x128_S8x128x128_1_1_2_2_0_0 none l r) : Cn F S8x64x128 .f32 → Cn F S8x64x128 .f32 → Cn F S8x128x128 .f32),
    binary main_while0b_v58 main_while0b_v59 main_while0b_v60 (addf : Cn F S8x128x128 .f32 → Cn F S8x128x128 .f32 → Cn F S8x128x128 .f32) ]
theorem while0Ops0_6_sub : OnTc (F := F) while0Ops0_6 :=
  ⟨binSub .., binSub .., binSub .., binSub .., binSub .., unSub .., unSub .., binSub .., binSub .., binSub ..⟩
abbrev while0Ops0_7 : List (HloOp τ sig (Elt F)) :=
  [ TRef.unary (.of main_while0b_v55 : TRef sig ⟨S8x64x128, .f32⟩) (.of main_while0b_call6_v0 : TRef sig ⟨S1x8x64x128, .f32⟩) (broadcastInDim S1x8x64x128 ![1, 2, 3] bcast_S8x64x128_S1x8x64x128_1_2_3),
    TRef.nullary (.of main_while0b_call6_c : TRef sig ⟨S_, .i32⟩) (constantI S_ 32 0#32),
    TRef.nullary (.of main_while0b_call6_c_0 : TRef sig ⟨S_, .i32⟩) (constantI S_ 32 0#32),
    TRef.nullary (.of main_while0b_call6_c_1 : TRef sig ⟨S_, .i32⟩) (constantI S_ 32 0#32),
    TRef.binaryIndexed (.of main_v20_8 : TRef sig ⟨S64x8x64x128, .f32⟩) (.of main_while0b_call6_v0 : TRef sig ⟨S1x8x64x128, .f32⟩) ![(.of main_v20_6 : TRef sig ⟨S_, .i32⟩), (.of main_while0b_call6_c : TRef sig ⟨S_, .i32⟩), (.of main_while0b_call6_c_0 : TRef sig ⟨S_, .i32⟩), (.of main_while0b_call6_c_1 : TRef sig ⟨S_, .i32⟩)] (.of main_while0b_v61 : TRef sig ⟨S64x8x64x128, .f32⟩) (fun x u i => Host.dynamicUpdateSlice x u (fun k => (i k (Shape.Idx.first h_S_)).toInt) updateFits_S64x8x64x128_S1x8x64x128) ]
theorem while0Ops0_7_sub : OnTc (F := F) while0Ops0_7 :=
  ⟨unSub .., nulSub .., nulSub .., nulSub .., binISub ..⟩
abbrev while0Ops0_8 : List (HloOp τ sig (Elt F)) :=
  [ TRef.unary (.of main_v20_7 : TRef sig ⟨S8x128x128, .f32⟩) (.of main_while0b_call7_v0 : TRef sig ⟨S1x8x128x128, .f32⟩) (broadcastInDim S1x8x128x128 ![1, 2, 3] bcast_S8x128x128_S1x8x128x128_1_2_3),
    TRef.nullary (.of main_while0b_call7_c : TRef sig ⟨S_, .i32⟩) (constantI S_ 32 0#32),
    TRef.nullary (.of main_while0b_call7_c_0 : TRef sig ⟨S_, .i32⟩) (constantI S_ 32 0#32),
    TRef.nullary (.of main_while0b_call7_c_1 : TRef sig ⟨S_, .i32⟩) (constantI S_ 32 0#32),
    TRef.binaryIndexed (.of main_v20_9 : TRef sig ⟨S64x8x128x128, .f32⟩) (.of main_while0b_call7_v0 : TRef sig ⟨S1x8x128x128, .f32⟩) ![(.of main_v20_6 : TRef sig ⟨S_, .i32⟩), (.of main_while0b_call7_c : TRef sig ⟨S_, .i32⟩), (.of main_while0b_call7_c_0 : TRef sig ⟨S_, .i32⟩), (.of main_while0b_call7_c_1 : TRef sig ⟨S_, .i32⟩)] (.of main_while0b_v62 : TRef sig ⟨S64x8x128x128, .f32⟩) (fun x u i => Host.dynamicUpdateSlice x u (fun k => (i k (Shape.Idx.first h_S_)).toInt) updateFits_S64x8x128x128_S1x8x128x128) ]
theorem while0Ops0_8_sub : OnTc (F := F) while0Ops0_8 :=
  ⟨unSub .., nulSub .., nulSub .., nulSub .., binISub ..⟩
abbrev while0Ops0_9 : List (HloOp τ sig (Elt F)) :=
  [ TRef.unary (.of main_while0b_v52 : TRef sig ⟨S8x64x128, .f32⟩) (.of main_while0b_call8_v0 : TRef sig ⟨S1x8x64x128, .f32⟩) (broadcastInDim S1x8x64x128 ![1, 2, 3] bcast_S8x64x128_S1x8x64x128_1_2_3),
    TRef.nullary (.of main_while0b_call8_c : TRef sig ⟨S_, .i32⟩) (constantI S_ 32 0#32),
    TRef.nullary (.of main_while0b_call8_c_0 : TRef sig ⟨S_, .i32⟩) (constantI S_ 32 0#32),
    TRef.nullary (.of main_while0b_call8_c_1 : TRef sig ⟨S_, .i32⟩) (constantI S_ 32 0#32),
    TRef.binaryIndexed (.of main_v20_10 : TRef sig ⟨S64x8x64x128, .f32⟩) (.of main_while0b_call8_v0 : TRef sig ⟨S1x8x64x128, .f32⟩) ![(.of main_v20_6 : TRef sig ⟨S_, .i32⟩), (.of main_while0b_call8_c : TRef sig ⟨S_, .i32⟩), (.of main_while0b_call8_c_0 : TRef sig ⟨S_, .i32⟩), (.of main_while0b_call8_c_1 : TRef sig ⟨S_, .i32⟩)] (.of main_while0b_v63 : TRef sig ⟨S64x8x64x128, .f32⟩) (fun x u i => Host.dynamicUpdateSlice x u (fun k => (i k (Shape.Idx.first h_S_)).toInt) updateFits_S64x8x64x128_S1x8x64x128) ]
theorem while0Ops0_9_sub : OnTc (F := F) while0Ops0_9 :=
  ⟨unSub .., nulSub .., nulSub .., nulSub .., binISub ..⟩
abbrev while0Ops0_10 : List (HloOp τ sig (Elt F)) :=
  [ TRef.unary (.of main_while0b_v56 : TRef sig ⟨S8x1x128, .f32⟩) (.of main_while0b_call9_v0 : TRef sig ⟨S1x8x1x128, .f32⟩) (broadcastInDim S1x8x1x128 ![1, 2, 3] bcast_S8x1x128_S1x8x1x128_1_2_3),
    TRef.nullary (.of main_while0b_call9_c : TRef sig ⟨S_, .i32⟩) (constantI S_ 32 0#32),
    TRef.nullary (.of main_while0b_call9_c_0 : TRef sig ⟨S_, .i32⟩) (constantI S_ 32 0#32),
    TRef.nullary (.of main_while0b_call9_c_1 : TRef sig ⟨S_, .i32⟩) (constantI S_ 32 0#32),
    TRef.binaryIndexed (.of main_v20_11 : TRef sig ⟨S64x8x1x128, .f32⟩) (.of main_while0b_call9_v0 : TRef sig ⟨S1x8x1x128, .f32⟩) ![(.of main_v20_6 : TRef sig ⟨S_, .i32⟩), (.of main_while0b_call9_c : TRef sig ⟨S_, .i32⟩), (.of main_while0b_call9_c_0 : TRef sig ⟨S_, .i32⟩), (.of main_while0b_call9_c_1 : TRef sig ⟨S_, .i32⟩)] (.of main_while0b_v64 : TRef sig ⟨S64x8x1x128, .f32⟩) (fun x u i => Host.dynamicUpdateSlice x u (fun k => (i k (Shape.Idx.first h_S_)).toInt) updateFits_S64x8x1x128_S1x8x1x128) ]
theorem while0Ops0_10_sub : OnTc (F := F) while0Ops0_10 :=
  ⟨unSub .., nulSub .., nulSub .., nulSub .., binISub ..⟩
abbrev while0Ops0_11 : List (HloOp τ sig (Elt F)) :=
  [ nullary main_while0b_c_24 (constantI S_ 32 1#32),
    binary main_v20_6 main_while0b_c_24 main_while0b_v65 (addi : Cn F S_ .i32 → Cn F S_ .i32 → Cn F S_ .i32),
    unary main_while0b_v65 main_v20_6 id,
    unary main_while0b_v60 main_v20_7 id,
    unary main_while0b_v61 main_v20_8 id,
    unary main_while0b_v62 main_v20_9 id,
    unary main_while0b_v63 main_v20_10 id,
    unary main_while0b_v64 main_v20_11 id ]
theorem while0Ops0_11_sub : OnTc (F := F) while0Ops0_11 :=
  ⟨nulSub .., binSub .., unSub .., unSub .., unSub .., unSub .., unSub .., unSub ..⟩
/-- The forward scan's body is the chain of its items. -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6,
    StableHlo.seq while0Ops0_7,
    StableHlo.seq while0Ops0_8,
    StableHlo.seq while0Ops0_9,
    StableHlo.seq while0Ops0_10,
    StableHlo.seq while0Ops0_11 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, StableHlo.chain_seq_cons]
  chain_rfl

abbrev while1Ops0 : List (HloOp τ sig (Elt F)) :=
  [ nullary main_while1b_c_28 (constantI S_ 32 64#32),
    binary main_while1b_c_28 main_v33_8 main_while1b_v45 (subi : Cn F S_ .i32 → Cn F S_ .i32 → Cn F S_ .i32),
    nullary main_while1b_c_29 (constantI S_ 32 1#32),
    binary main_while1b_v45 main_while1b_c_29 main_while1b_v46 (subi : Cn F S_ .i32 → Cn F S_ .i32 → Cn F S_ .i32) ]
theorem while1Ops0_sub : OnTc (F := F) while1Ops0 :=
  ⟨nulSub .., binSub .., nulSub .., binSub ..⟩
abbrev while1Ops0_1 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.unaryIndexed (.of main_v33_0 : TRef sig ⟨S64x8x64x128, .f32⟩) ![(.of main_while1b_v46 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩)] (.of main_while1b_call10_v0 : TRef sig ⟨S1x8x64x128, .f32⟩) (fun x i => Host.dynamicSlice S1x8x64x128 x (fun k => (i k (Shape.Idx.first h_S_)).toInt) sliceFits_S64x8x64x128_S1x8x64x128),
    TRef.reshape (.of main_while1b_call10_v0 : TRef sig ⟨S1x8x64x128, .f32⟩) (.of main_while1b_v47 : TRef sig ⟨S8x64x128, .f32⟩) rfl shapeCasts_S1x8x64x128_S8x64x128 ]
theorem while1Ops0_1_sub : OnTc (F := F) while1Ops0_1 :=
  ⟨nulSub .., nulSub .., nulSub .., unISub .., resSub ..⟩
abbrev while1Ops0_2 : List (HloOp τ sig (Elt F)) :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.unaryIndexed (.of main_v33_1 : TRef sig ⟨S64x8x128x128, .f32⟩) ![(.of main_while1b_v46 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩)] (.of main_while1b_call11_v0 : TRef sig ⟨S1x8x128x128, .f32⟩) (fun x i => Host.dynamicSlice S1x8x128x128 x (fun k => (i k (Shape.Idx.first h_S_)).toInt) sliceFits_S64x8x128x128_S1x8x128x128),
    TRef.reshape (.of main_while1b_call11_v0 : TRef sig ⟨S1x8x128x128, .f32⟩) (.of main_while1b_v48 : TRef sig ⟨S8x128x128, .f32⟩) rfl shapeCasts_S1x8x128x128_S8x128x128 ]
theorem while1Ops0_2_sub : OnTc (F := F) while1Ops0_2 :=
  ⟨nulSub .., nulSub .., nulSub .., unISub .., resSub ..⟩
abbrev while1Ops0_3 : List (HloOp τ sig (Elt F)) :=
  [ TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.unaryIndexed (.of main_v33_2 : TRef sig ⟨S64x8x64x128, .f32⟩) ![(.of main_while1b_v46 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩)] (.of main_while1b_call12_v0 : TRef sig ⟨S1x8x64x128, .f32⟩) (fun x i => Host.dynamicSlice S1x8x64x128 x (fun k => (i k (Shape.Idx.first h_S_)).toInt) sliceFits_S64x8x64x128_S1x8x64x128),
    TRef.reshape (.of main_while1b_call12_v0 : TRef sig ⟨S1x8x64x128, .f32⟩) (.of main_while1b_v49 : TRef sig ⟨S8x64x128, .f32⟩) rfl shapeCasts_S1x8x64x128_S8x64x128 ]
theorem while1Ops0_3_sub : OnTc (F := F) while1Ops0_3 :=
  ⟨nulSub .., nulSub .., nulSub .., unISub .., resSub ..⟩
abbrev while1Ops0_4 : List (HloOp τ sig (Elt F)) :=
  [ TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.unaryIndexed (.of main_v33_3 : TRef sig ⟨S64x8x64x128, .f32⟩) ![(.of main_while1b_v46 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩)] (.of main_while1b_call13_v0 : TRef sig ⟨S1x8x64x128, .f32⟩) (fun x i => Host.dynamicSlice S1x8x64x128 x (fun k => (i k (Shape.Idx.first h_S_)).toInt) sliceFits_S64x8x64x128_S1x8x64x128),
    TRef.reshape (.of main_while1b_call13_v0 : TRef sig ⟨S1x8x64x128, .f32⟩) (.of main_while1b_v50 : TRef sig ⟨S8x64x128, .f32⟩) rfl shapeCasts_S1x8x64x128_S8x64x128 ]
theorem while1Ops0_4_sub : OnTc (F := F) while1Ops0_4 :=
  ⟨nulSub .., nulSub .., nulSub .., unISub .., resSub ..⟩
abbrev while1Ops0_5 : List (HloOp τ sig (Elt F)) :=
  [ TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.unaryIndexed (.of main_v33_4 : TRef sig ⟨S64x8x64x128, .f32⟩) ![(.of main_while1b_v46 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩)] (.of main_while1b_call14_v0 : TRef sig ⟨S1x8x64x128, .f32⟩) (fun x i => Host.dynamicSlice S1x8x64x128 x (fun k => (i k (Shape.Idx.first h_S_)).toInt) sliceFits_S64x8x64x128_S1x8x64x128),
    TRef.reshape (.of main_while1b_call14_v0 : TRef sig ⟨S1x8x64x128, .f32⟩) (.of main_while1b_v51 : TRef sig ⟨S8x64x128, .f32⟩) rfl shapeCasts_S1x8x64x128_S8x64x128 ]
theorem while1Ops0_5_sub : OnTc (F := F) while1Ops0_5 :=
  ⟨nulSub .., nulSub .., nulSub .., unISub .., resSub ..⟩
abbrev while1Ops0_6 : List (HloOp τ sig (Elt F)) :=
  [ TRef.nullary (.of main_while1b_call15_c : TRef sig ⟨S_, .i32⟩) (constantI S_ 32 0#32),
    TRef.nullary (.of main_while1b_call15_c_0 : TRef sig ⟨S_, .i32⟩) (constantI S_ 32 0#32),
    TRef.nullary (.of main_while1b_call15_c_1 : TRef sig ⟨S_, .i32⟩) (constantI S_ 32 0#32),
    TRef.unaryIndexed (.of main_v33_5 : TRef sig ⟨S64x8x64x64, .f32⟩) ![(.of main_while1b_v46 : TRef sig ⟨S_, .i32⟩), (.of main_while1b_call15_c : TRef sig ⟨S_, .i32⟩), (.of main_while1b_call15_c_0 : TRef sig ⟨S_, .i32⟩), (.of main_while1b_call15_c_1 : TRef sig ⟨S_, .i32⟩)] (.of main_while1b_call15_v0 : TRef sig ⟨S1x8x64x64, .f32⟩) (fun x i => Host.dynamicSlice S1x8x64x64 x (fun k => (i k (Shape.Idx.first h_S_)).toInt) sliceFits_S64x8x64x64_S1x8x64x64),
    TRef.reshape (.of main_while1b_call15_v0 : TRef sig ⟨S1x8x64x64, .f32⟩) (.of main_while1b_v52 : TRef sig ⟨S8x64x64, .f32⟩) rfl shapeCasts_S1x8x64x64_S8x64x64 ]
theorem while1Ops0_6_sub : OnTc (F := F) while1Ops0_6 :=
  ⟨nulSub .., nulSub .., nulSub .., unISub .., resSub ..⟩
abbrev while1Ops0_7 : List (HloOp τ sig (Elt F)) :=
  [ TRef.nullary (.of main_while1b_call16_c : TRef sig ⟨S_, .i32⟩) (constantI S_ 32 0#32),
    TRef.nullary (.of main_while1b_call16_c_0 : TRef sig ⟨S_, .i32⟩) (constantI S_ 32 0#32),
    TRef.nullary (.of main_while1b_call16_c_1 : TRef sig ⟨S_, .i32⟩) (constantI S_ 32 0#32),
    TRef.unaryIndexed (.of main_v33_6 : TRef sig ⟨S64x8x1x128, .f32⟩) ![(.of main_while1b_v46 : TRef sig ⟨S_, .i32⟩), (.of main_while1b_call16_c : TRef sig ⟨S_, .i32⟩), (.of main_while1b_call16_c_0 : TRef sig ⟨S_, .i32⟩), (.of main_while1b_call16_c_1 : TRef sig ⟨S_, .i32⟩)] (.of main_while1b_call16_v0 : TRef sig ⟨S1x8x1x128, .f32⟩) (fun x i => Host.dynamicSlice S1x8x1x128 x (fun k => (i k (Shape.Idx.first h_S_)).toInt) sliceFits_S64x8x1x128_S1x8x1x128),
    TRef.reshape (.of main_while1b_call16_v0 : TRef sig ⟨S1x8x1x128, .f32⟩) (.of main_while1b_v53 : TRef sig ⟨S8x1x128, .f32⟩) rfl shapeCasts_S1x8x1x128_S8x1x128 ]
theorem while1Ops0_7_sub : OnTc (F := F) while1Ops0_7 :=
  ⟨nulSub .., nulSub .., nulSub .., unISub .., resSub ..⟩
abbrev while1Ops0_8 : List (HloOp τ sig (Elt F)) :=
  [ TRef.nullary (.of main_while1b_call17_c : TRef sig ⟨S_, .i32⟩) (constantI S_ 32 0#32),
    TRef.nullary (.of main_while1b_call17_c_0 : TRef sig ⟨S_, .i32⟩) (constantI S_ 32 0#32),
    TRef.nullary (.of main_while1b_call17_c_1 : TRef sig ⟨S_, .i32⟩) (constantI S_ 32 0#32),
    TRef.unaryIndexed (.of main_v33_7 : TRef sig ⟨S64x8x64x128, .f32⟩) ![(.of main_while1b_v46 : TRef sig ⟨S_, .i32⟩), (.of main_while1b_call17_c : TRef sig ⟨S_, .i32⟩), (.of main_while1b_call17_c_0 : TRef sig ⟨S_, .i32⟩), (.of main_while1b_call17_c_1 : TRef sig ⟨S_, .i32⟩)] (.of main_while1b_call17_v0 : TRef sig ⟨S1x8x64x128, .f32⟩) (fun x i => Host.dynamicSlice S1x8x64x128 x (fun k => (i k (Shape.Idx.first h_S_)).toInt) sliceFits_S64x8x64x128_S1x8x64x128),
    TRef.reshape (.of main_while1b_call17_v0 : TRef sig ⟨S1x8x64x128, .f32⟩) (.of main_while1b_v54 : TRef sig ⟨S8x64x128, .f32⟩) rfl shapeCasts_S1x8x64x128_S8x64x128 ]
theorem while1Ops0_8_sub : OnTc (F := F) while1Ops0_8 :=
  ⟨nulSub .., nulSub .., nulSub .., unISub .., resSub ..⟩
abbrev while1Ops0_9 : List (HloOp τ sig (Elt F)) :=
  [ binary main_v33_9 main_while1b_v54 main_while1b_v55 ((fun l r => Host.dotGeneral dot_S8x128x128_S8x64x128_S8x128x64_1_2_2_1_0_0 none l r) : Cn F S8x128x128 .f32 → Cn F S8x64x128 .f32 → Cn F S8x128x64 .f32),
    unary main_while1b_v55 main_while1b_v56 ((transpose S8x64x128 [0, 2, 1] · transposes_S8x128x64_S8x64x128_0_2_1) : Cn F S8x128x64 .f32 → Cn F S8x64x128 .f32),
    binary main_v33_9 main_while1b_v51 main_while1b_v57 ((fun l r => Host.dotGeneral dot_S8x128x128_S8x64x128_S8x128x64_2_2_1_1_0_0 none l r) : Cn F S8x128x128 .f32 → Cn F S8x64x128 .f32 → Cn F S8x128x64 .f32),
    unary main_while1b_v57 main_while1b_v58 ((transpose S8x64x128 [0, 2, 1] · transposes_S8x128x64_S8x64x128_0_2_1) : Cn F S8x128x64 .f32 → Cn F S8x64x128 .f32),
    binary main_while1b_v48 main_v33_9 main_while1b_v59 (mulf : Cn F S8x128x128 .f32 → Cn F S8x128x128 .f32 → Cn F S8x128x128 .f32),
    nullary main_while1b_cst_30 (constant S_ .f32 0x00000000#32),
    binary main_while1b_v59 main_while1b_cst_30 main_while1b_v60 ((fun x v => Host.reduceAdd x v reducesTo_S8x128x128_S8x128_d1 h_S_) : Cn F S8x128x128 .f32 → Cn F S_ .f32 → Cn F S8x128 .f32),
    reshape main_while1b_v60 main_while1b_v61 rfl shapeCasts_S8x128_S8x1x128,
    unary main_while1b_v53 main_while1b_v62 (broadcastInDim S8x128x128 ![0, 1, 2] bcast_S8x1x128_S8x128x128_0_1_2 : Cn F S8x1x128 .f32 → Cn F S8x128x128 .f32),
    binary main_v33_9 main_while1b_v62 main_while1b_v63 (mulf : Cn F S8x128x128 .f32 → Cn F S8x128x128 .f32 → Cn F S8x128x128 .f32),
    nullary main_while1b_cst_31 (constant S_ .f32 0x00000000#32),
    binary main_while1b_v61 main_while1b_cst_31 main_while1b_v64 ((fun x v => Host.reduceAdd x v reducesTo_S8x1x128_S8x128_d1 h_S_) : Cn F S8x1x128 .f32 → Cn F S_ .f32 → Cn F S8x128 .f32),
    binary main_while1b_v47 main_while1b_v52 main_while1b_v65 ((fun l r => Host.dotGeneral dot_S8x64x128_S8x64x64_S8x128x64_1_1_2_2_0_0 none l r) : Cn F S8x64x128 .f32 → Cn F S8x64x64 .f32 → Cn F S8x128x64 .f32),
    unary main_while1b_v65 main_while1b_v66 ((transpose S8x64x128 [0, 2, 1] · transposes_S8x128x64_S8x64x128_0_2_1) : Cn F S8x128x64 .f32 → Cn F S8x64x128 .f32),
    binary main_while1b_v56 main_while1b_v66 main_while1b_v67 (addf : Cn F S8x64x128 .f32 → Cn F S8x64x128 .f32 → Cn F S8x64x128 .f32),
    binary main_while1b_v47 main_while1b_v51 main_while1b_v68 ((fun l r => Host.dotGeneral dot_S8x64x128_S8x64x128_S8x64x64_2_2_1_1_0_0 none l r) : Cn F S8x64x128 .f32 → Cn F S8x64x128 .f32 → Cn F S8x64x64 .f32),
    binary main_while1b_v47 main_while1b_v50 main_while1b_v69 ((fun l r => Host.dotGeneral dot_S8x64x128_S8x64x128_S8x128x128_1_1_2_2_0_0 none l r) : Cn F S8x64x128 .f32 → Cn F S8x64x128 .f32 → Cn F S8x128x128 .f32),
    unary main_while1b_v69 main_while1b_v70 ((transpose S8x128x128 [0, 2, 1] · transposes_S8x128x128_S8x128x128_0_2_1) : Cn F S8x128x128 .f32 → Cn F S8x128x128 .f32),
    binary main_while1b_v63 main_while1b_v70 main_while1b_v71 (addf : Cn F S8x128x128 .f32 → Cn F S8x128x128 .f32 → Cn F S8x128x128 .f32),
    binary main_while1b_v47 main_while1b_v48 main_while1b_v72 ((fun l r => Host.dotGeneral dot_S8x64x128_S8x128x128_S8x64x128_2_2_1_1_0_0 none l r) : Cn F S8x64x128 .f32 → Cn F S8x128x128 .f32 → Cn F S8x64x128 .f32),
    unary main_while1b_v67 main_while1b_v73 (Host.negf : Cn F S8x64x128 .f32 → Cn F S8x64x128 .f32),
    binary main_while1b_v73 main_while1b_v49 main_while1b_v74 ((fun l r => Host.dotGeneral dot_S8x64x128_S8x64x128_S8x128x128_1_1_2_2_0_0 none l r) : Cn F S8x64x128 .f32 → Cn F S8x64x128 .f32 → Cn F S8x128x128 .f32),
    unary main_while1b_v74 main_while1b_v75 ((transpose S8x128x128 [0, 2, 1] · transposes_S8x128x128_S8x128x128_0_2_1) : Cn F S8x128x128 .f32 → Cn F S8x128x128 .f32),
    binary main_while1b_v71 main_while1b_v75 main_while1b_v76 (addf : Cn F S8x128x128 .f32 → Cn F S8x128x128 .f32 → Cn F S8x128x128 .f32),
    binary main_while1b_v73 main_while1b_v48 main_while1b_v77 ((fun l r => Host.dotGeneral dot_S8x64x128_S8x128x128_S8x64x128_2_2_1_1_0_0 none l r) : Cn F S8x64x128 .f32 → Cn F S8x128x128 .f32 → Cn F S8x64x128 .f32) ]
theorem while1Ops0_9_sub : OnTc (F := F) while1Ops0_9 :=
  ⟨binSub .., unSub .., binSub .., unSub .., binSub .., nulSub .., binSub .., resSub .., unSub .., binSub .., nulSub .., binSub .., binSub .., unSub .., binSub .., binSub .., binSub .., unSub .., binSub .., binSub .., unSub .., binSub .., unSub .., binSub .., binSub ..⟩
abbrev while1Ops0_10 : List (HloOp τ sig (Elt F)) :=
  [ TRef.unary (.of main_while1b_v68 : TRef sig ⟨S8x64x64, .f32⟩) (.of main_while1b_call18_v0 : TRef sig ⟨S1x8x64x64, .f32⟩) (broadcastInDim S1x8x64x64 ![1, 2, 3] bcast_S8x64x64_S1x8x64x64_1_2_3),
    TRef.nullary (.of main_while1b_call18_c : TRef sig ⟨S_, .i32⟩) (constantI S_ 32 0#32),
    TRef.nullary (.of main_while1b_call18_c_0 : TRef sig ⟨S_, .i32⟩) (constantI S_ 32 0#32),
    TRef.nullary (.of main_while1b_call18_c_1 : TRef sig ⟨S_, .i32⟩) (constantI S_ 32 0#32),
    TRef.binaryIndexed (.of main_v33_10 : TRef sig ⟨S64x8x64x64, .f32⟩) (.of main_while1b_call18_v0 : TRef sig ⟨S1x8x64x64, .f32⟩) ![(.of main_while1b_v46 : TRef sig ⟨S_, .i32⟩), (.of main_while1b_call18_c : TRef sig ⟨S_, .i32⟩), (.of main_while1b_call18_c_0 : TRef sig ⟨S_, .i32⟩), (.of main_while1b_call18_c_1 : TRef sig ⟨S_, .i32⟩)] (.of main_while1b_v78 : TRef sig ⟨S64x8x64x64, .f32⟩) (fun x u i => Host.dynamicUpdateSlice x u (fun k => (i k (Shape.Idx.first h_S_)).toInt) updateFits_S64x8x64x64_S1x8x64x64) ]
theorem while1Ops0_10_sub : OnTc (F := F) while1Ops0_10 :=
  ⟨unSub .., nulSub .., nulSub .., nulSub .., binISub ..⟩
abbrev while1Ops0_11 : List (HloOp τ sig (Elt F)) :=
  [ TRef.unary (.of main_while1b_v67 : TRef sig ⟨S8x64x128, .f32⟩) (.of main_while1b_call19_v0 : TRef sig ⟨S1x8x64x128, .f32⟩) (broadcastInDim S1x8x64x128 ![1, 2, 3] bcast_S8x64x128_S1x8x64x128_1_2_3),
    TRef.nullary (.of main_while1b_call19_c : TRef sig ⟨S_, .i32⟩) (constantI S_ 32 0#32),
    TRef.nullary (.of main_while1b_call19_c_0 : TRef sig ⟨S_, .i32⟩) (constantI S_ 32 0#32),
    TRef.nullary (.of main_while1b_call19_c_1 : TRef sig ⟨S_, .i32⟩) (constantI S_ 32 0#32),
    TRef.binaryIndexed (.of main_v33_11 : TRef sig ⟨S64x8x64x128, .f32⟩) (.of main_while1b_call19_v0 : TRef sig ⟨S1x8x64x128, .f32⟩) ![(.of main_while1b_v46 : TRef sig ⟨S_, .i32⟩), (.of main_while1b_call19_c : TRef sig ⟨S_, .i32⟩), (.of main_while1b_call19_c_0 : TRef sig ⟨S_, .i32⟩), (.of main_while1b_call19_c_1 : TRef sig ⟨S_, .i32⟩)] (.of main_while1b_v79 : TRef sig ⟨S64x8x64x128, .f32⟩) (fun x u i => Host.dynamicUpdateSlice x u (fun k => (i k (Shape.Idx.first h_S_)).toInt) updateFits_S64x8x64x128_S1x8x64x128) ]
theorem while1Ops0_11_sub : OnTc (F := F) while1Ops0_11 :=
  ⟨unSub .., nulSub .., nulSub .., nulSub .., binISub ..⟩
abbrev while1Ops0_12 : List (HloOp τ sig (Elt F)) :=
  [ TRef.unary (.of main_while1b_v77 : TRef sig ⟨S8x64x128, .f32⟩) (.of main_while1b_call20_v0 : TRef sig ⟨S1x8x64x128, .f32⟩) (broadcastInDim S1x8x64x128 ![1, 2, 3] bcast_S8x64x128_S1x8x64x128_1_2_3),
    TRef.nullary (.of main_while1b_call20_c : TRef sig ⟨S_, .i32⟩) (constantI S_ 32 0#32),
    TRef.nullary (.of main_while1b_call20_c_0 : TRef sig ⟨S_, .i32⟩) (constantI S_ 32 0#32),
    TRef.nullary (.of main_while1b_call20_c_1 : TRef sig ⟨S_, .i32⟩) (constantI S_ 32 0#32),
    TRef.binaryIndexed (.of main_v33_12 : TRef sig ⟨S64x8x64x128, .f32⟩) (.of main_while1b_call20_v0 : TRef sig ⟨S1x8x64x128, .f32⟩) ![(.of main_while1b_v46 : TRef sig ⟨S_, .i32⟩), (.of main_while1b_call20_c : TRef sig ⟨S_, .i32⟩), (.of main_while1b_call20_c_0 : TRef sig ⟨S_, .i32⟩), (.of main_while1b_call20_c_1 : TRef sig ⟨S_, .i32⟩)] (.of main_while1b_v80 : TRef sig ⟨S64x8x64x128, .f32⟩) (fun x u i => Host.dynamicUpdateSlice x u (fun k => (i k (Shape.Idx.first h_S_)).toInt) updateFits_S64x8x64x128_S1x8x64x128) ]
theorem while1Ops0_12_sub : OnTc (F := F) while1Ops0_12 :=
  ⟨unSub .., nulSub .., nulSub .., nulSub .., binISub ..⟩
abbrev while1Ops0_13 : List (HloOp τ sig (Elt F)) :=
  [ TRef.unary (.of main_while1b_v72 : TRef sig ⟨S8x64x128, .f32⟩) (.of main_while1b_call21_v0 : TRef sig ⟨S1x8x64x128, .f32⟩) (broadcastInDim S1x8x64x128 ![1, 2, 3] bcast_S8x64x128_S1x8x64x128_1_2_3),
    TRef.nullary (.of main_while1b_call21_c : TRef sig ⟨S_, .i32⟩) (constantI S_ 32 0#32),
    TRef.nullary (.of main_while1b_call21_c_0 : TRef sig ⟨S_, .i32⟩) (constantI S_ 32 0#32),
    TRef.nullary (.of main_while1b_call21_c_1 : TRef sig ⟨S_, .i32⟩) (constantI S_ 32 0#32),
    TRef.binaryIndexed (.of main_v33_13 : TRef sig ⟨S64x8x64x128, .f32⟩) (.of main_while1b_call21_v0 : TRef sig ⟨S1x8x64x128, .f32⟩) ![(.of main_while1b_v46 : TRef sig ⟨S_, .i32⟩), (.of main_while1b_call21_c : TRef sig ⟨S_, .i32⟩), (.of main_while1b_call21_c_0 : TRef sig ⟨S_, .i32⟩), (.of main_while1b_call21_c_1 : TRef sig ⟨S_, .i32⟩)] (.of main_while1b_v81 : TRef sig ⟨S64x8x64x128, .f32⟩) (fun x u i => Host.dynamicUpdateSlice x u (fun k => (i k (Shape.Idx.first h_S_)).toInt) updateFits_S64x8x64x128_S1x8x64x128) ]
theorem while1Ops0_13_sub : OnTc (F := F) while1Ops0_13 :=
  ⟨unSub .., nulSub .., nulSub .., nulSub .., binISub ..⟩
abbrev while1Ops0_14 : List (HloOp τ sig (Elt F)) :=
  [ TRef.unary (.of main_while1b_v58 : TRef sig ⟨S8x64x128, .f32⟩) (.of main_while1b_call22_v0 : TRef sig ⟨S1x8x64x128, .f32⟩) (broadcastInDim S1x8x64x128 ![1, 2, 3] bcast_S8x64x128_S1x8x64x128_1_2_3),
    TRef.nullary (.of main_while1b_call22_c : TRef sig ⟨S_, .i32⟩) (constantI S_ 32 0#32),
    TRef.nullary (.of main_while1b_call22_c_0 : TRef sig ⟨S_, .i32⟩) (constantI S_ 32 0#32),
    TRef.nullary (.of main_while1b_call22_c_1 : TRef sig ⟨S_, .i32⟩) (constantI S_ 32 0#32),
    TRef.binaryIndexed (.of main_v33_14 : TRef sig ⟨S64x8x64x128, .f32⟩) (.of main_while1b_call22_v0 : TRef sig ⟨S1x8x64x128, .f32⟩) ![(.of main_while1b_v46 : TRef sig ⟨S_, .i32⟩), (.of main_while1b_call22_c : TRef sig ⟨S_, .i32⟩), (.of main_while1b_call22_c_0 : TRef sig ⟨S_, .i32⟩), (.of main_while1b_call22_c_1 : TRef sig ⟨S_, .i32⟩)] (.of main_while1b_v82 : TRef sig ⟨S64x8x64x128, .f32⟩) (fun x u i => Host.dynamicUpdateSlice x u (fun k => (i k (Shape.Idx.first h_S_)).toInt) updateFits_S64x8x64x128_S1x8x64x128) ]
theorem while1Ops0_14_sub : OnTc (F := F) while1Ops0_14 :=
  ⟨unSub .., nulSub .., nulSub .., nulSub .., binISub ..⟩
abbrev while1Ops0_15 : List (HloOp τ sig (Elt F)) :=
  [ TRef.unary (.of main_while1b_v64 : TRef sig ⟨S8x128, .f32⟩) (.of main_while1b_call23_v0 : TRef sig ⟨S1x8x128, .f32⟩) (broadcastInDim S1x8x128 ![1, 2] bcast_S8x128_S1x8x128_1_2),
    TRef.nullary (.of main_while1b_call23_c : TRef sig ⟨S_, .i32⟩) (constantI S_ 32 0#32),
    TRef.nullary (.of main_while1b_call23_c_0 : TRef sig ⟨S_, .i32⟩) (constantI S_ 32 0#32),
    TRef.binaryIndexed (.of main_v33_15 : TRef sig ⟨S64x8x128, .f32⟩) (.of main_while1b_call23_v0 : TRef sig ⟨S1x8x128, .f32⟩) ![(.of main_while1b_v46 : TRef sig ⟨S_, .i32⟩), (.of main_while1b_call23_c : TRef sig ⟨S_, .i32⟩), (.of main_while1b_call23_c_0 : TRef sig ⟨S_, .i32⟩)] (.of main_while1b_v83 : TRef sig ⟨S64x8x128, .f32⟩) (fun x u i => Host.dynamicUpdateSlice x u (fun k => (i k (Shape.Idx.first h_S_)).toInt) updateFits_S64x8x128_S1x8x128) ]
theorem while1Ops0_15_sub : OnTc (F := F) while1Ops0_15 :=
  ⟨unSub .., nulSub .., nulSub .., binISub ..⟩
abbrev while1Ops0_16 : List (HloOp τ sig (Elt F)) :=
  [ nullary main_while1b_c_32 (constantI S_ 32 1#32),
    binary main_v33_8 main_while1b_c_32 main_while1b_v84 (addi : Cn F S_ .i32 → Cn F S_ .i32 → Cn F S_ .i32),
    unary main_while1b_v84 main_v33_8 id,
    unary main_while1b_v76 main_v33_9 id,
    unary main_while1b_v78 main_v33_10 id,
    unary main_while1b_v79 main_v33_11 id,
    unary main_while1b_v80 main_v33_12 id,
    unary main_while1b_v81 main_v33_13 id,
    unary main_while1b_v82 main_v33_14 id,
    unary main_while1b_v83 main_v33_15 id ]
theorem while1Ops0_16_sub : OnTc (F := F) while1Ops0_16 :=
  ⟨nulSub .., binSub .., unSub .., unSub .., unSub .., unSub .., unSub .., unSub .., unSub .., unSub ..⟩
/-- The backward scan's body is the chain of its items. -/
theorem while1_body_chain : main_while1_body (F := F) = (Pipeline.chain
  [ StableHlo.seq while1Ops0,
    StableHlo.seq while1Ops0_1,
    StableHlo.seq while1Ops0_2,
    StableHlo.seq while1Ops0_3,
    StableHlo.seq while1Ops0_4,
    StableHlo.seq while1Ops0_5,
    StableHlo.seq while1Ops0_6,
    StableHlo.seq while1Ops0_7,
    StableHlo.seq while1Ops0_8,
    StableHlo.seq while1Ops0_9,
    StableHlo.seq while1Ops0_10,
    StableHlo.seq while1Ops0_11,
    StableHlo.seq while1Ops0_12,
    StableHlo.seq while1Ops0_13,
    StableHlo.seq while1Ops0_14,
    StableHlo.seq while1Ops0_15,
    StableHlo.seq while1Ops0_16 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, Pipeline.chain_cons, Pipeline.chain_cons, Pipeline.chain_cons, Pipeline.chain_cons, Pipeline.chain_cons, StableHlo.chain_seq_cons, Pipeline.chain_cons, Pipeline.chain_cons, Pipeline.chain_cons, Pipeline.chain_cons, Pipeline.chain_cons, Pipeline.chain_cons, StableHlo.chain_seq_cons]
  chain_rfl

end Cert.ReferenceIdeal.Loops

end
-- ==== Proof.RefRun.lean ====
/-
  UNTRUSTED — the run of the reference: the two loop conditions' specifications, what a trip leaves as it was, and the run
  itself, after which every unscoped TensorCore buffer holds `fin`.
-/
module

public import proofs.«01_k».proof.Proof.RefOps

@[expose] public section

noncomputable section

namespace Cert.ReferenceIdeal.Loops

open ReferenceIdeal ReferenceIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Tactic
open Idealize.SL.BI.Laws Idealize.SL.ProofMode
open Idealize.ShloMosaic.StableHlo
open Idealize.ShloMosaic.Pipeline (ucRefs sub_ucRefs CSeg Ticket)

variable {F : FTy → Type} [FloatOps F]

/-! ## The stretches: none allocates a buffer, and what each writes -/

/-- The operations' buffers are not fresh. -/
abbrev NoFresh (l : List (HloOp τ sig (Elt F))) : Prop := l.Forall fun op => op.fresh = ∅
/-- The operations write these buffers alone. -/
abbrev WritesIn (l : List (HloOp τ sig (Elt F))) (W : List (Ref sig .tc)) : Prop := l.Forall fun op => op.writes ⊆ (W.map (Proc.devRef (τ := τ) .tc)).toFinset

theorem hostOps0_fresh : NoFresh (F := F) hostOps0 := StableHlo.forall_fresh_of_map rfl
abbrev hostOps0_W : List (Ref sig .tc) := [main_v0, main_v1, main_v2, main_v3, main_v4, main_v5, main_v6, main_v7, main_v8, main_v9, main_v10, main_v11, main_v12, main_v13, main_v14, main_cst, main_v15, main_cst_0, main_v16, main_cst_1, main_v17, main_cst_2, main_v18, main_cst_3, main_v19, main_c, main_v20_0, main_v20_1, main_v20_2, main_v20_3, main_v20_4, main_v20_5, main_v20_6, main_v20_7, main_v20_8, main_v20_9, main_v20_10, main_v20_11]
theorem hostOps0_writes : WritesIn (F := F) hostOps0 hostOps0_W := StableHlo.forall_writes_sub_of_map rfl

theorem hostOps0_1_fresh : NoFresh (F := F) hostOps0_1 := StableHlo.forall_fresh_of_map rfl
abbrev hostOps0_1_W : List (Ref sig .tc) := [main_v21, main_v22, main_cst_4, main_v23, main_v24, main_v25, main_cst_5, main_v26, main_cst_6, main_v27, main_cst_7, main_v28, main_cst_8, main_v29, main_cst_9, main_v30, main_cst_10, main_v31, main_cst_11, main_v32, main_c_12, main_v33_0, main_v33_1, main_v33_2, main_v33_3, main_v33_4, main_v33_5, main_v33_6, main_v33_7, main_v33_8, main_v33_9, main_v33_10, main_v33_11, main_v33_12, main_v33_13, main_v33_14, main_v33_15]
theorem hostOps0_1_writes : WritesIn (F := F) hostOps0_1 hostOps0_1_W := StableHlo.forall_writes_sub_of_map rfl

theorem hostOps0_2_fresh : NoFresh (F := F) hostOps0_2 := StableHlo.forall_fresh_of_map rfl
abbrev hostOps0_2_W : List (Ref sig .tc) := [main_v34, main_v35, main_v36, main_v37, main_v38, main_v39, main_v40, main_v41, main_v42, main_v43, main_v44]
theorem hostOps0_2_writes : WritesIn (F := F) hostOps0_2 hostOps0_2_W := StableHlo.forall_writes_sub_of_map rfl

theorem while0Ops0_fresh : NoFresh (F := F) while0Ops0 := StableHlo.forall_fresh_of_map rfl
abbrev while0Ops0_W : List (Ref sig .tc) := [main_while0b_call0_c, main_while0b_call0_c_0, main_while0b_call0_c_1, main_while0b_call0_v0, main_while0b_v45]
theorem while0Ops0_writes : WritesIn (F := F) while0Ops0 while0Ops0_W := StableHlo.forall_writes_sub_of_map rfl

theorem while0Ops0_1_fresh : NoFresh (F := F) while0Ops0_1 := StableHlo.forall_fresh_of_map rfl
abbrev while0Ops0_1_W : List (Ref sig .tc) := [main_while0b_call1_c, main_while0b_call1_c_0, main_while0b_call1_c_1, main_while0b_call1_v0, main_while0b_v46]
theorem while0Ops0_1_writes : WritesIn (F := F) while0Ops0_1 while0Ops0_1_W := StableHlo.forall_writes_sub_of_map rfl

theorem while0Ops0_2_fresh : NoFresh (F := F) while0Ops0_2 := StableHlo.forall_fresh_of_map rfl
abbrev while0Ops0_2_W : List (Ref sig .tc) := [main_while0b_call2_c, main_while0b_call2_c_0, main_while0b_call2_c_1, main_while0b_call2_v0, main_while0b_v47]
theorem while0Ops0_2_writes : WritesIn (F := F) while0Ops0_2 while0Ops0_2_W := StableHlo.forall_writes_sub_of_map rfl

theorem while0Ops0_3_fresh : NoFresh (F := F) while0Ops0_3 := StableHlo.forall_fresh_of_map rfl
abbrev while0Ops0_3_W : List (Ref sig .tc) := [main_while0b_call3_c, main_while0b_call3_c_0, main_while0b_call3_c_1, main_while0b_call3_v0, main_while0b_v48]
theorem while0Ops0_3_writes : WritesIn (F := F) while0Ops0_3 while0Ops0_3_W := StableHlo.forall_writes_sub_of_map rfl

theorem while0Ops0_4_fresh : NoFresh (F := F) while0Ops0_4 := StableHlo.forall_fresh_of_map rfl
abbrev while0Ops0_4_W : List (Ref sig .tc) := [main_while0b_call4_c, main_while0b_call4_c_0, main_while0b_call4_c_1, main_while0b_call4_v0, main_while0b_v49]
theorem while0Ops0_4_writes : WritesIn (F := F) while0Ops0_4 while0Ops0_4_W := StableHlo.forall_writes_sub_of_map rfl

theorem while0Ops0_5_fresh : NoFresh (F := F) while0Ops0_5 := StableHlo.forall_fresh_of_map rfl
abbrev while0Ops0_5_W : List (Ref sig .tc) := [main_while0b_call5_c, main_while0b_call5_c_0, main_while0b_call5_v0, main_while0b_v50]
theorem while0Ops0_5_writes : WritesIn (F := F) while0Ops0_5 while0Ops0_5_W := StableHlo.forall_writes_sub_of_map rfl

theorem while0Ops0_6_fresh : NoFresh (F := F) while0Ops0_6 := StableHlo.forall_fresh_of_map rfl
abbrev while0Ops0_6_W : List (Ref sig .tc) := [main_while0b_v51, main_while0b_v52, main_while0b_v53, main_while0b_v54, main_while0b_v55, main_while0b_v56, main_while0b_v57, main_while0b_v58, main_while0b_v59, main_while0b_v60]
theorem while0Ops0_6_writes : WritesIn (F := F) while0Ops0_6 while0Ops0_6_W := StableHlo.forall_writes_sub_of_map rfl

theorem while0Ops0_7_fresh : NoFresh (F := F) while0Ops0_7 := StableHlo.forall_fresh_of_map rfl
abbrev while0Ops0_7_W : List (Ref sig .tc) := [main_while0b_call6_v0, main_while0b_call6_c, main_while0b_call6_c_0, main_while0b_call6_c_1, main_while0b_v61]
theorem while0Ops0_7_writes : WritesIn (F := F) while0Ops0_7 while0Ops0_7_W := StableHlo.forall_writes_sub_of_map rfl

theorem while0Ops0_8_fresh : NoFresh (F := F) while0Ops0_8 := StableHlo.forall_fresh_of_map rfl
abbrev while0Ops0_8_W : List (Ref sig .tc) := [main_while0b_call7_v0, main_while0b_call7_c, main_while0b_call7_c_0, main_while0b_call7_c_1, main_while0b_v62]
theorem while0Ops0_8_writes : WritesIn (F := F) while0Ops0_8 while0Ops0_8_W := StableHlo.forall_writes_sub_of_map rfl

theorem while0Ops0_9_fresh : NoFresh (F := F) while0Ops0_9 := StableHlo.forall_fresh_of_map rfl
abbrev while0Ops0_9_W : List (Ref sig .tc) := [main_while0b_call8_v0, main_while0b_call8_c, main_while0b_call8_c_0, main_while0b_call8_c_1, main_while0b_v63]
theorem while0Ops0_9_writes : WritesIn (F := F) while0Ops0_9 while0Ops0_9_W := StableHlo.forall_writes_sub_of_map rfl

theorem while0Ops0_10_fresh : NoFresh (F := F) while0Ops0_10 := StableHlo.forall_fresh_of_map rfl
abbrev while0Ops0_10_W : List (Ref sig .tc) := [main_while0b_call9_v0, main_while0b_call9_c, main_while0b_call9_c_0, main_while0b_call9_c_1, main_while0b_v64]
theorem while0Ops0_10_writes : WritesIn (F := F) while0Ops0_10 while0Ops0_10_W := StableHlo.forall_writes_sub_of_map rfl

theorem while0Ops0_11_fresh : NoFresh (F := F) while0Ops0_11 := StableHlo.forall_fresh_of_map rfl
abbrev while0Ops0_11_W : List (Ref sig .tc) := [main_while0b_c_24, main_while0b_v65, main_v20_6, main_v20_7, main_v20_8, main_v20_9, main_v20_10, main_v20_11]
theorem while0Ops0_11_writes : WritesIn (F := F) while0Ops0_11 while0Ops0_11_W := StableHlo.forall_writes_sub_of_map rfl

theorem while1Ops0_fresh : NoFresh (F := F) while1Ops0 := StableHlo.forall_fresh_of_map rfl
abbrev while1Ops0_W : List (Ref sig .tc) := [main_while1b_c_28, main_while1b_v45, main_while1b_c_29, main_while1b_v46]
theorem while1Ops0_writes : WritesIn (F := F) while1Ops0 while1Ops0_W := StableHlo.forall_writes_sub_of_map rfl

theorem while1Ops0_1_fresh : NoFresh (F := F) while1Ops0_1 := StableHlo.forall_fresh_of_map rfl
abbrev while1Ops0_1_W : List (Ref sig .tc) := [main_while1b_call10_c, main_while1b_call10_c_0, main_while1b_call10_c_1, main_while1b_call10_v0, main_while1b_v47]
theorem while1Ops0_1_writes : WritesIn (F := F) while1Ops0_1 while1Ops0_1_W := StableHlo.forall_writes_sub_of_map rfl

theorem while1Ops0_2_fresh : NoFresh (F := F) while1Ops0_2 := StableHlo.forall_fresh_of_map rfl
abbrev while1Ops0_2_W : List (Ref sig .tc) := [main_while1b_call11_c, main_while1b_call11_c_0, main_while1b_call11_c_1, main_while1b_call11_v0, main_while1b_v48]
theorem while1Ops0_2_writes : WritesIn (F := F) while1Ops0_2 while1Ops0_2_W := StableHlo.forall_writes_sub_of_map rfl

theorem while1Ops0_3_fresh : NoFresh (F := F) while1Ops0_3 := StableHlo.forall_fresh_of_map rfl
abbrev while1Ops0_3_W : List (Ref sig .tc) := [main_while1b_call12_c, main_while1b_call12_c_0, main_while1b_call12_c_1, main_while1b_call12_v0, main_while1b_v49]
theorem while1Ops0_3_writes : WritesIn (F := F) while1Ops0_3 while1Ops0_3_W := StableHlo.forall_writes_sub_of_map rfl

theorem while1Ops0_4_fresh : NoFresh (F := F) while1Ops0_4 := StableHlo.forall_fresh_of_map rfl
abbrev while1Ops0_4_W : List (Ref sig .tc) := [main_while1b_call13_c, main_while1b_call13_c_0, main_while1b_call13_c_1, main_while1b_call13_v0, main_while1b_v50]
theorem while1Ops0_4_writes : WritesIn (F := F) while1Ops0_4 while1Ops0_4_W := StableHlo.forall_writes_sub_of_map rfl

theorem while1Ops0_5_fresh : NoFresh (F := F) while1Ops0_5 := StableHlo.forall_fresh_of_map rfl
abbrev while1Ops0_5_W : List (Ref sig .tc) := [main_while1b_call14_c, main_while1b_call14_c_0, main_while1b_call14_c_1, main_while1b_call14_v0, main_while1b_v51]
theorem while1Ops0_5_writes : WritesIn (F := F) while1Ops0_5 while1Ops0_5_W := StableHlo.forall_writes_sub_of_map rfl

theorem while1Ops0_6_fresh : NoFresh (F := F) while1Ops0_6 := StableHlo.forall_fresh_of_map rfl
abbrev while1Ops0_6_W : List (Ref sig .tc) := [main_while1b_call15_c, main_while1b_call15_c_0, main_while1b_call15_c_1, main_while1b_call15_v0, main_while1b_v52]
theorem while1Ops0_6_writes : WritesIn (F := F) while1Ops0_6 while1Ops0_6_W := StableHlo.forall_writes_sub_of_map rfl

theorem while1Ops0_7_fresh : NoFresh (F := F) while1Ops0_7 := StableHlo.forall_fresh_of_map rfl
abbrev while1Ops0_7_W : List (Ref sig .tc) := [main_while1b_call16_c, main_while1b_call16_c_0, main_while1b_call16_c_1, main_while1b_call16_v0, main_while1b_v53]
theorem while1Ops0_7_writes : WritesIn (F := F) while1Ops0_7 while1Ops0_7_W := StableHlo.forall_writes_sub_of_map rfl

theorem while1Ops0_8_fresh : NoFresh (F := F) while1Ops0_8 := StableHlo.forall_fresh_of_map rfl
abbrev while1Ops0_8_W : List (Ref sig .tc) := [main_while1b_call17_c, main_while1b_call17_c_0, main_while1b_call17_c_1, main_while1b_call17_v0, main_while1b_v54]
theorem while1Ops0_8_writes : WritesIn (F := F) while1Ops0_8 while1Ops0_8_W := StableHlo.forall_writes_sub_of_map rfl

theorem while1Ops0_9_fresh : NoFresh (F := F) while1Ops0_9 := StableHlo.forall_fresh_of_map rfl
abbrev while1Ops0_9_W : List (Ref sig .tc) := [main_while1b_v55, main_while1b_v56, main_while1b_v57, main_while1b_v58, main_while1b_v59, main_while1b_cst_30, main_while1b_v60, main_while1b_v61, main_while1b_v62, main_while1b_v63, main_while1b_cst_31, main_while1b_v64, main_while1b_v65, main_while1b_v66, main_while1b_v67, main_while1b_v68, main_while1b_v69, main_while1b_v70, main_while1b_v71, main_while1b_v72, main_while1b_v73, main_while1b_v74, main_while1b_v75, main_while1b_v76, main_while1b_v77]
theorem while1Ops0_9_writes : WritesIn (F := F) while1Ops0_9 while1Ops0_9_W := StableHlo.forall_writes_sub_of_map rfl

theorem while1Ops0_10_fresh : NoFresh (F := F) while1Ops0_10 := StableHlo.forall_fresh_of_map rfl
abbrev while1Ops0_10_W : List (Ref sig .tc) := [main_while1b_call18_v0, main_while1b_call18_c, main_while1b_call18_c_0, main_while1b_call18_c_1, main_while1b_v78]
theorem while1Ops0_10_writes : WritesIn (F := F) while1Ops0_10 while1Ops0_10_W := StableHlo.forall_writes_sub_of_map rfl

theorem while1Ops0_11_fresh : NoFresh (F := F) while1Ops0_11 := StableHlo.forall_fresh_of_map rfl
abbrev while1Ops0_11_W : List (Ref sig .tc) := [main_while1b_call19_v0, main_while1b_call19_c, main_while1b_call19_c_0, main_while1b_call19_c_1, main_while1b_v79]
theorem while1Ops0_11_writes : WritesIn (F := F) while1Ops0_11 while1Ops0_11_W := StableHlo.forall_writes_sub_of_map rfl

theorem while1Ops0_12_fresh : NoFresh (F := F) while1Ops0_12 := StableHlo.forall_fresh_of_map rfl
abbrev while1Ops0_12_W : List (Ref sig .tc) := [main_while1b_call20_v0, main_while1b_call20_c, main_while1b_call20_c_0, main_while1b_call20_c_1, main_while1b_v80]
theorem while1Ops0_12_writes : WritesIn (F := F) while1Ops0_12 while1Ops0_12_W := StableHlo.forall_writes_sub_of_map rfl

theorem while1Ops0_13_fresh : NoFresh (F := F) while1Ops0_13 := StableHlo.forall_fresh_of_map rfl
abbrev while1Ops0_13_W : List (Ref sig .tc) := [main_while1b_call21_v0, main_while1b_call21_c, main_while1b_call21_c_0, main_while1b_call21_c_1, main_while1b_v81]
theorem while1Ops0_13_writes : WritesIn (F := F) while1Ops0_13 while1Ops0_13_W := StableHlo.forall_writes_sub_of_map rfl

theorem while1Ops0_14_fresh : NoFresh (F := F) while1Ops0_14 := StableHlo.forall_fresh_of_map rfl
abbrev while1Ops0_14_W : List (Ref sig .tc) := [main_while1b_call22_v0, main_while1b_call22_c, main_while1b_call22_c_0, main_while1b_call22_c_1, main_while1b_v82]
theorem while1Ops0_14_writes : WritesIn (F := F) while1Ops0_14 while1Ops0_14_W := StableHlo.forall_writes_sub_of_map rfl

theorem while1Ops0_15_fresh : NoFresh (F := F) while1Ops0_15 := StableHlo.forall_fresh_of_map rfl
abbrev while1Ops0_15_W : List (Ref sig .tc) := [main_while1b_call23_v0, main_while1b_call23_c, main_while1b_call23_c_0, main_while1b_v83]
theorem while1Ops0_15_writes : WritesIn (F := F) while1Ops0_15 while1Ops0_15_W := StableHlo.forall_writes_sub_of_map rfl

theorem while1Ops0_16_fresh : NoFresh (F := F) while1Ops0_16 := StableHlo.forall_fresh_of_map rfl
abbrev while1Ops0_16_W : List (Ref sig .tc) := [main_while1b_c_32, main_while1b_v84, main_v33_8, main_v33_9, main_v33_10, main_v33_11, main_v33_12, main_v33_13, main_v33_14, main_v33_15]
theorem while1Ops0_16_writes : WritesIn (F := F) while1Ops0_16 while1Ops0_16_W := StableHlo.forall_writes_sub_of_map rfl

/-- The operations of the forward loop's condition. -/
abbrev condOps0 : List (HloOp τ sig (Elt F)) :=
  [ StableHlo.nullary main_while0c_c_24 (constantI S_ 32 64#32),
    StableHlo.binary main_v20_6 main_while0c_c_24 main_while0c_v45 (cmpi .slt) ]
/-- The operations of the backward loop's condition. -/
abbrev condOps1 : List (HloOp τ sig (Elt F)) :=
  [ StableHlo.nullary main_while1c_c_28 (constantI S_ 32 64#32),
    StableHlo.binary main_v33_8 main_while1c_c_28 main_while1c_v45 (cmpi .slt) ]

abbrev condOps0_W : List (Ref sig .tc) := [main_while0c_c_24, main_while0c_v45]
theorem condOps0_writes : WritesIn (F := F) condOps0 condOps0_W := StableHlo.forall_writes_sub_of_map rfl
abbrev condOps1_W : List (Ref sig .tc) := [main_while1c_c_28, main_while1c_v45]
theorem condOps1_writes : WritesIn (F := F) condOps1 condOps1_W := StableHlo.forall_writes_sub_of_map rfl

abbrev preI : List (List (HloOp τ sig (Elt F))) := [hostOps0]

theorem hpre : Plain (preI (F := F)) := (.cons hostOps0_sub (hf := List.forall_iff_forall_mem.mp hostOps0_fresh) .nil)

abbrev midI : List (List (HloOp τ sig (Elt F))) := [hostOps0_1]

theorem hmid : Plain (midI (F := F)) := (.cons hostOps0_1_sub (hf := List.forall_iff_forall_mem.mp hostOps0_1_fresh) .nil)

abbrev postI : List (List (HloOp τ sig (Elt F))) := [hostOps0_2]

theorem hpost : Plain (postI (F := F)) := (.cons hostOps0_2_sub (hf := List.forall_iff_forall_mem.mp hostOps0_2_fresh) .nil)

abbrev body0I : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11]

theorem hbody0 : Plain (body0I (F := F)) := (.cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.cons while0Ops0_7_sub (hf := List.forall_iff_forall_mem.mp while0Ops0_7_fresh) (.cons while0Ops0_8_sub (hf := List.forall_iff_forall_mem.mp while0Ops0_8_fresh) (.cons while0Ops0_9_sub (hf := List.forall_iff_forall_mem.mp while0Ops0_9_fresh) (.cons while0Ops0_10_sub (hf := List.forall_iff_forall_mem.mp while0Ops0_10_fresh) (.cons while0Ops0_11_sub (hf := List.forall_iff_forall_mem.mp while0Ops0_11_fresh) .nil))))))))))))

abbrev body1I : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16]

theorem hbody1 : Plain (body1I (F := F)) := (.cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.cons while1Ops0_9_sub (hf := List.forall_iff_forall_mem.mp while1Ops0_9_fresh) (.cons while1Ops0_10_sub (hf := List.forall_iff_forall_mem.mp while1Ops0_10_fresh) (.cons while1Ops0_11_sub (hf := List.forall_iff_forall_mem.mp while1Ops0_11_fresh) (.cons while1Ops0_12_sub (hf := List.forall_iff_forall_mem.mp while1Ops0_12_fresh) (.cons while1Ops0_13_sub (hf := List.forall_iff_forall_mem.mp while1Ops0_13_fresh) (.cons while1Ops0_14_sub (hf := List.forall_iff_forall_mem.mp while1Ops0_14_fresh) (.cons while1Ops0_15_sub (hf := List.forall_iff_forall_mem.mp while1Ops0_15_fresh) (.cons while1Ops0_16_sub (hf := List.forall_iff_forall_mem.mp while1Ops0_16_fresh) .nil)))))))))))))))))

/-- What loop 0's condition and body write. -/
abbrev writes0 : List (Ref sig .tc) := condOps0_W ++ (while0Ops0_W ++ (while0Ops0_1_W ++ (while0Ops0_2_W ++ (while0Ops0_3_W ++ (while0Ops0_4_W ++ (while0Ops0_5_W ++ (while0Ops0_6_W ++ (while0Ops0_7_W ++ (while0Ops0_8_W ++ (while0Ops0_9_W ++ (while0Ops0_10_W ++ (while0Ops0_11_W))))))))))))

/-- What loop 1's condition and body write. -/
abbrev writes1 : List (Ref sig .tc) := condOps1_W ++ (while1Ops0_W ++ (while1Ops0_1_W ++ (while1Ops0_2_W ++ (while1Ops0_3_W ++ (while1Ops0_4_W ++ (while1Ops0_5_W ++ (while1Ops0_6_W ++ (while1Ops0_7_W ++ (while1Ops0_8_W ++ (while1Ops0_9_W ++ (while1Ops0_10_W ++ (while1Ops0_11_W ++ (while1Ops0_12_W ++ (while1Ops0_13_W ++ (while1Ops0_14_W ++ (while1Ops0_15_W ++ (while1Ops0_16_W)))))))))))))))))

set_option maxRecDepth 100000 in
theorem ctr_last0 (X : Valuation τ sig (Elt F)) :
    after while0Ops0_11 X (Proc.devRef .tc main_v20_6) = addi (X (Proc.devRef .tc main_v20_6)) (constantI S_ 32 1#32) := by
  after_results
  rfl

/-- A buffer that a trip of loop 0 does not write keeps its contents. -/
theorem keep0 (V : Valuation τ sig (Elt F)) (b : Ref sig .tc) (h : b ∉ writes0) :
    afterL body0I (after condOps0 V) (Proc.devRef .tc b) = V (Proc.devRef .tc b) := by
  simp only [writes0, List.mem_append, not_or] at h
  obtain ⟨hc, h0, h1, h2, h3, h4, h5, h6, h7, h8, h9, h10, h11⟩ := h
  simp only [afterL_cons, afterL_nil]
  rw [after_of_writes_sub while0Ops0_11 _ while0Ops0_11_writes h11, after_of_writes_sub while0Ops0_10 _ while0Ops0_10_writes h10, after_of_writes_sub while0Ops0_9 _ while0Ops0_9_writes h9, after_of_writes_sub while0Ops0_8 _ while0Ops0_8_writes h8, after_of_writes_sub while0Ops0_7 _ while0Ops0_7_writes h7, after_of_writes_sub while0Ops0_6 _ while0Ops0_6_writes h6, after_of_writes_sub while0Ops0_5 _ while0Ops0_5_writes h5, after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0, after_of_writes_sub condOps0 _ condOps0_writes hc]

/-- A trip of loop 0 counts its counter one on. -/
theorem ctr0 (V : Valuation τ sig (Elt F)) :
    afterL body0I (after condOps0 V) (Proc.devRef .tc main_v20_6) = addi (V (Proc.devRef .tc main_v20_6)) (constantI S_ 32 1#32) := by
  simp only [afterL_cons, afterL_nil]
  rw [ctr_last0, after_of_writes_sub while0Ops0_10 _ while0Ops0_10_writes (r := main_v20_6) (by decide +kernel), after_of_writes_sub while0Ops0_9 _ while0Ops0_9_writes (r := main_v20_6) (by decide +kernel), after_of_writes_sub while0Ops0_8 _ while0Ops0_8_writes (r := main_v20_6) (by decide +kernel), after_of_writes_sub while0Ops0_7 _ while0Ops0_7_writes (r := main_v20_6) (by decide +kernel), after_of_writes_sub while0Ops0_6 _ while0Ops0_6_writes (r := main_v20_6) (by decide +kernel), after_of_writes_sub while0Ops0_5 _ while0Ops0_5_writes (r := main_v20_6) (by decide +kernel), after_of_writes_sub while0Ops0_4 _ while0Ops0_4_writes (r := main_v20_6) (by decide +kernel), after_of_writes_sub while0Ops0_3 _ while0Ops0_3_writes (r := main_v20_6) (by decide +kernel), after_of_writes_sub while0Ops0_2 _ while0Ops0_2_writes (r := main_v20_6) (by decide +kernel), after_of_writes_sub while0Ops0_1 _ while0Ops0_1_writes (r := main_v20_6) (by decide +kernel), after_of_writes_sub while0Ops0 _ while0Ops0_writes (r := main_v20_6) (by decide +kernel), after_of_writes_sub condOps0 _ condOps0_writes (r := main_v20_6) (by decide +kernel)]

set_option maxRecDepth 100000 in
theorem ctr_last1 (X : Valuation τ sig (Elt F)) :
    after while1Ops0_16 X (Proc.devRef .tc main_v33_8) = addi (X (Proc.devRef .tc main_v33_8)) (constantI S_ 32 1#32) := by
  after_results
  rfl

/-- A buffer that a trip of loop 1 does not write keeps its contents. -/
theorem keep1 (V : Valuation τ sig (Elt F)) (b : Ref sig .tc) (h : b ∉ writes1) :
    afterL body1I (after condOps1 V) (Proc.devRef .tc b) = V (Proc.devRef .tc b) := by
  simp only [writes1, List.mem_append, not_or] at h
  obtain ⟨hc, h0, h1, h2, h3, h4, h5, h6, h7, h8, h9, h10, h11, h12, h13, h14, h15, h16⟩ := h
  simp only [afterL_cons, afterL_nil]
  rw [after_of_writes_sub while1Ops0_16 _ while1Ops0_16_writes h16, after_of_writes_sub while1Ops0_15 _ while1Ops0_15_writes h15, after_of_writes_sub while1Ops0_14 _ while1Ops0_14_writes h14, after_of_writes_sub while1Ops0_13 _ while1Ops0_13_writes h13, after_of_writes_sub while1Ops0_12 _ while1Ops0_12_writes h12, after_of_writes_sub while1Ops0_11 _ while1Ops0_11_writes h11, after_of_writes_sub while1Ops0_10 _ while1Ops0_10_writes h10, after_of_writes_sub while1Ops0_9 _ while1Ops0_9_writes h9, after_of_writes_sub while1Ops0_8 _ while1Ops0_8_writes h8, after_of_writes_sub while1Ops0_7 _ while1Ops0_7_writes h7, after_of_writes_sub while1Ops0_6 _ while1Ops0_6_writes h6, after_of_writes_sub while1Ops0_5 _ while1Ops0_5_writes h5, after_of_writes_sub while1Ops0_4 _ while1Ops0_4_writes h4, after_of_writes_sub while1Ops0_3 _ while1Ops0_3_writes h3, after_of_writes_sub while1Ops0_2 _ while1Ops0_2_writes h2, after_of_writes_sub while1Ops0_1 _ while1Ops0_1_writes h1, after_of_writes_sub while1Ops0 _ while1Ops0_writes h0, after_of_writes_sub condOps1 _ condOps1_writes hc]

/-- A trip of loop 1 counts its counter one on. -/
theorem ctr1 (V : Valuation τ sig (Elt F)) :
    afterL body1I (after condOps1 V) (Proc.devRef .tc main_v33_8) = addi (V (Proc.devRef .tc main_v33_8)) (constantI S_ 32 1#32) := by
  simp only [afterL_cons, afterL_nil]
  rw [ctr_last1, after_of_writes_sub while1Ops0_15 _ while1Ops0_15_writes (r := main_v33_8) (by decide +kernel), after_of_writes_sub while1Ops0_14 _ while1Ops0_14_writes (r := main_v33_8) (by decide +kernel), after_of_writes_sub while1Ops0_13 _ while1Ops0_13_writes (r := main_v33_8) (by decide +kernel), after_of_writes_sub while1Ops0_12 _ while1Ops0_12_writes (r := main_v33_8) (by decide +kernel), after_of_writes_sub while1Ops0_11 _ while1Ops0_11_writes (r := main_v33_8) (by decide +kernel), after_of_writes_sub while1Ops0_10 _ while1Ops0_10_writes (r := main_v33_8) (by decide +kernel), after_of_writes_sub while1Ops0_9 _ while1Ops0_9_writes (r := main_v33_8) (by decide +kernel), after_of_writes_sub while1Ops0_8 _ while1Ops0_8_writes (r := main_v33_8) (by decide +kernel), after_of_writes_sub while1Ops0_7 _ while1Ops0_7_writes (r := main_v33_8) (by decide +kernel), after_of_writes_sub while1Ops0_6 _ while1Ops0_6_writes (r := main_v33_8) (by decide +kernel), after_of_writes_sub while1Ops0_5 _ while1Ops0_5_writes (r := main_v33_8) (by decide +kernel), after_of_writes_sub while1Ops0_4 _ while1Ops0_4_writes (r := main_v33_8) (by decide +kernel), after_of_writes_sub while1Ops0_3 _ while1Ops0_3_writes (r := main_v33_8) (by decide +kernel), after_of_writes_sub while1Ops0_2 _ while1Ops0_2_writes (r := main_v33_8) (by decide +kernel), after_of_writes_sub while1Ops0_1 _ while1Ops0_1_writes (r := main_v33_8) (by decide +kernel), after_of_writes_sub while1Ops0 _ while1Ops0_writes (r := main_v33_8) (by decide +kernel), after_of_writes_sub condOps1 _ condOps1_writes (r := main_v33_8) (by decide +kernel)]

variable (m : (ℓ : Loc nD τ sig) → Buf (Elt F) ℓ) (ρ : Dev nD → PrngReg)

/-! ## The buffers at the loops' trips and at the end -/

/-- Before the forward loop. -/
abbrev X0 (c : Dev nD) : Valuation τ sig (Elt F) := afterL preI (launchContents m c)
/-- Before the forward loop's condition runs for the `k`-th time. -/
abbrev T0 (k : ℕ) (c : Dev nD) : Valuation τ sig (Elt F) := atTrip condOps0 body0I (X0 m) k c
/-- Before the backward loop. -/
abbrev X1 (c : Dev nD) : Valuation τ sig (Elt F) := afterL midI (after condOps0 (T0 m 64 c))
/-- Before the backward loop's condition runs for the `k`-th time. -/
abbrev T1 (k : ℕ) (c : Dev nD) : Valuation τ sig (Elt F) := atTrip condOps1 body1I (X1 m) k c
/-- At @main's end. -/
abbrev fin (c : Dev nD) : Valuation τ sig (Elt F) := afterL postI (after condOps1 (T1 m 64 c))

set_option maxRecDepth 100000 in
theorem ctr_pre (V : Valuation τ sig (Elt F)) : after hostOps0 V (Proc.devRef .tc main_v20_6) = fun _ => (0#32 : BitVec 32) := by
  after_reads_simp
  rfl

set_option maxRecDepth 100000 in
theorem ctr_mid (V : Valuation τ sig (Elt F)) : after hostOps0_1 V (Proc.devRef .tc main_v33_8) = fun _ => (0#32 : BitVec 32) := by
  after_reads_simp
  rfl

theorem T0_ctr (c : Dev nD) : ∀ k, T0 m k c (Proc.devRef .tc main_v20_6) = fun _ => Scf.iv 0#32 1#32 k
  | 0 => by rw [show T0 m 0 c = after hostOps0 (launchContents m c) from rfl, ctr_pre, Scf.iv_zero]
  | k + 1 => by
    rw [show T0 m (k + 1) c = afterL body0I (after condOps0 (T0 m k c)) from rfl, ctr0, T0_ctr c k, Scf.iv_succ]
    rfl

theorem T1_ctr (c : Dev nD) : ∀ k, T1 m k c (Proc.devRef .tc main_v33_8) = fun _ => Scf.iv 0#32 1#32 k
  | 0 => by rw [show T1 m 0 c = after hostOps0_1 (after condOps0 (T0 m 64 c)) from rfl, ctr_mid, Scf.iv_zero]
  | k + 1 => by
    rw [show T1 m (k + 1) c = afterL body1I (after condOps1 (T1 m k c)) from rfl, ctr1, T1_ctr c k, Scf.iv_succ]
    rfl

/-! ## The conditions -/

set_option backward.isDefEq.respectTransparency.types false in
theorem cond0_spec : CondSpec (pcfgs (F := F)) defs₀ loops (main_while0_cond (F := F)) condOps0 body0I (X0 m) 64 := by
  intro k hk c bd
  have hctr := T0_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T0 m k c) main_v20_6 HostLoop.idx0)
        (HloOp.result _ (T0 m k c) main_while0c_c_24 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

set_option backward.isDefEq.respectTransparency.types false in
theorem cond1_spec : CondSpec (pcfgs (F := F)) defs₀ loops (main_while1_cond (F := F)) condOps1 body1I (X1 m) 64 := by
  intro k hk c bd
  have hctr := T1_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (T1 m k c) main_v33_8 HostLoop.idx0)
        (HloOp.result _ (T1 m k c) main_while1c_c_28 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-! ## The run -/

-- nothing of the ghost algebra is used: the program has no kernel region
local notation "𝕄" => MT nD τ sig Unit (Elt F) ℕ (Option PUnit) ℕ

abbrev adm0 : (p : Fin 0) → (pcfgs (F := F) p).Adm := fun p => p.elim0
abbrev tick0 : Fin 0 → Ticket (Ix := Unit) (Name := ℕ) (U := Option PUnit) (Lvl := ℕ) (nD := nD) (τ := τ) (pcfgs (F := F)) adm0 := fun j => j.elim0
abbrev lev : GSem nD τ sig → Finset Unit := fun _ => ∅
abbrev lvl : GSem nD τ sig → Unit → ℕ := fun _ _ => 0

/-- What rides beside the buffers: the core owes nothing. -/
abbrev Owe (c : Dev nD) : sProp 𝕄 := iprop(∃ W, owes (c : Thread nD τ) (0 : CellTallies nD τ sig Unit) W)

/-- A condition's specification holds with `Owe` beside it. -/
theorem with_owe {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (pcfgs (F := F)) defs₀ Variants.none loops Owe cond condOps bodyI W₀ n := fun k hk c bd => by
  have hpost : ∀ v : Elt F .i1,
      iprop(iprop(⌜v = 1#1 ↔ k < n⌝ ∗ boundary (c : Thread nD τ) ∗ held (c : Thread nD τ) (ucRefs τ sig) (after condOps (atTrip condOps bodyI W₀ k c))) ∗ Owe c)
        ⊢ (iprop(⌜v = 1#1 ↔ k < n⌝ ∗ boundary (c : Thread nD τ) ∗ held (c : Thread nD τ) (ucRefs τ sig) (after condOps (atTrip condOps bodyI W₀ k c)) ∗ Owe c) : sProp 𝕄) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left (hcond k hk c bd)).trans (wp_frame_r _ _ _)).trans (wp_mono _ _ _ hpost))
  iintro ⟨Hbd, Hh, HR⟩
  isplitl [Hbd Hh]; · isplitl [Hbd] <;> iassumption
  iexact HR

/-- @main's segments: stretch, loop, stretch, loop, stretch. -/
def segs : List (CSeg (pcfgs (F := F)) adm0 defs₀ Variants.none lev lvl loops tick0) :=
  segsOf _ _ _ _ _ _ _ _ Owe preI hpre (launchContents m)
    ++ (loopSeg _ _ _ _ _ _ _ _ 0 main_while0_cond main_while0_body rfl condOps0 body0I hbody0 (by rw [while0_body_chain]; rfl) 64 (X0 m) Owe (with_owe (cond0_spec m))
      :: segsOf _ _ _ _ _ _ _ _ Owe midI hmid (fun c => after condOps0 (T0 m 64 c)))
    ++ (loopSeg _ _ _ _ _ _ _ _ 1 main_while1_cond main_while1_body rfl condOps1 body1I hbody1 (by rw [while1_body_chain]; rfl) 64 (X1 m) Owe (with_owe (cond1_spec m))
      :: segsOf _ _ _ _ _ _ _ _ Owe postI hpost (fun c => after condOps1 (T1 m 64 c)))

theorem segs_prog (c : Dev nD) : main (F := F) c = Pipeline.chain ((segs m).map CSeg.prog) := by
  rw [main_chain c]
  unfold segs
  rw [List.map_append, List.map_append, List.map_cons, List.map_cons, segsOf_prog, segsOf_prog, segsOf_prog]
  rfl

theorem segs_chains :
    CSeg.Chains (fun c => iprop(held (c : Thread nD τ) (ucRefs τ sig) (launchContents m c) ∗ Owe c)) (segs m)
      (fun c => (iprop(iprop(held (c : Thread nD τ) (ucRefs τ sig) (fin m c)) ∗ ∃ W, owes (c : Thread nD τ) (0 : CellTallies nD τ sig Unit) W) : sProp 𝕄)) := by
  unfold segs
  exact CSeg.Chains.append
    (CSeg.Chains.append (segsOf_chains _ _ _ _ _ _ _ _ Owe preI hpre _) ⟨fun _ => .rfl, segsOf_chains _ _ _ _ _ _ _ _ Owe midI hmid _⟩)
    ⟨fun _ => .rfl, segsOf_chains _ _ _ _ _ _ _ _ Owe postI hpost _⟩

/-- THE RUN: from any memory with zero counters every weakly fair execution of the reference ends with every unscoped
    buffer at `fin`. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = fin m c (Proc.devRef .tc b)) :=
  Pipeline.θ_run_regions_loop_kit (Ix := Unit) (Name := ℕ) (U := Option PUnit) (Lvl := ℕ) (J := Fin 0) (P := Fin 0) (Val := Elt F)
    pcfgs adm0 (fun k => k.1.elim0) defs₀ Variants.none lev lvl loops tick0 m ρ main (segs m)
    (fun c Q => by
      rw [segs_prog m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Owe c))
    (Tₙ := fun c => iprop(held (c : Thread nD τ) (ucRefs τ sig) (fin m c)))
    (hch := segs_chains m)
    (hinit := by
      refine Pipeline.initEach lev lvl fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = fin m c b)
    (hfin := fun c s' => by
      unfold held
      iintro ⟨Hh, HSI⟩
      ihave Hr := (pointsTo_read_all (ucRefs τ sig) (fun b => ((c : Dev nD), b)) (fun b => fin m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Loops

end
-- ==== Proof.Frames.lean ====
/-
  UNTRUSTED — the frames: the kernel's two programs and the reference run, leave their arguments as they were and end with
  every semaphore at zero.
-/
module

public import proofs.«01_k».proof.Defs
public import proofs.«01_k».proof.Proof.Gen.Kernel
public import proofs.«01_k».proof.Proof.Whole
public import proofs.«01_k».proof.Proof.RefRun

@[expose] public section

noncomputable section

namespace Cert.ReferenceIdeal.Loops

open ReferenceIdeal ReferenceIdeal.Gen
open Idealize.ShloMosaic Idealize.ShloMosaic.TcCoe
open Idealize.SL.Sem
open Idealize.ShloMosaic.StableHlo

variable {F : FTy → Type} [FloatOps F]

/-- A buffer that no operation of @main writes ends as it began. -/
theorem fin_of_unwritten (m : (ℓ : Loc nD τ sig) → Buf (Elt F) ℓ) (c : Dev nD) (b : Ref sig .tc)
    (hb : b ∉ hostOps0_W ++ (hostOps0_1_W ++ (hostOps0_2_W ++ (writes0 ++ writes1)))) :
    fin m c (Proc.devRef .tc b) = m ((c.tc : Thread nD τ).loc b) := by
  simp only [List.mem_append, not_or] at hb
  obtain ⟨h0, h1, h2, h3, h4⟩ := hb
  have h3' : b ∉ writes0 := by simpa only [writes0, List.mem_append, not_or] using h3
  have h4' : b ∉ writes1 := by simpa only [writes1, List.mem_append, not_or] using h4
  have c0 : b ∉ condOps0_W := h3.1
  have c1 : b ∉ condOps1_W := h4.1
  have t0 : ∀ k, T0 m k c (Proc.devRef .tc b) = m ((c.tc : Thread nD τ).loc b) := fun k => by
    induction k with
    | zero => exact after_of_writes_sub hostOps0 _ hostOps0_writes h0
    | succ k ih => exact (keep0 _ b h3').trans ih
  have t1 : ∀ k, T1 m k c (Proc.devRef .tc b) = m ((c.tc : Thread nD τ).loc b) := fun k => by
    induction k with
    | zero => exact (after_of_writes_sub hostOps0_1 _ hostOps0_1_writes h1).trans ((after_of_writes_sub condOps0 _ condOps0_writes c0).trans (t0 64))
    | succ k ih => exact (keep1 _ b h4').trans ih
  exact (after_of_writes_sub hostOps0_2 _ hostOps0_2_writes h2).trans ((after_of_writes_sub condOps1 _ condOps1_writes c1).trans (t1 64))

/-- The reference's arguments end unchanged. -/
theorem args_kept (m : (ℓ : Loc nD τ sig) → Buf (Elt F) ℓ) (c : Dev nD) {M : (ℓ : Loc nD τ sig) → Buf (Elt F) ℓ}
    (h : ∀ b : Ref sig .tc, (Proc.devRef .tc b : DevRef τ sig).isScoped = false → M ((c.tc : Thread nD τ).loc b) = fin m c (Proc.devRef .tc b)) :
    M ((c.tc : Thread nD τ).loc main_arg0) = m ((c.tc : Thread nD τ).loc main_arg0)
      ∧ M ((c.tc : Thread nD τ).loc main_arg1) = m ((c.tc : Thread nD τ).loc main_arg1)
      ∧ M ((c.tc : Thread nD τ).loc main_arg2) = m ((c.tc : Thread nD τ).loc main_arg2)
      ∧ M ((c.tc : Thread nD τ).loc main_arg3) = m ((c.tc : Thread nD τ).loc main_arg3)
      ∧ M ((c.tc : Thread nD τ).loc main_arg4) = m ((c.tc : Thread nD τ).loc main_arg4)
      ∧ M ((c.tc : Thread nD τ).loc main_arg5) = m ((c.tc : Thread nD τ).loc main_arg5)
      ∧ M ((c.tc : Thread nD τ).loc main_arg6) = m ((c.tc : Thread nD τ).loc main_arg6) :=
  ⟨(h main_arg0 (by decide)).trans (fin_of_unwritten m c main_arg0 (by decide +kernel)),
    (h main_arg1 (by decide)).trans (fin_of_unwritten m c main_arg1 (by decide +kernel)),
    (h main_arg2 (by decide)).trans (fin_of_unwritten m c main_arg2 (by decide +kernel)),
    (h main_arg3 (by decide)).trans (fin_of_unwritten m c main_arg3 (by decide +kernel)),
    (h main_arg4 (by decide)).trans (fin_of_unwritten m c main_arg4 (by decide +kernel)),
    (h main_arg5 (by decide)).trans (fin_of_unwritten m c main_arg5 (by decide +kernel)),
    (h main_arg6 (by decide)).trans (fin_of_unwritten m c main_arg6 (by decide +kernel))⟩

end Cert.ReferenceIdeal.Loops

namespace Cert.Proof

open Idealize.ShloMosaic Idealize.ShloMosaic.TcCoe
open Idealize.SL.Sem

theorem frame_KernelIdeal : quiescent_KernelIdeal := fun m ρ _ => KernelIdeal.Scan.frame (F := Ideal) m ρ

/-- The frame that `frame` states at `Bits`, for the program `KernelIdeal`. -/
def AtBits : Prop := ∀ (m : (ℓ : Loc KernelIdeal.nD KernelIdeal.τ KernelIdeal.sig) → Buf (Elt Bits) ℓ) (ρ : Dev KernelIdeal.nD → PrngReg), True →
  θ_run (KernelIdeal.defs (F := Bits)) (onTc (τ := KernelIdeal.τ) (KernelIdeal.main (F := Bits))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6))
      ∧ r.2.sem = fun _ => 0)

theorem frame_Kernel : quiescent_Kernel :=
  (show quiescent_Kernel = AtBits by sl_kernel_rfl).mpr fun m ρ _ => KernelIdeal.Scan.frame (F := Bits) m ρ

theorem frame_ReferenceIdeal : quiescent_ReferenceIdeal := fun m ρ _ =>
  (θ_run ReferenceIdeal.defs _ _).mono (fun r h => ⟨fun c => ReferenceIdeal.Loops.args_kept m c (h c), sem_eq_zero_of_no_sems (by decide) r.2⟩)
    (ReferenceIdeal.Loops.run (F := Ideal) m ρ)

end Cert.Proof

end
-- ==== Proof.Math.lean ====
/-
  UNTRUSTED — the chunked scan and its backward pass over the extended reals, head by head and element by element; and
  that real arguments keep every value of it real.
-/
module

public import Mathlib.Data.EReal.Operations
public import Mathlib.Algebra.BigOperators.Fin
public import Idealize.ShloMosaic.Lib.Pointwise.Index

@[expose] public section

noncomputable section

namespace Cert.Gdn

open Idealize.ShloMosaic

/-- A chunk of rows: head, row, lane. -/
abbrev RowT := Fin 8 → Fin 64 → Fin 128 → EReal
/-- A chunk's row-by-row matrix. -/
abbrev QkT := Fin 8 → Fin 64 → Fin 64 → EReal
/-- A state: head, key lane, value lane. -/
abbrev StT := Fin 8 → Fin 128 → Fin 128 → EReal
/-- A chunk's decay, one per head and value lane. -/
abbrev GlT := Fin 8 → Fin 128 → EReal

/-- Arrays with the head first and all rows after it; the decays, and the states, of all chunks. -/
abbrev SR : Shape := ⟨3, ![8, 4096, 128]⟩
abbrev SQ : Shape := ⟨3, ![8, 4096, 64]⟩
abbrev SG : Shape := ⟨3, ![8, 64, 128]⟩
abbrev SS : Shape := ⟨4, ![8, 64, 128, 128]⟩

/-- Row `t` of chunk `n` in such an array (taken round past the last). -/
def row (n : ℕ) (t : Fin 64) : Fin 4096 := ⟨(64 * n + t.val) % 4096, Nat.mod_lt _ (by decide)⟩
/-- Chunk `n`'s place among 64. -/
def slot (n : ℕ) : Fin 64 := ⟨n % 64, Nat.mod_lt _ (by decide)⟩

/-! Chunk `n` of each kind of array. -/
def ofR (x : SR.Idx → EReal) (n : ℕ) : RowT := fun h t e => x (ix3 h (row n t) e)
def ofQ (x : SQ.Idx → EReal) (n : ℕ) : QkT := fun h t s => x (ix3 h (row n t) s)
def ofG (x : SG.Idx → EReal) (n : ℕ) : GlT := fun h e => x (ix3 h (slot n) e)
def ofS (x : SS.Idx → EReal) (n : ℕ) : StT := fun h d e => x (ix4 h (slot n) d e)

/-! And an array from its chunks. -/
def toR (f : ℕ → RowT) : SR.Idx → EReal := fun y => f ((y 1).val / 64) (y 0) ⟨(y 1).val % 64, Nat.mod_lt _ (by decide)⟩ (y 2)
def toQ (f : ℕ → QkT) : SQ.Idx → EReal := fun y => f ((y 1).val / 64) (y 0) ⟨(y 1).val % 64, Nat.mod_lt _ (by decide)⟩ (y 2)
def toG (f : ℕ → GlT) : SG.Idx → EReal := fun y => f (y 1).val (y 0) (y 2)
def toS (f : ℕ → StT) : SS.Idx → EReal := fun y => f (y 1).val (y 0) (y 2) (y 3)

/-! ## One chunk -/

/-- The new values of a chunk entered at state `s`. -/
def vnE (u w : RowT) (s : StT) : RowT := fun h t e => u h t e - ∑ d, w h t d * s h d e
/-- The state after a chunk whose new values are `v`. -/
def stE (kd : RowT) (gl : GlT) (v : RowT) (s : StT) : StT := fun h d e => s h d e * gl h e + ∑ t, kd h t d * v h t e
/-- The gradient of the new values, from the gradient `d'` of the state after the chunk. -/
def dvE (dO kd : RowT) (qk : QkT) (d' : StT) : RowT := fun h t e => (∑ s, qk h s t * dO h s e) + ∑ d, kd h t d * d' h d e
/-- The gradient of the state before the chunk, from the new values' gradient `v`. -/
def dsE (dO w qd : RowT) (gl : GlT) (v : RowT) (d' : StT) : StT := fun h d e =>
  ((∑ t, qd h t d * dO h t e) + d' h d e * gl h e) - ∑ t, w h t d * v h t e
/-- The gradients of a chunk's own arguments. -/
def dwE (v : RowT) (s : StT) : RowT := fun h t d => 0 - ∑ e, v h t e * s h d e
def dqkE (dO v : RowT) : QkT := fun h t s => ∑ e, dO h t e * v h s e
def dqdE (dO : RowT) (s : StT) : RowT := fun h t d => ∑ e, dO h t e * s h d e
def dkdE (v : RowT) (d' : StT) : RowT := fun h t d => ∑ e, v h t e * d' h d e
def dglE (s d' : StT) : GlT := fun h e => ∑ d, d' h d e * s h d e

/-! ## All chunks -/

section Scan
variable (U W KD QD DO : ℕ → RowT) (QK : ℕ → QkT) (GL : ℕ → GlT)

/-- The state before chunk `n`. -/
def stN : ℕ → StT
  | 0 => fun _ _ _ => 0
  | n + 1 => stE (KD n) (GL n) (vnE (U n) (W n) (stN n)) (stN n)
/-- Chunk `n`'s new values. -/
def vnN (n : ℕ) : RowT := vnE (U n) (W n) (stN U W KD GL n)
/-- The state's gradient once the last `k` of the 64 chunks are done. -/
def dsN : ℕ → StT
  | 0 => fun _ _ _ => 0
  | k + 1 => dsE (DO (63 - k)) (W (63 - k)) (QD (63 - k)) (GL (63 - k)) (dvE (DO (63 - k)) (KD (63 - k)) (QK (63 - k)) (dsN k)) (dsN k)
/-- Chunk `n`'s gradients. -/
def duN (n : ℕ) : RowT := dvE (DO n) (KD n) (QK n) (dsN W KD QD DO QK GL (63 - n))
def dwN (n : ℕ) : RowT := dwE (duN W KD QD DO QK GL n) (stN U W KD GL n)
def dqkN (n : ℕ) : QkT := dqkE (DO n) (vnN U W KD GL n)
def dqdN (n : ℕ) : RowT := dqdE (DO n) (stN U W KD GL n)
def dkdN (n : ℕ) : RowT := dkdE (vnN U W KD GL n) (dsN W KD QD DO QK GL (63 - n))
def dglN (n : ℕ) : GlT := dglE (stN U W KD GL n) (dsN W KD QD DO QK GL (63 - n))
end Scan

/-! ## Real values -/

/-- A value that is no infinity. -/
def Re (x : EReal) : Prop := ∃ r : ℝ, x = (r : EReal)

theorem Re.zero : Re 0 := ⟨0, rfl⟩
theorem Re.add {x y : EReal} : Re x → Re y → Re (x + y) := by
  rintro ⟨a, rfl⟩ ⟨b, rfl⟩; exact ⟨a + b, (EReal.coe_add a b).symm⟩
theorem Re.sub {x y : EReal} : Re x → Re y → Re (x - y) := by
  rintro ⟨a, rfl⟩ ⟨b, rfl⟩; exact ⟨a - b, (EReal.coe_sub a b).symm⟩
theorem Re.mul {x y : EReal} : Re x → Re y → Re (x * y) := by
  rintro ⟨a, rfl⟩ ⟨b, rfl⟩; exact ⟨a * b, (EReal.coe_mul a b).symm⟩

theorem coe_sum {n : ℕ} (f : Fin n → ℝ) : (∑ i, (f i : EReal)) = ((∑ i, f i : ℝ) : EReal) := by
  induction n with
  | zero => simp
  | succ n ih => rw [Fin.sum_univ_succ, Fin.sum_univ_succ, ih fun i => f i.succ, EReal.coe_add]

theorem Re.sum {n : ℕ} {f : Fin n → EReal} (h : ∀ i, Re (f i)) : Re (∑ i, f i) := by
  choose g hg using h
  exact ⟨∑ i, g i, (Finset.sum_congr rfl fun i _ => hg i).trans (coe_sum g)⟩

/-- A sum of negated real values is the negated sum. -/
theorem sum_neg {n : ℕ} {f : Fin n → EReal} (h : ∀ i, Re (f i)) : (∑ i, -f i) = -∑ i, f i := by
  choose g hg using h
  have e : f = fun i => ((g i : ℝ) : EReal) := funext hg
  subst e
  have := coe_sum fun i => -g i
  simp only [EReal.coe_neg] at this
  rw [this, coe_sum, Finset.sum_neg_distrib, EReal.coe_neg]

/-- The same for a product with its first factor negated. -/
theorem sum_neg_mul {n : ℕ} {f g : Fin n → EReal} (hf : ∀ i, Re (f i)) (hg : ∀ i, Re (g i)) :
    (∑ i, -f i * g i) = -∑ i, f i * g i := by
  rw [← sum_neg fun i => (hf i).mul (hg i)]
  exact Finset.sum_congr rfl fun i _ => EReal.neg_mul _ _

/-- Everything of a chunk of rows real, and so on. -/
abbrev ReR (x : RowT) : Prop := ∀ h t e, Re (x h t e)
abbrev ReQ (x : QkT) : Prop := ∀ h t s, Re (x h t s)
abbrev ReS (x : StT) : Prop := ∀ h d e, Re (x h d e)
abbrev ReG (x : GlT) : Prop := ∀ h e, Re (x h e)

theorem vnE_re {u w : RowT} {s : StT} (hu : ReR u) (hw : ReR w) (hs : ReS s) : ReR (vnE u w s) := fun h t e =>
  (hu h t e).sub (.sum fun d => (hw h t d).mul (hs h d e))
theorem stE_re {kd v : RowT} {gl : GlT} {s : StT} (hk : ReR kd) (hg : ReG gl) (hv : ReR v) (hs : ReS s) : ReS (stE kd gl v s) := fun h d e =>
  ((hs h d e).mul (hg h e)).add (.sum fun t => (hk h t d).mul (hv h t e))
theorem dvE_re {dO kd : RowT} {qk : QkT} {d' : StT} (ho : ReR dO) (hk : ReR kd) (hq : ReQ qk) (hd : ReS d') : ReR (dvE dO kd qk d') := fun h t e =>
  (Re.sum fun s => (hq h s t).mul (ho h s e)).add (.sum fun d => (hk h t d).mul (hd h d e))
theorem dsE_re {dO w qd v : RowT} {gl : GlT} {d' : StT} (ho : ReR dO) (hw : ReR w) (hq : ReR qd) (hg : ReG gl) (hv : ReR v) (hd : ReS d') :
    ReS (dsE dO w qd gl v d') := fun h d e =>
  ((Re.sum fun t => (hq h t d).mul (ho h t e)).add ((hd h d e).mul (hg h e))).sub (.sum fun t => (hw h t d).mul (hv h t e))

section Scan
variable {U W KD QD DO : ℕ → RowT} {QK : ℕ → QkT} {GL : ℕ → GlT}

theorem stN_re (hU : ∀ n, ReR (U n)) (hW : ∀ n, ReR (W n)) (hK : ∀ n, ReR (KD n)) (hG : ∀ n, ReG (GL n)) :
    ∀ n, ReS (stN U W KD GL n)
  | 0 => fun _ _ _ => Re.zero
  | n + 1 => stE_re (hK n) (hG n) (vnE_re (hU n) (hW n) (stN_re hU hW hK hG n)) (stN_re hU hW hK hG n)

theorem dsN_re (hW : ∀ n, ReR (W n)) (hK : ∀ n, ReR (KD n)) (hQ : ∀ n, ReR (QD n)) (hO : ∀ n, ReR (DO n)) (hq : ∀ n, ReQ (QK n))
    (hG : ∀ n, ReG (GL n)) : ∀ k, ReS (dsN W KD QD DO QK GL k)
  | 0 => fun _ _ _ => Re.zero
  | k + 1 => dsE_re (hO _) (hW _) (hQ _) (hG _) (dvE_re (hO _) (hK _) (hq _) (dsN_re hW hK hQ hO hq hG k)) (dsN_re hW hK hQ hO hq hG k)
end Scan

end Cert.Gdn

end
-- ==== Proof.Finite.lean ====
/-
  UNTRUSTED — what the precondition `finite` gives at the ideal numbers: every element of every argument is a real number.
-/
module

public import proofs.«01_k».proof.Defs
public import proofs.«01_k».proof.Proof.Math
public import Idealize.ShloMosaic.Lib.Pointwise
public import Idealize.ShloMosaic.PureOps.Ideal.Laws

@[expose] public section

set_option maxRecDepth 16384

noncomputable section

namespace Cert.Finite

open Gdn
open Idealize.ShloMosaic Idealize.ShloMosaic.TcCoe

theorem facts : Pre_finite.Facts where
  bcast_S_S8x4096x128 := by decide
  bitsLt_bf16_f32 := by decide
  bcast_S_S8x4096x64 := by decide
  bcast_S_S8x64x128 := by decide

/-- The pattern of plus infinity. -/
theorem top_bits : (Ideal.ofBits .f32 0x7F800000#32 : EReal) = ⊤ := by
  simp [Ideal.ofBits, Ideal.ieee]

/-- A number whose absolute value is below plus infinity is real. -/
theorem re_of_lt {x : EReal} (h : Ideal.cmp .olt (max x (-x)) (Ideal.ofBits .f32 0x7F800000#32) = 1#1) : Re x := by
  rw [top_bits] at h
  have h' : max x (-x) < ⊤ := (Ideal.cmp_olt_eq_one _ _).mp h
  have h1 : x ≠ ⊤ := ne_of_lt (lt_of_le_of_lt (le_max_left _ _) h')
  have h2 : x ≠ ⊥ := fun e => by rw [e] at h'; simp at h'
  exact ⟨x.toReal, (EReal.coe_toReal h1 h2).symm⟩

section
variable [Pre_finite.Facts] (m : (ℓ : Loc KernelIdeal.nD KernelIdeal.τ KernelIdeal.sig) → Buf (Elt Ideal) ℓ)
  (hp : Pre_KernelIdeal_finite m) (c : Dev KernelIdeal.nD)
include hp

theorem arg0 (n : ℕ) : ReR (ofR (m ((c.tc : Thread _ _).loc KernelIdeal.main_arg0)) n) := fun h t e =>
  re_of_lt (congrFun (hp c).1 (ix3 h (row n t) e))
theorem arg1 (n : ℕ) : ReR (ofR (m ((c.tc : Thread _ _).loc KernelIdeal.main_arg1)) n) := fun h t e =>
  re_of_lt (congrFun (hp c).2.1 (ix3 h (row n t) e))
theorem arg2 (n : ℕ) : ReQ (ofQ (m ((c.tc : Thread _ _).loc KernelIdeal.main_arg2)) n) := fun h t e =>
  re_of_lt (congrFun (hp c).2.2.1 (ix3 h (row n t) e))
theorem arg3 (n : ℕ) : ReR (ofR (m ((c.tc : Thread _ _).loc KernelIdeal.main_arg3)) n) := fun h t e =>
  re_of_lt (congrFun (hp c).2.2.2.1 (ix3 h (row n t) e))
theorem arg4 (n : ℕ) : ReR (ofR (m ((c.tc : Thread _ _).loc KernelIdeal.main_arg4)) n) := fun h t e =>
  re_of_lt (congrFun (hp c).2.2.2.2.1 (ix3 h (row n t) e))
theorem arg5 (n : ℕ) : ReG (ofG (m ((c.tc : Thread _ _).loc KernelIdeal.main_arg5)) n) := fun h e =>
  re_of_lt (congrFun (hp c).2.2.2.2.2.1 (ix3 h (slot n) e))
theorem arg6 (n : ℕ) : ReR (ofR (m ((c.tc : Thread _ _).loc KernelIdeal.main_arg6)) n) := fun h t e =>
  re_of_lt (congrFun (hp c).2.2.2.2.2.2 (ix3 h (row n t) e))

end

end Cert.Finite

end
-- ==== Proof.KerRead.lean ====
/-
  UNTRUSTED — the kernel's chunk terms read element by element at the ideal numbers, and the eight chunks of a grid point:
  from a state that is the scan's before the point's first chunk, every chunk's terms are the scan's.
-/
module

public import proofs.«01_k».proof.Proof.Spec1
public import proofs.«01_k».proof.Proof.Math
public import Idealize.ShloMosaic.Lib.Pointwise

@[expose] public section

set_option maxRecDepth 16384

noncomputable section

namespace Cert.KernelIdeal.Scan

open KernelIdeal KernelIdeal.Gen Gdn
open Idealize.ShloMosaic Idealize.ShloMosaic.TcCoe

/-! ## Vectors as functions of their coordinates -/

def cR (x : S8x64x128.Idx → EReal) : RowT := fun h t e => x (ix3 h t e)
def cQ (x : S8x64x64.Idx → EReal) : QkT := fun h t s => x (ix3 h t s)
def cS (x : S8x128x128.Idx → EReal) : StT := fun h d e => x (ix3 h d e)
def cS' (x : S8x1x128x128.Idx → EReal) : StT := fun h d e => x (ix4 h 0 d e)
def cG (x : S8x1x128.Idx → EReal) : GlT := fun h e => x (ix3 h 0 e)

/-! ## The chunk terms -/

theorem zero_at : cS (k0_pay2 (F := Ideal)) = fun _ _ _ => 0 := by
  funext h d e
  unfold cS
  pointwise [k0_pay2]
theorem keep_at (s : Vec Ideal S8x128x128 .f32) : cS (k0_pay1 (F := Ideal) s) = cS s := by
  funext h d e
  unfold cS
  pointwise [k0_pay1]
theorem save_at (s : Vec Ideal S8x128x128 .f32) : cS' (k0_pay3 (F := Ideal) s) = cS s := by
  funext h d e
  unfold cS' cS
  pointwise [k0_pay3]
theorem vn_at (s : Vec Ideal S8x128x128 .f32) (u : Vec Ideal S8x64x128 .f32) (w : Vec Ideal S8x64x128 .bf16) :
    cR (k0_pay5 (F := Ideal) s u w) = vnE (cR u) (cR w) (cS s) := by
  funext h t e
  unfold cR vnE cS
  pointwise [k0_pay5, k0_pay4]
theorem st_at (s : Vec Ideal S8x128x128 .f32) (v : Vec Ideal S8x64x128 .bf16) (gl : Vec Ideal S8x1x128 .f32) (kd : Vec Ideal S8x64x128 .bf16) :
    cS (k0_pay7 (F := Ideal) s v gl kd) = stE (cR kd) (cG gl) (cR v) (cS s) := by
  funext h d e
  unfold cR stE cS cG
  pointwise [k0_pay7]
theorem du_at (d' : Vec Ideal S8x128x128 .f32) (dO : Vec Ideal S8x64x128 .f32) (qk : Vec Ideal S8x64x64 .bf16) (kd : Vec Ideal S8x64x128 .bf16) :
    cR (k1_pay8 (F := Ideal) d' dO qk kd) = dvE (cR dO) (cR kd) (cQ qk) (cS d') := by
  funext h t e
  unfold cR dvE cS cQ
  pointwise [k1_pay8, k1_pay6, k1_pay5]
theorem dv_at (d' : Vec Ideal S8x128x128 .f32) (dO : Vec Ideal S8x64x128 .f32) (qk : Vec Ideal S8x64x64 .bf16) (kd : Vec Ideal S8x64x128 .bf16) :
    cR (k1_pay9 (F := Ideal) d' dO qk kd) = dvE (cR dO) (cR kd) (cQ qk) (cS d') := by
  rw [← du_at]
  funext h t e
  unfold cR
  pointwise [k1_pay9]
theorem ds_at (d' : Vec Ideal S8x128x128 .f32) (dO : Vec Ideal S8x64x128 .f32) (v qd : Vec Ideal S8x64x128 .bf16) (gl : Vec Ideal S8x1x128 .f32)
    (w : Vec Ideal S8x64x128 .bf16) :
    cS (k1_pay15 (F := Ideal) d' (k1_pay6 dO) v qd gl w) = dsE (cR dO) (cR w) (cR qd) (cG gl) (cR v) (cS d') := by
  funext h d e
  unfold cR dsE cS cG
  pointwise [k1_pay15, k1_pay6]
theorem dw_at (d' : Vec Ideal S8x128x128 .f32) (ss : Vec Ideal S8x1x128x128 .f32) (dO : Vec Ideal S8x64x128 .f32) (qk : Vec Ideal S8x64x64 .bf16)
    (kd : Vec Ideal S8x64x128 .bf16) :
    cR (k1_pay10 (F := Ideal) d' ss dO qk kd) = dwE (dvE (cR dO) (cR kd) (cQ qk) (cS d')) (cS' ss) := by
  rw [← dv_at]
  funext h t d
  unfold cR dwE cS'
  unfold k1_pay10
  generalize k1_pay9 d' dO qk kd = v
  pointwise [k1_pay4, k1_pay3]
theorem dqk_at (dO : Vec Ideal S8x64x128 .f32) (vn : Vec Ideal S8x64x128 .bf16) :
    cQ (k1_pay11 (F := Ideal) (k1_pay6 dO) (k1_pay7 vn) (constant S8x64x64 .f32 0x00000000#32)) = dqkE (cR dO) (cR vn) := by
  funext h t s
  unfold cQ dqkE cR
  pointwise [k1_pay11, k1_pay6, k1_pay7]
theorem dqd_at (dO : Vec Ideal S8x64x128 .f32) (ss : Vec Ideal S8x1x128x128 .f32) :
    cR (k1_pay12 (F := Ideal) (k1_pay4 ss) (k1_pay6 dO)) = dqdE (cR dO) (cS' ss) := by
  funext h t d
  unfold cR dqdE cS'
  pointwise [k1_pay12, k1_pay4, k1_pay3, k1_pay6]
theorem dkd_at (d' : Vec Ideal S8x128x128 .f32) (vn : Vec Ideal S8x64x128 .bf16) :
    cR (k1_pay13 (F := Ideal) (k1_pay5 d') (k1_pay7 vn)) = dkdE (cR vn) (cS d') := by
  funext h t d
  unfold cR dkdE cS
  pointwise [k1_pay13, k1_pay5, k1_pay7]
theorem dgl_at (d' : Vec Ideal S8x128x128 .f32) (ss : Vec Ideal S8x1x128x128 .f32) :
    cG (k1_pay14 (F := Ideal) d' (k1_pay3 ss)) = dglE (cS' ss) (cS d') := by
  funext h e
  unfold cG dglE cS' cS
  pointwise [k1_pay14, k1_pay3]

/-! ## A grid point's chunks, forwards -/

section Chunks
variable {U W KD QD DO : ℕ → RowT} {QK : ℕ → QkT} {Gl : ℕ → GlT} {b : ℕ}
  {u : Fin 8 → Vec Ideal S8x64x128 .f32} {w kd : Fin 8 → Vec Ideal S8x64x128 .bf16} {gl : Fin 8 → Vec Ideal S8x1x128 .f32}
  (hu : ∀ k, cR (u k) = U (b + k.val)) (hw : ∀ k, cR (w k) = W (b + k.val)) (hk : ∀ k, cR (kd k) = KD (b + k.val)) (hg : ∀ k, cG (gl k) = Gl (b + k.val))
  {s : Vec Ideal S8x128x128 .f32}
include hw hk hg

include hu in
theorem st_chunks (hs : cS s = stN U W KD Gl b) : ∀ n, n ≤ 8 → cS (st (F := Ideal) u w kd gl s n) = stN U W KD Gl (b + n)
  | 0, _ => hs
  | n + 1, h => by
    rw [st, dif_pos (show n < 8 from h), st_at, vn_at, hu, hw, hk, hg, st_chunks hs n (Nat.le_of_succ_le h)]; rfl

include hu in
theorem vnC_at (hs : cS s = stN U W KD Gl b) (k : Fin 8) : cR (vnC (F := Ideal) u w kd gl s k) = vnN U W KD Gl (b + k.val) := by
  unfold vnC
  rw [vn_at, hu, hw, st_chunks hu hw hk hg hs k.val k.isLt.le]; rfl

include hu in
theorem sC_at (hs : cS s = stN U W KD Gl b) (k : Fin 8) : cS' (sC (F := Ideal) u w kd gl s k) = stN U W KD Gl (b + k.val) := by
  unfold sC
  rw [save_at, st_chunks hu hw hk hg hs k.val k.isLt.le]

/-! ## And backwards -/

variable {dO : Fin 8 → Vec Ideal S8x64x128 .f32} {qd vn : Fin 8 → Vec Ideal S8x64x128 .bf16} {qk : Fin 8 → Vec Ideal S8x64x64 .bf16}
  {ss : Fin 8 → Vec Ideal S8x1x128x128 .f32}
  (ho : ∀ k, cR (dO k) = DO (b + k.val)) (hq : ∀ k, cR (qd k) = QD (b + k.val)) (hqk : ∀ k, cQ (qk k) = QK (b + k.val))
include ho hq hqk

theorem dst_chunks (hb : b ≤ 56) (hs : cS s = dsN W KD QD DO QK Gl (56 - b)) :
    ∀ n, n ≤ 8 → cS (dst (F := Ideal) dO w qk qd kd gl s n) = dsN W KD QD DO QK Gl (56 - b + n)
  | 0, _ => hs
  | n + 1, h => by
    have e : b + (rk ⟨n, h⟩).val = 63 - (56 - b + n) := by
      show b + (7 - n) = _
      omega
    rw [dst, dif_pos (show n < 8 from h), ds_at, dv_at, ho, hw, hk, hg, hq, hqk, dst_chunks hb hs n (Nat.le_of_succ_le h), e]; rfl

theorem dsC_at (hb : b ≤ 56) (hs : cS s = dsN W KD QD DO QK Gl (56 - b)) (k : Fin 8) :
    cS (dsC (F := Ideal) dO w qk qd kd gl s k) = dsN W KD QD DO QK Gl (63 - (b + k.val)) := by
  have hk8 := k.isLt
  rw [dsC, dst_chunks hw hk hg ho hq hqk hb hs _ (by omega)]
  congr 1; omega

theorem duC_at (hb : b ≤ 56) (hs : cS s = dsN W KD QD DO QK Gl (56 - b)) (k : Fin 8) :
    cR (duC (F := Ideal) dO w qk qd kd gl s k) = duN W KD QD DO QK Gl (b + k.val) := by
  unfold duC
  rw [du_at, dsC_at hw hk hg ho hq hqk hb hs, ho, hk, hqk]; rfl

theorem dwC_at (hb : b ≤ 56) (hs : cS s = dsN W KD QD DO QK Gl (56 - b)) (hss : ∀ k, cS' (ss k) = stN U W KD Gl (b + k.val)) (k : Fin 8) :
    cR (dwC (F := Ideal) dO ss w qk qd kd gl s k) = dwN U W KD QD DO QK Gl (b + k.val) := by
  unfold dwC
  rw [dw_at, dsC_at hw hk hg ho hq hqk hb hs, ho, hk, hqk, hss]; rfl

theorem dkdC_at (hb : b ≤ 56) (hs : cS s = dsN W KD QD DO QK Gl (56 - b)) (hv : ∀ k, cR (vn k) = vnN U W KD Gl (b + k.val)) (k : Fin 8) :
    cR (dkdC (F := Ideal) dO vn w qk qd kd gl s k) = dkdN U W KD QD DO QK Gl (b + k.val) := by
  unfold dkdC
  rw [dkd_at, dsC_at hw hk hg ho hq hqk hb hs, hv]; rfl

theorem dglC_at (hb : b ≤ 56) (hs : cS s = dsN W KD QD DO QK Gl (56 - b)) (hss : ∀ k, cS' (ss k) = stN U W KD Gl (b + k.val)) (k : Fin 8) :
    cG (dglC (F := Ideal) dO ss w qk qd kd gl s k) = dglN U W KD QD DO QK Gl (b + k.val) := by
  unfold dglC
  rw [dgl_at, dsC_at hw hk hg ho hq hqk hb hs, hss]; rfl

omit hw hk hg hq hqk in
theorem dqkC_at (hv : ∀ k, cR (vn k) = vnN U W KD Gl (b + k.val)) (k : Fin 8) :
    cQ (dqkC (F := Ideal) dO vn k) = dqkN U W KD DO Gl (b + k.val) := by
  unfold dqkC
  rw [dqk_at, ho, hv]; rfl

omit hw hk hg hq hqk in
theorem dqdC_at (hss : ∀ k, cS' (ss k) = stN U W KD Gl (b + k.val)) (k : Fin 8) :
    cR (dqdC (F := Ideal) dO ss k) = dqdN U W KD DO Gl (b + k.val) := by
  unfold dqdC
  rw [dqd_at, ho, hss]; rfl

end Chunks

end Cert.KernelIdeal.Scan

end
-- ==== Proof.KerValue.lean ====
/-
  UNTRUSTED — the kernel's arrays after its run, at the ideal numbers: the forward launch leaves the states and the new
  values of the 64 chunks, the backward launch the six gradients.
-/
module

public import proofs.«01_k».proof.Proof.KerRead
public import proofs.«01_k».proof.Proof.Whole
public import Idealize.ShloMosaic.Lib.Pipeline.ValueKit

@[expose] public section

set_option maxRecDepth 16384

noncomputable section

namespace Cert.KernelIdeal.Scan

open KernelIdeal KernelIdeal.Gen Gdn
open Idealize.ShloMosaic Idealize.ShloMosaic.TcCoe
open Idealize.ShloMosaic.Pipeline (Dat Cfg Window BodyObligation cellOf)

/-! ## Places -/

theorem row_val (n : ℕ) (hn : n < 64) (t : Fin 64) : (row n t).val = 64 * n + t.val := by
  have := t.isLt
  show (64 * n + t.val) % 4096 = _
  omega
theorem slot_val (n : ℕ) (hn : n < 64) : (slot n).val = n := Nat.mod_eq_of_lt hn
theorem ofR_toR (f : ℕ → RowT) (n : ℕ) (hn : n < 64) : ofR (toR f) n = f n := by
  funext h t e
  have e0 : (row n t).val / 64 = n := by rw [row_val n hn]; omega
  have e1 : (⟨(row n t).val % 64, Nat.mod_lt _ (by decide)⟩ : Fin 64) = t := Fin.ext (by rw [row_val n hn]; show (64 * n + t.val) % 64 = t.val; omega)
  show f ((row n t).val / 64) h ⟨(row n t).val % 64, _⟩ e = _
  rw [e0, e1]
theorem ofS_toS (f : ℕ → StT) (n : ℕ) (hn : n < 64) : ofS (toS f) n = f n := by
  funext h d e
  show f (slot n).val h d e = _
  rw [slot_val n hn]

/-- A block of eight chunks put at place `b` of the whole, read at an element of the block. -/
theorem toR_blk (f : ℕ → RowT) (b : ℕ) (y : S8x512x128.Idx) (z : SR.Idx) (h0 : (z 0).val = (y 0).val) (h1 : (z 1).val = b * 512 + (y 1).val)
    (h2 : (z 2).val = (y 2).val) : toR f z = f (8 * b + (y 1).val / 64) (y 0) ⟨(y 1).val % 64, Nat.mod_lt _ (by decide)⟩ (y 2) := by
  have e0 : z 0 = y 0 := Fin.ext h0
  have e2 : z 2 = y 2 := Fin.ext h2
  have e1 : (z 1).val / 64 = 8 * b + (y 1).val / 64 := by omega
  have e3 : (⟨(z 1).val % 64, Nat.mod_lt _ (by decide)⟩ : Fin 64) = ⟨(y 1).val % 64, Nat.mod_lt _ (by decide)⟩ := Fin.ext (by show (z 1).val % 64 = (y 1).val % 64; omega)
  unfold toR
  rw [e0, e1, e2, e3]
theorem toQ_blk (f : ℕ → QkT) (b : ℕ) (y : S8x512x64.Idx) (z : SQ.Idx) (h0 : (z 0).val = (y 0).val) (h1 : (z 1).val = b * 512 + (y 1).val)
    (h2 : (z 2).val = (y 2).val) : toQ f z = f (8 * b + (y 1).val / 64) (y 0) ⟨(y 1).val % 64, Nat.mod_lt _ (by decide)⟩ (y 2) := by
  have e0 : z 0 = y 0 := Fin.ext h0
  have e2 : z 2 = y 2 := Fin.ext h2
  have e1 : (z 1).val / 64 = 8 * b + (y 1).val / 64 := by omega
  have e3 : (⟨(z 1).val % 64, Nat.mod_lt _ (by decide)⟩ : Fin 64) = ⟨(y 1).val % 64, Nat.mod_lt _ (by decide)⟩ := Fin.ext (by show (z 1).val % 64 = (y 1).val % 64; omega)
  unfold toQ
  rw [e0, e1, e2, e3]
theorem toG_blk (f : ℕ → GlT) (b : ℕ) (y : S8x8x128.Idx) (z : SG.Idx) (h0 : (z 0).val = (y 0).val) (h1 : (z 1).val = b * 8 + (y 1).val)
    (h2 : (z 2).val = (y 2).val) : toG f z = f (8 * b + (y 1).val) (y 0) (y 2) := by
  have e0 : z 0 = y 0 := Fin.ext h0
  have e2 : z 2 = y 2 := Fin.ext h2
  have e1 : (z 1).val = 8 * b + (y 1).val := by omega
  unfold toG
  rw [e0, e1, e2]
theorem toS_blk (f : ℕ → StT) (b : ℕ) (y : S8x8x128x128.Idx) (z : SS.Idx) (h0 : (z 0).val = (y 0).val) (h1 : (z 1).val = b * 8 + (y 1).val)
    (h2 : (z 2).val = (y 2).val) (h3 : (z 3).val = (y 3).val) : toS f z = f (8 * b + (y 1).val) (y 0) (y 2) (y 3) := by
  have e0 : z 0 = y 0 := Fin.ext h0
  have e2 : z 2 = y 2 := Fin.ext h2
  have e3 : z 3 = y 3 := Fin.ext h3
  have e1 : (z 1).val = 8 * b + (y 1).val := by omega
  unfold toS
  rw [e0, e1, e2, e3]

/-! A chunk's element in its block. -/
theorem atR (k : Fin 8) (h : Fin 8) (r : Fin 64) (e : Fin 128) : (rectR k).idx (ix3 h r e) = (ix3 h ⟨64 * k.val + r.val, by omega⟩ e : S8x512x128.Idx) := by
  funext a; apply Fin.ext; rw [Rect.idx_unit_val]
  match a with
  | ⟨0, _⟩ => exact Nat.zero_add _
  | ⟨1, _⟩ => rfl
  | ⟨2, _⟩ => exact Nat.zero_add _
theorem atQ (k : Fin 8) (h : Fin 8) (r : Fin 64) (e : Fin 64) : (rectQ k).idx (ix3 h r e) = (ix3 h ⟨64 * k.val + r.val, by omega⟩ e : S8x512x64.Idx) := by
  funext a; apply Fin.ext; rw [Rect.idx_unit_val]
  match a with
  | ⟨0, _⟩ => exact Nat.zero_add _
  | ⟨1, _⟩ => rfl
  | ⟨2, _⟩ => exact Nat.zero_add _
theorem atG (k : Fin 8) (h : Fin 8) (e : Fin 128) : (rectG k).idx (ix3 h 0 e) = (ix3 h k e : S8x8x128.Idx) := by
  funext a; apply Fin.ext; rw [Rect.idx_unit_val]
  match a with
  | ⟨0, _⟩ => exact Nat.zero_add _
  | ⟨1, _⟩ => rfl
  | ⟨2, _⟩ => exact Nat.zero_add _
theorem atS (k : Fin 8) (h : Fin 8) (d e : Fin 128) : (rectS k).idx (ix4 h 0 d e) = (ix4 h k d e : S8x8x128x128.Idx) := by
  funext a; apply Fin.ext; rw [Rect.idx_unit_val]
  match a with
  | ⟨0, _⟩ => exact Nat.zero_add _
  | ⟨1, _⟩ => rfl
  | ⟨2, _⟩ => exact Nat.zero_add _
  | ⟨3, _⟩ => exact Nat.zero_add _

variable (V : (c : Dev nD) → (b : Ref sig .tc) → Buf (Elt Ideal) ((c : Thread nD τ).loc b))

/-! ## The arguments' chunks, and the scan's own -/

abbrev kU (c : Dev nD) : ℕ → RowT := ofR (V c main_arg0)
abbrev kW (c : Dev nD) : ℕ → RowT := ofR (V c main_arg1)
abbrev kQK (c : Dev nD) : ℕ → QkT := ofQ (V c main_arg2)
abbrev kQD (c : Dev nD) : ℕ → RowT := ofR (V c main_arg3)
abbrev kKD (c : Dev nD) : ℕ → RowT := ofR (V c main_arg4)
abbrev kGl (c : Dev nD) : ℕ → GlT := ofG (V c main_arg5)
abbrev kDO (c : Dev nD) : ℕ → RowT := ofR (V c main_arg6)
abbrev kS (c : Dev nD) : ℕ → StT := stN (kU V c) (kW V c) (kKD V c) (kGl V c)
abbrev kV (c : Dev nD) : ℕ → RowT := vnN (kU V c) (kW V c) (kKD V c) (kGl V c)
abbrev kD (c : Dev nD) : ℕ → StT := dsN (kW V c) (kKD V c) (kQD V c) (kDO V c) (kQK V c) (kGl V c)

/-! ## The blocks' chunks -/

theorem ix0_0 : ∀ t : Fin cfg0.N, win0_0.index t = ![0, t.val, 0] := (by decide +kernel : ∀ t : Fin grid0.N, _)
theorem b0_0 (c : Dev nD) (t : Fin cfg0.N) (k : Fin 8) : cR (bu (F := Ideal) (iblk0 V c 0 t) k) = ofR (V c main_arg0) (8 * t.val + k.val) := by
  have ht : t.val < 8 := Nat.lt_of_lt_of_eq t.isLt N_0
  funext h r e
  unfold cR ofR bu
  rw [View.ld_apply, atR]
  blk_simp [iblk0]
  refine congrArg (V c main_arg0) ?_
  blk_ext [ix0_0, row]
theorem ix0_1 : ∀ t : Fin cfg0.N, win0_1.index t = ![0, t.val, 0] := (by decide +kernel : ∀ t : Fin grid0.N, _)
theorem b0_1 (c : Dev nD) (t : Fin cfg0.N) (k : Fin 8) : cR (bw (F := Ideal) (iblk0 V c 1 t) k) = ofR (V c main_arg1) (8 * t.val + k.val) := by
  have ht : t.val < 8 := Nat.lt_of_lt_of_eq t.isLt N_0
  funext h r e
  unfold cR ofR bw
  rw [View.ld_apply, atR]
  blk_simp [iblk0]
  refine congrArg (V c main_arg1) ?_
  blk_ext [ix0_1, row]
theorem ix0_4 : ∀ t : Fin cfg0.N, win0_4.index t = ![0, t.val, 0] := (by decide +kernel : ∀ t : Fin grid0.N, _)
theorem b0_4 (c : Dev nD) (t : Fin cfg0.N) (k : Fin 8) : cR (bw (F := Ideal) (iblk0 V c 4 t) k) = ofR (V c main_arg4) (8 * t.val + k.val) := by
  have ht : t.val < 8 := Nat.lt_of_lt_of_eq t.isLt N_0
  funext h r e
  unfold cR ofR bw
  rw [View.ld_apply, atR]
  blk_simp [iblk0]
  refine congrArg (V c main_arg4) ?_
  blk_ext [ix0_4, row]
theorem ix0_5 : ∀ t : Fin cfg0.N, win0_5.index t = ![0, t.val, 0] := (by decide +kernel : ∀ t : Fin grid0.N, _)
theorem b0_5 (c : Dev nD) (t : Fin cfg0.N) (k : Fin 8) : cG (bg (F := Ideal) (iblk0 V c 5 t) k) = ofG (V c main_arg5) (8 * t.val + k.val) := by
  have ht : t.val < 8 := Nat.lt_of_lt_of_eq t.isLt N_0
  funext h e
  unfold cG ofG bg
  rw [View.ld_apply, atG]
  blk_simp [iblk0]
  refine congrArg (V c main_arg5) ?_
  blk_ext [ix0_5, slot]
theorem ix1_0 : ∀ t : Fin cfg1.N, win1_0.index t = ![0, 7 - t.val, 0] := (by decide +kernel : ∀ t : Fin grid1.N, _)
theorem b1_0 (c : Dev nD) (t : Fin cfg1.N) (k : Fin 8) : cR (bu (F := Ideal) (iblk1 V c 0 t) k) = ofR (V c main_arg6) (8 * (7 - t.val) + k.val) := by
  have ht : t.val < 8 := Nat.lt_of_lt_of_eq t.isLt N_1
  funext h r e
  unfold cR ofR bu
  rw [View.ld_apply, atR]
  blk_simp [iblk1]
  refine congrArg (V c main_arg6) ?_
  blk_ext [ix1_0, row]
theorem ix1_1 : ∀ t : Fin cfg1.N, win1_1.index t = ![0, 7 - t.val, 0, 0] := (by decide +kernel : ∀ t : Fin grid1.N, _)
theorem b1_1 (c : Dev nD) (t : Fin cfg1.N) (k : Fin 8) : cS' (bs (F := Ideal) (iblk1 V c 1 t) k) = ofS (V c main_v0_1) (8 * (7 - t.val) + k.val) := by
  have ht : t.val < 8 := Nat.lt_of_lt_of_eq t.isLt N_1
  funext h d e
  unfold cS' ofS bs
  rw [View.ld_apply, atS]
  blk_simp [iblk1]
  refine congrArg (V c main_v0_1) ?_
  blk_ext [ix1_1, slot]
theorem ix1_2 : ∀ t : Fin cfg1.N, win1_2.index t = ![0, 7 - t.val, 0] := (by decide +kernel : ∀ t : Fin grid1.N, _)
theorem b1_2 (c : Dev nD) (t : Fin cfg1.N) (k : Fin 8) : cR (bw (F := Ideal) (iblk1 V c 2 t) k) = ofR (V c main_v0_2) (8 * (7 - t.val) + k.val) := by
  have ht : t.val < 8 := Nat.lt_of_lt_of_eq t.isLt N_1
  funext h r e
  unfold cR ofR bw
  rw [View.ld_apply, atR]
  blk_simp [iblk1]
  refine congrArg (V c main_v0_2) ?_
  blk_ext [ix1_2, row]
theorem ix1_3 : ∀ t : Fin cfg1.N, win1_3.index t = ![0, 7 - t.val, 0] := (by decide +kernel : ∀ t : Fin grid1.N, _)
theorem b1_3 (c : Dev nD) (t : Fin cfg1.N) (k : Fin 8) : cR (bw (F := Ideal) (iblk1 V c 3 t) k) = ofR (V c main_arg1) (8 * (7 - t.val) + k.val) := by
  have ht : t.val < 8 := Nat.lt_of_lt_of_eq t.isLt N_1
  funext h r e
  unfold cR ofR bw
  rw [View.ld_apply, atR]
  blk_simp [iblk1]
  refine congrArg (V c main_arg1) ?_
  blk_ext [ix1_3, row]
theorem ix1_4 : ∀ t : Fin cfg1.N, win1_4.index t = ![0, 7 - t.val, 0] := (by decide +kernel : ∀ t : Fin grid1.N, _)
theorem b1_4 (c : Dev nD) (t : Fin cfg1.N) (k : Fin 8) : cQ (bq (F := Ideal) (iblk1 V c 4 t) k) = ofQ (V c main_arg2) (8 * (7 - t.val) + k.val) := by
  have ht : t.val < 8 := Nat.lt_of_lt_of_eq t.isLt N_1
  funext h r e
  unfold cQ ofQ bq
  rw [View.ld_apply, atQ]
  blk_simp [iblk1]
  refine congrArg (V c main_arg2) ?_
  blk_ext [ix1_4, row]
theorem ix1_5 : ∀ t : Fin cfg1.N, win1_5.index t = ![0, 7 - t.val, 0] := (by decide +kernel : ∀ t : Fin grid1.N, _)
theorem b1_5 (c : Dev nD) (t : Fin cfg1.N) (k : Fin 8) : cR (bw (F := Ideal) (iblk1 V c 5 t) k) = ofR (V c main_arg3) (8 * (7 - t.val) + k.val) := by
  have ht : t.val < 8 := Nat.lt_of_lt_of_eq t.isLt N_1
  funext h r e
  unfold cR ofR bw
  rw [View.ld_apply, atR]
  blk_simp [iblk1]
  refine congrArg (V c main_arg3) ?_
  blk_ext [ix1_5, row]
theorem ix1_6 : ∀ t : Fin cfg1.N, win1_6.index t = ![0, 7 - t.val, 0] := (by decide +kernel : ∀ t : Fin grid1.N, _)
theorem b1_6 (c : Dev nD) (t : Fin cfg1.N) (k : Fin 8) : cR (bw (F := Ideal) (iblk1 V c 6 t) k) = ofR (V c main_arg4) (8 * (7 - t.val) + k.val) := by
  have ht : t.val < 8 := Nat.lt_of_lt_of_eq t.isLt N_1
  funext h r e
  unfold cR ofR bw
  rw [View.ld_apply, atR]
  blk_simp [iblk1]
  refine congrArg (V c main_arg4) ?_
  blk_ext [ix1_6, row]
theorem ix1_7 : ∀ t : Fin cfg1.N, win1_7.index t = ![0, 7 - t.val, 0] := (by decide +kernel : ∀ t : Fin grid1.N, _)
theorem b1_7 (c : Dev nD) (t : Fin cfg1.N) (k : Fin 8) : cG (bg (F := Ideal) (iblk1 V c 7 t) k) = ofG (V c main_arg5) (8 * (7 - t.val) + k.val) := by
  have ht : t.val < 8 := Nat.lt_of_lt_of_eq t.isLt N_1
  funext h e
  unfold cG ofG bg
  rw [View.ld_apply, atG]
  blk_simp [iblk1]
  refine congrArg (V c main_arg5) ?_
  blk_ext [ix1_7, slot]
theorem ix0_7 : ∀ t : Fin cfg0.N, win0_7.index t = ![0, t.val, 0, 0] := (by decide +kernel : ∀ t : Fin grid0.N, _)
theorem ix0_8 : ∀ t : Fin cfg0.N, win0_8.index t = ![0, t.val, 0] := (by decide +kernel : ∀ t : Fin grid0.N, _)
theorem ix1_8 : ∀ t : Fin cfg1.N, win1_8.index t = ![0, 7 - t.val, 0] := (by decide +kernel : ∀ t : Fin grid1.N, _)
theorem ix1_9 : ∀ t : Fin cfg1.N, win1_9.index t = ![0, 7 - t.val, 0] := (by decide +kernel : ∀ t : Fin grid1.N, _)
theorem ix1_10 : ∀ t : Fin cfg1.N, win1_10.index t = ![0, 7 - t.val, 0] := (by decide +kernel : ∀ t : Fin grid1.N, _)
theorem ix1_11 : ∀ t : Fin cfg1.N, win1_11.index t = ![0, 7 - t.val, 0] := (by decide +kernel : ∀ t : Fin grid1.N, _)
theorem ix1_12 : ∀ t : Fin cfg1.N, win1_12.index t = ![0, 7 - t.val, 0] := (by decide +kernel : ∀ t : Fin grid1.N, _)
theorem ix1_13 : ∀ t : Fin cfg1.N, win1_13.index t = ![0, 7 - t.val, 0] := (by decide +kernel : ∀ t : Fin grid1.N, _)

/-! ## The carried states -/

theorem car0_at (c : Dev nD) : ∀ n, n ≤ 8 → cS (car0 V c n) = kS V c (8 * n)
  | 0, _ => zero_at
  | n + 1, h => by
    have hn : n < cfg0.N := Nat.lt_of_lt_of_eq h N_0.symm
    rw [car0_succ V c ⟨n, hn⟩, cB, keep_at]
    exact st_chunks (b0_0 V c ⟨n, hn⟩) (b0_1 V c ⟨n, hn⟩) (b0_4 V c ⟨n, hn⟩) (b0_5 V c ⟨n, hn⟩) (car0_at c n (Nat.le_of_succ_le h)) 8 le_rfl

theorem car1_at (c : Dev nD) : ∀ n, n ≤ 8 → cS (car1 V c n) = kD V c (8 * n)
  | 0, _ => zero_at
  | n + 1, h => by
    have hn : n < cfg1.N := Nat.lt_of_lt_of_eq h N_1.symm
    have e : 56 - 8 * (7 - n) = 8 * n := by omega
    rw [car1_succ V c ⟨n, hn⟩, dcB, keep_at]
    refine (dst_chunks (b1_3 V c ⟨n, hn⟩) (b1_6 V c ⟨n, hn⟩) (b1_7 V c ⟨n, hn⟩) (b1_0 V c ⟨n, hn⟩) (b1_5 V c ⟨n, hn⟩) (b1_4 V c ⟨n, hn⟩)
      (by show 8 * (7 - n) ≤ 56; omega) ?_ 8 le_rfl).trans ?_
    · show _ = kD V c (56 - 8 * (7 - n))
      rw [e]; exact car1_at c n (Nat.le_of_succ_le h)
    · show kD V c (56 - 8 * (7 - n) + 8) = _
      rw [e]; rfl

/-! ## The forward launch's arrays -/

theorem arr_ss (c : Dev nD) : (dat0 V c).arrAt 7 cfg0.N = toS (kS V c) := by
  refine (dat0 V c).arrAt_eq_of_covers 7 _ (by decide +kernel) fun t hf y => ?_
  have ht : t.val < 8 := Nat.lt_of_lt_of_eq t.isLt N_0
  blk_simp
  rw [after0_7]
  refine Eq.trans ?_ (toS_blk (kS V c) t.val y _ ?_ ?_ ?_ ?_).symm
  · exact congrFun (congrFun (congrFun (sC_at (b0_0 V c t) (b0_1 V c t) (b0_4 V c t) (b0_5 V c t) (car0_at V c t.val ht.le) (y 1)) (y 0)) (y 2)) (y 3)
  all_goals blk_simp [ix0_7]

theorem arr_vn (c : Dev nD) : (dat0 V c).arrAt 8 cfg0.N = toR (kV V c) := by
  refine (dat0 V c).arrAt_eq_of_covers 8 _ (by decide +kernel) fun t hf y => ?_
  have ht : t.val < 8 := Nat.lt_of_lt_of_eq t.isLt N_0
  blk_simp
  rw [after0_8]
  refine Eq.trans ?_ (toR_blk (kV V c) t.val y _ ?_ ?_ ?_).symm
  · exact congrFun (congrFun (congrFun (vnC_at (b0_0 V c t) (b0_1 V c t) (b0_4 V c t) (b0_5 V c t) (car0_at V c t.val ht.le) _) (y 0)) _) (y 2)
  all_goals blk_simp [ix0_8]

/-! ## The backward launch's arrays, entered with the states and the new values saved -/

section Back
variable (hs : ∀ c, V c main_v0_1 = toS (kS V c)) (hv : ∀ c, V c main_v0_2 = toR (kV V c))

include hs in
theorem b1_ss (c : Dev nD) (t : Fin cfg1.N) (k : Fin 8) : cS' (bs (F := Ideal) (iblk1 V c 1 t) k) = kS V c (8 * (7 - t.val) + k.val) := by
  rw [b1_1, hs, ofS_toS _ _ (by omega)]
include hv in
theorem b1_vn (c : Dev nD) (t : Fin cfg1.N) (k : Fin 8) : cR (bw (F := Ideal) (iblk1 V c 2 t) k) = kV V c (8 * (7 - t.val) + k.val) := by
  rw [b1_2, hv, ofR_toR _ _ (by omega)]

theorem car1_pt (c : Dev nD) (t : Fin cfg1.N) : cS (car1 V c t.val) = kD V c (56 - 8 * (7 - t.val)) := by
  have ht : t.val < 8 := Nat.lt_of_lt_of_eq t.isLt N_1
  rw [car1_at V c t.val ht.le]
  congr 1; omega

theorem arr_du (c : Dev nD) : (dat1 V c).arrAt 8 cfg1.N = toR (duN (kW V c) (kKD V c) (kQD V c) (kDO V c) (kQK V c) (kGl V c)) := by
  refine (dat1 V c).arrAt_eq_of_covers 8 _ (by decide +kernel) fun t hf y => ?_
  blk_simp
  rw [after1_8]
  refine Eq.trans ?_ (toR_blk _ (7 - t.val) y _ ?_ ?_ ?_).symm
  · exact congrFun (congrFun (congrFun (duC_at (b1_3 V c t) (b1_6 V c t) (b1_7 V c t) (b1_0 V c t) (b1_5 V c t) (b1_4 V c t) (by omega) (car1_pt V c t) _) (y 0)) _) (y 2)
  all_goals blk_simp [ix1_8]

include hs in
theorem arr_dw (c : Dev nD) : (dat1 V c).arrAt 9 cfg1.N = toR (dwN (kU V c) (kW V c) (kKD V c) (kQD V c) (kDO V c) (kQK V c) (kGl V c)) := by
  refine (dat1 V c).arrAt_eq_of_covers 9 _ (by decide +kernel) fun t hf y => ?_
  blk_simp
  rw [after1_9]
  refine Eq.trans ?_ (toR_blk _ (7 - t.val) y _ ?_ ?_ ?_).symm
  · exact congrFun (congrFun (congrFun (dwC_at (b1_3 V c t) (b1_6 V c t) (b1_7 V c t) (b1_0 V c t) (b1_5 V c t) (b1_4 V c t) (by omega) (car1_pt V c t) (b1_ss V hs c t) _) (y 0)) _) (y 2)
  all_goals blk_simp [ix1_9]

include hv in
theorem arr_dqk (c : Dev nD) : (dat1 V c).arrAt 10 cfg1.N = toQ (dqkN (kU V c) (kW V c) (kKD V c) (kDO V c) (kGl V c)) := by
  refine (dat1 V c).arrAt_eq_of_covers 10 _ (by decide +kernel) fun t hf y => ?_
  blk_simp
  rw [after1_10]
  refine Eq.trans ?_ (toQ_blk _ (7 - t.val) y _ ?_ ?_ ?_).symm
  · exact congrFun (congrFun (congrFun (dqkC_at (b1_0 V c t) (b1_vn V hv c t) _) (y 0)) _) (y 2)
  all_goals blk_simp [ix1_10]

include hs in
theorem arr_dqd (c : Dev nD) : (dat1 V c).arrAt 11 cfg1.N = toR (dqdN (kU V c) (kW V c) (kKD V c) (kDO V c) (kGl V c)) := by
  refine (dat1 V c).arrAt_eq_of_covers 11 _ (by decide +kernel) fun t hf y => ?_
  blk_simp
  rw [after1_11]
  refine Eq.trans ?_ (toR_blk _ (7 - t.val) y _ ?_ ?_ ?_).symm
  · exact congrFun (congrFun (congrFun (dqdC_at (b1_0 V c t) (b1_ss V hs c t) _) (y 0)) _) (y 2)
  all_goals blk_simp [ix1_11]

include hv in
theorem arr_dkd (c : Dev nD) : (dat1 V c).arrAt 12 cfg1.N = toR (dkdN (kU V c) (kW V c) (kKD V c) (kQD V c) (kDO V c) (kQK V c) (kGl V c)) := by
  refine (dat1 V c).arrAt_eq_of_covers 12 _ (by decide +kernel) fun t hf y => ?_
  blk_simp
  rw [after1_12]
  refine Eq.trans ?_ (toR_blk _ (7 - t.val) y _ ?_ ?_ ?_).symm
  · exact congrFun (congrFun (congrFun (dkdC_at (b1_3 V c t) (b1_6 V c t) (b1_7 V c t) (b1_0 V c t) (b1_5 V c t) (b1_4 V c t) (by omega) (car1_pt V c t) (b1_vn V hv c t) _) (y 0)) _) (y 2)
  all_goals blk_simp [ix1_12]

include hs in
theorem arr_dgl (c : Dev nD) : (dat1 V c).arrAt 13 cfg1.N = toG (dglN (kU V c) (kW V c) (kKD V c) (kQD V c) (kDO V c) (kQK V c) (kGl V c)) := by
  refine (dat1 V c).arrAt_eq_of_covers 13 _ (by decide +kernel) fun t hf y => ?_
  blk_simp
  rw [after1_13]
  refine Eq.trans ?_ (toG_blk _ (7 - t.val) y _ ?_ ?_ ?_).symm
  · exact congrFun (congrFun (dglC_at (b1_3 V c t) (b1_6 V c t) (b1_7 V c t) (b1_0 V c t) (b1_5 V c t) (b1_4 V c t) (by omega) (car1_pt V c t) (b1_ss V hs c t) (y 1)) (y 0)) (y 2)
  all_goals blk_simp [ix1_13]

end Back

/-! ## The results of the whole run -/

section Run
variable (m : (ℓ : Loc nD τ sig) → Buf (Elt Ideal) ℓ) (ρ : Dev nD → PrngReg)

theorem V1_arg (c : Dev nD) (a : Ref sig .tc) (ha : a ∈ argRefs) : V1 m ρ c a = V0 m ρ c a := (W1_args m ρ c a ha).trans (W0_args m ρ c a ha).symm
theorem kU_V1 (c : Dev nD) : kU (V1 m ρ) c = kU (V0 m ρ) c := congrArg ofR (V1_arg m ρ c main_arg0 (by decide))
theorem kW_V1 (c : Dev nD) : kW (V1 m ρ) c = kW (V0 m ρ) c := congrArg ofR (V1_arg m ρ c main_arg1 (by decide))
theorem kQK_V1 (c : Dev nD) : kQK (V1 m ρ) c = kQK (V0 m ρ) c := congrArg ofQ (V1_arg m ρ c main_arg2 (by decide))
theorem kQD_V1 (c : Dev nD) : kQD (V1 m ρ) c = kQD (V0 m ρ) c := congrArg ofR (V1_arg m ρ c main_arg3 (by decide))
theorem kKD_V1 (c : Dev nD) : kKD (V1 m ρ) c = kKD (V0 m ρ) c := congrArg ofR (V1_arg m ρ c main_arg4 (by decide))
theorem kGl_V1 (c : Dev nD) : kGl (V1 m ρ) c = kGl (V0 m ρ) c := congrArg ofG (V1_arg m ρ c main_arg5 (by decide))
theorem kDO_V1 (c : Dev nD) : kDO (V1 m ρ) c = kDO (V0 m ρ) c := congrArg ofR (V1_arg m ρ c main_arg6 (by decide))

theorem ss_V1 (c : Dev nD) : V1 m ρ c main_v0_1 = toS (kS (V1 m ρ) c) := by
  unfold kS
  rw [kU_V1, kW_V1, kKD_V1, kGl_V1]
  exact (W1_arr m ρ c 7).trans (arr_ss (V0 m ρ) c)
theorem vn_V1 (c : Dev nD) : V1 m ρ c main_v0_2 = toR (kV (V1 m ρ) c) := by
  unfold kV
  rw [kU_V1, kW_V1, kKD_V1, kGl_V1]
  exact (W1_arr m ρ c 8).trans (arr_vn (V0 m ρ) c)

theorem res_du (c : Dev nD) : W2 m ρ c (Proc.devRef .tc main_v1_0) = toR (duN (kW (V0 m ρ) c) (kKD (V0 m ρ) c) (kQD (V0 m ρ) c) (kDO (V0 m ρ) c) (kQK (V0 m ρ) c) (kGl (V0 m ρ) c)) := by
  refine (W2_arr m ρ c 8).trans ?_
  rw [arr_du (V1 m ρ) c, kW_V1, kKD_V1, kQD_V1, kDO_V1, kQK_V1, kGl_V1]
theorem res_dw (c : Dev nD) : W2 m ρ c (Proc.devRef .tc main_v1_1) = toR (dwN (kU (V0 m ρ) c) (kW (V0 m ρ) c) (kKD (V0 m ρ) c) (kQD (V0 m ρ) c) (kDO (V0 m ρ) c) (kQK (V0 m ρ) c) (kGl (V0 m ρ) c)) := by
  refine (W2_arr m ρ c 9).trans ?_
  rw [arr_dw (V1 m ρ) (ss_V1 m ρ) c, kU_V1, kW_V1, kKD_V1, kQD_V1, kDO_V1, kQK_V1, kGl_V1]
theorem res_dqk (c : Dev nD) : W2 m ρ c (Proc.devRef .tc main_v1_2) = toQ (dqkN (kU (V0 m ρ) c) (kW (V0 m ρ) c) (kKD (V0 m ρ) c) (kDO (V0 m ρ) c) (kGl (V0 m ρ) c)) := by
  refine (W2_arr m ρ c 10).trans ?_
  rw [arr_dqk (V1 m ρ) (vn_V1 m ρ) c, kU_V1, kW_V1, kKD_V1, kDO_V1, kGl_V1]
theorem res_dqd (c : Dev nD) : W2 m ρ c (Proc.devRef .tc main_v1_3) = toR (dqdN (kU (V0 m ρ) c) (kW (V0 m ρ) c) (kKD (V0 m ρ) c) (kDO (V0 m ρ) c) (kGl (V0 m ρ) c)) := by
  refine (W2_arr m ρ c 11).trans ?_
  rw [arr_dqd (V1 m ρ) (ss_V1 m ρ) c, kU_V1, kW_V1, kKD_V1, kDO_V1, kGl_V1]
theorem res_dkd (c : Dev nD) : W2 m ρ c (Proc.devRef .tc main_v1_4) = toR (dkdN (kU (V0 m ρ) c) (kW (V0 m ρ) c) (kKD (V0 m ρ) c) (kQD (V0 m ρ) c) (kDO (V0 m ρ) c) (kQK (V0 m ρ) c) (kGl (V0 m ρ) c)) := by
  refine (W2_arr m ρ c 12).trans ?_
  rw [arr_dkd (V1 m ρ) (vn_V1 m ρ) c, kU_V1, kW_V1, kKD_V1, kQD_V1, kDO_V1, kQK_V1, kGl_V1]
theorem res_dgl (c : Dev nD) : W2 m ρ c (Proc.devRef .tc main_v1_5) = toG (dglN (kU (V0 m ρ) c) (kW (V0 m ρ) c) (kKD (V0 m ρ) c) (kQD (V0 m ρ) c) (kDO (V0 m ρ) c) (kQK (V0 m ρ) c) (kGl (V0 m ρ) c)) := by
  refine (W2_arr m ρ c 13).trans ?_
  rw [arr_dgl (V1 m ρ) (ss_V1 m ρ) c, kU_V1, kW_V1, kKD_V1, kQD_V1, kDO_V1, kQK_V1, kGl_V1]

end Run

end Cert.KernelIdeal.Scan

end
-- ==== Proof.RefStep.lean ====
/-
  UNTRUSTED — one trip of each of the reference's loops, from any contents: what it leaves in the carried buffers, as
  terms of the operations' own functions; and the same of the three stretches around the loops.
-/
module

public import proofs.«01_k».proof.Proof.RefRun
public import Idealize.ShloMosaic.Lib.Tactic

@[expose] public section

set_option maxRecDepth 16384

noncomputable section

namespace Cert.ReferenceIdeal.Loops

open ReferenceIdeal ReferenceIdeal.Gen
open Idealize.ShloMosaic Idealize.ShloMosaic.TcCoe
open Idealize.ShloMosaic.Tactic
open Idealize.ShloMosaic.StableHlo

variable {F : FTy → Type} [FloatOps F]

/-! ## Chunk reads and writes at a counter word -/

/-- The start of chunk `i` in an array of rank 4, as the operations read it. -/
def start4 (i : IVec S_ 32) : Fin 4 → Int := fun k => ((![i, constantI S_ 32 0#32, constantI S_ 32 0#32, constantI S_ 32 0#32] : Fin 4 → IVec S_ 32) k (Shape.Idx.first h_S_)).toInt
/-- The same at rank 3. -/
def start3 (i : IVec S_ 32) : Fin 3 → Int := fun k => ((![i, constantI S_ 32 0#32, constantI S_ 32 0#32] : Fin 3 → IVec S_ 32) k (Shape.Idx.first h_S_)).toInt

section Reads
variable (x : FVec F S64x8x64x128 .f32) (q : FVec F S64x8x64x64 .f32) (g : FVec F S64x8x128 .f32)
  (s : FVec F S64x8x128x128 .f32) (b : FVec F S64x8x1x128 .f32) (i : IVec S_ 32)

/-- Chunk `i` of an array of rows. -/
def getR : FVec F S8x64x128 .f32 := shapeCast S8x64x128 (Host.dynamicSlice S1x8x64x128 x (start4 i) sliceFits_S64x8x64x128_S1x8x64x128) shapeCasts_S1x8x64x128_S8x64x128
/-- Of the intra-chunk matrices. -/
def getQ : FVec F S8x64x64 .f32 := shapeCast S8x64x64 (Host.dynamicSlice S1x8x64x64 q (start4 i) sliceFits_S64x8x64x64_S1x8x64x64) shapeCasts_S1x8x64x64_S8x64x64
/-- Of the decays. -/
def getG : FVec F S8x128 .f32 := shapeCast S8x128 (Host.dynamicSlice S1x8x128 g (start3 i) sliceFits_S64x8x128_S1x8x128) shapeCasts_S1x8x128_S8x128
/-- Of the saved states. -/
def getS : FVec F S8x128x128 .f32 := shapeCast S8x128x128 (Host.dynamicSlice S1x8x128x128 s (start4 i) sliceFits_S64x8x128x128_S1x8x128x128) shapeCasts_S1x8x128x128_S8x128x128
/-- Of the saved decays. -/
def getB : FVec F S8x1x128 .f32 := shapeCast S8x1x128 (Host.dynamicSlice S1x8x1x128 b (start4 i) sliceFits_S64x8x1x128_S1x8x1x128) shapeCasts_S1x8x1x128_S8x1x128

/-- Chunk `i` of an array of rows set to `u`. -/
def putR (u : FVec F S8x64x128 .f32) : FVec F S64x8x64x128 .f32 :=
  Host.dynamicUpdateSlice x (broadcastInDim S1x8x64x128 ![1, 2, 3] bcast_S8x64x128_S1x8x64x128_1_2_3 u) (start4 i) updateFits_S64x8x64x128_S1x8x64x128
/-- Of the intra-chunk matrices. -/
def putQ (u : FVec F S8x64x64 .f32) : FVec F S64x8x64x64 .f32 :=
  Host.dynamicUpdateSlice q (broadcastInDim S1x8x64x64 ![1, 2, 3] bcast_S8x64x64_S1x8x64x64_1_2_3 u) (start4 i) updateFits_S64x8x64x64_S1x8x64x64
/-- Of the decays. -/
def putG (u : FVec F S8x128 .f32) : FVec F S64x8x128 .f32 :=
  Host.dynamicUpdateSlice g (broadcastInDim S1x8x128 ![1, 2] bcast_S8x128_S1x8x128_1_2 u) (start3 i) updateFits_S64x8x128_S1x8x128
/-- Of the saved states. -/
def putS (u : FVec F S8x128x128 .f32) : FVec F S64x8x128x128 .f32 :=
  Host.dynamicUpdateSlice s (broadcastInDim S1x8x128x128 ![1, 2, 3] bcast_S8x128x128_S1x8x128x128_1_2_3 u) (start4 i) updateFits_S64x8x128x128_S1x8x128x128
/-- Of the saved decays. -/
def putB (u : FVec F S8x1x128 .f32) : FVec F S64x8x1x128 .f32 :=
  Host.dynamicUpdateSlice b (broadcastInDim S1x8x1x128 ![1, 2, 3] bcast_S8x1x128_S1x8x1x128_1_2_3 u) (start4 i) updateFits_S64x8x1x128_S1x8x1x128
end Reads

/-! ## A chunk of the forward loop -/

section Step0
variable (u w kd : FVec F S8x64x128 .f32) (g : FVec F S8x128 .f32) (s : FVec F S8x128x128 .f32)
/-- The chunk's new values. -/
def vnT : FVec F S8x64x128 .f32 :=
  subf u (Host.dotGeneral dot_S8x64x128_S8x128x128_S8x64x128_2_1_1_2_0_0 none w s)
/-- The chunk's decay, as a row. -/
def glT : FVec F S8x1x128 .f32 := broadcastInDim S8x1x128 ![0, 2] bcast_S8x128_S8x1x128_0_2 g
/-- The state after the chunk. -/
def stT : FVec F S8x128x128 .f32 :=
  addf (mulf s (broadcastInDim S8x128x128 ![0, 1, 2] bcast_S8x1x128_S8x128x128_0_1_2 (glT g)))
    (Host.dotGeneral dot_S8x64x128_S8x64x128_S8x128x128_1_1_2_2_0_0 none kd (vnT u w s))
end Step0

/-! ## A chunk of the backward loop -/

section Step1
variable (dO w qd vn kd : FVec F S8x64x128 .f32) (ss : FVec F S8x128x128 .f32) (qk : FVec F S8x64x64 .f32) (gl : FVec F S8x1x128 .f32)
  (ds : FVec F S8x128x128 .f32)
/-- The gradient of the chunk's new values. -/
def dvT : FVec F S8x64x128 .f32 :=
  addf (transpose S8x64x128 [0, 2, 1] (Host.dotGeneral dot_S8x128x128_S8x64x128_S8x128x64_1_2_2_1_0_0 none ds kd) transposes_S8x128x64_S8x64x128_0_2_1)
    (transpose S8x64x128 [0, 2, 1] (Host.dotGeneral dot_S8x64x128_S8x64x64_S8x128x64_1_1_2_2_0_0 none dO qk) transposes_S8x128x64_S8x64x128_0_2_1)
/-- The state's gradient before the chunk. -/
def dsT : FVec F S8x128x128 .f32 :=
  addf (addf (mulf ds (broadcastInDim S8x128x128 ![0, 1, 2] bcast_S8x1x128_S8x128x128_0_1_2 gl))
      (transpose S8x128x128 [0, 2, 1] (Host.dotGeneral dot_S8x64x128_S8x64x128_S8x128x128_1_1_2_2_0_0 none dO qd) transposes_S8x128x128_S8x128x128_0_2_1))
    (transpose S8x128x128 [0, 2, 1] (Host.dotGeneral dot_S8x64x128_S8x64x128_S8x128x128_1_1_2_2_0_0 none (Host.negf (dvT dO kd qk ds)) w) transposes_S8x128x128_S8x128x128_0_2_1)
/-- The chunk's gradients. -/
def dqkT : FVec F S8x64x64 .f32 := Host.dotGeneral dot_S8x64x128_S8x64x128_S8x64x64_2_2_1_1_0_0 none dO vn
def dwT : FVec F S8x64x128 .f32 := Host.dotGeneral dot_S8x64x128_S8x128x128_S8x64x128_2_2_1_1_0_0 none (Host.negf (dvT dO kd qk ds)) ss
def dqdT : FVec F S8x64x128 .f32 := Host.dotGeneral dot_S8x64x128_S8x128x128_S8x64x128_2_2_1_1_0_0 none dO ss
def dkdT : FVec F S8x64x128 .f32 :=
  transpose S8x64x128 [0, 2, 1] (Host.dotGeneral dot_S8x128x128_S8x64x128_S8x128x64_2_2_1_1_0_0 none ds vn) transposes_S8x128x64_S8x64x128_0_2_1
def dglT : FVec F S8x128 .f32 :=
  Host.reduceAdd (shapeCast S8x1x128 (Host.reduceAdd (mulf ss ds) (constant S_ .f32 0x00000000#32) reducesTo_S8x128x128_S8x128_d1 h_S_) shapeCasts_S8x128_S8x1x128)
    (constant S_ .f32 0x00000000#32) reducesTo_S8x1x128_S8x128_d1 h_S_
end Step1

/-- The chunk the backward loop reads at counter `i`: the last first. -/
def rev (i : IVec S_ 32) : IVec S_ 32 := subi (subi (constantI S_ 32 64#32) i) (constantI S_ 32 1#32)

/-! ## The trips -/

theorem trip0_7 (V : Valuation τ sig (Elt F)) :
    afterL body0I (after condOps0 V) (Proc.devRef .tc main_v20_7)
      = stT (getR (V (Proc.devRef .tc main_v20_1)) (V (Proc.devRef .tc main_v20_6))) (getR (V (Proc.devRef .tc main_v20_2)) (V (Proc.devRef .tc main_v20_6))) (getR (V (Proc.devRef .tc main_v20_4)) (V (Proc.devRef .tc main_v20_6))) (getG (V (Proc.devRef .tc main_v20_5)) (V (Proc.devRef .tc main_v20_6))) (V (Proc.devRef .tc main_v20_7)) := by
  show after while0Ops0_11 (after while0Ops0_10 (after while0Ops0_9 (after while0Ops0_8 (after while0Ops0_7 (after while0Ops0_6 (after while0Ops0_5 (after while0Ops0_4 (after while0Ops0_3 (after while0Ops0_2 (after while0Ops0_1 (after while0Ops0 (after condOps0 V)))))))))))) (Proc.devRef .tc main_v20_7) = _
  after_reads_simp [unaryIndexed_result_read, binaryIndexed_result_read, indexContents_tref_cons, indexContents_tref_empty, TRef.ofBuf_toBuf, cast_eq]
  rfl

theorem trip0_9 (V : Valuation τ sig (Elt F)) :
    afterL body0I (after condOps0 V) (Proc.devRef .tc main_v20_9)
      = putS (V (Proc.devRef .tc main_v20_9)) (V (Proc.devRef .tc main_v20_6)) (V (Proc.devRef .tc main_v20_7)) := by
  show after while0Ops0_11 (after while0Ops0_10 (after while0Ops0_9 (after while0Ops0_8 (after while0Ops0_7 (after while0Ops0_6 (after while0Ops0_5 (after while0Ops0_4 (after while0Ops0_3 (after while0Ops0_2 (after while0Ops0_1 (after while0Ops0 (after condOps0 V)))))))))))) (Proc.devRef .tc main_v20_9) = _
  after_reads_simp [unaryIndexed_result_read, binaryIndexed_result_read, indexContents_tref_cons, indexContents_tref_empty, TRef.ofBuf_toBuf, cast_eq]
  rfl

theorem trip0_10 (V : Valuation τ sig (Elt F)) :
    afterL body0I (after condOps0 V) (Proc.devRef .tc main_v20_10)
      = putR (V (Proc.devRef .tc main_v20_10)) (V (Proc.devRef .tc main_v20_6)) (vnT (getR (V (Proc.devRef .tc main_v20_1)) (V (Proc.devRef .tc main_v20_6))) (getR (V (Proc.devRef .tc main_v20_2)) (V (Proc.devRef .tc main_v20_6))) (V (Proc.devRef .tc main_v20_7))) := by
  show after while0Ops0_11 (after while0Ops0_10 (after while0Ops0_9 (after while0Ops0_8 (after while0Ops0_7 (after while0Ops0_6 (after while0Ops0_5 (after while0Ops0_4 (after while0Ops0_3 (after while0Ops0_2 (after while0Ops0_1 (after while0Ops0 (after condOps0 V)))))))))))) (Proc.devRef .tc main_v20_10) = _
  after_reads_simp [unaryIndexed_result_read, binaryIndexed_result_read, indexContents_tref_cons, indexContents_tref_empty, TRef.ofBuf_toBuf, cast_eq]
  rfl

theorem trip0_11 (V : Valuation τ sig (Elt F)) :
    afterL body0I (after condOps0 V) (Proc.devRef .tc main_v20_11)
      = putB (V (Proc.devRef .tc main_v20_11)) (V (Proc.devRef .tc main_v20_6)) (glT (getG (V (Proc.devRef .tc main_v20_5)) (V (Proc.devRef .tc main_v20_6)))) := by
  show after while0Ops0_11 (after while0Ops0_10 (after while0Ops0_9 (after while0Ops0_8 (after while0Ops0_7 (after while0Ops0_6 (after while0Ops0_5 (after while0Ops0_4 (after while0Ops0_3 (after while0Ops0_2 (after while0Ops0_1 (after while0Ops0 (after condOps0 V)))))))))))) (Proc.devRef .tc main_v20_11) = _
  after_reads_simp [unaryIndexed_result_read, binaryIndexed_result_read, indexContents_tref_cons, indexContents_tref_empty, TRef.ofBuf_toBuf, cast_eq]
  rfl

theorem trip1_9 (V : Valuation τ sig (Elt F)) :
    afterL body1I (after condOps1 V) (Proc.devRef .tc main_v33_9)
      = dsT (getR (V (Proc.devRef .tc main_v33_0)) (rev (V (Proc.devRef .tc main_v33_8)))) (getR (V (Proc.devRef .tc main_v33_2)) (rev (V (Proc.devRef .tc main_v33_8)))) (getR (V (Proc.devRef .tc main_v33_3)) (rev (V (Proc.devRef .tc main_v33_8)))) (getR (V (Proc.devRef .tc main_v33_7)) (rev (V (Proc.devRef .tc main_v33_8)))) (getQ (V (Proc.devRef .tc main_v33_5)) (rev (V (Proc.devRef .tc main_v33_8)))) (getB (V (Proc.devRef .tc main_v33_6)) (rev (V (Proc.devRef .tc main_v33_8)))) (V (Proc.devRef .tc main_v33_9)) := by
  show after while1Ops0_16 (after while1Ops0_15 (after while1Ops0_14 (after while1Ops0_13 (after while1Ops0_12 (after while1Ops0_11 (after while1Ops0_10 (after while1Ops0_9 (after while1Ops0_8 (after while1Ops0_7 (after while1Ops0_6 (after while1Ops0_5 (after while1Ops0_4 (after while1Ops0_3 (after while1Ops0_2 (after while1Ops0_1 (after while1Ops0 (after condOps1 V))))))))))))))))) (Proc.devRef .tc main_v33_9) = _
  after_reads_simp [unaryIndexed_result_read, binaryIndexed_result_read, indexContents_tref_cons, indexContents_tref_empty, TRef.ofBuf_toBuf, cast_eq]
  rfl

theorem trip1_10 (V : Valuation τ sig (Elt F)) :
    afterL body1I (after condOps1 V) (Proc.devRef .tc main_v33_10)
      = putQ (V (Proc.devRef .tc main_v33_10)) (rev (V (Proc.devRef .tc main_v33_8))) (dqkT (getR (V (Proc.devRef .tc main_v33_0)) (rev (V (Proc.devRef .tc main_v33_8)))) (getR (V (Proc.devRef .tc main_v33_4)) (rev (V (Proc.devRef .tc main_v33_8))))) := by
  show after while1Ops0_16 (after while1Ops0_15 (after while1Ops0_14 (after while1Ops0_13 (after while1Ops0_12 (after while1Ops0_11 (after while1Ops0_10 (after while1Ops0_9 (after while1Ops0_8 (after while1Ops0_7 (after while1Ops0_6 (after while1Ops0_5 (after while1Ops0_4 (after while1Ops0_3 (after while1Ops0_2 (after while1Ops0_1 (after while1Ops0 (after condOps1 V))))))))))))))))) (Proc.devRef .tc main_v33_10) = _
  after_reads_simp [unaryIndexed_result_read, binaryIndexed_result_read, indexContents_tref_cons, indexContents_tref_empty, TRef.ofBuf_toBuf, cast_eq]
  rfl

theorem trip1_11 (V : Valuation τ sig (Elt F)) :
    afterL body1I (after condOps1 V) (Proc.devRef .tc main_v33_11)
      = putR (V (Proc.devRef .tc main_v33_11)) (rev (V (Proc.devRef .tc main_v33_8))) (dvT (getR (V (Proc.devRef .tc main_v33_0)) (rev (V (Proc.devRef .tc main_v33_8)))) (getR (V (Proc.devRef .tc main_v33_7)) (rev (V (Proc.devRef .tc main_v33_8)))) (getQ (V (Proc.devRef .tc main_v33_5)) (rev (V (Proc.devRef .tc main_v33_8)))) (V (Proc.devRef .tc main_v33_9))) := by
  show after while1Ops0_16 (after while1Ops0_15 (after while1Ops0_14 (after while1Ops0_13 (after while1Ops0_12 (after while1Ops0_11 (after while1Ops0_10 (after while1Ops0_9 (after while1Ops0_8 (after while1Ops0_7 (after while1Ops0_6 (after while1Ops0_5 (after while1Ops0_4 (after while1Ops0_3 (after while1Ops0_2 (after while1Ops0_1 (after while1Ops0 (after condOps1 V))))))))))))))))) (Proc.devRef .tc main_v33_11) = _
  after_reads_simp [unaryIndexed_result_read, binaryIndexed_result_read, indexContents_tref_cons, indexContents_tref_empty, TRef.ofBuf_toBuf, cast_eq]
  rfl

theorem trip1_12 (V : Valuation τ sig (Elt F)) :
    afterL body1I (after condOps1 V) (Proc.devRef .tc main_v33_12)
      = putR (V (Proc.devRef .tc main_v33_12)) (rev (V (Proc.devRef .tc main_v33_8))) (dwT (getR (V (Proc.devRef .tc main_v33_0)) (rev (V (Proc.devRef .tc main_v33_8)))) (getR (V (Proc.devRef .tc main_v33_7)) (rev (V (Proc.devRef .tc main_v33_8)))) (getS (V (Proc.devRef .tc main_v33_1)) (rev (V (Proc.devRef .tc main_v33_8)))) (getQ (V (Proc.devRef .tc main_v33_5)) (rev (V (Proc.devRef .tc main_v33_8)))) (V (Proc.devRef .tc main_v33_9))) := by
  show after while1Ops0_16 (after while1Ops0_15 (after while1Ops0_14 (after while1Ops0_13 (after while1Ops0_12 (after while1Ops0_11 (after while1Ops0_10 (after while1Ops0_9 (after while1Ops0_8 (after while1Ops0_7 (after while1Ops0_6 (after while1Ops0_5 (after while1Ops0_4 (after while1Ops0_3 (after while1Ops0_2 (after while1Ops0_1 (after while1Ops0 (after condOps1 V))))))))))))))))) (Proc.devRef .tc main_v33_12) = _
  after_reads_simp [unaryIndexed_result_read, binaryIndexed_result_read, indexContents_tref_cons, indexContents_tref_empty, TRef.ofBuf_toBuf, cast_eq]
  rfl

theorem trip1_13 (V : Valuation τ sig (Elt F)) :
    afterL body1I (after condOps1 V) (Proc.devRef .tc main_v33_13)
      = putR (V (Proc.devRef .tc main_v33_13)) (rev (V (Proc.devRef .tc main_v33_8))) (dqdT (getR (V (Proc.devRef .tc main_v33_0)) (rev (V (Proc.devRef .tc main_v33_8)))) (getS (V (Proc.devRef .tc main_v33_1)) (rev (V (Proc.devRef .tc main_v33_8))))) := by
  show after while1Ops0_16 (after while1Ops0_15 (after while1Ops0_14 (after while1Ops0_13 (after while1Ops0_12 (after while1Ops0_11 (after while1Ops0_10 (after while1Ops0_9 (after while1Ops0_8 (after while1Ops0_7 (after while1Ops0_6 (after while1Ops0_5 (after while1Ops0_4 (after while1Ops0_3 (after while1Ops0_2 (after while1Ops0_1 (after while1Ops0 (after condOps1 V))))))))))))))))) (Proc.devRef .tc main_v33_13) = _
  after_reads_simp [unaryIndexed_result_read, binaryIndexed_result_read, indexContents_tref_cons, indexContents_tref_empty, TRef.ofBuf_toBuf, cast_eq]
  rfl

theorem trip1_14 (V : Valuation τ sig (Elt F)) :
    afterL body1I (after condOps1 V) (Proc.devRef .tc main_v33_14)
      = putR (V (Proc.devRef .tc main_v33_14)) (rev (V (Proc.devRef .tc main_v33_8))) (dkdT (getR (V (Proc.devRef .tc main_v33_4)) (rev (V (Proc.devRef .tc main_v33_8)))) (V (Proc.devRef .tc main_v33_9))) := by
  show after while1Ops0_16 (after while1Ops0_15 (after while1Ops0_14 (after while1Ops0_13 (after while1Ops0_12 (after while1Ops0_11 (after while1Ops0_10 (after while1Ops0_9 (after while1Ops0_8 (after while1Ops0_7 (after while1Ops0_6 (after while1Ops0_5 (after while1Ops0_4 (after while1Ops0_3 (after while1Ops0_2 (after while1Ops0_1 (after while1Ops0 (after condOps1 V))))))))))))))))) (Proc.devRef .tc main_v33_14) = _
  after_reads_simp [unaryIndexed_result_read, binaryIndexed_result_read, indexContents_tref_cons, indexContents_tref_empty, TRef.ofBuf_toBuf, cast_eq]
  rfl

theorem trip1_15 (V : Valuation τ sig (Elt F)) :
    afterL body1I (after condOps1 V) (Proc.devRef .tc main_v33_15)
      = putG (V (Proc.devRef .tc main_v33_15)) (rev (V (Proc.devRef .tc main_v33_8))) (dglT (getS (V (Proc.devRef .tc main_v33_1)) (rev (V (Proc.devRef .tc main_v33_8)))) (V (Proc.devRef .tc main_v33_9))) := by
  show after while1Ops0_16 (after while1Ops0_15 (after while1Ops0_14 (after while1Ops0_13 (after while1Ops0_12 (after while1Ops0_11 (after while1Ops0_10 (after while1Ops0_9 (after while1Ops0_8 (after while1Ops0_7 (after while1Ops0_6 (after while1Ops0_5 (after while1Ops0_4 (after while1Ops0_3 (after while1Ops0_2 (after while1Ops0_1 (after while1Ops0 (after condOps1 V))))))))))))))))) (Proc.devRef .tc main_v33_15) = _
  after_reads_simp [unaryIndexed_result_read, binaryIndexed_result_read, indexContents_tref_cons, indexContents_tref_empty, TRef.ofBuf_toBuf, cast_eq]
  rfl

/-! ## The stretches around the loops -/

/-- An array of rows cut into chunks, the chunks first. -/
def cutR (x : FVec F S8x4096x128 .f32) : FVec F S64x8x64x128 .f32 :=
  transpose S64x8x64x128 [1, 0, 2, 3] (shapeCast S8x64x64x128 x shapeCasts_S8x4096x128_S8x64x64x128) transposes_S8x64x64x128_S64x8x64x128_1_0_2_3
/-- The same of the intra-chunk matrices. -/
def cutQ (x : FVec F S8x4096x64 .f32) : FVec F S64x8x64x64 .f32 :=
  transpose S64x8x64x64 [1, 0, 2, 3] (shapeCast S8x64x64x64 x shapeCasts_S8x4096x64_S8x64x64x64) transposes_S8x64x64x64_S64x8x64x64_1_0_2_3
/-- And back. -/
def joinR (x : FVec F S64x8x64x128 .f32) : FVec F S8x4096x128 .f32 :=
  shapeCast S8x4096x128 (transpose S8x64x64x128 [1, 0, 2, 3] x transposes_S64x8x64x128_S8x64x64x128_1_0_2_3) shapeCasts_S8x64x64x128_S8x4096x128
def joinQ (x : FVec F S64x8x64x64 .f32) : FVec F S8x4096x64 .f32 :=
  shapeCast S8x4096x64 (transpose S8x64x64x64 [1, 0, 2, 3] x transposes_S64x8x64x64_S8x64x64x64_1_0_2_3) shapeCasts_S8x64x64x64_S8x4096x64
def joinG (x : FVec F S64x8x128 .f32) : FVec F S8x64x128 .f32 :=
  transpose S8x64x128 [1, 0, 2] x transposes_S64x8x128_S8x64x128_1_0_2

theorem pre_main_v20_0 (V : Valuation τ sig (Elt F)) : after hostOps0 V (Proc.devRef .tc main_v20_0) = cutQ (extf .f32 (V (Proc.devRef .tc main_arg2)) bitsLt_bf16_f32) := by
  after_reads_simp
  rfl
theorem pre_main_v20_1 (V : Valuation τ sig (Elt F)) : after hostOps0 V (Proc.devRef .tc main_v20_1) = cutR (V (Proc.devRef .tc main_arg0)) := by
  after_reads_simp
  rfl
theorem pre_main_v20_2 (V : Valuation τ sig (Elt F)) : after hostOps0 V (Proc.devRef .tc main_v20_2) = cutR (extf .f32 (V (Proc.devRef .tc main_arg1)) bitsLt_bf16_f32) := by
  after_reads_simp
  rfl
theorem pre_main_v20_4 (V : Valuation τ sig (Elt F)) : after hostOps0 V (Proc.devRef .tc main_v20_4) = cutR (extf .f32 (V (Proc.devRef .tc main_arg4)) bitsLt_bf16_f32) := by
  after_reads_simp
  rfl
theorem pre_main_v20_5 (V : Valuation τ sig (Elt F)) : after hostOps0 V (Proc.devRef .tc main_v20_5) = transpose S64x8x128 [1, 0, 2] (V (Proc.devRef .tc main_arg5)) transposes_S8x64x128_S64x8x128_1_0_2 := by
  after_reads_simp
  rfl
theorem pre_main_v20_7 (V : Valuation τ sig (Elt F)) : after hostOps0 V (Proc.devRef .tc main_v20_7) = broadcastInDim S8x128x128 ![] bcast_S_S8x128x128 (constant S_ .f32 0x00000000#32) := by
  after_reads_simp
  rfl
theorem pre_main_v5 (V : Valuation τ sig (Elt F)) : after hostOps0 V (Proc.devRef .tc main_v5) = cutQ (extf .f32 (V (Proc.devRef .tc main_arg2)) bitsLt_bf16_f32) := by
  after_reads_simp
  rfl
theorem pre_main_v9 (V : Valuation τ sig (Elt F)) : after hostOps0 V (Proc.devRef .tc main_v9) = cutR (extf .f32 (V (Proc.devRef .tc main_arg1)) bitsLt_bf16_f32) := by
  after_reads_simp
  rfl
theorem pre_main_v11 (V : Valuation τ sig (Elt F)) : after hostOps0 V (Proc.devRef .tc main_v11) = cutR (extf .f32 (V (Proc.devRef .tc main_arg3)) bitsLt_bf16_f32) := by
  after_reads_simp
  rfl
theorem pre_main_v13 (V : Valuation τ sig (Elt F)) : after hostOps0 V (Proc.devRef .tc main_v13) = cutR (extf .f32 (V (Proc.devRef .tc main_arg4)) bitsLt_bf16_f32) := by
  after_reads_simp
  rfl
theorem mid_0 (V : Valuation τ sig (Elt F)) : after hostOps0_1 V (Proc.devRef .tc main_v33_0) = cutR (V (Proc.devRef .tc main_arg6)) := by
  after_reads_simp
  rfl
theorem mid_1 (V : Valuation τ sig (Elt F)) : after hostOps0_1 V (Proc.devRef .tc main_v33_1) = (V (Proc.devRef .tc main_v20_9)) := by
  after_reads_simp
  rfl
theorem mid_2 (V : Valuation τ sig (Elt F)) : after hostOps0_1 V (Proc.devRef .tc main_v33_2) = (V (Proc.devRef .tc main_v9)) := by
  after_reads_simp
  rfl
theorem mid_3 (V : Valuation τ sig (Elt F)) : after hostOps0_1 V (Proc.devRef .tc main_v33_3) = (V (Proc.devRef .tc main_v11)) := by
  after_reads_simp
  rfl
theorem mid_4 (V : Valuation τ sig (Elt F)) : after hostOps0_1 V (Proc.devRef .tc main_v33_4) = (V (Proc.devRef .tc main_v20_10)) := by
  after_reads_simp
  rfl
theorem mid_5 (V : Valuation τ sig (Elt F)) : after hostOps0_1 V (Proc.devRef .tc main_v33_5) = (V (Proc.devRef .tc main_v5)) := by
  after_reads_simp
  rfl
theorem mid_6 (V : Valuation τ sig (Elt F)) : after hostOps0_1 V (Proc.devRef .tc main_v33_6) = (V (Proc.devRef .tc main_v20_11)) := by
  after_reads_simp
  rfl
theorem mid_7 (V : Valuation τ sig (Elt F)) : after hostOps0_1 V (Proc.devRef .tc main_v33_7) = (V (Proc.devRef .tc main_v13)) := by
  after_reads_simp
  rfl
theorem mid_9 (V : Valuation τ sig (Elt F)) : after hostOps0_1 V (Proc.devRef .tc main_v33_9) = broadcastInDim S8x128x128 ![] bcast_S_S8x128x128 (constant S_ .f32 0x00000000#32) := by
  after_reads_simp
  rfl
theorem post_main_v42 (V : Valuation τ sig (Elt F)) : after hostOps0_2 V (Proc.devRef .tc main_v42) = joinR (V (Proc.devRef .tc main_v33_11)) := by
  after_reads_simp
  rfl
theorem post_main_v40 (V : Valuation τ sig (Elt F)) : after hostOps0_2 V (Proc.devRef .tc main_v40) = joinR (V (Proc.devRef .tc main_v33_12)) := by
  after_reads_simp
  rfl
theorem post_main_v44 (V : Valuation τ sig (Elt F)) : after hostOps0_2 V (Proc.devRef .tc main_v44) = joinQ (V (Proc.devRef .tc main_v33_10)) := by
  after_reads_simp
  rfl
theorem post_main_v38 (V : Valuation τ sig (Elt F)) : after hostOps0_2 V (Proc.devRef .tc main_v38) = joinR (V (Proc.devRef .tc main_v33_13)) := by
  after_reads_simp
  rfl
theorem post_main_v36 (V : Valuation τ sig (Elt F)) : after hostOps0_2 V (Proc.devRef .tc main_v36) = joinR (V (Proc.devRef .tc main_v33_14)) := by
  after_reads_simp
  rfl
theorem post_main_v34 (V : Valuation τ sig (Elt F)) : after hostOps0_2 V (Proc.devRef .tc main_v34) = joinG (V (Proc.devRef .tc main_v33_15)) := by
  after_reads_simp
  rfl

end Cert.ReferenceIdeal.Loops

end
-- ==== Proof.RefRead.lean ====
/-
  UNTRUSTED — the reference's chunk reads, chunk writes and chunk terms, read element by element at the ideal numbers.
-/
module

public import proofs.«01_k».proof.Proof.RefStep
public import proofs.«01_k».proof.Proof.Math
public import Idealize.ShloMosaic.Lib.Pointwise
public import Idealize.ShloMosaic.Lib.WordCmp

@[expose] public section

set_option maxRecDepth 16384

noncomputable section

namespace Cert.ReferenceIdeal.Loops

open ReferenceIdeal ReferenceIdeal.Gen Gdn
open Idealize.ShloMosaic Idealize.ShloMosaic.TcCoe

/-! ## Vectors as functions of their coordinates -/

def cR (x : FVec Ideal S8x64x128 .f32) : RowT := fun h t e => x (ix3 h t e)
def cQ (x : FVec Ideal S8x64x64 .f32) : QkT := fun h t s => x (ix3 h t s)
def cS (x : FVec Ideal S8x128x128 .f32) : StT := fun h d e => x (ix3 h d e)
def cG (x : FVec Ideal S8x128 .f32) : GlT := fun h e => x (ix2 h e)
def cB (x : FVec Ideal S8x1x128 .f32) : GlT := fun h e => x (ix3 h 0 e)
/-- Chunk `n` of an array whose chunks come first. -/
def chR (x : FVec Ideal S64x8x64x128 .f32) (n : Fin 64) : RowT := fun h t e => x (ix4 n h t e)
def chQ (x : FVec Ideal S64x8x64x64 .f32) (n : Fin 64) : QkT := fun h t s => x (ix4 n h t s)
def chS (x : FVec Ideal S64x8x128x128 .f32) (n : Fin 64) : StT := fun h d e => x (ix4 n h d e)
def chG (x : FVec Ideal S64x8x128 .f32) (n : Fin 64) : GlT := fun h e => x (ix3 n h e)
def chB (x : FVec Ideal S64x8x1x128 .f32) (n : Fin 64) : GlT := fun h e => x (ix4 n h 0 e)

/-! ## Chunk reads and writes -/

/-- The counter word `i` names chunk `k`. -/
def At (i : IVec S_ 32) (k : Fin 64) : Prop := ∀ j, (i j).toInt = (k.val : ℤ)

theorem start4_at {i : IVec S_ 32} {k : Fin 64} (h : At i k) (a : Fin 4) : start4 i a = ((![k.val, 0, 0, 0] : Fin 4 → ℕ) a : ℤ) := by
  match a with
  | ⟨0, _⟩ => exact h _
  | ⟨1, _⟩ => rfl
  | ⟨2, _⟩ => rfl
  | ⟨3, _⟩ => rfl
theorem start3_at {i : IVec S_ 32} {k : Fin 64} (h : At i k) (a : Fin 3) : start3 i a = ((![k.val, 0, 0] : Fin 3 → ℕ) a : ℤ) := by
  match a with
  | ⟨0, _⟩ => exact h _
  | ⟨1, _⟩ => rfl
  | ⟨2, _⟩ => rfl

theorem fitsR (k : Fin 64) : S64x8x64x128.Slices ![k.val, 0, 0, 0] S1x8x64x128 := by
  refine ⟨rfl, fun a => ?_⟩
  have := k.isLt
  match a with
  | ⟨0, _⟩ => show k.val + 1 ≤ 64; omega
  | ⟨1, _⟩ => exact le_refl 8
  | ⟨2, _⟩ => exact le_refl 64
  | ⟨3, _⟩ => exact le_refl 128
theorem getR_at {i : IVec S_ 32} {k : Fin 64} (hi : At i k) (x : FVec Ideal S64x8x64x128 .f32) : cR (getR x i) = chR x k := by
  funext h t e
  unfold cR chR getR
  rw [WordCmp.dynamicSlice_eq_extract _ x _ _ _ (fitsR k) (start4_at hi)]
  pointwise
theorem putR_at {i : IVec S_ 32} {k : Fin 64} (hi : At i k) (x : FVec Ideal S64x8x64x128 .f32) (u : FVec Ideal S8x64x128 .f32) (n : Fin 64) :
    chR (putR x i u) n = if n = k then cR u else chR x n := by
  funext h t e
  unfold cR chR putR
  rw [WordCmp.dynamicUpdateSlice_eq_update x _ _ _ _ (fitsR k) (start4_at hi)]
  pointwise
  rcases eq_or_ne n k with rfl | hn
  · rw [if_pos rfl, dif_pos ⟨le_rfl, by omega⟩]
  · have := Fin.val_ne_of_ne hn
    rw [if_neg hn, dif_neg (by omega)]

theorem fitsQ (k : Fin 64) : S64x8x64x64.Slices ![k.val, 0, 0, 0] S1x8x64x64 := by
  refine ⟨rfl, fun a => ?_⟩
  have := k.isLt
  match a with
  | ⟨0, _⟩ => show k.val + 1 ≤ 64; omega
  | ⟨1, _⟩ => exact le_refl 8
  | ⟨2, _⟩ => exact le_refl 64
  | ⟨3, _⟩ => exact le_refl 64
theorem getQ_at {i : IVec S_ 32} {k : Fin 64} (hi : At i k) (x : FVec Ideal S64x8x64x64 .f32) : cQ (getQ x i) = chQ x k := by
  funext h t s
  unfold cQ chQ getQ
  rw [WordCmp.dynamicSlice_eq_extract _ x _ _ _ (fitsQ k) (start4_at hi)]
  pointwise
theorem putQ_at {i : IVec S_ 32} {k : Fin 64} (hi : At i k) (x : FVec Ideal S64x8x64x64 .f32) (u : FVec Ideal S8x64x64 .f32) (n : Fin 64) :
    chQ (putQ x i u) n = if n = k then cQ u else chQ x n := by
  funext h t s
  unfold cQ chQ putQ
  rw [WordCmp.dynamicUpdateSlice_eq_update x _ _ _ _ (fitsQ k) (start4_at hi)]
  pointwise
  rcases eq_or_ne n k with rfl | hn
  · rw [if_pos rfl, dif_pos ⟨le_rfl, by omega⟩]
  · have := Fin.val_ne_of_ne hn
    rw [if_neg hn, dif_neg (by omega)]

theorem fitsS (k : Fin 64) : S64x8x128x128.Slices ![k.val, 0, 0, 0] S1x8x128x128 := by
  refine ⟨rfl, fun a => ?_⟩
  have := k.isLt
  match a with
  | ⟨0, _⟩ => show k.val + 1 ≤ 64; omega
  | ⟨1, _⟩ => exact le_refl 8
  | ⟨2, _⟩ => exact le_refl 128
  | ⟨3, _⟩ => exact le_refl 128
theorem getS_at {i : IVec S_ 32} {k : Fin 64} (hi : At i k) (x : FVec Ideal S64x8x128x128 .f32) : cS (getS x i) = chS x k := by
  funext h d e
  unfold cS chS getS
  rw [WordCmp.dynamicSlice_eq_extract _ x _ _ _ (fitsS k) (start4_at hi)]
  pointwise
theorem putS_at {i : IVec S_ 32} {k : Fin 64} (hi : At i k) (x : FVec Ideal S64x8x128x128 .f32) (u : FVec Ideal S8x128x128 .f32) (n : Fin 64) :
    chS (putS x i u) n = if n = k then cS u else chS x n := by
  funext h d e
  unfold cS chS putS
  rw [WordCmp.dynamicUpdateSlice_eq_update x _ _ _ _ (fitsS k) (start4_at hi)]
  pointwise
  rcases eq_or_ne n k with rfl | hn
  · rw [if_pos rfl, dif_pos ⟨le_rfl, by omega⟩]
  · have := Fin.val_ne_of_ne hn
    rw [if_neg hn, dif_neg (by omega)]

theorem fitsG (k : Fin 64) : S64x8x128.Slices ![k.val, 0, 0] S1x8x128 := by
  refine ⟨rfl, fun a => ?_⟩
  have := k.isLt
  match a with
  | ⟨0, _⟩ => show k.val + 1 ≤ 64; omega
  | ⟨1, _⟩ => exact le_refl 8
  | ⟨2, _⟩ => exact le_refl 128
theorem getG_at {i : IVec S_ 32} {k : Fin 64} (hi : At i k) (x : FVec Ideal S64x8x128 .f32) : cG (getG x i) = chG x k := by
  funext h e
  unfold cG chG getG
  rw [WordCmp.dynamicSlice_eq_extract _ x _ _ _ (fitsG k) (start3_at hi)]
  pointwise
theorem putG_at {i : IVec S_ 32} {k : Fin 64} (hi : At i k) (x : FVec Ideal S64x8x128 .f32) (u : FVec Ideal S8x128 .f32) (n : Fin 64) :
    chG (putG x i u) n = if n = k then cG u else chG x n := by
  funext h e
  unfold cG chG putG
  rw [WordCmp.dynamicUpdateSlice_eq_update x _ _ _ _ (fitsG k) (start3_at hi)]
  pointwise
  rcases eq_or_ne n k with rfl | hn
  · rw [if_pos rfl, dif_pos ⟨le_rfl, by omega⟩]
  · have := Fin.val_ne_of_ne hn
    rw [if_neg hn, dif_neg (by omega)]

theorem fitsB (k : Fin 64) : S64x8x1x128.Slices ![k.val, 0, 0, 0] S1x8x1x128 := by
  refine ⟨rfl, fun a => ?_⟩
  have := k.isLt
  match a with
  | ⟨0, _⟩ => show k.val + 1 ≤ 64; omega
  | ⟨1, _⟩ => exact le_refl 8
  | ⟨2, _⟩ => exact le_refl 1
  | ⟨3, _⟩ => exact le_refl 128
theorem getB_at {i : IVec S_ 32} {k : Fin 64} (hi : At i k) (x : FVec Ideal S64x8x1x128 .f32) : cB (getB x i) = chB x k := by
  funext h e
  unfold cB chB getB
  rw [WordCmp.dynamicSlice_eq_extract _ x _ _ _ (fitsB k) (start4_at hi)]
  pointwise
theorem putB_at {i : IVec S_ 32} {k : Fin 64} (hi : At i k) (x : FVec Ideal S64x8x1x128 .f32) (u : FVec Ideal S8x1x128 .f32) (n : Fin 64) :
    chB (putB x i u) n = if n = k then cB u else chB x n := by
  funext h e
  unfold cB chB putB
  rw [WordCmp.dynamicUpdateSlice_eq_update x _ _ _ _ (fitsB k) (start4_at hi)]
  pointwise
  rcases eq_or_ne n k with rfl | hn
  · rw [if_pos rfl, dif_pos ⟨le_rfl, by omega⟩]
  · have := Fin.val_ne_of_ne hn
    rw [if_neg hn, dif_neg (by omega)]

theorem vnT_at (u w : FVec Ideal S8x64x128 .f32) (s : FVec Ideal S8x128x128 .f32) : cR (vnT u w s) = vnE (cR u) (cR w) (cS s) := by
  funext h t e
  unfold cR vnE cS
  pointwise [vnT]

theorem stT_at (u w kd : FVec Ideal S8x64x128 .f32) (g : FVec Ideal S8x128 .f32) (s : FVec Ideal S8x128x128 .f32) :
    cS (stT u w kd g s) = stE (cR kd) (cG g) (vnE (cR u) (cR w) (cS s)) (cS s) := by
  funext h t e
  rw [← vnT_at]
  unfold cR stE cS cG
  pointwise [stT, glT]

theorem dvT_at (dO kd : FVec Ideal S8x64x128 .f32) (qk : FVec Ideal S8x64x64 .f32) (ds : FVec Ideal S8x128x128 .f32) :
    cR (dvT dO kd qk ds) = dvE (cR dO) (cR kd) (cQ qk) (cS ds) := by
  funext h t e
  unfold cR dvE cS cQ
  pointwise! [dvT]

theorem dsT_at (dO w qd kd : FVec Ideal S8x64x128 .f32) (qk : FVec Ideal S8x64x64 .f32) (gl : FVec Ideal S8x1x128 .f32) (ds : FVec Ideal S8x128x128 .f32)
    (hv : ReR (cR (dvT dO kd qk ds))) (hw : ReR (cR w)) :
    cS (dsT dO w qd kd qk gl ds) = dsE (cR dO) (cR w) (cR qd) (cB gl) (dvE (cR dO) (cR kd) (cQ qk) (cS ds)) (cS ds) := by
  funext h d e
  rw [← dvT_at]
  unfold dsT
  generalize dvT dO kd qk ds = v at hv ⊢
  unfold cR dsE cS cB
  pointwise
  have e1 : (∑ t, -v (ix3 h t e) * w (ix3 h t d)) = -∑ t, v (ix3 h t e) * w (ix3 h t d) :=
    sum_neg_mul (fun t => hv h t e) fun t => hw h t d
  rw [e1, ← sub_eq_add_neg, add_comm (ds _ * _)]
  simp only [mul_comm]

theorem dwT_at (dO kd : FVec Ideal S8x64x128 .f32) (ss : FVec Ideal S8x128x128 .f32) (qk : FVec Ideal S8x64x64 .f32) (ds : FVec Ideal S8x128x128 .f32)
    (hv : ReR (cR (dvT dO kd qk ds))) (hs : ReS (cS ss)) :
    cR (dwT dO kd ss qk ds) = dwE (dvE (cR dO) (cR kd) (cQ qk) (cS ds)) (cS ss) := by
  funext h t d
  rw [← dvT_at]
  unfold dwT
  generalize dvT dO kd qk ds = v at hv ⊢
  unfold cR dwE cS
  pointwise
  have e1 : (∑ e, -v (ix3 h t e) * ss (ix3 h d e)) = -∑ e, v (ix3 h t e) * ss (ix3 h d e) :=
    sum_neg_mul (fun e => hv h t e) fun e => hs h d e
  rw [e1, zero_sub]

theorem dqkT_at (dO vn : FVec Ideal S8x64x128 .f32) : cQ (dqkT dO vn) = dqkE (cR dO) (cR vn) := by
  funext h t s
  unfold cQ dqkE cR
  pointwise [dqkT]
theorem dqdT_at (dO : FVec Ideal S8x64x128 .f32) (ss : FVec Ideal S8x128x128 .f32) : cR (dqdT dO ss) = dqdE (cR dO) (cS ss) := by
  funext h t d
  unfold cR dqdE cS
  pointwise [dqdT]
theorem dkdT_at (vn : FVec Ideal S8x64x128 .f32) (ds : FVec Ideal S8x128x128 .f32) : cR (dkdT vn ds) = dkdE (cR vn) (cS ds) := by
  funext h t d
  unfold cR dkdE cS
  pointwise! [dkdT]
theorem dglT_at (ss ds : FVec Ideal S8x128x128 .f32) : cG (dglT ss ds) = dglE (cS ss) (cS ds) := by
  funext h e
  unfold cG dglE cS
  pointwise [dglT]
  simp only [Finset.univ_unique, Finset.sum_const, Finset.card_singleton, one_smul]
  exact Finset.sum_congr rfl fun d _ => mul_comm _ _
theorem glT_at (g : FVec Ideal S8x128 .f32) : cB (glT g) = cG g := by
  funext h e
  unfold cB cG
  pointwise [glT]

/-! ## Cutting into chunks and putting together -/

theorem row_eq (n t : Fin 64) (h : 64 * n.val + t.val < 4096) : (⟨n.val * 64 + t.val, by omega⟩ : Fin 4096) = row n.val t :=
  Fin.ext (by show n.val * 64 + t.val = (64 * n.val + t.val) % 4096; omega)

theorem cutR_at (x : FVec Ideal S8x4096x128 .f32) (n : Fin 64) : chR (cutR x) n = ofR x n.val := by
  funext h t e
  unfold chR ofR
  rw [← row_eq n t (by omega)]
  pointwise [cutR]
theorem cutQ_at (x : FVec Ideal S8x4096x64 .f32) (n : Fin 64) : chQ (cutQ x) n = ofQ x n.val := by
  funext h t s
  unfold chQ ofQ
  rw [← row_eq n t (by omega)]
  pointwise [cutQ]
theorem cutG_at (x : FVec Ideal S8x64x128 .f32) (n : Fin 64) :
    chG (transpose S64x8x128 [1, 0, 2] x transposes_S8x64x128_S64x8x128_1_0_2) n = ofG x n.val := by
  funext h e
  unfold chG ofG
  rw [show slot n.val = n from Fin.ext (Nat.mod_eq_of_lt n.isLt)]
  pointwise

theorem joinR_at (x : FVec Ideal S64x8x64x128 .f32) (f : ℕ → RowT) (h : ∀ n : Fin 64, chR x n = f n.val) : joinR x = toR f := by
  funext y
  idx_vars y
  show _ = f (y1.val / 64) y0 ⟨y1.val % 64, _⟩ y2
  rw [← h ⟨y1.val / 64, by omega⟩]
  unfold chR
  pointwise [joinR]
theorem joinQ_at (x : FVec Ideal S64x8x64x64 .f32) (f : ℕ → QkT) (h : ∀ n : Fin 64, chQ x n = f n.val) : joinQ x = toQ f := by
  funext y
  idx_vars y
  show _ = f (y1.val / 64) y0 ⟨y1.val % 64, _⟩ y2
  rw [← h ⟨y1.val / 64, by omega⟩]
  unfold chQ
  pointwise [joinQ]
theorem joinG_at (x : FVec Ideal S64x8x128 .f32) (f : ℕ → GlT) (h : ∀ n : Fin 64, chG x n = f n.val) : joinG x = toG f := by
  funext y
  idx_vars y
  show _ = f y1.val y0 y2
  rw [← h y1]
  unfold chG
  pointwise [joinG]

end Cert.ReferenceIdeal.Loops

end
-- ==== Proof.RefValue.lean ====
/-
  UNTRUSTED — the reference's two loops at the ideal numbers: after `k` trips the carried buffers hold the scan's, and
  its backward pass's, values of the chunks done so far; hence the six results as functions of the arguments.
-/
module

public import proofs.«01_k».proof.Proof.RefRead

@[expose] public section

set_option maxRecDepth 16384

noncomputable section

namespace Cert.ReferenceIdeal.Loops

open ReferenceIdeal ReferenceIdeal.Gen Gdn
open Idealize.ShloMosaic Idealize.ShloMosaic.TcCoe
open Idealize.ShloMosaic.StableHlo

variable (m : (ℓ : Loc nD τ sig) → Buf (Elt Ideal) ℓ) (c : Dev nD)

/-! ## The arguments' chunks -/

abbrev aU : ℕ → RowT := ofR (m ((c.tc : Thread nD τ).loc main_arg0))
abbrev aW : ℕ → RowT := ofR (m ((c.tc : Thread nD τ).loc main_arg1))
abbrev aQK : ℕ → QkT := ofQ (m ((c.tc : Thread nD τ).loc main_arg2))
abbrev aQD : ℕ → RowT := ofR (m ((c.tc : Thread nD τ).loc main_arg3))
abbrev aKD : ℕ → RowT := ofR (m ((c.tc : Thread nD τ).loc main_arg4))
abbrev aGL : ℕ → GlT := ofG (m ((c.tc : Thread nD τ).loc main_arg5))
abbrev aDO : ℕ → RowT := ofR (m ((c.tc : Thread nD τ).loc main_arg6))

/-- The scan's and the backward pass's values at the arguments. -/
abbrev rS : ℕ → StT := stN (aU m c) (aW m c) (aKD m c) (aGL m c)
abbrev rV : ℕ → RowT := vnN (aU m c) (aW m c) (aKD m c) (aGL m c)
abbrev rD : ℕ → StT := dsN (aW m c) (aKD m c) (aQD m c) (aDO m c) (aQK m c) (aGL m c)
abbrev rDU : ℕ → RowT := duN (aW m c) (aKD m c) (aQD m c) (aDO m c) (aQK m c) (aGL m c)
abbrev rDW : ℕ → RowT := dwN (aU m c) (aW m c) (aKD m c) (aQD m c) (aDO m c) (aQK m c) (aGL m c)
abbrev rDQK : ℕ → QkT := dqkN (aU m c) (aW m c) (aKD m c) (aDO m c) (aGL m c)
abbrev rDQD : ℕ → RowT := dqdN (aU m c) (aW m c) (aKD m c) (aDO m c) (aGL m c)
abbrev rDKD : ℕ → RowT := dkdN (aU m c) (aW m c) (aKD m c) (aQD m c) (aDO m c) (aQK m c) (aGL m c)
abbrev rDGL : ℕ → GlT := dglN (aU m c) (aW m c) (aKD m c) (aQD m c) (aDO m c) (aQK m c) (aGL m c)

/-! ## The counters -/

theorem iv_toInt (k : Fin 64) : (Scf.iv 0#32 1#32 k.val : BitVec 32).toInt = (k.val : ℤ) := by
  rw [show (Scf.iv 0#32 1#32 k.val : BitVec 32) = BitVec.ofNat 32 k.val by simp [Scf.iv]]
  exact WordCmp.toInt_ofNat_of_lt (by have := k.isLt; omega)

theorem at0 (k : Fin 64) : At (T0 m k.val c (Proc.devRef .tc main_v20_6)) k := fun j => by
  rw [T0_ctr]; exact iv_toInt k

/-- The chunk trip `k` of the backward loop works on. -/
abbrev bk (k : Fin 64) : Fin 64 := ⟨63 - k.val, by omega⟩

theorem at1 (k : Fin 64) : At (rev (T1 m k.val c (Proc.devRef .tc main_v33_8))) (bk k) := fun j => by
  rw [T1_ctr]
  show (64#32 - Scf.iv 0#32 1#32 k.val - 1#32 : BitVec 32).toInt = _
  rw [show (64#32 - Scf.iv 0#32 1#32 k.val - 1#32 : BitVec 32) = BitVec.ofNat 32 (63 - k.val) by
    have hk := k.isLt
    apply BitVec.eq_of_toNat_eq
    simp [Scf.iv, BitVec.toNat_sub]
    omega]
  exact WordCmp.toInt_ofNat_of_lt (by omega)

/-! ## What neither loop writes -/

theorem keepT0 (b : Ref sig .tc) (h : b ∉ writes0) (k : ℕ) :
    T0 m k c (Proc.devRef .tc b) = after hostOps0 (launchContents m c) (Proc.devRef .tc b) := by
  induction k with
  | zero => rfl
  | succ k ih => exact (keep0 _ b h).trans ih

theorem keepT1 (b : Ref sig .tc) (h : b ∉ writes1) (k : ℕ) :
    T1 m k c (Proc.devRef .tc b) = after hostOps0_1 (after condOps0 (T0 m 64 c)) (Proc.devRef .tc b) := by
  induction k with
  | zero => rfl
  | succ k ih => exact (keep1 _ b h).trans ih

/-- The first loop's test writes its own two buffers only. -/
theorem keepC0 (V : Valuation τ sig (Elt Ideal)) (b : Ref sig .tc) (h : b ∉ condOps0_W) :
    after condOps0 V (Proc.devRef .tc b) = V (Proc.devRef .tc b) := after_of_writes_sub condOps0 _ condOps0_writes h
theorem keepC1 (V : Valuation τ sig (Elt Ideal)) (b : Ref sig .tc) (h : b ∉ condOps1_W) :
    after condOps1 V (Proc.devRef .tc b) = V (Proc.devRef .tc b) := after_of_writes_sub condOps1 _ condOps1_writes h

/-! The forward loop's read-only buffers. -/
theorem in0_1 (k : ℕ) (n : Fin 64) : chR (T0 m k c (Proc.devRef .tc main_v20_1)) n = aU m c n.val := by
  rw [keepT0 m c main_v20_1 (by decide +kernel), pre_main_v20_1]; exact cutR_at _ n
theorem in0_2 (k : ℕ) (n : Fin 64) : chR (T0 m k c (Proc.devRef .tc main_v20_2)) n = aW m c n.val := by
  rw [keepT0 m c main_v20_2 (by decide +kernel), pre_main_v20_2]; exact cutR_at _ n
theorem in0_4 (k : ℕ) (n : Fin 64) : chR (T0 m k c (Proc.devRef .tc main_v20_4)) n = aKD m c n.val := by
  rw [keepT0 m c main_v20_4 (by decide +kernel), pre_main_v20_4]; exact cutR_at _ n
theorem in0_5 (k : ℕ) (n : Fin 64) : chG (T0 m k c (Proc.devRef .tc main_v20_5)) n = aGL m c n.val := by
  rw [keepT0 m c main_v20_5 (by decide +kernel), pre_main_v20_5]; exact cutG_at _ n

/-- After `k` trips of the forward loop. -/
structure Inv0 (k : ℕ) : Prop where
  st : cS (T0 m k c (Proc.devRef .tc main_v20_7)) = rS m c k
  ss : ∀ n : Fin 64, n.val < k → chS (T0 m k c (Proc.devRef .tc main_v20_9)) n = rS m c n.val
  vn : ∀ n : Fin 64, n.val < k → chR (T0 m k c (Proc.devRef .tc main_v20_10)) n = rV m c n.val
  gl : ∀ n : Fin 64, n.val < k → chB (T0 m k c (Proc.devRef .tc main_v20_11)) n = aGL m c n.val

theorem inv0_zero : Inv0 m c 0 where
  st := by
    rw [show T0 m 0 c (Proc.devRef .tc main_v20_7) = after hostOps0 (launchContents m c) (Proc.devRef .tc main_v20_7) from rfl, pre_main_v20_7]
    funext h d e
    show cS _ h d e = 0
    unfold cS
    pointwise
  ss _ h := absurd h (Nat.not_lt_zero _)
  vn _ h := absurd h (Nat.not_lt_zero _)
  gl _ h := absurd h (Nat.not_lt_zero _)

/-- A chunk of a list extended at `k` by its own value. -/
theorem grow {α : Type} {f : Fin 64 → α} {g : ℕ → α} {k : Fin 64} {x : α} {y : Fin 64 → α}
    (hf : ∀ n, f n = if n = k then x else y n) (hx : x = g k.val) (hy : ∀ n : Fin 64, n.val < k.val → y n = g n.val)
    (n : Fin 64) (hn : n.val < k.val + 1) : f n = g n.val := by
  rw [hf]
  rcases eq_or_ne n k with rfl | h
  · rw [if_pos rfl]; exact hx
  · rw [if_neg h]; exact hy n (by have := Fin.val_ne_of_ne h; omega)

theorem inv0_succ (k : Fin 64) (h : Inv0 m c k.val) : Inv0 m c (k.val + 1) where
  st := by
    rw [show T0 m (k.val + 1) c = afterL body0I (after condOps0 (T0 m k.val c)) from rfl, trip0_7, stT_at,
      getR_at (at0 m c k), getR_at (at0 m c k), getR_at (at0 m c k), getG_at (at0 m c k), in0_1, in0_2, in0_4, in0_5, h.st]
    rfl
  ss := grow (fun n => by
    rw [show T0 m (k.val + 1) c = afterL body0I (after condOps0 (T0 m k.val c)) from rfl, trip0_9]; exact putS_at (at0 m c k) _ _ n)
    h.st h.ss
  vn := grow (fun n => by
    rw [show T0 m (k.val + 1) c = afterL body0I (after condOps0 (T0 m k.val c)) from rfl, trip0_10]; exact putR_at (at0 m c k) _ _ n)
    (by rw [vnT_at, getR_at (at0 m c k), getR_at (at0 m c k), in0_1, in0_2, h.st]; rfl) h.vn
  gl := grow (fun n => by
    rw [show T0 m (k.val + 1) c = afterL body0I (after condOps0 (T0 m k.val c)) from rfl, trip0_11]; exact putB_at (at0 m c k) _ _ n)
    (by rw [glT_at, getG_at (at0 m c k), in0_5]) h.gl

theorem inv0 : ∀ k, k ≤ 64 → Inv0 m c k
  | 0, _ => inv0_zero m c
  | k + 1, h => inv0_succ m c ⟨k, h⟩ (inv0 k (Nat.le_of_succ_le h))

/-! ## The backward loop's read-only buffers -/

theorem in1_0 (k : ℕ) (n : Fin 64) : chR (T1 m k c (Proc.devRef .tc main_v33_0)) n = aDO m c n.val := by
  rw [keepT1 m c main_v33_0 (by decide +kernel), mid_0]
  rw [keepC0 _ main_arg6 (by decide +kernel), keepT0 m c main_arg6 (by decide +kernel), after_of_writes_sub hostOps0 _ hostOps0_writes (r := main_arg6) (by decide +kernel)]
  exact cutR_at _ n
theorem in1_1 (k : ℕ) (n : Fin 64) : chS (T1 m k c (Proc.devRef .tc main_v33_1)) n = rS m c n.val := by
  rw [keepT1 m c main_v33_1 (by decide +kernel), mid_1]
  rw [keepC0 _ main_v20_9 (by decide +kernel)]; exact (inv0 m c 64 le_rfl).ss n n.isLt
theorem in1_2 (k : ℕ) (n : Fin 64) : chR (T1 m k c (Proc.devRef .tc main_v33_2)) n = aW m c n.val := by
  rw [keepT1 m c main_v33_2 (by decide +kernel), mid_2]
  rw [keepC0 _ main_v9 (by decide +kernel), keepT0 m c main_v9 (by decide +kernel), pre_main_v9]; exact cutR_at _ n
theorem in1_3 (k : ℕ) (n : Fin 64) : chR (T1 m k c (Proc.devRef .tc main_v33_3)) n = aQD m c n.val := by
  rw [keepT1 m c main_v33_3 (by decide +kernel), mid_3]
  rw [keepC0 _ main_v11 (by decide +kernel), keepT0 m c main_v11 (by decide +kernel), pre_main_v11]; exact cutR_at _ n
theorem in1_4 (k : ℕ) (n : Fin 64) : chR (T1 m k c (Proc.devRef .tc main_v33_4)) n = rV m c n.val := by
  rw [keepT1 m c main_v33_4 (by decide +kernel), mid_4]
  rw [keepC0 _ main_v20_10 (by decide +kernel)]; exact (inv0 m c 64 le_rfl).vn n n.isLt
theorem in1_5 (k : ℕ) (n : Fin 64) : chQ (T1 m k c (Proc.devRef .tc main_v33_5)) n = aQK m c n.val := by
  rw [keepT1 m c main_v33_5 (by decide +kernel), mid_5]
  rw [keepC0 _ main_v5 (by decide +kernel), keepT0 m c main_v5 (by decide +kernel), pre_main_v5]; exact cutQ_at _ n
theorem in1_6 (k : ℕ) (n : Fin 64) : chB (T1 m k c (Proc.devRef .tc main_v33_6)) n = aGL m c n.val := by
  rw [keepT1 m c main_v33_6 (by decide +kernel), mid_6]
  rw [keepC0 _ main_v20_11 (by decide +kernel)]; exact (inv0 m c 64 le_rfl).gl n n.isLt
theorem in1_7 (k : ℕ) (n : Fin 64) : chR (T1 m k c (Proc.devRef .tc main_v33_7)) n = aKD m c n.val := by
  rw [keepT1 m c main_v33_7 (by decide +kernel), mid_7]
  rw [keepC0 _ main_v13 (by decide +kernel), keepT0 m c main_v13 (by decide +kernel), pre_main_v13]; exact cutR_at _ n

/-- After `k` trips of the backward loop. -/
structure Inv1 (k : ℕ) : Prop where
  ds : cS (T1 m k c (Proc.devRef .tc main_v33_9)) = rD m c k
  dqk : ∀ n : Fin 64, 64 - k ≤ n.val → chQ (T1 m k c (Proc.devRef .tc main_v33_10)) n = rDQK m c n.val
  du : ∀ n : Fin 64, 64 - k ≤ n.val → chR (T1 m k c (Proc.devRef .tc main_v33_11)) n = rDU m c n.val
  dw : ∀ n : Fin 64, 64 - k ≤ n.val → chR (T1 m k c (Proc.devRef .tc main_v33_12)) n = rDW m c n.val
  dqd : ∀ n : Fin 64, 64 - k ≤ n.val → chR (T1 m k c (Proc.devRef .tc main_v33_13)) n = rDQD m c n.val
  dkd : ∀ n : Fin 64, 64 - k ≤ n.val → chR (T1 m k c (Proc.devRef .tc main_v33_14)) n = rDKD m c n.val
  dgl : ∀ n : Fin 64, 64 - k ≤ n.val → chG (T1 m k c (Proc.devRef .tc main_v33_15)) n = rDGL m c n.val

theorem inv1_zero : Inv1 m c 0 where
  ds := by
    rw [show T1 m 0 c (Proc.devRef .tc main_v33_9) = after hostOps0_1 (after condOps0 (T0 m 64 c)) (Proc.devRef .tc main_v33_9) from rfl, mid_9]
    funext h d e
    show cS _ h d e = 0
    unfold cS
    pointwise
  dqk n h := absurd n.isLt (Nat.not_lt.mpr h)
  du n h := absurd n.isLt (Nat.not_lt.mpr h)
  dw n h := absurd n.isLt (Nat.not_lt.mpr h)
  dqd n h := absurd n.isLt (Nat.not_lt.mpr h)
  dkd n h := absurd n.isLt (Nat.not_lt.mpr h)
  dgl n h := absurd n.isLt (Nat.not_lt.mpr h)

/-- A chunk of a list extended downwards. -/
theorem grow' {α : Type} {f : Fin 64 → α} {g : ℕ → α} {k : Fin 64} {x : α} {y : Fin 64 → α}
    (hf : ∀ n, f n = if n = bk k then x else y n) (hx : x = g (bk k).val) (hy : ∀ n : Fin 64, 64 - k.val ≤ n.val → y n = g n.val)
    (n : Fin 64) (hn : 64 - (k.val + 1) ≤ n.val) : f n = g n.val := by
  rw [hf]
  rcases eq_or_ne n (bk k) with rfl | h
  · rw [if_pos rfl]; exact hx
  · rw [if_neg h]; exact hy n (by have := Fin.val_ne_of_ne h; have := k.isLt; simp only [bk] at *; omega)

/-- The arguments are real, element by element. -/
structure Real : Prop where
  u : ∀ n, ReR (aU m c n)
  w : ∀ n, ReR (aW m c n)
  qk : ∀ n, ReQ (aQK m c n)
  qd : ∀ n, ReR (aQD m c n)
  kd : ∀ n, ReR (aKD m c n)
  gl : ∀ n, ReG (aGL m c n)
  dO : ∀ n, ReR (aDO m c n)

variable {m c} in
theorem Real.st (hR : Real m c) (n : ℕ) : ReS (rS m c n) := stN_re hR.u hR.w hR.kd hR.gl n
variable {m c} in
theorem Real.ds (hR : Real m c) (k : ℕ) : ReS (rD m c k) := dsN_re hR.w hR.kd hR.qd hR.dO hR.qk hR.gl k

theorem bk_bk (k : Fin 64) : 63 - (bk k).val = k.val := by simp only [bk]; omega

/-- The trip's gradient of the new values. -/
theorem dv_at (k : Fin 64) (h : Inv1 m c k.val) :
    cR (dvT (getR (T1 m k.val c (Proc.devRef .tc main_v33_0)) (rev (T1 m k.val c (Proc.devRef .tc main_v33_8))))
      (getR (T1 m k.val c (Proc.devRef .tc main_v33_7)) (rev (T1 m k.val c (Proc.devRef .tc main_v33_8))))
      (getQ (T1 m k.val c (Proc.devRef .tc main_v33_5)) (rev (T1 m k.val c (Proc.devRef .tc main_v33_8))))
      (T1 m k.val c (Proc.devRef .tc main_v33_9))) = rDU m c (bk k).val := by
  rw [dvT_at, getR_at (at1 m c k), getR_at (at1 m c k), getQ_at (at1 m c k), in1_0, in1_7, in1_5, h.ds]
  show _ = dvE _ _ _ (rD m c (63 - (bk k).val))
  rw [bk_bk]

variable {m c} in
theorem Real.du (hR : Real m c) (n : ℕ) : ReR (rDU m c n) := dvE_re (hR.dO _) (hR.kd _) (hR.qk _) (hR.ds _)

theorem inv1_succ (hR : Real m c) (k : Fin 64) (h : Inv1 m c k.val) : Inv1 m c (k.val + 1) where
  ds := by
    rw [show T1 m (k.val + 1) c = afterL body1I (after condOps1 (T1 m k.val c)) from rfl, trip1_9,
      dsT_at _ _ _ _ _ _ _ (by rw [dv_at m c k h]; exact hR.du _) (by rw [getR_at (at1 m c k), in1_2]; exact hR.w _),
      getR_at (at1 m c k), getR_at (at1 m c k), getR_at (at1 m c k), getR_at (at1 m c k), getQ_at (at1 m c k), getB_at (at1 m c k),
      in1_0, in1_2, in1_3, in1_5, in1_6, in1_7, h.ds]
    rfl
  dqk := grow' (fun n => by
    rw [show T1 m (k.val + 1) c = afterL body1I (after condOps1 (T1 m k.val c)) from rfl, trip1_10]; exact putQ_at (at1 m c k) _ _ n)
    (by rw [dqkT_at, getR_at (at1 m c k), getR_at (at1 m c k), in1_0, in1_4]; rfl) h.dqk
  du := grow' (fun n => by
    rw [show T1 m (k.val + 1) c = afterL body1I (after condOps1 (T1 m k.val c)) from rfl, trip1_11]; exact putR_at (at1 m c k) _ _ n)
    (dv_at m c k h) h.du
  dw := grow' (fun n => by
    rw [show T1 m (k.val + 1) c = afterL body1I (after condOps1 (T1 m k.val c)) from rfl, trip1_12]; exact putR_at (at1 m c k) _ _ n)
    (by
      rw [dwT_at _ _ _ _ _ (by rw [dv_at m c k h]; exact hR.du _) (by rw [getS_at (at1 m c k), in1_1]; exact hR.st _),
        ← dvT_at, dv_at m c k h, getS_at (at1 m c k), in1_1]; rfl) h.dw
  dqd := grow' (fun n => by
    rw [show T1 m (k.val + 1) c = afterL body1I (after condOps1 (T1 m k.val c)) from rfl, trip1_13]; exact putR_at (at1 m c k) _ _ n)
    (by rw [dqdT_at, getR_at (at1 m c k), getS_at (at1 m c k), in1_0, in1_1]; rfl) h.dqd
  dkd := grow' (fun n => by
    rw [show T1 m (k.val + 1) c = afterL body1I (after condOps1 (T1 m k.val c)) from rfl, trip1_14]; exact putR_at (at1 m c k) _ _ n)
    (by
      rw [dkdT_at, getR_at (at1 m c k), in1_4, h.ds]
      show _ = dkdE _ (rD m c (63 - (bk k).val))
      rw [bk_bk]) h.dkd
  dgl := grow' (fun n => by
    rw [show T1 m (k.val + 1) c = afterL body1I (after condOps1 (T1 m k.val c)) from rfl, trip1_15]; exact putG_at (at1 m c k) _ _ n)
    (by
      rw [dglT_at, getS_at (at1 m c k), in1_1, h.ds]
      show _ = dglE _ (rD m c (63 - (bk k).val))
      rw [bk_bk]) h.dgl

theorem inv1 (hR : Real m c) : ∀ k, k ≤ 64 → Inv1 m c k
  | 0, _ => inv1_zero m c
  | k + 1, h => inv1_succ m c hR ⟨k, h⟩ (inv1 hR k (Nat.le_of_succ_le h))

/-! ## The results -/

theorem fin_42 (hR : Real m c) : fin m c (Proc.devRef .tc main_v42) = toR (rDU m c) := by
  rw [show fin m c = after hostOps0_2 (after condOps1 (T1 m 64 c)) from rfl, post_main_v42, keepC1 _ main_v33_11 (by decide +kernel)]
  exact joinR_at _ _ fun n => (inv1 m c hR 64 le_rfl).du n (Nat.zero_le _)
theorem fin_40 (hR : Real m c) : fin m c (Proc.devRef .tc main_v40) = toR (rDW m c) := by
  rw [show fin m c = after hostOps0_2 (after condOps1 (T1 m 64 c)) from rfl, post_main_v40, keepC1 _ main_v33_12 (by decide +kernel)]
  exact joinR_at _ _ fun n => (inv1 m c hR 64 le_rfl).dw n (Nat.zero_le _)
theorem fin_44 (hR : Real m c) : fin m c (Proc.devRef .tc main_v44) = toQ (rDQK m c) := by
  rw [show fin m c = after hostOps0_2 (after condOps1 (T1 m 64 c)) from rfl, post_main_v44, keepC1 _ main_v33_10 (by decide +kernel)]
  exact joinQ_at _ _ fun n => (inv1 m c hR 64 le_rfl).dqk n (Nat.zero_le _)
theorem fin_38 (hR : Real m c) : fin m c (Proc.devRef .tc main_v38) = toR (rDQD m c) := by
  rw [show fin m c = after hostOps0_2 (after condOps1 (T1 m 64 c)) from rfl, post_main_v38, keepC1 _ main_v33_13 (by decide +kernel)]
  exact joinR_at _ _ fun n => (inv1 m c hR 64 le_rfl).dqd n (Nat.zero_le _)
theorem fin_36 (hR : Real m c) : fin m c (Proc.devRef .tc main_v36) = toR (rDKD m c) := by
  rw [show fin m c = after hostOps0_2 (after condOps1 (T1 m 64 c)) from rfl, post_main_v36, keepC1 _ main_v33_14 (by decide +kernel)]
  exact joinR_at _ _ fun n => (inv1 m c hR 64 le_rfl).dkd n (Nat.zero_le _)
theorem fin_34 (hR : Real m c) : fin m c (Proc.devRef .tc main_v34) = toG (rDGL m c) := by
  rw [show fin m c = after hostOps0_2 (after condOps1 (T1 m 64 c)) from rfl, post_main_v34, keepC1 _ main_v33_15 (by decide +kernel)]
  exact joinG_at _ _ fun n => (inv1 m c hR 64 le_rfl).dgl n (Nat.zero_le _)

end Cert.ReferenceIdeal.Loops

end
-- ==== Proof.Value.lean ====
/-
  UNTRUSTED — the two programs' results side by side: from equal arguments, all of whose elements are real numbers, the kernel
  and the reference end with the same six gradients.
-/
module

public import proofs.«01_k».proof.Defs
public import proofs.«01_k».proof.Proof.Frames
public import proofs.«01_k».proof.Proof.Finite
public import proofs.«01_k».proof.Proof.KerValue
public import proofs.«01_k».proof.Proof.RefValue

@[expose] public section

set_option maxRecDepth 16384

noncomputable section

namespace Cert.Proof

open Gdn
open Idealize.ShloMosaic Idealize.ShloMosaic.TcCoe
open Idealize.SL.Sem
open KernelIdeal.Scan (V0 W2 kU kW kQK kQD kKD kGl kDO mem_uc)
open ReferenceIdeal.Loops (aU aW aQK aQD aKD aGL aDO)

attribute [local instance] Finite.facts

section
variable (m : (ℓ : Loc KernelIdeal.nD KernelIdeal.τ KernelIdeal.sig) → Buf (Elt Ideal) ℓ) (g : Dev KernelIdeal.nD → PrngReg)
  (m' : (ℓ : Loc ReferenceIdeal.nD ReferenceIdeal.τ ReferenceIdeal.sig) → Buf (Elt Ideal) ℓ)
  (c : Dev KernelIdeal.nD)

/-- The two programs' arguments are the same arrays. -/
structure Same : Prop where
  u : aU m' c = kU (V0 m g) c
  w : aW m' c = kW (V0 m g) c
  qk : aQK m' c = kQK (V0 m g) c
  qd : aQD m' c = kQD (V0 m g) c
  kd : aKD m' c = kKD (V0 m g) c
  gl : aGL m' c = kGl (V0 m g) c
  dO : aDO m' c = kDO (V0 m g) c

variable {m g m' c}

theorem Same.real (hs : Same m g m' c) (hp : Pre_KernelIdeal_finite m) : ReferenceIdeal.Loops.Real m' c where
  u := fun n => by rw [hs.u]; exact Finite.arg0 m hp c n
  w := fun n => by rw [hs.w]; exact Finite.arg1 m hp c n
  qk := fun n => by rw [hs.qk]; exact Finite.arg2 m hp c n
  qd := fun n => by rw [hs.qd]; exact Finite.arg3 m hp c n
  kd := fun n => by rw [hs.kd]; exact Finite.arg4 m hp c n
  gl := fun n => by rw [hs.gl]; exact Finite.arg5 m hp c n
  dO := fun n => by rw [hs.dO]; exact Finite.arg6 m hp c n

theorem Same.du (hs : Same m g m' c) (hp : Pre_KernelIdeal_finite m) :
    ReferenceIdeal.Loops.fin m' c (Proc.devRef .tc ReferenceIdeal.main_v42) = W2 m g c (Proc.devRef .tc KernelIdeal.main_v1_0) := by
  rw [KernelIdeal.Scan.res_du m g c]
  refine (ReferenceIdeal.Loops.fin_42 m' c (hs.real hp)).trans ?_
  unfold ReferenceIdeal.Loops.rDU
  rw [hs.w, hs.kd, hs.qd, hs.dO, hs.qk, hs.gl]

theorem Same.dw (hs : Same m g m' c) (hp : Pre_KernelIdeal_finite m) :
    ReferenceIdeal.Loops.fin m' c (Proc.devRef .tc ReferenceIdeal.main_v40) = W2 m g c (Proc.devRef .tc KernelIdeal.main_v1_1) := by
  rw [KernelIdeal.Scan.res_dw m g c]
  refine (ReferenceIdeal.Loops.fin_40 m' c (hs.real hp)).trans ?_
  unfold ReferenceIdeal.Loops.rDW
  rw [hs.u, hs.w, hs.kd, hs.qd, hs.dO, hs.qk, hs.gl]

theorem Same.dqk (hs : Same m g m' c) (hp : Pre_KernelIdeal_finite m) :
    ReferenceIdeal.Loops.fin m' c (Proc.devRef .tc ReferenceIdeal.main_v44) = W2 m g c (Proc.devRef .tc KernelIdeal.main_v1_2) := by
  rw [KernelIdeal.Scan.res_dqk m g c]
  refine (ReferenceIdeal.Loops.fin_44 m' c (hs.real hp)).trans ?_
  unfold ReferenceIdeal.Loops.rDQK
  rw [hs.u, hs.w, hs.kd, hs.dO, hs.gl]

theorem Same.dqd (hs : Same m g m' c) (hp : Pre_KernelIdeal_finite m) :
    ReferenceIdeal.Loops.fin m' c (Proc.devRef .tc ReferenceIdeal.main_v38) = W2 m g c (Proc.devRef .tc KernelIdeal.main_v1_3) := by
  rw [KernelIdeal.Scan.res_dqd m g c]
  refine (ReferenceIdeal.Loops.fin_38 m' c (hs.real hp)).trans ?_
  unfold ReferenceIdeal.Loops.rDQD
  rw [hs.u, hs.w, hs.kd, hs.dO, hs.gl]

theorem Same.dkd (hs : Same m g m' c) (hp : Pre_KernelIdeal_finite m) :
    ReferenceIdeal.Loops.fin m' c (Proc.devRef .tc ReferenceIdeal.main_v36) = W2 m g c (Proc.devRef .tc KernelIdeal.main_v1_4) := by
  rw [KernelIdeal.Scan.res_dkd m g c]
  refine (ReferenceIdeal.Loops.fin_36 m' c (hs.real hp)).trans ?_
  unfold ReferenceIdeal.Loops.rDKD
  rw [hs.u, hs.w, hs.kd, hs.qd, hs.dO, hs.qk, hs.gl]

theorem Same.dgl (hs : Same m g m' c) (hp : Pre_KernelIdeal_finite m) :
    ReferenceIdeal.Loops.fin m' c (Proc.devRef .tc ReferenceIdeal.main_v34) = W2 m g c (Proc.devRef .tc KernelIdeal.main_v1_5) := by
  rw [KernelIdeal.Scan.res_dgl m g c]
  refine (ReferenceIdeal.Loops.fin_34 m' c (hs.real hp)).trans ?_
  unfold ReferenceIdeal.Loops.rDGL
  rw [hs.u, hs.w, hs.kd, hs.qd, hs.dO, hs.qk, hs.gl]

end

/-- The kernel's run: its six results and its arguments. -/
theorem run_Kernel (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v1_0) = W2 m g c (Proc.devRef .tc KernelIdeal.main_v1_0)
      ∧ r.2.mem ((c.tc : Thread KernelIdeal.nD KernelIdeal.τ).loc KernelIdeal.main_v1_1) = W2 m g c (Proc.devRef .tc KernelIdeal.main_v1_1)
      ∧ r.2.mem ((c.tc : Thread KernelIdeal.nD KernelIdeal.τ).loc KernelIdeal.main_v1_2) = W2 m g c (Proc.devRef .tc KernelIdeal.main_v1_2)
      ∧ r.2.mem ((c.tc : Thread KernelIdeal.nD KernelIdeal.τ).loc KernelIdeal.main_v1_3) = W2 m g c (Proc.devRef .tc KernelIdeal.main_v1_3)
      ∧ r.2.mem ((c.tc : Thread KernelIdeal.nD KernelIdeal.τ).loc KernelIdeal.main_v1_4) = W2 m g c (Proc.devRef .tc KernelIdeal.main_v1_4)
      ∧ r.2.mem ((c.tc : Thread KernelIdeal.nD KernelIdeal.τ).loc KernelIdeal.main_v1_5) = W2 m g c (Proc.devRef .tc KernelIdeal.main_v1_5)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)) :=
  (θ_run KernelIdeal.defs _ _).mono (fun r h c =>
    ⟨h.1 c _ (mem_uc KernelIdeal.main_v1_0 (by decide)),
      h.1 c _ (mem_uc KernelIdeal.main_v1_1 (by decide)),
      h.1 c _ (mem_uc KernelIdeal.main_v1_2 (by decide)),
      h.1 c _ (mem_uc KernelIdeal.main_v1_3 (by decide)),
      h.1 c _ (mem_uc KernelIdeal.main_v1_4 (by decide)),
      h.1 c _ (mem_uc KernelIdeal.main_v1_5 (by decide)),
      (h.1 c _ (mem_uc KernelIdeal.main_arg0 (by decide))).trans (KernelIdeal.Scan.W2_main_arg0 m g c),
      (h.1 c _ (mem_uc KernelIdeal.main_arg1 (by decide))).trans (KernelIdeal.Scan.W2_main_arg1 m g c),
      (h.1 c _ (mem_uc KernelIdeal.main_arg2 (by decide))).trans (KernelIdeal.Scan.W2_main_arg2 m g c),
      (h.1 c _ (mem_uc KernelIdeal.main_arg3 (by decide))).trans (KernelIdeal.Scan.W2_main_arg3 m g c),
      (h.1 c _ (mem_uc KernelIdeal.main_arg4 (by decide))).trans (KernelIdeal.Scan.W2_main_arg4 m g c),
      (h.1 c _ (mem_uc KernelIdeal.main_arg5 (by decide))).trans (KernelIdeal.Scan.W2_main_arg5 m g c),
      (h.1 c _ (mem_uc KernelIdeal.main_arg6 (by decide))).trans (KernelIdeal.Scan.W2_main_arg6 m g c)⟩)
    (KernelIdeal.Scan.run_main (F := Ideal) m g)

theorem algebraic : algebraic_KernelIdeal_ReferenceIdeal_pre_finite := by
  intro m g m' g' hp hm
  have hs : ∀ c, Same m g m' c := fun c =>
    ⟨congrArg ofR (hm c).1,
      congrArg ofR (hm c).2.1,
      congrArg ofQ (hm c).2.2.1,
      congrArg ofR (hm c).2.2.2.1,
      congrArg ofR (hm c).2.2.2.2.1,
      congrArg ofG (hm c).2.2.2.2.2.1,
      congrArg ofR (hm c).2.2.2.2.2.2⟩
  refine ⟨fun c => W2 m g c (Proc.devRef .tc KernelIdeal.main_v1_0), fun c => W2 m g c (Proc.devRef .tc KernelIdeal.main_v1_1), fun c => W2 m g c (Proc.devRef .tc KernelIdeal.main_v1_2), fun c => W2 m g c (Proc.devRef .tc KernelIdeal.main_v1_3), fun c => W2 m g c (Proc.devRef .tc KernelIdeal.main_v1_4), fun c => W2 m g c (Proc.devRef .tc KernelIdeal.main_v1_5), run_Kernel m g, ?_⟩
  refine (θ_run ReferenceIdeal.defs _ _).mono (fun r h c => ⟨(h c ReferenceIdeal.main_v42 (by decide)).trans ((hs c).du hp),
    (h c ReferenceIdeal.main_v40 (by decide)).trans ((hs c).dw hp),
    (h c ReferenceIdeal.main_v44 (by decide)).trans ((hs c).dqk hp),
    (h c ReferenceIdeal.main_v38 (by decide)).trans ((hs c).dqd hp),
    (h c ReferenceIdeal.main_v36 (by decide)).trans ((hs c).dkd hp),
    (h c ReferenceIdeal.main_v34 (by decide)).trans ((hs c).dgl hp),
    ReferenceIdeal.Loops.args_kept m' c (h c)⟩) (ReferenceIdeal.Loops.run (F := Ideal) m' g')

end Cert.Proof

end
-- ==== Proof.Mat.lean ====
/-
  UNTRUSTED — matrices of extended reals as functions of two numbers, and a product summed block by block.
-/
module

public import proofs.«01_k».proof.Defs
public import Idealize.ShloMosaic.Lib.Pipeline.ValueKit
public import Idealize.ShloMosaic.Lib.Pointwise
public import Mathlib.Algebra.BigOperators.Intervals

@[expose] public section

noncomputable section

namespace Cert.Ffn

open Idealize.ShloMosaic
open scoped BigOperators

/-- The matrix's element at row `i` and column `j`, counted modulo its sizes. -/
def mat {a b : ℕ} [NeZero a] [NeZero b] (x : (⟨2, ![a, b]⟩ : Shape).Idx → EReal) (i j : ℕ) : EReal :=
  x (ix2 ⟨i % a, Nat.mod_lt _ (NeZero.pos a)⟩ ⟨j % b, Nat.mod_lt _ (NeZero.pos b)⟩)

theorem mat_val {a b : ℕ} [NeZero a] [NeZero b] (x : (⟨2, ![a, b]⟩ : Shape).Idx → EReal) (i : Fin a) (j : Fin b) :
    mat x i.val j.val = x (ix2 i j) := by
  unfold mat
  congr 2
  · exact Fin.ext (Nat.mod_eq_of_lt i.isLt)
  · exact Fin.ext (Nat.mod_eq_of_lt j.isLt)

/-- The first `n` terms of the product of row `i` of `A` with row `j` of `B`. -/
def dotR (A B : ℕ → ℕ → EReal) (n i j : ℕ) : EReal := ∑ k ∈ Finset.range n, A i k * B j k
/-- The same of column `i` of `A` with column `j` of `B`. -/
abbrev dotC (A B : ℕ → ℕ → EReal) (n i j : ℕ) : EReal := dotR (fun r k => A k r) (fun r k => B k r) n i j

theorem dotR_fin (A B : ℕ → ℕ → EReal) (n i j : ℕ) : dotR A B n i j = ∑ k : Fin n, A i k.val * B j k.val := Finset.sum_range _

theorem dotR_add (A B : ℕ → ℕ → EReal) (n w i j : ℕ) :
    dotR A B (n + w) i j = dotR A B n i j + ∑ k : Fin w, A i (n + k.val) * B j (n + k.val) := by
  unfold dotR
  rw [Finset.sum_range_add, Finset.sum_range (fun x => A i (n + x) * B j (n + x))]

/-- One more block of `w` terms. -/
theorem dotR_block (A B : ℕ → ℕ → EReal) (w q i j : ℕ) :
    dotR A B (w * (q + 1)) i j = dotR A B (w * q) i j + ∑ k : Fin w, A i (w * q + k.val) * B j (w * q + k.val) := by
  rw [Nat.mul_succ, dotR_add]

/-- An index of a matrix from its two coordinates. -/
theorem exists_ix2 {a b : ℕ} (y : (⟨2, ![a, b]⟩ : Shape).Idx) : ∃ (r : Fin a) (s : Fin b), y = ix2 r s :=
  ⟨y 0, y 1, by funext d; fin_cases d <;> rfl⟩

theorem exists_ix3 {a b c : ℕ} (y : (⟨3, ![a, b, c]⟩ : Shape).Idx) : ∃ (q : Fin a) (r : Fin b) (s : Fin c), y = ix3 q r s :=
  ⟨y 0, y 1, y 2, by funext d; fin_cases d <;> rfl⟩

/-- The factor by which a row is normalised: one over the root of its mean square plus the norm's epsilon. -/
def rms (v : Fin 1024 → EReal) : EReal :=
  Ideal.rsqrt (Ideal.div (∑ k, v k * v k) (Ideal.ofBits FTy.f32 1149239296#32) + Ideal.ofBits FTy.f32 897988541#32)

theorem zero2 : (![0, 0] : Fin 2 → Nat) = fun _ => 0 := funext fun a => by fin_cases a <;> rfl

/-- A load of a whole matrix reads it. -/
theorem ld0 {Val : EltTy → Type} {e : EltTy} {a b : ℕ} (inb) (X : (⟨2, ![a, b]⟩ : Shape).Idx → Val e) :
    View.ld X (Rect.unit (s := ⟨2, ![a, b]⟩) ![0, 0] ![a, b] inb) = X := View.ld_unit_zero zero2 inb X

/-- A statement about every start is one of its instance at a program's text. -/
theorem transfer {α β : Type*} {φ : α → β → Prop} (h : ∀ a b, φ a b) {P : Prop} (e : P = ∀ a b, True → φ a b) : P := e.mpr fun a b _ => h a b

end Cert.Ffn

end
-- ==== Proof.Dact.lean ====
/-
  UNTRUSTED — the call ffn_dact: every block of rows of dx against every block of rows of w_down, each block one product.
-/
module

public import proofs.«01_k».proof.Proof.Mat
public import proofs.«01_k».proof.Proof.Gen.Kernel2
public import proofs.«01_k».proof.Proof.Gen.Kernel2Ideal.Value
public import proofs.«01_k».proof.Proof.Gen.Reference2Ideal.Run

@[expose] public section

set_option maxRecDepth 16384

noncomputable section

namespace Cert.Kernel2Ideal.Prod

open Kernel2Ideal Kernel2Ideal.Gen Ffn
open Idealize.ShloMosaic Idealize.ShloMosaic.TcCoe
open Idealize.ShloMosaic.Pipeline (Dat)

theorem pay_at (a : Vec Ideal S1024x1024 .f32) (b : Vec Ideal S1408x1024 .bf16) (r : Fin 1024) (s : Fin 1408) :
    k0_pay1 (F := Ideal) a b (ix2 r s) = ∑ k : Fin 1024, a (ix2 r k) * b (ix2 s k) := by
  pointwise [k0_pay1]

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 2816) (b := 1024) (m ((c : Thread nD τ).loc main_arg1))

theorem ix0 : ∀ t : Fin cfg0.N, win0_0.index t = ![t.val / 2, 0] := (by decide +kernel : ∀ t : Fin grid0.N, _)
theorem ix1 : ∀ t : Fin cfg0.N, win0_1.index t = ![t.val % 2, 0] := (by decide +kernel : ∀ t : Fin grid0.N, _)
theorem ixo : ∀ t : Fin cfg0.N, win0_2.index t = ![t.val / 2, t.val % 2] := (by decide +kernel : ∀ t : Fin grid0.N, _)

theorem a_blk (c : Dev nD) (t : Fin cfg0.N) (r k : Fin 1024) : iblk m c 0 t (ix2 r k) = A m c (1024 * (t.val / 2) + r.val) k.val := by
  have ht := t.isLt.trans_eq N_0
  unfold A mat
  blk_simp [iblk]
  refine congrArg (m _) ?_
  blk_ext [ix0]
theorem b_blk (c : Dev nD) (t : Fin cfg0.N) (r : Fin 1408) (k : Fin 1024) : iblk m c 1 t (ix2 r k) = B m c (1408 * (t.val % 2) + r.val) k.val := by
  have ht := t.isLt.trans_eq N_0
  unfold B mat
  blk_simp [iblk]
  refine congrArg (m _) ?_
  blk_ext [ix1]

theorem arr (c : Dev nD) : (dats m 0 c).arrAt 2 cfg0.N = fun z : S4096x2816.Idx => dotR (A m c) (B m c) 1024 (z 0).val (z 1).val := by
  refine (dats m 0 c).arrAt_eq_of_covers 2 _ (by decide +kernel) fun t hf y => ?_
  have ht := t.isLt.trans_eq N_0
  blk_simp [ixo]
  rw [after0_2]
  unfold out0_2
  rw [View.canon_unit_zero zero2, ld0, ld0]
  obtain ⟨r, s, rfl⟩ := exists_ix2 y
  rw [pay_at, dotR_fin]
  refine Finset.sum_congr (M := EReal) rfl fun k _ => ?_
  rw [a_blk, b_blk, Nat.mul_comm 1024, Nat.mul_comm 1408]
  rfl

/-- The reference's product, element by element. -/
theorem ref_at (a : Vec Ideal S4096x1024 .f32) (b : Vec Ideal S2816x1024 .bf16) :
    Host.dotGeneral (F := Ideal) (φ₁ := .f32) (φ₂ := .f32) Reference2Ideal.dot_S4096x1024_S2816x1024_S4096x2816_1_1_0_0_n_n none a (extf .f32 b Reference2Ideal.Gen.bitsLt_bf16_f32)
      = fun z : S4096x2816.Idx => dotR (mat (a := 4096) (b := 1024) a) (mat (a := 2816) (b := 1024) b) 1024 (z 0).val (z 1).val := by
  funext z
  obtain ⟨r, s, rfl⟩ := exists_ix2 z
  have h : Host.dotGeneral (F := Ideal) (φ₁ := .f32) (φ₂ := .f32) Reference2Ideal.dot_S4096x1024_S2816x1024_S4096x2816_1_1_0_0_n_n none a (extf .f32 b Reference2Ideal.Gen.bitsLt_bf16_f32) (ix2 r s)
      = ∑ k : Fin 1024, a (ix2 r k) * b (ix2 s k) := by pointwise []
  rw [h, dotR_fin]
  refine Finset.sum_congr rfl fun k _ => ?_
  rw [← mat_val a r k, ← mat_val b s k]
  rfl

end Cert.Kernel2Ideal.Prod

namespace Cert.Proof

open Idealize.ShloMosaic Idealize.ShloMosaic.TcCoe
open Idealize.SL.Sem

theorem frame_Kernel2Ideal : quiescent_Kernel2Ideal := fun m ρ _ => Kernel2Ideal.Gen.frame m ρ

theorem frame_Kernel2 : quiescent_Kernel2 := Ffn.transfer (Kernel2Ideal.Gen.frame (F := Bits)) (by sl_kernel_rfl)

theorem frame_Reference2Ideal : quiescent_Reference2Ideal := fun m ρ _ =>
  (θ_run Reference2Ideal.defs _ _).mono (fun r h => ⟨fun c => (h c).2, sem_eq_zero_of_no_sems (by decide) r.2⟩)
    (Reference2Ideal.Value.run (F := Ideal) m ρ)

theorem algebraic2 : algebraic_Kernel2Ideal_Reference2Ideal := by
  intro m g m' g' _ hm
  refine ⟨fun c => (Kernel2Ideal.Gen.dats m 0 c).arrAt 2 Kernel2Ideal.cfg0.N, Kernel2Ideal.Value.run_blocks m g, ?_⟩
  refine (θ_run Reference2Ideal.defs _ _).mono (fun r h c => ⟨(h c).1.trans ?_, (h c).2⟩) (Reference2Ideal.Value.run (F := Ideal) m' g')
  rw [(hm c).1, (hm c).2]
  exact (Kernel2Ideal.Prod.ref_at _ _).trans (Kernel2Ideal.Prod.arr m c).symm

end Cert.Proof

end
-- ==== Proof.DwDown.lean ====
/-
  UNTRUSTED — the call ffn_dwdown: act transposed times dx, accumulated in scratch over four blocks of rows.
-/
module

public import proofs.«01_k».proof.Proof.Mat
public import proofs.«01_k».proof.Proof.Gen.Kernel3
public import proofs.«01_k».proof.Proof.Gen.Kernel3Ideal.Value
public import proofs.«01_k».proof.Proof.Gen.Reference3Ideal.Run

@[expose] public section

set_option maxRecDepth 16384

noncomputable section

namespace Cert.Kernel3Ideal.Prod

open Kernel3Ideal Kernel3Ideal.Gen Ffn
open Idealize.ShloMosaic Idealize.ShloMosaic.TcCoe
open Idealize.ShloMosaic.Pipeline (Dat)

theorem pay_at (a : Vec Ideal S1024x1408 .bf16) (b : Vec Ideal S1024x1024 .f32) (r : Fin 1408) (s : Fin 1024) :
    k0_pay1 (F := Ideal) a b (ix2 r s) = ∑ k : Fin 1024, a (ix2 k r) * b (ix2 k s) := by
  pointwise [k0_pay1]

section Cases
variable {F : FTy → Type} [FloatOps F]

theorem sout_A (c : Dev nD) (i a3 h3 a4 h4 a5 h5 a6 h6 hc0 hc1 hc2) (x : Vec F S1024x1408 .bf16) (y : Vec F S1024x1024 .f32) :
    sout0_A_0 c i a3 h3 a4 h4 a5 h5 a6 h6 hc0 hc1 hc2 x y = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, ld0, shapeCast_self]

theorem sout_B (c : Dev nD) (i a3 h3 a4 h4 a5 h5 a6 h6 hc0 hc1 hc2) (x : Vec F S1024x1408 .bf16) (y : Vec F S1024x1024 .f32) (z : Vec F S1408x1024 .f32) :
    sout0_B_0 c i a3 h3 a4 h4 a5 h5 a6 h6 hc0 hc1 hc2 x y z = addf z (k0_pay1 x y) := by
  unfold sout0_B_0
  rw [View.read_writes_eq_canon]; on_goal 2 => apply scover0_B_0
  unfold kernelRun0_B
  dsimp only
  rw [View.canon_unit_zero zero2]
  unfold k0_pay3
  simp only [View.readAt_eq_ld, h3.read_unread, h4.read_unread, h6.read_unread, ld0,
    View.ld_unit_zero (S := S1408x1024) zero2, shapeCast_self]

theorem sout_C (c : Dev nD) (i a3 h3 a4 h4 a5 h5 a6 h6 hc0 hc1 hc2) (x : Vec F S1024x1408 .bf16) (y : Vec F S1024x1024 .f32) (z : Vec F S1408x1024 .f32) :
    sout0_C_0 c i a3 h3 a4 h4 a5 h5 a6 h6 hc0 hc1 hc2 x y z = addf z (k0_pay1 x y) := by
  unfold sout0_C_0
  rw [View.read_writes_eq_canon]; on_goal 2 => apply scover0_C_0
  unfold kernelRun0_C
  dsimp only
  sl_unfold_words
  rw [View.canon_unit_zero zero2]
  unfold k0_pay3
  simp only [View.readAt_eq_ld, h3.read_unread, h4.read_unread, h6.read_unread, ld0,
    View.ld_unit_zero (S := S1408x1024) zero2, shapeCast_self]

theorem out_C (c : Dev nD) (i a3 h3 a4 h4 a5 h5 a6 h6 hc0 hc1 hc2) (x : Vec F S1024x1408 .bf16) (y : Vec F S1024x1024 .f32) (z : Vec F S1408x1024 .f32) :
    out0_C_2 c i a3 h3 a4 h4 a5 h5 a6 h6 hc0 hc1 hc2 x y z = addf z (k0_pay1 x y) := by
  unfold out0_C_2
  rw [View.read_writes_eq_canon]; on_goal 2 => apply cover0_C_2
  unfold kernelRun0_C
  dsimp only
  sl_unfold_words
  rw [View.canon_unit_zero zero2, View.readCov_unit_zero (S := S1408x1024) _ zero2]
  unfold k0_pay3
  simp only [View.readAt_eq_ld, h3.read_unread, h4.read_unread, h6.read_unread, ld0,
    View.ld_unit_zero (S := S1408x1024) zero2, shapeCast_self]

end Cases

variable (m : (ℓ : Loc nD τ sig) → Buf (Elt Ideal) ℓ)

def A (c : Dev nD) : ℕ → ℕ → EReal := mat (a := 4096) (b := 2816) (m ((c : Thread nD τ).loc main_arg0))
def B (c : Dev nD) : ℕ → ℕ → EReal := mat (a := 4096) (b := 1024) (m ((c : Thread nD τ).loc main_arg1))

theorem ix0 : ∀ t : Fin cfg0.N, win0_0.index t = ![t.val % 4, t.val / 4] := (by decide +kernel : ∀ t : Fin grid0.N, _)
theorem ix1 : ∀ t : Fin cfg0.N, win0_1.index t = ![t.val % 4, 0] := (by decide +kernel : ∀ t : Fin grid0.N, _)
theorem ixo : ∀ t : Fin cfg0.N, win0_2.index t = ![t.val / 4, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

theorem a_blk (c : Dev nD) (t : Fin cfg0.N) (k : Fin 1024) (r : Fin 1408) : iblk m c 0 t (ix2 k r) = A m c (1024 * (t.val % 4) + k.val) (t.val / 4 * 1408 + r.val) := by
  have ht := t.isLt.trans_eq N_0
  unfold A mat
  blk_simp [iblk]
  refine congrArg (m _) ?_
  blk_ext [ix0]
theorem b_blk (c : Dev nD) (t : Fin cfg0.N) (k s : Fin 1024) : iblk m c 1 t (ix2 k s) = B m c (1024 * (t.val % 4) + k.val) s.val := by
  have ht := t.isLt.trans_eq N_0
  unfold B mat
  blk_simp [iblk]
  refine congrArg (m _) ?_
  blk_ext [ix1]

/-- The product of the blocks at point `t`. -/
theorem pay_blk (c : Dev nD) (t : Fin cfg0.N) (r : Fin 1408) (s : Fin 1024) :
    k0_pay1 (F := Ideal) (iblk m c 0 t) (iblk m c 1 t) (ix2 r s)
      = ∑ k : Fin 1024, A m c (1024 * (t.val % 4) + k.val) (t.val / 4 * 1408 + r.val) * B m c (1024 * (t.val % 4) + k.val) s.val := by
  rw [pay_at]
  refine Finset.sum_congr (M := EReal) rfl fun k _ => ?_
  rw [a_blk, b_blk]

theorem s_first (c : Dev nD) (t : Fin cfg0.N) (h : t.val % 4 = 0) : (outsAt0 m c t.val t.isLt).2 = k0_pay1 (F := Ideal) (iblk m c 0 t) (iblk m c 1 t) := by
  rw [outsAt0_A m c t h (by omega) (by omega)]
  dsimp only
  rw [sout_A]

theorem s_next (c : Dev nD) (t : Fin cfg0.N) (h : ¬t.val % 4 = 0) :
    (outsAt0 m c t.val t.isLt).2 = addf (outsAt0 m c (t.val - 1) (Nat.lt_of_le_of_lt (Nat.sub_le _ _) t.isLt)).2 (k0_pay1 (F := Ideal) (iblk m c 0 t) (iblk m c 1 t)) := by
  by_cases h3 : t.val % 4 = 3
  · rw [outsAt0_C m c t h (by omega) h3]
    dsimp only
    rw [sout_C]
  · rw [outsAt0_B m c t h (by omega) h3]
    dsimp only
    rw [sout_B]

theorem o_last (c : Dev nD) (t : Fin cfg0.N) (h : t.val % 4 = 3) : (outsAt0 m c t.val t.isLt).1 = (outsAt0 m c t.val t.isLt).2 := by
  rw [s_next m c t (by omega), outsAt0_C m c t (by omega) (by omega) h]
  dsimp only
  rw [out_C]

/-- What the scratch holds after point `n`: the product over the blocks so far. -/
theorem s_at (c : Dev nD) (r : Fin 1408) (s : Fin 1024) : ∀ (n : ℕ) (h : n < cfg0.N),
    (outsAt0 m c n h).2 (ix2 r s) = dotC (A m c) (B m c) (1024 * (n % 4 + 1)) (n / 4 * 1408 + r.val) s.val := by
  intro n
  induction n with
  | zero =>
    intro h
    rw [s_first m c ⟨0, h⟩ rfl, pay_blk, dotC, dotR_block]
    exact (zero_add _).symm
  | succ n ih =>
    intro h
    have hN : n + 1 < 8 := h.trans_eq N_0
    by_cases h0 : (n + 1) % 4 = 0
    · rw [s_first m c ⟨n + 1, h⟩ h0, pay_blk, dotC, dotR_block, h0]
      exact (zero_add _).symm
    · rw [s_next m c ⟨n + 1, h⟩ h0, dotC, dotR_block]
      refine congrArg₂ (fun x y : EReal => x + y) ?_ (pay_blk m c ⟨n + 1, h⟩ r s)
      refine (ih (Nat.lt_of_succ_lt h)).trans ?_
      rw [show (n + 1) / 4 = n / 4 by omega, show (n + 1) % 4 = n % 4 + 1 by omega]

theorem arr (c : Dev nD) : (dats m 0 c).arrAt 2 cfg0.N = fun z : S2816x1024.Idx => dotC (A m c) (B m c) 4096 (z 0).val (z 1).val := by
  refine (dats m 0 c).arrAt_eq_of_covers 2 _ (by decide +kernel) fun t hf y => ?_
  have ht := t.isLt.trans_eq N_0
  have h3 := last t hf
  blk_simp [ixo]
  rw [after0_2]
  obtain ⟨r, s, rfl⟩ := exists_ix2 y
  rw [o_last m c t h3, s_at, h3]
  rfl

/-- The reference's product, element by element. -/
theorem ref_at (a : Vec Ideal S4096x2816 .bf16) (b : Vec Ideal S4096x1024 .f32) :
    transpose S2816x1024 [1, 0] (Host.dotGeneral (F := Ideal) (φ₁ := .f32) (φ₂ := .f32) Reference3Ideal.dot_S4096x1024_S4096x2816_S1024x2816_0_0_1_1_n_n none b (extf .f32 a Reference3Ideal.Gen.bitsLt_bf16_f32)) Reference3Ideal.Gen.transposes_S1024x2816_S2816x1024_1_0
      = fun z : S2816x1024.Idx => dotC (mat (a := 4096) (b := 2816) a) (mat (a := 4096) (b := 1024) b) 4096 (z 0).val (z 1).val := by
  funext z
  obtain ⟨r, s, rfl⟩ := exists_ix2 z
  have h : transpose S2816x1024 [1, 0] (Host.dotGeneral (F := Ideal) (φ₁ := .f32) (φ₂ := .f32) Reference3Ideal.dot_S4096x1024_S4096x2816_S1024x2816_0_0_1_1_n_n none b (extf .f32 a Reference3Ideal.Gen.bitsLt_bf16_f32)) Reference3Ideal.Gen.transposes_S1024x2816_S2816x1024_1_0 (ix2 r s)
      = ∑ k : Fin 4096, b (ix2 k s) * a (ix2 k r) := by pointwise []
  rw [h, dotC, dotR_fin]
  refine Finset.sum_congr rfl fun k _ => ?_
  rw [← mat_val a k r, ← mat_val b k s, mul_comm]
  rfl

end Cert.Kernel3Ideal.Prod

namespace Cert.Proof

open Idealize.ShloMosaic Idealize.ShloMosaic.TcCoe
open Idealize.SL.Sem

theorem frame_Kernel3Ideal : quiescent_Kernel3Ideal := fun m ρ _ => Kernel3Ideal.Gen.frame m ρ

theorem frame_Kernel3 : quiescent_Kernel3 := Ffn.transfer (Kernel3Ideal.Gen.frame (F := Bits)) (by sl_kernel_rfl)

theorem frame_Reference3Ideal : quiescent_Reference3Ideal := fun m ρ _ =>
  (θ_run Reference3Ideal.defs _ _).mono (fun r h => ⟨fun c => (h c).2, sem_eq_zero_of_no_sems (by decide) r.2⟩)
    (Reference3Ideal.Value.run (F := Ideal) m ρ)

theorem algebraic3 : algebraic_Kernel3Ideal_Reference3Ideal := by
  intro m g m' g' _ hm
  refine ⟨fun c => (Kernel3Ideal.Gen.dats m 0 c).arrAt 2 Kernel3Ideal.cfg0.N, Kernel3Ideal.Value.run_blocks m g, ?_⟩
  refine (θ_run Reference3Ideal.defs _ _).mono (fun r h c => ⟨(h c).1.trans ?_, (h c).2⟩) (Reference3Ideal.Value.run (F := Ideal) m' g')
  rw [(hm c).1, (hm c).2]
  exact (Kernel3Ideal.Prod.ref_at _ _).trans (Kernel3Ideal.Prod.arr m c).symm

end Cert.Proof

end
-- ==== Proof.DhnG.lean ====
/-
  UNTRUSTED — the call ffn_dhn_g: dgate times the first half of w_up transposed, accumulated in scratch over two blocks.
-/
module

public import proofs.«01_k».proof.Proof.Mat
public import proofs.«01_k».proof.Proof.Gen.Kernel4
public import proofs.«01_k».proof.Proof.Gen.Kernel4Ideal.Value
public import proofs.«01_k».proof.Proof.Gen.Reference4Ideal.Run

@[expose] public section

set_option maxRecDepth 16384

noncomputable section

namespace Cert.Kernel4Ideal.Prod

open Kernel4Ideal Kernel4Ideal.Gen Ffn
open Idealize.ShloMosaic Idealize.ShloMosaic.TcCoe
open Idealize.ShloMosaic.Pipeline (Dat)

theorem pay_at (a : Vec Ideal S1024x1408 .bf16) (b : Vec Ideal S1024x1408 .bf16) (r : Fin 1024) (s : Fin 1024) :
    k0_pay1 (F := Ideal) a b (ix2 r s) = ∑ k : Fin 1408, a (ix2 r k) * b (ix2 s k) := by
  pointwise [k0_pay1]

section Cases
variable {F : FTy → Type} [FloatOps F]

theorem sout_A (c : Dev nD) (i a3 h3 a4 h4 a5 h5 a6 h6 hc0 hc1 hc2) (x : Vec F S1024x1408 .bf16) (y : Vec F S1024x1408 .bf16) :
    sout0_A_0 c i a3 h3 a4 h4 a5 h5 a6 h6 hc0 hc1 hc2 x y = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, ld0, shapeCast_self]

theorem sout_B (c : Dev nD) (i a3 h3 a4 h4 a5 h5 a6 h6 hc0 hc1 hc2) (x : Vec F S1024x1408 .bf16) (y : Vec F S1024x1408 .bf16) (z : Vec F S1024x1024 .f32) :
    sout0_B_0 c i a3 h3 a4 h4 a5 h5 a6 h6 hc0 hc1 hc2 x y z = addf z (k0_pay1 x y) := by
  unfold sout0_B_0
  rw [View.read_writes_eq_canon]; on_goal 2 => apply scover0_B_0
  unfold kernelRun0_B
  dsimp only
  sl_unfold_words
  rw [View.canon_unit_zero zero2]
  unfold k0_pay3
  simp only [View.readAt_eq_ld, h3.read_unread, h4.read_unread, h6.read_unread, ld0,
    View.ld_unit_zero (S := S1024x1024) zero2, shapeCast_self]

theorem out_B (c : Dev nD) (i a3 h3 a4 h4 a5 h5 a6 h6 hc0 hc1 hc2) (x : Vec F S1024x1408 .bf16) (y : Vec F S1024x1408 .bf16) (z : Vec F S1024x1024 .f32) :
    out0_B_2 c i a3 h3 a4 h4 a5 h5 a6 h6 hc0 hc1 hc2 x y z = addf z (k0_pay1 x y) := by
  unfold out0_B_2
  rw [View.read_writes_eq_canon]; on_goal 2 => apply cover0_B_2
  unfold kernelRun0_B
  dsimp only
  sl_unfold_words
  rw [View.canon_unit_zero zero2, View.readCov_unit_zero (S := S1024x1024) _ zero2]
  unfold k0_pay3
  simp only [View.readAt_eq_ld, h3.read_unread, h4.read_unread, h6.read_unread, ld0,
    View.ld_unit_zero (S := S1024x1024) zero2, shapeCast_self]

end Cases

variable (m : (ℓ : Loc nD τ sig) → Buf (Elt Ideal) ℓ)

def A (c : Dev nD) : ℕ → ℕ → EReal := mat (a := 4096) (b := 2816) (m ((c : Thread nD τ).loc main_arg0))
def B (c : Dev nD) : ℕ → ℕ → EReal := mat (a := 1024) (b := 5632) (m ((c : Thread nD τ).loc main_arg1))

theorem ix0 : ∀ t : Fin cfg0.N, win0_0.index t = ![t.val / 2, t.val % 2] := (by decide +kernel : ∀ t : Fin grid0.N, _)
theorem ix1 : ∀ t : Fin cfg0.N, win0_1.index t = ![0, t.val % 2] := (by decide +kernel : ∀ t : Fin grid0.N, _)

theorem a_blk (c : Dev nD) (t : Fin cfg0.N) (r : Fin 1024) (k : Fin 1408) : iblk m c 0 t (ix2 r k) = A m c (t.val / 2 * 1024 + r.val) (1408 * (t.val % 2) + k.val) := by
  have ht := t.isLt.trans_eq N_0
  unfold A mat
  blk_simp [iblk]
  refine congrArg (m _) ?_
  blk_ext [ix0]
theorem b_blk (c : Dev nD) (t : Fin cfg0.N) (s : Fin 1024) (k : Fin 1408) : iblk m c 1 t (ix2 s k) = B m c (s.val) (1408 * (t.val % 2) + k.val) := by
  have ht := t.isLt.trans_eq N_0
  unfold B mat
  blk_simp [iblk]
  refine congrArg (m _) ?_
  blk_ext [ix1]

/-- The product of the blocks at point `t`. -/
theorem pay_blk (c : Dev nD) (t : Fin cfg0.N) (r : Fin 1024) (s : Fin 1024) :
    k0_pay1 (F := Ideal) (iblk m c 0 t) (iblk m c 1 t) (ix2 r s) = ∑ k : Fin 1408, A m c (t.val / 2 * 1024 + r.val) (1408 * (t.val % 2) + k.val) * B m c (s.val) (1408 * (t.val % 2) + k.val) := by
  rw [pay_at]
  refine Finset.sum_congr (M := EReal) rfl fun k _ => ?_
  rw [a_blk, b_blk]

theorem s_first (c : Dev nD) (t : Fin cfg0.N) (h : t.val % 2 = 0) : (outsAt0 m c t.val t.isLt).2 = k0_pay1 (F := Ideal) (iblk m c 0 t) (iblk m c 1 t) := by
  rw [outsAt0_A m c t h (by omega) (by omega)]
  dsimp only
  rw [sout_A]

theorem s_next (c : Dev nD) (t : Fin cfg0.N) (h : ¬t.val % 2 = 0) :
    (outsAt0 m c t.val t.isLt).2 = addf (outsAt0 m c (t.val - 1) (Nat.lt_of_le_of_lt (Nat.sub_le _ _) t.isLt)).2 (k0_pay1 (F := Ideal) (iblk m c 0 t) (iblk m c 1 t)) := by
  rw [outsAt0_B m c t h (by omega) (by omega)]
  dsimp only
  rw [sout_B]

theorem o_last (c : Dev nD) (t : Fin cfg0.N) (h : t.val % 2 = 1) : (outsAt0 m c t.val t.isLt).1 = (outsAt0 m c t.val t.isLt).2 := by
  rw [s_next m c t (by omega), outsAt0_B m c t (by omega) (by omega) (by omega)]
  dsimp only
  rw [out_B]

/-- What the scratch holds after point `n`: the product over the blocks so far. -/
theorem s_at (c : Dev nD) (r : Fin 1024) (s : Fin 1024) : ∀ (n : ℕ) (h : n < cfg0.N),
    (outsAt0 m c n h).2 (ix2 r s) = dotR (A m c) (B m c) (1408 * (n % 2 + 1)) (n / 2 * 1024 + r.val) (s.val) := by
  intro n
  induction n with
  | zero =>
    intro h
    rw [s_first m c ⟨0, h⟩ rfl, pay_blk, dotR_block]
    exact (zero_add _).symm
  | succ n ih =>
    intro h
    have hN : n + 1 < 8 := h.trans_eq N_0
    by_cases h0 : (n + 1) % 2 = 0
    · rw [s_first m c ⟨n + 1, h⟩ h0, pay_blk, dotR_block, h0]
      exact (zero_add _).symm
    · rw [s_next m c ⟨n + 1, h⟩ h0, dotR_block]
      refine congrArg₂ (fun x y : EReal => x + y) ?_ (pay_blk m c ⟨n + 1, h⟩ r s)
      refine (ih (Nat.lt_of_succ_lt h)).trans ?_
      rw [show (n + 1) / 2 = n / 2 by omega, show (n + 1) % 2 = n % 2 + 1 by omega]

theorem ixo : ∀ t : Fin cfg0.N, win0_2.index t = ![t.val / 2, 0] := (by decide +kernel : ∀ t : Fin grid0.N, _)
theorem last : ∀ t : Fin cfg0.N, (cfg0.win 2).flush t = true → t.val % 2 = 1 := (by decide +kernel : ∀ t : Fin grid0.N, win0_2.flush t = true → t.val % 2 = 1)

theorem arr (c : Dev nD) : (dats m 0 c).arrAt 2 cfg0.N = fun z : S4096x1024.Idx => dotR (A m c) (B m c) 2816 (z 0).val (z 1).val := by
  refine (dats m 0 c).arrAt_eq_of_covers 2 _ (by decide +kernel) fun t hf y => ?_
  have ht := t.isLt.trans_eq N_0
  have h3 := last t hf
  blk_simp [ixo]
  rw [after0_2]
  obtain ⟨r, s, rfl⟩ := exists_ix2 y
  rw [o_last m c t h3, s_at, h3]
  rfl

/-- The reference's product, element by element. -/
theorem ref_at (a : Vec Ideal S4096x2816 .bf16) (b : Vec Ideal S1024x5632 .bf16) :
    Host.dotGeneral (F := Ideal) (φ₁ := .f32) (φ₂ := .f32) Reference4Ideal.dot_S4096x2816_S1024x2816_S4096x1024_1_1_0_0_n_n none (extf .f32 a Reference4Ideal.Gen.bitsLt_bf16_f32)
        (extractStridedSlice Reference4Ideal.S1024x2816 ![0, 0] (extf .f32 b Reference4Ideal.Gen.bitsLt_bf16_f32) Reference4Ideal.Gen.slices_S1024x5632_S1024x2816_0_0)
      = fun z : S4096x1024.Idx => dotR (mat (a := 4096) (b := 2816) a) (mat (a := 1024) (b := 5632) b) 2816 (z 0).val (z 1).val := by
  funext z
  obtain ⟨r, s, rfl⟩ := exists_ix2 z
  have h : Host.dotGeneral (F := Ideal) (φ₁ := .f32) (φ₂ := .f32) Reference4Ideal.dot_S4096x2816_S1024x2816_S4096x1024_1_1_0_0_n_n none (extf .f32 a Reference4Ideal.Gen.bitsLt_bf16_f32)
        (extractStridedSlice Reference4Ideal.S1024x2816 ![0, 0] (extf .f32 b Reference4Ideal.Gen.bitsLt_bf16_f32) Reference4Ideal.Gen.slices_S1024x5632_S1024x2816_0_0) (ix2 r s)
      = ∑ k : Fin 2816, a (ix2 r k) * b (ix2 s ⟨k.val, by omega⟩) := by pointwise []
  rw [h, dotR_fin]
  refine Finset.sum_congr rfl fun k _ => ?_
  rw [← mat_val a r k, ← mat_val b s ⟨k.val, by omega⟩]
  rfl

end Cert.Kernel4Ideal.Prod

namespace Cert.Proof

open Idealize.ShloMosaic Idealize.ShloMosaic.TcCoe
open Idealize.SL.Sem

theorem frame_Kernel4Ideal : quiescent_Kernel4Ideal := fun m ρ _ => Kernel4Ideal.Gen.frame m ρ

theorem frame_Kernel4 : quiescent_Kernel4 := Ffn.transfer (Kernel4Ideal.Gen.frame (F := Bits)) (by sl_kernel_rfl)

theorem frame_Reference4Ideal : quiescent_Reference4Ideal := fun m ρ _ =>
  (θ_run Reference4Ideal.defs _ _).mono (fun r h => ⟨fun c => (h c).2, sem_eq_zero_of_no_sems (by decide) r.2⟩)
    (Reference4Ideal.Value.run (F := Ideal) m ρ)

theorem algebraic4 : algebraic_Kernel4Ideal_Reference4Ideal := by
  intro m g m' g' _ hm
  refine ⟨fun c => (Kernel4Ideal.Gen.dats m 0 c).arrAt 2 Kernel4Ideal.cfg0.N, Kernel4Ideal.Value.run_blocks m g, ?_⟩
  refine (θ_run Reference4Ideal.defs _ _).mono (fun r h c => ⟨(h c).1.trans ?_, (h c).2⟩) (Reference4Ideal.Value.run (F := Ideal) m' g')
  rw [(hm c).1, (hm c).2]
  exact (Kernel4Ideal.Prod.ref_at _ _).trans (Kernel4Ideal.Prod.arr m c).symm

end Cert.Proof

end
-- ==== Proof.Accumulate.lean ====
/-
  UNTRUSTED — a product that a buffer accumulates over the grid's last axis, block of the contracted index by block.
-/
module

public import proofs.«01_k».proof.Proof.Mat

@[expose] public section

noncomputable section

namespace Cert.Ffn

open scoped BigOperators

/-- An element of the buffer after point `n`: overwritten at the first of every `q` points and added to at the others, it is the
    product over the blocks so far. -/
theorem acc_at {N : ℕ} (w q : ℕ) (A B : ℕ → ℕ → EReal) (i j : ℕ → ℕ) (S : (n : ℕ) → n < N → EReal)
    (first : ∀ (n : ℕ) (h : n < N), n % q = 0 → S n h = ∑ k : Fin w, A (i (n / q)) (w * (n % q) + k.val) * B (j (n / q)) (w * (n % q) + k.val))
    (next : ∀ (n : ℕ) (h : n < N), ¬n % q = 0 → S n h = S (n - 1) (Nat.lt_of_le_of_lt (Nat.sub_le _ _) h)
      + ∑ k : Fin w, A (i (n / q)) (w * (n % q) + k.val) * B (j (n / q)) (w * (n % q) + k.val))
    (n : ℕ) (h : n < N) : S n h = dotR A B (w * (n % q + 1)) (i (n / q)) (j (n / q)) := by
  induction n with
  | zero =>
    rw [first 0 h (Nat.zero_mod q), Nat.zero_mod, Nat.zero_add, Nat.mul_one, dotR_fin]
    simp only [Nat.mul_zero, Nat.zero_add]
  | succ n ih =>
    by_cases h0 : (n + 1) % q = 0
    · rw [first (n + 1) h h0, h0, Nat.zero_add, Nat.mul_one, dotR_fin]
      simp only [Nat.mul_zero, Nat.zero_add]
    · rw [next (n + 1) h h0, dotR_block]
      refine congrArg (fun x : EReal => x + _) ((ih (Nat.lt_of_succ_lt h)).trans ?_)
      have hd : (n + 1) / q = n / q := by
        rw [Nat.succ_div, if_neg (fun hd => h0 (Nat.mod_eq_zero_of_dvd hd)), Nat.add_zero]
      have hm : (n + 1) % q = n % q + 1 := by
        have h1 := Nat.div_add_mod n q
        have h2 := Nat.div_add_mod (n + 1) q
        rw [hd] at h2
        omega
      rw [hd, hm]

end Cert.Ffn

end
-- ==== Proof.DwUpV.lean ====
/-
  UNTRUSTED — the call ffn_dwup_v: hn transposed times dval, accumulated in scratch over four blocks of rows and written into four of the buffer's eight shards.
-/
module

public import proofs.«01_k».proof.Proof.Mat
public import proofs.«01_k».proof.Proof.Gen.Kernel6
public import proofs.«01_k».proof.Proof.Gen.Kernel6Ideal.Value
public import proofs.«01_k».proof.Proof.Gen.Reference6Ideal.Run

@[expose] public section

set_option maxRecDepth 16384

noncomputable section

namespace Cert.Kernel6Ideal.Prod

open Kernel6Ideal Kernel6Ideal.Gen Ffn
open Idealize.ShloMosaic Idealize.ShloMosaic.TcCoe
open Idealize.ShloMosaic.Pipeline (Dat)

theorem pay_at (a : Vec Ideal S1024x1024 .bf16) (b : Vec Ideal S1024x1408 .bf16) (r : Fin 1024) (s : Fin 1408) :
    k0_pay1 (F := Ideal) a b (ix2 r s) = ∑ k : Fin 1024, a (ix2 k r) * b (ix2 k s) := by
  pointwise [k0_pay1]

section Cases
variable {F : FTy → Type} [FloatOps F]

theorem sout_A (c : Dev nD) (i a3 h3 a4 h4 a5 h5 a6 h6 hc0 hc1 hc2) (x : Vec F S1024x1024 .bf16) (y : Vec F S1024x1408 .bf16) :
    sout0_A_0 c i a3 h3 a4 h4 a5 h5 a6 h6 hc0 hc1 hc2 x y = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, ld0, shapeCast_self]

theorem sout_B (c : Dev nD) (i a3 h3 a4 h4 a5 h5 a6 h6 hc0 hc1 hc2) (x : Vec F S1024x1024 .bf16) (y : Vec F S1024x1408 .bf16) (z : Vec F S1024x1408 .f32) :
    sout0_B_0 c i a3 h3 a4 h4 a5 h5 a6 h6 hc0 hc1 hc2 x y z = addf z (k0_pay1 x y) := by
  unfold sout0_B_0
  rw [View.read_writes_eq_canon]; on_goal 2 => apply scover0_B_0
  unfold kernelRun0_B
  dsimp only
  sl_unfold_words
  rw [View.canon_unit_zero zero2]
  unfold k0_pay3
  simp only [View.readAt_eq_ld, h3.read_unread, h4.read_unread, h6.read_unread, ld0,
    View.ld_unit_zero (S := S1024x1408) zero2, shapeCast_self]

theorem sout_C (c : Dev nD) (i a3 h3 a4 h4 a5 h5 a6 h6 hc0 hc1 hc2) (x : Vec F S1024x1024 .bf16) (y : Vec F S1024x1408 .bf16) (z : Vec F S1024x1408 .f32) :
    sout0_C_0 c i a3 h3 a4 h4 a5 h5 a6 h6 hc0 hc1 hc2 x y z = addf z (k0_pay1 x y) := by
  unfold sout0_C_0
  rw [View.read_writes_eq_canon]; on_goal 2 => apply scover0_C_0
  unfold kernelRun0_C
  dsimp only
  sl_unfold_words
  rw [View.canon_unit_zero zero2]
  unfold k0_pay3
  simp only [View.readAt_eq_ld, h3.read_unread, h4.read_unread, h6.read_unread, ld0,
    View.ld_unit_zero (S := S1024x1408) zero2, shapeCast_self]

theorem pay4_at (z : Vec F S1024x1408 .f32) (r : Fin 1024) (s : Fin 704) : k0_pay4 z (ix3 (0 : Fin 1) r s) = z (ix2 r ⟨s.val, by omega⟩) := by
  pointwise [k0_pay4]
theorem pay5_at (z : Vec F S1024x1408 .f32) (r : Fin 1024) (s : Fin 704) : k0_pay5 z (ix3 (0 : Fin 1) r s) = z (ix2 r ⟨704 + s.val, by omega⟩) := by
  pointwise [k0_pay5]

/-- Two stored planes read back. -/
theorem planes (P Q : S1x1024x704.Idx → Elt F .f32) (d : Fin 2) (r : Fin 1024) (s : Fin 704) :
    View.canon (Val := Elt F) (s := S2x1024x704) (e := .f32) [⟨Rect.unit ![1, 0, 0] ![1, 1024, 704] inb_S2x1024x704_S1x1024x704_1_0_0, P⟩,
      ⟨Rect.unit ![0, 0, 0] ![1, 1024, 704] inb_S2x1024x704_S1x1024x704_0_0_0, Q⟩] (ix3 d r s) = if d.val = 1 then P (ix3 (0 : Fin 1) r s) else Q (ix3 (0 : Fin 1) r s) := by
  have e1 : ix3 (1 : Fin 2) r s = (Rect.unit (s := S2x1024x704) ![1, 0, 0] ![1, 1024, 704] inb_S2x1024x704_S1x1024x704_1_0_0).emb (ix3 (0 : Fin 1) r s) := by
    blk_ext []
  have e0 : ix3 (0 : Fin 2) r s = (Rect.unit (s := S2x1024x704) ![0, 0, 0] ![1, 1024, 704] inb_S2x1024x704_S1x1024x704_0_0_0).emb (ix3 (0 : Fin 1) r s) := by
    blk_ext []
  obtain rfl | rfl : d = 0 ∨ d = 1 := by omega
  · rw [View.canon_cons_of_not_mem, e0, View.canon_cons_emb]
    · rfl
    · rw [Rect.mem_set_unit]
      intro h
      exact absurd (h 0).1 (show ¬(1 ≤ 0) by decide)
  · rw [e1, View.canon_cons_emb]
    rfl

theorem out_C (c : Dev nD) (i a3 h3 a4 h4 a5 h5 a6 h6 hc0 hc1 hc2) (x : Vec F S1024x1024 .bf16) (y : Vec F S1024x1408 .bf16) (z : Vec F S1024x1408 .f32) (d : Fin 2) (r : Fin 1024) (s : Fin 704) :
    out0_C_2 c i a3 h3 a4 h4 a5 h5 a6 h6 hc0 hc1 hc2 x y z (ix3 d r s) = addf z (k0_pay1 x y) (ix2 r ⟨704 * d.val + s.val, by omega⟩) := by
  unfold out0_C_2
  rw [View.read_writes_eq_canon]; on_goal 2 => apply cover0_C_2
  unfold kernelRun0_C
  dsimp only
  sl_unfold_words
  rw [View.readCov_unit_zero (S := S1024x1408) _ zero2]
  refine (planes _ _ d r s).trans ?_
  rw [pay4_at, pay5_at]
  unfold k0_pay3
  simp only [View.readAt_eq_ld, h3.read_unread, h4.read_unread, h6.read_unread, ld0, shapeCast_self]
  obtain rfl | rfl : d = 0 ∨ d = 1 := by omega
  · exact (if_neg (by decide)).trans (congrArg (addf z (k0_pay1 x y)) (congrArg (ix2 r) (Fin.ext (by simp))))
  · exact (if_pos rfl).trans (congrArg (addf z (k0_pay1 x y)) (congrArg (ix2 r) (Fin.ext (by simp))))

end Cases

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 4096) (b := 2816) (m ((c : Thread nD τ).loc main_arg1))

theorem ix0 : ∀ t : Fin cfg0.N, win0_0.index t = ![t.val % 4, 0] := (by decide +kernel : ∀ t : Fin grid0.N, _)
theorem ix1 : ∀ t : Fin cfg0.N, win0_1.index t = ![t.val % 4, t.val / 4] := (by decide +kernel : ∀ t : Fin grid0.N, _)

theorem a_blk (c : Dev nD) (t : Fin cfg0.N) (r : Fin 1024) (k : Fin 1024) : iblk m c 0 t (ix2 k r) = A m c (1024 * (t.val % 4) + k.val) (r.val) := by
  have ht := t.isLt.trans_eq N_0
  unfold A mat
  blk_simp [iblk]
  refine congrArg (m _) ?_
  blk_ext [ix0]
theorem b_blk (c : Dev nD) (t : Fin cfg0.N) (s : Fin 1408) (k : Fin 1024) : iblk m c 1 t (ix2 k s) = B m c (1024 * (t.val % 4) + k.val) (t.val / 4 * 1408 + s.val) := by
  have ht := t.isLt.trans_eq N_0
  unfold B mat
  blk_simp [iblk]
  refine congrArg (m _) ?_
  blk_ext [ix1]

/-- The product of the blocks at point `t`. -/
theorem pay_blk (c : Dev nD) (t : Fin cfg0.N) (r : Fin 1024) (s : Fin 1408) :
    k0_pay1 (F := Ideal) (iblk m c 0 t) (iblk m c 1 t) (ix2 r s) = ∑ k : Fin 1024, A m c (1024 * (t.val % 4) + k.val) (r.val) * B m c (1024 * (t.val % 4) + k.val) (t.val / 4 * 1408 + s.val) := by
  rw [pay_at]
  refine Finset.sum_congr (M := EReal) rfl fun k _ => ?_
  rw [a_blk, b_blk]

theorem s_first (c : Dev nD) (t : Fin cfg0.N) (h : t.val % 4 = 0) : (outsAt0 m c t.val t.isLt).2 = k0_pay1 (F := Ideal) (iblk m c 0 t) (iblk m c 1 t) := by
  rw [outsAt0_A m c t h (by omega) (by omega)]
  dsimp only
  rw [sout_A]

theorem s_next (c : Dev nD) (t : Fin cfg0.N) (h : ¬t.val % 4 = 0) :
    (outsAt0 m c t.val t.isLt).2 = addf (outsAt0 m c (t.val - 1) (Nat.lt_of_le_of_lt (Nat.sub_le _ _) t.isLt)).2 (k0_pay1 (F := Ideal) (iblk m c 0 t) (iblk m c 1 t)) := by
  by_cases h3 : t.val % 4 = 3
  · rw [outsAt0_C m c t h (by omega) h3]
    dsimp only
    rw [sout_C]
  · rw [outsAt0_B m c t h (by omega) h3]
    dsimp only
    rw [sout_B]

/-- What the scratch holds after point `n`: the product over the blocks so far. -/
theorem s_at (c : Dev nD) (r : Fin 1024) (s : Fin 1408) : ∀ (n : ℕ) (h : n < cfg0.N),
    (outsAt0 m c n h).2 (ix2 r s) = dotC (A m c) (B m c) (1024 * (n % 4 + 1)) (r.val) (n / 4 * 1408 + s.val) := by
  intro n
  induction n with
  | zero =>
    intro h
    rw [s_first m c ⟨0, h⟩ rfl, pay_blk, dotC, dotR_block]
    exact (zero_add _).symm
  | succ n ih =>
    intro h
    have hN : n + 1 < 8 := h.trans_eq N_0
    by_cases h0 : (n + 1) % 4 = 0
    · rw [s_first m c ⟨n + 1, h⟩ h0, pay_blk, dotC, dotR_block, h0]
      exact (zero_add _).symm
    · rw [s_next m c ⟨n + 1, h⟩ h0, dotC, dotR_block]
      refine congrArg₂ (fun x y : EReal => x + y) ?_ (pay_blk m c ⟨n + 1, h⟩ r s)
      refine (ih (Nat.lt_of_succ_lt h)).trans ?_
      rw [show (n + 1) / 4 = n / 4 by omega, show (n + 1) % 4 = n % 4 + 1 by omega]

theorem o_last (c : Dev nD) (t : Fin cfg0.N) (h : t.val % 4 = 3) (d : Fin 2) (r : Fin 1024) (s : Fin 704) :
    (outsAt0 m c t.val t.isLt).1 (ix3 d r s) = (outsAt0 m c t.val t.isLt).2 (ix2 r ⟨704 * d.val + s.val, by omega⟩) := by
  rw [s_next m c t (by omega), outsAt0_C m c t (by omega) (by omega) h]
  dsimp only
  rw [out_C]

theorem ixo : ∀ t : Fin cfg0.N, win0_2.index t = ![t.val / 4 + 2, 0, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

/-- The new contents: the shards below four as they were, the others the product's blocks of columns. -/
def whole (a : S4096x1024.Idx → EReal) (b : S4096x2816.Idx → EReal) (w : S8x1024x704.Idx → EReal) (z : S8x1024x704.Idx) : EReal :=
  if 4 ≤ (z 0).val then dotC (mat (a := 4096) (b := 1024) a) (mat (a := 4096) (b := 2816) b) 4096 (z 1).val (704 * ((z 0).val - 4) + (z 2).val) else w z

theorem arr (c : Dev nD) : (dats m 0 c).arrAt 2 cfg0.N = whole (m ((c : Thread nD τ).loc main_arg0)) (m ((c : Thread nD τ).loc main_arg1)) (m ((c : Thread nD τ).loc main_arg2)) := by
  refine ((dats m 0 c).arrAt_eq_of_coversWhere 2 (fun z : S8x1024x704.Idx => dotC (A m c) (B m c) 4096 (z 1).val (704 * ((z 0).val - 4) + (z 2).val))
    (P := fun z : S8x1024x704.Idx => 4 ≤ (z 0).val) (fun β => 2 ≤ β (0 : Fin 3)) (by decide +kernel) (fun t hf y => ?_) (fun j => by blk_simp [Pipeline.Window.cell_apply]; omega)).trans ?_
  · have ht := t.isLt.trans_eq N_0
    have h3 := last t hf
    blk_simp [ixo]
    rw [after0_2]
    obtain ⟨d, r, s, rfl⟩ := exists_ix3 y
    rw [o_last m c t h3, s_at, h3]
    refine congrArg₂ (dotC (A m c) (B m c) 4096) ?_ ?_
    · show _ = _
      simp
    · show _ = 704 * ((t.val / 4 + 2) * 2 + d.val - 4) + s.val
      simp only []
      omega
  · funext z
    unfold whole
    rfl

open Reference6Ideal Reference6Ideal.Gen in
/-- The reference's result as its operations compute it. -/
def refTerm (a : Vec Ideal S4096x1024 .bf16) (b : Vec Ideal S4096x2816 .bf16) (w : Vec Ideal S8x1024x704 .f32) : Vec Ideal S8x1024x704 .f32 :=
  concatenate S8x1024x704 0 [⟨S4x1024x704, (extractStridedSlice S4x1024x704 ![0, 0, 0] w slices_S8x1024x704_S4x1024x704_0_0_0)⟩, ⟨S4x1024x704, (transpose S4x1024x704 [1, 0, 2] (shapeCast _ (transpose S1024x2816 [1, 0] (Host.dotGeneral (F := Ideal) (φ₁ := .f32) (φ₂ := .f32) dot_S4096x2816_S4096x1024_S2816x1024_0_0_1_1_n_n none (extf .f32 b bitsLt_bf16_f32) (extf .f32 a bitsLt_bf16_f32)) transposes_S2816x1024_S1024x2816_1_0) shapeCasts_S1024x2816_S1024x4x704) transposes_S1024x4x704_S4x1024x704_1_0_2)⟩] concatenates_S4x1024x704_S4x1024x704_S8x1024x704_d0

theorem ref_at (a : Vec Ideal S4096x1024 .bf16) (b : Vec Ideal S4096x2816 .bf16) (w : Vec Ideal S8x1024x704 .f32) :
    refTerm a b w = whole a b w := by
  funext z
  obtain ⟨d, r, s, rfl⟩ := exists_ix3 z
  have hi : ∀ (e : Fin 4), refTerm a b w (ix3 ⟨4 + e.val, by omega⟩ r s) = ∑ k : Fin 4096, b (ix2 k ⟨e.val * 704 + s.val, by omega⟩) * a (ix2 k r) := fun e => by
    pointwise [refTerm]
  have lo : ∀ (e : Fin 4), refTerm a b w (ix3 ⟨e.val, by omega⟩ r s) = w (ix3 ⟨e.val, by omega⟩ r s) := fun e => by
    pointwise [refTerm]
  unfold whole
  by_cases h : 4 ≤ d.val
  · refine Eq.trans (congrArg (refTerm a b w) (congrArg (fun q => ix3 q r s) (Fin.ext (show d.val = 4 + (d.val - 4) by omega)))) ((hi ⟨d.val - 4, by omega⟩).trans (Eq.trans ?_ (if_pos h).symm))
    rw [dotC, dotR_fin]
    refine Finset.sum_congr rfl fun k _ => ?_
    rw [← mat_val a k r, ← mat_val b k ⟨(d.val - 4) * 704 + s.val, by omega⟩, mul_comm]
    refine congrArg (fun j => mat (a := 4096) (b := 1024) a k.val r.val * mat (a := 4096) (b := 2816) b k.val j) ?_
    show (d.val - 4) * 704 + s.val = 704 * (d.val - 4) + s.val
    omega
  · exact (lo ⟨d.val, by omega⟩).trans (if_neg h).symm

end Cert.Kernel6Ideal.Prod

namespace Cert.Proof

open Idealize.ShloMosaic Idealize.ShloMosaic.TcCoe
open Idealize.SL.Sem

theorem frame_Kernel6Ideal : quiescent_Kernel6Ideal := fun m ρ _ => Kernel6Ideal.Gen.frame m ρ

theorem frame_Kernel6 : quiescent_Kernel6 := Ffn.transfer (Kernel6Ideal.Gen.frame (F := Bits)) (by sl_kernel_rfl)

theorem frame_Reference6Ideal : quiescent_Reference6Ideal := fun m ρ _ =>
  (θ_run Reference6Ideal.defs _ _).mono (fun r h => ⟨fun c => (h c).2, sem_eq_zero_of_no_sems (by decide) r.2⟩)
    (Reference6Ideal.Value.run (F := Ideal) m ρ)

theorem algebraic6 : algebraic_Kernel6Ideal_Reference6Ideal := by
  intro m g m' g' _ hm
  refine ⟨fun c => (Kernel6Ideal.Gen.dats m 0 c).arrAt 2 Kernel6Ideal.cfg0.N, Kernel6Ideal.Value.run_blocks m g, ?_⟩
  refine (θ_run Reference6Ideal.defs _ _).mono (fun r h c => ⟨(h c).1.trans ?_, (h c).2⟩) (Reference6Ideal.Value.run (F := Ideal) m' g')
  rw [(hm c).1, (hm c).2.1, (hm c).2.2]
  exact (Kernel6Ideal.Prod.ref_at _ _ _).trans (Kernel6Ideal.Prod.arr m c).symm

end Cert.Proof

end
-- ==== Proof.DwUpG.lean ====
/-
  UNTRUSTED — the call ffn_dwup_g: hn transposed times dgate, accumulated in scratch over four blocks of rows, and the four blocks of columns it writes.
-/
module

public import proofs.«01_k».proof.Proof.Accumulate
public import proofs.«01_k».proof.Proof.DwUpV
public import proofs.«01_k».proof.Proof.Gen.Kernel5
public import proofs.«01_k».proof.Proof.Gen.Kernel5Ideal
public import proofs.«01_k».proof.Proof.Gen.Kernel5Ideal.Frame
public import proofs.«01_k».proof.Proof.Gen.Reference5Ideal.Run

@[expose] public section

set_option maxRecDepth 16384

noncomputable section

open Idealize.ShloMosaic Idealize.ShloMosaic.TcCoe Idealize.SL.Sem

namespace Cert.Kernel5Ideal.Prod

open Kernel5Ideal Kernel5Ideal.Gen Ffn

theorem pay_at (a : Vec Ideal S1024x1024 .bf16) (b : Vec Ideal S1024x1408 .bf16) (r : Fin 1024) (s : Fin 1408) :
    k0_pay1 (F := Ideal) a b (ix2 r s) = ∑ k : Fin 1024, a (ix2 k r) * b (ix2 k s) := by
  pointwise [k0_pay1]

section Cases
variable {F : FTy → Type} [FloatOps F]

theorem sout_A (c : Dev nD) (i a3 h3 a4 h4 a5 h5 a6 h6 hc0 hc1 hc2) (x : Vec F S1024x1024 .bf16) (y : Vec F S1024x1408 .bf16) :
    sout0_A_0 c i a3 h3 a4 h4 a5 h5 a6 h6 hc0 hc1 hc2 x y = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, h6.read_unread, ld0, shapeCast_self]
theorem sout_B (c : Dev nD) (i a3 h3 a4 h4 a5 h5 a6 h6 hc0 hc1 hc2) (x : Vec F S1024x1024 .bf16) (y : Vec F S1024x1408 .bf16) (z : Vec F S1024x1408 .f32) :
    sout0_B_0 c i a3 h3 a4 h4 a5 h5 a6 h6 hc0 hc1 hc2 x y z = addf z (k0_pay1 x y) := by
  unfold sout0_B_0
  rw [View.read_writes_eq_canon]; on_goal 2 => apply scover0_B_0
  unfold kernelRun0_B
  dsimp only
  sl_unfold_words
  rw [View.canon_unit_zero zero2]
  unfold k0_pay3
  simp only [View.readAt_eq_ld, h3.read_unread, h4.read_unread, h6.read_unread, ld0, shapeCast_self]
theorem sout_C (c : Dev nD) (i a3 h3 a4 h4 a5 h5 a6 h6 hc0 hc1 hc2) (x : Vec F S1024x1024 .bf16) (y : Vec F S1024x1408 .bf16) (z : Vec F S1024x1408 .f32) :
    sout0_C_0 c i a3 h3 a4 h4 a5 h5 a6 h6 hc0 hc1 hc2 x y z = addf z (k0_pay1 x y) := by
  unfold sout0_C_0
  rw [View.read_writes_eq_canon]; on_goal 2 => apply scover0_C_0
  unfold kernelRun0_C
  dsimp only
  sl_unfold_words
  rw [View.canon_unit_zero zero2]
  unfold k0_pay3
  simp only [View.readAt_eq_ld, h3.read_unread, h4.read_unread, h6.read_unread, ld0, shapeCast_self]

theorem pay4_at (z : Vec F S1024x1408 .f32) (r : Fin 1024) (s : Fin 704) : k0_pay4 z (ix3 (0 : Fin 1) r s) = z (ix2 r ⟨s.val, by omega⟩) := by
  pointwise [k0_pay4]
theorem pay5_at (z : Vec F S1024x1408 .f32) (r : Fin 1024) (s : Fin 704) : k0_pay5 z (ix3 (0 : Fin 1) r s) = z (ix2 r ⟨704 + s.val, by omega⟩) := by
  pointwise [k0_pay5]

theorem out_C (c : Dev nD) (i a3 h3 a4 h4 a5 h5 a6 h6 hc0 hc1 hc2) (x : Vec F S1024x1024 .bf16) (y : Vec F S1024x1408 .bf16) (z : Vec F S1024x1408 .f32) (d : Fin 2) (r : Fin 1024) (s : Fin 704) :
    out0_C_2 c i a3 h3 a4 h4 a5 h5 a6 h6 hc0 hc1 hc2 x y z (ix3 d r s) = addf z (k0_pay1 x y) (ix2 r ⟨704 * d.val + s.val, by omega⟩) := by
  unfold out0_C_2
  rw [View.read_writes_eq_canon]; on_goal 2 => apply cover0_C_2
  unfold kernelRun0_C
  dsimp only
  sl_unfold_words
  rw [View.readCov_unit_zero (S := S1024x1408) _ zero2]
  refine (Kernel6Ideal.Prod.planes _ _ d r s).trans ?_
  rw [pay4_at, pay5_at]
  unfold k0_pay3
  simp only [View.readAt_eq_ld, h3.read_unread, h4.read_unread, h6.read_unread, ld0, shapeCast_self]
  obtain rfl | rfl : d = 0 ∨ d = 1 := by omega
  · exact (if_neg (by decide)).trans (congrArg (addf z (k0_pay1 x y)) (congrArg (ix2 r) (Fin.ext (by simp))))
  · exact (if_pos rfl).trans (congrArg (addf z (k0_pay1 x y)) (congrArg (ix2 r) (Fin.ext (by simp))))

end Cases

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 4096) (b := 2816) (m ((c : Thread nD τ).loc main_arg1))
theorem at0 : ∀ t : Fin cfg0.N, win0_0.index t = ![t.val % 4, 0] := (by decide +kernel : ∀ t : Fin grid0.N, _)
theorem a_blk (c : Dev nD) (t : Fin cfg0.N) (r : Fin 1024) (k : Fin 1024) : iblk m c 0 t (ix2 k r) = A m c (1024 * (t.val % 4) + k.val) (r.val) := by
  have ht := t.isLt.trans_eq N_0
  unfold A mat
  blk_simp [iblk]
  refine congrArg (m _) ?_
  blk_ext [at0]
theorem at1 : ∀ t : Fin cfg0.N, win0_1.index t = ![t.val % 4, t.val / 4] := (by decide +kernel : ∀ t : Fin grid0.N, _)
theorem b_blk (c : Dev nD) (t : Fin cfg0.N) (s : Fin 1408) (k : Fin 1024) : iblk m c 1 t (ix2 k s) = B m c (1024 * (t.val % 4) + k.val) (t.val / 4 * 1408 + s.val) := by
  have ht := t.isLt.trans_eq N_0
  unfold B mat
  blk_simp [iblk]
  refine congrArg (m _) ?_
  blk_ext [at1]

/-- The product of the blocks at point `t`. -/
theorem pay_blk (c : Dev nD) (t : Fin cfg0.N) (r : Fin 1024) (s : Fin 1408) :
    k0_pay1 (F := Ideal) (iblk m c 0 t) (iblk m c 1 t) (ix2 r s) = ∑ k : Fin 1024, A m c (1024 * (t.val % 4) + k.val) r.val * B m c (1024 * (t.val % 4) + k.val) (t.val / 4 * 1408 + s.val) := by
  rw [pay_at]
  refine Finset.sum_congr (M := EReal) rfl fun k _ => ?_
  rw [a_blk, b_blk]

/-- What the scratch holds after point `n`: the product over the blocks so far. -/
theorem s_at (c : Dev nD) (r : Fin 1024) (s : Fin 1408) (n : ℕ) (h : n < cfg0.N) :
    (outsAt0 m c n h).2 (ix2 r s) = dotR (fun i k => A m c k i) (fun i k => B m c k i) (1024 * (n % 4 + 1)) r.val (n / 4 * 1408 + s.val) := by
  refine acc_at 1024 4 _ _ (fun _ => r.val) (fun q => q * 1408 + s.val) (fun n h => (outsAt0 m c n h).2 (ix2 r s)) (fun n h h0 => ?_) (fun n h h0 => ?_) n h
  · have hN := h.trans_eq N_0
    refine Eq.trans ?_ (pay_blk m c ⟨n, h⟩ r s)
    rw [outsAt0_A m c ⟨n, h⟩ h0 (by dsimp only; omega) (by dsimp only; omega)]
    dsimp only
    rw [sout_A]
  · refine Eq.trans ?_ (congrArg (fun x : EReal => _ + x) (pay_blk m c ⟨n, h⟩ r s))
    by_cases h3 : n % 4 = 3
    · rw [outsAt0_C m c ⟨n, h⟩ h0 (by dsimp only; omega) h3]
      dsimp only
      rw [sout_C]
      rfl
    · rw [outsAt0_B m c ⟨n, h⟩ h0 (by dsimp only; omega) h3]
      dsimp only
      rw [sout_B]
      rfl

theorem o_last (c : Dev nD) (t : Fin cfg0.N) (h : t.val % 4 = 3) (d : Fin 2) (r : Fin 1024) (s : Fin 704) :
    (outsAt0 m c t.val t.isLt).1 (ix3 d r s) = (outsAt0 m c t.val t.isLt).2 (ix2 r ⟨704 * d.val + s.val, by omega⟩) := by
  rw [outsAt0_C m c t (by omega) (by omega) h]
  dsimp only
  rw [out_C, sout_C]

theorem ixo : ∀ t : Fin cfg0.N, win0_2.index t = ![t.val / 4, 0, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

/-- The first four blocks of the array that the call writes. -/
theorem arr (c : Dev nD) (d : Fin 8) (hd : d.val < 4) (r : Fin 1024) (s : Fin 704) :
    (dats m 0 c).arrAt 2 cfg0.N (ix3 d r s) = dotR (fun i k => A m c k i) (fun i k => B m c k i) 4096 r.val (704 * d.val + s.val) := by
  refine (congrFun ((dats m 0 c).arrAt_eq_of_coversWhere 2 (fun z : S8x1024x704.Idx => dotR (fun i k => A m c k i) (fun i k => B m c k i) 4096 (z 1).val (704 * (z 0).val + (z 2).val))
    (P := fun z : S8x1024x704.Idx => (z 0).val < 4) (fun β => β (0 : Fin 3) < 2) (by decide +kernel) (fun t hf y => ?_) (fun j => by blk_simp [Pipeline.Window.cell_apply]; omega)) (ix3 d r s)).trans (if_pos hd)
  have ht := t.isLt.trans_eq N_0
  have h3 := last t hf
  blk_simp [ixo]
  rw [after0_2]
  obtain ⟨d, r, s, rfl⟩ := exists_ix3 y
  rw [o_last m c t h3, s_at, h3]
  refine congrArg₂ (dotR (fun i k => A m c k i) (fun i k => B m c k i) 4096) ?_ ?_
  · show _ = _
    simp
  · show _ = 704 * (t.val / 4 * 2 + d.val) + s.val
    simp only []
    omega

theorem slice_at (x : Vec Ideal S8x1024x704 .f32) (d : Fin 4) (r : Fin 1024) (s : Fin 704) :
    extractStridedSlice S4x1024x704 ![0, 0, 0] x slices_S8x1024x704_S4x1024x704_0_0_0 (ix3 d r s) = x (ix3 (⟨d.val, by omega⟩ : Fin 8) r s) := by
  pointwise []

section Run
variable {F : FTy → Type} [FloatOps F] (m : (ℓ : Loc nD τ sig) → Buf (Elt F) ℓ) (ρ : Dev nD → PrngReg)

/-- The slice that @main returns, of the array as the call leaves it. -/
theorem sliced (c : Dev nD) : Pipeline.afterTail₀ cfgs (dats m) 0 (V0 m) [hostOps1] c main_v1
    = extractStridedSlice S4x1024x704 ![0, 0, 0] ((dats m 0 c).arrAt 2 cfg0.N) slices_S8x1024x704_S4x1024x704_0_0_0 := by
  unfold Pipeline.afterTail₀
  refine Eq.trans (b := extractStridedSlice S4x1024x704 ![0, 0, 0] (Pipeline.withArrays spec0 c (V0 m c) (fun w => (dats m 0 c).arrAt w cfg0.N) (Proc.devRef .tc main_v0)) slices_S8x1024x704_S4x1024x704_0_0_0) ?_ ?_
  · show StableHlo.after hostOps1 _ _ = _
    after_results
  · exact congrArg (fun a => extractStridedSlice S4x1024x704 ![0, 0, 0] a slices_S8x1024x704_S4x1024x704_0_0_0) (Pipeline.withArrays_arr spec0 launch0.win.arr_inj c _ _ 2)

/-- The run with the result named. -/
theorem run : θ_run defs (onTc (τ := τ) (main (F := F))) ⟨m, fun _ => 0, ρ⟩ fun r => ∀ c : Dev nD,
      r.2.mem ((c : Thread nD τ).loc main_v1) = extractStridedSlice S4x1024x704 ![0, 0, 0] ((dats m 0 c).arrAt 2 cfg0.N) slices_S8x1024x704_S4x1024x704_0_0_0
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v1 (Pipeline.mem_restRefs_of main_v1 (by decide) (by decide))).trans (sliced m c), h.2 c⟩)
    (θ_run_and (run_main m ρ) (unchanged m ρ))

end Run

open Reference5Ideal Reference5Ideal.Gen in
/-- The reference's result as its operations compute it. -/
abbrev refTerm (a : Vec Ideal S4096x1024 .bf16) (b : Vec Ideal S4096x2816 .bf16) : Vec Ideal S4x1024x704 .f32 :=
  transpose S4x1024x704 [1, 0, 2] (shapeCast _ (transpose S1024x2816 [1, 0] (Host.dotGeneral (F := Ideal) (φ₁ := .f32) (φ₂ := .f32) Reference5Ideal.dot_S4096x2816_S4096x1024_S2816x1024_0_0_1_1_n_n none
    (extf .f32 b Reference5Ideal.Gen.bitsLt_bf16_f32) (extf .f32 a Reference5Ideal.Gen.bitsLt_bf16_f32)) transposes_S2816x1024_S1024x2816_1_0) shapeCasts_S1024x2816_S1024x4x704) transposes_S1024x4x704_S4x1024x704_1_0_2

theorem ref_at (a : Vec Ideal S4096x1024 .bf16) (b : Vec Ideal S4096x2816 .bf16) (d : Fin 4) (r : Fin 1024) (s : Fin 704) :
    refTerm a b (ix3 d r s) = dotR (fun i k => mat (a := 4096) (b := 1024) a k i) (fun i k => mat (a := 4096) (b := 2816) b k i) 4096 r.val (704 * d.val + s.val) := by
  have h : refTerm a b (ix3 d r s) = ∑ k : Fin 4096, b (ix2 k ⟨d.val * 704 + s.val, by omega⟩) * a (ix2 k r) := by
    pointwise [refTerm]
  rw [h, dotR_fin]
  refine Finset.sum_congr rfl fun k _ => ?_
  rw [← mat_val a k r, ← mat_val b k ⟨d.val * 704 + s.val, by omega⟩, mul_comm]
  exact congrArg (fun j => mat (a := 4096) (b := 1024) a k.val r.val * mat (a := 4096) (b := 2816) b k.val (j + s.val)) (Nat.mul_comm d.val 704)

end Cert.Kernel5Ideal.Prod

namespace Cert.Proof

open Idealize.SL.Sem

theorem frame_Kernel5Ideal : quiescent_Kernel5Ideal := fun m ρ _ => Kernel5Ideal.Gen.frame m ρ

theorem frame_Kernel5 : quiescent_Kernel5 := Ffn.transfer (Kernel5Ideal.Gen.frame (F := Bits)) (by sl_kernel_rfl)

theorem frame_Reference5Ideal : quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

theorem algebraic5 : algebraic_Kernel5Ideal_Reference5Ideal := by
  intro m g m' g' _ hm
  refine ⟨_, Kernel5Ideal.Prod.run m g, ?_⟩
  refine (θ_run Reference5Ideal.defs _ _).mono (fun r h c => ⟨(h c).1.trans ?_, (h c).2⟩) (Reference5Ideal.Value.run (F := Ideal) m' g')
  rw [(hm c).1, (hm c).2]
  funext z
  obtain ⟨d, i, j, rfl⟩ := Ffn.exists_ix3 z
  refine (Kernel5Ideal.Prod.ref_at _ _ d i j).trans ?_
  exact ((Kernel5Ideal.Prod.slice_at _ d i j).trans (Kernel5Ideal.Prod.arr m c ⟨d.val, by omega⟩ d.isLt i j)).symm

end Cert.Proof

end
-- ==== Proof.Up.lean ====
/-
  UNTRUSTED — the call ffn_up: every block of rows of hn against every block of columns of w_up, each block one product.
-/
module

public import proofs.«01_k».proof.Proof.Mat
public import proofs.«01_k».proof.Proof.Gen.Kernel7
public import proofs.«01_k».proof.Proof.Gen.Kernel7Ideal.Value
public import proofs.«01_k».proof.Proof.Gen.Reference7Ideal.Run

@[expose] public section

set_option maxRecDepth 16384

noncomputable section

namespace Cert.Kernel7Ideal.Prod

open Kernel7Ideal Kernel7Ideal.Gen Ffn
open Idealize.ShloMosaic Idealize.ShloMosaic.TcCoe
open Idealize.ShloMosaic.Pipeline (Dat)

theorem pay_at (a : Vec Ideal S1024x1024 .bf16) (b : Vec Ideal S1024x1408 .bf16) (r : Fin 1024) (s : Fin 1408) :
    k0_pay1 (F := Ideal) a b (ix2 r s) = ∑ k : Fin 1024, a (ix2 r k) * b (ix2 k s) := by
  pointwise [k0_pay1]

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 1024) (b := 5632) (m ((c : Thread nD τ).loc main_arg1))

theorem ix0 : ∀ t : Fin cfg0.N, win0_0.index t = ![t.val / 4, 0] := (by decide +kernel : ∀ t : Fin grid0.N, _)
theorem ix1 : ∀ t : Fin cfg0.N, win0_1.index t = ![0, t.val % 4] := (by decide +kernel : ∀ t : Fin grid0.N, _)
theorem ixo : ∀ t : Fin cfg0.N, win0_2.index t = ![t.val / 4, t.val % 4] := (by decide +kernel : ∀ t : Fin grid0.N, _)

theorem a_blk (c : Dev nD) (t : Fin cfg0.N) (r k : Fin 1024) : iblk m c 0 t (ix2 r k) = A m c (t.val / 4 * 1024 + r.val) k.val := by
  have ht := t.isLt.trans_eq N_0
  unfold A mat
  blk_simp [iblk]
  refine congrArg (m _) ?_
  blk_ext [ix0]
theorem b_blk (c : Dev nD) (t : Fin cfg0.N) (k : Fin 1024) (s : Fin 1408) : iblk m c 1 t (ix2 k s) = B m c k.val (t.val % 4 * 1408 + s.val) := by
  have ht := t.isLt.trans_eq N_0
  unfold B mat
  blk_simp [iblk]
  refine congrArg (m _) ?_
  blk_ext [ix1]

theorem arr (c : Dev nD) : (dats m 0 c).arrAt 2 cfg0.N = fun z : S4096x5632.Idx => dotR (A m c) (fun j k => B m c k j) 1024 (z 0).val (z 1).val := by
  refine (dats m 0 c).arrAt_eq_of_covers 2 _ (by decide +kernel) fun t hf y => ?_
  have ht := t.isLt.trans_eq N_0
  blk_simp [ixo]
  rw [after0_2]
  unfold out0_2
  rw [View.canon_unit_zero zero2, ld0, ld0]
  obtain ⟨r, s, rfl⟩ := exists_ix2 y
  rw [pay_at, dotR_fin]
  refine Finset.sum_congr (M := EReal) rfl fun k _ => ?_
  rw [a_blk, b_blk]
  rfl

/-- The reference's product, element by element. -/
theorem ref_at (a : Vec Ideal S4096x1024 .bf16) (b : Vec Ideal S1024x5632 .bf16) :
    Host.dotGeneral (F := Ideal) (φ₁ := .f32) (φ₂ := .f32) Reference7Ideal.dot_S4096x1024_S1024x5632_S4096x5632_1_0_0_1_n_n none (extf .f32 a Reference7Ideal.Gen.bitsLt_bf16_f32) (extf .f32 b Reference7Ideal.Gen.bitsLt_bf16_f32)
      = fun z : S4096x5632.Idx => dotR (mat (a := 4096) (b := 1024) a) (fun j k => mat (a := 1024) (b := 5632) b k j) 1024 (z 0).val (z 1).val := by
  funext z
  obtain ⟨r, s, rfl⟩ := exists_ix2 z
  have h : Host.dotGeneral (F := Ideal) (φ₁ := .f32) (φ₂ := .f32) Reference7Ideal.dot_S4096x1024_S1024x5632_S4096x5632_1_0_0_1_n_n none (extf .f32 a Reference7Ideal.Gen.bitsLt_bf16_f32) (extf .f32 b Reference7Ideal.Gen.bitsLt_bf16_f32) (ix2 r s)
      = ∑ k : Fin 1024, a (ix2 r k) * b (ix2 k s) := by pointwise []
  rw [h, dotR_fin]
  refine Finset.sum_congr rfl fun k _ => ?_
  rw [← mat_val a r k, ← mat_val b k s]
  rfl

end Cert.Kernel7Ideal.Prod

namespace Cert.Proof

open Idealize.ShloMosaic Idealize.ShloMosaic.TcCoe
open Idealize.SL.Sem

theorem frame_Kernel7Ideal : quiescent_Kernel7Ideal := fun m ρ _ => Kernel7Ideal.Gen.frame m ρ

theorem frame_Kernel7 : quiescent_Kernel7 := Ffn.transfer (Kernel7Ideal.Gen.frame (F := Bits)) (by sl_kernel_rfl)

theorem frame_Reference7Ideal : quiescent_Reference7Ideal := fun m ρ _ =>
  (θ_run Reference7Ideal.defs _ _).mono (fun r h => ⟨fun c => (h c).2, sem_eq_zero_of_no_sems (by decide) r.2⟩)
    (Reference7Ideal.Value.run (F := Ideal) m ρ)

theorem algebraic7 : algebraic_Kernel7Ideal_Reference7Ideal := by
  intro m g m' g' _ hm
  refine ⟨fun c => (Kernel7Ideal.Gen.dats m 0 c).arrAt 2 Kernel7Ideal.cfg0.N, Kernel7Ideal.Value.run_blocks m g, ?_⟩
  refine (θ_run Reference7Ideal.defs _ _).mono (fun r h c => ⟨(h c).1.trans ?_, (h c).2⟩) (Reference7Ideal.Value.run (F := Ideal) m' g')
  rw [(hm c).1, (hm c).2]
  exact (Kernel7Ideal.Prod.ref_at _ _).trans (Kernel7Ideal.Prod.arr m c).symm

end Cert.Proof

end
-- ==== Proof.Down.lean ====
/-
  UNTRUSTED — the call ffn_down: act times w_down, accumulated in scratch over two blocks, plus the residual, and the norm of the sum.
-/
module

public import proofs.«01_k».proof.Proof.Mat
public import proofs.«01_k».proof.Proof.Gen.Kernel8
public import proofs.«01_k».proof.Proof.Gen.Kernel8Ideal.Value
public import proofs.«01_k».proof.Proof.Gen.Reference8Ideal.Run

@[expose] public section

set_option maxRecDepth 16384

noncomputable section

namespace Cert.Kernel8Ideal.Prod

open Kernel8Ideal Kernel8Ideal.Gen Ffn
open Idealize.ShloMosaic Idealize.ShloMosaic.TcCoe
open Idealize.ShloMosaic.Pipeline (Dat)

theorem pay_at (a : Vec Ideal S1024x1408 .bf16) (b : Vec Ideal S1408x1024 .bf16) (r s : Fin 1024) :
    k0_pay1 (F := Ideal) a b (ix2 r s) = ∑ k : Fin 1408, a (ix2 r k) * b (ix2 k s) := by
  pointwise [k0_pay1]

theorem norm_at (a b : Vec Ideal S1024x1024 .f32) (g : Vec Ideal S1x1024 .f32) (r s : Fin 1024) :
    k0_pay5 (F := Ideal) a b g (ix2 r s) = (a (ix2 r s) + b (ix2 r s)) * rms (fun k => a (ix2 r k) + b (ix2 r k)) * g (ix2 0 s) := by
  unfold rms
  pointwise [k0_pay5, k0_pay4]

section Cases
variable {F : FTy → Type} [FloatOps F]

theorem sout_A (c : Dev nD) (i a3 h3 a4 h4 a5 h5 a6 h6 a7 h7 a8 h8 a9 h9 hc0 hc1 hc2) (x : Vec F S1024x1408 .bf16) (y : Vec F S1408x1024 .bf16) (p : Vec F S1024x1024 .f32) (g : Vec F S1x1024 .f32) :
    sout0_A_0 c i a3 h3 a4 h4 a5 h5 a6 h6 a7 h7 a8 h8 a9 h9 hc0 hc1 hc2 x y p g = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, h5.read_unread, h6.read_unread, h9.read_unread, ld0,
    View.ld_unit_zero (S := S1408x1024) zero2, ld0, ld0, shapeCast_self]

theorem sout_B (c : Dev nD) (i a3 h3 a4 h4 a5 h5 a6 h6 a7 h7 a8 h8 a9 h9 hc0 hc1 hc2) (x : Vec F S1024x1408 .bf16) (y : Vec F S1408x1024 .bf16) (p : Vec F S1024x1024 .f32) (g : Vec F S1x1024 .f32) (z : Vec F S1024x1024 .f32) :
    sout0_B_0 c i a3 h3 a4 h4 a5 h5 a6 h6 a7 h7 a8 h8 a9 h9 hc0 hc1 hc2 x y p g z = addf z (k0_pay1 x y) := by
  unfold sout0_B_0
  rw [View.read_writes_eq_canon]; on_goal 2 => apply scover0_B_0
  unfold kernelRun0_B
  dsimp only
  sl_unfold_words
  rw [View.canon_unit_zero zero2]
  unfold k0_pay3
  simp only [View.readAt_eq_ld, h3.read_unread, h4.read_unread, h5.read_unread, h6.read_unread, h9.read_unread, ld0,
    View.ld_unit_zero (S := S1408x1024) zero2, ld0, ld0, shapeCast_self]

theorem out_B (c : Dev nD) (i a3 h3 a4 h4 a5 h5 a6 h6 a7 h7 a8 h8 a9 h9 hc0 hc1 hc2) (x : Vec F S1024x1408 .bf16) (y : Vec F S1408x1024 .bf16) (p : Vec F S1024x1024 .f32) (g : Vec F S1x1024 .f32) (z : Vec F S1024x1024 .f32) :
    out0_B_4 c i a3 h3 a4 h4 a5 h5 a6 h6 a7 h7 a8 h8 a9 h9 hc0 hc1 hc2 x y p g z = addf (addf z (k0_pay1 x y)) p := by
  unfold out0_B_4
  rw [View.read_writes_eq_canon]; on_goal 2 => apply cover0_B_4
  unfold kernelRun0_B
  dsimp only
  sl_unfold_words
  rw [View.canon_unit_zero zero2, View.readCov_unit_zero (S := S1024x1024) _ zero2]
  unfold k0_pay4 k0_pay3
  simp only [View.readAt_eq_ld, h3.read_unread, h4.read_unread, h5.read_unread, h6.read_unread, h9.read_unread, ld0,
    View.ld_unit_zero (S := S1408x1024) zero2, ld0, ld0, shapeCast_self]

theorem nrm_B (c : Dev nD) (i a3 h3 a4 h4 a5 h5 a6 h6 a7 h7 a8 h8 a9 h9 hc0 hc1 hc2) (x : Vec F S1024x1408 .bf16) (y : Vec F S1408x1024 .bf16) (p : Vec F S1024x1024 .f32) (g : Vec F S1x1024 .f32) (z : Vec F S1024x1024 .f32) :
    out0_B_5 c i a3 h3 a4 h4 a5 h5 a6 h6 a7 h7 a8 h8 a9 h9 hc0 hc1 hc2 x y p g z = k0_pay5 (addf z (k0_pay1 x y)) p g := by
  unfold out0_B_5
  rw [View.read_writes_eq_canon]; on_goal 2 => apply cover0_B_5
  unfold kernelRun0_B
  dsimp only
  sl_unfold_words
  rw [View.canon_unit_zero zero2, View.readCov_unit_zero (S := S1024x1024) _ zero2]
  unfold k0_pay3
  simp only [View.readAt_eq_ld, h3.read_unread, h4.read_unread, h5.read_unread, h6.read_unread, h9.read_unread, ld0,
    View.ld_unit_zero (S := S1408x1024) zero2, ld0, ld0, shapeCast_self]

end Cases

variable (m : (ℓ : Loc nD τ sig) → Buf (Elt Ideal) ℓ)

def A (c : Dev nD) : ℕ → ℕ → EReal := mat (a := 4096) (b := 2816) (m ((c : Thread nD τ).loc main_arg0))
/-- `w_down` transposed. -/
def B (c : Dev nD) : ℕ → ℕ → EReal := fun j k => mat (a := 2816) (b := 1024) (m ((c : Thread nD τ).loc main_arg1)) k j
def X (c : Dev nD) : ℕ → ℕ → EReal := mat (a := 4096) (b := 1024) (m ((c : Thread nD τ).loc main_arg2))
def G (c : Dev nD) : ℕ → ℕ → EReal := mat (a := 1) (b := 1024) (m ((c : Thread nD τ).loc main_arg3))

theorem ix0 : ∀ t : Fin cfg0.N, win0_0.index t = ![t.val / 2, t.val % 2] := (by decide +kernel : ∀ t : Fin grid0.N, _)
theorem ix1 : ∀ t : Fin cfg0.N, win0_1.index t = ![t.val % 2, 0] := (by decide +kernel : ∀ t : Fin grid0.N, _)
theorem ix2' : ∀ t : Fin cfg0.N, win0_2.index t = ![t.val / 2, 0] := (by decide +kernel : ∀ t : Fin grid0.N, _)
theorem ix3' : ∀ t : Fin cfg0.N, win0_3.index t = ![0, 0] := (by decide +kernel : ∀ t : Fin grid0.N, _)

theorem a_blk (c : Dev nD) (t : Fin cfg0.N) (r : Fin 1024) (k : Fin 1408) : iblk m c 0 t (ix2 r k) = A m c (t.val / 2 * 1024 + r.val) (1408 * (t.val % 2) + k.val) := by
  have ht := t.isLt.trans_eq N_0
  unfold A mat
  blk_simp [iblk]
  refine congrArg (m _) ?_
  blk_ext [ix0]
theorem b_blk (c : Dev nD) (t : Fin cfg0.N) (s : Fin 1024) (k : Fin 1408) : iblk m c 1 t (ix2 k s) = B m c s.val (1408 * (t.val % 2) + k.val) := by
  have ht := t.isLt.trans_eq N_0
  unfold B mat
  blk_simp [iblk]
  refine congrArg (m _) ?_
  blk_ext [ix1]
theorem x_blk (c : Dev nD) (t : Fin cfg0.N) (r s : Fin 1024) : iblk m c 2 t (ix2 r s) = X m c (t.val / 2 * 1024 + r.val) s.val := by
  have ht := t.isLt.trans_eq N_0
  unfold X mat
  blk_simp [iblk]
  refine congrArg (m _) ?_
  blk_ext [ix2']
theorem g_blk (c : Dev nD) (t : Fin cfg0.N) (s : Fin 1024) : iblk m c 3 t (ix2 0 s) = G m c 0 s.val := by
  have ht := t.isLt.trans_eq N_0
  unfold G mat
  blk_simp [iblk]
  refine congrArg (m _) ?_
  blk_ext [ix3']

/-- The product of the blocks at point `t`. -/
theorem pay_blk (c : Dev nD) (t : Fin cfg0.N) (r : Fin 1024) (s : Fin 1024) :
    k0_pay1 (F := Ideal) (iblk m c 0 t) (iblk m c 1 t) (ix2 r s)
      = ∑ k : Fin 1408, A m c (t.val / 2 * 1024 + r.val) (1408 * (t.val % 2) + k.val) * B m c s.val (1408 * (t.val % 2) + k.val) := by
  rw [pay_at]
  refine Finset.sum_congr (M := EReal) rfl fun k _ => ?_
  rw [a_blk, b_blk]

/-- The first block of rows' scratch at an even point. -/
theorem s_first (c : Dev nD) (n : ℕ) (hn : n < cfg0.N) (h : n % 2 = 0) (r s : Fin 1024) :
    (outsAt0 m c n hn).2.2 (ix2 r s) = dotR (A m c) (B m c) 1408 (n / 2 * 1024 + r.val) s.val := by
  have h1 : ¬n % 2 = 1 := by omega
  rw [outsAt0_A m c ⟨n, hn⟩ h h1 h1]
  dsimp only
  rw [sout_A, pay_blk, dotR_fin]
  refine Finset.sum_congr (M := EReal) rfl fun k _ => ?_
  rw [show 1408 * (n % 2) + k.val = k.val by omega]

/-- The product's rows of the block at an odd point, all 2816 terms. -/
theorem acc_at (c : Dev nD) (t : Fin cfg0.N) (h : t.val % 2 = 1) (r s : Fin 1024) :
    addf (F := Ideal) (outsAt0 m c (t.val - 1) (Nat.lt_of_le_of_lt (Nat.sub_le _ _) t.isLt)).2.2 (k0_pay1 (F := Ideal) (iblk m c 0 t) (iblk m c 1 t)) (ix2 r s)
      = dotR (A m c) (B m c) 2816 (t.val / 2 * 1024 + r.val) s.val := by
  rw [show (2816 : ℕ) = 1408 * (1 + 1) from rfl, dotR_block]
  refine congrArg₂ (fun x y : EReal => x + y) ?_ ((pay_blk m c t r s).trans ?_)
  · rw [s_first m c (t.val - 1) _ (by omega), show (t.val - 1) / 2 = t.val / 2 by omega]
  · rw [h]

/-- The sum of the residual and the product. -/
def Y (X A B : ℕ → ℕ → EReal) (i j : ℕ) : EReal := X i j + dotR A B 2816 i j

theorem ixo : ∀ t : Fin cfg0.N, win0_4.index t = ![t.val / 2, 0] := (by decide +kernel : ∀ t : Fin grid0.N, _)
theorem ixo' : ∀ t : Fin cfg0.N, win0_5.index t = ![t.val / 2, 0] := (by decide +kernel : ∀ t : Fin grid0.N, _)
theorem last : ∀ t : Fin cfg0.N, (cfg0.win 4).flush t = true → t.val % 2 = 1 := (by decide +kernel : ∀ t : Fin grid0.N, win0_4.flush t = true → t.val % 2 = 1)
theorem last' : ∀ t : Fin cfg0.N, (cfg0.win 5).flush t = true → t.val % 2 = 1 := (by decide +kernel : ∀ t : Fin grid0.N, win0_5.flush t = true → t.val % 2 = 1)

theorem y_at (c : Dev nD) (t : Fin cfg0.N) (h : t.val % 2 = 1) (r s : Fin 1024) :
    addf (F := Ideal) (outsAt0 m c (t.val - 1) (Nat.lt_of_le_of_lt (Nat.sub_le _ _) t.isLt)).2.2 (k0_pay1 (F := Ideal) (iblk m c 0 t) (iblk m c 1 t)) (ix2 r s)
        + iblk m c 2 t (ix2 r s)
      = Y (X m c) (A m c) (B m c) (t.val / 2 * 1024 + r.val) s.val := by
  rw [acc_at m c t h, x_blk]
  exact add_comm _ _

theorem arr (c : Dev nD) : (dats m 0 c).arrAt 4 cfg0.N = fun z : S4096x1024.Idx => Y (X m c) (A m c) (B m c) (z 0).val (z 1).val := by
  refine (dats m 0 c).arrAt_eq_of_covers 4 _ (by decide +kernel) fun t hf y => ?_
  have ht := t.isLt.trans_eq N_0
  have h3 := last t hf
  blk_simp [ixo]
  rw [after0_4]
  obtain ⟨r, s, rfl⟩ := exists_ix2 y
  rw [outsAt0_B m c t (by omega) h3 h3]
  dsimp only
  rw [out_B]
  exact (y_at m c t h3 r s).trans rfl

theorem arr' (c : Dev nD) : (dats m 0 c).arrAt 5 cfg0.N = fun z : S4096x1024.Idx => Y (X m c) (A m c) (B m c) (z 0).val (z 1).val
      * rms (fun k => Y (X m c) (A m c) (B m c) (z 0).val k.val) * G m c 0 (z 1).val := by
  refine (dats m 0 c).arrAt_eq_of_covers 5 _ (by decide +kernel) fun t hf y => ?_
  have ht := t.isLt.trans_eq N_0
  have h3 := last' t hf
  blk_simp [ixo']
  rw [after0_5]
  obtain ⟨r, s, rfl⟩ := exists_ix2 y
  rw [outsAt0_B m c t (by omega) h3 h3]
  dsimp only
  rw [nrm_B, norm_at, g_blk]
  simp only [y_at m c t h3]
  rfl

section Reference
open Reference8Ideal.Gen hiding bitsLt_bf16_f32

abbrev RY (a : Vec Ideal S4096x2816 .bf16) (b : Vec Ideal S2816x1024 .bf16) (x : Vec Ideal S4096x1024 .f32) : FVec Ideal S4096x1024 .f32 :=
  addf x (Host.dotGeneral (F := Ideal) (φ₁ := .f32) (φ₂ := .f32) Reference8Ideal.dot_S4096x2816_S2816x1024_S4096x1024_1_0_0_1_n_n none
    (extf .f32 a bitsLt_bf16_f32) (extf .f32 b bitsLt_bf16_f32))

theorem ref_el (a : Vec Ideal S4096x2816 .bf16) (b : Vec Ideal S2816x1024 .bf16) (x : Vec Ideal S4096x1024 .f32) (r : Fin 4096) (s : Fin 1024) :
    RY a b x (ix2 r s) = Y (mat (a := 4096) (b := 1024) x) (mat (a := 4096) (b := 2816) a) (fun j k => mat (a := 2816) (b := 1024) b k j) r.val s.val := by
  have h : RY a b x (ix2 r s) = x (ix2 r s) + ∑ k : Fin 2816, a (ix2 r k) * b (ix2 k s) := by
    unfold RY
    pointwise []
  rw [h]
  unfold Y
  rw [dotR_fin, ← mat_val x r s]
  refine congrArg (fun y => mat x r.val s.val + y) (Finset.sum_congr rfl fun k _ => ?_)
  rw [← mat_val a r k, ← mat_val b k s]

theorem ref_norm (y : Vec Ideal S4096x1024 .f32) (g : Vec Ideal S1x1024 .f32) (r : Fin 4096) (s : Fin 1024) :
    truncf (F := Ideal) .bf16 (mulf (mulf y (broadcastInDim S4096x1024 ![0, 1] bcast_S4096x1_S4096x1024_0_1 (Host.rsqrt (addf (Host.divf
        (broadcastInDim Reference8Ideal.S4096x1 ![0] bcast_S4096_S4096x1_0 (Host.reduceAdd (mulf y y) (constant Reference8Ideal.S_ .f32 0x00000000#32) reducesTo_S4096x1024_S4096_d1 h_S_))
        (broadcastInDim Reference8Ideal.S4096x1 ![] bcast_S_S4096x1 (constant Reference8Ideal.S_ .f32 0x44800000#32)))
        (broadcastInDim Reference8Ideal.S4096x1 ![] bcast_S_S4096x1 (constant Reference8Ideal.S_ .f32 0x358637BD#32))))))
        (broadcastInDim S4096x1024 ![0, 1] bcast_S1x1024_S4096x1024_0_1 g)) bitsLt_bf16_f32 (ix2 r s)
      = y (ix2 r s) * rms (fun k => y (ix2 r k)) * g (ix2 0 s) := by
  unfold rms
  pointwise []

end Reference

end Cert.Kernel8Ideal.Prod

namespace Cert.Proof

open Idealize.ShloMosaic Idealize.ShloMosaic.TcCoe
open Idealize.SL.Sem

theorem frame_Kernel8Ideal : quiescent_Kernel8Ideal := fun m ρ _ => Kernel8Ideal.Gen.frame m ρ

theorem frame_Kernel8 : quiescent_Kernel8 := Ffn.transfer (Kernel8Ideal.Gen.frame (F := Bits)) (by sl_kernel_rfl)

theorem frame_Reference8Ideal : quiescent_Reference8Ideal := fun m ρ _ =>
  (θ_run Reference8Ideal.defs _ _).mono (fun r h => ⟨fun c => (h c).2.2, sem_eq_zero_of_no_sems (by decide) r.2⟩)
    (Reference8Ideal.Value.run (F := Ideal) m ρ)

theorem algebraic8 : algebraic_Kernel8Ideal_Reference8Ideal := by
  intro m g m' g' _ hm
  refine ⟨fun c => (Kernel8Ideal.Gen.dats m 0 c).arrAt 4 Kernel8Ideal.cfg0.N, fun c => (Kernel8Ideal.Gen.dats m 0 c).arrAt 5 Kernel8Ideal.cfg0.N,
    Kernel8Ideal.Value.run_blocks m g, ?_⟩
  refine (θ_run Reference8Ideal.defs _ _).mono (fun r h c => ⟨(h c).1.trans ?_, (h c).2.1.trans ?_, (h c).2.2⟩) (Reference8Ideal.Value.run (F := Ideal) m' g')
  · rw [(hm c).1, (hm c).2.1, (hm c).2.2.1]
    refine Eq.trans ?_ (Kernel8Ideal.Prod.arr m c).symm
    funext z
    obtain ⟨i, j, rfl⟩ := Ffn.exists_ix2 z
    exact Kernel8Ideal.Prod.ref_el _ _ _ i j
  · rw [(hm c).1, (hm c).2.1, (hm c).2.2.1, (hm c).2.2.2]
    refine Eq.trans ?_ (Kernel8Ideal.Prod.arr' m c).symm
    funext z
    obtain ⟨i, j, rfl⟩ := Ffn.exists_ix2 z
    refine (Kernel8Ideal.Prod.ref_norm _ _ i j).trans ?_
    simp only [Kernel8Ideal.Prod.ref_el]
    exact congrArg (fun y : EReal => _ * y) (Ffn.mat_val (a := 1) (b := 1024) (m ((c.tc : Thread Kernel8Ideal.nD Kernel8Ideal.τ).loc Kernel8Ideal.main_arg3)) 0 j).symm

end Cert.Proof

end
-- ==== Proof.NormRow.lean ====
/-
  UNTRUSTED — one row of the norm's gradient on the extended reals: the kernel's form of it and the one of the chain rule.
-/
module

public import proofs.«01_k».proof.Proof.Mat
public import Idealize.ShloMosaic.Lib.IdealHost

@[expose] public section

noncomputable section

namespace Cert.Ffn

open Idealize.ShloMosaic
open scoped BigOperators

/-- The mean square of a row plus the norm's epsilon. -/
def msq (v : Fin 1024 → EReal) : EReal :=
  Ideal.div (∑ k, v k * v k) (Ideal.ofBits FTy.f32 1149239296#32) + Ideal.ofBits FTy.f32 897988541#32

theorem rms_eq (v : Fin 1024 → EReal) : rms v = Ideal.rsqrt (msq v) := rfl

/-- The gradient of a row that is `y` after the gain, as the kernel writes it. -/
def rowK (x y : Fin 1024 → EReal) (s : Fin 1024) : EReal :=
  rms x * (y s - x s * rms x * Ideal.div (∑ k, y k * (x k * rms x)) (Ideal.ofBits FTy.f32 1149239296#32))

/-- The gradient of the mean square, by the chain rule. -/
def rowD (x y : Fin 1024 → EReal) : EReal :=
  Ideal.div ((∑ k, x k * y k) * (Ideal.ofBits FTy.f32 3204448256#32 * Ideal.div (rms x) (msq x))) (Ideal.ofBits FTy.f32 1149239296#32)

theorem n_eq : Ideal.ofBits FTy.f32 1149239296#32 = ((1024 : ℝ) : EReal) := by
  simp [Ideal.ofBits, Ideal.ieee]
  rw [← EReal.coe_mul]
  norm_num

theorem half_eq : Ideal.ofBits FTy.f32 3204448256#32 = ((-(1 / 2) : ℝ) : EReal) := by
  simp [Ideal.ofBits, Ideal.ieee]
  rw [← EReal.coe_mul]
  norm_num

theorem eps_pos : ∃ e : ℝ, 0 < e ∧ Ideal.ofBits FTy.f32 897988541#32 = (e : EReal) := by
  refine ⟨8796093 * (2 ^ 43)⁻¹, by positivity, ?_⟩
  simp [Ideal.ofBits, Ideal.ieee]

theorem div_n (z : EReal) : Ideal.div z (Ideal.ofBits FTy.f32 1149239296#32) = z * ((1 / 1024 : ℝ) : EReal) := by
  rw [n_eq, Ideal.div_coe (by norm_num)]

theorem sq_nonneg' (z : EReal) : 0 ≤ z * z := by
  rcases le_total 0 z with h | h
  · exact EReal.mul_nonneg h h
  · rw [← neg_mul_neg]
    have : 0 ≤ -z := EReal.neg_nonneg.mpr h
    exact EReal.mul_nonneg this this

theorem msq_cases (v : Fin 1024 → EReal) : msq v = ⊤ ∨ ∃ w : ℝ, 0 < w ∧ msq v = (w : EReal) := by
  obtain ⟨e, he, hE⟩ := eps_pos
  have hS : 0 ≤ ∑ k, v k * v k := Finset.sum_nonneg fun k _ => sq_nonneg' (v k)
  unfold msq
  rw [div_n, hE]
  generalize (∑ k, v k * v k) = S at hS
  induction S using EReal.rec with
  | bot => simp at hS
  | top => left; rw [EReal.top_mul_coe_of_pos (by norm_num)]; rfl
  | coe s =>
    right
    have : 0 ≤ s := by exact_mod_cast hS
    refine ⟨s * (1 / 1024) + e, by positivity, ?_⟩
    push_cast
    rfl

theorem sum_mul_coe {ι : Type} (t : Finset ι) (f : ι → EReal) (r : ℝ) (hr : 0 ≤ r) : ∑ k ∈ t, f k * (r : EReal) = (∑ k ∈ t, f k) * (r : EReal) := by
  classical
  induction t using Finset.induction_on with
  | empty => simp
  | insert a t ha ih =>
    rw [Finset.sum_insert ha, Finset.sum_insert ha, ih, EReal.right_distrib_of_nonneg_of_ne_top (by exact_mod_cast hr) (EReal.coe_ne_top r)]

/-- The two forms are one function. -/
theorem row_eq (x y : Fin 1024 → EReal) (s : Fin 1024) :
    rowK x y s = y s * rms x + x s * rowD x y + rowD x y * x s := by
  unfold rowK rowD
  rw [div_n, div_n, half_eq, rms_eq]
  rcases msq_cases x with h | ⟨w, hw, h⟩
  · rw [h]
    simp [Ideal.rsqrt_top, Ideal.div]
  · have hq : ¬ w < 0 := not_lt.mpr hw.le
    rw [h, Ideal.rsqrt_coe, if_neg hq, if_neg hw.ne', Ideal.div_coe hw.ne']
    obtain ⟨ρ, hρ⟩ : ∃ ρ : ℝ, ρ = (√w)⁻¹ := ⟨_, rfl⟩
    have hρ0 : 0 < ρ := by rw [hρ]; positivity
    have hw' : 1 / w = ρ * ρ := by
      rw [hρ, ← mul_inv, Real.mul_self_sqrt hw.le, one_div]
    rw [← hρ, hw']
    have hT : (∑ k, y k * (x k * (ρ : EReal))) = (∑ k, x k * y k) * (ρ : EReal) := by
      rw [← sum_mul_coe _ _ _ hρ0.le]
      exact Finset.sum_congr rfl fun k _ => by rw [← mul_assoc, mul_comm (y k)]
    rw [hT]
    generalize (∑ k, x k * y k) = T
    have hD : T * (((-(1 / 2) : ℝ) : EReal) * ((ρ : EReal) * ((ρ * ρ : ℝ) : EReal))) * ((1 / 1024 : ℝ) : EReal)
        = -T * ((ρ * ρ * ρ / 2048 : ℝ) : EReal) := by
      rw [← EReal.coe_mul, ← EReal.coe_mul, mul_assoc, ← EReal.coe_mul,
        show (-(1 / 2) * (ρ * (ρ * ρ)) * (1 / 1024) : ℝ) = -(ρ * ρ * ρ / 2048) by ring, EReal.coe_neg, mul_neg, neg_mul]
    have hc : (0 : EReal) ≤ ((ρ * ρ * ρ / 2048 : ℝ) : EReal) := by exact_mod_cast (by positivity : (0 : ℝ) ≤ ρ * ρ * ρ / 2048)
    rw [hD, mul_comm (-T * _) (x s), add_assoc, ← mul_assoc (x s) (-T), ← EReal.left_distrib_of_nonneg hc hc,
      sub_eq_add_neg, EReal.left_distrib_of_nonneg_of_ne_top (by exact_mod_cast hρ0.le) (EReal.coe_ne_top ρ), mul_comm (ρ : EReal) (y s)]
    congr 1
    rw [← EReal.coe_add, show (ρ * ρ * ρ / 2048 + ρ * ρ * ρ / 2048 : ℝ) = ρ * (ρ * (ρ * (1 / 1024))) by ring]
    rw [EReal.coe_mul, EReal.coe_mul, EReal.coe_mul]
    simp only [mul_neg, neg_mul]
    congr 1
    ac_rfl

end Cert.Ffn

end
-- ==== Proof.NormGrad.lean ====
/-
  UNTRUSTED — the gradients of a norm's rows and gain, as functions of the gradient `u` of the normed rows.
-/
module

public import proofs.«01_k».proof.Proof.NormRow

@[expose] public section

noncomputable section

namespace Cert.Ffn

open Idealize.ShloMosaic
open scoped BigOperators

/-- The row normed, before the gain. -/
def V (X : ℕ → ℕ → EReal) (i j : ℕ) : EReal := X i j * rms (fun k => X i k.val)

/-- The gradient of the residual stream: what came with it and the norm's row. -/
def R (Q X G u : ℕ → ℕ → EReal) (i j : ℕ) : EReal :=
  Q i j + rowK (fun k => X i k.val) (fun k => u i k.val * G 0 k.val) (Fin.ofNat 1024 j)

/-- The gradient of the gain, from the first `n` rows. -/
def gainSum (u X : ℕ → ℕ → EReal) (n j : ℕ) : EReal := dotR (fun k i => u i k) (fun k i => V X i k) n j j

variable (u q x : (⟨2, ![4096, 1024]⟩ : Shape).Idx → EReal) (g : (⟨2, ![1, 1024]⟩ : Shape).Idx → EReal) (w : ℕ → ℕ → EReal)
  (hu : ∀ (r : Fin 4096) (s : Fin 1024), u (ix2 r s) = w r.val s.val)

include hu

/-- The chain rule's rows by the matrices' functions. -/
theorem ref_row (r : Fin 4096) (s : Fin 1024) :
    q (ix2 r s) + (u (ix2 r s) * g (ix2 0 s) * rms (fun k => x (ix2 r k))
          + x (ix2 r s) * rowD (fun k => x (ix2 r k)) (fun k => u (ix2 r k) * g (ix2 0 k))
          + rowD (fun k => x (ix2 r k)) (fun k => u (ix2 r k) * g (ix2 0 k)) * x (ix2 r s))
      = R (mat (a := 4096) (b := 1024) q) (mat (a := 4096) (b := 1024) x) (mat (a := 1) (b := 1024) g) w r.val s.val := by
  unfold R
  rw [Fin.ofNat_val_eq_self, mat_val]
  refine congrArg (fun y => q (ix2 r s) + y) ((row_eq (fun k => x (ix2 r k)) (fun k => u (ix2 r k) * g (ix2 0 k)) s).symm.trans ?_)
  refine congrArg₂ (fun u v => rowK u v s) (funext fun k => (mat_val x r k).symm) (funext fun k => ?_)
  rw [hu]
  exact congrArg (fun y => _ * y) (mat_val g 0 k).symm

/-- The sum over the rows by the same functions. -/
theorem ref_col (s : Fin 1024) :
    ∑ i : Fin 4096, x (ix2 i s) * rms (fun k => x (ix2 i k)) * u (ix2 i s) = gainSum w (mat (a := 4096) (b := 1024) x) 4096 s.val := by
  refine Eq.trans ?_ (dotR_fin _ _ 4096 _ _).symm
  refine Finset.sum_congr (M := EReal) rfl fun i _ => ?_
  rw [hu, mul_comm]
  unfold V
  simp only [mat_val]

omit hu

/-- A sum that grows at every odd point, by one block of `m` terms. -/
theorem acc_odd (m : ℕ) (A B : ℕ → ℕ → EReal) (i j N : ℕ) (S : ∀ n, n < N → EReal)
    (keep : ∀ n (h : n + 1 < N), (n + 1) % 2 = 0 → S (n + 1) h = S n (Nat.lt_of_succ_lt h))
    (first : ∀ h : 1 < N, S 1 h = ∑ k : Fin m, A i (m * (1 / 2) + k.val) * B j (m * (1 / 2) + k.val))
    (next : ∀ n (h : n + 1 < N), (n + 1) % 2 = 1 → 2 ≤ n + 1 → S (n + 1) h = S n (Nat.lt_of_succ_lt h) + ∑ k : Fin m, A i (m * ((n + 1) / 2) + k.val) * B j (m * ((n + 1) / 2) + k.val)) :
    ∀ n (h : n < N), 1 ≤ n → S n h = dotR A B (m * ((n + 1) / 2)) i j := by
  intro n
  induction n with
  | zero => intro _ h; omega
  | succ n ih =>
    intro hn _
    by_cases h0 : (n + 1) % 2 = 0
    · rw [keep n hn h0, ih _ (by omega), show (n + 1 + 1) / 2 = (n + 1) / 2 by omega]
    · rw [show m * ((n + 1 + 1) / 2) = m * ((n + 1) / 2 + 1) by congr 1; omega, dotR_block]
      by_cases h1 : 2 ≤ n + 1
      · rw [next n hn (by omega) h1, ih _ (by omega)]
      · obtain rfl : n = 0 := by omega
        rw [first hn]
        exact (zero_add _).symm

end Cert.Ffn

end
-- ==== Proof.PleDhn.lean ====
/-
  UNTRUSTED — the call ple_dhn: the product of dgl with w_gate transposed, and the gradients of the norm before it.
-/
module

public import proofs.«01_k».proof.Proof.NormGrad
public import proofs.«01_k».proof.Proof.Accumulate
public import proofs.«01_k».proof.Proof.Gen.Kernel15
public import proofs.«01_k».proof.Proof.Gen.Kernel15Ideal.Value
public import proofs.«01_k».proof.Proof.Gen.Reference15Ideal.Run

@[expose] public section

set_option maxRecDepth 16384

noncomputable section

open Idealize.ShloMosaic Idealize.ShloMosaic.TcCoe

namespace Cert.Kernel15Ideal.Prod

open Kernel15Ideal Kernel15Ideal.Gen Ffn

/-- The product of two blocks at one place. -/
def dots (a : Vec Ideal S512x1024 .bf16) (b : Vec Ideal S1024x1024 .bf16) (r : Fin 512) (s : Fin 1024) : EReal := ∑ k : Fin 1024, a (ix2 r k) * b (ix2 s k)

theorem gain_at (a : Vec Ideal S512x1024 .bf16) (b : Vec Ideal S1024x1024 .bf16) (x : Vec Ideal S512x1024 .f32) (s : Fin 1024) :
    k0_pay5 (F := Ideal) a b x (ix2 0 s) = ∑ i : Fin 512, dots a b i s * (x (ix2 i s) * rms (fun k => x (ix2 i k))) := by
  unfold rms dots
  pointwise [k0_pay5, k0_pay4, k0_pay3, k0_pay2]

theorem grad_at (a : Vec Ideal S512x1024 .bf16) (b : Vec Ideal S1024x1024 .bf16) (x q : Vec Ideal S512x1024 .f32) (g : Vec Ideal S1x1024 .f32) (r : Fin 512) (s : Fin 1024) :
    k0_pay6 (F := Ideal) a b x g q (ix2 r s) = q (ix2 r s) + rowK (fun k => x (ix2 r k)) (fun j => dots a b r j * g (ix2 0 j)) s := by
  unfold rowK rms dots
  pointwise [k0_pay6, k0_pay4, k0_pay3, k0_pay2]

section Cases
variable {F : FTy → Type} [FloatOps F]

theorem out_A (c : Dev nD) (i a3 h3 a4 h4 a5 h5 a6 h6 a7 h7 a8 h8 a9 h9 hc0 hc1) (x : Vec F S512x1024 .bf16) (y : Vec F S1024x1024 .bf16) (x' q : Vec F S512x1024 .f32) (g : Vec F S1x1024 .f32) :
    out0_A_5 c i a3 h3 a4 h4 a5 h5 a6 h6 a7 h7 a8 h8 a9 h9 hc0 hc1 x y x' q g = k0_pay6 x y x' g q := by
  unfold out0_A_5
  rw [View.read_writes_eq_canon]; on_goal 2 => apply cover0_A_5
  unfold kernelRun0_A
  dsimp only
  sl_unfold_words
  rw [View.canon_unit_zero zero2]
  simp (disch := assumption) only [View.readAt_eq_ld, Memref.IsWhole.read_unread, ld0, shapeCast_self]
theorem gain_A (c : Dev nD) (i a3 h3 a4 h4 a5 h5 a6 h6 a7 h7 a8 h8 a9 h9 hc0 hc1) (x : Vec F S512x1024 .bf16) (y : Vec F S1024x1024 .bf16) (x' q : Vec F S512x1024 .f32) (g : Vec F S1x1024 .f32) :
    out0_A_6 c i a3 h3 a4 h4 a5 h5 a6 h6 a7 h7 a8 h8 a9 h9 hc0 hc1 x y x' q g = k0_pay5 x y x' := by
  unfold out0_A_6
  rw [View.read_writes_eq_canon]; on_goal 2 => apply cover0_A_6
  unfold kernelRun0_A
  dsimp only
  sl_unfold_words
  rw [View.canon_unit_zero zero2]
  simp (disch := assumption) only [View.readAt_eq_ld, Memref.IsWhole.read_unread, ld0, shapeCast_self]
theorem out_B (c : Dev nD) (i a3 h3 a4 h4 a5 h5 a6 h6 a7 h7 a8 h8 a9 h9 hc0 hc1) (x : Vec F S512x1024 .bf16) (y : Vec F S1024x1024 .bf16) (x' q : Vec F S512x1024 .f32) (g : Vec F S1x1024 .f32) (o : Vec F S1x1024 .f32) :
    out0_B_5 c i a3 h3 a4 h4 a5 h5 a6 h6 a7 h7 a8 h8 a9 h9 hc0 hc1 x y x' q g o = k0_pay6 x y x' g q := by
  unfold out0_B_5
  rw [View.read_writes_eq_canon]; on_goal 2 => apply cover0_B_5
  unfold kernelRun0_B
  dsimp only
  sl_unfold_words
  rw [View.canon_unit_zero zero2]
  simp (disch := assumption) only [View.readAt_eq_ld, Memref.IsWhole.read_unread, ld0, shapeCast_self]
theorem gain_B (c : Dev nD) (i a3 h3 a4 h4 a5 h5 a6 h6 a7 h7 a8 h8 a9 h9 hc0 hc1) (x : Vec F S512x1024 .bf16) (y : Vec F S1024x1024 .bf16) (x' q : Vec F S512x1024 .f32) (g : Vec F S1x1024 .f32) (o : Vec F S1x1024 .f32) :
    out0_B_6 c i a3 h3 a4 h4 a5 h5 a6 h6 a7 h7 a8 h8 a9 h9 hc0 hc1 x y x' q g o = addf o (k0_pay5 x y x') := by
  unfold out0_B_6
  rw [View.read_writes_eq_canon]; on_goal 2 => apply cover0_B_6
  unfold kernelRun0_B
  dsimp only
  sl_unfold_words
  rw [View.canon_unit_zero zero2]
  unfold k0_pay1
  simp (disch := assumption) only [View.readAt_eq_ld, Memref.IsWhole.read_unread, ld0, shapeCast_self]

end Cases

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 1024) (b := 1024) (m ((c : Thread nD τ).loc main_arg1))
def X (c : Dev nD) : ℕ → ℕ → EReal := mat (a := 4096) (b := 1024) (m ((c : Thread nD τ).loc main_arg2))
def Q (c : Dev nD) : ℕ → ℕ → EReal := mat (a := 4096) (b := 1024) (m ((c : Thread nD τ).loc main_arg4))
def G (c : Dev nD) : ℕ → ℕ → EReal := mat (a := 1) (b := 1024) (m ((c : Thread nD τ).loc main_arg3))
theorem at0 : ∀ t : Fin cfg0.N, win0_0.index t = ![t.val, 0] := (by decide +kernel : ∀ t : Fin grid0.N, _)
theorem a_blk (c : Dev nD) (t : Fin cfg0.N) (r : Fin 512) (k : Fin 1024) : iblk m c 0 t (ix2 r k) = A m c (t.val * 512 + r.val) (k.val) := by
  have ht := t.isLt.trans_eq N_0
  unfold A mat
  blk_simp [iblk]
  refine congrArg (m _) ?_
  blk_ext [at0]
theorem at1 : ∀ t : Fin cfg0.N, win0_1.index t = ![0, 0] := (by decide +kernel : ∀ t : Fin grid0.N, _)
theorem b_blk (c : Dev nD) (t : Fin cfg0.N) (s : Fin 1024) (k : Fin 1024) : iblk m c 1 t (ix2 s k) = B m c (s.val) (k.val) := by
  have ht := t.isLt.trans_eq N_0
  unfold B mat
  blk_simp [iblk]
  refine congrArg (m _) ?_
  blk_ext [at1]
theorem at2 : ∀ t : Fin cfg0.N, win0_2.index t = ![t.val, 0] := (by decide +kernel : ∀ t : Fin grid0.N, _)
theorem x_blk (c : Dev nD) (t : Fin cfg0.N) (r : Fin 512) (s : Fin 1024) : iblk m c 2 t (ix2 r s) = X m c (t.val * 512 + r.val) (s.val) := by
  have ht := t.isLt.trans_eq N_0
  unfold X mat
  blk_simp [iblk]
  refine congrArg (m _) ?_
  blk_ext [at2]
theorem at3 : ∀ t : Fin cfg0.N, win0_3.index t = ![t.val, 0] := (by decide +kernel : ∀ t : Fin grid0.N, _)
theorem q_blk (c : Dev nD) (t : Fin cfg0.N) (r : Fin 512) (s : Fin 1024) : iblk m c 3 t (ix2 r s) = Q m c (t.val * 512 + r.val) (s.val) := by
  have ht := t.isLt.trans_eq N_0
  unfold Q mat
  blk_simp [iblk]
  refine congrArg (m _) ?_
  blk_ext [at3]
theorem at4 : ∀ t : Fin cfg0.N, win0_4.index t = ![0, 0] := (by decide +kernel : ∀ t : Fin grid0.N, _)
theorem g_blk (c : Dev nD) (t : Fin cfg0.N) (s : Fin 1024) : iblk m c 4 t (ix2 0 s) = G m c (0) (s.val) := by
  have ht := t.isLt.trans_eq N_0
  unfold G mat
  blk_simp [iblk]
  refine congrArg (m _) ?_
  blk_ext [at4]

/-- The gradient of the normed rows. -/
def U (A B : ℕ → ℕ → EReal) (i j : ℕ) : EReal := dotR A B 1024 i j

theorem u_at (c : Dev nD) (t : Fin cfg0.N) (r : Fin 512) (s : Fin 1024) :
    dots (iblk m c 0 t) (iblk m c 1 t) r s = U (A m c) (B m c) (t.val * 512 + r.val) s.val := by
  unfold U dots
  rw [dotR_fin]
  refine Finset.sum_congr (M := EReal) rfl fun k _ => ?_
  rw [a_blk, b_blk]

/-- The block's part of the gain's gradient. -/
theorem gain_blk (c : Dev nD) (t : Fin cfg0.N) (s : Fin 1024) :
    k0_pay5 (F := Ideal) (iblk m c 0 t) (iblk m c 1 t) (iblk m c 2 t) (ix2 0 s)
      = ∑ i : Fin 512, (U (A m c) (B m c)) (512 * (t.val % 8) + i.val) s.val * V (X m c) (512 * (t.val % 8) + i.val) s.val := by
  have ht := t.isLt.trans_eq N_0
  rw [gain_at]
  refine Finset.sum_congr (M := EReal) rfl fun i _ => ?_
  rw [u_at m c t, Nat.mul_comm 512, Nat.mod_eq_of_lt ht]
  simp only [x_blk]
  rfl

/-- The gradient of the gain after point `n`. -/
theorem gain_traj (c : Dev nD) (s : Fin 1024) (n : ℕ) (hn : n < cfg0.N) :
    (outsAt0 m c n hn).2 (ix2 0 s) = gainSum (U (A m c) (B m c)) (X m c) (512 * (n % 8 + 1)) s.val := by
  refine acc_at 512 8 _ _ (fun _ => s.val) (fun _ => s.val) (fun n hn => (outsAt0 m c n hn).2 (ix2 0 s)) (fun n hn h0 => ?_) (fun n hn h0 => ?_) n hn
  · have hN := hn.trans_eq N_0
    refine Eq.trans ?_ (gain_blk m c ⟨n, hn⟩ s)
    rw [outsAt0_A m c ⟨n, hn⟩ h0 (by dsimp only; omega)]
    dsimp only
    rw [gain_A]
  · refine Eq.trans ?_ (congrArg (fun x : EReal => _ + x) (gain_blk m c ⟨n, hn⟩ s))
    rw [outsAt0_B m c ⟨n, hn⟩ h0 (by dsimp only; omega)]
    dsimp only
    rw [gain_B]
    rfl

theorem ix5 : ∀ t : Fin cfg0.N, win0_5.index t = ![t.val, 0] := (by decide +kernel : ∀ t : Fin grid0.N, _)
theorem ix6 : ∀ t : Fin cfg0.N, win0_6.index t = ![0, 0] := (by decide +kernel : ∀ t : Fin grid0.N, _)
theorem last : ∀ t : Fin cfg0.N, (cfg0.win 6).flush t = true → t.val = 7 := (by decide +kernel : ∀ t : Fin grid0.N, win0_6.flush t = true → t.val = 7)

theorem grad_blk (c : Dev nD) (t : Fin cfg0.N) (r : Fin 512) (s : Fin 1024) :
    k0_pay6 (F := Ideal) (iblk m c 0 t) (iblk m c 1 t) (iblk m c 2 t) (iblk m c 4 t) (iblk m c 3 t) (ix2 r s)
      = R (Q m c) (X m c) (G m c) (U (A m c) (B m c)) (t.val * 512 + r.val) s.val := by
  unfold R
  rw [grad_at, q_blk, Fin.ofNat_val_eq_self]
  simp only [x_blk, g_blk, u_at m c t]

theorem arr (c : Dev nD) : (dats m 0 c).arrAt 5 cfg0.N = fun z : S4096x1024.Idx => R (Q m c) (X m c) (G m c) (U (A m c) (B m c)) (z 0).val (z 1).val := by
  refine (dats m 0 c).arrAt_eq_of_covers 5 _ (by decide +kernel) fun t hf y => ?_
  have ht := t.isLt.trans_eq N_0
  blk_simp [ix5]
  rw [after0_5]
  obtain ⟨r, s, rfl⟩ := exists_ix2 y
  refine Eq.trans ?_ (grad_blk m c t r s)
  by_cases h0 : t.val % 8 = 0
  · rw [outsAt0_A m c t h0 (by omega)]
    dsimp only
    rw [out_A]
  · rw [outsAt0_B m c t h0 (by omega)]
    dsimp only
    rw [out_B]

theorem arr' (c : Dev nD) : (dats m 0 c).arrAt 6 cfg0.N = fun z : S1x1024.Idx => gainSum (U (A m c) (B m c)) (X m c) 4096 (z 1).val := by
  refine (dats m 0 c).arrAt_eq_of_covers 6 _ (by decide +kernel) fun t hf y => ?_
  have h1 := last t hf
  blk_simp [ix6]
  rw [after0_6]
  obtain ⟨r, s, rfl⟩ := exists_ix2 y
  obtain rfl : r = 0 := Fin.ext (by omega)
  rw [gain_traj m c s t.val t.isLt, h1]
  rfl

section Reference
open Reference15Ideal.Gen hiding shapeCasts_S1024_S1x1024

/-- The gradient of the normed rows. -/
abbrev RU (a : Vec Ideal S4096x1024 .bf16) (b : Vec Ideal S1024x1024 .bf16) : Vec Ideal S4096x1024 .f32 :=
  Host.dotGeneral (F := Ideal) (φ₁ := .f32) (φ₂ := .f32) Reference15Ideal.dot_S4096x1024_S1024x1024_S4096x1024_1_1_0_0_n_n none (extf .f32 a Reference15Ideal.Gen.bitsLt_bf16_f32) (extf .f32 b Reference15Ideal.Gen.bitsLt_bf16_f32)

theorem ru_el (a : Vec Ideal S4096x1024 .bf16) (b : Vec Ideal S1024x1024 .bf16) (r : Fin 4096) (s : Fin 1024) :
    RU a b (ix2 r s) = U (mat (a := 4096) (b := 1024) a) (mat (a := 1024) (b := 1024) b) r.val s.val := by
  have h : RU a b (ix2 r s) = ∑ k : Fin 1024, a (ix2 r k) * b (ix2 s k) := by
    unfold RU
    pointwise []
  rw [h]
  unfold U
  rw [dotR_fin]
  refine Finset.sum_congr (M := EReal) rfl fun k _ => ?_
  rw [← mat_val a r k, ← mat_val b s k]

theorem ref_grad (n : (ℓ : Loc Reference15Ideal.nD Reference15Ideal.τ Reference15Ideal.sig) → Buf (Elt Ideal) ℓ) (c : Dev Reference15Ideal.nD) (u q x : Vec Ideal S4096x1024 .f32) (g : Vec Ideal S1x1024 .f32)
    (hu : RU (n ((c.tc : Thread Reference15Ideal.nD Reference15Ideal.τ).loc Reference15Ideal.main_arg0)) (n ((c.tc : Thread Reference15Ideal.nD Reference15Ideal.τ).loc Reference15Ideal.main_arg1)) = u) (hq : (n ((c.tc : Thread Reference15Ideal.nD Reference15Ideal.τ).loc Reference15Ideal.main_arg4)) = q) (hx : (n ((c.tc : Thread Reference15Ideal.nD Reference15Ideal.τ).loc Reference15Ideal.main_arg2)) = x) (hg : (n ((c.tc : Thread Reference15Ideal.nD Reference15Ideal.τ).loc Reference15Ideal.main_arg3)) = g) (r : Fin 4096) (s : Fin 1024) :
    Reference15Ideal.Value.res_main_v38 n c (ix2 r s)
      = q (ix2 r s) + (u (ix2 r s) * g (ix2 0 s) * rms (fun k => x (ix2 r k))
          + x (ix2 r s) * rowD (fun k => x (ix2 r k)) (fun k => u (ix2 r k) * g (ix2 0 k))
          + rowD (fun k => x (ix2 r k)) (fun k => u (ix2 r k) * g (ix2 0 k)) * x (ix2 r s)) := by
  subst hu hq hx hg
  unfold rowD rms msq RU
  pointwise [Reference15Ideal.Value.res_main_v38]
  simp only [Fin.sum_univ_one]

theorem ref_gain (u x : Vec Ideal S4096x1024 .f32) (s : Fin 1024) :
    (shapeCast S1x1024 (Host.reduceAdd (F := Ideal) (mulf (mulf x (broadcastInDim S4096x1024 ![0, 1] bcast_S4096x1_S4096x1024_0_1 (Host.rsqrt (addf (Host.divf
        (broadcastInDim Reference15Ideal.S4096x1 ![0] bcast_S4096_S4096x1_0 (Host.reduceAdd (mulf x x) (constant Reference15Ideal.S_ .f32 0x00000000#32) reducesTo_S4096x1024_S4096_d1 h_S_))
        (broadcastInDim Reference15Ideal.S4096x1 ![] bcast_S_S4096x1 (constant Reference15Ideal.S_ .f32 0x44800000#32)))
        (broadcastInDim Reference15Ideal.S4096x1 ![] bcast_S_S4096x1 (constant Reference15Ideal.S_ .f32 0x358637BD#32)))))) u)
        (constant Reference15Ideal.S_ .f32 0x00000000#32) reducesTo_S4096x1024_S1024_d0 h_S_) shapeCasts_S1024_S1x1024 : FVec Ideal S1x1024 .f32) (ix2 0 s)
      = ∑ i : Fin 4096, x (ix2 i s) * rms (fun k => x (ix2 i k)) * u (ix2 i s) := by
  unfold rms
  pointwise []

end Reference

end Cert.Kernel15Ideal.Prod

namespace Cert.Proof

open Idealize.SL.Sem

theorem frame_Kernel15Ideal : quiescent_Kernel15Ideal := fun m ρ _ => Kernel15Ideal.Gen.frame m ρ

theorem frame_Kernel15 : quiescent_Kernel15 := Ffn.transfer (Kernel15Ideal.Gen.frame (F := Bits)) (by sl_kernel_rfl)

theorem frame_Reference15Ideal : quiescent_Reference15Ideal := fun m ρ _ =>
  (θ_run Reference15Ideal.defs _ _).mono (fun r h => ⟨fun c => (h c).2.2, sem_eq_zero_of_no_sems (by decide) r.2⟩)
    (Reference15Ideal.Value.run (F := Ideal) m ρ)

theorem algebraic15 : algebraic_Kernel15Ideal_Reference15Ideal := by
  intro m g m' g' _ hm
  refine ⟨fun c => (Kernel15Ideal.Gen.dats m 0 c).arrAt 5 Kernel15Ideal.cfg0.N, fun c => (Kernel15Ideal.Gen.dats m 0 c).arrAt 6 Kernel15Ideal.cfg0.N, Kernel15Ideal.Value.run_blocks m g, ?_⟩
  refine (θ_run Reference15Ideal.defs _ _).mono (fun r h c => ⟨(h c).1.trans ?_, (h c).2.1.trans ?_, (h c).2.2⟩) (Reference15Ideal.Value.run (F := Ideal) m' g')
  · refine Eq.trans ?_ (Kernel15Ideal.Prod.arr m c).symm
    funext z
    obtain ⟨i, j, rfl⟩ := Ffn.exists_ix2 z
    refine (Kernel15Ideal.Prod.ref_grad m' c _ _ _ _ rfl rfl rfl rfl i j).trans ?_
    rw [(hm c).1, (hm c).2.1, (hm c).2.2.1, (hm c).2.2.2.1, (hm c).2.2.2.2]
    exact Ffn.ref_row _ _ _ _ _ (Kernel15Ideal.Prod.ru_el _ _) i j
  · rw [(hm c).1, (hm c).2.1, (hm c).2.2.1]
    refine Eq.trans ?_ (Kernel15Ideal.Prod.arr' m c).symm
    funext z
    obtain ⟨i, j, rfl⟩ := Ffn.exists_ix2 z
    obtain rfl : i = 0 := Fin.ext (by omega)
    exact (Kernel15Ideal.Prod.ref_gain _ _ j).trans (Ffn.ref_col _ _ _ (Kernel15Ideal.Prod.ru_el _ _) j)

end Cert.Proof

end
-- ==== Proof.DhnV.lean ====
/-
  UNTRUSTED — the call ffn_dhn_v: the values' part of the product with w_up transposed, and the gradients of the norm before it.
-/
module

public import proofs.«01_k».proof.Proof.PleDhn
public import proofs.«01_k».proof.Proof.Gen.Kernel9
public import proofs.«01_k».proof.Proof.Gen.Kernel9Ideal.Value
public import proofs.«01_k».proof.Proof.Gen.Reference9Ideal.Run

@[expose] public section

set_option maxRecDepth 16384

noncomputable section

open Idealize.ShloMosaic Idealize.ShloMosaic.TcCoe

namespace Cert.Kernel9Ideal.Prod

open Kernel9Ideal Kernel9Ideal.Gen Ffn

theorem pay_at (a : Vec Ideal S512x1408 .bf16) (b : Vec Ideal S1024x1408 .bf16) (r : Fin 512) (s : Fin 1024) :
    k0_pay1 (F := Ideal) a b (ix2 r s) = ∑ k : Fin 1408, a (ix2 r k) * b (ix2 s k) := by
  pointwise [k0_pay1]

theorem gain_at (a d x : Vec Ideal S512x1024 .f32) (s : Fin 1024) :
    k0_pay8 (F := Ideal) a d x (ix2 0 s) = ∑ i : Fin 512, (a (ix2 i s) + d (ix2 i s)) * (x (ix2 i s) * rms (fun k => x (ix2 i k))) := by
  unfold rms
  pointwise [k0_pay8, k0_pay5, k0_pay7, k0_pay6]

theorem grad_at (a d x q : Vec Ideal S512x1024 .f32) (g : Vec Ideal S1x1024 .f32) (r : Fin 512) (s : Fin 1024) :
    k0_pay9 (F := Ideal) a d x g q (ix2 r s) = q (ix2 r s) + rowK (fun k => x (ix2 r k)) (fun k => (a (ix2 r k) + d (ix2 r k)) * g (ix2 0 k)) s := by
  unfold rowK rms
  pointwise [k0_pay9, k0_pay5, k0_pay7, k0_pay6]

section Cases
variable {F : FTy → Type} [FloatOps F]

theorem sout_A (c : Dev nD) (i a3 h3 a4 h4 a5 h5 a6 h6 a7 h7 a8 h8 a9 h9 a10 h10 a11 h11 hc0 hc1 hc2) (x : Vec F S512x1408 .bf16) (y : Vec F S1024x1408 .bf16) (d x' q : Vec F S512x1024 .f32) (g : Vec F S1x1024 .f32) :
    sout0_A_0 c i a3 h3 a4 h4 a5 h5 a6 h6 a7 h7 a8 h8 a9 h9 a10 h10 a11 h11 hc0 hc1 hc2 x y d x' q g = k0_pay1 x y := by
  unfold sout0_A_0
  rw [View.read_writes_eq_canon]; on_goal 2 => apply scover0_A_0
  unfold kernelRun0_A
  dsimp only
  rw [View.canon_unit_zero zero2]
  unfold k0_pay2
  simp (disch := assumption) only [View.readAt_eq_ld, Memref.IsWhole.read_unread, ld0, shapeCast_self]
theorem out_B (c : Dev nD) (i a3 h3 a4 h4 a5 h5 a6 h6 a7 h7 a8 h8 a9 h9 a10 h10 a11 h11 hc0 hc1 hc2 hc3 hc4) (x : Vec F S512x1408 .bf16) (y : Vec F S1024x1408 .bf16) (d x' q : Vec F S512x1024 .f32) (g : Vec F S1x1024 .f32) (z : Vec F S512x1024 .f32) :
    out0_B_6 c i a3 h3 a4 h4 a5 h5 a6 h6 a7 h7 a8 h8 a9 h9 a10 h10 a11 h11 hc0 hc1 hc2 hc3 hc4 x y d x' q g z = k0_pay9 (addf z (k0_pay1 x y)) d x' g q := by
  unfold out0_B_6
  rw [View.read_writes_eq_canon]; on_goal 2 => apply cover0_B_6
  unfold kernelRun0_B
  dsimp only
  sl_unfold_words
  rw [View.canon_unit_zero zero2, View.readCov_unit_zero (S := S512x1024) _ zero2]
  unfold k0_pay3
  simp (disch := assumption) only [View.readAt_eq_ld, Memref.IsWhole.read_unread, ld0, shapeCast_self]
theorem gain_B (c : Dev nD) (i a3 h3 a4 h4 a5 h5 a6 h6 a7 h7 a8 h8 a9 h9 a10 h10 a11 h11 hc0 hc1 hc2 hc3 hc4) (x : Vec F S512x1408 .bf16) (y : Vec F S1024x1408 .bf16) (d x' q : Vec F S512x1024 .f32) (g : Vec F S1x1024 .f32) (z : Vec F S512x1024 .f32) :
    out0_B_7 c i a3 h3 a4 h4 a5 h5 a6 h6 a7 h7 a8 h8 a9 h9 a10 h10 a11 h11 hc0 hc1 hc2 hc3 hc4 x y d x' q g z = k0_pay8 (addf z (k0_pay1 x y)) d x' := by
  unfold out0_B_7
  rw [View.read_writes_eq_canon]; on_goal 2 => apply cover0_B_7
  unfold kernelRun0_B
  dsimp only
  sl_unfold_words
  rw [View.canon_unit_zero zero2, View.readCov_unit_zero (S := S512x1024) _ zero2]
  unfold k0_pay3
  simp (disch := assumption) only [View.readAt_eq_ld, Memref.IsWhole.read_unread, ld0, shapeCast_self]
theorem out_C (c : Dev nD) (i a3 h3 a4 h4 a5 h5 a6 h6 a7 h7 a8 h8 a9 h9 a10 h10 a11 h11 hc0 hc1 hc2 hc3 hc4) (x : Vec F S512x1408 .bf16) (y : Vec F S1024x1408 .bf16) (d x' q : Vec F S512x1024 .f32) (g : Vec F S1x1024 .f32) (o : Vec F S1x1024 .f32) (z : Vec F S512x1024 .f32) :
    out0_C_6 c i a3 h3 a4 h4 a5 h5 a6 h6 a7 h7 a8 h8 a9 h9 a10 h10 a11 h11 hc0 hc1 hc2 hc3 hc4 x y d x' q g o z = k0_pay9 (addf z (k0_pay1 x y)) d x' g q := by
  unfold out0_C_6
  rw [View.read_writes_eq_canon]; on_goal 2 => apply cover0_C_6
  unfold kernelRun0_C
  dsimp only
  sl_unfold_words
  rw [View.canon_unit_zero zero2, View.readCov_unit_zero (S := S512x1024) _ zero2]
  unfold k0_pay3
  simp (disch := assumption) only [View.readAt_eq_ld, Memref.IsWhole.read_unread, ld0, shapeCast_self]
theorem gain_C (c : Dev nD) (i a3 h3 a4 h4 a5 h5 a6 h6 a7 h7 a8 h8 a9 h9 a10 h10 a11 h11 hc0 hc1 hc2 hc3 hc4) (x : Vec F S512x1408 .bf16) (y : Vec F S1024x1408 .bf16) (d x' q : Vec F S512x1024 .f32) (g : Vec F S1x1024 .f32) (o : Vec F S1x1024 .f32) (z : Vec F S512x1024 .f32) :
    out0_C_7 c i a3 h3 a4 h4 a5 h5 a6 h6 a7 h7 a8 h8 a9 h9 a10 h10 a11 h11 hc0 hc1 hc2 hc3 hc4 x y d x' q g o z = addf o (k0_pay8 (addf z (k0_pay1 x y)) d x') := by
  unfold out0_C_7
  rw [View.read_writes_eq_canon]; on_goal 2 => apply cover0_C_7
  unfold kernelRun0_C
  dsimp only
  sl_unfold_words
  rw [View.canon_unit_zero zero2, View.readCov_unit_zero (S := S512x1024) _ zero2]
  unfold k0_pay4 k0_pay3
  simp (disch := assumption) only [View.readAt_eq_ld, Memref.IsWhole.read_unread, ld0, shapeCast_self]

end Cases

variable (m : (ℓ : Loc nD τ sig) → Buf (Elt Ideal) ℓ)

def A (c : Dev nD) : ℕ → ℕ → EReal := mat (a := 4096) (b := 2816) (m ((c : Thread nD τ).loc main_arg0))
def E (c : Dev nD) : ℕ → ℕ → EReal := mat (a := 4096) (b := 1024) (m ((c : Thread nD τ).loc main_arg2))
def X (c : Dev nD) : ℕ → ℕ → EReal := mat (a := 4096) (b := 1024) (m ((c : Thread nD τ).loc main_arg3))
def Q (c : Dev nD) : ℕ → ℕ → EReal := mat (a := 4096) (b := 1024) (m ((c : Thread nD τ).loc main_arg5))
def G (c : Dev nD) : ℕ → ℕ → EReal := mat (a := 1) (b := 1024) (m ((c : Thread nD τ).loc main_arg4))
def B (c : Dev nD) : ℕ → ℕ → EReal := fun j k => mat (a := 1024) (b := 5632) (m ((c : Thread nD τ).loc main_arg1)) j (2816 + k)
theorem at0 : ∀ t : Fin cfg0.N, win0_0.index t = ![t.val / 2, t.val % 2] := (by decide +kernel : ∀ t : Fin grid0.N, _)
theorem a_blk (c : Dev nD) (t : Fin cfg0.N) (r : Fin 512) (k : Fin 1408) : iblk m c 0 t (ix2 r k) = A m c (t.val / 2 * 512 + r.val) (1408 * (t.val % 2) + k.val) := by
  have ht := t.isLt.trans_eq N_0
  unfold A mat
  blk_simp [iblk]
  refine congrArg (m _) ?_
  blk_ext [at0]
theorem at1 : ∀ t : Fin cfg0.N, win0_1.index t = ![0, t.val % 2 + 2] := (by decide +kernel : ∀ t : Fin grid0.N, _)
theorem b_blk (c : Dev nD) (t : Fin cfg0.N) (s : Fin 1024) (k : Fin 1408) : iblk m c 1 t (ix2 s k) = B m c (s.val) (1408 * (t.val % 2) + k.val) := by
  have ht := t.isLt.trans_eq N_0
  unfold B mat
  blk_simp [iblk]
  refine congrArg (m _) ?_
  blk_ext [at1]
theorem at2 : ∀ t : Fin cfg0.N, win0_2.index t = ![t.val / 2, 0] := (by decide +kernel : ∀ t : Fin grid0.N, _)
theorem e_blk (c : Dev nD) (t : Fin cfg0.N) (r : Fin 512) (s : Fin 1024) : iblk m c 2 t (ix2 r s) = E m c (t.val / 2 * 512 + r.val) (s.val) := by
  have ht := t.isLt.trans_eq N_0
  unfold E mat
  blk_simp [iblk]
  refine congrArg (m _) ?_
  blk_ext [at2]
theorem at3 : ∀ t : Fin cfg0.N, win0_3.index t = ![t.val / 2, 0] := (by decide +kernel : ∀ t : Fin grid0.N, _)
theorem x_blk (c : Dev nD) (t : Fin cfg0.N) (r : Fin 512) (s : Fin 1024) : iblk m c 3 t (ix2 r s) = X m c (t.val / 2 * 512 + r.val) (s.val) := by
  have ht := t.isLt.trans_eq N_0
  unfold X mat
  blk_simp [iblk]
  refine congrArg (m _) ?_
  blk_ext [at3]
theorem at4 : ∀ t : Fin cfg0.N, win0_4.index t = ![t.val / 2, 0] := (by decide +kernel : ∀ t : Fin grid0.N, _)
theorem q_blk (c : Dev nD) (t : Fin cfg0.N) (r : Fin 512) (s : Fin 1024) : iblk m c 4 t (ix2 r s) = Q m c (t.val / 2 * 512 + r.val) (s.val) := by
  have ht := t.isLt.trans_eq N_0
  unfold Q mat
  blk_simp [iblk]
  refine congrArg (m _) ?_
  blk_ext [at4]
theorem at5 : ∀ t : Fin cfg0.N, win0_5.index t = ![0, 0] := (by decide +kernel : ∀ t : Fin grid0.N, _)
theorem g_blk (c : Dev nD) (t : Fin cfg0.N) (s : Fin 1024) : iblk m c 5 t (ix2 0 s) = G m c (0) (s.val) := by
  have ht := t.isLt.trans_eq N_0
  unfold G mat
  blk_simp [iblk]
  refine congrArg (m _) ?_
  blk_ext [at5]

/-- The product of the blocks at point `t`. -/
theorem pay_blk (c : Dev nD) (t : Fin cfg0.N) (r : Fin 512) (s : Fin 1024) :
    k0_pay1 (F := Ideal) (iblk m c 0 t) (iblk m c 1 t) (ix2 r s) = ∑ k : Fin 1408, A m c (t.val / 2 * 512 + r.val) (1408 * (t.val % 2) + k.val) * B m c s.val (1408 * (t.val % 2) + k.val) := by
  rw [pay_at]
  refine Finset.sum_congr (M := EReal) rfl fun k _ => ?_
  rw [a_blk, b_blk]

/-- The scratch at an even point. -/
theorem s_first (c : Dev nD) (n : ℕ) (hn : n < cfg0.N) (h : n % 2 = 0) (r : Fin 512) (s : Fin 1024) :
    (outsAt0 m c n hn).2.2 (ix2 r s) = dotR (A m c) (B m c) 1408 (n / 2 * 512 + r.val) s.val := by
  have h1 : ¬n % 2 = 1 := by omega
  rw [outsAt0_A m c ⟨n, hn⟩ h h1 h1]
  dsimp only
  rw [sout_A, pay_blk, dotR_fin]
  refine Finset.sum_congr (M := EReal) rfl fun k _ => ?_
  rw [show 1408 * (n % 2) + k.val = k.val by omega]

/-- The gradient of the normed rows. -/
def U (E A B : ℕ → ℕ → EReal) (i j : ℕ) : EReal := E i j + dotR A B 2816 i j

/-- The block's rows of that gradient at an odd point. -/
theorem u_at (c : Dev nD) (t : Fin cfg0.N) (h : t.val % 2 = 1) (r : Fin 512) (s : Fin 1024) :
    addf (F := Ideal) (outsAt0 m c (t.val - 1) (Nat.lt_of_le_of_lt (Nat.sub_le _ _) t.isLt)).2.2 (k0_pay1 (F := Ideal) (iblk m c 0 t) (iblk m c 1 t)) (ix2 r s) + iblk m c 2 t (ix2 r s) = U (E m c) (A m c) (B m c) (t.val / 2 * 512 + r.val) s.val := by
  refine (congrArg₂ (fun x y : EReal => x + y) ?_ (e_blk m c t r s)).trans (add_comm _ _)
  rw [show (2816 : ℕ) = 1408 * (1 + 1) from rfl, dotR_block]
  refine congrArg₂ (fun x y : EReal => x + y) ?_ ((pay_blk m c t r s).trans ?_)
  · rw [s_first m c (t.val - 1) _ (by omega), show (t.val - 1) / 2 = t.val / 2 by omega]
  · rw [h]

/-- The block's part of the gain's gradient. -/
theorem gain_blk (c : Dev nD) (t : Fin cfg0.N) (h : t.val % 2 = 1) (s : Fin 1024) :
    k0_pay8 (F := Ideal) (addf (F := Ideal) (outsAt0 m c (t.val - 1) (Nat.lt_of_le_of_lt (Nat.sub_le _ _) t.isLt)).2.2 (k0_pay1 (F := Ideal) (iblk m c 0 t) (iblk m c 1 t))) (iblk m c 2 t) (iblk m c 3 t) (ix2 0 s)
      = ∑ i : Fin 512, (U (E m c) (A m c) (B m c)) (512 * (t.val / 2) + i.val) s.val * V (X m c) (512 * (t.val / 2) + i.val) s.val := by
  rw [gain_at]
  refine Finset.sum_congr (M := EReal) rfl fun i _ => ?_
  rw [u_at m c t h, Nat.mul_comm 512]
  simp only [x_blk]
  rfl

/-- The gradient of the gain after the points that finished `k` blocks of rows. -/
theorem gain_traj (c : Dev nD) (s : Fin 1024) : ∀ (n : ℕ) (hn : n < cfg0.N), 1 ≤ n →
    (outsAt0 m c n hn).2.1 (ix2 0 s) = gainSum (U (E m c) (A m c) (B m c)) (X m c) (512 * ((n + 1) / 2)) s.val := by
  refine acc_odd 512 _ _ _ _ _ (fun n hn => (outsAt0 m c n hn).2.1 (ix2 0 s)) (fun n hn h0 => ?_) (fun hn => ?_) (fun n hn h1 h2 => ?_)
  · have h1 : ¬(n + 1) % 2 = 1 := by omega
    rw [outsAt0_A m c ⟨n + 1, hn⟩ h0 h1 h1]
    rfl
  · refine Eq.trans ?_ (gain_blk m c ⟨1, hn⟩ rfl s)
    rw [outsAt0_B m c ⟨1, hn⟩ (by dsimp only; omega) rfl rfl (by dsimp only; omega) (by dsimp only; omega)]
    dsimp only
    rw [gain_B]
  · refine Eq.trans ?_ (congrArg (fun x : EReal => _ + x) (gain_blk m c ⟨n + 1, hn⟩ h1 s))
    rw [outsAt0_C m c ⟨n + 1, hn⟩ (by dsimp only; omega) h1 h1 (by dsimp only; omega) h2]
    dsimp only
    rw [gain_C]
    rfl

theorem ix6 : ∀ t : Fin cfg0.N, win0_6.index t = ![t.val / 2, 0] := (by decide +kernel : ∀ t : Fin grid0.N, _)
theorem ix7 : ∀ t : Fin cfg0.N, win0_7.index t = ![0, 0] := (by decide +kernel : ∀ t : Fin grid0.N, _)
theorem last : ∀ t : Fin cfg0.N, (cfg0.win 6).flush t = true → t.val % 2 = 1 := (by decide +kernel : ∀ t : Fin grid0.N, win0_6.flush t = true → t.val % 2 = 1)
theorem last' : ∀ t : Fin cfg0.N, (cfg0.win 7).flush t = true → t.val = 15 := (by decide +kernel : ∀ t : Fin grid0.N, win0_7.flush t = true → t.val = 15)

theorem grad_blk (c : Dev nD) (t : Fin cfg0.N) (h : t.val % 2 = 1) (r : Fin 512) (s : Fin 1024) :
    k0_pay9 (F := Ideal) (addf (F := Ideal) (outsAt0 m c (t.val - 1) (Nat.lt_of_le_of_lt (Nat.sub_le _ _) t.isLt)).2.2 (k0_pay1 (F := Ideal) (iblk m c 0 t) (iblk m c 1 t))) (iblk m c 2 t) (iblk m c 3 t) (iblk m c 5 t) (iblk m c 4 t) (ix2 r s)
      = R (Q m c) (X m c) (G m c) (U (E m c) (A m c) (B m c)) (t.val / 2 * 512 + r.val) s.val := by
  unfold R
  rw [grad_at, q_blk, Fin.ofNat_val_eq_self]
  simp only [x_blk, g_blk, u_at m c t h]

theorem arr (c : Dev nD) : (dats m 0 c).arrAt 6 cfg0.N = fun z : S4096x1024.Idx => R (Q m c) (X m c) (G m c) (U (E m c) (A m c) (B m c)) (z 0).val (z 1).val := by
  refine (dats m 0 c).arrAt_eq_of_covers 6 _ (by decide +kernel) fun t hf y => ?_
  have ht := t.isLt.trans_eq N_0
  have h1 := last t hf
  have h0 : ¬t.val % 2 = 0 := by omega
  blk_simp [ix6]
  rw [after0_6]
  obtain ⟨r, s, rfl⟩ := exists_ix2 y
  refine Eq.trans ?_ (grad_blk m c t h1 r s)
  by_cases h3 : t.val < 2
  · rw [outsAt0_B m c t h0 h1 h1 h3 (by omega)]
    dsimp only
    rw [out_B]
  · rw [outsAt0_C m c t h0 h1 h1 h3 (by omega)]
    dsimp only
    rw [out_C]

theorem arr' (c : Dev nD) : (dats m 0 c).arrAt 7 cfg0.N = fun z : S1x1024.Idx => gainSum (U (E m c) (A m c) (B m c)) (X m c) 4096 (z 1).val := by
  refine (dats m 0 c).arrAt_eq_of_covers 7 _ (by decide +kernel) fun t hf y => ?_
  have ht := t.isLt.trans_eq N_0
  have h1 := last' t hf
  blk_simp [ix7]
  rw [after0_7]
  obtain ⟨r, s, rfl⟩ := exists_ix2 y
  obtain rfl : r = 0 := Fin.ext (by omega)
  rw [gain_traj m c s t.val t.isLt (by omega), h1]
  rfl

section Reference
open Reference9Ideal.Gen hiding shapeCasts_S1024_S1x1024

/-- The gradient of the normed rows. -/
abbrev RU (a : Vec Ideal S4096x2816 .bf16) (b : Vec Ideal S1024x5632 .bf16) (e : Vec Ideal S4096x1024 .f32) : Vec Ideal S4096x1024 .f32 :=
  addf (F := Ideal) (φ := .f32) e (Host.dotGeneral (F := Ideal) (φ₁ := .f32) (φ₂ := .f32) Reference9Ideal.dot_S4096x2816_S1024x2816_S4096x1024_1_1_0_0_n_n none (extf .f32 a Reference9Ideal.Gen.bitsLt_bf16_f32) (extractStridedSlice Reference9Ideal.S1024x2816 ![0, 2816] (extf .f32 b Reference9Ideal.Gen.bitsLt_bf16_f32) Reference9Ideal.Gen.slices_S1024x5632_S1024x2816_0_2816))

theorem ru_el (a : Vec Ideal S4096x2816 .bf16) (b : Vec Ideal S1024x5632 .bf16) (e : Vec Ideal S4096x1024 .f32) (r : Fin 4096) (s : Fin 1024) :
    RU a b e (ix2 r s) = U (mat (a := 4096) (b := 1024) e) (mat (a := 4096) (b := 2816) a) (fun j k => mat (a := 1024) (b := 5632) b j (2816 + k)) r.val s.val := by
  have h : RU a b e (ix2 r s) = e (ix2 r s) + ∑ k : Fin 2816, a (ix2 r k) * b (ix2 s ⟨2816 + k.val, by omega⟩) := by
    unfold RU
    pointwise []
  rw [h]
  unfold U
  rw [dotR_fin, ← mat_val e r s]
  refine congrArg (fun y => mat e r.val s.val + y) (Finset.sum_congr rfl fun k _ => ?_)
  rw [← mat_val a r k, ← mat_val b s ⟨2816 + k.val, by omega⟩]

theorem ref_grad (n : (ℓ : Loc Reference9Ideal.nD Reference9Ideal.τ Reference9Ideal.sig) → Buf (Elt Ideal) ℓ) (c : Dev Reference9Ideal.nD) (u q x : Vec Ideal S4096x1024 .f32) (g : Vec Ideal S1x1024 .f32)
    (hu : RU (n ((c.tc : Thread Reference9Ideal.nD Reference9Ideal.τ).loc Reference9Ideal.main_arg0)) (n ((c.tc : Thread Reference9Ideal.nD Reference9Ideal.τ).loc Reference9Ideal.main_arg1)) (n ((c.tc : Thread Reference9Ideal.nD Reference9Ideal.τ).loc Reference9Ideal.main_arg2)) = u) (hq : (n ((c.tc : Thread Reference9Ideal.nD Reference9Ideal.τ).loc Reference9Ideal.main_arg5)) = q) (hx : (n ((c.tc : Thread Reference9Ideal.nD Reference9Ideal.τ).loc Reference9Ideal.main_arg3)) = x) (hg : (n ((c.tc : Thread Reference9Ideal.nD Reference9Ideal.τ).loc Reference9Ideal.main_arg4)) = g) (r : Fin 4096) (s : Fin 1024) :
    Reference9Ideal.Value.res_main_v40 n c (ix2 r s)
      = q (ix2 r s) + (u (ix2 r s) * g (ix2 0 s) * rms (fun k => x (ix2 r k))
          + x (ix2 r s) * rowD (fun k => x (ix2 r k)) (fun k => u (ix2 r k) * g (ix2 0 k))
          + rowD (fun k => x (ix2 r k)) (fun k => u (ix2 r k) * g (ix2 0 k)) * x (ix2 r s)) := by
  subst hu hq hx hg
  unfold rowD rms msq RU
  pointwise [Reference9Ideal.Value.res_main_v40]
  simp only [Fin.sum_univ_one]

end Reference

end Cert.Kernel9Ideal.Prod

namespace Cert.Proof

open Idealize.SL.Sem

theorem frame_Kernel9Ideal : quiescent_Kernel9Ideal := fun m ρ _ => Kernel9Ideal.Gen.frame m ρ

theorem frame_Kernel9 : quiescent_Kernel9 := Ffn.transfer (Kernel9Ideal.Gen.frame (F := Bits)) (by sl_kernel_rfl)

theorem frame_Reference9Ideal : quiescent_Reference9Ideal := fun m ρ _ =>
  (θ_run Reference9Ideal.defs _ _).mono (fun r h => ⟨fun c => (h c).2.2, sem_eq_zero_of_no_sems (by decide) r.2⟩)
    (Reference9Ideal.Value.run (F := Ideal) m ρ)

theorem algebraic9 : algebraic_Kernel9Ideal_Reference9Ideal := by
  intro m g m' g' _ hm
  refine ⟨fun c => (Kernel9Ideal.Gen.dats m 0 c).arrAt 6 Kernel9Ideal.cfg0.N, fun c => (Kernel9Ideal.Gen.dats m 0 c).arrAt 7 Kernel9Ideal.cfg0.N, Kernel9Ideal.Value.run_blocks m g, ?_⟩
  refine (θ_run Reference9Ideal.defs _ _).mono (fun r h c => ⟨(h c).1.trans ?_, (h c).2.1.trans ?_, (h c).2.2⟩) (Reference9Ideal.Value.run (F := Ideal) m' g')
  · refine Eq.trans ?_ (Kernel9Ideal.Prod.arr m c).symm
    funext z
    obtain ⟨i, j, rfl⟩ := Ffn.exists_ix2 z
    refine (Kernel9Ideal.Prod.ref_grad m' c _ _ _ _ rfl rfl rfl rfl i j).trans ?_
    rw [(hm c).1, (hm c).2.1, (hm c).2.2.1, (hm c).2.2.2.1, (hm c).2.2.2.2.1, (hm c).2.2.2.2.2]
    exact Ffn.ref_row _ _ _ _ _ (Kernel9Ideal.Prod.ru_el _ _ _) i j
  · rw [(hm c).1, (hm c).2.1, (hm c).2.2.1, (hm c).2.2.2.1]
    refine Eq.trans ?_ (Kernel9Ideal.Prod.arr' m c).symm
    funext z
    obtain ⟨i, j, rfl⟩ := Ffn.exists_ix2 z
    obtain rfl : i = 0 := Fin.ext (by omega)
    exact (Kernel15Ideal.Prod.ref_gain _ _ j).trans (Ffn.ref_col _ _ _ (Kernel9Ideal.Prod.ru_el _ _ _) j)

end Cert.Proof

end
-- ==== Proof.DhO.lean ====
/-
  UNTRUSTED — the call dh_o: dproj times w_in transposed, accumulated in scratch over four blocks of columns.
-/
module

public import proofs.«01_k».proof.Proof.Accumulate
public import proofs.«01_k».proof.Proof.Gen.Kernel10
public import proofs.«01_k».proof.Proof.Gen.Kernel10Ideal.Value
public import proofs.«01_k».proof.Proof.Gen.Reference10Ideal.Run

@[expose] public section

set_option maxRecDepth 16384

noncomputable section

open Idealize.ShloMosaic Idealize.ShloMosaic.TcCoe

namespace Cert.Kernel10Ideal.Prod

open Kernel10Ideal Kernel10Ideal.Gen Ffn

theorem pay_at (a : Vec Ideal S1024x1024 .bf16) (b : Vec Ideal S1024x1024 .bf16) (r : Fin 1024) (s : Fin 1024) :
    k0_pay1 (F := Ideal) a b (ix2 r s) = ∑ k : Fin 1024, a (ix2 r k) * b (ix2 s k) := by
  pointwise [k0_pay1]

section Cases
variable {F : FTy → Type} [FloatOps F]

theorem sout_A (c : Dev nD) (i a3 h3 a4 h4 a5 h5 a6 h6 hc0 hc1 hc2) (x : Vec F S1024x1024 .bf16) (y : Vec F S1024x1024 .bf16) :
    sout0_A_0 c i a3 h3 a4 h4 a5 h5 a6 h6 hc0 hc1 hc2 x y = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, h6.read_unread, ld0, shapeCast_self]
theorem sout_B (c : Dev nD) (i a3 h3 a4 h4 a5 h5 a6 h6 hc0 hc1 hc2) (x : Vec F S1024x1024 .bf16) (y : Vec F S1024x1024 .bf16) (z : Vec F S1024x1024 .f32) :
    sout0_B_0 c i a3 h3 a4 h4 a5 h5 a6 h6 hc0 hc1 hc2 x y z = addf z (k0_pay1 x y) := by
  unfold sout0_B_0
  rw [View.read_writes_eq_canon]; on_goal 2 => apply scover0_B_0
  unfold kernelRun0_B
  dsimp only
  sl_unfold_words
  rw [View.canon_unit_zero zero2]
  unfold k0_pay3
  simp only [View.readAt_eq_ld, h3.read_unread, h4.read_unread, h6.read_unread, ld0, shapeCast_self]
theorem sout_C (c : Dev nD) (i a3 h3 a4 h4 a5 h5 a6 h6 hc0 hc1 hc2) (x : Vec F S1024x1024 .bf16) (y : Vec F S1024x1024 .bf16) (z : Vec F S1024x1024 .f32) :
    sout0_C_0 c i a3 h3 a4 h4 a5 h5 a6 h6 hc0 hc1 hc2 x y z = addf z (k0_pay1 x y) := by
  unfold sout0_C_0
  rw [View.read_writes_eq_canon]; on_goal 2 => apply scover0_C_0
  unfold kernelRun0_C
  dsimp only
  sl_unfold_words
  rw [View.canon_unit_zero zero2]
  unfold k0_pay3
  simp only [View.readAt_eq_ld, h3.read_unread, h4.read_unread, h6.read_unread, ld0, shapeCast_self]
theorem out_C (c : Dev nD) (i a3 h3 a4 h4 a5 h5 a6 h6 hc0 hc1 hc2) (x : Vec F S1024x1024 .bf16) (y : Vec F S1024x1024 .bf16) (z : Vec F S1024x1024 .f32) :
    out0_C_2 c i a3 h3 a4 h4 a5 h5 a6 h6 hc0 hc1 hc2 x y z = addf z (k0_pay1 x y) := by
  unfold out0_C_2
  rw [View.read_writes_eq_canon]; on_goal 2 => apply cover0_C_2
  unfold kernelRun0_C
  dsimp only
  sl_unfold_words
  rw [View.canon_unit_zero zero2, View.readCov_unit_zero (S := S1024x1024) _ zero2]
  unfold k0_pay3
  simp only [View.readAt_eq_ld, h3.read_unread, h4.read_unread, h6.read_unread, ld0, shapeCast_self]

end Cases

variable (m : (ℓ : Loc nD τ sig) → Buf (Elt Ideal) ℓ)

def A (c : Dev nD) : ℕ → ℕ → EReal := mat (a := 4096) (b := 4096) (m ((c : Thread nD τ).loc main_arg0))
def B (c : Dev nD) : ℕ → ℕ → EReal := mat (a := 1024) (b := 4096) (m ((c : Thread nD τ).loc main_arg1))

theorem ix0 : ∀ t : Fin cfg0.N, win0_0.index t = ![t.val / 4, t.val % 4] := (by decide +kernel : ∀ t : Fin grid0.N, _)
theorem a_blk (c : Dev nD) (t : Fin cfg0.N) (r : Fin 1024) (k : Fin 1024) : iblk m c 0 t (ix2 r k) = A m c (t.val / 4 * 1024 + r.val) (1024 * (t.val % 4) + k.val) := by
  have ht := t.isLt.trans_eq N_0
  unfold A mat
  blk_simp [iblk]
  refine congrArg (m _) ?_
  blk_ext [ix0]
theorem ix1 : ∀ t : Fin cfg0.N, win0_1.index t = ![0, t.val % 4] := (by decide +kernel : ∀ t : Fin grid0.N, _)
theorem b_blk (c : Dev nD) (t : Fin cfg0.N) (s : Fin 1024) (k : Fin 1024) : iblk m c 1 t (ix2 s k) = B m c (s.val) (1024 * (t.val % 4) + k.val) := by
  have ht := t.isLt.trans_eq N_0
  unfold B mat
  blk_simp [iblk]
  refine congrArg (m _) ?_
  blk_ext [ix1]

/-- The product of the blocks at point `t`. -/
theorem pay_blk (c : Dev nD) (t : Fin cfg0.N) (r : Fin 1024) (s : Fin 1024) :
    k0_pay1 (F := Ideal) (iblk m c 0 t) (iblk m c 1 t) (ix2 r s) = ∑ k : Fin 1024, A m c (t.val / 4 * 1024 + r.val) (1024 * (t.val % 4) + k.val) * B m c (s.val) (1024 * (t.val % 4) + k.val) := by
  rw [pay_at]
  refine Finset.sum_congr (M := EReal) rfl fun k _ => ?_
  rw [a_blk, b_blk]

/-- What the scratch holds after point `n`: the product over the blocks so far. -/
theorem s_at (c : Dev nD) (r : Fin 1024) (s : Fin 1024) (n : ℕ) (h : n < cfg0.N) :
    (outsAt0 m c n h).2 (ix2 r s) = dotR (A m c) (B m c) (1024 * (n % 4 + 1)) (n / 4 * 1024 + r.val) (s.val) := by
  refine acc_at 1024 4 _ _ (fun q => q * 1024 + r.val) (fun _ => s.val) (fun n h => (outsAt0 m c n h).2 (ix2 r s)) (fun n h h0 => ?_) (fun n h h0 => ?_) n h
  · have hN := h.trans_eq N_0
    refine Eq.trans ?_ (pay_blk m c ⟨n, h⟩ r s)
    rw [outsAt0_A m c ⟨n, h⟩ h0 (by dsimp only; omega) (by dsimp only; omega)]
    dsimp only
    rw [sout_A]
  · refine Eq.trans ?_ (congrArg (fun x : EReal => _ + x) (pay_blk m c ⟨n, h⟩ r s))
    by_cases h3 : n % 4 = 3
    · rw [outsAt0_C m c ⟨n, h⟩ h0 (by dsimp only; omega) h3]
      dsimp only
      rw [sout_C]
      rfl
    · rw [outsAt0_B m c ⟨n, h⟩ h0 (by dsimp only; omega) h3]
      dsimp only
      rw [sout_B]
      rfl

theorem ixo : ∀ t : Fin cfg0.N, win0_2.index t = ![t.val / 4, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

theorem arr (c : Dev nD) : (dats m 0 c).arrAt 2 cfg0.N = fun z : S4096x1024.Idx => dotR (A m c) (B m c) 4096 (z 0).val (z 1).val := by
  refine (dats m 0 c).arrAt_eq_of_covers 2 _ (by decide +kernel) fun t hf y => ?_
  have ht := t.isLt.trans_eq N_0
  have h3 := last t hf
  blk_simp [ixo]
  rw [after0_2]
  obtain ⟨r, s, rfl⟩ := exists_ix2 y
  refine Eq.trans ?_ ((s_at m c r s t.val t.isLt).trans ?_)
  · rw [outsAt0_C m c t (by omega) (by omega) h3]
    dsimp only
    rw [out_C, sout_C]
  · rw [h3]
    simp [Nat.mul_comm]

/-- The reference's product, as its operations compute it. -/
abbrev refTerm (a : Vec Ideal S4096x4096 .bf16) (b : Vec Ideal S1024x4096 .bf16) : Vec Ideal S4096x1024 .f32 :=
  Host.dotGeneral (F := Ideal) (φ₁ := .f32) (φ₂ := .f32) Reference10Ideal.dot_S4096x4096_S1024x4096_S4096x1024_1_1_0_0_n_n none (extf .f32 a Reference10Ideal.Gen.bitsLt_bf16_f32) (extf .f32 b Reference10Ideal.Gen.bitsLt_bf16_f32)

theorem ref_at (a : Vec Ideal S4096x4096 .bf16) (b : Vec Ideal S1024x4096 .bf16) (r : Fin 4096) (s : Fin 1024) :
    refTerm a b (ix2 r s) = dotR (mat (a := 4096) (b := 4096) a) (mat (a := 1024) (b := 4096) b) 4096 r.val s.val := by
  have h : refTerm a b (ix2 r s) = ∑ k : Fin 4096, a (ix2 r k) * b (ix2 s k) := by
    pointwise [refTerm]
  rw [h, dotR_fin]
  refine Finset.sum_congr rfl fun k _ => ?_
  rw [← mat_val a r k, ← mat_val b s k]

end Cert.Kernel10Ideal.Prod

namespace Cert.Proof

open Idealize.SL.Sem

theorem frame_Kernel10Ideal : quiescent_Kernel10Ideal := fun m ρ _ => Kernel10Ideal.Gen.frame m ρ

theorem frame_Kernel10 : quiescent_Kernel10 := Ffn.transfer (Kernel10Ideal.Gen.frame (F := Bits)) (by sl_kernel_rfl)

theorem frame_Reference10Ideal : quiescent_Reference10Ideal := fun m ρ _ =>
  (θ_run Reference10Ideal.defs _ _).mono (fun r h => ⟨fun c => (h c).2, sem_eq_zero_of_no_sems (by decide) r.2⟩)
    (Reference10Ideal.Value.run (F := Ideal) m ρ)

theorem algebraic10 : algebraic_Kernel10Ideal_Reference10Ideal := by
  intro m g m' g' _ hm
  refine ⟨fun c => (Kernel10Ideal.Gen.dats m 0 c).arrAt 2 Kernel10Ideal.cfg0.N, Kernel10Ideal.Value.run_blocks m g, ?_⟩
  refine (θ_run Reference10Ideal.defs _ _).mono (fun r h c => ⟨(h c).1.trans ?_, (h c).2⟩) (Reference10Ideal.Value.run (F := Ideal) m' g')
  rw [(hm c).1, (hm c).2]
  refine Eq.trans ?_ (Kernel10Ideal.Prod.arr m c).symm
  funext z
  obtain ⟨i, j, rfl⟩ := Ffn.exists_ix2 z
  exact Kernel10Ideal.Prod.ref_at _ _ i j

end Cert.Proof

end
-- ==== Proof.DwInO.lean ====
/-
  UNTRUSTED — the call dw_in_o: h transposed times dproj, accumulated in scratch over four blocks of rows.
-/
module

public import proofs.«01_k».proof.Proof.Accumulate
public import proofs.«01_k».proof.Proof.Gen.Kernel11
public import proofs.«01_k».proof.Proof.Gen.Kernel11Ideal.Value
public import proofs.«01_k».proof.Proof.Gen.Reference11Ideal.Run

@[expose] public section

set_option maxRecDepth 16384

noncomputable section

open Idealize.ShloMosaic Idealize.ShloMosaic.TcCoe

namespace Cert.Kernel11Ideal.Prod

open Kernel11Ideal Kernel11Ideal.Gen Ffn

theorem pay_at (a : Vec Ideal S1024x1024 .bf16) (b : Vec Ideal S1024x1024 .bf16) (r : Fin 1024) (s : Fin 1024) :
    k0_pay1 (F := Ideal) a b (ix2 r s) = ∑ k : Fin 1024, a (ix2 k r) * b (ix2 k s) := by
  pointwise [k0_pay1]

section Cases
variable {F : FTy → Type} [FloatOps F]

theorem sout_A (c : Dev nD) (i a3 h3 a4 h4 a5 h5 a6 h6 hc0 hc1 hc2) (x : Vec F S1024x1024 .bf16) (y : Vec F S1024x1024 .bf16) :
    sout0_A_0 c i a3 h3 a4 h4 a5 h5 a6 h6 hc0 hc1 hc2 x y = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, h6.read_unread, ld0, shapeCast_self]
theorem sout_B (c : Dev nD) (i a3 h3 a4 h4 a5 h5 a6 h6 hc0 hc1 hc2) (x : Vec F S1024x1024 .bf16) (y : Vec F S1024x1024 .bf16) (z : Vec F S1024x1024 .f32) :
    sout0_B_0 c i a3 h3 a4 h4 a5 h5 a6 h6 hc0 hc1 hc2 x y z = addf z (k0_pay1 x y) := by
  unfold sout0_B_0
  rw [View.read_writes_eq_canon]; on_goal 2 => apply scover0_B_0
  unfold kernelRun0_B
  dsimp only
  sl_unfold_words
  rw [View.canon_unit_zero zero2]
  unfold k0_pay3
  simp only [View.readAt_eq_ld, h3.read_unread, h4.read_unread, h6.read_unread, ld0, shapeCast_self]
theorem sout_C (c : Dev nD) (i a3 h3 a4 h4 a5 h5 a6 h6 hc0 hc1 hc2) (x : Vec F S1024x1024 .bf16) (y : Vec F S1024x1024 .bf16) (z : Vec F S1024x1024 .f32) :
    sout0_C_0 c i a3 h3 a4 h4 a5 h5 a6 h6 hc0 hc1 hc2 x y z = addf z (k0_pay1 x y) := by
  unfold sout0_C_0
  rw [View.read_writes_eq_canon]; on_goal 2 => apply scover0_C_0
  unfold kernelRun0_C
  dsimp only
  sl_unfold_words
  rw [View.canon_unit_zero zero2]
  unfold k0_pay3
  simp only [View.readAt_eq_ld, h3.read_unread, h4.read_unread, h6.read_unread, ld0, shapeCast_self]
theorem out_C (c : Dev nD) (i a3 h3 a4 h4 a5 h5 a6 h6 hc0 hc1 hc2) (x : Vec F S1024x1024 .bf16) (y : Vec F S1024x1024 .bf16) (z : Vec F S1024x1024 .f32) :
    out0_C_2 c i a3 h3 a4 h4 a5 h5 a6 h6 hc0 hc1 hc2 x y z = addf z (k0_pay1 x y) := by
  unfold out0_C_2
  rw [View.read_writes_eq_canon]; on_goal 2 => apply cover0_C_2
  unfold kernelRun0_C
  dsimp only
  sl_unfold_words
  rw [View.canon_unit_zero zero2, View.readCov_unit_zero (S := S1024x1024) _ zero2]
  unfold k0_pay3
  simp only [View.readAt_eq_ld, h3.read_unread, h4.read_unread, h6.read_unread, ld0, shapeCast_self]

end Cases

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 4096) (b := 4096) (m ((c : Thread nD τ).loc main_arg1))

theorem ix0 : ∀ t : Fin cfg0.N, win0_0.index t = ![t.val % 4, 0] := (by decide +kernel : ∀ t : Fin grid0.N, _)
theorem a_blk (c : Dev nD) (t : Fin cfg0.N) (r : Fin 1024) (k : Fin 1024) : iblk m c 0 t (ix2 k r) = A m c (1024 * (t.val % 4) + k.val) (r.val) := by
  have ht := t.isLt.trans_eq N_0
  unfold A mat
  blk_simp [iblk]
  refine congrArg (m _) ?_
  blk_ext [ix0]
theorem ix1 : ∀ t : Fin cfg0.N, win0_1.index t = ![t.val % 4, t.val / 4] := (by decide +kernel : ∀ t : Fin grid0.N, _)
theorem b_blk (c : Dev nD) (t : Fin cfg0.N) (s : Fin 1024) (k : Fin 1024) : iblk m c 1 t (ix2 k s) = B m c (1024 * (t.val % 4) + k.val) (t.val / 4 * 1024 + s.val) := by
  have ht := t.isLt.trans_eq N_0
  unfold B mat
  blk_simp [iblk]
  refine congrArg (m _) ?_
  blk_ext [ix1]

/-- The product of the blocks at point `t`. -/
theorem pay_blk (c : Dev nD) (t : Fin cfg0.N) (r : Fin 1024) (s : Fin 1024) :
    k0_pay1 (F := Ideal) (iblk m c 0 t) (iblk m c 1 t) (ix2 r s) = ∑ k : Fin 1024, A m c (1024 * (t.val % 4) + k.val) (r.val) * B m c (1024 * (t.val % 4) + k.val) (t.val / 4 * 1024 + s.val) := by
  rw [pay_at]
  refine Finset.sum_congr (M := EReal) rfl fun k _ => ?_
  rw [a_blk, b_blk]

/-- What the scratch holds after point `n`: the product over the blocks so far. -/
theorem s_at (c : Dev nD) (r : Fin 1024) (s : Fin 1024) (n : ℕ) (h : n < cfg0.N) :
    (outsAt0 m c n h).2 (ix2 r s) = dotR (fun i k => A m c k i) (fun i k => B m c k i) (1024 * (n % 4 + 1)) (r.val) (n / 4 * 1024 + s.val) := by
  refine acc_at 1024 4 _ _ (fun _ => r.val) (fun q => q * 1024 + s.val) (fun n h => (outsAt0 m c n h).2 (ix2 r s)) (fun n h h0 => ?_) (fun n h h0 => ?_) n h
  · have hN := h.trans_eq N_0
    refine Eq.trans ?_ (pay_blk m c ⟨n, h⟩ r s)
    rw [outsAt0_A m c ⟨n, h⟩ h0 (by dsimp only; omega) (by dsimp only; omega)]
    dsimp only
    rw [sout_A]
  · refine Eq.trans ?_ (congrArg (fun x : EReal => _ + x) (pay_blk m c ⟨n, h⟩ r s))
    by_cases h3 : n % 4 = 3
    · rw [outsAt0_C m c ⟨n, h⟩ h0 (by dsimp only; omega) h3]
      dsimp only
      rw [sout_C]
      rfl
    · rw [outsAt0_B m c ⟨n, h⟩ h0 (by dsimp only; omega) h3]
      dsimp only
      rw [sout_B]
      rfl

theorem ixo : ∀ t : Fin cfg0.N, win0_2.index t = ![0, t.val / 4] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

theorem arr (c : Dev nD) : (dats m 0 c).arrAt 2 cfg0.N = fun z : S1024x4096.Idx => dotR (fun i k => A m c k i) (fun i k => B m c k i) 4096 (z 0).val (z 1).val := by
  refine (dats m 0 c).arrAt_eq_of_covers 2 _ (by decide +kernel) fun t hf y => ?_
  have ht := t.isLt.trans_eq N_0
  have h3 := last t hf
  blk_simp [ixo]
  rw [after0_2]
  obtain ⟨r, s, rfl⟩ := exists_ix2 y
  refine Eq.trans ?_ ((s_at m c r s t.val t.isLt).trans ?_)
  · rw [outsAt0_C m c t (by omega) (by omega) h3]
    dsimp only
    rw [out_C, sout_C]
  · rw [h3]
    simp [Nat.mul_comm]

/-- The reference's product, as its operations compute it. -/
abbrev refTerm (a : Vec Ideal S4096x1024 .bf16) (b : Vec Ideal S4096x4096 .bf16) : Vec Ideal S1024x4096 .f32 :=
  transpose S1024x4096 [1, 0] (Host.dotGeneral (F := Ideal) (φ₁ := .f32) (φ₂ := .f32) Reference11Ideal.dot_S4096x4096_S4096x1024_S4096x1024_0_0_1_1_n_n none (extf .f32 b Reference11Ideal.Gen.bitsLt_bf16_f32) (extf .f32 a Reference11Ideal.Gen.bitsLt_bf16_f32)) Reference11Ideal.Gen.transposes_S4096x1024_S1024x4096_1_0

theorem ref_at (a : Vec Ideal S4096x1024 .bf16) (b : Vec Ideal S4096x4096 .bf16) (r : Fin 1024) (s : Fin 4096) :
    refTerm a b (ix2 r s) = dotR (fun k i => mat (a := 4096) (b := 1024) a i k) (fun k i => mat (a := 4096) (b := 4096) b i k) 4096 r.val s.val := by
  have h : refTerm a b (ix2 r s) = ∑ k : Fin 4096, b (ix2 k s) * a (ix2 k r) := by
    pointwise [refTerm]
  rw [h, dotR_fin]
  refine Finset.sum_congr rfl fun k _ => ?_
  rw [← mat_val a k r, ← mat_val b k s, mul_comm]

end Cert.Kernel11Ideal.Prod

namespace Cert.Proof

open Idealize.SL.Sem

theorem frame_Kernel11Ideal : quiescent_Kernel11Ideal := fun m ρ _ => Kernel11Ideal.Gen.frame m ρ

theorem frame_Kernel11 : quiescent_Kernel11 := Ffn.transfer (Kernel11Ideal.Gen.frame (F := Bits)) (by sl_kernel_rfl)

theorem frame_Reference11Ideal : quiescent_Reference11Ideal := fun m ρ _ =>
  (θ_run Reference11Ideal.defs _ _).mono (fun r h => ⟨fun c => (h c).2, sem_eq_zero_of_no_sems (by decide) r.2⟩)
    (Reference11Ideal.Value.run (F := Ideal) m ρ)

theorem algebraic11 : algebraic_Kernel11Ideal_Reference11Ideal := by
  intro m g m' g' _ hm
  refine ⟨fun c => (Kernel11Ideal.Gen.dats m 0 c).arrAt 2 Kernel11Ideal.cfg0.N, Kernel11Ideal.Value.run_blocks m g, ?_⟩
  refine (θ_run Reference11Ideal.defs _ _).mono (fun r h c => ⟨(h c).1.trans ?_, (h c).2⟩) (Reference11Ideal.Value.run (F := Ideal) m' g')
  rw [(hm c).1, (hm c).2]
  refine Eq.trans ?_ (Kernel11Ideal.Prod.arr m c).symm
  funext z
  obtain ⟨i, j, rfl⟩ := Ffn.exists_ix2 z
  exact Kernel11Ideal.Prod.ref_at _ _ i j

end Cert.Proof

end
-- ==== Proof.DwOut.lean ====
/-
  UNTRUSTED — the calls dw_out_o and dw_out_e: y transposed times dx, accumulated in scratch over four blocks of rows.
-/
module

public import proofs.«01_k».proof.Proof.Accumulate
public import proofs.«01_k».proof.Proof.Gen.Kernel12
public import proofs.«01_k».proof.Proof.Gen.Kernel12Ideal.Value
public import proofs.«01_k».proof.Proof.Gen.Reference12Ideal.Run

@[expose] public section

set_option maxRecDepth 16384

noncomputable section

open Idealize.ShloMosaic Idealize.ShloMosaic.TcCoe

namespace Cert.Kernel12Ideal.Prod

open Kernel12Ideal Kernel12Ideal.Gen Ffn

theorem pay_at (a : Vec Ideal S1024x1024 .bf16) (b : Vec Ideal S1024x1024 .f32) (r : Fin 1024) (s : Fin 1024) :
    k0_pay1 (F := Ideal) a b (ix2 r s) = ∑ k : Fin 1024, a (ix2 k r) * b (ix2 k s) := by
  pointwise [k0_pay1]

section Cases
variable {F : FTy → Type} [FloatOps F]

theorem sout_A (c : Dev nD) (i a3 h3 a4 h4 a5 h5 a6 h6 hc0 hc1 hc2) (x : Vec F S1024x1024 .bf16) (y : Vec F S1024x1024 .f32) :
    sout0_A_0 c i a3 h3 a4 h4 a5 h5 a6 h6 hc0 hc1 hc2 x y = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, h6.read_unread, ld0, shapeCast_self]
theorem sout_B (c : Dev nD) (i a3 h3 a4 h4 a5 h5 a6 h6 hc0 hc1 hc2) (x : Vec F S1024x1024 .bf16) (y : Vec F S1024x1024 .f32) (z : Vec F S1024x1024 .f32) :
    sout0_B_0 c i a3 h3 a4 h4 a5 h5 a6 h6 hc0 hc1 hc2 x y z = addf z (k0_pay1 x y) := by
  unfold sout0_B_0
  rw [View.read_writes_eq_canon]; on_goal 2 => apply scover0_B_0
  unfold kernelRun0_B
  dsimp only
  sl_unfold_words
  rw [View.canon_unit_zero zero2]
  unfold k0_pay3
  simp only [View.readAt_eq_ld, h3.read_unread, h4.read_unread, h6.read_unread, ld0, shapeCast_self]
theorem sout_C (c : Dev nD) (i a3 h3 a4 h4 a5 h5 a6 h6 hc0 hc1 hc2) (x : Vec F S1024x1024 .bf16) (y : Vec F S1024x1024 .f32) (z : Vec F S1024x1024 .f32) :
    sout0_C_0 c i a3 h3 a4 h4 a5 h5 a6 h6 hc0 hc1 hc2 x y z = addf z (k0_pay1 x y) := by
  unfold sout0_C_0
  rw [View.read_writes_eq_canon]; on_goal 2 => apply scover0_C_0
  unfold kernelRun0_C
  dsimp only
  sl_unfold_words
  rw [View.canon_unit_zero zero2]
  unfold k0_pay3
  simp only [View.readAt_eq_ld, h3.read_unread, h4.read_unread, h6.read_unread, ld0, shapeCast_self]
theorem out_C (c : Dev nD) (i a3 h3 a4 h4 a5 h5 a6 h6 hc0 hc1 hc2) (x : Vec F S1024x1024 .bf16) (y : Vec F S1024x1024 .f32) (z : Vec F S1024x1024 .f32) :
    out0_C_2 c i a3 h3 a4 h4 a5 h5 a6 h6 hc0 hc1 hc2 x y z = addf z (k0_pay1 x y) := by
  unfold out0_C_2
  rw [View.read_writes_eq_canon]; on_goal 2 => apply cover0_C_2
  unfold kernelRun0_C
  dsimp only
  sl_unfold_words
  rw [View.canon_unit_zero zero2, View.readCov_unit_zero (S := S1024x1024) _ zero2]
  unfold k0_pay3
  simp only [View.readAt_eq_ld, h3.read_unread, h4.read_unread, h6.read_unread, ld0, shapeCast_self]

end Cases

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 4096) (b := 1024) (m ((c : Thread nD τ).loc main_arg1))

theorem ix0 : ∀ t : Fin cfg0.N, win0_0.index t = ![t.val % 4, 0] := (by decide +kernel : ∀ t : Fin grid0.N, _)
theorem a_blk (c : Dev nD) (t : Fin cfg0.N) (r : Fin 1024) (k : Fin 1024) : iblk m c 0 t (ix2 k r) = A m c (1024 * (t.val % 4) + k.val) (r.val) := by
  have ht := t.isLt.trans_eq N_0
  unfold A mat
  blk_simp [iblk]
  refine congrArg (m _) ?_
  blk_ext [ix0]
theorem ix1 : ∀ t : Fin cfg0.N, win0_1.index t = ![t.val % 4, 0] := (by decide +kernel : ∀ t : Fin grid0.N, _)
theorem b_blk (c : Dev nD) (t : Fin cfg0.N) (s : Fin 1024) (k : Fin 1024) : iblk m c 1 t (ix2 k s) = B m c (1024 * (t.val % 4) + k.val) (s.val) := by
  have ht := t.isLt.trans_eq N_0
  unfold B mat
  blk_simp [iblk]
  refine congrArg (m _) ?_
  blk_ext [ix1]

/-- The product of the blocks at point `t`. -/
theorem pay_blk (c : Dev nD) (t : Fin cfg0.N) (r : Fin 1024) (s : Fin 1024) :
    k0_pay1 (F := Ideal) (iblk m c 0 t) (iblk m c 1 t) (ix2 r s) = ∑ k : Fin 1024, A m c (1024 * (t.val % 4) + k.val) (r.val) * B m c (1024 * (t.val % 4) + k.val) (s.val) := by
  rw [pay_at]
  refine Finset.sum_congr (M := EReal) rfl fun k _ => ?_
  rw [a_blk, b_blk]

/-- What the scratch holds after point `n`: the product over the blocks so far. -/
theorem s_at (c : Dev nD) (r : Fin 1024) (s : Fin 1024) (n : ℕ) (h : n < cfg0.N) :
    (outsAt0 m c n h).2 (ix2 r s) = dotR (fun i k => A m c k i) (fun i k => B m c k i) (1024 * (n % 4 + 1)) (r.val) (s.val) := by
  refine acc_at 1024 4 _ _ (fun _ => r.val) (fun _ => s.val) (fun n h => (outsAt0 m c n h).2 (ix2 r s)) (fun n h h0 => ?_) (fun n h h0 => ?_) n h
  · have hN := h.trans_eq N_0
    refine Eq.trans ?_ (pay_blk m c ⟨n, h⟩ r s)
    rw [outsAt0_A m c ⟨n, h⟩ h0 (by dsimp only; omega) (by dsimp only; omega)]
    dsimp only
    rw [sout_A]
  · refine Eq.trans ?_ (congrArg (fun x : EReal => _ + x) (pay_blk m c ⟨n, h⟩ r s))
    by_cases h3 : n % 4 = 3
    · rw [outsAt0_C m c ⟨n, h⟩ h0 (by dsimp only; omega) h3]
      dsimp only
      rw [sout_C]
      rfl
    · rw [outsAt0_B m c ⟨n, h⟩ h0 (by dsimp only; omega) h3]
      dsimp only
      rw [sout_B]
      rfl

theorem ixo : ∀ t : Fin cfg0.N, win0_2.index t = ![0, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

theorem arr (c : Dev nD) : (dats m 0 c).arrAt 2 cfg0.N = fun z : S1024x1024.Idx => dotR (fun i k => A m c k i) (fun i k => B m c k i) 4096 (z 0).val (z 1).val := by
  refine (dats m 0 c).arrAt_eq_of_covers 2 _ (by decide +kernel) fun t hf y => ?_
  have ht := t.isLt.trans_eq N_0
  have h3 := last t hf
  blk_simp [ixo]
  rw [after0_2]
  obtain ⟨r, s, rfl⟩ := exists_ix2 y
  refine Eq.trans ?_ ((s_at m c r s t.val t.isLt).trans ?_)
  · rw [outsAt0_C m c t (by omega) (by omega) h3]
    dsimp only
    rw [out_C, sout_C]
  · rw [h3]
    rfl

/-- The reference's product, as its operations compute it. -/
abbrev refTerm (a : Vec Ideal S4096x1024 .bf16) (b : Vec Ideal S4096x1024 .f32) : Vec Ideal S1024x1024 .f32 :=
  transpose S1024x1024 [1, 0] (Host.dotGeneral (F := Ideal) (φ₁ := .f32) (φ₂ := .f32) Reference12Ideal.dot_S4096x1024_S4096x1024_S1024x1024_0_0_1_1_n_n none b (extf .f32 a Reference12Ideal.Gen.bitsLt_bf16_f32)) Reference12Ideal.Gen.transposes_S1024x1024_S1024x1024_1_0

theorem ref_at (a : Vec Ideal S4096x1024 .bf16) (b : Vec Ideal S4096x1024 .f32) (r : Fin 1024) (s : Fin 1024) :
    refTerm a b (ix2 r s) = dotR (fun k i => mat (a := 4096) (b := 1024) a i k) (fun k i => mat (a := 4096) (b := 1024) b i k) 4096 r.val s.val := by
  have h : refTerm a b (ix2 r s) = ∑ k : Fin 4096, b (ix2 k s) * a (ix2 k r) := by
    pointwise [refTerm]
  rw [h, dotR_fin]
  refine Finset.sum_congr rfl fun k _ => ?_
  rw [← mat_val a k r, ← mat_val b k s, mul_comm]

end Cert.Kernel12Ideal.Prod

namespace Cert.Proof

open Idealize.SL.Sem

theorem frame_Kernel12Ideal : quiescent_Kernel12Ideal := fun m ρ _ => Kernel12Ideal.Gen.frame m ρ

theorem frame_Kernel12 : quiescent_Kernel12 := Ffn.transfer (Kernel12Ideal.Gen.frame (F := Bits)) (by sl_kernel_rfl)

theorem frame_Reference12Ideal : quiescent_Reference12Ideal := fun m ρ _ =>
  (θ_run Reference12Ideal.defs _ _).mono (fun r h => ⟨fun c => (h c).2, sem_eq_zero_of_no_sems (by decide) r.2⟩)
    (Reference12Ideal.Value.run (F := Ideal) m ρ)

theorem algebraic12 : algebraic_Kernel12Ideal_Reference12Ideal := by
  intro m g m' g' _ hm
  refine ⟨fun c => (Kernel12Ideal.Gen.dats m 0 c).arrAt 2 Kernel12Ideal.cfg0.N, Kernel12Ideal.Value.run_blocks m g, ?_⟩
  refine (θ_run Reference12Ideal.defs _ _).mono (fun r h c => ⟨(h c).1.trans ?_, (h c).2⟩) (Reference12Ideal.Value.run (F := Ideal) m' g')
  rw [(hm c).1, (hm c).2]
  refine Eq.trans ?_ (Kernel12Ideal.Prod.arr m c).symm
  funext z
  obtain ⟨i, j, rfl⟩ := Ffn.exists_ix2 z
  exact Kernel12Ideal.Prod.ref_at _ _ i j

end Cert.Proof

end
-- ==== Proof.DyO.lean ====
/-
  UNTRUSTED — the calls dy_o and dmix_e: every block of rows of dx against w_out transposed.
-/
module

public import proofs.«01_k».proof.Proof.Mat
public import proofs.«01_k».proof.Proof.Gen.Kernel13
public import proofs.«01_k».proof.Proof.Gen.Kernel13Ideal.Value
public import proofs.«01_k».proof.Proof.Gen.Reference13Ideal.Run

@[expose] public section

set_option maxRecDepth 16384

noncomputable section

open Idealize.ShloMosaic Idealize.ShloMosaic.TcCoe

namespace Cert.Kernel13Ideal.Prod

open Kernel13Ideal Kernel13Ideal.Gen Ffn

theorem pay_at (a : Vec Ideal S1024x1024 .f32) (b : Vec Ideal S1024x1024 .bf16) (r : Fin 1024) (s : Fin 1024) :
    k0_pay1 (F := Ideal) a b (ix2 r s) = ∑ k : Fin 1024, a (ix2 r k) * b (ix2 s k) := by
  pointwise [k0_pay1]

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 1024) (b := 1024) (m ((c : Thread nD τ).loc main_arg1))

theorem ix0 : ∀ t : Fin cfg0.N, win0_0.index t = ![t.val, 0] := (by decide +kernel : ∀ t : Fin grid0.N, _)
theorem a_blk (c : Dev nD) (t : Fin cfg0.N) (r : Fin 1024) (k : Fin 1024) : iblk m c 0 t (ix2 r k) = A m c (t.val * 1024 + r.val) (k.val) := by
  have ht := t.isLt.trans_eq N_0
  unfold A mat
  blk_simp [iblk]
  refine congrArg (m _) ?_
  blk_ext [ix0]
theorem ix1 : ∀ t : Fin cfg0.N, win0_1.index t = ![0, 0] := (by decide +kernel : ∀ t : Fin grid0.N, _)
theorem b_blk (c : Dev nD) (t : Fin cfg0.N) (s : Fin 1024) (k : Fin 1024) : iblk m c 1 t (ix2 s k) = B m c (s.val) (k.val) := by
  have ht := t.isLt.trans_eq N_0
  unfold B mat
  blk_simp [iblk]
  refine congrArg (m _) ?_
  blk_ext [ix1]

theorem ixo : ∀ t : Fin cfg0.N, win0_2.index t = ![t.val, 0] := (by decide +kernel : ∀ t : Fin grid0.N, _)

theorem arr (c : Dev nD) : (dats m 0 c).arrAt 2 cfg0.N = fun z : S4096x1024.Idx => dotR (A m c) (B m c) 1024 (z 0).val (z 1).val := by
  refine (dats m 0 c).arrAt_eq_of_covers 2 _ (by decide +kernel) fun t hf y => ?_
  have ht := t.isLt.trans_eq N_0
  blk_simp [ixo]
  rw [after0_2]
  unfold out0_2
  rw [View.canon_unit_zero zero2, ld0, ld0]
  obtain ⟨r, s, rfl⟩ := exists_ix2 y
  rw [pay_at, dotR_fin]
  refine Finset.sum_congr (M := EReal) rfl fun k _ => ?_
  rw [a_blk, b_blk]
  simp

/-- The reference's product, as its operations compute it. -/
abbrev refTerm (a : Vec Ideal S4096x1024 .f32) (b : Vec Ideal S1024x1024 .bf16) : Vec Ideal S4096x1024 .f32 :=
  Host.dotGeneral (F := Ideal) (φ₁ := .f32) (φ₂ := .f32) Reference13Ideal.dot_S4096x1024_S1024x1024_S4096x1024_1_1_0_0_n_n none a (extf .f32 b Reference13Ideal.Gen.bitsLt_bf16_f32)

theorem ref_at (a : Vec Ideal S4096x1024 .f32) (b : Vec Ideal S1024x1024 .bf16) (r : Fin 4096) (s : Fin 1024) :
    refTerm a b (ix2 r s) = dotR (mat (a := 4096) (b := 1024) a) (mat (a := 1024) (b := 1024) b) 1024 r.val s.val := by
  have h : refTerm a b (ix2 r s) = ∑ k : Fin 1024, a (ix2 r k) * b (ix2 s k) := by
    pointwise [refTerm]
  rw [h, dotR_fin]
  refine Finset.sum_congr rfl fun k _ => ?_
  rw [← mat_val a r k, ← mat_val b s k]

end Cert.Kernel13Ideal.Prod

namespace Cert.Proof

open Idealize.SL.Sem

theorem frame_Kernel13Ideal : quiescent_Kernel13Ideal := fun m ρ _ => Kernel13Ideal.Gen.frame m ρ

theorem frame_Kernel13 : quiescent_Kernel13 := Ffn.transfer (Kernel13Ideal.Gen.frame (F := Bits)) (by sl_kernel_rfl)

theorem frame_Reference13Ideal : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)

theorem algebraic13 : algebraic_Kernel13Ideal_Reference13Ideal := by
  intro m g m' g' _ hm
  refine ⟨fun c => (Kernel13Ideal.Gen.dats m 0 c).arrAt 2 Kernel13Ideal.cfg0.N, Kernel13Ideal.Value.run_blocks m g, ?_⟩
  refine (θ_run Reference13Ideal.defs _ _).mono (fun r h c => ⟨(h c).1.trans ?_, (h c).2⟩) (Reference13Ideal.Value.run (F := Ideal) m' g')
  rw [(hm c).1, (hm c).2]
  refine Eq.trans ?_ (Kernel13Ideal.Prod.arr m c).symm
  funext z
  obtain ⟨i, j, rfl⟩ := Ffn.exists_ix2 z
  exact Kernel13Ideal.Prod.ref_at _ _ i j

end Cert.Proof

end
-- ==== Proof.PleDwGate.lean ====
/-
  UNTRUSTED — the call ple_dwgate: hn transposed times dgl, accumulated in scratch over four blocks of rows.
-/
module

public import proofs.«01_k».proof.Proof.Accumulate
public import proofs.«01_k».proof.Proof.Gen.Kernel14
public import proofs.«01_k».proof.Proof.Gen.Kernel14Ideal.Value
public import proofs.«01_k».proof.Proof.Gen.Reference14Ideal.Run

@[expose] public section

set_option maxRecDepth 16384

noncomputable section

open Idealize.ShloMosaic Idealize.ShloMosaic.TcCoe

namespace Cert.Kernel14Ideal.Prod

open Kernel14Ideal Kernel14Ideal.Gen Ffn

theorem pay_at (a : Vec Ideal S1024x1024 .bf16) (b : Vec Ideal S1024x1024 .bf16) (r : Fin 1024) (s : Fin 1024) :
    k0_pay1 (F := Ideal) a b (ix2 r s) = ∑ k : Fin 1024, a (ix2 k r) * b (ix2 k s) := by
  pointwise [k0_pay1]

section Cases
variable {F : FTy → Type} [FloatOps F]

theorem sout_A (c : Dev nD) (i a3 h3 a4 h4 a5 h5 a6 h6 hc0 hc1 hc2) (x : Vec F S1024x1024 .bf16) (y : Vec F S1024x1024 .bf16) :
    sout0_A_0 c i a3 h3 a4 h4 a5 h5 a6 h6 hc0 hc1 hc2 x y = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, h6.read_unread, ld0, shapeCast_self]
theorem sout_B (c : Dev nD) (i a3 h3 a4 h4 a5 h5 a6 h6 hc0 hc1 hc2) (x : Vec F S1024x1024 .bf16) (y : Vec F S1024x1024 .bf16) (z : Vec F S1024x1024 .f32) :
    sout0_B_0 c i a3 h3 a4 h4 a5 h5 a6 h6 hc0 hc1 hc2 x y z = addf z (k0_pay1 x y) := by
  unfold sout0_B_0
  rw [View.read_writes_eq_canon]; on_goal 2 => apply scover0_B_0
  unfold kernelRun0_B
  dsimp only
  sl_unfold_words
  rw [View.canon_unit_zero zero2]
  unfold k0_pay3
  simp only [View.readAt_eq_ld, h3.read_unread, h4.read_unread, h6.read_unread, ld0, shapeCast_self]
theorem sout_C (c : Dev nD) (i a3 h3 a4 h4 a5 h5 a6 h6 hc0 hc1 hc2) (x : Vec F S1024x1024 .bf16) (y : Vec F S1024x1024 .bf16) (z : Vec F S1024x1024 .f32) :
    sout0_C_0 c i a3 h3 a4 h4 a5 h5 a6 h6 hc0 hc1 hc2 x y z = addf z (k0_pay1 x y) := by
  unfold sout0_C_0
  rw [View.read_writes_eq_canon]; on_goal 2 => apply scover0_C_0
  unfold kernelRun0_C
  dsimp only
  sl_unfold_words
  rw [View.canon_unit_zero zero2]
  unfold k0_pay3
  simp only [View.readAt_eq_ld, h3.read_unread, h4.read_unread, h6.read_unread, ld0, shapeCast_self]
theorem out_C (c : Dev nD) (i a3 h3 a4 h4 a5 h5 a6 h6 hc0 hc1 hc2) (x : Vec F S1024x1024 .bf16) (y : Vec F S1024x1024 .bf16) (z : Vec F S1024x1024 .f32) :
    out0_C_2 c i a3 h3 a4 h4 a5 h5 a6 h6 hc0 hc1 hc2 x y z = addf z (k0_pay1 x y) := by
  unfold out0_C_2
  rw [View.read_writes_eq_canon]; on_goal 2 => apply cover0_C_2
  unfold kernelRun0_C
  dsimp only
  sl_unfold_words
  rw [View.canon_unit_zero zero2, View.readCov_unit_zero (S := S1024x1024) _ zero2]
  unfold k0_pay3
  simp only [View.readAt_eq_ld, h3.read_unread, h4.read_unread, h6.read_unread, ld0, shapeCast_self]

end Cases

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 4096) (b := 1024) (m ((c : Thread nD τ).loc main_arg1))

theorem ix0 : ∀ t : Fin cfg0.N, win0_0.index t = ![t.val % 4, 0] := (by decide +kernel : ∀ t : Fin grid0.N, _)
theorem a_blk (c : Dev nD) (t : Fin cfg0.N) (r : Fin 1024) (k : Fin 1024) : iblk m c 0 t (ix2 k r) = A m c (1024 * (t.val % 4) + k.val) (r.val) := by
  have ht := t.isLt.trans_eq N_0
  unfold A mat
  blk_simp [iblk]
  refine congrArg (m _) ?_
  blk_ext [ix0]
theorem ix1 : ∀ t : Fin cfg0.N, win0_1.index t = ![t.val % 4, 0] := (by decide +kernel : ∀ t : Fin grid0.N, _)
theorem b_blk (c : Dev nD) (t : Fin cfg0.N) (s : Fin 1024) (k : Fin 1024) : iblk m c 1 t (ix2 k s) = B m c (1024 * (t.val % 4) + k.val) (s.val) := by
  have ht := t.isLt.trans_eq N_0
  unfold B mat
  blk_simp [iblk]
  refine congrArg (m _) ?_
  blk_ext [ix1]

/-- The product of the blocks at point `t`. -/
theorem pay_blk (c : Dev nD) (t : Fin cfg0.N) (r : Fin 1024) (s : Fin 1024) :
    k0_pay1 (F := Ideal) (iblk m c 0 t) (iblk m c 1 t) (ix2 r s) = ∑ k : Fin 1024, A m c (1024 * (t.val % 4) + k.val) (r.val) * B m c (1024 * (t.val % 4) + k.val) (s.val) := by
  rw [pay_at]
  refine Finset.sum_congr (M := EReal) rfl fun k _ => ?_
  rw [a_blk, b_blk]

/-- What the scratch holds after point `n`: the product over the blocks so far. -/
theorem s_at (c : Dev nD) (r : Fin 1024) (s : Fin 1024) (n : ℕ) (h : n < cfg0.N) :
    (outsAt0 m c n h).2 (ix2 r s) = dotR (fun i k => A m c k i) (fun i k => B m c k i) (1024 * (n % 4 + 1)) (r.val) (s.val) := by
  refine acc_at 1024 4 _ _ (fun _ => r.val) (fun _ => s.val) (fun n h => (outsAt0 m c n h).2 (ix2 r s)) (fun n h h0 => ?_) (fun n h h0 => ?_) n h
  · have hN := h.trans_eq N_0
    refine Eq.trans ?_ (pay_blk m c ⟨n, h⟩ r s)
    rw [outsAt0_A m c ⟨n, h⟩ h0 (by dsimp only; omega) (by dsimp only; omega)]
    dsimp only
    rw [sout_A]
  · refine Eq.trans ?_ (congrArg (fun x : EReal => _ + x) (pay_blk m c ⟨n, h⟩ r s))
    by_cases h3 : n % 4 = 3
    · rw [outsAt0_C m c ⟨n, h⟩ h0 (by dsimp only; omega) h3]
      dsimp only
      rw [sout_C]
      rfl
    · rw [outsAt0_B m c ⟨n, h⟩ h0 (by dsimp only; omega) h3]
      dsimp only
      rw [sout_B]
      rfl

theorem ixo : ∀ t : Fin cfg0.N, win0_2.index t = ![0, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

theorem arr (c : Dev nD) : (dats m 0 c).arrAt 2 cfg0.N = fun z : S1024x1024.Idx => dotR (fun i k => A m c k i) (fun i k => B m c k i) 4096 (z 0).val (z 1).val := by
  refine (dats m 0 c).arrAt_eq_of_covers 2 _ (by decide +kernel) fun t hf y => ?_
  have ht := t.isLt.trans_eq N_0
  have h3 := last t hf
  blk_simp [ixo]
  rw [after0_2]
  obtain ⟨r, s, rfl⟩ := exists_ix2 y
  refine Eq.trans ?_ ((s_at m c r s t.val t.isLt).trans ?_)
  · rw [outsAt0_C m c t (by omega) (by omega) h3]
    dsimp only
    rw [out_C, sout_C]
  · rw [h3]
    rfl

/-- The reference's product, as its operations compute it. -/
abbrev refTerm (a : Vec Ideal S4096x1024 .bf16) (b : Vec Ideal S4096x1024 .bf16) : Vec Ideal S1024x1024 .f32 :=
  transpose S1024x1024 [1, 0] (Host.dotGeneral (F := Ideal) (φ₁ := .f32) (φ₂ := .f32) Reference14Ideal.dot_S4096x1024_S4096x1024_S1024x1024_0_0_1_1_n_n none (extf .f32 b Reference14Ideal.Gen.bitsLt_bf16_f32) (extf .f32 a Reference14Ideal.Gen.bitsLt_bf16_f32)) Reference14Ideal.Gen.transposes_S1024x1024_S1024x1024_1_0

theorem ref_at (a : Vec Ideal S4096x1024 .bf16) (b : Vec Ideal S4096x1024 .bf16) (r : Fin 1024) (s : Fin 1024) :
    refTerm a b (ix2 r s) = dotR (fun k i => mat (a := 4096) (b := 1024) a i k) (fun k i => mat (a := 4096) (b := 1024) b i k) 4096 r.val s.val := by
  have h : refTerm a b (ix2 r s) = ∑ k : Fin 4096, b (ix2 k s) * a (ix2 k r) := by
    pointwise [refTerm]
  rw [h, dotR_fin]
  refine Finset.sum_congr rfl fun k _ => ?_
  rw [← mat_val a k r, ← mat_val b k s, mul_comm]

end Cert.Kernel14Ideal.Prod

namespace Cert.Proof

open Idealize.SL.Sem

theorem frame_Kernel14Ideal : quiescent_Kernel14Ideal := fun m ρ _ => Kernel14Ideal.Gen.frame m ρ

theorem frame_Kernel14 : quiescent_Kernel14 := Ffn.transfer (Kernel14Ideal.Gen.frame (F := Bits)) (by sl_kernel_rfl)

theorem frame_Reference14Ideal : quiescent_Reference14Ideal := fun m ρ _ =>
  (θ_run Reference14Ideal.defs _ _).mono (fun r h => ⟨fun c => (h c).2, sem_eq_zero_of_no_sems (by decide) r.2⟩)
    (Reference14Ideal.Value.run (F := Ideal) m ρ)

theorem algebraic14 : algebraic_Kernel14Ideal_Reference14Ideal := by
  intro m g m' g' _ hm
  refine ⟨fun c => (Kernel14Ideal.Gen.dats m 0 c).arrAt 2 Kernel14Ideal.cfg0.N, Kernel14Ideal.Value.run_blocks m g, ?_⟩
  refine (θ_run Reference14Ideal.defs _ _).mono (fun r h c => ⟨(h c).1.trans ?_, (h c).2⟩) (Reference14Ideal.Value.run (F := Ideal) m' g')
  rw [(hm c).1, (hm c).2]
  refine Eq.trans ?_ (Kernel14Ideal.Prod.arr m c).symm
  funext z
  obtain ⟨i, j, rfl⟩ := Ffn.exists_ix2 z
  exact Kernel14Ideal.Prod.ref_at _ _ i j

end Cert.Proof

end
-- ==== Proof.DwInE.lean ====
/-
  UNTRUSTED — the call dw_in_e: h transposed times dproj, accumulated in scratch over four blocks of rows and written as eight blocks of 256 columns.
-/
module

public import proofs.«01_k».proof.Proof.Accumulate
public import proofs.«01_k».proof.Proof.Gen.Kernel16
public import proofs.«01_k».proof.Proof.Gen.Kernel16Ideal.Value
public import proofs.«01_k».proof.Proof.Gen.Reference16Ideal.Run

@[expose] public section

set_option maxRecDepth 16384

noncomputable section

open Idealize.ShloMosaic Idealize.ShloMosaic.TcCoe

namespace Cert.Kernel16Ideal.Prod

open Kernel16Ideal Kernel16Ideal.Gen Ffn

theorem pay_at (a : Vec Ideal S1024x1024 .bf16) (b : Vec Ideal S1024x1024 .bf16) (r : Fin 1024) (s : Fin 1024) :
    k0_pay1 (F := Ideal) a b (ix2 r s) = ∑ k : Fin 1024, a (ix2 k r) * b (ix2 k s) := by
  pointwise [k0_pay1]

section Cases
variable {F : FTy → Type} [FloatOps F]

theorem sout_A (c : Dev nD) (i a3 h3 a4 h4 a5 h5 a6 h6 hc0 hc1 hc2) (x : Vec F S1024x1024 .bf16) (y : Vec F S1024x1024 .bf16) :
    sout0_A_0 c i a3 h3 a4 h4 a5 h5 a6 h6 hc0 hc1 hc2 x y = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, h6.read_unread, ld0, shapeCast_self]
theorem sout_B (c : Dev nD) (i a3 h3 a4 h4 a5 h5 a6 h6 hc0 hc1 hc2) (x : Vec F S1024x1024 .bf16) (y : Vec F S1024x1024 .bf16) (z : Vec F S1024x1024 .f32) :
    sout0_B_0 c i a3 h3 a4 h4 a5 h5 a6 h6 hc0 hc1 hc2 x y z = addf z (k0_pay1 x y) := by
  unfold sout0_B_0
  rw [View.read_writes_eq_canon]; on_goal 2 => apply scover0_B_0
  unfold kernelRun0_B
  dsimp only
  sl_unfold_words
  rw [View.canon_unit_zero zero2]
  unfold k0_pay3
  simp only [View.readAt_eq_ld, h3.read_unread, h4.read_unread, h6.read_unread, ld0, shapeCast_self]
theorem sout_C (c : Dev nD) (i a3 h3 a4 h4 a5 h5 a6 h6 hc0 hc1 hc2) (x : Vec F S1024x1024 .bf16) (y : Vec F S1024x1024 .bf16) (z : Vec F S1024x1024 .f32) :
    sout0_C_0 c i a3 h3 a4 h4 a5 h5 a6 h6 hc0 hc1 hc2 x y z = addf z (k0_pay1 x y) := by
  unfold sout0_C_0
  rw [View.read_writes_eq_canon]; on_goal 2 => apply scover0_C_0
  unfold kernelRun0_C
  dsimp only
  sl_unfold_words
  rw [View.canon_unit_zero zero2]
  unfold k0_pay3
  simp only [View.readAt_eq_ld, h3.read_unread, h4.read_unread, h6.read_unread, ld0, shapeCast_self]

/-- The buffer's columns as four planes. -/
def cut (w : Vec F S1024x1024 .f32) (z : S4x1024x256.Idx) : Elt F .f32 :=
  w (ix2 (⟨(z 1).val, (z 1).isLt⟩ : Fin 1024) (⟨256 * (z 0).val + (z 2).val, by have h0 : (z 0).val < 4 := (z 0).isLt; have h2 : (z 2).val < 256 := (z 2).isLt; omega⟩ : Fin 1024))

theorem cut_piece (d : ℕ) (hd : d < 4) (h) (w : Vec F S1024x1024 .f32) (P : S1x1024x256.Idx → Elt F .f32)
    (hP : ∀ (r : Fin 1024) (s : Fin 256), P (ix3 (0 : Fin 1) r s) = w (ix2 r ⟨256 * d + s.val, by omega⟩)) (u : S1x1024x256.Idx) :
    P u = cut w ((Rect.unit (s := S4x1024x256) ![d, 0, 0] ![1, 1024, 256] h).emb u) := by
  obtain ⟨e, r, s, rfl⟩ := exists_ix3 u
  obtain rfl : e = 0 := by omega
  refine (hP r s).trans ?_
  unfold cut
  refine congrArg w ?_
  blk_ext []

theorem out_C (c : Dev nD) (i a3 h3 a4 h4 a5 h5 a6 h6 hc0 hc1 hc2) (x : Vec F S1024x1024 .bf16) (y : Vec F S1024x1024 .bf16) (z : Vec F S1024x1024 .f32) :
    out0_C_2 c i a3 h3 a4 h4 a5 h5 a6 h6 hc0 hc1 hc2 x y z = cut (addf z (k0_pay1 x y)) := by
  unfold out0_C_2
  rw [View.read_writes_eq_canon]; on_goal 2 => apply cover0_C_2
  funext v
  refine View.canon_apply_of_pieces (cut (addf z (k0_pay1 x y))) _ ?_ v (cover0_C_2 c i a3 h3 a4 h4 a5 h5 a6 h6 hc0 hc1 hc2 x y z v)
  unfold kernelRun0_C
  dsimp only
  sl_unfold_words
  rw [View.readCov_unit_zero (S := S1024x1024) _ zero2]
  unfold k0_pay3
  simp only [View.readAt_eq_ld, h3.read_unread, h4.read_unread, h6.read_unread, ld0, shapeCast_self]
  generalize addf z (k0_pay1 x y) = w
  simp only [List.forall_mem_cons]
  refine ⟨?_, ?_, ?_, ?_, fun _ h => absurd h List.not_mem_nil⟩
  · exact cut_piece 3 (by decide) _ w _ (fun r s => by pointwise [k0_pay7])
  · exact cut_piece 2 (by decide) _ w _ (fun r s => by pointwise [k0_pay6])
  · exact cut_piece 1 (by decide) _ w _ (fun r s => by pointwise [k0_pay5])
  · exact cut_piece 0 (by decide) _ w _ (fun r s => by pointwise [k0_pay4])

end Cases

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 4096) (b := 2048) (m ((c : Thread nD τ).loc main_arg1))

theorem ix0 : ∀ t : Fin cfg0.N, win0_0.index t = ![t.val % 4, 0] := (by decide +kernel : ∀ t : Fin grid0.N, _)
theorem a_blk (c : Dev nD) (t : Fin cfg0.N) (r : Fin 1024) (k : Fin 1024) : iblk m c 0 t (ix2 k r) = A m c (1024 * (t.val % 4) + k.val) (r.val) := by
  have ht := t.isLt.trans_eq N_0
  unfold A mat
  blk_simp [iblk]
  refine congrArg (m _) ?_
  blk_ext [ix0]
theorem ix1 : ∀ t : Fin cfg0.N, win0_1.index t = ![t.val % 4, t.val / 4] := (by decide +kernel : ∀ t : Fin grid0.N, _)
theorem b_blk (c : Dev nD) (t : Fin cfg0.N) (s : Fin 1024) (k : Fin 1024) : iblk m c 1 t (ix2 k s) = B m c (1024 * (t.val % 4) + k.val) (t.val / 4 * 1024 + s.val) := by
  have ht := t.isLt.trans_eq N_0
  unfold B mat
  blk_simp [iblk]
  refine congrArg (m _) ?_
  blk_ext [ix1]

/-- The product of the blocks at point `t`. -/
theorem pay_blk (c : Dev nD) (t : Fin cfg0.N) (r : Fin 1024) (s : Fin 1024) :
    k0_pay1 (F := Ideal) (iblk m c 0 t) (iblk m c 1 t) (ix2 r s) = ∑ k : Fin 1024, A m c (1024 * (t.val % 4) + k.val) (r.val) * B m c (1024 * (t.val % 4) + k.val) (t.val / 4 * 1024 + s.val) := by
  rw [pay_at]
  refine Finset.sum_congr (M := EReal) rfl fun k _ => ?_
  rw [a_blk, b_blk]

/-- What the scratch holds after point `n`: the product over the blocks so far. -/
theorem s_at (c : Dev nD) (r : Fin 1024) (s : Fin 1024) (n : ℕ) (h : n < cfg0.N) :
    (outsAt0 m c n h).2 (ix2 r s) = dotR (fun i k => A m c k i) (fun i k => B m c k i) (1024 * (n % 4 + 1)) (r.val) (n / 4 * 1024 + s.val) := by
  refine acc_at 1024 4 _ _ (fun _ => r.val) (fun q => q * 1024 + s.val) (fun n h => (outsAt0 m c n h).2 (ix2 r s)) (fun n h h0 => ?_) (fun n h h0 => ?_) n h
  · have hN := h.trans_eq N_0
    refine Eq.trans ?_ (pay_blk m c ⟨n, h⟩ r s)
    rw [outsAt0_A m c ⟨n, h⟩ h0 (by dsimp only; omega) (by dsimp only; omega)]
    dsimp only
    rw [sout_A]
  · refine Eq.trans ?_ (congrArg (fun x : EReal => _ + x) (pay_blk m c ⟨n, h⟩ r s))
    by_cases h3 : n % 4 = 3
    · rw [outsAt0_C m c ⟨n, h⟩ h0 (by dsimp only; omega) h3]
      dsimp only
      rw [sout_C]
      rfl
    · rw [outsAt0_B m c ⟨n, h⟩ h0 (by dsimp only; omega) h3]
      dsimp only
      rw [sout_B]
      rfl

theorem ixo : ∀ t : Fin cfg0.N, win0_2.index t = ![t.val / 4, 0, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

theorem arr (c : Dev nD) : (dats m 0 c).arrAt 2 cfg0.N = fun z : S8x1024x256.Idx => dotR (fun i k => A m c k i) (fun i k => B m c k i) 4096 (z 1).val (256 * (z 0).val + (z 2).val) := by
  refine (dats m 0 c).arrAt_eq_of_covers 2 _ (by decide +kernel) fun t hf y => ?_
  have ht := t.isLt.trans_eq N_0
  have h3 := last t hf
  blk_simp [ixo]
  rw [after0_2]
  obtain ⟨d, r, s, rfl⟩ := exists_ix3 y
  refine Eq.trans ?_ ((s_at m c r ⟨256 * d.val + s.val, by omega⟩ t.val t.isLt).trans ?_)
  · rw [outsAt0_C m c t (by omega) (by omega) h3]
    dsimp only
    rw [out_C, sout_C]
    exact rfl
  · rw [h3]
    refine congrArg₂ (dotR _ _ 4096) ?_ ?_
    · show _ = _
      simp
    · show t.val / 4 * 1024 + (256 * d.val + s.val) = 256 * (t.val / 4 * 4 + d.val) + s.val
      omega

open Reference16Ideal Reference16Ideal.Gen in
/-- The reference's result as its operations compute it. -/
def refTerm (a : Vec Ideal S4096x1024 .bf16) (b : Vec Ideal S4096x2048 .bf16) : Vec Ideal S8x1024x256 .f32 :=
  transpose S8x1024x256 [1, 0, 2] (shapeCast _ (transpose S1024x2048 [1, 0] (Host.dotGeneral (F := Ideal) (φ₁ := .f32) (φ₂ := .f32) dot_S4096x2048_S4096x1024_S2048x1024_0_0_1_1_n_n none (extf .f32 b bitsLt_bf16_f32) (extf .f32 a bitsLt_bf16_f32)) transposes_S2048x1024_S1024x2048_1_0) shapeCasts_S1024x2048_S1024x8x256) transposes_S1024x8x256_S8x1024x256_1_0_2

theorem ref_at (a : Vec Ideal S4096x1024 .bf16) (b : Vec Ideal S4096x2048 .bf16) (d : Fin 8) (r : Fin 1024) (s : Fin 256) :
    refTerm a b (ix3 d r s) = dotR (fun k i => mat (a := 4096) (b := 1024) a i k) (fun k i => mat (a := 4096) (b := 2048) b i k) 4096 r.val (256 * d.val + s.val) := by
  have h : refTerm a b (ix3 d r s) = ∑ k : Fin 4096, b (ix2 k ⟨d.val * 256 + s.val, by omega⟩) * a (ix2 k r) := by
    pointwise [refTerm]
  rw [h, dotR_fin]
  refine Finset.sum_congr rfl fun k _ => ?_
  rw [← mat_val a k r, ← mat_val b k ⟨d.val * 256 + s.val, by omega⟩, mul_comm]
  exact congrArg (fun j => mat (a := 4096) (b := 1024) a k.val r.val * mat (a := 4096) (b := 2048) b k.val j) (by simp only []; omega)

end Cert.Kernel16Ideal.Prod

namespace Cert.Proof

open Idealize.SL.Sem

theorem frame_Kernel16Ideal : quiescent_Kernel16Ideal := fun m ρ _ => Kernel16Ideal.Gen.frame m ρ

theorem frame_Kernel16 : quiescent_Kernel16 := Ffn.transfer (Kernel16Ideal.Gen.frame (F := Bits)) (by sl_kernel_rfl)

theorem frame_Reference16Ideal : quiescent_Reference16Ideal := fun m ρ _ =>
  (θ_run Reference16Ideal.defs _ _).mono (fun r h => ⟨fun c => (h c).2, sem_eq_zero_of_no_sems (by decide) r.2⟩)
    (Reference16Ideal.Value.run (F := Ideal) m ρ)

theorem algebraic16 : algebraic_Kernel16Ideal_Reference16Ideal := by
  intro m g m' g' _ hm
  refine ⟨fun c => (Kernel16Ideal.Gen.dats m 0 c).arrAt 2 Kernel16Ideal.cfg0.N, Kernel16Ideal.Value.run_blocks m g, ?_⟩
  refine (θ_run Reference16Ideal.defs _ _).mono (fun r h c => ⟨(h c).1.trans ?_, (h c).2⟩) (Reference16Ideal.Value.run (F := Ideal) m' g')
  rw [(hm c).1, (hm c).2]
  refine Eq.trans ?_ (Kernel16Ideal.Prod.arr m c).symm
  funext z
  obtain ⟨d, i, j, rfl⟩ := Ffn.exists_ix3 z
  exact Kernel16Ideal.Prod.ref_at _ _ d i j

end Cert.Proof

end
-- ==== Proof.DhE.lean ====
/-
  UNTRUSTED — the call dh_e: the product of dproj with w_in transposed, and the gradients of the norm before it.
-/
module

public import proofs.«01_k».proof.Proof.PleDhn
public import proofs.«01_k».proof.Proof.Gen.Kernel17
public import proofs.«01_k».proof.Proof.Gen.Kernel17Ideal.Value
public import proofs.«01_k».proof.Proof.Gen.Reference17Ideal.Run

@[expose] public section

set_option maxRecDepth 16384

noncomputable section

open Idealize.ShloMosaic Idealize.ShloMosaic.TcCoe

namespace Cert.Kernel17Ideal.Prod

open Kernel17Ideal Kernel17Ideal.Gen Ffn

theorem pay_at (a : Vec Ideal S512x1024 .bf16) (b : Vec Ideal S1024x1024 .bf16) (r : Fin 512) (s : Fin 1024) :
    k0_pay1 (F := Ideal) a b (ix2 r s) = ∑ k : Fin 1024, a (ix2 r k) * b (ix2 s k) := by
  pointwise [k0_pay1]

theorem gain_at (a x : Vec Ideal S512x1024 .f32) (s : Fin 1024) :
    k0_pay6 (F := Ideal) a x (ix2 0 s) = ∑ i : Fin 512, a (ix2 i s) * (x (ix2 i s) * rms (fun k => x (ix2 i k))) := by
  unfold rms
  pointwise [k0_pay6, k0_pay5, k0_pay4]

theorem grad_at (a x q : Vec Ideal S512x1024 .f32) (g : Vec Ideal S1x1024 .f32) (r : Fin 512) (s : Fin 1024) :
    k0_pay7 (F := Ideal) a x g q (ix2 r s) = q (ix2 r s) + rowK (fun k => x (ix2 r k)) (fun k => a (ix2 r k) * g (ix2 0 k)) s := by
  unfold rowK rms
  pointwise [k0_pay7, k0_pay5, k0_pay4]

section Cases
variable {F : FTy → Type} [FloatOps F]

theorem sout_A (c : Dev nD) (i a3 h3 a4 h4 a5 h5 a6 h6 a7 h7 a8 h8 a9 h9 a10 h10 hc0 hc1 hc2) (x : Vec F S512x1024 .bf16) (y : Vec F S1024x1024 .bf16) (x' q : Vec F S512x1024 .f32) (g : Vec F S1x1024 .f32) :
    sout0_A_0 c i a3 h3 a4 h4 a5 h5 a6 h6 a7 h7 a8 h8 a9 h9 a10 h10 hc0 hc1 hc2 x y x' q g = k0_pay1 x y := by
  unfold sout0_A_0
  rw [View.read_writes_eq_canon]; on_goal 2 => apply scover0_A_0
  unfold kernelRun0_A
  dsimp only
  rw [View.canon_unit_zero zero2]
  unfold k0_pay2
  simp (disch := assumption) only [View.readAt_eq_ld, Memref.IsWhole.read_unread, ld0, shapeCast_self]
theorem out_B (c : Dev nD) (i a3 h3 a4 h4 a5 h5 a6 h6 a7 h7 a8 h8 a9 h9 a10 h10 hc0 hc1 hc2 hc3 hc4) (x : Vec F S512x1024 .bf16) (y : Vec F S1024x1024 .bf16) (x' q : Vec F S512x1024 .f32) (g : Vec F S1x1024 .f32) (z : Vec F S512x1024 .f32) :
    out0_B_5 c i a3 h3 a4 h4 a5 h5 a6 h6 a7 h7 a8 h8 a9 h9 a10 h10 hc0 hc1 hc2 hc3 hc4 x y x' q g z = k0_pay7 (addf z (k0_pay1 x y)) x' g q := by
  unfold out0_B_5
  rw [View.read_writes_eq_canon]; on_goal 2 => apply cover0_B_5
  unfold kernelRun0_B
  dsimp only
  sl_unfold_words
  rw [View.canon_unit_zero zero2, View.readCov_unit_zero (S := S512x1024) _ zero2]
  unfold k0_pay3
  simp (disch := assumption) only [View.readAt_eq_ld, Memref.IsWhole.read_unread, ld0, shapeCast_self]
theorem gain_B (c : Dev nD) (i a3 h3 a4 h4 a5 h5 a6 h6 a7 h7 a8 h8 a9 h9 a10 h10 hc0 hc1 hc2 hc3 hc4) (x : Vec F S512x1024 .bf16) (y : Vec F S1024x1024 .bf16) (x' q : Vec F S512x1024 .f32) (g : Vec F S1x1024 .f32) (z : Vec F S512x1024 .f32) :
    out0_B_6 c i a3 h3 a4 h4 a5 h5 a6 h6 a7 h7 a8 h8 a9 h9 a10 h10 hc0 hc1 hc2 hc3 hc4 x y x' q g z = k0_pay6 (addf z (k0_pay1 x y)) x' := by
  unfold out0_B_6
  rw [View.read_writes_eq_canon]; on_goal 2 => apply cover0_B_6
  unfold kernelRun0_B
  dsimp only
  sl_unfold_words
  rw [View.canon_unit_zero zero2, View.readCov_unit_zero (S := S512x1024) _ zero2]
  unfold k0_pay3
  simp (disch := assumption) only [View.readAt_eq_ld, Memref.IsWhole.read_unread, ld0, shapeCast_self]
theorem out_C (c : Dev nD) (i a3 h3 a4 h4 a5 h5 a6 h6 a7 h7 a8 h8 a9 h9 a10 h10 hc0 hc1 hc2 hc3 hc4) (x : Vec F S512x1024 .bf16) (y : Vec F S1024x1024 .bf16) (x' q : Vec F S512x1024 .f32) (g : Vec F S1x1024 .f32) (o : Vec F S1x1024 .f32) (z : Vec F S512x1024 .f32) :
    out0_C_5 c i a3 h3 a4 h4 a5 h5 a6 h6 a7 h7 a8 h8 a9 h9 a10 h10 hc0 hc1 hc2 hc3 hc4 x y x' q g o z = k0_pay7 (addf z (k0_pay1 x y)) x' g q := by
  unfold out0_C_5
  rw [View.read_writes_eq_canon]; on_goal 2 => apply cover0_C_5
  unfold kernelRun0_C
  dsimp only
  sl_unfold_words
  rw [View.canon_unit_zero zero2, View.readCov_unit_zero (S := S512x1024) _ zero2]
  unfold k0_pay3
  simp (disch := assumption) only [View.readAt_eq_ld, Memref.IsWhole.read_unread, ld0, shapeCast_self]
theorem gain_C (c : Dev nD) (i a3 h3 a4 h4 a5 h5 a6 h6 a7 h7 a8 h8 a9 h9 a10 h10 hc0 hc1 hc2 hc3 hc4) (x : Vec F S512x1024 .bf16) (y : Vec F S1024x1024 .bf16) (x' q : Vec F S512x1024 .f32) (g : Vec F S1x1024 .f32) (o : Vec F S1x1024 .f32) (z : Vec F S512x1024 .f32) :
    out0_C_6 c i a3 h3 a4 h4 a5 h5 a6 h6 a7 h7 a8 h8 a9 h9 a10 h10 hc0 hc1 hc2 hc3 hc4 x y x' q g o z = addf o (k0_pay6 (addf z (k0_pay1 x y)) x') := by
  unfold out0_C_6
  rw [View.read_writes_eq_canon]; on_goal 2 => apply cover0_C_6
  unfold kernelRun0_C
  dsimp only
  sl_unfold_words
  rw [View.canon_unit_zero zero2, View.readCov_unit_zero (S := S512x1024) _ zero2]
  unfold k0_pay8 k0_pay3
  simp (disch := assumption) only [View.readAt_eq_ld, Memref.IsWhole.read_unread, ld0, shapeCast_self]

end Cases

variable (m : (ℓ : Loc nD τ sig) → Buf (Elt Ideal) ℓ)

def A (c : Dev nD) : ℕ → ℕ → EReal := mat (a := 4096) (b := 2048) (m ((c : Thread nD τ).loc main_arg0))
def B (c : Dev nD) : ℕ → ℕ → EReal := mat (a := 1024) (b := 2048) (m ((c : Thread nD τ).loc main_arg1))
def X (c : Dev nD) : ℕ → ℕ → EReal := mat (a := 4096) (b := 1024) (m ((c : Thread nD τ).loc main_arg2))
def Q (c : Dev nD) : ℕ → ℕ → EReal := mat (a := 4096) (b := 1024) (m ((c : Thread nD τ).loc main_arg4))
def G (c : Dev nD) : ℕ → ℕ → EReal := mat (a := 1) (b := 1024) (m ((c : Thread nD τ).loc main_arg3))
theorem at0 : ∀ t : Fin cfg0.N, win0_0.index t = ![t.val / 2, t.val % 2] := (by decide +kernel : ∀ t : Fin grid0.N, _)
theorem a_blk (c : Dev nD) (t : Fin cfg0.N) (r : Fin 512) (k : Fin 1024) : iblk m c 0 t (ix2 r k) = A m c (t.val / 2 * 512 + r.val) (1024 * (t.val % 2) + k.val) := by
  have ht := t.isLt.trans_eq N_0
  unfold A mat
  blk_simp [iblk]
  refine congrArg (m _) ?_
  blk_ext [at0]
theorem at1 : ∀ t : Fin cfg0.N, win0_1.index t = ![0, t.val % 2] := (by decide +kernel : ∀ t : Fin grid0.N, _)
theorem b_blk (c : Dev nD) (t : Fin cfg0.N) (s : Fin 1024) (k : Fin 1024) : iblk m c 1 t (ix2 s k) = B m c (s.val) (1024 * (t.val % 2) + k.val) := by
  have ht := t.isLt.trans_eq N_0
  unfold B mat
  blk_simp [iblk]
  refine congrArg (m _) ?_
  blk_ext [at1]
theorem at2 : ∀ t : Fin cfg0.N, win0_2.index t = ![t.val / 2, 0] := (by decide +kernel : ∀ t : Fin grid0.N, _)
theorem x_blk (c : Dev nD) (t : Fin cfg0.N) (r : Fin 512) (s : Fin 1024) : iblk m c 2 t (ix2 r s) = X m c (t.val / 2 * 512 + r.val) (s.val) := by
  have ht := t.isLt.trans_eq N_0
  unfold X mat
  blk_simp [iblk]
  refine congrArg (m _) ?_
  blk_ext [at2]
theorem at3 : ∀ t : Fin cfg0.N, win0_3.index t = ![t.val / 2, 0] := (by decide +kernel : ∀ t : Fin grid0.N, _)
theorem q_blk (c : Dev nD) (t : Fin cfg0.N) (r : Fin 512) (s : Fin 1024) : iblk m c 3 t (ix2 r s) = Q m c (t.val / 2 * 512 + r.val) (s.val) := by
  have ht := t.isLt.trans_eq N_0
  unfold Q mat
  blk_simp [iblk]
  refine congrArg (m _) ?_
  blk_ext [at3]
theorem at4 : ∀ t : Fin cfg0.N, win0_4.index t = ![0, 0] := (by decide +kernel : ∀ t : Fin grid0.N, _)
theorem g_blk (c : Dev nD) (t : Fin cfg0.N) (s : Fin 1024) : iblk m c 4 t (ix2 0 s) = G m c (0) (s.val) := by
  have ht := t.isLt.trans_eq N_0
  unfold G mat
  blk_simp [iblk]
  refine congrArg (m _) ?_
  blk_ext [at4]

/-- The product of the blocks at point `t`. -/
theorem pay_blk (c : Dev nD) (t : Fin cfg0.N) (r : Fin 512) (s : Fin 1024) :
    k0_pay1 (F := Ideal) (iblk m c 0 t) (iblk m c 1 t) (ix2 r s) = ∑ k : Fin 1024, A m c (t.val / 2 * 512 + r.val) (1024 * (t.val % 2) + k.val) * B m c s.val (1024 * (t.val % 2) + k.val) := by
  rw [pay_at]
  refine Finset.sum_congr (M := EReal) rfl fun k _ => ?_
  rw [a_blk, b_blk]

/-- The scratch at an even point. -/
theorem s_first (c : Dev nD) (n : ℕ) (hn : n < cfg0.N) (h : n % 2 = 0) (r : Fin 512) (s : Fin 1024) :
    (outsAt0 m c n hn).2.2 (ix2 r s) = dotR (A m c) (B m c) 1024 (n / 2 * 512 + r.val) s.val := by
  have h1 : ¬n % 2 = 1 := by omega
  rw [outsAt0_A m c ⟨n, hn⟩ h h1 h1]
  dsimp only
  rw [sout_A, pay_blk, dotR_fin]
  refine Finset.sum_congr (M := EReal) rfl fun k _ => ?_
  rw [show 1024 * (n % 2) + k.val = k.val by omega]

/-- The gradient of the normed rows. -/
def U (A B : ℕ → ℕ → EReal) (i j : ℕ) : EReal := dotR A B 2048 i j

/-- The block's rows of that gradient at an odd point. -/
theorem u_at (c : Dev nD) (t : Fin cfg0.N) (h : t.val % 2 = 1) (r : Fin 512) (s : Fin 1024) :
    addf (F := Ideal) (outsAt0 m c (t.val - 1) (Nat.lt_of_le_of_lt (Nat.sub_le _ _) t.isLt)).2.2 (k0_pay1 (F := Ideal) (iblk m c 0 t) (iblk m c 1 t)) (ix2 r s) = U (A m c) (B m c) (t.val / 2 * 512 + r.val) s.val := by
  unfold U
  rw [show (2048 : ℕ) = 1024 * (1 + 1) from rfl, dotR_block]
  refine congrArg₂ (fun x y : EReal => x + y) ?_ ((pay_blk m c t r s).trans ?_)
  · rw [s_first m c (t.val - 1) _ (by omega), show (t.val - 1) / 2 = t.val / 2 by omega]
  · rw [h]

/-- The block's part of the gain's gradient. -/
theorem gain_blk (c : Dev nD) (t : Fin cfg0.N) (h : t.val % 2 = 1) (s : Fin 1024) :
    k0_pay6 (F := Ideal) (addf (F := Ideal) (outsAt0 m c (t.val - 1) (Nat.lt_of_le_of_lt (Nat.sub_le _ _) t.isLt)).2.2 (k0_pay1 (F := Ideal) (iblk m c 0 t) (iblk m c 1 t))) (iblk m c 2 t) (ix2 0 s)
      = ∑ i : Fin 512, (U (A m c) (B m c)) (512 * (t.val / 2) + i.val) s.val * V (X m c) (512 * (t.val / 2) + i.val) s.val := by
  rw [gain_at]
  refine Finset.sum_congr (M := EReal) rfl fun i _ => ?_
  rw [u_at m c t h, Nat.mul_comm 512]
  simp only [x_blk]
  rfl

/-- The gradient of the gain after the points that finished `k` blocks of rows. -/
theorem gain_traj (c : Dev nD) (s : Fin 1024) : ∀ (n : ℕ) (hn : n < cfg0.N), 1 ≤ n →
    (outsAt0 m c n hn).2.1 (ix2 0 s) = gainSum (U (A m c) (B m c)) (X m c) (512 * ((n + 1) / 2)) s.val := by
  refine acc_odd 512 _ _ _ _ _ (fun n hn => (outsAt0 m c n hn).2.1 (ix2 0 s)) (fun n hn h0 => ?_) (fun hn => ?_) (fun n hn h1 h2 => ?_)
  · have h1 : ¬(n + 1) % 2 = 1 := by omega
    rw [outsAt0_A m c ⟨n + 1, hn⟩ h0 h1 h1]
    rfl
  · refine Eq.trans ?_ (gain_blk m c ⟨1, hn⟩ rfl s)
    rw [outsAt0_B m c ⟨1, hn⟩ (by dsimp only; omega) rfl rfl (by dsimp only; omega) (by dsimp only; omega)]
    dsimp only
    rw [gain_B]
  · refine Eq.trans ?_ (congrArg (fun x : EReal => _ + x) (gain_blk m c ⟨n + 1, hn⟩ h1 s))
    rw [outsAt0_C m c ⟨n + 1, hn⟩ (by dsimp only; omega) h1 h1 (by dsimp only; omega) h2]
    dsimp only
    rw [gain_C]
    rfl

theorem ix5 : ∀ t : Fin cfg0.N, win0_5.index t = ![t.val / 2, 0] := (by decide +kernel : ∀ t : Fin grid0.N, _)
theorem ix6 : ∀ t : Fin cfg0.N, win0_6.index t = ![0, 0] := (by decide +kernel : ∀ t : Fin grid0.N, _)
theorem last : ∀ t : Fin cfg0.N, (cfg0.win 5).flush t = true → t.val % 2 = 1 := (by decide +kernel : ∀ t : Fin grid0.N, win0_5.flush t = true → t.val % 2 = 1)
theorem last' : ∀ t : Fin cfg0.N, (cfg0.win 6).flush t = true → t.val = 15 := (by decide +kernel : ∀ t : Fin grid0.N, win0_6.flush t = true → t.val = 15)

theorem grad_blk (c : Dev nD) (t : Fin cfg0.N) (h : t.val % 2 = 1) (r : Fin 512) (s : Fin 1024) :
    k0_pay7 (F := Ideal) (addf (F := Ideal) (outsAt0 m c (t.val - 1) (Nat.lt_of_le_of_lt (Nat.sub_le _ _) t.isLt)).2.2 (k0_pay1 (F := Ideal) (iblk m c 0 t) (iblk m c 1 t))) (iblk m c 2 t) (iblk m c 4 t) (iblk m c 3 t) (ix2 r s)
      = R (Q m c) (X m c) (G m c) (U (A m c) (B m c)) (t.val / 2 * 512 + r.val) s.val := by
  unfold R
  rw [grad_at, q_blk, Fin.ofNat_val_eq_self]
  simp only [x_blk, g_blk, u_at m c t h]

theorem arr (c : Dev nD) : (dats m 0 c).arrAt 5 cfg0.N = fun z : S4096x1024.Idx => R (Q m c) (X m c) (G m c) (U (A m c) (B m c)) (z 0).val (z 1).val := by
  refine (dats m 0 c).arrAt_eq_of_covers 5 _ (by decide +kernel) fun t hf y => ?_
  have ht := t.isLt.trans_eq N_0
  have h1 := last t hf
  have h0 : ¬t.val % 2 = 0 := by omega
  blk_simp [ix5]
  rw [after0_5]
  obtain ⟨r, s, rfl⟩ := exists_ix2 y
  refine Eq.trans ?_ (grad_blk m c t h1 r s)
  by_cases h3 : t.val < 2
  · rw [outsAt0_B m c t h0 h1 h1 h3 (by omega)]
    dsimp only
    rw [out_B]
  · rw [outsAt0_C m c t h0 h1 h1 h3 (by omega)]
    dsimp only
    rw [out_C]

theorem arr' (c : Dev nD) : (dats m 0 c).arrAt 6 cfg0.N = fun z : S1x1024.Idx => gainSum (U (A m c) (B m c)) (X m c) 4096 (z 1).val := by
  refine (dats m 0 c).arrAt_eq_of_covers 6 _ (by decide +kernel) fun t hf y => ?_
  have ht := t.isLt.trans_eq N_0
  have h1 := last' t hf
  blk_simp [ix6]
  rw [after0_6]
  obtain ⟨r, s, rfl⟩ := exists_ix2 y
  obtain rfl : r = 0 := Fin.ext (by omega)
  rw [gain_traj m c s t.val t.isLt (by omega), h1]
  rfl

section Reference
open Reference17Ideal.Gen hiding shapeCasts_S1024_S1x1024

/-- The gradient of the normed rows. -/
abbrev RU (a : Vec Ideal S4096x2048 .bf16) (b : Vec Ideal S1024x2048 .bf16) : Vec Ideal S4096x1024 .f32 :=
  Host.dotGeneral (F := Ideal) (φ₁ := .f32) (φ₂ := .f32) Reference17Ideal.dot_S4096x2048_S1024x2048_S4096x1024_1_1_0_0_n_n none (extf .f32 a Reference17Ideal.Gen.bitsLt_bf16_f32) (extf .f32 b Reference17Ideal.Gen.bitsLt_bf16_f32)

theorem ru_el (a : Vec Ideal S4096x2048 .bf16) (b : Vec Ideal S1024x2048 .bf16) (r : Fin 4096) (s : Fin 1024) :
    RU a b (ix2 r s) = U (mat (a := 4096) (b := 2048) a) (mat (a := 1024) (b := 2048) b) r.val s.val := by
  have h : RU a b (ix2 r s) = ∑ k : Fin 2048, a (ix2 r k) * b (ix2 s k) := by
    unfold RU
    pointwise []
  rw [h]
  unfold U
  rw [dotR_fin]
  refine Finset.sum_congr (M := EReal) rfl fun k _ => ?_
  rw [← mat_val a r k, ← mat_val b s k]

theorem ref_grad (n : (ℓ : Loc Reference17Ideal.nD Reference17Ideal.τ Reference17Ideal.sig) → Buf (Elt Ideal) ℓ) (c : Dev Reference17Ideal.nD) (u q x : Vec Ideal S4096x1024 .f32) (g : Vec Ideal S1x1024 .f32)
    (hu : RU (n ((c.tc : Thread Reference17Ideal.nD Reference17Ideal.τ).loc Reference17Ideal.main_arg0)) (n ((c.tc : Thread Reference17Ideal.nD Reference17Ideal.τ).loc Reference17Ideal.main_arg1)) = u) (hq : (n ((c.tc : Thread Reference17Ideal.nD Reference17Ideal.τ).loc Reference17Ideal.main_arg4)) = q) (hx : (n ((c.tc : Thread Reference17Ideal.nD Reference17Ideal.τ).loc Reference17Ideal.main_arg2)) = x) (hg : (n ((c.tc : Thread Reference17Ideal.nD Reference17Ideal.τ).loc Reference17Ideal.main_arg3)) = g) (r : Fin 4096) (s : Fin 1024) :
    Reference17Ideal.Value.res_main_v38 n c (ix2 r s)
      = q (ix2 r s) + (u (ix2 r s) * g (ix2 0 s) * rms (fun k => x (ix2 r k))
          + x (ix2 r s) * rowD (fun k => x (ix2 r k)) (fun k => u (ix2 r k) * g (ix2 0 k))
          + rowD (fun k => x (ix2 r k)) (fun k => u (ix2 r k) * g (ix2 0 k)) * x (ix2 r s)) := by
  subst hu hq hx hg
  unfold rowD rms msq RU
  pointwise [Reference17Ideal.Value.res_main_v38]
  simp only [Fin.sum_univ_one]

end Reference

end Cert.Kernel17Ideal.Prod

namespace Cert.Proof

open Idealize.SL.Sem

theorem frame_Kernel17Ideal : quiescent_Kernel17Ideal := fun m ρ _ => Kernel17Ideal.Gen.frame m ρ

theorem frame_Kernel17 : quiescent_Kernel17 := Ffn.transfer (Kernel17Ideal.Gen.frame (F := Bits)) (by sl_kernel_rfl)

theorem frame_Reference17Ideal : quiescent_Reference17Ideal := fun m ρ _ =>
  (θ_run Reference17Ideal.defs _ _).mono (fun r h => ⟨fun c => (h c).2.2, sem_eq_zero_of_no_sems (by decide) r.2⟩)
    (Reference17Ideal.Value.run (F := Ideal) m ρ)

theorem algebraic17 : algebraic_Kernel17Ideal_Reference17Ideal := by
  intro m g m' g' _ hm
  refine ⟨fun c => (Kernel17Ideal.Gen.dats m 0 c).arrAt 5 Kernel17Ideal.cfg0.N, fun c => (Kernel17Ideal.Gen.dats m 0 c).arrAt 6 Kernel17Ideal.cfg0.N, Kernel17Ideal.Value.run_blocks m g, ?_⟩
  refine (θ_run Reference17Ideal.defs _ _).mono (fun r h c => ⟨(h c).1.trans ?_, (h c).2.1.trans ?_, (h c).2.2⟩) (Reference17Ideal.Value.run (F := Ideal) m' g')
  · refine Eq.trans ?_ (Kernel17Ideal.Prod.arr m c).symm
    funext z
    obtain ⟨i, j, rfl⟩ := Ffn.exists_ix2 z
    refine (Kernel17Ideal.Prod.ref_grad m' c _ _ _ _ rfl rfl rfl rfl i j).trans ?_
    rw [(hm c).1, (hm c).2.1, (hm c).2.2.1, (hm c).2.2.2.1, (hm c).2.2.2.2]
    exact Ffn.ref_row _ _ _ _ _ (Kernel17Ideal.Prod.ru_el _ _) i j
  · rw [(hm c).1, (hm c).2.1, (hm c).2.2.1]
    refine Eq.trans ?_ (Kernel17Ideal.Prod.arr' m c).symm
    funext z
    obtain ⟨i, j, rfl⟩ := Ffn.exists_ix2 z
    obtain rfl : i = 0 := Fin.ext (by omega)
    exact (Kernel15Ideal.Prod.ref_gain _ _ j).trans (Ffn.ref_col _ _ _ (Kernel17Ideal.Prod.ru_el _ _) j)

end Cert.Proof

end
-- ==== Proof.InO.lean ====
/-
  UNTRUSTED — the call in_o: every block of rows of h against every block of columns of w_in.
-/
module

public import proofs.«01_k».proof.Proof.Mat
public import proofs.«01_k».proof.Proof.Gen.Kernel18
public import proofs.«01_k».proof.Proof.Gen.Kernel18Ideal.Value
public import proofs.«01_k».proof.Proof.Gen.Reference18Ideal.Run

@[expose] public section

set_option maxRecDepth 16384

noncomputable section

open Idealize.ShloMosaic Idealize.ShloMosaic.TcCoe

namespace Cert.Kernel18Ideal.Prod

open Kernel18Ideal Kernel18Ideal.Gen Ffn

theorem pay_at (a : Vec Ideal S1024x1024 .bf16) (b : Vec Ideal S1024x1024 .bf16) (r : Fin 1024) (s : Fin 1024) :
    k0_pay1 (F := Ideal) a b (ix2 r s) = ∑ k : Fin 1024, a (ix2 r k) * b (ix2 k s) := by
  pointwise [k0_pay1]

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 1024) (b := 4096) (m ((c : Thread nD τ).loc main_arg1))

theorem ix0 : ∀ t : Fin cfg0.N, win0_0.index t = ![t.val / 4, 0] := (by decide +kernel : ∀ t : Fin grid0.N, _)
theorem a_blk (c : Dev nD) (t : Fin cfg0.N) (r : Fin 1024) (k : Fin 1024) : iblk m c 0 t (ix2 r k) = A m c (t.val / 4 * 1024 + r.val) (k.val) := by
  have ht := t.isLt.trans_eq N_0
  unfold A mat
  blk_simp [iblk]
  refine congrArg (m _) ?_
  blk_ext [ix0]
theorem ix1 : ∀ t : Fin cfg0.N, win0_1.index t = ![0, t.val % 4] := (by decide +kernel : ∀ t : Fin grid0.N, _)
theorem b_blk (c : Dev nD) (t : Fin cfg0.N) (s : Fin 1024) (k : Fin 1024) : iblk m c 1 t (ix2 k s) = B m c (k.val) (t.val % 4 * 1024 + s.val) := by
  have ht := t.isLt.trans_eq N_0
  unfold B mat
  blk_simp [iblk]
  refine congrArg (m _) ?_
  blk_ext [ix1]

theorem ixo : ∀ t : Fin cfg0.N, win0_2.index t = ![t.val / 4, t.val % 4] := (by decide +kernel : ∀ t : Fin grid0.N, _)

theorem arr (c : Dev nD) : (dats m 0 c).arrAt 2 cfg0.N = fun z : S4096x4096.Idx => dotR (A m c) (fun i k => B m c k i) 1024 (z 0).val (z 1).val := by
  refine (dats m 0 c).arrAt_eq_of_covers 2 _ (by decide +kernel) fun t hf y => ?_
  have ht := t.isLt.trans_eq N_0
  blk_simp [ixo]
  rw [after0_2]
  unfold out0_2
  rw [View.canon_unit_zero zero2, ld0, ld0]
  obtain ⟨r, s, rfl⟩ := exists_ix2 y
  rw [pay_at, dotR_fin]
  refine Finset.sum_congr (M := EReal) rfl fun k _ => ?_
  rw [a_blk, b_blk]
  rfl

/-- The reference's product, as its operations compute it. -/
abbrev refTerm (a : Vec Ideal S4096x1024 .bf16) (b : Vec Ideal S1024x4096 .bf16) : Vec Ideal S4096x4096 .f32 :=
  Host.dotGeneral (F := Ideal) (φ₁ := .f32) (φ₂ := .f32) Reference18Ideal.dot_S4096x1024_S1024x4096_S4096x4096_1_0_0_1_n_n none (extf .f32 a Reference18Ideal.Gen.bitsLt_bf16_f32) (extf .f32 b Reference18Ideal.Gen.bitsLt_bf16_f32)

theorem ref_at (a : Vec Ideal S4096x1024 .bf16) (b : Vec Ideal S1024x4096 .bf16) (r : Fin 4096) (s : Fin 4096) :
    refTerm a b (ix2 r s) = dotR (mat (a := 4096) (b := 1024) a) (fun k i => mat (a := 1024) (b := 4096) b i k) 1024 r.val s.val := by
  have h : refTerm a b (ix2 r s) = ∑ k : Fin 1024, a (ix2 r k) * b (ix2 k s) := by
    pointwise [refTerm]
  rw [h, dotR_fin]
  refine Finset.sum_congr rfl fun k _ => ?_
  rw [← mat_val a r k, ← mat_val b k s]

end Cert.Kernel18Ideal.Prod

namespace Cert.Proof

open Idealize.SL.Sem

theorem frame_Kernel18Ideal : quiescent_Kernel18Ideal := fun m ρ _ => Kernel18Ideal.Gen.frame m ρ

theorem frame_Kernel18 : quiescent_Kernel18 := Ffn.transfer (Kernel18Ideal.Gen.frame (F := Bits)) (by sl_kernel_rfl)

theorem frame_Reference18Ideal : quiescent_Reference18Ideal := fun m ρ _ =>
  (θ_run Reference18Ideal.defs _ _).mono (fun r h => ⟨fun c => (h c).2, sem_eq_zero_of_no_sems (by decide) r.2⟩)
    (Reference18Ideal.Value.run (F := Ideal) m ρ)

theorem algebraic18 : algebraic_Kernel18Ideal_Reference18Ideal := by
  intro m g m' g' _ hm
  refine ⟨fun c => (Kernel18Ideal.Gen.dats m 0 c).arrAt 2 Kernel18Ideal.cfg0.N, Kernel18Ideal.Value.run_blocks m g, ?_⟩
  refine (θ_run Reference18Ideal.defs _ _).mono (fun r h c => ⟨(h c).1.trans ?_, (h c).2⟩) (Reference18Ideal.Value.run (F := Ideal) m' g')
  rw [(hm c).1, (hm c).2]
  refine Eq.trans ?_ (Kernel18Ideal.Prod.arr m c).symm
  funext z
  obtain ⟨i, j, rfl⟩ := Ffn.exists_ix2 z
  exact Kernel18Ideal.Prod.ref_at _ _ i j

end Cert.Proof

end
-- ==== Proof.InE.lean ====
/-
  UNTRUSTED — the call in_e: every block of rows of h against every block of columns of w_in.
-/
module

public import proofs.«01_k».proof.Proof.Mat
public import proofs.«01_k».proof.Proof.Gen.Kernel19
public import proofs.«01_k».proof.Proof.Gen.Kernel19Ideal.Value
public import proofs.«01_k».proof.Proof.Gen.Reference19Ideal.Run

@[expose] public section

set_option maxRecDepth 16384

noncomputable section

open Idealize.ShloMosaic Idealize.ShloMosaic.TcCoe

namespace Cert.Kernel19Ideal.Prod

open Kernel19Ideal Kernel19Ideal.Gen Ffn

theorem pay_at (a : Vec Ideal S1024x1024 .bf16) (b : Vec Ideal S1024x1024 .bf16) (r : Fin 1024) (s : Fin 1024) :
    k0_pay1 (F := Ideal) a b (ix2 r s) = ∑ k : Fin 1024, a (ix2 r k) * b (ix2 k s) := by
  pointwise [k0_pay1]

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 1024) (b := 2048) (m ((c : Thread nD τ).loc main_arg1))

theorem ix0 : ∀ t : Fin cfg0.N, win0_0.index t = ![t.val / 2, 0] := (by decide +kernel : ∀ t : Fin grid0.N, _)
theorem a_blk (c : Dev nD) (t : Fin cfg0.N) (r : Fin 1024) (k : Fin 1024) : iblk m c 0 t (ix2 r k) = A m c (t.val / 2 * 1024 + r.val) (k.val) := by
  have ht := t.isLt.trans_eq N_0
  unfold A mat
  blk_simp [iblk]
  refine congrArg (m _) ?_
  blk_ext [ix0]
theorem ix1 : ∀ t : Fin cfg0.N, win0_1.index t = ![0, t.val % 2] := (by decide +kernel : ∀ t : Fin grid0.N, _)
theorem b_blk (c : Dev nD) (t : Fin cfg0.N) (s : Fin 1024) (k : Fin 1024) : iblk m c 1 t (ix2 k s) = B m c (k.val) (t.val % 2 * 1024 + s.val) := by
  have ht := t.isLt.trans_eq N_0
  unfold B mat
  blk_simp [iblk]
  refine congrArg (m _) ?_
  blk_ext [ix1]

theorem ixo : ∀ t : Fin cfg0.N, win0_2.index t = ![t.val / 2, t.val % 2] := (by decide +kernel : ∀ t : Fin grid0.N, _)

theorem arr (c : Dev nD) : (dats m 0 c).arrAt 2 cfg0.N = fun z : S4096x2048.Idx => dotR (A m c) (fun i k => B m c k i) 1024 (z 0).val (z 1).val := by
  refine (dats m 0 c).arrAt_eq_of_covers 2 _ (by decide +kernel) fun t hf y => ?_
  have ht := t.isLt.trans_eq N_0
  blk_simp [ixo]
  rw [after0_2]
  unfold out0_2
  rw [View.canon_unit_zero zero2, ld0, ld0]
  obtain ⟨r, s, rfl⟩ := exists_ix2 y
  rw [pay_at, dotR_fin]
  refine Finset.sum_congr (M := EReal) rfl fun k _ => ?_
  rw [a_blk, b_blk]
  rfl

/-- The reference's product, as its operations compute it. -/
abbrev refTerm (a : Vec Ideal S4096x1024 .bf16) (b : Vec Ideal S1024x2048 .bf16) : Vec Ideal S4096x2048 .f32 :=
  Host.dotGeneral (F := Ideal) (φ₁ := .f32) (φ₂ := .f32) Reference19Ideal.dot_S4096x1024_S1024x2048_S4096x2048_1_0_0_1_n_n none (extf .f32 a Reference19Ideal.Gen.bitsLt_bf16_f32) (extf .f32 b Reference19Ideal.Gen.bitsLt_bf16_f32)

theorem ref_at (a : Vec Ideal S4096x1024 .bf16) (b : Vec Ideal S1024x2048 .bf16) (r : Fin 4096) (s : Fin 2048) :
    refTerm a b (ix2 r s) = dotR (mat (a := 4096) (b := 1024) a) (fun k i => mat (a := 1024) (b := 2048) b i k) 1024 r.val s.val := by
  have h : refTerm a b (ix2 r s) = ∑ k : Fin 1024, a (ix2 r k) * b (ix2 k s) := by
    pointwise [refTerm]
  rw [h, dotR_fin]
  refine Finset.sum_congr rfl fun k _ => ?_
  rw [← mat_val a r k, ← mat_val b k s]

end Cert.Kernel19Ideal.Prod

namespace Cert.Proof

open Idealize.SL.Sem

theorem frame_Kernel19Ideal : quiescent_Kernel19Ideal := fun m ρ _ => Kernel19Ideal.Gen.frame m ρ

theorem frame_Kernel19 : quiescent_Kernel19 := Ffn.transfer (Kernel19Ideal.Gen.frame (F := Bits)) (by sl_kernel_rfl)

theorem frame_Reference19Ideal : quiescent_Reference19Ideal := fun m ρ _ =>
  (θ_run Reference19Ideal.defs _ _).mono (fun r h => ⟨fun c => (h c).2, sem_eq_zero_of_no_sems (by decide) r.2⟩)
    (Reference19Ideal.Value.run (F := Ideal) m ρ)

theorem algebraic19 : algebraic_Kernel19Ideal_Reference19Ideal := by
  intro m g m' g' _ hm
  refine ⟨fun c => (Kernel19Ideal.Gen.dats m 0 c).arrAt 2 Kernel19Ideal.cfg0.N, Kernel19Ideal.Value.run_blocks m g, ?_⟩
  refine (θ_run Reference19Ideal.defs _ _).mono (fun r h c => ⟨(h c).1.trans ?_, (h c).2⟩) (Reference19Ideal.Value.run (F := Ideal) m' g')
  rw [(hm c).1, (hm c).2]
  refine Eq.trans ?_ (Kernel19Ideal.Prod.arr m c).symm
  funext z
  obtain ⟨i, j, rfl⟩ := Ffn.exists_ix2 z
  exact Kernel19Ideal.Prod.ref_at _ _ i j

end Cert.Proof

end
-- ==== Proof.Out.lean ====
/-
  UNTRUSTED — the calls out_o and out_e: y times w_out plus the residual, and the norm of the sum.
-/
module

public import proofs.«01_k».proof.Defs
public import proofs.«01_k».proof.Proof.Down
public import proofs.«01_k».proof.Proof.Gen.Kernel20
public import proofs.«01_k».proof.Proof.Gen.Kernel20Ideal.Value
public import proofs.«01_k».proof.Proof.Gen.Reference20Ideal.Run
public import Idealize.ShloMosaic.Lib.Pipeline.ValueKit

@[expose] public section

set_option maxRecDepth 16384

noncomputable section

open Idealize.ShloMosaic Idealize.ShloMosaic.TcCoe

namespace Cert.Kernel20Ideal.Prod

open Kernel20Ideal Kernel20Ideal.Gen Ffn

theorem pay_at (a b : Vec Ideal S1024x1024 .bf16) (x : Vec Ideal S1024x1024 .f32) (r s : Fin 1024) :
    k0_pay1 (F := Ideal) a b x (ix2 r s) = (∑ k : Fin 1024, a (ix2 r k) * b (ix2 k s)) + x (ix2 r s) := by
  pointwise [k0_pay1]

theorem norm_at (a b : Vec Ideal S1024x1024 .bf16) (x : Vec Ideal S1024x1024 .f32) (g : Vec Ideal S1x1024 .f32) (r s : Fin 1024) :
    k0_pay2 (F := Ideal) a b x g (ix2 r s) = k0_pay1 (F := Ideal) a b x (ix2 r s) * rms (fun k => k0_pay1 (F := Ideal) a b x (ix2 r k)) * g (ix2 0 s) := by
  unfold rms
  pointwise [k0_pay2]

/-- The sum of the residual and the product. -/
def Y (X A B : ℕ → ℕ → EReal) (i j : ℕ) : EReal := X i j + dotR A (fun j k => B k j) 1024 i j

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 1024) (b := 1024) (m ((c : Thread nD τ).loc main_arg1))
def X (c : Dev nD) : ℕ → ℕ → EReal := mat (a := 4096) (b := 1024) (m ((c : Thread nD τ).loc main_arg2))
def G (c : Dev nD) : ℕ → ℕ → EReal := mat (a := 1) (b := 1024) (m ((c : Thread nD τ).loc main_arg3))
theorem at0 : ∀ t : Fin cfg0.N, win0_0.index t = ![t.val, 0] := (by decide +kernel : ∀ t : Fin grid0.N, _)
theorem a_blk (c : Dev nD) (t : Fin cfg0.N) (r k : Fin 1024) : iblk m c 0 t (ix2 r k) = A m c (t.val * 1024 + r.val) (k.val) := by
  have ht : t.val < 4 := Nat.lt_of_lt_of_eq t.isLt N_0
  unfold A mat
  blk_simp [iblk]
  refine congrArg (m ((c : Thread nD τ).loc main_arg0)) ?_
  blk_ext [at0]
theorem at1 : ∀ t : Fin cfg0.N, win0_1.index t = ![0, 0] := (by decide +kernel : ∀ t : Fin grid0.N, _)
theorem b_blk (c : Dev nD) (t : Fin cfg0.N) (k s : Fin 1024) : iblk m c 1 t (ix2 k s) = B m c (k.val) (s.val) := by
  have ht : t.val < 4 := Nat.lt_of_lt_of_eq t.isLt N_0
  unfold B mat
  blk_simp [iblk]
  refine congrArg (m ((c : Thread nD τ).loc main_arg1)) ?_
  blk_ext [at1]
theorem at2 : ∀ t : Fin cfg0.N, win0_2.index t = ![t.val, 0] := (by decide +kernel : ∀ t : Fin grid0.N, _)
theorem x_blk (c : Dev nD) (t : Fin cfg0.N) (r s : Fin 1024) : iblk m c 2 t (ix2 r s) = X m c (t.val * 1024 + r.val) (s.val) := by
  have ht : t.val < 4 := Nat.lt_of_lt_of_eq t.isLt N_0
  unfold X mat
  blk_simp [iblk]
  refine congrArg (m ((c : Thread nD τ).loc main_arg2)) ?_
  blk_ext [at2]
theorem at3 : ∀ t : Fin cfg0.N, win0_3.index t = ![0, 0] := (by decide +kernel : ∀ t : Fin grid0.N, _)
theorem g_blk (c : Dev nD) (t : Fin cfg0.N) (s : Fin 1024) : iblk m c 3 t (ix2 0 s) = G m c (0) (s.val) := by
  have ht : t.val < 4 := Nat.lt_of_lt_of_eq t.isLt N_0
  unfold G mat
  blk_simp [iblk]
  refine congrArg (m ((c : Thread nD τ).loc main_arg3)) ?_
  blk_ext [at3]

theorem y_at (c : Dev nD) (t : Fin cfg0.N) (r s : Fin 1024) :
    k0_pay1 (F := Ideal) (iblk m c 0 t) (iblk m c 1 t) (iblk m c 2 t) (ix2 r s) = Y (X m c) (A m c) (B m c) (t.val * 1024 + r.val) s.val := by
  rw [pay_at, x_blk]
  unfold Y
  rw [dotR_fin, add_comm]
  refine congrArg (fun y => _ + y) (Finset.sum_congr (M := EReal) rfl fun k _ => ?_)
  rw [a_blk, b_blk]

theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)

theorem arr (c : Dev nD) : (dats m 0 c).arrAt 4 cfg0.N = fun z : S4096x1024.Idx => Y (X m c) (A m c) (B m c) (z 0).val (z 1).val := by
  refine (dats m 0 c).arrAt_eq_of_covers 4 _ (by decide +kernel) fun t hf y => ?_
  have ht : t.val < 4 := Nat.lt_of_lt_of_eq t.isLt N_0
  blk_simp [at4]
  rw [after0_4]
  unfold out0_4
  rw [View.canon_unit_zero zero2]
  simp only [View.ld_unit_zero (S := S1024x1024) zero2]
  obtain ⟨r, s, rfl⟩ := exists_ix2 y
  rw [y_at]
  simp

theorem arr' (c : Dev nD) : (dats m 0 c).arrAt 5 cfg0.N = fun z : S4096x1024.Idx => Y (X m c) (A m c) (B m c) (z 0).val (z 1).val
      * rms (fun k => Y (X m c) (A m c) (B m c) (z 0).val k.val) * G m c 0 (z 1).val := by
  refine (dats m 0 c).arrAt_eq_of_covers 5 _ (by decide +kernel) fun t hf y => ?_
  have ht : t.val < 4 := Nat.lt_of_lt_of_eq t.isLt N_0
  blk_simp [at5]
  rw [after0_5]
  unfold out0_5
  rw [View.canon_unit_zero zero2]
  simp only [View.ld_unit_zero (S := S1024x1024) zero2, View.ld_unit_zero (S := S1x1024) zero2]
  obtain ⟨r, s, rfl⟩ := exists_ix2 y
  rw [norm_at, g_blk]
  simp only [y_at]
  simp

open Reference20Ideal.Gen in
abbrev RY (a : Vec Ideal S4096x1024 .bf16) (b : Vec Ideal S1024x1024 .bf16) (x : Vec Ideal S4096x1024 .f32) : FVec Ideal S4096x1024 .f32 :=
  addf x (Host.dotGeneral (F := Ideal) (φ₁ := .f32) (φ₂ := .f32) Reference20Ideal.dot_S4096x1024_S1024x1024_S4096x1024_1_0_0_1_n_n none
    (extf .f32 a Reference20Ideal.Gen.bitsLt_bf16_f32) (extf .f32 b Reference20Ideal.Gen.bitsLt_bf16_f32))

theorem ref_el (a : Vec Ideal S4096x1024 .bf16) (b : Vec Ideal S1024x1024 .bf16) (x : Vec Ideal S4096x1024 .f32) (r : Fin 4096) (s : Fin 1024) :
    RY a b x (ix2 r s) = Y (mat (a := 4096) (b := 1024) x) (mat (a := 4096) (b := 1024) a) (mat (a := 1024) (b := 1024) b) r.val s.val := by
  have h : RY a b x (ix2 r s) = x (ix2 r s) + ∑ k : Fin 1024, a (ix2 r k) * b (ix2 k s) := by
    unfold RY
    pointwise []
  rw [h]
  unfold Y
  rw [dotR_fin, ← mat_val x r s]
  refine congrArg (fun y => mat x r.val s.val + y) (Finset.sum_congr rfl fun k _ => ?_)
  rw [← mat_val a r k, ← mat_val b k s]

end Cert.Kernel20Ideal.Prod

namespace Cert.Proof

open Idealize.SL.Sem

theorem frame_Kernel20Ideal : quiescent_Kernel20Ideal := fun m ρ _ => Kernel20Ideal.Gen.frame m ρ

theorem frame_Kernel20 : quiescent_Kernel20 := Ffn.transfer (Kernel20Ideal.Gen.frame (F := Bits)) (by sl_kernel_rfl)

theorem frame_Reference20Ideal : quiescent_Reference20Ideal := fun m ρ _ =>
  (θ_run Reference20Ideal.defs _ _).mono (fun r h => ⟨fun c => (h c).2.2, sem_eq_zero_of_no_sems (by decide) r.2⟩)
    (Reference20Ideal.Value.run (F := Ideal) m ρ)

theorem algebraic20 : algebraic_Kernel20Ideal_Reference20Ideal := by
  intro m g m' g' _ hm
  refine ⟨fun c => (Kernel20Ideal.Gen.dats m 0 c).arrAt 4 Kernel20Ideal.cfg0.N, fun c => (Kernel20Ideal.Gen.dats m 0 c).arrAt 5 Kernel20Ideal.cfg0.N,
    Kernel20Ideal.Value.run_blocks m g, ?_⟩
  refine (θ_run Reference20Ideal.defs _ _).mono (fun r h c => ⟨(h c).1.trans ?_, (h c).2.1.trans ?_, (h c).2.2⟩) (Reference20Ideal.Value.run (F := Ideal) m' g')
  · rw [(hm c).1, (hm c).2.1, (hm c).2.2.1]
    refine Eq.trans ?_ (Kernel20Ideal.Prod.arr m c).symm
    funext z
    obtain ⟨i, j, rfl⟩ := Ffn.exists_ix2 z
    exact Kernel20Ideal.Prod.ref_el _ _ _ i j
  · rw [(hm c).1, (hm c).2.1, (hm c).2.2.1, (hm c).2.2.2]
    refine Eq.trans ?_ (Kernel20Ideal.Prod.arr' m c).symm
    funext z
    obtain ⟨i, j, rfl⟩ := Ffn.exists_ix2 z
    refine (Kernel8Ideal.Prod.ref_norm _ _ i j).trans ?_
    simp only [Kernel20Ideal.Prod.ref_el]
    exact congrArg (fun y : EReal => _ * y) (Ffn.mat_val (a := 1) (b := 1024) (m ((c.tc : Thread Kernel20Ideal.nD Kernel20Ideal.τ).loc Kernel20Ideal.main_arg3)) 0 j).symm

end Cert.Proof

end
-- ==== Proof.PleFwd.lean ====
/-
  UNTRUSTED — the call ple_fwd: hn times w_ple_gate, p times w_ple, and x plus the second times the sigmoid of the first.
-/
module

public import proofs.«01_k».proof.Proof.Mat
public import proofs.«01_k».proof.Proof.Gen.Kernel21
public import proofs.«01_k».proof.Proof.Gen.Kernel21Ideal.Value
public import proofs.«01_k».proof.Proof.Gen.Reference21Ideal.Run

@[expose] public section

set_option maxRecDepth 16384

noncomputable section

open Idealize.ShloMosaic Idealize.ShloMosaic.TcCoe

namespace Cert.Kernel21Ideal.Prod

open Kernel21Ideal Kernel21Ideal.Gen Ffn

theorem pay1_at (a : Vec Ideal S1024x1024 .bf16) (b : Vec Ideal S1024x512 .bf16) (r : Fin 1024) (s : Fin 512) :
    k0_pay1 (F := Ideal) a b (ix2 r s) = ∑ k : Fin 1024, a (ix2 r k) * b (ix2 k s) := by
  pointwise [k0_pay1]

theorem pay2_at (a : Vec Ideal S1024x256 .f32) (b : Vec Ideal S256x512 .bf16) (r : Fin 1024) (s : Fin 512) :
    k0_pay2 (F := Ideal) a b (ix2 r s) = ∑ k : Fin 256, a (ix2 r k) * b (ix2 k s) := by
  pointwise [k0_pay2]

/-- The sigmoid as both sides write it. -/
def sg (x : EReal) : EReal := Ideal.div (Ideal.ofBits FTy.f32 1065353216#32) (Ideal.ofBits FTy.f32 1065353216#32 + Ideal.exp (-x))

theorem pay3_at (a : Vec Ideal S1024x1024 .bf16) (b : Vec Ideal S1024x512 .bf16) (p : Vec Ideal S1024x256 .f32) (w : Vec Ideal S256x512 .bf16) (x : Vec Ideal S1024x512 .f32) (r : Fin 1024) (s : Fin 512) :
    k0_pay3 (F := Ideal) a b p w x (ix2 r s) = x (ix2 r s) + k0_pay2 (F := Ideal) p w (ix2 r s) * sg (k0_pay1 (F := Ideal) a b (ix2 r s)) := by
  unfold sg
  pointwise [k0_pay3]
  rw [zero_sub]

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 1024) (b := 1024) (m ((c : Thread nD τ).loc main_arg1))
def P (c : Dev nD) : ℕ → ℕ → EReal := mat (a := 4096) (b := 256) (m ((c : Thread nD τ).loc main_arg2))
def W (c : Dev nD) : ℕ → ℕ → EReal := mat (a := 256) (b := 1024) (m ((c : Thread nD τ).loc main_arg3))
def X (c : Dev nD) : ℕ → ℕ → EReal := mat (a := 4096) (b := 1024) (m ((c : Thread nD τ).loc main_arg4))
theorem at0 : ∀ t : Fin cfg0.N, win0_0.index t = ![t.val / 2, 0] := (by decide +kernel : ∀ t : Fin grid0.N, _)
theorem a_blk (c : Dev nD) (t : Fin cfg0.N) (r k : Fin 1024) : iblk m c 0 t (ix2 r k) = A m c (t.val / 2 * 1024 + r.val) (k.val) := by
  have ht := t.isLt.trans_eq N_0
  unfold A mat
  blk_simp [iblk]
  refine congrArg (m _) ?_
  blk_ext [at0]
theorem at1 : ∀ t : Fin cfg0.N, win0_1.index t = ![0, t.val % 2] := (by decide +kernel : ∀ t : Fin grid0.N, _)
theorem b_blk (c : Dev nD) (t : Fin cfg0.N) (k : Fin 1024) (s : Fin 512) : iblk m c 1 t (ix2 k s) = B m c (k.val) (t.val % 2 * 512 + s.val) := by
  have ht := t.isLt.trans_eq N_0
  unfold B mat
  blk_simp [iblk]
  refine congrArg (m _) ?_
  blk_ext [at1]
theorem at2 : ∀ t : Fin cfg0.N, win0_2.index t = ![t.val / 2, 0] := (by decide +kernel : ∀ t : Fin grid0.N, _)
theorem p_blk (c : Dev nD) (t : Fin cfg0.N) (r : Fin 1024) (k : Fin 256) : iblk m c 2 t (ix2 r k) = P m c (t.val / 2 * 1024 + r.val) (k.val) := by
  have ht := t.isLt.trans_eq N_0
  unfold P mat
  blk_simp [iblk]
  refine congrArg (m _) ?_
  blk_ext [at2]
theorem at3 : ∀ t : Fin cfg0.N, win0_3.index t = ![0, t.val % 2] := (by decide +kernel : ∀ t : Fin grid0.N, _)
theorem w_blk (c : Dev nD) (t : Fin cfg0.N) (k : Fin 256) (s : Fin 512) : iblk m c 3 t (ix2 k s) = W m c (k.val) (t.val % 2 * 512 + s.val) := by
  have ht := t.isLt.trans_eq N_0
  unfold W mat
  blk_simp [iblk]
  refine congrArg (m _) ?_
  blk_ext [at3]
theorem at4 : ∀ t : Fin cfg0.N, win0_4.index t = ![t.val / 2, t.val % 2] := (by decide +kernel : ∀ t : Fin grid0.N, _)
theorem x_blk (c : Dev nD) (t : Fin cfg0.N) (r : Fin 1024) (s : Fin 512) : iblk m c 4 t (ix2 r s) = X m c (t.val / 2 * 1024 + r.val) (t.val % 2 * 512 + s.val) := by
  have ht := t.isLt.trans_eq N_0
  unfold X mat
  blk_simp [iblk]
  refine congrArg (m _) ?_
  blk_ext [at4]

theorem gl_at (c : Dev nD) (t : Fin cfg0.N) (r : Fin 1024) (s : Fin 512) :
    k0_pay1 (F := Ideal) (iblk m c 0 t) (iblk m c 1 t) (ix2 r s) = dotR (A m c) (fun j k => B m c k j) 1024 (t.val / 2 * 1024 + r.val) (t.val % 2 * 512 + s.val) := by
  rw [pay1_at, dotR_fin]
  refine Finset.sum_congr (M := EReal) rfl fun k _ => ?_
  rw [a_blk, b_blk]

theorem pe_at (c : Dev nD) (t : Fin cfg0.N) (r : Fin 1024) (s : Fin 512) :
    k0_pay2 (F := Ideal) (iblk m c 2 t) (iblk m c 3 t) (ix2 r s) = dotR (P m c) (fun j k => W m c k j) 256 (t.val / 2 * 1024 + r.val) (t.val % 2 * 512 + s.val) := by
  rw [pay2_at, dotR_fin]
  refine Finset.sum_congr (M := EReal) rfl fun k _ => ?_
  rw [p_blk, w_blk]

/-- The three results, as functions of the arguments' elements. -/
def Lg (A B : ℕ → ℕ → EReal) : ℕ → ℕ → EReal := dotR A (fun j k => B k j) 1024
def Pe (P W : ℕ → ℕ → EReal) : ℕ → ℕ → EReal := dotR P (fun j k => W k j) 256
def Z (A B P W X : ℕ → ℕ → EReal) : ℕ → ℕ → EReal := fun i j => X i j + Pe P W i j * sg (Lg A B i j)

theorem at5 : ∀ t : Fin cfg0.N, win0_5.index t = ![t.val / 2, t.val % 2] := (by decide +kernel : ∀ t : Fin grid0.N, _)
theorem arr5 (c : Dev nD) : (dats m 0 c).arrAt 5 cfg0.N = fun z : S4096x1024.Idx => Z (A m c) (B m c) (P m c) (W m c) (X m c) (z 0).val (z 1).val := by
  refine (dats m 0 c).arrAt_eq_of_covers 5 _ (by decide +kernel) fun t hf y => ?_
  have ht := t.isLt.trans_eq N_0
  blk_simp [at5]
  rw [after0_5]
  unfold out0_5
  rw [View.canon_unit_zero zero2]
  simp only [View.ld_unit_zero (S := S1024x1024) zero2, View.ld_unit_zero (S := S1024x512) zero2, View.ld_unit_zero (S := S1024x256) zero2, View.ld_unit_zero (S := S256x512) zero2]
  obtain ⟨r, s, rfl⟩ := exists_ix2 y
  rw [pay3_at, x_blk, gl_at, pe_at]
  rfl

theorem at6 : ∀ t : Fin cfg0.N, win0_6.index t = ![t.val / 2, t.val % 2] := (by decide +kernel : ∀ t : Fin grid0.N, _)
theorem arr6 (c : Dev nD) : (dats m 0 c).arrAt 6 cfg0.N = fun z : S4096x1024.Idx => Lg (A m c) (B m c) (z 0).val (z 1).val := by
  refine (dats m 0 c).arrAt_eq_of_covers 6 _ (by decide +kernel) fun t hf y => ?_
  have ht := t.isLt.trans_eq N_0
  blk_simp [at6]
  rw [after0_6]
  unfold out0_6
  rw [View.canon_unit_zero zero2]
  simp only [View.ld_unit_zero (S := S1024x1024) zero2, View.ld_unit_zero (S := S1024x512) zero2]
  obtain ⟨r, s, rfl⟩ := exists_ix2 y
  rw [gl_at]
  rfl

theorem at7 : ∀ t : Fin cfg0.N, win0_7.index t = ![t.val / 2, t.val % 2] := (by decide +kernel : ∀ t : Fin grid0.N, _)
theorem arr7 (c : Dev nD) : (dats m 0 c).arrAt 7 cfg0.N = fun z : S4096x1024.Idx => Pe (P m c) (W m c) (z 0).val (z 1).val := by
  refine (dats m 0 c).arrAt_eq_of_covers 7 _ (by decide +kernel) fun t hf y => ?_
  have ht := t.isLt.trans_eq N_0
  blk_simp [at7]
  rw [after0_7]
  unfold out0_7
  rw [View.canon_unit_zero zero2]
  simp only [View.ld_unit_zero (S := S1024x256) zero2, View.ld_unit_zero (S := S256x512) zero2]
  obtain ⟨r, s, rfl⟩ := exists_ix2 y
  rw [pe_at]
  rfl

abbrev RGL (a : Vec Ideal S4096x1024 .bf16) (b : Vec Ideal S1024x1024 .bf16) : FVec Ideal S4096x1024 .f32 :=
  Host.dotGeneral (F := Ideal) (φ₁ := .f32) (φ₂ := .f32) Reference21Ideal.dot_S4096x1024_S1024x1024_S4096x1024_1_0_0_1_n_n none (extf .f32 a Reference21Ideal.Gen.bitsLt_bf16_f32) (extf .f32 b Reference21Ideal.Gen.bitsLt_bf16_f32)

theorem RGL_at (a : Vec Ideal S4096x1024 .bf16) (b   : Vec Ideal S1024x1024 .bf16) (r : Fin 4096) (s : Fin 1024) :
    RGL a b (ix2 r s) = Lg (mat (a := 4096) (b := 1024) a) (mat (a := 1024) (b := 1024) b) r.val s.val := by
  have h : RGL a b (ix2 r s) = ∑ k : Fin 1024, a (ix2 r k) * b (ix2 k s) := by
    pointwise [RGL]
  rw [h]
  refine Eq.trans ?_ (dotR_fin _ _ _ _ _).symm
  refine Finset.sum_congr rfl fun k _ => ?_
  rw [← mat_val a r k, ← mat_val b k s]

abbrev RPE (a : Vec Ideal S4096x256 .f32) (b : Vec Ideal S256x1024 .bf16) : FVec Ideal S4096x1024 .f32 :=
  Host.dotGeneral (F := Ideal) (φ₁ := .f32) (φ₂ := .f32) Reference21Ideal.dot_S4096x256_S256x1024_S4096x1024_1_0_0_1_n_n none a (extf .f32 b Reference21Ideal.Gen.bitsLt_bf16_f32)

theorem RPE_at (a : Vec Ideal S4096x256 .f32) (b   : Vec Ideal S256x1024 .bf16) (r : Fin 4096) (s : Fin 1024) :
    RPE a b (ix2 r s) = Pe (mat (a := 4096) (b := 256) a) (mat (a := 256) (b := 1024) b) r.val s.val := by
  have h : RPE a b (ix2 r s) = ∑ k : Fin 256, a (ix2 r k) * b (ix2 k s) := by
    pointwise [RPE]
  rw [h]
  refine Eq.trans ?_ (dotR_fin _ _ _ _ _).symm
  refine Finset.sum_congr rfl fun k _ => ?_
  rw [← mat_val a r k, ← mat_val b k s]

open Reference21Ideal.Gen in
theorem RZ_at (x g e : Vec Ideal S4096x1024 .f32) (r : Fin 4096) (s : Fin 1024) :
    addf (F := Ideal) x (mulf e (Host.divf (broadcastInDim S4096x1024 ![] bcast_S_S4096x1024 (constant Reference21Ideal.S_ .f32 0x3F800000#32))
      (addf (broadcastInDim S4096x1024 ![] bcast_S_S4096x1024 (constant Reference21Ideal.S_ .f32 0x3F800000#32)) (Host.exp (Host.negf g))))) (ix2 r s)
      = x (ix2 r s) + e (ix2 r s) * sg (g (ix2 r s)) := by
  unfold sg
  pointwise []

end Cert.Kernel21Ideal.Prod

namespace Cert.Proof

open Idealize.SL.Sem

theorem frame_Kernel21Ideal : quiescent_Kernel21Ideal := fun m ρ _ => Kernel21Ideal.Gen.frame m ρ

theorem frame_Kernel21 : quiescent_Kernel21 := Ffn.transfer (Kernel21Ideal.Gen.frame (F := Bits)) (by sl_kernel_rfl)

theorem frame_Reference21Ideal : quiescent_Reference21Ideal := fun m ρ _ =>
  (θ_run Reference21Ideal.defs _ _).mono (fun r h => ⟨fun c => (h c).2.2.2, sem_eq_zero_of_no_sems (by decide) r.2⟩)
    (Reference21Ideal.Value.run (F := Ideal) m ρ)

theorem algebraic21 : algebraic_Kernel21Ideal_Reference21Ideal := by
  intro m g m' g' _ hm
  refine ⟨_, _, _, Kernel21Ideal.Value.run_blocks m g, ?_⟩
  refine (θ_run Reference21Ideal.defs _ _).mono (fun r h c => ⟨(h c).1.trans ?_, (h c).2.1.trans ?_, (h c).2.2.1.trans ?_, (h c).2.2.2⟩) (Reference21Ideal.Value.run (F := Ideal) m' g')
  · rw [(hm c).1, (hm c).2.1, (hm c).2.2.1, (hm c).2.2.2.1, (hm c).2.2.2.2]
    refine Eq.trans ?_ (Kernel21Ideal.Prod.arr5 m c).symm
    funext z
    obtain ⟨i, j, rfl⟩ := Ffn.exists_ix2 z
    refine (Kernel21Ideal.Prod.RZ_at _ (Kernel21Ideal.Prod.RGL _ _) (Kernel21Ideal.Prod.RPE _ _) i j).trans ?_
    rw [Kernel21Ideal.Prod.RGL_at, Kernel21Ideal.Prod.RPE_at]
    exact congrArg (fun y : EReal => y + _) (Ffn.mat_val (a := 4096) (b := 1024) _ i j).symm
  · rw [(hm c).1, (hm c).2.1]
    refine Eq.trans ?_ (Kernel21Ideal.Prod.arr6 m c).symm
    funext z
    obtain ⟨i, j, rfl⟩ := Ffn.exists_ix2 z
    exact Kernel21Ideal.Prod.RGL_at _ _ i j
  · rw [(hm c).2.2.1, (hm c).2.2.2.1]
    refine Eq.trans ?_ (Kernel21Ideal.Prod.arr7 m c).symm
    funext z
    obtain ⟨i, j, rfl⟩ := Ffn.exists_ix2 z
    exact Kernel21Ideal.Prod.RPE_at _ _ i j

end Cert.Proof

end
-- ==== Proof.PleBwd.lean ====
/-
  UNTRUSTED — the call ple_bwd: the gradients of the product of pe and the sigmoid of gl.
-/
module

public import proofs.«01_k».proof.Defs
public import proofs.«01_k».proof.Proof.PleFwd
public import proofs.«01_k».proof.Proof.Gen.Kernel22
public import proofs.«01_k».proof.Proof.Gen.Kernel22Ideal.Value
public import proofs.«01_k».proof.Proof.Gen.Reference22Ideal.Run
public import Idealize.ShloMosaic.Lib.Pipeline.ValueKit

@[expose] public section

set_option maxRecDepth 16384

noncomputable section

open Idealize.ShloMosaic Idealize.ShloMosaic.TcCoe

namespace Cert.Kernel22Ideal.Prod

open Kernel22Ideal Kernel22Ideal.Gen Ffn
open Kernel21Ideal.Prod (sg)

/-- The gradient in `pe`. -/
def dE (d l : EReal) : EReal := d * sg l
/-- The gradient in `gl`, in the kernel's order. -/
def dL (d l e : EReal) : EReal := d * e * sg l * (Ideal.ofBits FTy.f32 1065353216#32 - sg l)

theorem dL_eq (d l e : EReal) : e * d * (sg l * (Ideal.ofBits FTy.f32 1065353216#32 - sg l)) = dL d l e := by
  unfold dL
  rw [mul_comm e d, ← mul_assoc]

theorem pay1_at (l : Vec Ideal S512x1024 .f32) (r : Fin 512) (s : Fin 1024) : k0_pay1 (F := Ideal) l (ix2 r s) = sg (l (ix2 r s)) := by
  unfold sg
  pointwise [k0_pay1]
  rw [zero_sub]

theorem pay2_at (d l : Vec Ideal S512x1024 .f32) (r : Fin 512) (s : Fin 1024) : k0_pay2 (F := Ideal) l d (ix2 r s) = dE (d (ix2 r s)) (l (ix2 r s)) := by
  unfold dE
  rw [← pay1_at]
  pointwise [k0_pay2]

theorem pay3_at (d l e : Vec Ideal S512x1024 .f32) (r : Fin 512) (s : Fin 1024) : k0_pay3 (F := Ideal) l d e (ix2 r s) = dL (d (ix2 r s)) (l (ix2 r s)) (e (ix2 r s)) := by
  unfold dL
  rw [← pay1_at]
  pointwise [k0_pay3]

variable (m : (ℓ : Loc nD τ sig) → Buf (Elt Ideal) ℓ)

def D (c : Dev nD) : ℕ → ℕ → EReal := mat (a := 4096) (b := 1024) (m ((c : Thread nD τ).loc main_arg0))
def L (c : Dev nD) : ℕ → ℕ → EReal := mat (a := 4096) (b := 1024) (m ((c : Thread nD τ).loc main_arg1))
def E (c : Dev nD) : ℕ → ℕ → EReal := mat (a := 4096) (b := 1024) (m ((c : Thread nD τ).loc main_arg2))
theorem at0 : ∀ t : Fin cfg0.N, win0_0.index t = ![t.val, 0] := (by decide +kernel : ∀ t : Fin grid0.N, _)
theorem d_blk (c : Dev nD) (t : Fin cfg0.N) (r : Fin 512) (s : Fin 1024) : iblk m c 0 t (ix2 r s) = D m c (t.val * 512 + r.val) (s.val) := by
  have ht : t.val < 8 := Nat.lt_of_lt_of_eq t.isLt N_0
  unfold D mat
  blk_simp [iblk]
  refine congrArg (m ((c : Thread nD τ).loc main_arg0)) ?_
  blk_ext [at0]
theorem at1 : ∀ t : Fin cfg0.N, win0_1.index t = ![t.val, 0] := (by decide +kernel : ∀ t : Fin grid0.N, _)
theorem l_blk (c : Dev nD) (t : Fin cfg0.N) (r : Fin 512) (s : Fin 1024) : iblk m c 1 t (ix2 r s) = L m c (t.val * 512 + r.val) (s.val) := by
  have ht : t.val < 8 := Nat.lt_of_lt_of_eq t.isLt N_0
  unfold L mat
  blk_simp [iblk]
  refine congrArg (m ((c : Thread nD τ).loc main_arg1)) ?_
  blk_ext [at1]
theorem at2 : ∀ t : Fin cfg0.N, win0_2.index t = ![t.val, 0] := (by decide +kernel : ∀ t : Fin grid0.N, _)
theorem e_blk (c : Dev nD) (t : Fin cfg0.N) (r : Fin 512) (s : Fin 1024) : iblk m c 2 t (ix2 r s) = E m c (t.val * 512 + r.val) (s.val) := by
  have ht : t.val < 8 := Nat.lt_of_lt_of_eq t.isLt N_0
  unfold E mat
  blk_simp [iblk]
  refine congrArg (m ((c : Thread nD τ).loc main_arg2)) ?_
  blk_ext [at2]

theorem at3 : ∀ t : Fin cfg0.N, win0_3.index t = ![t.val, 0] := (by decide +kernel : ∀ t : Fin grid0.N, _)
theorem arr3 (c : Dev nD) : (dats m 0 c).arrAt 3 cfg0.N = fun z : S4096x1024.Idx => dE (D m c (z 0).val (z 1).val) (L m c (z 0).val (z 1).val) := by
  refine (dats m 0 c).arrAt_eq_of_covers 3 _ (by decide +kernel) fun t hf y => ?_
  have ht : t.val < 8 := Nat.lt_of_lt_of_eq t.isLt N_0
  blk_simp [at3]
  rw [after0_3]
  unfold out0_3
  rw [View.canon_unit_zero zero2]
  simp only [View.ld_unit_zero (S := S512x1024) zero2]
  obtain ⟨r, s, rfl⟩ := exists_ix2 y
  rw [pay2_at, d_blk, l_blk]
  simp

theorem at4 : ∀ t : Fin cfg0.N, win0_4.index t = ![t.val, 0] := (by decide +kernel : ∀ t : Fin grid0.N, _)
theorem arr4 (c : Dev nD) : (dats m 0 c).arrAt 4 cfg0.N = fun z : S4096x1024.Idx => dL (D m c (z 0).val (z 1).val) (L m c (z 0).val (z 1).val) (E m c (z 0).val (z 1).val) := by
  refine (dats m 0 c).arrAt_eq_of_covers 4 _ (by decide +kernel) fun t hf y => ?_
  have ht : t.val < 8 := Nat.lt_of_lt_of_eq t.isLt N_0
  blk_simp [at4]
  rw [after0_4]
  unfold out0_4
  rw [View.canon_unit_zero zero2]
  simp only [View.ld_unit_zero (S := S512x1024) zero2]
  obtain ⟨r, s, rfl⟩ := exists_ix2 y
  rw [pay3_at, d_blk, l_blk, e_blk]
  simp

section Reference
open Reference22Ideal.Gen

/-- The reference's sigmoid. -/
abbrev RS (l : Vec Ideal S4096x1024 .f32) : FVec Ideal S4096x1024 .f32 :=
  Host.divf (broadcastInDim S4096x1024 ![] bcast_S_S4096x1024 (constant Reference22Ideal.S_ .f32 0x3F800000#32))
    (addf (F := Ideal) (broadcastInDim S4096x1024 ![] bcast_S_S4096x1024 (constant Reference22Ideal.S_ .f32 0x3F800000#32)) (Host.exp (Host.negf l)))

theorem RS_at (l : Vec Ideal S4096x1024 .f32) (r : Fin 4096) (s : Fin 1024) : RS l (ix2 r s) = sg (l (ix2 r s)) := by
  unfold sg
  pointwise [RS]

theorem RE_at (d g : FVec Ideal S4096x1024 .f32) (r : Fin 4096) (s : Fin 1024) :
    truncf (F := Ideal) .bf16 (mulf d g) Reference22Ideal.Gen.bitsLt_bf16_f32 (ix2 r s) = d (ix2 r s) * g (ix2 r s) := by
  pointwise []

theorem RL_at (d g e : FVec Ideal S4096x1024 .f32) (r : Fin 4096) (s : Fin 1024) :
    truncf (F := Ideal) .bf16 (mulf (mulf e d) (mulf g (subf (broadcastInDim S4096x1024 ![] bcast_S_S4096x1024 (constant Reference22Ideal.S_ .f32 0x3F800000#32)) g)))
        Reference22Ideal.Gen.bitsLt_bf16_f32 (ix2 r s)
      = e (ix2 r s) * d (ix2 r s) * (g (ix2 r s) * (Ideal.ofBits FTy.f32 1065353216#32 - g (ix2 r s))) := by
  pointwise []

end Reference

end Cert.Kernel22Ideal.Prod

namespace Cert.Proof

open Idealize.SL.Sem

theorem frame_Kernel22Ideal : quiescent_Kernel22Ideal := fun m ρ _ => Kernel22Ideal.Gen.frame m ρ

theorem frame_Kernel22 : quiescent_Kernel22 := Ffn.transfer (Kernel22Ideal.Gen.frame (F := Bits)) (by sl_kernel_rfl)

theorem frame_Reference22Ideal : quiescent_Reference22Ideal := fun m ρ _ =>
  (θ_run Reference22Ideal.defs _ _).mono (fun r h => ⟨fun c => (h c).2.2, sem_eq_zero_of_no_sems (by decide) r.2⟩)
    (Reference22Ideal.Value.run (F := Ideal) m ρ)

theorem algebraic22 : algebraic_Kernel22Ideal_Reference22Ideal := by
  intro m g m' g' _ hm
  refine ⟨_, _, Kernel22Ideal.Value.run_blocks m g, ?_⟩
  refine (θ_run Reference22Ideal.defs _ _).mono (fun r h c => ⟨(h c).1.trans ?_, (h c).2.1.trans ?_, (h c).2.2⟩) (Reference22Ideal.Value.run (F := Ideal) m' g')
  · rw [(hm c).1, (hm c).2.1]
    refine Eq.trans ?_ (Kernel22Ideal.Prod.arr3 m c).symm
    funext z
    obtain ⟨i, j, rfl⟩ := Ffn.exists_ix2 z
    refine (Kernel22Ideal.Prod.RE_at _ (Kernel22Ideal.Prod.RS _) i j).trans ?_
    rw [Kernel22Ideal.Prod.RS_at]
    exact congrArg₂ Kernel22Ideal.Prod.dE (Ffn.mat_val (a := 4096) (b := 1024) _ i j).symm (Ffn.mat_val (a := 4096) (b := 1024) _ i j).symm
  · rw [(hm c).1, (hm c).2.1, (hm c).2.2]
    refine Eq.trans ?_ (Kernel22Ideal.Prod.arr4 m c).symm
    funext z
    obtain ⟨i, j, rfl⟩ := Ffn.exists_ix2 z
    refine (Kernel22Ideal.Prod.RL_at _ (Kernel22Ideal.Prod.RS _) _ i j).trans ?_
    rw [Kernel22Ideal.Prod.RS_at]
    exact (Kernel22Ideal.Prod.dL_eq _ _ _).trans (congr (congrArg₂ Kernel22Ideal.Prod.dL (Ffn.mat_val (a := 4096) (b := 1024) _ i j).symm
      (Ffn.mat_val (a := 4096) (b := 1024) _ i j).symm) (Ffn.mat_val (a := 4096) (b := 1024) _ i j).symm)

end Cert.Proof

end
-- ==== Proof.DwPle.lean ====
/-
  UNTRUSTED — the call ple_dwple: p transposed times dpe, accumulated in scratch over four blocks of rows and written as eight blocks of 128 columns.
-/
module

public import proofs.«01_k».proof.Proof.Accumulate
public import proofs.«01_k».proof.Proof.Gen.Kernel23
public import proofs.«01_k».proof.Proof.Gen.Kernel23Ideal.Value
public import proofs.«01_k».proof.Proof.Gen.Reference23Ideal.Run

@[expose] public section

set_option maxRecDepth 16384

noncomputable section

open Idealize.ShloMosaic Idealize.ShloMosaic.TcCoe

namespace Cert.Kernel23Ideal.Prod

open Kernel23Ideal Kernel23Ideal.Gen Ffn

theorem pay_at (a : Vec Ideal S1024x256 .f32) (b : Vec Ideal S1024x1024 .bf16) (r : Fin 256) (s : Fin 1024) :
    k0_pay1 (F := Ideal) a b (ix2 r s) = ∑ k : Fin 1024, a (ix2 k r) * b (ix2 k s) := by
  pointwise [k0_pay1]

section Cases
variable {F : FTy → Type} [FloatOps F]

theorem sout_A (c : Dev nD) (i a3 h3 a4 h4 a5 h5 a6 h6 hc0 hc1 hc2) (x : Vec F S1024x256 .f32) (y : Vec F S1024x1024 .bf16) :
    sout0_A_0 c i a3 h3 a4 h4 a5 h5 a6 h6 hc0 hc1 hc2 x y = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, h6.read_unread, ld0, shapeCast_self]
theorem sout_B (c : Dev nD) (i a3 h3 a4 h4 a5 h5 a6 h6 hc0 hc1 hc2) (x : Vec F S1024x256 .f32) (y : Vec F S1024x1024 .bf16) (z : Vec F S256x1024 .f32) :
    sout0_B_0 c i a3 h3 a4 h4 a5 h5 a6 h6 hc0 hc1 hc2 x y z = addf z (k0_pay1 x y) := by
  unfold sout0_B_0
  rw [View.read_writes_eq_canon]; on_goal 2 => apply scover0_B_0
  unfold kernelRun0_B
  dsimp only
  sl_unfold_words
  rw [View.canon_unit_zero zero2]
  unfold k0_pay3
  simp only [View.readAt_eq_ld, h3.read_unread, h4.read_unread, h6.read_unread, ld0, shapeCast_self]
theorem sout_C (c : Dev nD) (i a3 h3 a4 h4 a5 h5 a6 h6 hc0 hc1 hc2) (x : Vec F S1024x256 .f32) (y : Vec F S1024x1024 .bf16) (z : Vec F S256x1024 .f32) :
    sout0_C_0 c i a3 h3 a4 h4 a5 h5 a6 h6 hc0 hc1 hc2 x y z = addf z (k0_pay1 x y) := by
  unfold sout0_C_0
  rw [View.read_writes_eq_canon]; on_goal 2 => apply scover0_C_0
  unfold kernelRun0_C
  dsimp only
  sl_unfold_words
  rw [View.canon_unit_zero zero2]
  unfold k0_pay3
  simp only [View.readAt_eq_ld, h3.read_unread, h4.read_unread, h6.read_unread, ld0, shapeCast_self]

/-- The buffer's columns as eight planes. -/
def cut (w : Vec F S256x1024 .f32) (z : S8x256x128.Idx) : Elt F .f32 :=
  w (ix2 (⟨(z 1).val, (z 1).isLt⟩ : Fin 256) (⟨128 * (z 0).val + (z 2).val, by have h0 : (z 0).val < 8 := (z 0).isLt; have h2 : (z 2).val < 128 := (z 2).isLt; omega⟩ : Fin 1024))

theorem cut_piece (d : ℕ) (hd : d < 8) (h) (w : Vec F S256x1024 .f32) (P : S1x256x128.Idx → Elt F .f32)
    (hP : ∀ (r : Fin 256) (s : Fin 128), P (ix3 (0 : Fin 1) r s) = w (ix2 r ⟨128 * d + s.val, by omega⟩)) (u : S1x256x128.Idx) :
    P u = cut w ((Rect.unit (s := S8x256x128) ![d, 0, 0] ![1, 256, 128] h).emb u) := by
  obtain ⟨e, r, s, rfl⟩ := exists_ix3 u
  obtain rfl : e = 0 := by omega
  refine (hP r s).trans ?_
  unfold cut
  refine congrArg w ?_
  blk_ext []

theorem out_C (c : Dev nD) (i a3 h3 a4 h4 a5 h5 a6 h6 hc0 hc1 hc2) (x : Vec F S1024x256 .f32) (y : Vec F S1024x1024 .bf16) (z : Vec F S256x1024 .f32) :
    out0_C_2 c i a3 h3 a4 h4 a5 h5 a6 h6 hc0 hc1 hc2 x y z = cut (addf z (k0_pay1 x y)) := by
  unfold out0_C_2
  rw [View.read_writes_eq_canon]; on_goal 2 => apply cover0_C_2
  funext v
  refine View.canon_apply_of_pieces (cut (addf z (k0_pay1 x y))) _ ?_ v (cover0_C_2 c i a3 h3 a4 h4 a5 h5 a6 h6 hc0 hc1 hc2 x y z v)
  unfold kernelRun0_C
  dsimp only
  sl_unfold_words
  rw [View.readCov_unit_zero (S := S256x1024) _ zero2]
  unfold k0_pay3
  simp only [View.readAt_eq_ld, h3.read_unread, h4.read_unread, h6.read_unread, ld0, shapeCast_self]
  generalize addf z (k0_pay1 x y) = w
  simp only [List.forall_mem_cons]
  refine ⟨?_, ?_, ?_, ?_, ?_, ?_, ?_, ?_, fun _ h => absurd h List.not_mem_nil⟩
  · exact cut_piece 7 (by decide) _ w _ (fun r s => by pointwise [k0_pay4, k0_pay12])
  · exact cut_piece 6 (by decide) _ w _ (fun r s => by pointwise [k0_pay11])
  · exact cut_piece 5 (by decide) _ w _ (fun r s => by pointwise [k0_pay10])
  · exact cut_piece 4 (by decide) _ w _ (fun r s => by pointwise [k0_pay9])
  · exact cut_piece 3 (by decide) _ w _ (fun r s => by pointwise [k0_pay8])
  · exact cut_piece 2 (by decide) _ w _ (fun r s => by pointwise [k0_pay7])
  · exact cut_piece 1 (by decide) _ w _ (fun r s => by pointwise [k0_pay6])
  · exact cut_piece 0 (by decide) _ w _ (fun r s => by pointwise [k0_pay5])

end Cases

variable (m : (ℓ : Loc nD τ sig) → Buf (Elt Ideal) ℓ)

def A (c : Dev nD) : ℕ → ℕ → EReal := mat (a := 4096) (b := 256) (m ((c : Thread nD τ).loc main_arg0))
def B (c : Dev nD) : ℕ → ℕ → EReal := mat (a := 4096) (b := 1024) (m ((c : Thread nD τ).loc main_arg1))

theorem ix0 : ∀ t : Fin cfg0.N, win0_0.index t = ![t.val % 4, 0] := (by decide +kernel : ∀ t : Fin grid0.N, _)
theorem a_blk (c : Dev nD) (t : Fin cfg0.N) (r : Fin 256) (k : Fin 1024) : iblk m c 0 t (ix2 k r) = A m c (1024 * (t.val % 4) + k.val) (r.val) := by
  have ht := t.isLt.trans_eq N_0
  unfold A mat
  blk_simp [iblk]
  refine congrArg (m _) ?_
  blk_ext [ix0]
theorem ix1 : ∀ t : Fin cfg0.N, win0_1.index t = ![t.val % 4, 0] := (by decide +kernel : ∀ t : Fin grid0.N, _)
theorem b_blk (c : Dev nD) (t : Fin cfg0.N) (s : Fin 1024) (k : Fin 1024) : iblk m c 1 t (ix2 k s) = B m c (1024 * (t.val % 4) + k.val) s.val := by
  have ht := t.isLt.trans_eq N_0
  unfold B mat
  blk_simp [iblk]
  refine congrArg (m _) ?_
  blk_ext [ix1]

/-- The product of the blocks at point `t`. -/
theorem pay_blk (c : Dev nD) (t : Fin cfg0.N) (r : Fin 256) (s : Fin 1024) :
    k0_pay1 (F := Ideal) (iblk m c 0 t) (iblk m c 1 t) (ix2 r s) = ∑ k : Fin 1024, A m c (1024 * (t.val % 4) + k.val) (r.val) * B m c (1024 * (t.val % 4) + k.val) s.val := by
  rw [pay_at]
  refine Finset.sum_congr (M := EReal) rfl fun k _ => ?_
  rw [a_blk, b_blk]

/-- What the scratch holds after point `n`: the product over the blocks so far. -/
theorem s_at (c : Dev nD) (r : Fin 256) (s : Fin 1024) (n : ℕ) (h : n < cfg0.N) :
    (outsAt0 m c n h).2 (ix2 r s) = dotR (fun i k => A m c k i) (fun i k => B m c k i) (1024 * (n % 4 + 1)) (r.val) s.val := by
  refine acc_at 1024 4 _ _ (fun _ => r.val) (fun _ => s.val) (fun n h => (outsAt0 m c n h).2 (ix2 r s)) (fun n h h0 => ?_) (fun n h h0 => ?_) n h
  · have hN := h.trans_eq N_0
    refine Eq.trans ?_ (pay_blk m c ⟨n, h⟩ r s)
    rw [outsAt0_A m c ⟨n, h⟩ h0 (by dsimp only; omega) (by dsimp only; omega)]
    dsimp only
    rw [sout_A]
  · refine Eq.trans ?_ (congrArg (fun x : EReal => _ + x) (pay_blk m c ⟨n, h⟩ r s))
    by_cases h3 : n % 4 = 3
    · rw [outsAt0_C m c ⟨n, h⟩ h0 (by dsimp only; omega) h3]
      dsimp only
      rw [sout_C]
      rfl
    · rw [outsAt0_B m c ⟨n, h⟩ h0 (by dsimp only; omega) h3]
      dsimp only
      rw [sout_B]
      rfl

theorem ixo : ∀ t : Fin cfg0.N, win0_2.index t = ![0, 0, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

theorem arr (c : Dev nD) : (dats m 0 c).arrAt 2 cfg0.N = fun z : S8x256x128.Idx => dotR (fun i k => A m c k i) (fun i k => B m c k i) 4096 (z 1).val (128 * (z 0).val + (z 2).val) := by
  refine (dats m 0 c).arrAt_eq_of_covers 2 _ (by decide +kernel) fun t hf y => ?_
  have ht := t.isLt.trans_eq N_0
  have h3 := last t hf
  blk_simp [ixo]
  rw [after0_2]
  obtain ⟨d, r, s, rfl⟩ := exists_ix3 y
  refine Eq.trans ?_ ((s_at m c r ⟨128 * d.val + s.val, by omega⟩ t.val t.isLt).trans ?_)
  · rw [outsAt0_C m c t (by omega) (by omega) h3]
    dsimp only
    rw [out_C, sout_C]
    exact rfl
  · rw [h3]
    refine congrArg₂ (dotR _ _ 4096) ?_ ?_
    · show _ = _
      simp
    · show _ = _
      simp

open Reference23Ideal Reference23Ideal.Gen in
/-- The reference's result as its operations compute it. -/
def refTerm (a : Vec Ideal S4096x256 .f32) (b : Vec Ideal S4096x1024 .bf16) : Vec Ideal S8x256x128 .f32 :=
  transpose S8x256x128 [1, 0, 2] (shapeCast _ (transpose S256x1024 [1, 0] (Host.dotGeneral (F := Ideal) (φ₁ := .f32) (φ₂ := .f32) dot_S4096x1024_S4096x256_S1024x256_0_0_1_1_n_n none (extf .f32 b Reference23Ideal.Gen.bitsLt_bf16_f32) a) transposes_S1024x256_S256x1024_1_0) shapeCasts_S256x1024_S256x8x128) transposes_S256x8x128_S8x256x128_1_0_2

theorem ref_at (a : Vec Ideal S4096x256 .f32) (b : Vec Ideal S4096x1024 .bf16) (d : Fin 8) (r : Fin 256) (s : Fin 128) :
    refTerm a b (ix3 d r s) = dotR (fun k i => mat (a := 4096) (b := 256) a i k) (fun k i => mat (a := 4096) (b := 1024) b i k) 4096 r.val (128 * d.val + s.val) := by
  have h : refTerm a b (ix3 d r s) = ∑ k : Fin 4096, b (ix2 k ⟨d.val * 128 + s.val, by omega⟩) * a (ix2 k r) := by
    pointwise [refTerm]
  rw [h, dotR_fin]
  refine Finset.sum_congr rfl fun k _ => ?_
  rw [← mat_val a k r, ← mat_val b k ⟨d.val * 128 + s.val, by omega⟩, mul_comm]
  exact congrArg (fun j => mat (a := 4096) (b := 256) a k.val r.val * mat (a := 4096) (b := 1024) b k.val j) (by simp only []; omega)

end Cert.Kernel23Ideal.Prod

namespace Cert.Proof

open Idealize.SL.Sem

theorem frame_Kernel23Ideal : quiescent_Kernel23Ideal := fun m ρ _ => Kernel23Ideal.Gen.frame m ρ

theorem frame_Kernel23 : quiescent_Kernel23 := Ffn.transfer (Kernel23Ideal.Gen.frame (F := Bits)) (by sl_kernel_rfl)

theorem frame_Reference23Ideal : quiescent_Reference23Ideal := fun m ρ _ =>
  (θ_run Reference23Ideal.defs _ _).mono (fun r h => ⟨fun c => (h c).2, sem_eq_zero_of_no_sems (by decide) r.2⟩)
    (Reference23Ideal.Value.run (F := Ideal) m ρ)

theorem algebraic23 : algebraic_Kernel23Ideal_Reference23Ideal := by
  intro m g m' g' _ hm
  refine ⟨fun c => (Kernel23Ideal.Gen.dats m 0 c).arrAt 2 Kernel23Ideal.cfg0.N, Kernel23Ideal.Value.run_blocks m g, ?_⟩
  refine (θ_run Reference23Ideal.defs _ _).mono (fun r h c => ⟨(h c).1.trans ?_, (h c).2⟩) (Reference23Ideal.Value.run (F := Ideal) m' g')
  rw [(hm c).1, (hm c).2]
  refine Eq.trans ?_ (Kernel23Ideal.Prod.arr m c).symm
  funext z
  obtain ⟨d, i, j, rfl⟩ := Ffn.exists_ix3 z
  exact Kernel23Ideal.Prod.ref_at _ _ d i j

end Cert.Proof

end
-- ==== Proof.DhOBa.lean ====
/-
  UNTRUSTED — the call dh_o_ba: the product of dba with the last columns of w_in transposed added to dh, and the gradients of the norm before it.
-/
module

public import proofs.«01_k».proof.Proof.PleDhn
public import proofs.«01_k».proof.Proof.Accumulate
public import proofs.«01_k».proof.Proof.Gen.Kernel24
public import proofs.«01_k».proof.Proof.Gen.Kernel24Ideal.Value
public import proofs.«01_k».proof.Proof.Gen.Reference24Ideal.Run

@[expose] public section

set_option maxRecDepth 16384

noncomputable section

open Idealize.ShloMosaic Idealize.ShloMosaic.TcCoe

namespace Cert.Kernel24Ideal.Prod

open Kernel24Ideal Kernel24Ideal.Gen Ffn

/-- The product of two blocks at one place, and what is added to it. -/
def dots (a : Vec Ideal S512x128 .bf16) (b : Vec Ideal S1024x128 .bf16) (e : Vec Ideal S512x1024 .f32) (r : Fin 512) (s : Fin 1024) : EReal := (∑ k : Fin 128, a (ix2 r k) * b (ix2 s k)) + e (ix2 r s)

theorem gain_at (a : Vec Ideal S512x128 .bf16) (b : Vec Ideal S1024x128 .bf16) (e x : Vec Ideal S512x1024 .f32) (s : Fin 1024) :
    k0_pay5 (F := Ideal) a b e x (ix2 0 s) = ∑ i : Fin 512, dots a b e i s * (x (ix2 i s) * rms (fun k => x (ix2 i k))) := by
  unfold rms dots
  pointwise [k0_pay5, k0_pay4, k0_pay3, k0_pay2]

theorem grad_at (a : Vec Ideal S512x128 .bf16) (b : Vec Ideal S1024x128 .bf16) (e x q : Vec Ideal S512x1024 .f32) (g : Vec Ideal S1x1024 .f32) (r : Fin 512) (s : Fin 1024) :
    k0_pay6 (F := Ideal) a b e x g q (ix2 r s) = q (ix2 r s) + rowK (fun k => x (ix2 r k)) (fun j => dots a b e r j * g (ix2 0 j)) s := by
  unfold rowK rms dots
  pointwise [k0_pay6, k0_pay4, k0_pay3, k0_pay2]

section Cases
variable {F : FTy → Type} [FloatOps F]

theorem out_A (c : Dev nD) (i a3 h3 a4 h4 a5 h5 a6 h6 a7 h7 a8 h8 a9 h9 a10 h10 hc0 hc1) (x : Vec F S512x128 .bf16) (y : Vec F S1024x128 .bf16) (e x' q : Vec F S512x1024 .f32) (g : Vec F S1x1024 .f32) :
    out0_A_6 c i a3 h3 a4 h4 a5 h5 a6 h6 a7 h7 a8 h8 a9 h9 a10 h10 hc0 hc1 x y e x' q g = k0_pay6 x y e x' g q := by
  unfold out0_A_6
  rw [View.read_writes_eq_canon]; on_goal 2 => apply cover0_A_6
  unfold kernelRun0_A
  dsimp only
  sl_unfold_words
  rw [View.canon_unit_zero zero2]
  simp (disch := assumption) only [View.readAt_eq_ld, Memref.IsWhole.read_unread, ld0, shapeCast_self]
theorem gain_A (c : Dev nD) (i a3 h3 a4 h4 a5 h5 a6 h6 a7 h7 a8 h8 a9 h9 a10 h10 hc0 hc1) (x : Vec F S512x128 .bf16) (y : Vec F S1024x128 .bf16) (e x' q : Vec F S512x1024 .f32) (g : Vec F S1x1024 .f32) :
    out0_A_7 c i a3 h3 a4 h4 a5 h5 a6 h6 a7 h7 a8 h8 a9 h9 a10 h10 hc0 hc1 x y e x' q g = k0_pay5 x y e x' := by
  unfold out0_A_7
  rw [View.read_writes_eq_canon]; on_goal 2 => apply cover0_A_7
  unfold kernelRun0_A
  dsimp only
  sl_unfold_words
  rw [View.canon_unit_zero zero2]
  simp (disch := assumption) only [View.readAt_eq_ld, Memref.IsWhole.read_unread, ld0, shapeCast_self]
theorem out_B (c : Dev nD) (i a3 h3 a4 h4 a5 h5 a6 h6 a7 h7 a8 h8 a9 h9 a10 h10 hc0 hc1) (x : Vec F S512x128 .bf16) (y : Vec F S1024x128 .bf16) (e x' q : Vec F S512x1024 .f32) (g : Vec F S1x1024 .f32) (o : Vec F S1x1024 .f32) :
    out0_B_6 c i a3 h3 a4 h4 a5 h5 a6 h6 a7 h7 a8 h8 a9 h9 a10 h10 hc0 hc1 x y e x' q g o = k0_pay6 x y e x' g q := by
  unfold out0_B_6
  rw [View.read_writes_eq_canon]; on_goal 2 => apply cover0_B_6
  unfold kernelRun0_B
  dsimp only
  sl_unfold_words
  rw [View.canon_unit_zero zero2]
  simp (disch := assumption) only [View.readAt_eq_ld, Memref.IsWhole.read_unread, ld0, shapeCast_self]
theorem gain_B (c : Dev nD) (i a3 h3 a4 h4 a5 h5 a6 h6 a7 h7 a8 h8 a9 h9 a10 h10 hc0 hc1) (x : Vec F S512x128 .bf16) (y : Vec F S1024x128 .bf16) (e x' q : Vec F S512x1024 .f32) (g : Vec F S1x1024 .f32) (o : Vec F S1x1024 .f32) :
    out0_B_7 c i a3 h3 a4 h4 a5 h5 a6 h6 a7 h7 a8 h8 a9 h9 a10 h10 hc0 hc1 x y e x' q g o = addf o (k0_pay5 x y e x') := by
  unfold out0_B_7
  rw [View.read_writes_eq_canon]; on_goal 2 => apply cover0_B_7
  unfold kernelRun0_B
  dsimp only
  sl_unfold_words
  rw [View.canon_unit_zero zero2]
  unfold k0_pay1
  simp (disch := assumption) only [View.readAt_eq_ld, Memref.IsWhole.read_unread, ld0, shapeCast_self]

end Cases

variable (m : (ℓ : Loc nD τ sig) → Buf (Elt Ideal) ℓ)

def A (c : Dev nD) : ℕ → ℕ → EReal := mat (a := 4096) (b := 128) (m ((c : Thread nD τ).loc main_arg0))
def B (c : Dev nD) : ℕ → ℕ → EReal := mat (a := 1024) (b := 128) (m ((c : Thread nD τ).loc main_arg1))
def E (c : Dev nD) : ℕ → ℕ → EReal := mat (a := 4096) (b := 1024) (m ((c : Thread nD τ).loc main_arg2))
def X (c : Dev nD) : ℕ → ℕ → EReal := mat (a := 4096) (b := 1024) (m ((c : Thread nD τ).loc main_arg3))
def Q (c : Dev nD) : ℕ → ℕ → EReal := mat (a := 4096) (b := 1024) (m ((c : Thread nD τ).loc main_arg5))
def G (c : Dev nD) : ℕ → ℕ → EReal := mat (a := 1) (b := 1024) (m ((c : Thread nD τ).loc main_arg4))
theorem at0 : ∀ t : Fin cfg0.N, win0_0.index t = ![t.val, 0] := (by decide +kernel : ∀ t : Fin grid0.N, _)
theorem a_blk (c : Dev nD) (t : Fin cfg0.N) (r : Fin 512) (k : Fin 128) : iblk m c 0 t (ix2 r k) = A m c (t.val * 512 + r.val) (k.val) := by
  have ht := t.isLt.trans_eq N_0
  unfold A mat
  blk_simp [iblk]
  refine congrArg (m _) ?_
  blk_ext [at0]
theorem at1 : ∀ t : Fin cfg0.N, win0_1.index t = ![0, 0] := (by decide +kernel : ∀ t : Fin grid0.N, _)
theorem b_blk (c : Dev nD) (t : Fin cfg0.N) (s : Fin 1024) (k : Fin 128) : iblk m c 1 t (ix2 s k) = B m c (s.val) (k.val) := by
  have ht := t.isLt.trans_eq N_0
  unfold B mat
  blk_simp [iblk]
  refine congrArg (m _) ?_
  blk_ext [at1]
theorem at2 : ∀ t : Fin cfg0.N, win0_2.index t = ![t.val, 0] := (by decide +kernel : ∀ t : Fin grid0.N, _)
theorem e_blk (c : Dev nD) (t : Fin cfg0.N) (r : Fin 512) (s : Fin 1024) : iblk m c 2 t (ix2 r s) = E m c (t.val * 512 + r.val) (s.val) := by
  have ht := t.isLt.trans_eq N_0
  unfold E mat
  blk_simp [iblk]
  refine congrArg (m _) ?_
  blk_ext [at2]
theorem at3 : ∀ t : Fin cfg0.N, win0_3.index t = ![t.val, 0] := (by decide +kernel : ∀ t : Fin grid0.N, _)
theorem x_blk (c : Dev nD) (t : Fin cfg0.N) (r : Fin 512) (s : Fin 1024) : iblk m c 3 t (ix2 r s) = X m c (t.val * 512 + r.val) (s.val) := by
  have ht := t.isLt.trans_eq N_0
  unfold X mat
  blk_simp [iblk]
  refine congrArg (m _) ?_
  blk_ext [at3]
theorem at4 : ∀ t : Fin cfg0.N, win0_4.index t = ![t.val, 0] := (by decide +kernel : ∀ t : Fin grid0.N, _)
theorem q_blk (c : Dev nD) (t : Fin cfg0.N) (r : Fin 512) (s : Fin 1024) : iblk m c 4 t (ix2 r s) = Q m c (t.val * 512 + r.val) (s.val) := by
  have ht := t.isLt.trans_eq N_0
  unfold Q mat
  blk_simp [iblk]
  refine congrArg (m _) ?_
  blk_ext [at4]
theorem at5 : ∀ t : Fin cfg0.N, win0_5.index t = ![0, 0] := (by decide +kernel : ∀ t : Fin grid0.N, _)
theorem g_blk (c : Dev nD) (t : Fin cfg0.N) (s : Fin 1024) : iblk m c 5 t (ix2 0 s) = G m c (0) (s.val) := by
  have ht := t.isLt.trans_eq N_0
  unfold G mat
  blk_simp [iblk]
  refine congrArg (m _) ?_
  blk_ext [at5]

/-- The gradient of the normed rows. -/
def U (E A B : ℕ → ℕ → EReal) (i j : ℕ) : EReal := E i j + dotR A B 128 i j

theorem u_at (c : Dev nD) (t : Fin cfg0.N) (r : Fin 512) (s : Fin 1024) :
    dots (iblk m c 0 t) (iblk m c 1 t) (iblk m c 2 t) r s = U (E m c) (A m c) (B m c) (t.val * 512 + r.val) s.val := by
  unfold U dots
  rw [dotR_fin, e_blk, add_comm]
  refine congrArg (E m c _ _ + ·) ?_
  refine Finset.sum_congr (M := EReal) rfl fun k _ => ?_
  rw [a_blk, b_blk]

/-- The block's part of the gain's gradient. -/
theorem gain_blk (c : Dev nD) (t : Fin cfg0.N) (s : Fin 1024) :
    k0_pay5 (F := Ideal) (iblk m c 0 t) (iblk m c 1 t) (iblk m c 2 t) (iblk m c 3 t) (ix2 0 s)
      = ∑ i : Fin 512, (U (E m c) (A m c) (B m c)) (512 * (t.val % 8) + i.val) s.val * V (X m c) (512 * (t.val % 8) + i.val) s.val := by
  have ht := t.isLt.trans_eq N_0
  rw [gain_at]
  refine Finset.sum_congr (M := EReal) rfl fun i _ => ?_
  rw [u_at m c t, Nat.mul_comm 512, Nat.mod_eq_of_lt ht]
  simp only [x_blk]
  rfl

/-- The gradient of the gain after point `n`. -/
theorem gain_traj (c : Dev nD) (s : Fin 1024) (n : ℕ) (hn : n < cfg0.N) :
    (outsAt0 m c n hn).2 (ix2 0 s) = gainSum (U (E m c) (A m c) (B m c)) (X m c) (512 * (n % 8 + 1)) s.val := by
  refine acc_at 512 8 _ _ (fun _ => s.val) (fun _ => s.val) (fun n hn => (outsAt0 m c n hn).2 (ix2 0 s)) (fun n hn h0 => ?_) (fun n hn h0 => ?_) n hn
  · have hN := hn.trans_eq N_0
    refine Eq.trans ?_ (gain_blk m c ⟨n, hn⟩ s)
    rw [outsAt0_A m c ⟨n, hn⟩ h0 (by dsimp only; omega)]
    dsimp only
    rw [gain_A]
  · refine Eq.trans ?_ (congrArg (fun x : EReal => _ + x) (gain_blk m c ⟨n, hn⟩ s))
    rw [outsAt0_B m c ⟨n, hn⟩ h0 (by dsimp only; omega)]
    dsimp only
    rw [gain_B]
    rfl

theorem ix6 : ∀ t : Fin cfg0.N, win0_6.index t = ![t.val, 0] := (by decide +kernel : ∀ t : Fin grid0.N, _)
theorem ix7 : ∀ t : Fin cfg0.N, win0_7.index t = ![0, 0] := (by decide +kernel : ∀ t : Fin grid0.N, _)
theorem last : ∀ t : Fin cfg0.N, (cfg0.win 7).flush t = true → t.val = 7 := (by decide +kernel : ∀ t : Fin grid0.N, win0_7.flush t = true → t.val = 7)

theorem grad_blk (c : Dev nD) (t : Fin cfg0.N) (r : Fin 512) (s : Fin 1024) :
    k0_pay6 (F := Ideal) (iblk m c 0 t) (iblk m c 1 t) (iblk m c 2 t) (iblk m c 3 t) (iblk m c 5 t) (iblk m c 4 t) (ix2 r s)
      = R (Q m c) (X m c) (G m c) (U (E m c) (A m c) (B m c)) (t.val * 512 + r.val) s.val := by
  unfold R
  rw [grad_at, q_blk, Fin.ofNat_val_eq_self]
  simp only [x_blk, g_blk, u_at m c t]

theorem arr (c : Dev nD) : (dats m 0 c).arrAt 6 cfg0.N = fun z : S4096x1024.Idx => R (Q m c) (X m c) (G m c) (U (E m c) (A m c) (B m c)) (z 0).val (z 1).val := by
  refine (dats m 0 c).arrAt_eq_of_covers 6 _ (by decide +kernel) fun t hf y => ?_
  have ht := t.isLt.trans_eq N_0
  blk_simp [ix6]
  rw [after0_6]
  obtain ⟨r, s, rfl⟩ := exists_ix2 y
  refine Eq.trans ?_ (grad_blk m c t r s)
  by_cases h0 : t.val % 8 = 0
  · rw [outsAt0_A m c t h0 (by omega)]
    dsimp only
    rw [out_A]
  · rw [outsAt0_B m c t h0 (by omega)]
    dsimp only
    rw [out_B]

theorem arr' (c : Dev nD) : (dats m 0 c).arrAt 7 cfg0.N = fun z : S1x1024.Idx => gainSum (U (E m c) (A m c) (B m c)) (X m c) 4096 (z 1).val := by
  refine (dats m 0 c).arrAt_eq_of_covers 7 _ (by decide +kernel) fun t hf y => ?_
  have h1 := last t hf
  blk_simp [ix7]
  rw [after0_7]
  obtain ⟨r, s, rfl⟩ := exists_ix2 y
  obtain rfl : r = 0 := Fin.ext (by omega)
  rw [gain_traj m c s t.val t.isLt, h1]
  rfl

section Reference
open Reference24Ideal.Gen hiding shapeCasts_S1024_S1x1024

/-- The gradient of the normed rows. -/
abbrev RU (a : Vec Ideal S4096x128 .bf16) (b : Vec Ideal S1024x128 .bf16) (e : Vec Ideal S4096x1024 .f32) : Vec Ideal S4096x1024 .f32 :=
  addf (F := Ideal) (φ := .f32) e (Host.dotGeneral (F := Ideal) (φ₁ := .f32) (φ₂ := .f32) Reference24Ideal.dot_S4096x128_S1024x128_S4096x1024_1_1_0_0_n_n none (extf .f32 a Reference24Ideal.Gen.bitsLt_bf16_f32) (extf .f32 b Reference24Ideal.Gen.bitsLt_bf16_f32))

theorem ru_el (a : Vec Ideal S4096x128 .bf16) (b : Vec Ideal S1024x128 .bf16) (e : Vec Ideal S4096x1024 .f32) (r : Fin 4096) (s : Fin 1024) :
    RU a b e (ix2 r s) = U (mat (a := 4096) (b := 1024) e) (mat (a := 4096) (b := 128) a) (mat (a := 1024) (b := 128) b) r.val s.val := by
  have h : RU a b e (ix2 r s) = e (ix2 r s) + ∑ k : Fin 128, a (ix2 r k) * b (ix2 s k) := by
    unfold RU
    pointwise []
  rw [h]
  unfold U
  rw [dotR_fin, ← mat_val e r s]
  refine congrArg (fun y => mat e r.val s.val + y) (Finset.sum_congr rfl fun k _ => ?_)
  rw [← mat_val a r k, ← mat_val b s k]

theorem ref_grad (n : (ℓ : Loc Reference24Ideal.nD Reference24Ideal.τ Reference24Ideal.sig) → Buf (Elt Ideal) ℓ) (c : Dev Reference24Ideal.nD) (u q x : Vec Ideal S4096x1024 .f32) (g : Vec Ideal S1x1024 .f32)
    (hu : RU (n ((c.tc : Thread Reference24Ideal.nD Reference24Ideal.τ).loc Reference24Ideal.main_arg0)) (n ((c.tc : Thread Reference24Ideal.nD Reference24Ideal.τ).loc Reference24Ideal.main_arg1)) (n ((c.tc : Thread Reference24Ideal.nD Reference24Ideal.τ).loc Reference24Ideal.main_arg2)) = u) (hq : (n ((c.tc : Thread Reference24Ideal.nD Reference24Ideal.τ).loc Reference24Ideal.main_arg5)) = q) (hx : (n ((c.tc : Thread Reference24Ideal.nD Reference24Ideal.τ).loc Reference24Ideal.main_arg3)) = x) (hg : (n ((c.tc : Thread Reference24Ideal.nD Reference24Ideal.τ).loc Reference24Ideal.main_arg4)) = g) (r : Fin 4096) (s : Fin 1024) :
    Reference24Ideal.Value.res_main_v39 n c (ix2 r s)
      = q (ix2 r s) + (u (ix2 r s) * g (ix2 0 s) * rms (fun k => x (ix2 r k))
          + x (ix2 r s) * rowD (fun k => x (ix2 r k)) (fun k => u (ix2 r k) * g (ix2 0 k))
          + rowD (fun k => x (ix2 r k)) (fun k => u (ix2 r k) * g (ix2 0 k)) * x (ix2 r s)) := by
  subst hu hq hx hg
  unfold rowD rms msq RU
  pointwise [Reference24Ideal.Value.res_main_v39]
  simp only [Fin.sum_univ_one]

end Reference

end Cert.Kernel24Ideal.Prod

namespace Cert.Proof

open Idealize.SL.Sem

theorem frame_Kernel24Ideal : quiescent_Kernel24Ideal := fun m ρ _ => Kernel24Ideal.Gen.frame m ρ

theorem frame_Kernel24 : quiescent_Kernel24 := Ffn.transfer (Kernel24Ideal.Gen.frame (F := Bits)) (by sl_kernel_rfl)

theorem frame_Reference24Ideal : quiescent_Reference24Ideal := fun m ρ _ =>
  (θ_run Reference24Ideal.defs _ _).mono (fun r h => ⟨fun c => (h c).2.2, sem_eq_zero_of_no_sems (by decide) r.2⟩)
    (Reference24Ideal.Value.run (F := Ideal) m ρ)

theorem algebraic24 : algebraic_Kernel24Ideal_Reference24Ideal := by
  intro m g m' g' _ hm
  refine ⟨fun c => (Kernel24Ideal.Gen.dats m 0 c).arrAt 6 Kernel24Ideal.cfg0.N, fun c => (Kernel24Ideal.Gen.dats m 0 c).arrAt 7 Kernel24Ideal.cfg0.N, Kernel24Ideal.Value.run_blocks m g, ?_⟩
  refine (θ_run Reference24Ideal.defs _ _).mono (fun r h c => ⟨(h c).1.trans ?_, (h c).2.1.trans ?_, (h c).2.2⟩) (Reference24Ideal.Value.run (F := Ideal) m' g')
  · refine Eq.trans ?_ (Kernel24Ideal.Prod.arr m c).symm
    funext z
    obtain ⟨i, j, rfl⟩ := Ffn.exists_ix2 z
    refine (Kernel24Ideal.Prod.ref_grad m' c _ _ _ _ rfl rfl rfl rfl i j).trans ?_
    rw [(hm c).1, (hm c).2.1, (hm c).2.2.1, (hm c).2.2.2.1, (hm c).2.2.2.2.1, (hm c).2.2.2.2.2]
    exact Ffn.ref_row _ _ _ _ _ (Kernel24Ideal.Prod.ru_el _ _ _) i j
  · rw [(hm c).1, (hm c).2.1, (hm c).2.2.1, (hm c).2.2.2.1]
    refine Eq.trans ?_ (Kernel24Ideal.Prod.arr' m c).symm
    funext z
    obtain ⟨i, j, rfl⟩ := Ffn.exists_ix2 z
    obtain rfl : i = 0 := Fin.ext (by omega)
    exact (Kernel15Ideal.Prod.ref_gain _ _ j).trans (Ffn.ref_col _ _ _ (Kernel24Ideal.Prod.ru_el _ _ _) j)

end Cert.Proof

end
-- ==== Proof.DwInOBa.lean ====
/-
  UNTRUSTED — the call dw_in_o_ba: h transposed times dba, accumulated in scratch over four blocks of rows.
-/
module

public import proofs.«01_k».proof.Proof.Accumulate
public import proofs.«01_k».proof.Proof.Gen.Kernel25
public import proofs.«01_k».proof.Proof.Gen.Kernel25Ideal.Value
public import proofs.«01_k».proof.Proof.Gen.Reference25Ideal.Run

@[expose] public section

set_option maxRecDepth 16384

noncomputable section

open Idealize.ShloMosaic Idealize.ShloMosaic.TcCoe

namespace Cert.Kernel25Ideal.Prod

open Kernel25Ideal Kernel25Ideal.Gen Ffn

theorem pay_at (a : Vec Ideal S1024x1024 .bf16) (b : Vec Ideal S1024x128 .bf16) (r : Fin 1024) (s : Fin 128) :
    k0_pay1 (F := Ideal) a b (ix2 r s) = ∑ k : Fin 1024, a (ix2 k r) * b (ix2 k s) := by
  pointwise [k0_pay1]

section Cases
variable {F : FTy → Type} [FloatOps F]

theorem sout_A (c : Dev nD) (i a3 h3 a4 h4 a5 h5 a6 h6 hc0 hc1 hc2) (x : Vec F S1024x1024 .bf16) (y : Vec F S1024x128 .bf16) :
    sout0_A_0 c i a3 h3 a4 h4 a5 h5 a6 h6 hc0 hc1 hc2 x y = k0_pay1 x y := by
  unfold sout0_A_0
  rw [View.read_writes_eq_canon]; on_goal 2 => apply scover0_A_0
  unfold kernelRun0_A
  dsimp only
  rw [View.canon_unit_zero zero2]
  unfold k0_pay2
  simp only [View.readAt_eq_ld, h3.read_unread, h4.read_unread, h6.read_unread, ld0, shapeCast_self]
theorem sout_B (c : Dev nD) (i a3 h3 a4 h4 a5 h5 a6 h6 hc0 hc1 hc2) (x : Vec F S1024x1024 .bf16) (y : Vec F S1024x128 .bf16) (z : Vec F S1024x128 .f32) :
    sout0_B_0 c i a3 h3 a4 h4 a5 h5 a6 h6 hc0 hc1 hc2 x y z = addf z (k0_pay1 x y) := by
  unfold sout0_B_0
  rw [View.read_writes_eq_canon]; on_goal 2 => apply scover0_B_0
  unfold kernelRun0_B
  dsimp only
  sl_unfold_words
  rw [View.canon_unit_zero zero2]
  unfold k0_pay3
  simp only [View.readAt_eq_ld, h3.read_unread, h4.read_unread, h6.read_unread, ld0, shapeCast_self]
theorem sout_C (c : Dev nD) (i a3 h3 a4 h4 a5 h5 a6 h6 hc0 hc1 hc2) (x : Vec F S1024x1024 .bf16) (y : Vec F S1024x128 .bf16) (z : Vec F S1024x128 .f32) :
    sout0_C_0 c i a3 h3 a4 h4 a5 h5 a6 h6 hc0 hc1 hc2 x y z = addf z (k0_pay1 x y) := by
  unfold sout0_C_0
  rw [View.read_writes_eq_canon]; on_goal 2 => apply scover0_C_0
  unfold kernelRun0_C
  dsimp only
  sl_unfold_words
  rw [View.canon_unit_zero zero2]
  unfold k0_pay3
  simp only [View.readAt_eq_ld, h3.read_unread, h4.read_unread, h6.read_unread, ld0, shapeCast_self]
theorem out_C (c : Dev nD) (i a3 h3 a4 h4 a5 h5 a6 h6 hc0 hc1 hc2) (x : Vec F S1024x1024 .bf16) (y : Vec F S1024x128 .bf16) (z : Vec F S1024x128 .f32) :
    out0_C_2 c i a3 h3 a4 h4 a5 h5 a6 h6 hc0 hc1 hc2 x y z = addf z (k0_pay1 x y) := by
  unfold out0_C_2
  rw [View.read_writes_eq_canon]; on_goal 2 => apply cover0_C_2
  unfold kernelRun0_C
  dsimp only
  sl_unfold_words
  rw [View.canon_unit_zero zero2, View.readCov_unit_zero (S := S1024x128) _ zero2]
  unfold k0_pay3
  simp only [View.readAt_eq_ld, h3.read_unread, h4.read_unread, h6.read_unread, ld0, shapeCast_self]

end Cases

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 4096) (b := 128) (m ((c : Thread nD τ).loc main_arg1))

theorem ix0 : ∀ t : Fin cfg0.N, win0_0.index t = ![t.val % 4, 0] := (by decide +kernel : ∀ t : Fin grid0.N, _)
theorem a_blk (c : Dev nD) (t : Fin cfg0.N) (r : Fin 1024) (k : Fin 1024) : iblk m c 0 t (ix2 k r) = A m c (1024 * (t.val % 4) + k.val) (r.val) := by
  have ht := t.isLt.trans_eq N_0
  unfold A mat
  blk_simp [iblk]
  refine congrArg (m _) ?_
  blk_ext [ix0]
theorem ix1 : ∀ t : Fin cfg0.N, win0_1.index t = ![t.val % 4, 0] := (by decide +kernel : ∀ t : Fin grid0.N, _)
theorem b_blk (c : Dev nD) (t : Fin cfg0.N) (s : Fin 128) (k : Fin 1024) : iblk m c 1 t (ix2 k s) = B m c (1024 * (t.val % 4) + k.val) (s.val) := by
  have ht := t.isLt.trans_eq N_0
  unfold B mat
  blk_simp [iblk]
  refine congrArg (m _) ?_
  blk_ext [ix1]

/-- The product of the blocks at point `t`. -/
theorem pay_blk (c : Dev nD) (t : Fin cfg0.N) (r : Fin 1024) (s : Fin 128) :
    k0_pay1 (F := Ideal) (iblk m c 0 t) (iblk m c 1 t) (ix2 r s) = ∑ k : Fin 1024, A m c (1024 * (t.val % 4) + k.val) (r.val) * B m c (1024 * (t.val % 4) + k.val) (s.val) := by
  rw [pay_at]
  refine Finset.sum_congr (M := EReal) rfl fun k _ => ?_
  rw [a_blk, b_blk]

/-- What the scratch holds after point `n`: the product over the blocks so far. -/
theorem s_at (c : Dev nD) (r : Fin 1024) (s : Fin 128) (n : ℕ) (h : n < cfg0.N) :
    (outsAt0 m c n h).2 (ix2 r s) = dotR (fun i k => A m c k i) (fun i k => B m c k i) (1024 * (n % 4 + 1)) (r.val) (s.val) := by
  refine acc_at 1024 4 _ _ (fun _ => r.val) (fun _ => s.val) (fun n h => (outsAt0 m c n h).2 (ix2 r s)) (fun n h h0 => ?_) (fun n h h0 => ?_) n h
  · have hN := h.trans_eq N_0
    refine Eq.trans ?_ (pay_blk m c ⟨n, h⟩ r s)
    rw [outsAt0_A m c ⟨n, h⟩ h0 (by dsimp only; omega) (by dsimp only; omega)]
    dsimp only
    rw [sout_A]
  · refine Eq.trans ?_ (congrArg (fun x : EReal => _ + x) (pay_blk m c ⟨n, h⟩ r s))
    by_cases h3 : n % 4 = 3
    · rw [outsAt0_C m c ⟨n, h⟩ h0 (by dsimp only; omega) h3]
      dsimp only
      rw [sout_C]
      rfl
    · rw [outsAt0_B m c ⟨n, h⟩ h0 (by dsimp only; omega) h3]
      dsimp only
      rw [sout_B]
      rfl

theorem ixo : ∀ t : Fin cfg0.N, win0_2.index t = ![0, 0] := (by decide +kernel : ∀ t : Fin grid0.N, _)
theorem last : ∀ t : Fin cfg0.N, (cfg0.win 2).flush t = true → t.val % 4 = 3 := (by decide +kernel : ∀ t : Fin grid0.N, win0_2.flush t = true → t.val % 4 = 3)

theorem arr (c : Dev nD) : (dats m 0 c).arrAt 2 cfg0.N = fun z : S1024x128.Idx => dotR (fun i k => A m c k i) (fun i k => B m c k i) 4096 (z 0).val (z 1).val := by
  refine (dats m 0 c).arrAt_eq_of_covers 2 _ (by decide +kernel) fun t hf y => ?_
  have ht := t.isLt.trans_eq N_0
  have h3 := last t hf
  blk_simp [ixo]
  rw [after0_2]
  obtain ⟨r, s, rfl⟩ := exists_ix2 y
  refine Eq.trans ?_ ((s_at m c r s t.val t.isLt).trans ?_)
  · rw [outsAt0_C m c t (by omega) (by omega) h3]
    dsimp only
    rw [out_C, sout_C]
  · rw [h3]
    rfl

/-- The reference's product, as its operations compute it. -/
abbrev refTerm (a : Vec Ideal S4096x1024 .bf16) (b : Vec Ideal S4096x128 .bf16) : Vec Ideal S1024x128 .f32 :=
  transpose S1024x128 [1, 0] (Host.dotGeneral (F := Ideal) (φ₁ := .f32) (φ₂ := .f32) Reference25Ideal.dot_S4096x128_S4096x1024_S128x1024_0_0_1_1_n_n none (extf .f32 b Reference25Ideal.Gen.bitsLt_bf16_f32) (extf .f32 a Reference25Ideal.Gen.bitsLt_bf16_f32)) Reference25Ideal.Gen.transposes_S128x1024_S1024x128_1_0

theorem ref_at (a : Vec Ideal S4096x1024 .bf16) (b : Vec Ideal S4096x128 .bf16) (r : Fin 1024) (s : Fin 128) :
    refTerm a b (ix2 r s) = dotR (fun k i => mat (a := 4096) (b := 1024) a i k) (fun k i => mat (a := 4096) (b := 128) b i k) 4096 r.val s.val := by
  have h : refTerm a b (ix2 r s) = ∑ k : Fin 4096, b (ix2 k s) * a (ix2 k r) := by
    pointwise [refTerm]
  rw [h, dotR_fin]
  refine Finset.sum_congr rfl fun k _ => ?_
  rw [← mat_val a k r, ← mat_val b k s, mul_comm]

end Cert.Kernel25Ideal.Prod

namespace Cert.Proof

open Idealize.SL.Sem

theorem frame_Kernel25Ideal : quiescent_Kernel25Ideal := fun m ρ _ => Kernel25Ideal.Gen.frame m ρ

theorem frame_Kernel25 : quiescent_Kernel25 := Ffn.transfer (Kernel25Ideal.Gen.frame (F := Bits)) (by sl_kernel_rfl)

theorem frame_Reference25Ideal : quiescent_Reference25Ideal := fun m ρ _ =>
  (θ_run Reference25Ideal.defs _ _).mono (fun r h => ⟨fun c => (h c).2, sem_eq_zero_of_no_sems (by decide) r.2⟩)
    (Reference25Ideal.Value.run (F := Ideal) m ρ)

theorem algebraic25 : algebraic_Kernel25Ideal_Reference25Ideal := by
  intro m g m' g' _ hm
  refine ⟨fun c => (Kernel25Ideal.Gen.dats m 0 c).arrAt 2 Kernel25Ideal.cfg0.N, Kernel25Ideal.Value.run_blocks m g, ?_⟩
  refine (θ_run Reference25Ideal.defs _ _).mono (fun r h c => ⟨(h c).1.trans ?_, (h c).2⟩) (Reference25Ideal.Value.run (F := Ideal) m' g')
  rw [(hm c).1, (hm c).2]
  refine Eq.trans ?_ (Kernel25Ideal.Prod.arr m c).symm
  funext z
  obtain ⟨i, j, rfl⟩ := Ffn.exists_ix2 z
  exact Kernel25Ideal.Prod.ref_at _ _ i j

end Cert.Proof

end
-- ==== Proof.InOBa.lean ====
/-
  UNTRUSTED — the call in_o_ba: every block of rows of h against the last 128 columns of w_in.
-/
module

public import proofs.«01_k».proof.Proof.Mat
public import proofs.«01_k».proof.Proof.Gen.Kernel26
public import proofs.«01_k».proof.Proof.Gen.Kernel26Ideal.Value
public import proofs.«01_k».proof.Proof.Gen.Reference26Ideal.Run

@[expose] public section

set_option maxRecDepth 16384

noncomputable section

open Idealize.ShloMosaic Idealize.ShloMosaic.TcCoe

namespace Cert.Kernel26Ideal.Prod

open Kernel26Ideal Kernel26Ideal.Gen Ffn

theorem pay_at (a : Vec Ideal S1024x1024 .bf16) (b : Vec Ideal S1024x128 .bf16) (r : Fin 1024) (s : Fin 128) :
    k0_pay1 (F := Ideal) a b (ix2 r s) = ∑ k : Fin 1024, a (ix2 r k) * b (ix2 k s) := by
  pointwise [k0_pay1]

variable (m : (ℓ : Loc nD τ sig) → Buf (Elt Ideal) ℓ)

def A (c : Dev nD) : ℕ → ℕ → EReal := mat (a := 4096) (b := 1024) (m ((c : Thread nD τ).loc main_arg0))
def B (c : Dev nD) : ℕ → ℕ → EReal := mat (a := 1024) (b := 128) (m ((c : Thread nD τ).loc main_arg1))

theorem ix0 : ∀ t : Fin cfg0.N, win0_0.index t = ![t.val, 0] := (by decide +kernel : ∀ t : Fin grid0.N, _)
theorem a_blk (c : Dev nD) (t : Fin cfg0.N) (r : Fin 1024) (k : Fin 1024) : iblk m c 0 t (ix2 r k) = A m c (t.val * 1024 + r.val) (k.val) := by
  have ht := t.isLt.trans_eq N_0
  unfold A mat
  blk_simp [iblk]
  refine congrArg (m _) ?_
  blk_ext [ix0]
theorem ix1 : ∀ t : Fin cfg0.N, win0_1.index t = ![0, 0] := (by decide +kernel : ∀ t : Fin grid0.N, _)
theorem b_blk (c : Dev nD) (t : Fin cfg0.N) (s : Fin 128) (k : Fin 1024) : iblk m c 1 t (ix2 k s) = B m c (k.val) (s.val) := by
  have ht := t.isLt.trans_eq N_0
  unfold B mat
  blk_simp [iblk]
  refine congrArg (m _) ?_
  blk_ext [ix1]

theorem ixo : ∀ t : Fin cfg0.N, win0_2.index t = ![t.val, 0] := (by decide +kernel : ∀ t : Fin grid0.N, _)

theorem arr (c : Dev nD) : (dats m 0 c).arrAt 2 cfg0.N = fun z : S4096x128.Idx => dotR (A m c) (fun i k => B m c k i) 1024 (z 0).val (z 1).val := by
  refine (dats m 0 c).arrAt_eq_of_covers 2 _ (by decide +kernel) fun t hf y => ?_
  have ht := t.isLt.trans_eq N_0
  blk_simp [ixo]
  rw [after0_2]
  unfold out0_2
  rw [View.canon_unit_zero zero2, ld0, ld0]
  obtain ⟨r, s, rfl⟩ := exists_ix2 y
  rw [pay_at, dotR_fin]
  refine Finset.sum_congr (M := EReal) rfl fun k _ => ?_
  rw [a_blk, b_blk]
  simp

/-- The reference's product, as its operations compute it. -/
abbrev refTerm (a : Vec Ideal S4096x1024 .bf16) (b : Vec Ideal S1024x128 .bf16) : Vec Ideal S4096x128 .f32 :=
  Host.dotGeneral (F := Ideal) (φ₁ := .f32) (φ₂ := .f32) Reference26Ideal.dot_S4096x1024_S1024x128_S4096x128_1_0_0_1_n_n none (extf .f32 a Reference26Ideal.Gen.bitsLt_bf16_f32) (extf .f32 b Reference26Ideal.Gen.bitsLt_bf16_f32)

theorem ref_at (a : Vec Ideal S4096x1024 .bf16) (b : Vec Ideal S1024x128 .bf16) (r : Fin 4096) (s : Fin 128) :
    refTerm a b (ix2 r s) = dotR (mat (a := 4096) (b := 1024) a) (fun k i => mat (a := 1024) (b := 128) b i k) 1024 r.val s.val := by
  have h : refTerm a b (ix2 r s) = ∑ k : Fin 1024, a (ix2 r k) * b (ix2 k s) := by
    pointwise [refTerm]
  rw [h, dotR_fin]
  refine Finset.sum_congr rfl fun k _ => ?_
  rw [← mat_val a r k, ← mat_val b k s]

end Cert.Kernel26Ideal.Prod

namespace Cert.Proof

open Idealize.SL.Sem

theorem frame_Kernel26Ideal : quiescent_Kernel26Ideal := fun m ρ _ => Kernel26Ideal.Gen.frame m ρ

theorem frame_Kernel26 : quiescent_Kernel26 := Ffn.transfer (Kernel26Ideal.Gen.frame (F := Bits)) (by sl_kernel_rfl)

theorem frame_Reference26Ideal : quiescent_Reference26Ideal := fun m ρ _ =>
  (θ_run Reference26Ideal.defs _ _).mono (fun r h => ⟨fun c => (h c).2, sem_eq_zero_of_no_sems (by decide) r.2⟩)
    (Reference26Ideal.Value.run (F := Ideal) m ρ)

theorem algebraic26 : algebraic_Kernel26Ideal_Reference26Ideal := by
  intro m g m' g' _ hm
  refine ⟨fun c => (Kernel26Ideal.Gen.dats m 0 c).arrAt 2 Kernel26Ideal.cfg0.N, Kernel26Ideal.Value.run_blocks m g, ?_⟩
  refine (θ_run Reference26Ideal.defs _ _).mono (fun r h c => ⟨(h c).1.trans ?_, (h c).2⟩) (Reference26Ideal.Value.run (F := Ideal) m' g')
  rw [(hm c).1, (hm c).2]
  refine Eq.trans ?_ (Kernel26Ideal.Prod.arr m c).symm
  funext z
  obtain ⟨i, j, rfl⟩ := Ffn.exists_ix2 z
  exact Kernel26Ideal.Prod.ref_at _ _ i j

end Cert.Proof

end
-- ==== Proof.RmsMix.lean ====
/-
  UNTRUSTED — the calls rms_mix_e and rms_mix_o: a mixer's norm.
-/
module

public import proofs.«01_k».proof.Proof.Down
public import proofs.«01_k».proof.Proof.Gen.Kernel27
public import proofs.«01_k».proof.Proof.Gen.Kernel27Ideal.Value
public import proofs.«01_k».proof.Proof.Gen.Reference27Ideal.Run

@[expose] public section

set_option maxRecDepth 16384

noncomputable section

open Idealize.ShloMosaic Idealize.ShloMosaic.TcCoe

namespace Cert.Kernel27Ideal.Prod

open Kernel27Ideal Kernel27Ideal.Gen Ffn

theorem pay_at (x : Vec Ideal S512x1024 .f32) (g : Vec Ideal S1x1024 .f32) (r : Fin 512) (s : Fin 1024) :
    k0_pay1 (F := Ideal) x g (ix2 r s) = x (ix2 r s) * rms (fun k => x (ix2 r k)) * g (ix2 0 s) := by
  unfold rms
  pointwise [k0_pay1]

variable (m : (ℓ : Loc nD τ sig) → Buf (Elt Ideal) ℓ)

def X (c : Dev nD) : ℕ → ℕ → EReal := mat (a := 4096) (b := 1024) (m ((c : Thread nD τ).loc main_arg0))
def G (c : Dev nD) : ℕ → ℕ → EReal := mat (a := 1) (b := 1024) (m ((c : Thread nD τ).loc main_arg1))
theorem at0 : ∀ t : Fin cfg0.N, win0_0.index t = ![t.val, 0] := (by decide +kernel : ∀ t : Fin grid0.N, _)
theorem x_blk (c : Dev nD) (t : Fin cfg0.N) (r : Fin 512) (s : Fin 1024) : iblk m c 0 t (ix2 r s) = X m c (t.val * 512 + r.val) s.val := by
  have ht := t.isLt.trans_eq N_0
  unfold X mat
  blk_simp [iblk]
  refine congrArg (m _) ?_
  blk_ext [at0]
theorem at1 : ∀ t : Fin cfg0.N, win0_1.index t = ![0, 0] := (by decide +kernel : ∀ t : Fin grid0.N, _)
theorem g_blk (c : Dev nD) (t : Fin cfg0.N) (s : Fin 1024) : iblk m c 1 t (ix2 0 s) = G m c 0 s.val := by
  have ht := t.isLt.trans_eq N_0
  unfold G mat
  blk_simp [iblk]
  refine congrArg (m _) ?_
  blk_ext [at1]
theorem at2 : ∀ t : Fin cfg0.N, win0_2.index t = ![t.val, 0] := (by decide +kernel : ∀ t : Fin grid0.N, _)

theorem arr (c : Dev nD) : (dats m 0 c).arrAt 2 cfg0.N = fun z : S4096x1024.Idx => X m c (z 0).val (z 1).val
      * rms (fun k => X m c (z 0).val k.val) * G m c 0 (z 1).val := by
  refine (dats m 0 c).arrAt_eq_of_covers 2 _ (by decide +kernel) fun t hf y => ?_
  have ht := t.isLt.trans_eq N_0
  blk_simp [at2]
  rw [after0_2]
  unfold out0_2
  rw [View.canon_unit_zero zero2]
  simp only [View.ld_unit_zero (S := S512x1024) zero2, View.ld_unit_zero (S := S1x1024) zero2]
  obtain ⟨r, s, rfl⟩ := exists_ix2 y
  rw [pay_at, g_blk]
  simp only [x_blk]
  simp

end Cert.Kernel27Ideal.Prod

namespace Cert.Proof

open Idealize.SL.Sem

theorem frame_Kernel27Ideal : quiescent_Kernel27Ideal := fun m ρ _ => Kernel27Ideal.Gen.frame m ρ

theorem frame_Kernel27 : quiescent_Kernel27 := Ffn.transfer (Kernel27Ideal.Gen.frame (F := Bits)) (by sl_kernel_rfl)

theorem frame_Reference27Ideal : quiescent_Reference27Ideal := fun m ρ _ =>
  (θ_run Reference27Ideal.defs _ _).mono (fun r h => ⟨fun c => (h c).2, sem_eq_zero_of_no_sems (by decide) r.2⟩)
    (Reference27Ideal.Value.run (F := Ideal) m ρ)

theorem algebraic27 : algebraic_Kernel27Ideal_Reference27Ideal := by
  intro m g m' g' _ hm
  refine ⟨_, Kernel27Ideal.Value.run_blocks m g, ?_⟩
  refine (θ_run Reference27Ideal.defs _ _).mono (fun r h c => ⟨(h c).1.trans ?_, (h c).2⟩) (Reference27Ideal.Value.run (F := Ideal) m' g')
  rw [(hm c).1, (hm c).2]
  refine Eq.trans ?_ (Kernel27Ideal.Prod.arr m c).symm
  funext z
  obtain ⟨i, j, rfl⟩ := Ffn.exists_ix2 z
  refine (Kernel8Ideal.Prod.ref_norm _ _ i j).trans ?_
  exact congrArg₂ (fun y z : EReal => y * z) (congrArg₂ (fun y z : EReal => y * z) (Ffn.mat_val (a := 4096) (b := 1024) _ i j).symm
    (congrArg Ffn.rms (funext fun k => (Ffn.mat_val (a := 4096) (b := 1024) _ i k).symm))) (Ffn.mat_val (a := 1) (b := 1024) _ 0 j).symm

end Cert.Proof

end
-- ==== Proof.GdnPost.lean ====
/-
  UNTRUSTED — the call gdn_post: the gated norm of the recurrence's output.
-/
module

public import proofs.«01_k».proof.Proof.PleFwd
public import proofs.«01_k».proof.Proof.Gen.Kernel28
public import proofs.«01_k».proof.Proof.Gen.Kernel28Ideal.Value
public import proofs.«01_k».proof.Proof.Gen.Reference28Ideal.Run

@[expose] public section

set_option maxRecDepth 16384

noncomputable section

open Idealize.ShloMosaic Idealize.ShloMosaic.TcCoe

namespace Cert.Kernel28Ideal.Prod

open Kernel28Ideal Kernel28Ideal.Gen Ffn
open Kernel21Ideal.Prod (sg)

/-- A row's mean square plus the norm's epsilon. -/
def msq (v : Fin 128 → EReal) : EReal := Ideal.div (∑ k, v k * v k) (Ideal.ofBits FTy.f32 1124073472#32) + Ideal.ofBits FTy.f32 897988541#32

theorem pay_at (o : Vec Ideal S1x512x128 .f32) (z : Vec Ideal S512x128 .f32) (n : Vec Ideal S1x128 .f32) (r : Fin 512) (s : Fin 128) :
    k0_pay1 (F := Ideal) o z n (ix2 r s)
      = o (ix3 0 r s) * Ideal.rsqrt (msq fun k => o (ix3 0 r k)) * n (ix2 0 s) * (z (ix2 r s) * sg (z (ix2 r s))) := by
  unfold msq sg
  pointwise [k0_pay1]
  simp only [zero_sub]

/-- Row `i` of head `h` of the recurrence's output. -/
def row (x : S8x4096x128.Idx → EReal) (h i : ℕ) (k : Fin 128) : EReal := x (ix3 ⟨h % 8, Nat.mod_lt _ (by decide)⟩ ⟨i % 4096, Nat.mod_lt _ (by decide)⟩ k)

theorem row_val (x : S8x4096x128.Idx → EReal) (h : Fin 8) (i : Fin 4096) : row x h.val i.val = fun k => x (ix3 h i k) := by
  unfold row
  simp only [Nat.mod_eq_of_lt h.isLt, Nat.mod_eq_of_lt i.isLt]

/-- The result at row `i`, head `h` and lane `j`. -/
def Y (o : S8x4096x128.Idx → EReal) (z n : ℕ → ℕ → EReal) (i h : ℕ) (j : Fin 128) : EReal :=
  row o h i j * Ideal.rsqrt (msq (row o h i)) * n 0 j.val * (z i (3072 + (h * 128 + j.val)) * sg (z i (3072 + (h * 128 + j.val))))

theorem zero3 : (![0, 0, 0] : Fin 3 → Nat) = fun _ => 0 := funext fun a => by fin_cases a <;> rfl

variable (m : (ℓ : Loc nD τ sig) → Buf (Elt Ideal) ℓ)

abbrev O (c : Dev nD) : S8x4096x128.Idx → EReal := m ((c : Thread nD τ).loc main_arg0)
def Z (c : Dev nD) : ℕ → ℕ → EReal := mat (a := 4096) (b := 4096) (m ((c : Thread nD τ).loc main_arg1))
def G (c : Dev nD) : ℕ → ℕ → EReal := mat (a := 1) (b := 128) (m ((c : Thread nD τ).loc main_arg2))
theorem at0 : ∀ t : Fin cfg0.N, win0_0.index t = ![t.val % 8, t.val / 8, 0] := (by decide +kernel : ∀ t : Fin grid0.N, _)
theorem o_blk (c : Dev nD) (t : Fin cfg0.N) (r : Fin 512) (s : Fin 128) : iblk m c 0 t (ix3 0 r s) = row (O m c) (t.val % 8) (t.val / 8 * 512 + r.val) s := by
  have ht := t.isLt.trans_eq N_0
  unfold row
  blk_simp [iblk]
  refine congrArg (m _) ?_
  blk_ext [at0]
theorem at1 : ∀ t : Fin cfg0.N, win0_1.index t = ![t.val / 8, 24 + t.val % 8] := (by decide +kernel : ∀ t : Fin grid0.N, _)
theorem z_blk (c : Dev nD) (t : Fin cfg0.N) (r : Fin 512) (s : Fin 128) : iblk m c 1 t (ix2 r s) = Z m c (t.val / 8 * 512 + r.val) (3072 + (t.val % 8 * 128 + s.val)) := by
  have ht := t.isLt.trans_eq N_0
  unfold Z mat
  blk_simp [iblk]
  refine congrArg (m _) ?_
  blk_ext [at1]
theorem at2 : ∀ t : Fin cfg0.N, win0_2.index t = ![0, 0] := (by decide +kernel : ∀ t : Fin grid0.N, _)
theorem g_blk (c : Dev nD) (t : Fin cfg0.N) (s : Fin 128) : iblk m c 2 t (ix2 0 s) = G m c 0 s.val := by
  have ht := t.isLt.trans_eq N_0
  unfold G mat
  blk_simp [iblk]
  refine congrArg (m _) ?_
  blk_ext [at2]
theorem at3 : ∀ t : Fin cfg0.N, win0_3.index t = ![t.val / 8, t.val % 8] := (by decide +kernel : ∀ t : Fin grid0.N, _)

theorem arr (c : Dev nD) : (dats m 0 c).arrAt 3 cfg0.N = fun z : S4096x1024.Idx => Y (O m c) (Z m c) (G m c) (z 0).val ((z 1).val / 128) ⟨(z 1).val % 128, Nat.mod_lt _ (by decide)⟩ := by
  refine (dats m 0 c).arrAt_eq_of_covers 3 _ (by decide +kernel) fun t hf y => ?_
  have ht := t.isLt.trans_eq N_0
  blk_simp [at3]
  rw [after0_3]
  unfold out0_3
  rw [View.canon_unit_zero zero2]
  simp only [View.ld_unit_zero (S := S512x128) zero2, View.ld_unit_zero (S := S1x128) zero2, View.ld_unit_zero (S := S1x512x128) zero3]
  obtain ⟨r, s, rfl⟩ := exists_ix2 y
  refine Eq.trans ?_ (congrArg₂ (Y (O m c) (Z m c) (G m c) (t.val / 8 * 512 + r.val)) (by dsimp only [ix2]; omega : t.val % 8 = (t.val % 8 * 128 + s.val) / 128)
    (Fin.ext (by dsimp only; omega) : s = ⟨(t.val % 8 * 128 + s.val) % 128, Nat.mod_lt _ (by decide)⟩))
  rw [pay_at, g_blk, z_blk]
  simp only [o_blk]
  rfl

section Reference
open Reference28Ideal.Gen

theorem ref_at (o : Vec Ideal S8x4096x128 .f32) (z : Vec Ideal S4096x4096 .f32) (n : Vec Ideal S1x128 .f32) (i : Fin 4096) (h : Fin 8) (j : Fin 128) :
   (mulf (F := Ideal) (mulf (mulf (transpose Reference28Ideal.S4096x8x128 [1, 0, 2] o transposes_S8x4096x128_S4096x8x128_1_0_2) (broadcastInDim Reference28Ideal.S4096x8x128 ![0, 1, 2] bcast_S4096x8x1_S4096x8x128_0_1_2 (Host.rsqrt (addf (Host.divf (broadcastInDim Reference28Ideal.S4096x8x1 ![0, 1] bcast_S4096x8_S4096x8x1_0_1 (Host.reduceAdd (mulf (transpose Reference28Ideal.S4096x8x128 [1, 0, 2] o transposes_S8x4096x128_S4096x8x128_1_0_2) (transpose Reference28Ideal.S4096x8x128 [1, 0, 2] o transposes_S8x4096x128_S4096x8x128_1_0_2)) (constant Reference28Ideal.S_ .f32 0x00000000#32) reducesTo_S4096x8x128_S4096x8_d2 h_S_)) (broadcastInDim Reference28Ideal.S4096x8x1 ![] bcast_S_S4096x8x1 (constant Reference28Ideal.S_ .f32 0x43000000#32))) (broadcastInDim Reference28Ideal.S4096x8x1 ![] bcast_S_S4096x8x1 (constant Reference28Ideal.S_ .f32 0x358637BD#32)))))) (broadcastInDim Reference28Ideal.S4096x8x128 ![0, 1, 2] bcast_S1x1x128_S4096x8x128_0_1_2 (broadcastInDim Reference28Ideal.S1x1x128 ![1, 2] bcast_S1x128_S1x1x128_1_2 n))) (mulf (shapeCast _ (extractStridedSlice S4096x1024 ![0, 3072] z slices_S4096x4096_S4096x1024_0_3072) shapeCasts_S4096x1024_S4096x8x128) (Host.divf (broadcastInDim Reference28Ideal.S4096x8x128 ![] bcast_S_S4096x8x128 (constant Reference28Ideal.S_ .f32 0x3F800000#32)) (addf (broadcastInDim Reference28Ideal.S4096x8x128 ![] bcast_S_S4096x8x128 (constant Reference28Ideal.S_ .f32 0x3F800000#32)) (Host.exp (Host.negf (shapeCast _ (extractStridedSlice S4096x1024 ![0, 3072] z slices_S4096x4096_S4096x1024_0_3072) shapeCasts_S4096x1024_S4096x8x128)))))))
     (ix3 i h j) = Y o (mat (a := 4096) (b := 4096) z) (mat (a := 1) (b := 128) n) i.val h.val j := by
  have hz := mat_val (a := 4096) (b := 4096) z i ⟨3072 + (h.val * 128 + j.val), by omega⟩
  have hn := mat_val (a := 1) (b := 128) n 0 j
  dsimp only [Fin.val_zero] at hz hn
  unfold Y
  rw [row_val, hz, hn]
  unfold msq sg
  pointwise []

theorem cast_at (v : FVec Ideal Reference28Ideal.S4096x8x128 .f32) (i : Fin 4096) (q : Fin 1024) :
    truncf (F := Ideal) .bf16 (shapeCast Reference28Ideal.S4096x1024 v shapeCasts_S4096x8x128_S4096x1024) Reference28Ideal.Gen.bitsLt_bf16_f32 (ix2 i q) = v (ix3 i ⟨q.val / 128, by omega⟩ ⟨q.val % 128, by omega⟩) := by
  pointwise []

end Reference
end Cert.Kernel28Ideal.Prod

namespace Cert.Proof

open Idealize.SL.Sem

theorem frame_Kernel28Ideal : quiescent_Kernel28Ideal := fun m ρ _ => Kernel28Ideal.Gen.frame m ρ

theorem frame_Kernel28 : quiescent_Kernel28 := Ffn.transfer (Kernel28Ideal.Gen.frame (F := Bits)) (by sl_kernel_rfl)

theorem frame_Reference28Ideal : quiescent_Reference28Ideal := fun m ρ _ =>
  (θ_run Reference28Ideal.defs _ _).mono (fun r h => ⟨fun c => (h c).2, sem_eq_zero_of_no_sems (by decide) r.2⟩)
    (Reference28Ideal.Value.run (F := Ideal) m ρ)

theorem algebraic28 : algebraic_Kernel28Ideal_Reference28Ideal := by
  intro m g m' g' _ hm
  refine ⟨_, Kernel28Ideal.Value.run_blocks m g, ?_⟩
  refine (θ_run Reference28Ideal.defs _ _).mono (fun r h c => ⟨(h c).1.trans ?_, (h c).2⟩) (Reference28Ideal.Value.run (F := Ideal) m' g')
  rw [(hm c).1, (hm c).2.1, (hm c).2.2]
  refine Eq.trans ?_ (Kernel28Ideal.Prod.arr m c).symm
  funext z
  obtain ⟨i, j, rfl⟩ := Ffn.exists_ix2 z
  exact (Kernel28Ideal.Prod.cast_at _ i j).trans (Kernel28Ideal.Prod.ref_at _ _ _ i _ _)

end Cert.Proof

end
-- ==== Proof.GdnPostBwd.lean ====
/-
  UNTRUSTED — the call gdn_post_bwd: the gradients of the gated norm of the recurrence's output.
-/
module

public import proofs.«01_k».proof.Proof.GdnPost
public import proofs.«01_k».proof.Proof.Accumulate
public import proofs.«01_k».proof.Proof.Gen.Kernel29
public import proofs.«01_k».proof.Proof.Gen.Kernel29Ideal.Value
public import proofs.«01_k».proof.Proof.Gen.Reference29Ideal.Run

@[expose] public section

set_option maxRecDepth 16384

noncomputable section

open Idealize.ShloMosaic Idealize.ShloMosaic.TcCoe

namespace Cert.Kernel29Ideal.Prod

open Kernel29Ideal Kernel29Ideal.Gen Ffn
open Kernel21Ideal.Prod (sg)
open Kernel28Ideal.Prod (msq row row_val zero3 cast_at)

/-- The gradient of a row `v` through its factor, `u` being that of the normed row. -/
def via (v u : Fin 128 → EReal) : EReal :=
  Ideal.div ((∑ k, v k * u k) * (Ideal.ofBits FTy.f32 3204448256#32 * Ideal.div (Ideal.rsqrt (msq v)) (msq v))) (Ideal.ofBits FTy.f32 1124073472#32)

/-- The gradient of a row. -/
def dO (v u : Fin 128 → EReal) (s : Fin 128) : EReal := u s * Ideal.rsqrt (msq v) + v s * via v u + via v u * v s

/-- The gradient of the gate, as the reference has it: `p` is the normed element with its gain, `d` the result's gradient. -/
def dZ (p d z : EReal) : EReal := p * d * sg z + z * (p * d) * (sg z * (Ideal.ofBits FTy.f32 1065353216#32 - sg z))

theorem gate_eq (c z : EReal) :
    -(-(c * Ideal.div 1 ((1 + Ideal.exp (-z)) * (1 + Ideal.exp (-z)))) * Ideal.exp (-z)) = c * (Ideal.div 1 (1 + Ideal.exp (-z)) * (1 - Ideal.div 1 (1 + Ideal.exp (-z)))) := by
  rw [EReal.neg_mul, neg_neg, mul_assoc]
  congr 1
  induction z with
  | bot =>
    rw [show Ideal.exp (-⊥) = ⊤ from rfl, show (1 : EReal) + ⊤ = ⊤ from rfl]
    simp [Ideal.div]
  | top =>
    rw [show Ideal.exp (-⊤) = 0 from rfl]
    simp [Ideal.div]
    exact (EReal.sub_self (x := 1) (EReal.coe_ne_top 1) (EReal.coe_ne_bot 1)).symm
  | coe x =>
    have hx := Real.exp_pos (-x)
    have h1 : (1 + Real.exp (-x)) ≠ 0 := by positivity
    have e1 : (1 : EReal) + Ideal.exp (-(x : EReal)) = ((1 + Real.exp (-x) : ℝ) : EReal) := rfl
    have e2 : Ideal.exp (-(x : EReal)) = (Real.exp (-x) : EReal) := rfl
    have e3 : ∀ y : ℝ, y ≠ 0 → Ideal.div 1 (y : EReal) = ((1 / y : ℝ) : EReal) := fun y hy => by
      unfold Ideal.div
      rw [if_neg (by exact_mod_cast hy), one_mul, one_div]
      rfl
    rw [e1, e2, ← EReal.coe_mul, e3 _ (mul_ne_zero h1 h1), e3 _ h1, ← EReal.coe_mul, ← EReal.coe_one, ← EReal.coe_sub, ← EReal.coe_mul]
    congr 1
    field_simp
    ring

theorem do_at (o : Vec Ideal S1x512x128 .f32) (z d : Vec Ideal S512x128 .f32) (n : Vec Ideal S1x128 .f32) (r : Fin 512) (s : Fin 128) :
    k0_pay2 (F := Ideal) (k0_pay5 o) n (k0_pay7 o) (k0_pay8 o) (k0_pay14 z d) (ix3 0 r s)
      = dO (fun k => o (ix3 0 r k)) (fun k => d (ix2 r k) * (z (ix2 r k) * sg (z (ix2 r k))) * n (ix2 0 k)) s := by
  unfold dO via msq sg
  pointwise [k0_pay2, k0_pay14, k0_pay12, k0_pay11, k0_pay10, k0_pay8, k0_pay7, k0_pay6, k0_pay5]
  simp only [zero_sub, Fin.sum_univ_one]

theorem dz_at (o : Vec Ideal S1x512x128 .f32) (z d : Vec Ideal S512x128 .f32) (n : Vec Ideal S1x128 .f32) (r : Fin 512) (s : Fin 128) :
    k0_pay3 (F := Ideal) (k0_pay10 z) (k0_pay15 o z n d) (k0_pay16 o z n d) (ix2 r s)
      = dZ (o (ix3 0 r s) * Ideal.rsqrt (msq fun k => o (ix3 0 r k)) * n (ix2 0 s)) (d (ix2 r s)) (z (ix2 r s)) := by
  unfold dZ msq sg
  pointwise [k0_pay3, k0_pay16, k0_pay15, k0_pay13, k0_pay12, k0_pay11, k0_pay10, k0_pay9, k0_pay7, k0_pay6, k0_pay5]
  simp only [zero_sub, mul_one, gate_eq]

theorem dn_at (o : Vec Ideal S1x512x128 .f32) (z d : Vec Ideal S512x128 .f32) (s : Fin 128) :
    k0_pay1 (F := Ideal) (k0_pay9 o) (k0_pay14 z d) (ix2 0 s)
      = ∑ r : Fin 512, o (ix3 0 r s) * Ideal.rsqrt (msq fun k => o (ix3 0 r k)) * (d (ix2 r s) * (z (ix2 r s) * sg (z (ix2 r s)))) := by
  unfold msq sg
  pointwise [k0_pay1, k0_pay14, k0_pay12, k0_pay11, k0_pay10, k0_pay9, k0_pay7, k0_pay6, k0_pay5]
  simp only [zero_sub]

/-- A sum over the first two of three axes. -/
theorem red01 {a b c : ℕ} (h : (⟨3, ![a, b, c]⟩ : Shape).ReducesTo [0, 1] ⟨1, ![c]⟩) (x : (⟨3, ![a, b, c]⟩ : Shape).Idx → EReal) (init : EReal) (j : Fin c) :
    Ideal.hostReduceAdd h x init (ix1 j) = init + ∑ p : Fin a × Fin b, x (ix3 p.1 p.2 j) := by
  refine congrArg (fun y => init + y) (Finset.sum_nbij (fun p : Fin a × Fin b => ix3 p.1 p.2 j) (fun p _ => ?_) (fun p _ q _ e => ?_) (fun i hi => ?_) fun p _ => rfl).symm
  · refine Finset.mem_filter.mpr ⟨Finset.mem_univ _, funext fun d => ?_⟩
    fin_cases d
    rfl
  · exact Prod.ext (congrFun e 0) (congrFun e 1)
  · have e := congrFun (Finset.mem_filter.mp hi).2 0
    obtain ⟨p, q, k, rfl⟩ := exists_ix3 i
    obtain rfl : k = j := e
    exact ⟨(p, q), Finset.mem_coe.mpr (Finset.mem_univ _), rfl⟩

section Cases
variable {F : FTy → Type} [FloatOps F]

theorem do_A (c : Dev nD) (i a2 h2 a3 h3 a4 h4 a5 h5 a6 h6 a7 h7 a8 h8 hc0 hc1) (o : Vec F S1x512x128 .f32) (z : Vec F S512x128 .f32) (n : Vec F S1x128 .f32) (d : Vec F S512x128 .f32) :
    out0_A_4 c i a2 h2 a3 h3 a4 h4 a5 h5 a6 h6 a7 h7 a8 h8 hc0 hc1 o z n d = k0_pay2 (k0_pay5 o) n (k0_pay7 o) (k0_pay8 o) (k0_pay14 z d) := by
  unfold out0_A_4
  rw [View.read_writes_eq_canon]; on_goal 2 => apply cover0_A_4
  unfold kernelRun0_A
  dsimp only
  sl_unfold_words
  rw [View.canon_unit_zero zero3]
  simp (disch := assumption) only [View.readAt_eq_ld, Memref.IsWhole.read_unread, ld0, View.ld_unit_zero (S := S1x512x128) zero3, shapeCast_self]
theorem dz_A (c : Dev nD) (i a2 h2 a3 h3 a4 h4 a5 h5 a6 h6 a7 h7 a8 h8 hc0 hc1) (o : Vec F S1x512x128 .f32) (z : Vec F S512x128 .f32) (n : Vec F S1x128 .f32) (d : Vec F S512x128 .f32) :
    out0_A_5 c i a2 h2 a3 h3 a4 h4 a5 h5 a6 h6 a7 h7 a8 h8 hc0 hc1 o z n d = k0_pay3 (k0_pay10 z) (k0_pay15 o z n d) (k0_pay16 o z n d) := by
  unfold out0_A_5
  rw [View.read_writes_eq_canon]; on_goal 2 => apply cover0_A_5
  unfold kernelRun0_A
  dsimp only
  sl_unfold_words
  rw [View.canon_unit_zero zero2]
  simp (disch := assumption) only [View.readAt_eq_ld, Memref.IsWhole.read_unread, ld0, View.ld_unit_zero (S := S1x512x128) zero3, shapeCast_self]
theorem dn_A (c : Dev nD) (i a2 h2 a3 h3 a4 h4 a5 h5 a6 h6 a7 h7 a8 h8 hc0 hc1) (o : Vec F S1x512x128 .f32) (z : Vec F S512x128 .f32) (n : Vec F S1x128 .f32) (d : Vec F S512x128 .f32) :
    out0_A_6 c i a2 h2 a3 h3 a4 h4 a5 h5 a6 h6 a7 h7 a8 h8 hc0 hc1 o z n d = k0_pay1 (k0_pay9 o) (k0_pay14 z d) := by
  unfold out0_A_6
  rw [View.read_writes_eq_canon]; on_goal 2 => apply cover0_A_6
  unfold kernelRun0_A
  dsimp only
  sl_unfold_words
  rw [View.canon_unit_zero zero2]
  simp (disch := assumption) only [View.readAt_eq_ld, Memref.IsWhole.read_unread, ld0, View.ld_unit_zero (S := S1x512x128) zero3, shapeCast_self]
theorem do_B (c : Dev nD) (i a2 h2 a3 h3 a4 h4 a5 h5 a6 h6 a7 h7 a8 h8 hc0 hc1) (o : Vec F S1x512x128 .f32) (z : Vec F S512x128 .f32) (n : Vec F S1x128 .f32) (d : Vec F S512x128 .f32) (x : Vec F S1x128 .f32) :
    out0_B_4 c i a2 h2 a3 h3 a4 h4 a5 h5 a6 h6 a7 h7 a8 h8 hc0 hc1 o z n d x = k0_pay2 (k0_pay5 o) n (k0_pay7 o) (k0_pay8 o) (k0_pay14 z d) := by
  unfold out0_B_4
  rw [View.read_writes_eq_canon]; on_goal 2 => apply cover0_B_4
  unfold kernelRun0_B
  dsimp only
  sl_unfold_words
  rw [View.canon_unit_zero zero3]
  simp (disch := assumption) only [View.readAt_eq_ld, Memref.IsWhole.read_unread, ld0, View.ld_unit_zero (S := S1x512x128) zero3, shapeCast_self]
theorem dz_B (c : Dev nD) (i a2 h2 a3 h3 a4 h4 a5 h5 a6 h6 a7 h7 a8 h8 hc0 hc1) (o : Vec F S1x512x128 .f32) (z : Vec F S512x128 .f32) (n : Vec F S1x128 .f32) (d : Vec F S512x128 .f32) (x : Vec F S1x128 .f32) :
    out0_B_5 c i a2 h2 a3 h3 a4 h4 a5 h5 a6 h6 a7 h7 a8 h8 hc0 hc1 o z n d x = k0_pay3 (k0_pay10 z) (k0_pay15 o z n d) (k0_pay16 o z n d) := by
  unfold out0_B_5
  rw [View.read_writes_eq_canon]; on_goal 2 => apply cover0_B_5
  unfold kernelRun0_B
  dsimp only
  sl_unfold_words
  rw [View.canon_unit_zero zero2]
  simp (disch := assumption) only [View.readAt_eq_ld, Memref.IsWhole.read_unread, ld0, View.ld_unit_zero (S := S1x512x128) zero3, shapeCast_self]
theorem dn_B (c : Dev nD) (i a2 h2 a3 h3 a4 h4 a5 h5 a6 h6 a7 h7 a8 h8 hc0 hc1) (o : Vec F S1x512x128 .f32) (z : Vec F S512x128 .f32) (n : Vec F S1x128 .f32) (d : Vec F S512x128 .f32) (x : Vec F S1x128 .f32) :
    out0_B_6 c i a2 h2 a3 h3 a4 h4 a5 h5 a6 h6 a7 h7 a8 h8 hc0 hc1 o z n d x = addf x (k0_pay1 (k0_pay9 o) (k0_pay14 z d)) := by
  unfold out0_B_6
  rw [View.read_writes_eq_canon]; on_goal 2 => apply cover0_B_6
  unfold kernelRun0_B
  dsimp only
  sl_unfold_words
  rw [View.canon_unit_zero zero2]
  unfold k0_pay4
  simp (disch := assumption) only [View.readAt_eq_ld, Memref.IsWhole.read_unread, ld0, View.ld_unit_zero (S := S1x512x128) zero3, shapeCast_self]

end Cases

/-- An element of the normed rows. -/
def NR (o : S8x4096x128.Idx → EReal) (i h : ℕ) (s : Fin 128) : EReal := row o h i s * Ideal.rsqrt (msq (row o h i))
/-- The result's gradient times the gate. -/
def UG (z d : ℕ → ℕ → EReal) (i h : ℕ) (s : Fin 128) : EReal := d i (h * 128 + s.val) * (z i (3072 + (h * 128 + s.val)) * sg (z i (3072 + (h * 128 + s.val))))
/-- The gain's gradient, over all rows and heads. -/
def DN (o : S8x4096x128.Idx → EReal) (z d : ℕ → ℕ → EReal) (s : Fin 128) : EReal := ∑ p : Fin 4096 × Fin 8, NR o p.1.val p.2.val s * UG z d p.1.val p.2.val s

/-- Rows and heads in the order of the grid: 512 rows of a head, then the next head. -/
def inOrder (f : ℕ → ℕ → EReal) (_ k : ℕ) : EReal := f (k / 512 / 8 * 512 + k % 512) (k / 512 % 8)

theorem sum_inOrder (f g : ℕ → ℕ → EReal) (n a b : ℕ) (hn : n = 32768) (ha : a = 4096) (hb : b = 8) : dotR (inOrder f) (inOrder g) n 0 0 = ∑ p : Fin a × Fin b, f p.1.val p.2.val * g p.1.val p.2.val := by
  unfold dotR inOrder
  refine Finset.sum_bij' (fun k hk => ((⟨k / 512 / 8 * 512 + k % 512, ?_⟩, ⟨k / 512 % 8, ?_⟩) : Fin a × Fin b)) (fun p _ => (p.1.val / 512 * 8 + p.2.val) * 512 + p.1.val % 512)
    (fun _ _ => Finset.mem_univ _) (fun p _ => ?_) (fun k hk => ?_) (fun p _ => ?_) (fun _ _ => ?_)
  · have := Finset.mem_range.mp hk
    omega
  · omega
  · refine Finset.mem_range.mpr ?_
    omega
  · dsimp only
    omega
  · refine Prod.ext (Fin.ext ?_) (Fin.ext ?_) <;> dsimp only <;> omega
  · rfl

variable (m : (ℓ : Loc nD τ sig) → Buf (Elt Ideal) ℓ)

abbrev O (c : Dev nD) : S8x4096x128.Idx → EReal := m ((c : Thread nD τ).loc main_arg0)
def Z (c : Dev nD) : ℕ → ℕ → EReal := mat (a := 4096) (b := 4096) (m ((c : Thread nD τ).loc main_arg1))
def G (c : Dev nD) : ℕ → ℕ → EReal := mat (a := 1) (b := 128) (m ((c : Thread nD τ).loc main_arg2))
def D (c : Dev nD) : ℕ → ℕ → EReal := mat (a := 4096) (b := 1024) (m ((c : Thread nD τ).loc main_arg3))
theorem at0 : ∀ t : Fin cfg0.N, win0_0.index t = ![t.val % 8, t.val / 8, 0] := (by decide +kernel : ∀ t : Fin grid0.N, _)
theorem o_blk (c : Dev nD) (t : Fin cfg0.N) (r : Fin 512) (s : Fin 128) : iblk m c 0 t (ix3 0 r s) = row (O m c) (t.val % 8) (t.val / 8 * 512 + r.val) s := by
  have ht := t.isLt.trans_eq N_0
  unfold row
  blk_simp [iblk]
  refine congrArg (m _) ?_
  blk_ext [at0]
theorem at1 : ∀ t : Fin cfg0.N, win0_1.index t = ![t.val / 8, 24 + t.val % 8] := (by decide +kernel : ∀ t : Fin grid0.N, _)
theorem z_blk (c : Dev nD) (t : Fin cfg0.N) (r : Fin 512) (s : Fin 128) : iblk m c 1 t (ix2 r s) = Z m c (t.val / 8 * 512 + r.val) (3072 + (t.val % 8 * 128 + s.val)) := by
  have ht := t.isLt.trans_eq N_0
  unfold Z mat
  blk_simp [iblk]
  refine congrArg (m _) ?_
  blk_ext [at1]
theorem at2 : ∀ t : Fin cfg0.N, win0_2.index t = ![0, 0] := (by decide +kernel : ∀ t : Fin grid0.N, _)
theorem g_blk (c : Dev nD) (t : Fin cfg0.N) (s : Fin 128) : iblk m c 2 t (ix2 0 s) = G m c 0 s.val := by
  have ht := t.isLt.trans_eq N_0
  unfold G mat
  blk_simp [iblk]
  refine congrArg (m _) ?_
  blk_ext [at2]
theorem at3 : ∀ t : Fin cfg0.N, win0_3.index t = ![t.val / 8, t.val % 8] := (by decide +kernel : ∀ t : Fin grid0.N, _)
theorem d_blk (c : Dev nD) (t : Fin cfg0.N) (r : Fin 512) (s : Fin 128) : iblk m c 3 t (ix2 r s) = D m c (t.val / 8 * 512 + r.val) (t.val % 8 * 128 + s.val) := by
  have ht := t.isLt.trans_eq N_0
  unfold D mat
  blk_simp [iblk]
  refine congrArg (m _) ?_
  blk_ext [at3]
theorem at4 : ∀ t : Fin cfg0.N, win0_4.index t = ![t.val % 8, t.val / 8, 0] := (by decide +kernel : ∀ t : Fin grid0.N, _)
theorem at5 : ∀ t : Fin cfg0.N, win0_5.index t = ![t.val / 8, t.val % 8] := (by decide +kernel : ∀ t : Fin grid0.N, _)
theorem at6 : ∀ t : Fin cfg0.N, win0_6.index t = ![0, 0] := (by decide +kernel : ∀ t : Fin grid0.N, _)
theorem last : ∀ t : Fin cfg0.N, (cfg0.win 6).flush t = true → t.val = 63 := (by decide +kernel : ∀ t : Fin grid0.N, win0_6.flush t = true → t.val = 63)

/-- The gradient of the recurrence's output. -/
def YO (o : S8x4096x128.Idx → EReal) (z n d : ℕ → ℕ → EReal) (h i : ℕ) (j : Fin 128) : EReal := dO (row o h i) (fun k => UG z d i h k * n 0 k.val) j
/-- The gradient of the gate's operand. -/
def YZ (o : S8x4096x128.Idx → EReal) (z n d : ℕ → ℕ → EReal) (i h : ℕ) (j : Fin 128) : EReal :=
  dZ (NR o i h j * n 0 j.val) (d i (h * 128 + j.val)) (z i (3072 + (h * 128 + j.val)))

theorem do_blk (c : Dev nD) (t : Fin cfg0.N) (r : Fin 512) (s : Fin 128) :
    k0_pay2 (F := Ideal) (k0_pay5 (iblk m c 0 t)) (iblk m c 2 t) (k0_pay7 (iblk m c 0 t)) (k0_pay8 (iblk m c 0 t)) (k0_pay14 (iblk m c 1 t) (iblk m c 3 t)) (ix3 0 r s)
      = YO (O m c) (Z m c) (G m c) (D m c) (t.val % 8) (t.val / 8 * 512 + r.val) s := by
  rw [do_at]
  simp only [o_blk, z_blk, g_blk, d_blk]
  rfl

theorem dz_blk (c : Dev nD) (t : Fin cfg0.N) (r : Fin 512) (s : Fin 128) :
    k0_pay3 (F := Ideal) (k0_pay10 (iblk m c 1 t)) (k0_pay15 (iblk m c 0 t) (iblk m c 1 t) (iblk m c 2 t) (iblk m c 3 t)) (k0_pay16 (iblk m c 0 t) (iblk m c 1 t) (iblk m c 2 t) (iblk m c 3 t)) (ix2 r s)
      = YZ (O m c) (Z m c) (G m c) (D m c) (t.val / 8 * 512 + r.val) (t.val % 8) s := by
  rw [dz_at]
  simp only [o_blk, z_blk, g_blk, d_blk]
  rfl

theorem dn_blk (c : Dev nD) (t : Fin cfg0.N) (s : Fin 128) :
    k0_pay1 (F := Ideal) (k0_pay9 (iblk m c 0 t)) (k0_pay14 (iblk m c 1 t) (iblk m c 3 t)) (ix2 0 s)
      = ∑ r : Fin 512, inOrder (fun i h => NR (O m c) i h s) 0 (512 * (t.val % 64) + r.val) * inOrder (fun i h => UG (Z m c) (D m c) i h s) 0 (512 * (t.val % 64) + r.val) := by
  have ht := t.isLt.trans_eq N_0
  rw [dn_at]
  refine Finset.sum_congr (M := EReal) rfl fun r _ => ?_
  unfold inOrder
  rw [Nat.mod_eq_of_lt ht, show (512 * t.val + r.val) / 512 = t.val by omega, show (512 * t.val + r.val) % 512 = r.val by omega]
  simp only [o_blk, z_blk, d_blk]
  rfl

/-- The gradient of the gain after point `n`. -/
theorem dn_traj (c : Dev nD) (s : Fin 128) (n : ℕ) (hn : n < cfg0.N) :
    (outsAt0 m c n hn).2.2 (ix2 0 s) = dotR (inOrder fun i h => NR (O m c) i h s) (inOrder fun i h => UG (Z m c) (D m c) i h s) (512 * (n % 64 + 1)) 0 0 := by
  refine acc_at 512 64 _ _ (fun _ => 0) (fun _ => 0) (fun n hn => (outsAt0 m c n hn).2.2 (ix2 0 s)) (fun n hn h0 => ?_) (fun n hn h0 => ?_) n hn
  · have hN := hn.trans_eq N_0
    refine Eq.trans ?_ (dn_blk m c ⟨n, hn⟩ s)
    rw [outsAt0_A m c ⟨n, hn⟩ h0 (by dsimp only; omega)]
    dsimp only
    rw [dn_A]
  · refine Eq.trans ?_ (congrArg (fun x : EReal => _ + x) (dn_blk m c ⟨n, hn⟩ s))
    rw [outsAt0_B m c ⟨n, hn⟩ h0 (by dsimp only; omega)]
    dsimp only
    rw [dn_B]
    rfl

theorem arr4 (c : Dev nD) : (dats m 0 c).arrAt 4 cfg0.N = fun z : S8x4096x128.Idx => YO (O m c) (Z m c) (G m c) (D m c) (z 0).val (z 1).val ⟨(z 2).val % 128, Nat.mod_lt _ (by decide)⟩ := by
  refine (dats m 0 c).arrAt_eq_of_covers 4 _ (by decide +kernel) fun t hf y => ?_
  have ht := t.isLt.trans_eq N_0
  blk_simp [at4]
  rw [after0_4]
  obtain ⟨e, r, s, rfl⟩ := exists_ix3 y
  obtain rfl : e = 0 := Fin.ext (by omega)
  refine Eq.trans ?_ (congrArg (YO (O m c) (Z m c) (G m c) (D m c) (t.val % 8) (t.val / 8 * 512 + r.val)) (Fin.ext (Nat.mod_eq_of_lt s.isLt).symm : s = ⟨s.val % 128, Nat.mod_lt _ (by decide)⟩))
  refine Eq.trans ?_ (do_blk m c t r s)
  by_cases h0 : t.val % 64 = 0
  · rw [outsAt0_A m c t h0 (by omega)]
    dsimp only
    rw [do_A]
  · rw [outsAt0_B m c t h0 (by omega)]
    dsimp only
    rw [do_B]

theorem arr5 (c : Dev nD) : (dats m 0 c).arrAt 5 cfg0.N = fun z : S4096x1024.Idx => YZ (O m c) (Z m c) (G m c) (D m c) (z 0).val ((z 1).val / 128) ⟨(z 1).val % 128, Nat.mod_lt _ (by decide)⟩ := by
  refine (dats m 0 c).arrAt_eq_of_covers 5 _ (by decide +kernel) fun t hf y => ?_
  have ht := t.isLt.trans_eq N_0
  blk_simp [at5]
  rw [after0_5]
  obtain ⟨r, s, rfl⟩ := exists_ix2 y
  refine Eq.trans ?_ (congrArg₂ (YZ (O m c) (Z m c) (G m c) (D m c) (t.val / 8 * 512 + r.val)) (by dsimp only [ix2]; omega : t.val % 8 = (t.val % 8 * 128 + s.val) / 128)
    (Fin.ext (by dsimp only; omega) : s = ⟨(t.val % 8 * 128 + s.val) % 128, Nat.mod_lt _ (by decide)⟩))
  refine Eq.trans ?_ (dz_blk m c t r s)
  by_cases h0 : t.val % 64 = 0
  · rw [outsAt0_A m c t h0 (by omega)]
    dsimp only
    rw [dz_A]
  · rw [outsAt0_B m c t h0 (by omega)]
    dsimp only
    rw [dz_B]

theorem arr6 (c : Dev nD) : (dats m 0 c).arrAt 6 cfg0.N = fun z : S1x128.Idx => DN (O m c) (Z m c) (D m c) ⟨(z 1).val % 128, Nat.mod_lt _ (by decide)⟩ := by
  refine (dats m 0 c).arrAt_eq_of_covers 6 _ (by decide +kernel) fun t hf y => ?_
  have h1 := last t hf
  blk_simp [at6]
  rw [after0_6]
  obtain ⟨r, s, rfl⟩ := exists_ix2 y
  obtain rfl : r = 0 := Fin.ext (by omega)
  refine Eq.trans ?_ (congrArg (DN (O m c) (Z m c) (D m c)) (Fin.ext (Nat.mod_eq_of_lt s.isLt).symm : s = ⟨s.val % 128, Nat.mod_lt _ (by decide)⟩))
  rw [dn_traj m c s t.val t.isLt, h1]
  exact sum_inOrder _ _ _ _ _ (by norm_num) rfl rfl

section Reference
open Reference29Ideal.Gen
open Reference29Ideal (S4096x8x128 S4096x8 S4096x8x1 S1x1x128 S_ S128)

abbrev RO (o : Vec Ideal S8x4096x128 .f32) : FVec Ideal S4096x8x128 .f32 := transpose S4096x8x128 [1, 0, 2] o transposes_S8x4096x128_S4096x8x128_1_0_2
/-- The normed rows. -/
abbrev RV (o : FVec Ideal S4096x8x128 .f32) : FVec Ideal S4096x8x128 .f32 :=
  mulf o (broadcastInDim S4096x8x128 ![0, 1, 2] bcast_S4096x8x1_S4096x8x128_0_1_2 (Host.rsqrt (addf (Host.divf (broadcastInDim S4096x8x1 ![0, 1] bcast_S4096x8_S4096x8x1_0_1 (Host.reduceAdd (mulf o o) (constant S_ .f32 0x00000000#32) reducesTo_S4096x8x128_S4096x8_d2 h_S_)) (broadcastInDim S4096x8x1 ![] bcast_S_S4096x8x1 (constant S_ .f32 0x43000000#32))) (broadcastInDim S4096x8x1 ![] bcast_S_S4096x8x1 (constant S_ .f32 0x358637BD#32)))))
abbrev RG (n : Vec Ideal S1x128 .f32) : FVec Ideal S4096x8x128 .f32 := broadcastInDim S4096x8x128 ![0, 1, 2] bcast_S1x1x128_S4096x8x128_0_1_2 (broadcastInDim S1x1x128 ![1, 2] bcast_S1x128_S1x1x128_1_2 n)
abbrev RZ (z : Vec Ideal S4096x4096 .f32) : FVec Ideal S4096x8x128 .f32 := shapeCast _ (extractStridedSlice S4096x1024 ![0, 3072] z slices_S4096x4096_S4096x1024_0_3072) shapeCasts_S4096x1024_S4096x8x128
abbrev RS (z : FVec Ideal S4096x8x128 .f32) : FVec Ideal S4096x8x128 .f32 :=
  Host.divf (broadcastInDim S4096x8x128 ![] bcast_S_S4096x8x128 (constant S_ .f32 0x3F800000#32)) (addf (broadcastInDim S4096x8x128 ![] bcast_S_S4096x8x128 (constant S_ .f32 0x3F800000#32)) (Host.exp (Host.negf z)))
abbrev RD (d : Vec Ideal S4096x1024 .f32) : FVec Ideal S4096x8x128 .f32 := shapeCast _ d shapeCasts_S4096x1024_S4096x8x128

theorem ref_dz (o z d : FVec Ideal S4096x8x128 .f32) (n : Vec Ideal S1x128 .f32) (i : Fin 4096) (h : Fin 8) (j : Fin 128) :
    addf (F := Ideal) (mulf (mulf (mulf (RV o) (RG n)) d) (RS z)) (mulf (mulf z (mulf (mulf (RV o) (RG n)) d)) (mulf (RS z) (subf (broadcastInDim S4096x8x128 ![] bcast_S_S4096x8x128 (constant S_ .f32 0x3F800000#32)) (RS z)))) (ix3 i h j)
      = dZ (o (ix3 i h j) * Ideal.rsqrt (msq fun k => o (ix3 i h k)) * n (ix2 0 j)) (d (ix3 i h j)) (z (ix3 i h j)) := by
  unfold dZ msq sg
  pointwise []

theorem ref_dn (v : FVec Ideal S4096x8x128 .f32) (j : Fin 128) :
    broadcastInDim S1x128 ![1] bcast_S128_S1x128_1 (Host.reduceAdd (F := Ideal) (shapeCast _ (Host.reduceAdd v (constant S_ .f32 0x00000000#32) reducesTo_S4096x8x128_S128_d0_1 h_S_) shapeCasts_S128_S1x1x128) (constant S_ .f32 0x00000000#32) reducesTo_S1x1x128_S128_d0_1 h_S_) (ix2 0 j)
      = ∑ p : Fin 4096 × Fin 8, v (ix3 p.1 p.2 j) := by
  have h : shapeCast S1x1x128 (Host.reduceAdd (F := Ideal) v (constant S_ .f32 0x00000000#32) reducesTo_S4096x8x128_S128_d0_1 h_S_) shapeCasts_S128_S1x1x128 (ix3 0 0 j) = ∑ p : Fin 4096 × Fin 8, v (ix3 p.1 p.2 j) := by
    pointwise []
    rw [red01, zero_add]
  pointwise []
  rw [red01, zero_add, Fintype.sum_prod_type, Fin.sum_univ_one, Fin.sum_univ_one]
  exact h

theorem ref_dn' (o z d : FVec Ideal S4096x8x128 .f32) (i : Fin 4096) (h : Fin 8) (j : Fin 128) :
    mulf (RV o) (mulf d (mulf z (RS z))) (ix3 i h j) = o (ix3 i h j) * Ideal.rsqrt (msq fun k => o (ix3 i h k)) * (d (ix3 i h j) * (z (ix3 i h j) * sg (z (ix3 i h j)))) := by
  unfold msq sg
  pointwise []

theorem RO_at (o : Vec Ideal S8x4096x128 .f32) (i : Fin 4096) (h : Fin 8) (j : Fin 128) : RO o (ix3 i h j) = o (ix3 h i j) := by pointwise [RO]
theorem RZ_at (z : Vec Ideal S4096x4096 .f32) (i : Fin 4096) (h : Fin 8) (j : Fin 128) : RZ z (ix3 i h j) = z (ix2 i ⟨3072 + (h.val * 128 + j.val), by omega⟩) := by pointwise [RZ]
theorem RD_at (d : Vec Ideal S4096x1024 .f32) (i : Fin 4096) (h : Fin 8) (j : Fin 128) : RD d (ix3 i h j) = d (ix2 i ⟨h.val * 128 + j.val, by omega⟩) := by pointwise [RD]

theorem ref_do (m : (ℓ : Loc Reference29Ideal.nD Reference29Ideal.τ Reference29Ideal.sig) → Buf (Elt Ideal) ℓ) (c : Dev Reference29Ideal.nD) (o : Vec Ideal S8x4096x128 .f32) (z : Vec Ideal S4096x4096 .f32) (n : Vec Ideal S1x128 .f32) (d : Vec Ideal S4096x1024 .f32)
    (ho : m ((c.tc : Thread Reference29Ideal.nD Reference29Ideal.τ).loc Reference29Ideal.main_arg0) = o) (hz : m ((c.tc : Thread Reference29Ideal.nD Reference29Ideal.τ).loc Reference29Ideal.main_arg1) = z)
    (hn : m ((c.tc : Thread Reference29Ideal.nD Reference29Ideal.τ).loc Reference29Ideal.main_arg2) = n) (hd : m ((c.tc : Thread Reference29Ideal.nD Reference29Ideal.τ).loc Reference29Ideal.main_arg3) = d) (h : Fin 8) (i : Fin 4096) (j : Fin 128) :
    Reference29Ideal.Value.res_main_v48 m c (ix3 h i j)
      = dO (fun k => o (ix3 h i k)) (fun k => RD d (ix3 i h k) * (RZ z (ix3 i h k) * sg (RZ z (ix3 i h k))) * n (ix2 0 k)) j := by
  subst ho hz hn hd
  unfold dO via msq sg RD RZ
  pointwise [Reference29Ideal.Value.res_main_v48]
  simp only [Fin.sum_univ_one]

variable (o : Vec Ideal S8x4096x128 .f32) (z : Vec Ideal S4096x4096 .f32) (n : Vec Ideal S1x128 .f32) (d : Vec Ideal S4096x1024 .f32) (i : Fin 4096) (h : Fin 8) (j : Fin 128)

theorem ug_eq : RD d (ix3 i h j) * (RZ z (ix3 i h j) * sg (RZ z (ix3 i h j))) = UG (mat (a := 4096) (b := 4096) z) (mat (a := 4096) (b := 1024) d) i.val h.val j := by
  have hz := mat_val (a := 4096) (b := 4096) z i ⟨3072 + (h.val * 128 + j.val), by omega⟩
  have hd := mat_val (a := 4096) (b := 1024) d i ⟨h.val * 128 + j.val, by omega⟩
  dsimp only at hz hd
  rw [RD_at, RZ_at]
  unfold UG
  rw [hz, hd]

theorem yo_eq : dO (fun k => o (ix3 h i k)) (fun k => RD d (ix3 i h k) * (RZ z (ix3 i h k) * sg (RZ z (ix3 i h k))) * n (ix2 0 k)) j
    = YO o (mat (a := 4096) (b := 4096) z) (mat (a := 1) (b := 128) n) (mat (a := 4096) (b := 1024) d) h.val i.val j := by
  have hn := fun k : Fin 128 => mat_val (a := 1) (b := 128) n 0 k
  dsimp only [Fin.val_zero] at hn
  unfold YO
  simp only [row_val, ug_eq, hn]

theorem nr_eq : RO o (ix3 i h j) * Ideal.rsqrt (msq fun k => RO o (ix3 i h k)) = NR o i.val h.val j := by
  unfold NR
  simp only [row_val, RO_at]

theorem yz_eq : dZ (RO o (ix3 i h j) * Ideal.rsqrt (msq fun k => RO o (ix3 i h k)) * n (ix2 0 j)) (RD d (ix3 i h j)) (RZ z (ix3 i h j))
    = YZ o (mat (a := 4096) (b := 4096) z) (mat (a := 1) (b := 128) n) (mat (a := 4096) (b := 1024) d) i.val h.val j := by
  have hn := mat_val (a := 1) (b := 128) n 0 j
  have hz := mat_val (a := 4096) (b := 4096) z i ⟨3072 + (h.val * 128 + j.val), by omega⟩
  have hd := mat_val (a := 4096) (b := 1024) d i ⟨h.val * 128 + j.val, by omega⟩
  dsimp only [Fin.val_zero] at hn hz hd
  unfold YZ
  rw [nr_eq, RD_at, RZ_at, hn, hz, hd]

theorem dn_eq : RO o (ix3 i h j) * Ideal.rsqrt (msq fun k => RO o (ix3 i h k)) * (RD d (ix3 i h j) * (RZ z (ix3 i h j) * sg (RZ z (ix3 i h j))))
    = NR o i.val h.val j * UG (mat (a := 4096) (b := 4096) z) (mat (a := 4096) (b := 1024) d) i.val h.val j := by
  rw [nr_eq, ug_eq]

end Reference
end Cert.Kernel29Ideal.Prod

namespace Cert.Proof

open Idealize.SL.Sem

theorem frame_Kernel29Ideal : quiescent_Kernel29Ideal := fun m ρ _ => Kernel29Ideal.Gen.frame m ρ

theorem frame_Kernel29 : quiescent_Kernel29 := Ffn.transfer (Kernel29Ideal.Gen.frame (F := Bits)) (by sl_kernel_rfl)

theorem frame_Reference29Ideal : quiescent_Reference29Ideal := fun m ρ _ =>
  (θ_run Reference29Ideal.defs _ _).mono (fun r h => ⟨fun c => (h c).2.2.2, sem_eq_zero_of_no_sems (by decide) r.2⟩)
    (Reference29Ideal.Value.run (F := Ideal) m ρ)

theorem algebraic29 : algebraic_Kernel29Ideal_Reference29Ideal := by
  intro m g m' g' _ hm
  refine ⟨fun c => (Kernel29Ideal.Gen.dats m 0 c).arrAt 4 Kernel29Ideal.cfg0.N, fun c => (Kernel29Ideal.Gen.dats m 0 c).arrAt 5 Kernel29Ideal.cfg0.N, fun c => (Kernel29Ideal.Gen.dats m 0 c).arrAt 6 Kernel29Ideal.cfg0.N, Kernel29Ideal.Value.run_blocks m g, ?_⟩
  refine (θ_run Reference29Ideal.defs _ _).mono (fun r h c => ⟨(h c).1.trans ?_, (h c).2.1.trans ?_, (h c).2.2.1.trans ?_, (h c).2.2.2⟩) (Reference29Ideal.Value.run (F := Ideal) m' g')
  · refine Eq.trans ?_ (Kernel29Ideal.Prod.arr4 m c).symm
    funext z
    obtain ⟨h, i, j, rfl⟩ := Ffn.exists_ix3 z
    exact (Kernel29Ideal.Prod.ref_do m' c _ _ _ _ (hm c).1 (hm c).2.1 (hm c).2.2.1 (hm c).2.2.2 h i j).trans ((Kernel29Ideal.Prod.yo_eq _ _ _ _ i h j).trans
      (congrArg (Kernel29Ideal.Prod.YO _ _ _ _ h.val i.val) (Fin.ext (Nat.mod_eq_of_lt j.isLt).symm : j = ⟨j.val % 128, Nat.mod_lt _ (by decide)⟩)))
  · rw [(hm c).1, (hm c).2.1, (hm c).2.2.1, (hm c).2.2.2]
    refine Eq.trans ?_ (Kernel29Ideal.Prod.arr5 m c).symm
    funext z
    obtain ⟨i, j, rfl⟩ := Ffn.exists_ix2 z
    exact (Kernel28Ideal.Prod.cast_at _ i j).trans ((Kernel29Ideal.Prod.ref_dz _ _ _ _ i _ _).trans (Kernel29Ideal.Prod.yz_eq _ _ _ _ i _ _))
  · rw [(hm c).1, (hm c).2.1, (hm c).2.2.2]
    refine Eq.trans ?_ (Kernel29Ideal.Prod.arr6 m c).symm
    funext z
    obtain ⟨i, j, rfl⟩ := Ffn.exists_ix2 z
    obtain rfl : i = 0 := Fin.ext (by omega)
    exact (Kernel29Ideal.Prod.ref_dn _ j).trans (Finset.sum_congr (M := EReal) rfl fun p _ => (Kernel29Ideal.Prod.ref_dn' _ _ _ p.1 p.2 j).trans (Kernel29Ideal.Prod.dn_eq _ _ _ p.1 p.2 j)) |>.trans
      (congrArg (Kernel29Ideal.Prod.DN _ _ _) (Fin.ext (Nat.mod_eq_of_lt j.isLt).symm : j = ⟨j.val % 128, Nat.mod_lt _ (by decide)⟩))

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value
public import proofs.«01_k».proof.Proof.Dact
public import proofs.«01_k».proof.Proof.DwDown
public import proofs.«01_k».proof.Proof.DhnG
public import proofs.«01_k».proof.Proof.DwUpG
public import proofs.«01_k».proof.Proof.DwUpV
public import proofs.«01_k».proof.Proof.Up
public import proofs.«01_k».proof.Proof.Down
public import proofs.«01_k».proof.Proof.DhnV
public import proofs.«01_k».proof.Proof.DhO
public import proofs.«01_k».proof.Proof.DwInO
public import proofs.«01_k».proof.Proof.DwOut
public import proofs.«01_k».proof.Proof.DyO
public import proofs.«01_k».proof.Proof.PleDwGate
public import proofs.«01_k».proof.Proof.PleDhn
public import proofs.«01_k».proof.Proof.DwInE
public import proofs.«01_k».proof.Proof.DhE
public import proofs.«01_k».proof.Proof.InO
public import proofs.«01_k».proof.Proof.InE
public import proofs.«01_k».proof.Proof.Out
public import proofs.«01_k».proof.Proof.PleFwd
public import proofs.«01_k».proof.Proof.PleBwd
public import proofs.«01_k».proof.Proof.DwPle
public import proofs.«01_k».proof.Proof.DhOBa
public import proofs.«01_k».proof.Proof.DwInOBa
public import proofs.«01_k».proof.Proof.InOBa
public import proofs.«01_k».proof.Proof.RmsMix
public import proofs.«01_k».proof.Proof.GdnPost
public import proofs.«01_k».proof.Proof.GdnPostBwd

@[expose] public section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Finite.facts,
    frame_Kernel, frame_KernelIdeal, fun m ρ _ => frame_KernelIdeal m ρ trivial,
    frame_ReferenceIdeal, fun m ρ _ => frame_ReferenceIdeal m ρ trivial,
    frame_Kernel2, frame_Kernel2Ideal, frame_Reference2Ideal,
    frame_Kernel3, frame_Kernel3Ideal, frame_Reference3Ideal,
    frame_Kernel4, frame_Kernel4Ideal, frame_Reference4Ideal,
    frame_Kernel5, frame_Kernel5Ideal, frame_Reference5Ideal,
    frame_Kernel6, frame_Kernel6Ideal, frame_Reference6Ideal,
    frame_Kernel7, frame_Kernel7Ideal, frame_Reference7Ideal,
    frame_Kernel8, frame_Kernel8Ideal, frame_Reference8Ideal,
    frame_Kernel9, frame_Kernel9Ideal, frame_Reference9Ideal,
    frame_Kernel10, frame_Kernel10Ideal, frame_Reference10Ideal,
    frame_Kernel11, frame_Kernel11Ideal, frame_Reference11Ideal,
    frame_Kernel12, frame_Kernel12Ideal, frame_Reference12Ideal,
    frame_Kernel13, frame_Kernel13Ideal, frame_Reference13Ideal,
    frame_Kernel14, frame_Kernel14Ideal, frame_Reference14Ideal,
    frame_Kernel15, frame_Kernel15Ideal, frame_Reference15Ideal,
    frame_Kernel16, frame_Kernel16Ideal, frame_Reference16Ideal,
    frame_Kernel17, frame_Kernel17Ideal, frame_Reference17Ideal,
    frame_Kernel18, frame_Kernel18Ideal, frame_Reference18Ideal,
    frame_Kernel19, frame_Kernel19Ideal, frame_Reference19Ideal,
    frame_Kernel20, frame_Kernel20Ideal, frame_Reference20Ideal,
    frame_Kernel21, frame_Kernel21Ideal, frame_Reference21Ideal,
    frame_Kernel22, frame_Kernel22Ideal, frame_Reference22Ideal,
    frame_Kernel23, frame_Kernel23Ideal, frame_Reference23Ideal,
    frame_Kernel24, frame_Kernel24Ideal, frame_Reference24Ideal,
    frame_Kernel25, frame_Kernel25Ideal, frame_Reference25Ideal,
    frame_Kernel26, frame_Kernel26Ideal, frame_Reference26Ideal,
    frame_Kernel27, frame_Kernel27Ideal, frame_Reference27Ideal,
    frame_Kernel28, frame_Kernel28Ideal, frame_Reference28Ideal,
    frame_Kernel29, frame_Kernel29Ideal, frame_Reference29Ideal,
    trivial, algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    trivial, algebraic20,
    trivial, algebraic21,
    trivial, algebraic22,
    trivial, algebraic23,
    trivial, algebraic24,
    trivial, algebraic25,
    trivial, algebraic26,
    trivial, algebraic27,
    trivial, algebraic28,
    trivial, algebraic29⟩

end Cert.Proof

end
